-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_EvenInDx (m : (ℓ : Loc Cert.EvenInDx.nD Cert.EvenInDx.τ Cert.EvenInDx.sig) → Buf (Elt Bits) ℓ) : Prop :=
  True

def Pre_EvenInDxIdeal (m : (ℓ : Loc Cert.EvenInDxIdeal.nD Cert.EvenInDxIdeal.τ Cert.EvenInDxIdeal.sig) → Buf (Elt Ideal) ℓ) : Prop :=
  True

def Pre_EvenInDxReferenceIdeal (m : (ℓ : Loc Cert.EvenInDxReferenceIdeal.nD Cert.EvenInDxReferenceIdeal.τ Cert.EvenInDxReferenceIdeal.sig) → Buf (Elt Ideal) ℓ) : Prop :=
  True

def Pre_OddInDx (m : (ℓ : Loc Cert.OddInDx.nD Cert.OddInDx.τ Cert.OddInDx.sig) → Buf (Elt Bits) ℓ) : Prop :=
  True

def Pre_OddInDxIdeal (m : (ℓ : Loc Cert.OddInDxIdeal.nD Cert.OddInDxIdeal.τ Cert.OddInDxIdeal.sig) → Buf (Elt Ideal) ℓ) : Prop :=
  True

def Pre_OddInDxReferenceIdeal (m : (ℓ : Loc Cert.OddInDxReferenceIdeal.nD Cert.OddInDxReferenceIdeal.τ Cert.OddInDxReferenceIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_EvenInDw (m : (ℓ : Loc Cert.EvenInDw.nD Cert.EvenInDw.τ Cert.EvenInDw.sig) → Buf (Elt Bits) ℓ) : Prop :=
  True

def Pre_EvenInDwIdeal (m : (ℓ : Loc Cert.EvenInDwIdeal.nD Cert.EvenInDwIdeal.τ Cert.EvenInDwIdeal.sig) → Buf (Elt Ideal) ℓ) : Prop :=
  True

def Pre_EvenInDwReferenceIdeal (m : (ℓ : Loc Cert.EvenInDwReferenceIdeal.nD Cert.EvenInDwReferenceIdeal.τ Cert.EvenInDwReferenceIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInReferenceIdeal (m : (ℓ : Loc Cert.OddInReferenceIdeal.nD Cert.OddInReferenceIdeal.τ Cert.OddInReferenceIdeal.sig) → Buf (Elt Ideal) ℓ) : Prop :=
  True

def Pre_OddInDw (m : (ℓ : Loc Cert.OddInDw.nD Cert.OddInDw.τ Cert.OddInDw.sig) → Buf (Elt Bits) ℓ) : Prop :=
  True

def Pre_OddInDwIdeal (m : (ℓ : Loc Cert.OddInDwIdeal.nD Cert.OddInDwIdeal.τ Cert.OddInDwIdeal.sig) → Buf (Elt Ideal) ℓ) : Prop :=
  True

def Pre_OddInDwReferenceIdeal (m : (ℓ : Loc Cert.OddInDwReferenceIdeal.nD Cert.OddInDwReferenceIdeal.τ Cert.OddInDwReferenceIdeal.sig) → Buf (Elt Ideal) ℓ) : Prop :=
  True

def Pre_EvenInDwFirst (m : (ℓ : Loc Cert.EvenInDwFirst.nD Cert.EvenInDwFirst.τ Cert.EvenInDwFirst.sig) → Buf (Elt Bits) ℓ) : Prop :=
  True

def Pre_EvenInDwFirstIdeal (m : (ℓ : Loc Cert.EvenInDwFirstIdeal.nD Cert.EvenInDwFirstIdeal.τ Cert.EvenInDwFirstIdeal.sig) → Buf (Elt Ideal) ℓ) : Prop :=
  True

def Pre_EvenInDwFirstReferenceIdeal (m : (ℓ : Loc Cert.EvenInDwFirstReferenceIdeal.nD Cert.EvenInDwFirstReferenceIdeal.τ Cert.EvenInDwFirstReferenceIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInReferenceIdeal (m : (ℓ : Loc Cert.EvenInReferenceIdeal.nD Cert.EvenInReferenceIdeal.τ Cert.EvenInReferenceIdeal.sig) → Buf (Elt Ideal) ℓ) : Prop :=
  True

def Pre_FirstNorm (m : (ℓ : Loc Cert.FirstNorm.nD Cert.FirstNorm.τ Cert.FirstNorm.sig) → Buf (Elt Bits) ℓ) : Prop :=
  True

def Pre_FirstNormIdeal (m : (ℓ : Loc Cert.FirstNormIdeal.nD Cert.FirstNormIdeal.τ Cert.FirstNormIdeal.sig) → Buf (Elt Ideal) ℓ) : Prop :=
  True

def Pre_FirstNormIdeal_finite_first_norm [hPre_finite_first_norm : Cert.Pre_finite_first_norm.Facts] (m : (ℓ : Loc Cert.FirstNormIdeal.nD Cert.FirstNormIdeal.τ Cert.FirstNormIdeal.sig) → Buf (Elt Ideal) ℓ) : Prop :=
  ∀ c : Dev Cert.FirstNormIdeal.nD,
    (Cert.Pre_finite_first_norm.fn (F := Ideal) (m ((c.tc : Thread Cert.FirstNormIdeal.nD Cert.FirstNormIdeal.τ).loc Cert.FirstNormIdeal.main_arg0)) (m ((c.tc : Thread Cert.FirstNormIdeal.nD Cert.FirstNormIdeal.τ).loc Cert.FirstNormIdeal.main_arg1)) (m ((c.tc : Thread Cert.FirstNormIdeal.nD Cert.FirstNormIdeal.τ).loc Cert.FirstNormIdeal.main_arg2)) (m ((c.tc : Thread Cert.FirstNormIdeal.nD Cert.FirstNormIdeal.τ).loc Cert.FirstNormIdeal.main_arg3))) = (fun _ => 1#1)

def Pre_FirstNormReferenceIdeal (m : (ℓ : Loc Cert.FirstNormReferenceIdeal.nD Cert.FirstNormReferenceIdeal.τ Cert.FirstNormReferenceIdeal.sig) → Buf (Elt Ideal) ℓ) : Prop :=
  True

def Pre_FirstNormReferenceIdeal_finite_first_norm [hPre_finite_first_norm : Cert.Pre_finite_first_norm.Facts] (m : (ℓ : Loc Cert.FirstNormReferenceIdeal.nD Cert.FirstNormReferenceIdeal.τ Cert.FirstNormReferenceIdeal.sig) → Buf (Elt Ideal) ℓ) : Prop :=
  ∀ c : Dev Cert.FirstNormReferenceIdeal.nD,
    (Cert.Pre_finite_first_norm.fn (F := Ideal) (m ((c.tc : Thread Cert.FirstNormReferenceIdeal.nD Cert.FirstNormReferenceIdeal.τ).loc Cert.FirstNormReferenceIdeal.main_arg0)) (m ((c.tc : Thread Cert.FirstNormReferenceIdeal.nD Cert.FirstNormReferenceIdeal.τ).loc Cert.FirstNormReferenceIdeal.main_arg1)) (m ((c.tc : Thread Cert.FirstNormReferenceIdeal.nD Cert.FirstNormReferenceIdeal.τ).loc Cert.FirstNormReferenceIdeal.main_arg2)) (m ((c.tc : Thread Cert.FirstNormReferenceIdeal.nD Cert.FirstNormReferenceIdeal.τ).loc Cert.FirstNormReferenceIdeal.main_arg3))) = (fun _ => 1#1)

def Pre_MidNorms (m : (ℓ : Loc Cert.MidNorms.nD Cert.MidNorms.τ Cert.MidNorms.sig) → Buf (Elt Bits) ℓ) : Prop :=
  True

def Pre_MidNormsIdeal (m : (ℓ : Loc Cert.MidNormsIdeal.nD Cert.MidNormsIdeal.τ Cert.MidNormsIdeal.sig) → Buf (Elt Ideal) ℓ) : Prop :=
  True

def Pre_MidNormsIdeal_finite_mid_norms [hPre_finite_mid_norms : Cert.Pre_finite_mid_norms.Facts] (m : (ℓ : Loc Cert.MidNormsIdeal.nD Cert.MidNormsIdeal.τ Cert.MidNormsIdeal.sig) → Buf (Elt Ideal) ℓ) : Prop :=
  ∀ c : Dev Cert.MidNormsIdeal.nD,
    (Cert.Pre_finite_mid_norms.fn (F := Ideal) (m ((c.tc : Thread Cert.MidNormsIdeal.nD Cert.MidNormsIdeal.τ).loc Cert.MidNormsIdeal.main_arg0)) (m ((c.tc : Thread Cert.MidNormsIdeal.nD Cert.MidNormsIdeal.τ).loc Cert.MidNormsIdeal.main_arg1)) (m ((c.tc : Thread Cert.MidNormsIdeal.nD Cert.MidNormsIdeal.τ).loc Cert.MidNormsIdeal.main_arg2)) (m ((c.tc : Thread Cert.MidNormsIdeal.nD Cert.MidNormsIdeal.τ).loc Cert.MidNormsIdeal.main_arg3)) (m ((c.tc : Thread Cert.MidNormsIdeal.nD Cert.MidNormsIdeal.τ).loc Cert.MidNormsIdeal.main_arg4)) (m ((c.tc : Thread Cert.MidNormsIdeal.nD Cert.MidNormsIdeal.τ).loc Cert.MidNormsIdeal.main_arg5))) = (fun _ => 1#1)

def Pre_MidNormsReferenceIdeal (m : (ℓ : Loc Cert.MidNormsReferenceIdeal.nD Cert.MidNormsReferenceIdeal.τ Cert.MidNormsReferenceIdeal.sig) → Buf (Elt Ideal) ℓ) : Prop :=
  True

def Pre_MidNormsReferenceIdeal_finite_mid_norms [hPre_finite_mid_norms : Cert.Pre_finite_mid_norms.Facts] (m : (ℓ : Loc Cert.MidNormsReferenceIdeal.nD Cert.MidNormsReferenceIdeal.τ Cert.MidNormsReferenceIdeal.sig) → Buf (Elt Ideal) ℓ) : Prop :=
  ∀ c : Dev Cert.MidNormsReferenceIdeal.nD,
    (Cert.Pre_finite_mid_norms.fn (F := Ideal) (m ((c.tc : Thread Cert.MidNormsReferenceIdeal.nD Cert.MidNormsReferenceIdeal.τ).loc Cert.MidNormsReferenceIdeal.main_arg0)) (m ((c.tc : Thread Cert.MidNormsReferenceIdeal.nD Cert.MidNormsReferenceIdeal.τ).loc Cert.MidNormsReferenceIdeal.main_arg1)) (m ((c.tc : Thread Cert.MidNormsReferenceIdeal.nD Cert.MidNormsReferenceIdeal.τ).loc Cert.MidNormsReferenceIdeal.main_arg2)) (m ((c.tc : Thread Cert.MidNormsReferenceIdeal.nD Cert.MidNormsReferenceIdeal.τ).loc Cert.MidNormsReferenceIdeal.main_arg3)) (m ((c.tc : Thread Cert.MidNormsReferenceIdeal.nD Cert.MidNormsReferenceIdeal.τ).loc Cert.MidNormsReferenceIdeal.main_arg4)) (m ((c.tc : Thread Cert.MidNormsReferenceIdeal.nD Cert.MidNormsReferenceIdeal.τ).loc Cert.MidNormsReferenceIdeal.main_arg5))) = (fun _ => 1#1)

def Pre_LossDx (m : (ℓ : Loc Cert.LossDx.nD Cert.LossDx.τ Cert.LossDx.sig) → Buf (Elt Bits) ℓ) : Prop :=
  True

def Pre_LossDxIdeal (m : (ℓ : Loc Cert.LossDxIdeal.nD Cert.LossDxIdeal.τ Cert.LossDxIdeal.sig) → Buf (Elt Ideal) ℓ) : Prop :=
  True

def Pre_LossDxIdeal_finite_loss [hPre_finite_loss : Cert.Pre_finite_loss.Facts] (m : (ℓ : Loc Cert.LossDxIdeal.nD Cert.LossDxIdeal.τ Cert.LossDxIdeal.sig) → Buf (Elt Ideal) ℓ) : Prop :=
  ∀ c : Dev Cert.LossDxIdeal.nD,
    (Cert.Pre_finite_loss.fn (F := Ideal) (m ((c.tc : Thread Cert.LossDxIdeal.nD Cert.LossDxIdeal.τ).loc Cert.LossDxIdeal.main_arg0)) (m ((c.tc : Thread Cert.LossDxIdeal.nD Cert.LossDxIdeal.τ).loc Cert.LossDxIdeal.main_arg1)) (m ((c.tc : Thread Cert.LossDxIdeal.nD Cert.LossDxIdeal.τ).loc Cert.LossDxIdeal.main_arg2)) (m ((c.tc : Thread Cert.LossDxIdeal.nD Cert.LossDxIdeal.τ).loc Cert.LossDxIdeal.main_arg3)) (m ((c.tc : Thread Cert.LossDxIdeal.nD Cert.LossDxIdeal.τ).loc Cert.LossDxIdeal.main_arg4)) (m ((c.tc : Thread Cert.LossDxIdeal.nD Cert.LossDxIdeal.τ).loc Cert.LossDxIdeal.main_arg5))) = (fun _ => 1#1)

def Pre_LossDxReferenceIdeal (m : (ℓ : Loc Cert.LossDxReferenceIdeal.nD Cert.LossDxReferenceIdeal.τ Cert.LossDxReferenceIdeal.sig) → Buf (Elt Ideal) ℓ) : Prop :=
  True

def Pre_LossDxReferenceIdeal_finite_loss [hPre_finite_loss : Cert.Pre_finite_loss.Facts] (m : (ℓ : Loc Cert.LossDxReferenceIdeal.nD Cert.LossDxReferenceIdeal.τ Cert.LossDxReferenceIdeal.sig) → Buf (Elt Ideal) ℓ) : Prop :=
  ∀ c : Dev Cert.LossDxReferenceIdeal.nD,
    (Cert.Pre_finite_loss.fn (F := Ideal) (m ((c.tc : Thread Cert.LossDxReferenceIdeal.nD Cert.LossDxReferenceIdeal.τ).loc Cert.LossDxReferenceIdeal.main_arg0)) (m ((c.tc : Thread Cert.LossDxReferenceIdeal.nD Cert.LossDxReferenceIdeal.τ).loc Cert.LossDxReferenceIdeal.main_arg1)) (m ((c.tc : Thread Cert.LossDxReferenceIdeal.nD Cert.LossDxReferenceIdeal.τ).loc Cert.LossDxReferenceIdeal.main_arg2)) (m ((c.tc : Thread Cert.LossDxReferenceIdeal.nD Cert.LossDxReferenceIdeal.τ).loc Cert.LossDxReferenceIdeal.main_arg3)) (m ((c.tc : Thread Cert.LossDxReferenceIdeal.nD Cert.LossDxReferenceIdeal.τ).loc Cert.LossDxReferenceIdeal.main_arg4)) (m ((c.tc : Thread Cert.LossDxReferenceIdeal.nD Cert.LossDxReferenceIdeal.τ).loc Cert.LossDxReferenceIdeal.main_arg5))) = (fun _ => 1#1)

def Pre_FirstNormFwd (m : (ℓ : Loc Cert.FirstNormFwd.nD Cert.FirstNormFwd.τ Cert.FirstNormFwd.sig) → Buf (Elt Bits) ℓ) : Prop :=
  True

def Pre_FirstNormFwdIdeal (m : (ℓ : Loc Cert.FirstNormFwdIdeal.nD Cert.FirstNormFwdIdeal.τ Cert.FirstNormFwdIdeal.sig) → Buf (Elt Ideal) ℓ) : Prop :=
  True

def Pre_FirstNormFwdReferenceIdeal (m : (ℓ : Loc Cert.FirstNormFwdReferenceIdeal.nD Cert.FirstNormFwdReferenceIdeal.τ Cert.FirstNormFwdReferenceIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutReferenceIdeal (m : (ℓ : Loc Cert.EvenOutReferenceIdeal.nD Cert.EvenOutReferenceIdeal.τ Cert.EvenOutReferenceIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_finite_pool [hPre_finite_pool : Cert.Pre_finite_pool.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_finite_pool.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2))) = (fun _ => 1#1)

def Pre_PoolFwdReferenceIdeal (m : (ℓ : Loc Cert.PoolFwdReferenceIdeal.nD Cert.PoolFwdReferenceIdeal.τ Cert.PoolFwdReferenceIdeal.sig) → Buf (Elt Ideal) ℓ) : Prop :=
  True

def Pre_PoolFwdReferenceIdeal_finite_pool [hPre_finite_pool : Cert.Pre_finite_pool.Facts] (m : (ℓ : Loc Cert.PoolFwdReferenceIdeal.nD Cert.PoolFwdReferenceIdeal.τ Cert.PoolFwdReferenceIdeal.sig) → Buf (Elt Ideal) ℓ) : Prop :=
  ∀ c : Dev Cert.PoolFwdReferenceIdeal.nD,
    (Cert.Pre_finite_pool.fn (F := Ideal) (m ((c.tc : Thread Cert.PoolFwdReferenceIdeal.nD Cert.PoolFwdReferenceIdeal.τ).loc Cert.PoolFwdReferenceIdeal.main_arg0)) (m ((c.tc : Thread Cert.PoolFwdReferenceIdeal.nD Cert.PoolFwdReferenceIdeal.τ).loc Cert.PoolFwdReferenceIdeal.main_arg1)) (m ((c.tc : Thread Cert.PoolFwdReferenceIdeal.nD Cert.PoolFwdReferenceIdeal.τ).loc Cert.PoolFwdReferenceIdeal.main_arg2))) = (fun _ => 1#1)

def Pre_AdamOddIn (m : (ℓ : Loc Cert.AdamOddIn.nD Cert.AdamOddIn.τ Cert.AdamOddIn.sig) → Buf (Elt Bits) ℓ) : Prop :=
  True

def Pre_AdamOddInIdeal (m : (ℓ : Loc Cert.AdamOddInIdeal.nD Cert.AdamOddInIdeal.τ Cert.AdamOddInIdeal.sig) → Buf (Elt Ideal) ℓ) : Prop :=
  True

def Pre_AdamOddInReferenceIdeal (m : (ℓ : Loc Cert.AdamOddInReferenceIdeal.nD Cert.AdamOddInReferenceIdeal.τ Cert.AdamOddInReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamEvenIn (m : (ℓ : Loc Cert.AdamEvenIn.nD Cert.AdamEvenIn.τ Cert.AdamEvenIn.sig) → Buf (Elt Bits) ℓ) : Prop :=
  True

def Pre_AdamEvenInIdeal (m : (ℓ : Loc Cert.AdamEvenInIdeal.nD Cert.AdamEvenInIdeal.τ Cert.AdamEvenInIdeal.sig) → Buf (Elt Ideal) ℓ) : Prop :=
  True

def Pre_AdamEvenInReferenceIdeal (m : (ℓ : Loc Cert.AdamEvenInReferenceIdeal.nD Cert.AdamEvenInReferenceIdeal.τ Cert.AdamEvenInReferenceIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallReferenceIdeal (m : (ℓ : Loc Cert.SumSmallReferenceIdeal.nD Cert.SumSmallReferenceIdeal.τ Cert.SumSmallReferenceIdeal.sig) → Buf (Elt Ideal) ℓ) : Prop :=
  True

def Pre_JoinColumns (m : (ℓ : Loc Cert.JoinColumns.nD Cert.JoinColumns.τ Cert.JoinColumns.sig) → Buf (Elt Bits) ℓ) : Prop :=
  True

def Pre_JoinColumnsIdeal (m : (ℓ : Loc Cert.JoinColumnsIdeal.nD Cert.JoinColumnsIdeal.τ Cert.JoinColumnsIdeal.sig) → Buf (Elt Ideal) ℓ) : Prop :=
  True

def Pre_JoinColumnsReferenceIdeal (m : (ℓ : Loc Cert.JoinColumnsReferenceIdeal.nD Cert.JoinColumnsReferenceIdeal.τ Cert.JoinColumnsReferenceIdeal.sig) → Buf (Elt Ideal) ℓ) : Prop :=
  True

def Pre_SumFirstGain (m : (ℓ : Loc Cert.SumFirstGain.nD Cert.SumFirstGain.τ Cert.SumFirstGain.sig) → Buf (Elt Bits) ℓ) : Prop :=
  True

def Pre_SumFirstGainIdeal (m : (ℓ : Loc Cert.SumFirstGainIdeal.nD Cert.SumFirstGainIdeal.τ Cert.SumFirstGainIdeal.sig) → Buf (Elt Ideal) ℓ) : Prop :=
  True

def Pre_SumFirstGainReferenceIdeal (m : (ℓ : Loc Cert.SumFirstGainReferenceIdeal.nD Cert.SumFirstGainReferenceIdeal.τ Cert.SumFirstGainReferenceIdeal.sig) → Buf (Elt Ideal) ℓ) : Prop :=
  True

def Pre_CastOut (m : (ℓ : Loc Cert.CastOut.nD Cert.CastOut.τ Cert.CastOut.sig) → Buf (Elt Bits) ℓ) : Prop :=
  True

def Pre_CastOutIdeal (m : (ℓ : Loc Cert.CastOutIdeal.nD Cert.CastOutIdeal.τ Cert.CastOutIdeal.sig) → Buf (Elt Ideal) ℓ) : Prop :=
  True

def Pre_CastOutReferenceIdeal (m : (ℓ : Loc Cert.CastOutReferenceIdeal.nD Cert.CastOutReferenceIdeal.τ Cert.CastOutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_EvenInDx [hEvenInDx : Cert.EvenInDx.Facts] : Prop :=
  ∀ (m : (ℓ : Loc Cert.EvenInDx.nD Cert.EvenInDx.τ Cert.EvenInDx.sig) → Buf (Elt Bits) ℓ) (g : Dev Cert.EvenInDx.nD → PrngReg), Pre_EvenInDx m →
    θ_run (Cert.EvenInDx.defs (F := Bits)) (onTc (τ := Cert.EvenInDx.τ) (Cert.EvenInDx.main (F := Bits))) ⟨m, fun _ => 0, g⟩ (fun r => (∀ c : Dev Cert.EvenInDx.nD,
      r.2.mem ((c.tc : Thread Cert.EvenInDx.nD Cert.EvenInDx.τ).loc Cert.EvenInDx.main_arg0) = m ((c.tc : Thread Cert.EvenInDx.nD Cert.EvenInDx.τ).loc Cert.EvenInDx.main_arg0)
      ∧ r.2.mem ((c.tc : Thread Cert.EvenInDx.nD Cert.EvenInDx.τ).loc Cert.EvenInDx.main_arg1) = m ((c.tc : Thread Cert.EvenInDx.nD Cert.EvenInDx.τ).loc Cert.EvenInDx.main_arg1)
      ∧ r.2.mem ((c.tc : Thread Cert.EvenInDx.nD Cert.EvenInDx.τ).loc Cert.EvenInDx.main_arg2) = m ((c.tc : Thread Cert.EvenInDx.nD Cert.EvenInDx.τ).loc Cert.EvenInDx.main_arg2))
      ∧ r.2.sem = fun _ => 0)

def quiescent_EvenInDxIdeal [hEvenInDxIdeal : Cert.EvenInDxIdeal.Facts] : Prop :=
  ∀ (m : (ℓ : Loc Cert.EvenInDxIdeal.nD Cert.EvenInDxIdeal.τ Cert.EvenInDxIdeal.sig) → Buf (Elt Ideal) ℓ) (g : Dev Cert.EvenInDxIdeal.nD → PrngReg), Pre_EvenInDxIdeal m →
    θ_run (Cert.EvenInDxIdeal.defs (F := Ideal)) (onTc (τ := Cert.EvenInDxIdeal.τ) (Cert.EvenInDxIdeal.main (F := Ideal))) ⟨m, fun _ => 0, g⟩ (fun r => (∀ c : Dev Cert.EvenInDxIdeal.nD,
      r.2.mem ((c.tc : Thread Cert.EvenInDxIdeal.nD Cert.EvenInDxIdeal.τ).loc Cert.EvenInDxIdeal.main_arg0) = m ((c.tc : Thread Cert.EvenInDxIdeal.nD Cert.EvenInDxIdeal.τ).loc Cert.EvenInDxIdeal.main_arg0)
      ∧ r.2.mem ((c.tc : Thread Cert.EvenInDxIdeal.nD Cert.EvenInDxIdeal.τ).loc Cert.EvenInDxIdeal.main_arg1) = m ((c.tc : Thread Cert.EvenInDxIdeal.nD Cert.EvenInDxIdeal.τ).loc Cert.EvenInDxIdeal.main_arg1)
      ∧ r.2.mem ((c.tc : Thread Cert.EvenInDxIdeal.nD Cert.EvenInDxIdeal.τ).loc Cert.EvenInDxIdeal.main_arg2) = m ((c.tc : Thread Cert.EvenInDxIdeal.nD Cert.EvenInDxIdeal.τ).loc Cert.EvenInDxIdeal.main_arg2))
      ∧ r.2.sem = fun _ => 0)

def quiescent_EvenInDxReferenceIdeal [hEvenInDxReferenceIdeal : Cert.EvenInDxReferenceIdeal.Facts] : Prop :=
  ∀ (m : (ℓ : Loc Cert.EvenInDxReferenceIdeal.nD Cert.EvenInDxReferenceIdeal.τ Cert.EvenInDxReferenceIdeal.sig) → Buf (Elt Ideal) ℓ) (g : Dev Cert.EvenInDxReferenceIdeal.nD → PrngReg), Pre_EvenInDxReferenceIdeal m →
    θ_run (Cert.EvenInDxReferenceIdeal.defs (F := Ideal)) (onTc (τ := Cert.EvenInDxReferenceIdeal.τ) (Cert.EvenInDxReferenceIdeal.main (F := Ideal))) ⟨m, fun _ => 0, g⟩ (fun r => (∀ c : Dev Cert.EvenInDxReferenceIdeal.nD,
      r.2.mem ((c.tc : Thread Cert.EvenInDxReferenceIdeal.nD Cert.EvenInDxReferenceIdeal.τ).loc Cert.EvenInDxReferenceIdeal.main_arg0) = m ((c.tc : Thread Cert.EvenInDxReferenceIdeal.nD Cert.EvenInDxReferenceIdeal.τ).loc Cert.EvenInDxReferenceIdeal.main_arg0)
      ∧ r.2.mem ((c.tc : Thread Cert.EvenInDxReferenceIdeal.nD Cert.EvenInDxReferenceIdeal.τ).loc Cert.EvenInDxReferenceIdeal.main_arg1) = m ((c.tc : Thread Cert.EvenInDxReferenceIdeal.nD Cert.EvenInDxReferenceIdeal.τ).loc Cert.EvenInDxReferenceIdeal.main_arg1)
      ∧ r.2.mem ((c.tc : Thread Cert.EvenInDxReferenceIdeal.nD Cert.EvenInDxReferenceIdeal.τ).loc Cert.EvenInDxReferenceIdeal.main_arg2) = m ((c.tc : Thread Cert.EvenInDxReferenceIdeal.nD Cert.EvenInDxReferenceIdeal.τ).loc Cert.EvenInDxReferenceIdeal.main_arg2))
      ∧ r.2.sem = fun _ => 0)

def quiescent_OddInDx [hOddInDx : Cert.OddInDx.Facts] : Prop :=
  ∀ (m : (ℓ : Loc Cert.OddInDx.nD Cert.OddInDx.τ Cert.OddInDx.sig) → Buf (Elt Bits) ℓ) (g : Dev Cert.OddInDx.nD → PrngReg), Pre_OddInDx m →
    θ_run (Cert.OddInDx.defs (F := Bits)) (onTc (τ := Cert.OddInDx.τ) (Cert.OddInDx.main (F := Bits))) ⟨m, fun _ => 0, g⟩ (fun r => (∀ c : Dev Cert.OddInDx.nD,
      r.2.mem ((c.tc : Thread Cert.OddInDx.nD Cert.OddInDx.τ).loc Cert.OddInDx.main_arg0) = m ((c.tc : Thread Cert.OddInDx.nD Cert.OddInDx.τ).loc Cert.OddInDx.main_arg0)
      ∧ r.2.mem ((c.tc : Thread Cert.OddInDx.nD Cert.OddInDx.τ).loc Cert.OddInDx.main_arg1) = m ((c.tc : Thread Cert.OddInDx.nD Cert.OddInDx.τ).loc Cert.OddInDx.main_arg1)
      ∧ r.2.mem ((c.tc : Thread Cert.OddInDx.nD Cert.OddInDx.τ).loc Cert.OddInDx.main_arg2) = m ((c.tc : Thread Cert.OddInDx.nD Cert.OddInDx.τ).loc Cert.OddInDx.main_arg2))
      ∧ r.2.sem = fun _ => 0)

def quiescent_OddInDxIdeal [hOddInDxIdeal : Cert.OddInDxIdeal.Facts] : Prop :=
  ∀ (m : (ℓ : Loc Cert.OddInDxIdeal.nD Cert.OddInDxIdeal.τ Cert.OddInDxIdeal.sig) → Buf (Elt Ideal) ℓ) (g : Dev Cert.OddInDxIdeal.nD → PrngReg), Pre_OddInDxIdeal m →
    θ_run (Cert.OddInDxIdeal.defs (F := Ideal)) (onTc (τ := Cert.OddInDxIdeal.τ) (Cert.OddInDxIdeal.main (F := Ideal))) ⟨m, fun _ => 0, g⟩ (fun r => (∀ c : Dev Cert.OddInDxIdeal.nD,
      r.2.mem ((c.tc : Thread Cert.OddInDxIdeal.nD Cert.OddInDxIdeal.τ).loc Cert.OddInDxIdeal.main_arg0) = m ((c.tc : Thread Cert.OddInDxIdeal.nD Cert.OddInDxIdeal.τ).loc Cert.OddInDxIdeal.main_arg0)
      ∧ r.2.mem ((c.tc : Thread Cert.OddInDxIdeal.nD Cert.OddInDxIdeal.τ).loc Cert.OddInDxIdeal.main_arg1) = m ((c.tc : Thread Cert.OddInDxIdeal.nD Cert.OddInDxIdeal.τ).loc Cert.OddInDxIdeal.main_arg1)
      ∧ r.2.mem ((c.tc : Thread Cert.OddInDxIdeal.nD Cert.OddInDxIdeal.τ).loc Cert.OddInDxIdeal.main_arg2) = m ((c.tc : Thread Cert.OddInDxIdeal.nD Cert.OddInDxIdeal.τ).loc Cert.OddInDxIdeal.main_arg2))
      ∧ r.2.sem = fun _ => 0)

def quiescent_OddInDxReferenceIdeal [hOddInDxReferenceIdeal : Cert.OddInDxReferenceIdeal.Facts] : Prop :=
  ∀ (m : (ℓ : Loc Cert.OddInDxReferenceIdeal.nD Cert.OddInDxReferenceIdeal.τ Cert.OddInDxReferenceIdeal.sig) → Buf (Elt Ideal) ℓ) (g : Dev Cert.OddInDxReferenceIdeal.nD → PrngReg), Pre_OddInDxReferenceIdeal m →
    θ_run (Cert.OddInDxReferenceIdeal.defs (F := Ideal)) (onTc (τ := Cert.OddInDxReferenceIdeal.τ) (Cert.OddInDxReferenceIdeal.main (F := Ideal))) ⟨m, fun _ => 0, g⟩ (fun r => (∀ c : Dev Cert.OddInDxReferenceIdeal.nD,
      r.2.mem ((c.tc : Thread Cert.OddInDxReferenceIdeal.nD Cert.OddInDxReferenceIdeal.τ).loc Cert.OddInDxReferenceIdeal.main_arg0) = m ((c.tc : Thread Cert.OddInDxReferenceIdeal.nD Cert.OddInDxReferenceIdeal.τ).loc Cert.OddInDxReferenceIdeal.main_arg0)
      ∧ r.2.mem ((c.tc : Thread Cert.OddInDxReferenceIdeal.nD Cert.OddInDxReferenceIdeal.τ).loc Cert.OddInDxReferenceIdeal.main_arg1) = m ((c.tc : Thread Cert.OddInDxReferenceIdeal.nD Cert.OddInDxReferenceIdeal.τ).loc Cert.OddInDxReferenceIdeal.main_arg1)
      ∧ r.2.mem ((c.tc : Thread Cert.OddInDxReferenceIdeal.nD Cert.OddInDxReferenceIdeal.τ).loc Cert.OddInDxReferenceIdeal.main_arg2) = m ((c.tc : Thread Cert.OddInDxReferenceIdeal.nD Cert.OddInDxReferenceIdeal.τ).loc Cert.OddInDxReferenceIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1)
      ∧ r.2.mem ((c.tc : Thread Cert.OutDxReferenceIdeal.nD Cert.OutDxReferenceIdeal.τ).loc Cert.OutDxReferenceIdeal.main_arg2) = m ((c.tc : Thread Cert.OutDxReferenceIdeal.nD Cert.OutDxReferenceIdeal.τ).loc Cert.OutDxReferenceIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_EvenInDw [hEvenInDw : Cert.EvenInDw.Facts] : Prop :=
  ∀ (m : (ℓ : Loc Cert.EvenInDw.nD Cert.EvenInDw.τ Cert.EvenInDw.sig) → Buf (Elt Bits) ℓ) (g : Dev Cert.EvenInDw.nD → PrngReg), Pre_EvenInDw m →
    θ_run (Cert.EvenInDw.defs (F := Bits)) (onTc (τ := Cert.EvenInDw.τ) (Cert.EvenInDw.main (F := Bits))) ⟨m, fun _ => 0, g⟩ (fun r => (∀ c : Dev Cert.EvenInDw.nD,
      r.2.mem ((c.tc : Thread Cert.EvenInDw.nD Cert.EvenInDw.τ).loc Cert.EvenInDw.main_arg0) = m ((c.tc : Thread Cert.EvenInDw.nD Cert.EvenInDw.τ).loc Cert.EvenInDw.main_arg0)
      ∧ r.2.mem ((c.tc : Thread Cert.EvenInDw.nD Cert.EvenInDw.τ).loc Cert.EvenInDw.main_arg1) = m ((c.tc : Thread Cert.EvenInDw.nD Cert.EvenInDw.τ).loc Cert.EvenInDw.main_arg1)
      ∧ r.2.mem ((c.tc : Thread Cert.EvenInDw.nD Cert.EvenInDw.τ).loc Cert.EvenInDw.main_arg2) = m ((c.tc : Thread Cert.EvenInDw.nD Cert.EvenInDw.τ).loc Cert.EvenInDw.main_arg2)
      ∧ r.2.mem ((c.tc : Thread Cert.EvenInDw.nD Cert.EvenInDw.τ).loc Cert.EvenInDw.main_arg3) = m ((c.tc : Thread Cert.EvenInDw.nD Cert.EvenInDw.τ).loc Cert.EvenInDw.main_arg3)
      ∧ r.2.mem ((c.tc : Thread Cert.EvenInDw.nD Cert.EvenInDw.τ).loc Cert.EvenInDw.main_arg4) = m ((c.tc : Thread Cert.EvenInDw.nD Cert.EvenInDw.τ).loc Cert.EvenInDw.main_arg4))
      ∧ r.2.sem = fun _ => 0)

def quiescent_EvenInDwIdeal [hEvenInDwIdeal : Cert.EvenInDwIdeal.Facts] : Prop :=
  ∀ (m : (ℓ : Loc Cert.EvenInDwIdeal.nD Cert.EvenInDwIdeal.τ Cert.EvenInDwIdeal.sig) → Buf (Elt Ideal) ℓ) (g : Dev Cert.EvenInDwIdeal.nD → PrngReg), Pre_EvenInDwIdeal m →
    θ_run (Cert.EvenInDwIdeal.defs (F := Ideal)) (onTc (τ := Cert.EvenInDwIdeal.τ) (Cert.EvenInDwIdeal.main (F := Ideal))) ⟨m, fun _ => 0, g⟩ (fun r => (∀ c : Dev Cert.EvenInDwIdeal.nD,
      r.2.mem ((c.tc : Thread Cert.EvenInDwIdeal.nD Cert.EvenInDwIdeal.τ).loc Cert.EvenInDwIdeal.main_arg0) = m ((c.tc : Thread Cert.EvenInDwIdeal.nD Cert.EvenInDwIdeal.τ).loc Cert.EvenInDwIdeal.main_arg0)
      ∧ r.2.mem ((c.tc : Thread Cert.EvenInDwIdeal.nD Cert.EvenInDwIdeal.τ).loc Cert.EvenInDwIdeal.main_arg1) = m ((c.tc : Thread Cert.EvenInDwIdeal.nD Cert.EvenInDwIdeal.τ).loc Cert.EvenInDwIdeal.main_arg1)
      ∧ r.2.mem ((c.tc : Thread Cert.EvenInDwIdeal.nD Cert.EvenInDwIdeal.τ).loc Cert.EvenInDwIdeal.main_arg2) = m ((c.tc : Thread Cert.EvenInDwIdeal.nD Cert.EvenInDwIdeal.τ).loc Cert.EvenInDwIdeal.main_arg2)
      ∧ r.2.mem ((c.tc : Thread Cert.EvenInDwIdeal.nD Cert.EvenInDwIdeal.τ).loc Cert.EvenInDwIdeal.main_arg3) = m ((c.tc : Thread Cert.EvenInDwIdeal.nD Cert.EvenInDwIdeal.τ).loc Cert.EvenInDwIdeal.main_arg3)
      ∧ r.2.mem ((c.tc : Thread Cert.EvenInDwIdeal.nD Cert.EvenInDwIdeal.τ).loc Cert.EvenInDwIdeal.main_arg4) = m ((c.tc : Thread Cert.EvenInDwIdeal.nD Cert.EvenInDwIdeal.τ).loc Cert.EvenInDwIdeal.main_arg4))
      ∧ r.2.sem = fun _ => 0)

def quiescent_EvenInDwReferenceIdeal [hEvenInDwReferenceIdeal : Cert.EvenInDwReferenceIdeal.Facts] : Prop :=
  ∀ (m : (ℓ : Loc Cert.EvenInDwReferenceIdeal.nD Cert.EvenInDwReferenceIdeal.τ Cert.EvenInDwReferenceIdeal.sig) → Buf (Elt Ideal) ℓ) (g : Dev Cert.EvenInDwReferenceIdeal.nD → PrngReg), Pre_EvenInDwReferenceIdeal m →
    θ_run (Cert.EvenInDwReferenceIdeal.defs (F := Ideal)) (onTc (τ := Cert.EvenInDwReferenceIdeal.τ) (Cert.EvenInDwReferenceIdeal.main (F := Ideal))) ⟨m, fun _ => 0, g⟩ (fun r => (∀ c : Dev Cert.EvenInDwReferenceIdeal.nD,
      r.2.mem ((c.tc : Thread Cert.EvenInDwReferenceIdeal.nD Cert.EvenInDwReferenceIdeal.τ).loc Cert.EvenInDwReferenceIdeal.main_arg0) = m ((c.tc : Thread Cert.EvenInDwReferenceIdeal.nD Cert.EvenInDwReferenceIdeal.τ).loc Cert.EvenInDwReferenceIdeal.main_arg0)
      ∧ r.2.mem ((c.tc : Thread Cert.EvenInDwReferenceIdeal.nD Cert.EvenInDwReferenceIdeal.τ).loc Cert.EvenInDwReferenceIdeal.main_arg1) = m ((c.tc : Thread Cert.EvenInDwReferenceIdeal.nD Cert.EvenInDwReferenceIdeal.τ).loc Cert.EvenInDwReferenceIdeal.main_arg1)
      ∧ r.2.mem ((c.tc : Thread Cert.EvenInDwReferenceIdeal.nD Cert.EvenInDwReferenceIdeal.τ).loc Cert.EvenInDwReferenceIdeal.main_arg2) = m ((c.tc : Thread Cert.EvenInDwReferenceIdeal.nD Cert.EvenInDwReferenceIdeal.τ).loc Cert.EvenInDwReferenceIdeal.main_arg2)
      ∧ r.2.mem ((c.tc : Thread Cert.EvenInDwReferenceIdeal.nD Cert.EvenInDwReferenceIdeal.τ).loc Cert.EvenInDwReferenceIdeal.main_arg3) = m ((c.tc : Thread Cert.EvenInDwReferenceIdeal.nD Cert.EvenInDwReferenceIdeal.τ).loc Cert.EvenInDwReferenceIdeal.main_arg3)
      ∧ r.2.mem ((c.tc : Thread Cert.EvenInDwReferenceIdeal.nD Cert.EvenInDwReferenceIdeal.τ).loc Cert.EvenInDwReferenceIdeal.main_arg4) = m ((c.tc : Thread Cert.EvenInDwReferenceIdeal.nD Cert.EvenInDwReferenceIdeal.τ).loc Cert.EvenInDwReferenceIdeal.main_arg4))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInReferenceIdeal [hOddInReferenceIdeal : Cert.OddInReferenceIdeal.Facts] : Prop :=
  ∀ (m : (ℓ : Loc Cert.OddInReferenceIdeal.nD Cert.OddInReferenceIdeal.τ Cert.OddInReferenceIdeal.sig) → Buf (Elt Ideal) ℓ) (g : Dev Cert.OddInReferenceIdeal.nD → PrngReg), Pre_OddInReferenceIdeal m →
    θ_run (Cert.OddInReferenceIdeal.defs (F := Ideal)) (onTc (τ := Cert.OddInReferenceIdeal.τ) (Cert.OddInReferenceIdeal.main (F := Ideal))) ⟨m, fun _ => 0, g⟩ (fun r => (∀ c : Dev Cert.OddInReferenceIdeal.nD,
      r.2.mem ((c.tc : Thread Cert.OddInReferenceIdeal.nD Cert.OddInReferenceIdeal.τ).loc Cert.OddInReferenceIdeal.main_arg0) = m ((c.tc : Thread Cert.OddInReferenceIdeal.nD Cert.OddInReferenceIdeal.τ).loc Cert.OddInReferenceIdeal.main_arg0)
      ∧ r.2.mem ((c.tc : Thread Cert.OddInReferenceIdeal.nD Cert.OddInReferenceIdeal.τ).loc Cert.OddInReferenceIdeal.main_arg1) = m ((c.tc : Thread Cert.OddInReferenceIdeal.nD Cert.OddInReferenceIdeal.τ).loc Cert.OddInReferenceIdeal.main_arg1))
      ∧ r.2.sem = fun _ => 0)

def quiescent_OddInDw [hOddInDw : Cert.OddInDw.Facts] : Prop :=
  ∀ (m : (ℓ : Loc Cert.OddInDw.nD Cert.OddInDw.τ Cert.OddInDw.sig) → Buf (Elt Bits) ℓ) (g : Dev Cert.OddInDw.nD → PrngReg), Pre_OddInDw m →
    θ_run (Cert.OddInDw.defs (F := Bits)) (onTc (τ := Cert.OddInDw.τ) (Cert.OddInDw.main (F := Bits))) ⟨m, fun _ => 0, g⟩ (fun r => (∀ c : Dev Cert.OddInDw.nD,
      r.2.mem ((c.tc : Thread Cert.OddInDw.nD Cert.OddInDw.τ).loc Cert.OddInDw.main_arg0) = m ((c.tc : Thread Cert.OddInDw.nD Cert.OddInDw.τ).loc Cert.OddInDw.main_arg0)
      ∧ r.2.mem ((c.tc : Thread Cert.OddInDw.nD Cert.OddInDw.τ).loc Cert.OddInDw.main_arg1) = m ((c.tc : Thread Cert.OddInDw.nD Cert.OddInDw.τ).loc Cert.OddInDw.main_arg1)
      ∧ r.2.mem ((c.tc : Thread Cert.OddInDw.nD Cert.OddInDw.τ).loc Cert.OddInDw.main_arg2) = m ((c.tc : Thread Cert.OddInDw.nD Cert.OddInDw.τ).loc Cert.OddInDw.main_arg2)
      ∧ r.2.mem ((c.tc : Thread Cert.OddInDw.nD Cert.OddInDw.τ).loc Cert.OddInDw.main_arg3) = m ((c.tc : Thread Cert.OddInDw.nD Cert.OddInDw.τ).loc Cert.OddInDw.main_arg3)
      ∧ r.2.mem ((c.tc : Thread Cert.OddInDw.nD Cert.OddInDw.τ).loc Cert.OddInDw.main_arg4) = m ((c.tc : Thread Cert.OddInDw.nD Cert.OddInDw.τ).loc Cert.OddInDw.main_arg4))
      ∧ r.2.sem = fun _ => 0)

def quiescent_OddInDwIdeal [hOddInDwIdeal : Cert.OddInDwIdeal.Facts] : Prop :=
  ∀ (m : (ℓ : Loc Cert.OddInDwIdeal.nD Cert.OddInDwIdeal.τ Cert.OddInDwIdeal.sig) → Buf (Elt Ideal) ℓ) (g : Dev Cert.OddInDwIdeal.nD → PrngReg), Pre_OddInDwIdeal m →
    θ_run (Cert.OddInDwIdeal.defs (F := Ideal)) (onTc (τ := Cert.OddInDwIdeal.τ) (Cert.OddInDwIdeal.main (F := Ideal))) ⟨m, fun _ => 0, g⟩ (fun r => (∀ c : Dev Cert.OddInDwIdeal.nD,
      r.2.mem ((c.tc : Thread Cert.OddInDwIdeal.nD Cert.OddInDwIdeal.τ).loc Cert.OddInDwIdeal.main_arg0) = m ((c.tc : Thread Cert.OddInDwIdeal.nD Cert.OddInDwIdeal.τ).loc Cert.OddInDwIdeal.main_arg0)
      ∧ r.2.mem ((c.tc : Thread Cert.OddInDwIdeal.nD Cert.OddInDwIdeal.τ).loc Cert.OddInDwIdeal.main_arg1) = m ((c.tc : Thread Cert.OddInDwIdeal.nD Cert.OddInDwIdeal.τ).loc Cert.OddInDwIdeal.main_arg1)
      ∧ r.2.mem ((c.tc : Thread Cert.OddInDwIdeal.nD Cert.OddInDwIdeal.τ).loc Cert.OddInDwIdeal.main_arg2) = m ((c.tc : Thread Cert.OddInDwIdeal.nD Cert.OddInDwIdeal.τ).loc Cert.OddInDwIdeal.main_arg2)
      ∧ r.2.mem ((c.tc : Thread Cert.OddInDwIdeal.nD Cert.OddInDwIdeal.τ).loc Cert.OddInDwIdeal.main_arg3) = m ((c.tc : Thread Cert.OddInDwIdeal.nD Cert.OddInDwIdeal.τ).loc Cert.OddInDwIdeal.main_arg3)
      ∧ r.2.mem ((c.tc : Thread Cert.OddInDwIdeal.nD Cert.OddInDwIdeal.τ).loc Cert.OddInDwIdeal.main_arg4) = m ((c.tc : Thread Cert.OddInDwIdeal.nD Cert.OddInDwIdeal.τ).loc Cert.OddInDwIdeal.main_arg4))
      ∧ r.2.sem = fun _ => 0)

def quiescent_OddInDwReferenceIdeal [hOddInDwReferenceIdeal : Cert.OddInDwReferenceIdeal.Facts] : Prop :=
  ∀ (m : (ℓ : Loc Cert.OddInDwReferenceIdeal.nD Cert.OddInDwReferenceIdeal.τ Cert.OddInDwReferenceIdeal.sig) → Buf (Elt Ideal) ℓ) (g : Dev Cert.OddInDwReferenceIdeal.nD → PrngReg), Pre_OddInDwReferenceIdeal m →
    θ_run (Cert.OddInDwReferenceIdeal.defs (F := Ideal)) (onTc (τ := Cert.OddInDwReferenceIdeal.τ) (Cert.OddInDwReferenceIdeal.main (F := Ideal))) ⟨m, fun _ => 0, g⟩ (fun r => (∀ c : Dev Cert.OddInDwReferenceIdeal.nD,
      r.2.mem ((c.tc : Thread Cert.OddInDwReferenceIdeal.nD Cert.OddInDwReferenceIdeal.τ).loc Cert.OddInDwReferenceIdeal.main_arg0) = m ((c.tc : Thread Cert.OddInDwReferenceIdeal.nD Cert.OddInDwReferenceIdeal.τ).loc Cert.OddInDwReferenceIdeal.main_arg0)
      ∧ r.2.mem ((c.tc : Thread Cert.OddInDwReferenceIdeal.nD Cert.OddInDwReferenceIdeal.τ).loc Cert.OddInDwReferenceIdeal.main_arg1) = m ((c.tc : Thread Cert.OddInDwReferenceIdeal.nD Cert.OddInDwReferenceIdeal.τ).loc Cert.OddInDwReferenceIdeal.main_arg1)
      ∧ r.2.mem ((c.tc : Thread Cert.OddInDwReferenceIdeal.nD Cert.OddInDwReferenceIdeal.τ).loc Cert.OddInDwReferenceIdeal.main_arg2) = m ((c.tc : Thread Cert.OddInDwReferenceIdeal.nD Cert.OddInDwReferenceIdeal.τ).loc Cert.OddInDwReferenceIdeal.main_arg2)
      ∧ r.2.mem ((c.tc : Thread Cert.OddInDwReferenceIdeal.nD Cert.OddInDwReferenceIdeal.τ).loc Cert.OddInDwReferenceIdeal.main_arg3) = m ((c.tc : Thread Cert.OddInDwReferenceIdeal.nD Cert.OddInDwReferenceIdeal.τ).loc Cert.OddInDwReferenceIdeal.main_arg3)
      ∧ r.2.mem ((c.tc : Thread Cert.OddInDwReferenceIdeal.nD Cert.OddInDwReferenceIdeal.τ).loc Cert.OddInDwReferenceIdeal.main_arg4) = m ((c.tc : Thread Cert.OddInDwReferenceIdeal.nD Cert.OddInDwReferenceIdeal.τ).loc Cert.OddInDwReferenceIdeal.main_arg4))
      ∧ r.2.sem = fun _ => 0)

def quiescent_EvenInDwFirst [hEvenInDwFirst : Cert.EvenInDwFirst.Facts] : Prop :=
  ∀ (m : (ℓ : Loc Cert.EvenInDwFirst.nD Cert.EvenInDwFirst.τ Cert.EvenInDwFirst.sig) → Buf (Elt Bits) ℓ) (g : Dev Cert.EvenInDwFirst.nD → PrngReg), Pre_EvenInDwFirst m →
    θ_run (Cert.EvenInDwFirst.defs (F := Bits)) (onTc (τ := Cert.EvenInDwFirst.τ) (Cert.EvenInDwFirst.main (F := Bits))) ⟨m, fun _ => 0, g⟩ (fun r => (∀ c : Dev Cert.EvenInDwFirst.nD,
      r.2.mem ((c.tc : Thread Cert.EvenInDwFirst.nD Cert.EvenInDwFirst.τ).loc Cert.EvenInDwFirst.main_arg0) = m ((c.tc : Thread Cert.EvenInDwFirst.nD Cert.EvenInDwFirst.τ).loc Cert.EvenInDwFirst.main_arg0)
      ∧ r.2.mem ((c.tc : Thread Cert.EvenInDwFirst.nD Cert.EvenInDwFirst.τ).loc Cert.EvenInDwFirst.main_arg1) = m ((c.tc : Thread Cert.EvenInDwFirst.nD Cert.EvenInDwFirst.τ).loc Cert.EvenInDwFirst.main_arg1)
      ∧ r.2.mem ((c.tc : Thread Cert.EvenInDwFirst.nD Cert.EvenInDwFirst.τ).loc Cert.EvenInDwFirst.main_arg2) = m ((c.tc : Thread Cert.EvenInDwFirst.nD Cert.EvenInDwFirst.τ).loc Cert.EvenInDwFirst.main_arg2)
      ∧ r.2.mem ((c.tc : Thread Cert.EvenInDwFirst.nD Cert.EvenInDwFirst.τ).loc Cert.EvenInDwFirst.main_arg3) = m ((c.tc : Thread Cert.EvenInDwFirst.nD Cert.EvenInDwFirst.τ).loc Cert.EvenInDwFirst.main_arg3)
      ∧ r.2.mem ((c.tc : Thread Cert.EvenInDwFirst.nD Cert.EvenInDwFirst.τ).loc Cert.EvenInDwFirst.main_arg4) = m ((c.tc : Thread Cert.EvenInDwFirst.nD Cert.EvenInDwFirst.τ).loc Cert.EvenInDwFirst.main_arg4))
      ∧ r.2.sem = fun _ => 0)

def quiescent_EvenInDwFirstIdeal [hEvenInDwFirstIdeal : Cert.EvenInDwFirstIdeal.Facts] : Prop :=
  ∀ (m : (ℓ : Loc Cert.EvenInDwFirstIdeal.nD Cert.EvenInDwFirstIdeal.τ Cert.EvenInDwFirstIdeal.sig) → Buf (Elt Ideal) ℓ) (g : Dev Cert.EvenInDwFirstIdeal.nD → PrngReg), Pre_EvenInDwFirstIdeal m →
    θ_run (Cert.EvenInDwFirstIdeal.defs (F := Ideal)) (onTc (τ := Cert.EvenInDwFirstIdeal.τ) (Cert.EvenInDwFirstIdeal.main (F := Ideal))) ⟨m, fun _ => 0, g⟩ (fun r => (∀ c : Dev Cert.EvenInDwFirstIdeal.nD,
      r.2.mem ((c.tc : Thread Cert.EvenInDwFirstIdeal.nD Cert.EvenInDwFirstIdeal.τ).loc Cert.EvenInDwFirstIdeal.main_arg0) = m ((c.tc : Thread Cert.EvenInDwFirstIdeal.nD Cert.EvenInDwFirstIdeal.τ).loc Cert.EvenInDwFirstIdeal.main_arg0)
      ∧ r.2.mem ((c.tc : Thread Cert.EvenInDwFirstIdeal.nD Cert.EvenInDwFirstIdeal.τ).loc Cert.EvenInDwFirstIdeal.main_arg1) = m ((c.tc : Thread Cert.EvenInDwFirstIdeal.nD Cert.EvenInDwFirstIdeal.τ).loc Cert.EvenInDwFirstIdeal.main_arg1)
      ∧ r.2.mem ((c.tc : Thread Cert.EvenInDwFirstIdeal.nD Cert.EvenInDwFirstIdeal.τ).loc Cert.EvenInDwFirstIdeal.main_arg2) = m ((c.tc : Thread Cert.EvenInDwFirstIdeal.nD Cert.EvenInDwFirstIdeal.τ).loc Cert.EvenInDwFirstIdeal.main_arg2)
      ∧ r.2.mem ((c.tc : Thread Cert.EvenInDwFirstIdeal.nD Cert.EvenInDwFirstIdeal.τ).loc Cert.EvenInDwFirstIdeal.main_arg3) = m ((c.tc : Thread Cert.EvenInDwFirstIdeal.nD Cert.EvenInDwFirstIdeal.τ).loc Cert.EvenInDwFirstIdeal.main_arg3)
      ∧ r.2.mem ((c.tc : Thread Cert.EvenInDwFirstIdeal.nD Cert.EvenInDwFirstIdeal.τ).loc Cert.EvenInDwFirstIdeal.main_arg4) = m ((c.tc : Thread Cert.EvenInDwFirstIdeal.nD Cert.EvenInDwFirstIdeal.τ).loc Cert.EvenInDwFirstIdeal.main_arg4))
      ∧ r.2.sem = fun _ => 0)

def quiescent_EvenInDwFirstReferenceIdeal [hEvenInDwFirstReferenceIdeal : Cert.EvenInDwFirstReferenceIdeal.Facts] : Prop :=
  ∀ (m : (ℓ : Loc Cert.EvenInDwFirstReferenceIdeal.nD Cert.EvenInDwFirstReferenceIdeal.τ Cert.EvenInDwFirstReferenceIdeal.sig) → Buf (Elt Ideal) ℓ) (g : Dev Cert.EvenInDwFirstReferenceIdeal.nD → PrngReg), Pre_EvenInDwFirstReferenceIdeal m →
    θ_run (Cert.EvenInDwFirstReferenceIdeal.defs (F := Ideal)) (onTc (τ := Cert.EvenInDwFirstReferenceIdeal.τ) (Cert.EvenInDwFirstReferenceIdeal.main (F := Ideal))) ⟨m, fun _ => 0, g⟩ (fun r => (∀ c : Dev Cert.EvenInDwFirstReferenceIdeal.nD,
      r.2.mem ((c.tc : Thread Cert.EvenInDwFirstReferenceIdeal.nD Cert.EvenInDwFirstReferenceIdeal.τ).loc Cert.EvenInDwFirstReferenceIdeal.main_arg0) = m ((c.tc : Thread Cert.EvenInDwFirstReferenceIdeal.nD Cert.EvenInDwFirstReferenceIdeal.τ).loc Cert.EvenInDwFirstReferenceIdeal.main_arg0)
      ∧ r.2.mem ((c.tc : Thread Cert.EvenInDwFirstReferenceIdeal.nD Cert.EvenInDwFirstReferenceIdeal.τ).loc Cert.EvenInDwFirstReferenceIdeal.main_arg1) = m ((c.tc : Thread Cert.EvenInDwFirstReferenceIdeal.nD Cert.EvenInDwFirstReferenceIdeal.τ).loc Cert.EvenInDwFirstReferenceIdeal.main_arg1)
      ∧ r.2.mem ((c.tc : Thread Cert.EvenInDwFirstReferenceIdeal.nD Cert.EvenInDwFirstReferenceIdeal.τ).loc Cert.EvenInDwFirstReferenceIdeal.main_arg2) = m ((c.tc : Thread Cert.EvenInDwFirstReferenceIdeal.nD Cert.EvenInDwFirstReferenceIdeal.τ).loc Cert.EvenInDwFirstReferenceIdeal.main_arg2)
      ∧ r.2.mem ((c.tc : Thread Cert.EvenInDwFirstReferenceIdeal.nD Cert.EvenInDwFirstReferenceIdeal.τ).loc Cert.EvenInDwFirstReferenceIdeal.main_arg3) = m ((c.tc : Thread Cert.EvenInDwFirstReferenceIdeal.nD Cert.EvenInDwFirstReferenceIdeal.τ).loc Cert.EvenInDwFirstReferenceIdeal.main_arg3)
      ∧ r.2.mem ((c.tc : Thread Cert.EvenInDwFirstReferenceIdeal.nD Cert.EvenInDwFirstReferenceIdeal.τ).loc Cert.EvenInDwFirstReferenceIdeal.main_arg4) = m ((c.tc : Thread Cert.EvenInDwFirstReferenceIdeal.nD Cert.EvenInDwFirstReferenceIdeal.τ).loc Cert.EvenInDwFirstReferenceIdeal.main_arg4))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInReferenceIdeal [hEvenInReferenceIdeal : Cert.EvenInReferenceIdeal.Facts] : Prop :=
  ∀ (m : (ℓ : Loc Cert.EvenInReferenceIdeal.nD Cert.EvenInReferenceIdeal.τ Cert.EvenInReferenceIdeal.sig) → Buf (Elt Ideal) ℓ) (g : Dev Cert.EvenInReferenceIdeal.nD → PrngReg), Pre_EvenInReferenceIdeal m →
    θ_run (Cert.EvenInReferenceIdeal.defs (F := Ideal)) (onTc (τ := Cert.EvenInReferenceIdeal.τ) (Cert.EvenInReferenceIdeal.main (F := Ideal))) ⟨m, fun _ => 0, g⟩ (fun r => (∀ c : Dev Cert.EvenInReferenceIdeal.nD,
      r.2.mem ((c.tc : Thread Cert.EvenInReferenceIdeal.nD Cert.EvenInReferenceIdeal.τ).loc Cert.EvenInReferenceIdeal.main_arg0) = m ((c.tc : Thread Cert.EvenInReferenceIdeal.nD Cert.EvenInReferenceIdeal.τ).loc Cert.EvenInReferenceIdeal.main_arg0)
      ∧ r.2.mem ((c.tc : Thread Cert.EvenInReferenceIdeal.nD Cert.EvenInReferenceIdeal.τ).loc Cert.EvenInReferenceIdeal.main_arg1) = m ((c.tc : Thread Cert.EvenInReferenceIdeal.nD Cert.EvenInReferenceIdeal.τ).loc Cert.EvenInReferenceIdeal.main_arg1))
      ∧ r.2.sem = fun _ => 0)

def quiescent_FirstNorm [hFirstNorm : Cert.FirstNorm.Facts] : Prop :=
  ∀ (m : (ℓ : Loc Cert.FirstNorm.nD Cert.FirstNorm.τ Cert.FirstNorm.sig) → Buf (Elt Bits) ℓ) (g : Dev Cert.FirstNorm.nD → PrngReg), Pre_FirstNorm m →
    θ_run (Cert.FirstNorm.defs (F := Bits)) (onTc (τ := Cert.FirstNorm.τ) (Cert.FirstNorm.main (F := Bits))) ⟨m, fun _ => 0, g⟩ (fun r => (∀ c : Dev Cert.FirstNorm.nD,
      r.2.mem ((c.tc : Thread Cert.FirstNorm.nD Cert.FirstNorm.τ).loc Cert.FirstNorm.main_arg0) = m ((c.tc : Thread Cert.FirstNorm.nD Cert.FirstNorm.τ).loc Cert.FirstNorm.main_arg0)
      ∧ r.2.mem ((c.tc : Thread Cert.FirstNorm.nD Cert.FirstNorm.τ).loc Cert.FirstNorm.main_arg1) = m ((c.tc : Thread Cert.FirstNorm.nD Cert.FirstNorm.τ).loc Cert.FirstNorm.main_arg1)
      ∧ r.2.mem ((c.tc : Thread Cert.FirstNorm.nD Cert.FirstNorm.τ).loc Cert.FirstNorm.main_arg2) = m ((c.tc : Thread Cert.FirstNorm.nD Cert.FirstNorm.τ).loc Cert.FirstNorm.main_arg2)
      ∧ r.2.mem ((c.tc : Thread Cert.FirstNorm.nD Cert.FirstNorm.τ).loc Cert.FirstNorm.main_arg3) = m ((c.tc : Thread Cert.FirstNorm.nD Cert.FirstNorm.τ).loc Cert.FirstNorm.main_arg3))
      ∧ r.2.sem = fun _ => 0)

def quiescent_FirstNormIdeal [hFirstNormIdeal : Cert.FirstNormIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg), Pre_FirstNormIdeal m →
    θ_run (Cert.FirstNormIdeal.defs (F := Ideal)) (onTc (τ := Cert.FirstNormIdeal.τ) (Cert.FirstNormIdeal.main (F := Ideal))) ⟨m, fun _ => 0, g⟩ (fun r => (∀ c : Dev Cert.FirstNormIdeal.nD,
      r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
      ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1)
      ∧ r.2.mem ((c.tc : Thread Cert.FirstNormIdeal.nD Cert.FirstNormIdeal.τ).loc Cert.FirstNormIdeal.main_arg2) = m ((c.tc : Thread Cert.FirstNormIdeal.nD Cert.FirstNormIdeal.τ).loc Cert.FirstNormIdeal.main_arg2)
      ∧ r.2.mem ((c.tc : Thread Cert.FirstNormIdeal.nD Cert.FirstNormIdeal.τ).loc Cert.FirstNormIdeal.main_arg3) = m ((c.tc : Thread Cert.FirstNormIdeal.nD Cert.FirstNormIdeal.τ).loc Cert.FirstNormIdeal.main_arg3))
      ∧ r.2.sem = fun _ => 0)

def quiescent_FirstNormIdeal_pre_finite_first_norm [hFirstNormIdeal : Cert.FirstNormIdeal.Facts] [hPre_finite_first_norm : Cert.Pre_finite_first_norm.Facts] : Prop :=
  ∀ (m : (ℓ : Loc Cert.FirstNormIdeal.nD Cert.FirstNormIdeal.τ Cert.FirstNormIdeal.sig) → Buf (Elt Ideal) ℓ) (g : Dev Cert.FirstNormIdeal.nD → PrngReg), Pre_FirstNormIdeal_finite_first_norm m →
    θ_run (Cert.FirstNormIdeal.defs (F := Ideal)) (onTc (τ := Cert.FirstNormIdeal.τ) (Cert.FirstNormIdeal.main (F := Ideal))) ⟨m, fun _ => 0, g⟩ (fun r => (∀ c : Dev Cert.FirstNormIdeal.nD,
      r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
      ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1)
      ∧ r.2.mem ((c.tc : Thread Cert.FirstNormIdeal.nD Cert.FirstNormIdeal.τ).loc Cert.FirstNormIdeal.main_arg2) = m ((c.tc : Thread Cert.FirstNormIdeal.nD Cert.FirstNormIdeal.τ).loc Cert.FirstNormIdeal.main_arg2)
      ∧ r.2.mem ((c.tc : Thread Cert.FirstNormIdeal.nD Cert.FirstNormIdeal.τ).loc Cert.FirstNormIdeal.main_arg3) = m ((c.tc : Thread Cert.FirstNormIdeal.nD Cert.FirstNormIdeal.τ).loc Cert.FirstNormIdeal.main_arg3))
      ∧ r.2.sem = fun _ => 0)

def quiescent_FirstNormReferenceIdeal [hFirstNormReferenceIdeal : Cert.FirstNormReferenceIdeal.Facts] : Prop :=
  ∀ (m : (ℓ : Loc Cert.FirstNormReferenceIdeal.nD Cert.FirstNormReferenceIdeal.τ Cert.FirstNormReferenceIdeal.sig) → Buf (Elt Ideal) ℓ) (g : Dev Cert.FirstNormReferenceIdeal.nD → PrngReg), Pre_FirstNormReferenceIdeal m →
    θ_run (Cert.FirstNormReferenceIdeal.defs (F := Ideal)) (onTc (τ := Cert.FirstNormReferenceIdeal.τ) (Cert.FirstNormReferenceIdeal.main (F := Ideal))) ⟨m, fun _ => 0, g⟩ (fun r => (∀ c : Dev Cert.FirstNormReferenceIdeal.nD,
      r.2.mem ((c.tc : Thread Cert.FirstNormReferenceIdeal.nD Cert.FirstNormReferenceIdeal.τ).loc Cert.FirstNormReferenceIdeal.main_arg0) = m ((c.tc : Thread Cert.FirstNormReferenceIdeal.nD Cert.FirstNormReferenceIdeal.τ).loc Cert.FirstNormReferenceIdeal.main_arg0)
      ∧ r.2.mem ((c.tc : Thread Cert.FirstNormReferenceIdeal.nD Cert.FirstNormReferenceIdeal.τ).loc Cert.FirstNormReferenceIdeal.main_arg1) = m ((c.tc : Thread Cert.FirstNormReferenceIdeal.nD Cert.FirstNormReferenceIdeal.τ).loc Cert.FirstNormReferenceIdeal.main_arg1)
      ∧ r.2.mem ((c.tc : Thread Cert.FirstNormReferenceIdeal.nD Cert.FirstNormReferenceIdeal.τ).loc Cert.FirstNormReferenceIdeal.main_arg2) = m ((c.tc : Thread Cert.FirstNormReferenceIdeal.nD Cert.FirstNormReferenceIdeal.τ).loc Cert.FirstNormReferenceIdeal.main_arg2)
      ∧ r.2.mem ((c.tc : Thread Cert.FirstNormReferenceIdeal.nD Cert.FirstNormReferenceIdeal.τ).loc Cert.FirstNormReferenceIdeal.main_arg3) = m ((c.tc : Thread Cert.FirstNormReferenceIdeal.nD Cert.FirstNormReferenceIdeal.τ).loc Cert.FirstNormReferenceIdeal.main_arg3))
      ∧ r.2.sem = fun _ => 0)

def quiescent_FirstNormReferenceIdeal_pre_finite_first_norm [hFirstNormReferenceIdeal : Cert.FirstNormReferenceIdeal.Facts] [hPre_finite_first_norm : Cert.Pre_finite_first_norm.Facts] : Prop :=
  ∀ (m : (ℓ : Loc Cert.FirstNormReferenceIdeal.nD Cert.FirstNormReferenceIdeal.τ Cert.FirstNormReferenceIdeal.sig) → Buf (Elt Ideal) ℓ) (g : Dev Cert.FirstNormReferenceIdeal.nD → PrngReg), Pre_FirstNormReferenceIdeal_finite_first_norm m →
    θ_run (Cert.FirstNormReferenceIdeal.defs (F := Ideal)) (onTc (τ := Cert.FirstNormReferenceIdeal.τ) (Cert.FirstNormReferenceIdeal.main (F := Ideal))) ⟨m, fun _ => 0, g⟩ (fun r => (∀ c : Dev Cert.FirstNormReferenceIdeal.nD,
      r.2.mem ((c.tc : Thread Cert.FirstNormReferenceIdeal.nD Cert.FirstNormReferenceIdeal.τ).loc Cert.FirstNormReferenceIdeal.main_arg0) = m ((c.tc : Thread Cert.FirstNormReferenceIdeal.nD Cert.FirstNormReferenceIdeal.τ).loc Cert.FirstNormReferenceIdeal.main_arg0)
      ∧ r.2.mem ((c.tc : Thread Cert.FirstNormReferenceIdeal.nD Cert.FirstNormReferenceIdeal.τ).loc Cert.FirstNormReferenceIdeal.main_arg1) = m ((c.tc : Thread Cert.FirstNormReferenceIdeal.nD Cert.FirstNormReferenceIdeal.τ).loc Cert.FirstNormReferenceIdeal.main_arg1)
      ∧ r.2.mem ((c.tc : Thread Cert.FirstNormReferenceIdeal.nD Cert.FirstNormReferenceIdeal.τ).loc Cert.FirstNormReferenceIdeal.main_arg2) = m ((c.tc : Thread Cert.FirstNormReferenceIdeal.nD Cert.FirstNormReferenceIdeal.τ).loc Cert.FirstNormReferenceIdeal.main_arg2)
      ∧ r.2.mem ((c.tc : Thread Cert.FirstNormReferenceIdeal.nD Cert.FirstNormReferenceIdeal.τ).loc Cert.FirstNormReferenceIdeal.main_arg3) = m ((c.tc : Thread Cert.FirstNormReferenceIdeal.nD Cert.FirstNormReferenceIdeal.τ).loc Cert.FirstNormReferenceIdeal.main_arg3))
      ∧ r.2.sem = fun _ => 0)

def quiescent_MidNorms [hMidNorms : Cert.MidNorms.Facts] : Prop :=
  ∀ (m : (ℓ : Loc Cert.MidNorms.nD Cert.MidNorms.τ Cert.MidNorms.sig) → Buf (Elt Bits) ℓ) (g : Dev Cert.MidNorms.nD → PrngReg), Pre_MidNorms m →
    θ_run (Cert.MidNorms.defs (F := Bits)) (onTc (τ := Cert.MidNorms.τ) (Cert.MidNorms.main (F := Bits))) ⟨m, fun _ => 0, g⟩ (fun r => (∀ c : Dev Cert.MidNorms.nD,
      r.2.mem ((c.tc : Thread Cert.MidNorms.nD Cert.MidNorms.τ).loc Cert.MidNorms.main_arg0) = m ((c.tc : Thread Cert.MidNorms.nD Cert.MidNorms.τ).loc Cert.MidNorms.main_arg0)
      ∧ r.2.mem ((c.tc : Thread Cert.MidNorms.nD Cert.MidNorms.τ).loc Cert.MidNorms.main_arg1) = m ((c.tc : Thread Cert.MidNorms.nD Cert.MidNorms.τ).loc Cert.MidNorms.main_arg1)
      ∧ r.2.mem ((c.tc : Thread Cert.MidNorms.nD Cert.MidNorms.τ).loc Cert.MidNorms.main_arg2) = m ((c.tc : Thread Cert.MidNorms.nD Cert.MidNorms.τ).loc Cert.MidNorms.main_arg2)
      ∧ r.2.mem ((c.tc : Thread Cert.MidNorms.nD Cert.MidNorms.τ).loc Cert.MidNorms.main_arg3) = m ((c.tc : Thread Cert.MidNorms.nD Cert.MidNorms.τ).loc Cert.MidNorms.main_arg3)
      ∧ r.2.mem ((c.tc : Thread Cert.MidNorms.nD Cert.MidNorms.τ).loc Cert.MidNorms.main_arg4) = m ((c.tc : Thread Cert.MidNorms.nD Cert.MidNorms.τ).loc Cert.MidNorms.main_arg4)
      ∧ r.2.mem ((c.tc : Thread Cert.MidNorms.nD Cert.MidNorms.τ).loc Cert.MidNorms.main_arg5) = m ((c.tc : Thread Cert.MidNorms.nD Cert.MidNorms.τ).loc Cert.MidNorms.main_arg5))
      ∧ r.2.sem = fun _ => 0)

def quiescent_MidNormsIdeal [hMidNormsIdeal : Cert.MidNormsIdeal.Facts] : Prop :=
  ∀ (m : (ℓ : Loc Cert.MidNormsIdeal.nD Cert.MidNormsIdeal.τ Cert.MidNormsIdeal.sig) → Buf (Elt Ideal) ℓ) (g : Dev Cert.MidNormsIdeal.nD → PrngReg), Pre_MidNormsIdeal m →
    θ_run (Cert.MidNormsIdeal.defs (F := Ideal)) (onTc (τ := Cert.MidNormsIdeal.τ) (Cert.MidNormsIdeal.main (F := Ideal))) ⟨m, fun _ => 0, g⟩ (fun r => (∀ c : Dev Cert.MidNormsIdeal.nD,
      r.2.mem ((c.tc : Thread Cert.MidNormsIdeal.nD Cert.MidNormsIdeal.τ).loc Cert.MidNormsIdeal.main_arg0) = m ((c.tc : Thread Cert.MidNormsIdeal.nD Cert.MidNormsIdeal.τ).loc Cert.MidNormsIdeal.main_arg0)
      ∧ r.2.mem ((c.tc : Thread Cert.MidNormsIdeal.nD Cert.MidNormsIdeal.τ).loc Cert.MidNormsIdeal.main_arg1) = m ((c.tc : Thread Cert.MidNormsIdeal.nD Cert.MidNormsIdeal.τ).loc Cert.MidNormsIdeal.main_arg1)
      ∧ r.2.mem ((c.tc : Thread Cert.MidNormsIdeal.nD Cert.MidNormsIdeal.τ).loc Cert.MidNormsIdeal.main_arg2) = m ((c.tc : Thread Cert.MidNormsIdeal.nD Cert.MidNormsIdeal.τ).loc Cert.MidNormsIdeal.main_arg2)
      ∧ r.2.mem ((c.tc : Thread Cert.MidNormsIdeal.nD Cert.MidNormsIdeal.τ).loc Cert.MidNormsIdeal.main_arg3) = m ((c.tc : Thread Cert.MidNormsIdeal.nD Cert.MidNormsIdeal.τ).loc Cert.MidNormsIdeal.main_arg3)
      ∧ r.2.mem ((c.tc : Thread Cert.MidNormsIdeal.nD Cert.MidNormsIdeal.τ).loc Cert.MidNormsIdeal.main_arg4) = m ((c.tc : Thread Cert.MidNormsIdeal.nD Cert.MidNormsIdeal.τ).loc Cert.MidNormsIdeal.main_arg4)
      ∧ r.2.mem ((c.tc : Thread Cert.MidNormsIdeal.nD Cert.MidNormsIdeal.τ).loc Cert.MidNormsIdeal.main_arg5) = m ((c.tc : Thread Cert.MidNormsIdeal.nD Cert.MidNormsIdeal.τ).loc Cert.MidNormsIdeal.main_arg5))
      ∧ r.2.sem = fun _ => 0)

def quiescent_MidNormsIdeal_pre_finite_mid_norms [hMidNormsIdeal : Cert.MidNormsIdeal.Facts] [hPre_finite_mid_norms : Cert.Pre_finite_mid_norms.Facts] : Prop :=
  ∀ (m : (ℓ : Loc Cert.MidNormsIdeal.nD Cert.MidNormsIdeal.τ Cert.MidNormsIdeal.sig) → Buf (Elt Ideal) ℓ) (g : Dev Cert.MidNormsIdeal.nD → PrngReg), Pre_MidNormsIdeal_finite_mid_norms m →
    θ_run (Cert.MidNormsIdeal.defs (F := Ideal)) (onTc (τ := Cert.MidNormsIdeal.τ) (Cert.MidNormsIdeal.main (F := Ideal))) ⟨m, fun _ => 0, g⟩ (fun r => (∀ c : Dev Cert.MidNormsIdeal.nD,
      r.2.mem ((c.tc : Thread Cert.MidNormsIdeal.nD Cert.MidNormsIdeal.τ).loc Cert.MidNormsIdeal.main_arg0) = m ((c.tc : Thread Cert.MidNormsIdeal.nD Cert.MidNormsIdeal.τ).loc Cert.MidNormsIdeal.main_arg0)
      ∧ r.2.mem ((c.tc : Thread Cert.MidNormsIdeal.nD Cert.MidNormsIdeal.τ).loc Cert.MidNormsIdeal.main_arg1) = m ((c.tc : Thread Cert.MidNormsIdeal.nD Cert.MidNormsIdeal.τ).loc Cert.MidNormsIdeal.main_arg1)
      ∧ r.2.mem ((c.tc : Thread Cert.MidNormsIdeal.nD Cert.MidNormsIdeal.τ).loc Cert.MidNormsIdeal.main_arg2) = m ((c.tc : Thread Cert.MidNormsIdeal.nD Cert.MidNormsIdeal.τ).loc Cert.MidNormsIdeal.main_arg2)
      ∧ r.2.mem ((c.tc : Thread Cert.MidNormsIdeal.nD Cert.MidNormsIdeal.τ).loc Cert.MidNormsIdeal.main_arg3) = m ((c.tc : Thread Cert.MidNormsIdeal.nD Cert.MidNormsIdeal.τ).loc Cert.MidNormsIdeal.main_arg3)
      ∧ r.2.mem ((c.tc : Thread Cert.MidNormsIdeal.nD Cert.MidNormsIdeal.τ).loc Cert.MidNormsIdeal.main_arg4) = m ((c.tc : Thread Cert.MidNormsIdeal.nD Cert.MidNormsIdeal.τ).loc Cert.MidNormsIdeal.main_arg4)
      ∧ r.2.mem ((c.tc : Thread Cert.MidNormsIdeal.nD Cert.MidNormsIdeal.τ).loc Cert.MidNormsIdeal.main_arg5) = m ((c.tc : Thread Cert.MidNormsIdeal.nD Cert.MidNormsIdeal.τ).loc Cert.MidNormsIdeal.main_arg5))
      ∧ r.2.sem = fun _ => 0)

def quiescent_MidNormsReferenceIdeal [hMidNormsReferenceIdeal : Cert.MidNormsReferenceIdeal.Facts] : Prop :=
  ∀ (m : (ℓ : Loc Cert.MidNormsReferenceIdeal.nD Cert.MidNormsReferenceIdeal.τ Cert.MidNormsReferenceIdeal.sig) → Buf (Elt Ideal) ℓ) (g : Dev Cert.MidNormsReferenceIdeal.nD → PrngReg), Pre_MidNormsReferenceIdeal m →
    θ_run (Cert.MidNormsReferenceIdeal.defs (F := Ideal)) (onTc (τ := Cert.MidNormsReferenceIdeal.τ) (Cert.MidNormsReferenceIdeal.main (F := Ideal))) ⟨m, fun _ => 0, g⟩ (fun r => (∀ c : Dev Cert.MidNormsReferenceIdeal.nD,
      r.2.mem ((c.tc : Thread Cert.MidNormsReferenceIdeal.nD Cert.MidNormsReferenceIdeal.τ).loc Cert.MidNormsReferenceIdeal.main_arg0) = m ((c.tc : Thread Cert.MidNormsReferenceIdeal.nD Cert.MidNormsReferenceIdeal.τ).loc Cert.MidNormsReferenceIdeal.main_arg0)
      ∧ r.2.mem ((c.tc : Thread Cert.MidNormsReferenceIdeal.nD Cert.MidNormsReferenceIdeal.τ).loc Cert.MidNormsReferenceIdeal.main_arg1) = m ((c.tc : Thread Cert.MidNormsReferenceIdeal.nD Cert.MidNormsReferenceIdeal.τ).loc Cert.MidNormsReferenceIdeal.main_arg1)
      ∧ r.2.mem ((c.tc : Thread Cert.MidNormsReferenceIdeal.nD Cert.MidNormsReferenceIdeal.τ).loc Cert.MidNormsReferenceIdeal.main_arg2) = m ((c.tc : Thread Cert.MidNormsReferenceIdeal.nD Cert.MidNormsReferenceIdeal.τ).loc Cert.MidNormsReferenceIdeal.main_arg2)
      ∧ r.2.mem ((c.tc : Thread Cert.MidNormsReferenceIdeal.nD Cert.MidNormsReferenceIdeal.τ).loc Cert.MidNormsReferenceIdeal.main_arg3) = m ((c.tc : Thread Cert.MidNormsReferenceIdeal.nD Cert.MidNormsReferenceIdeal.τ).loc Cert.MidNormsReferenceIdeal.main_arg3)
      ∧ r.2.mem ((c.tc : Thread Cert.MidNormsReferenceIdeal.nD Cert.MidNormsReferenceIdeal.τ).loc Cert.MidNormsReferenceIdeal.main_arg4) = m ((c.tc : Thread Cert.MidNormsReferenceIdeal.nD Cert.MidNormsReferenceIdeal.τ).loc Cert.MidNormsReferenceIdeal.main_arg4)
      ∧ r.2.mem ((c.tc : Thread Cert.MidNormsReferenceIdeal.nD Cert.MidNormsReferenceIdeal.τ).loc Cert.MidNormsReferenceIdeal.main_arg5) = m ((c.tc : Thread Cert.MidNormsReferenceIdeal.nD Cert.MidNormsReferenceIdeal.τ).loc Cert.MidNormsReferenceIdeal.main_arg5))
      ∧ r.2.sem = fun _ => 0)

def quiescent_MidNormsReferenceIdeal_pre_finite_mid_norms [hMidNormsReferenceIdeal : Cert.MidNormsReferenceIdeal.Facts] [hPre_finite_mid_norms : Cert.Pre_finite_mid_norms.Facts] : Prop :=
  ∀ (m : (ℓ : Loc Cert.MidNormsReferenceIdeal.nD Cert.MidNormsReferenceIdeal.τ Cert.MidNormsReferenceIdeal.sig) → Buf (Elt Ideal) ℓ) (g : Dev Cert.MidNormsReferenceIdeal.nD → PrngReg), Pre_MidNormsReferenceIdeal_finite_mid_norms m →
    θ_run (Cert.MidNormsReferenceIdeal.defs (F := Ideal)) (onTc (τ := Cert.MidNormsReferenceIdeal.τ) (Cert.MidNormsReferenceIdeal.main (F := Ideal))) ⟨m, fun _ => 0, g⟩ (fun r => (∀ c : Dev Cert.MidNormsReferenceIdeal.nD,
      r.2.mem ((c.tc : Thread Cert.MidNormsReferenceIdeal.nD Cert.MidNormsReferenceIdeal.τ).loc Cert.MidNormsReferenceIdeal.main_arg0) = m ((c.tc : Thread Cert.MidNormsReferenceIdeal.nD Cert.MidNormsReferenceIdeal.τ).loc Cert.MidNormsReferenceIdeal.main_arg0)
      ∧ r.2.mem ((c.tc : Thread Cert.MidNormsReferenceIdeal.nD Cert.MidNormsReferenceIdeal.τ).loc Cert.MidNormsReferenceIdeal.main_arg1) = m ((c.tc : Thread Cert.MidNormsReferenceIdeal.nD Cert.MidNormsReferenceIdeal.τ).loc Cert.MidNormsReferenceIdeal.main_arg1)
      ∧ r.2.mem ((c.tc : Thread Cert.MidNormsReferenceIdeal.nD Cert.MidNormsReferenceIdeal.τ).loc Cert.MidNormsReferenceIdeal.main_arg2) = m ((c.tc : Thread Cert.MidNormsReferenceIdeal.nD Cert.MidNormsReferenceIdeal.τ).loc Cert.MidNormsReferenceIdeal.main_arg2)
      ∧ r.2.mem ((c.tc : Thread Cert.MidNormsReferenceIdeal.nD Cert.MidNormsReferenceIdeal.τ).loc Cert.MidNormsReferenceIdeal.main_arg3) = m ((c.tc : Thread Cert.MidNormsReferenceIdeal.nD Cert.MidNormsReferenceIdeal.τ).loc Cert.MidNormsReferenceIdeal.main_arg3)
      ∧ r.2.mem ((c.tc : Thread Cert.MidNormsReferenceIdeal.nD Cert.MidNormsReferenceIdeal.τ).loc Cert.MidNormsReferenceIdeal.main_arg4) = m ((c.tc : Thread Cert.MidNormsReferenceIdeal.nD Cert.MidNormsReferenceIdeal.τ).loc Cert.MidNormsReferenceIdeal.main_arg4)
      ∧ r.2.mem ((c.tc : Thread Cert.MidNormsReferenceIdeal.nD Cert.MidNormsReferenceIdeal.τ).loc Cert.MidNormsReferenceIdeal.main_arg5) = m ((c.tc : Thread Cert.MidNormsReferenceIdeal.nD Cert.MidNormsReferenceIdeal.τ).loc Cert.MidNormsReferenceIdeal.main_arg5))
      ∧ r.2.sem = fun _ => 0)

def quiescent_LossDx [hLossDx : Cert.LossDx.Facts] : Prop :=
  ∀ (m : (ℓ : Loc Cert.LossDx.nD Cert.LossDx.τ Cert.LossDx.sig) → Buf (Elt Bits) ℓ) (g : Dev Cert.LossDx.nD → PrngReg), Pre_LossDx m →
    θ_run (Cert.LossDx.defs (F := Bits)) (onTc (τ := Cert.LossDx.τ) (Cert.LossDx.main (F := Bits))) ⟨m, fun _ => 0, g⟩ (fun r => (∀ c : Dev Cert.LossDx.nD,
      r.2.mem ((c.tc : Thread Cert.LossDx.nD Cert.LossDx.τ).loc Cert.LossDx.main_arg0) = m ((c.tc : Thread Cert.LossDx.nD Cert.LossDx.τ).loc Cert.LossDx.main_arg0)
      ∧ r.2.mem ((c.tc : Thread Cert.LossDx.nD Cert.LossDx.τ).loc Cert.LossDx.main_arg1) = m ((c.tc : Thread Cert.LossDx.nD Cert.LossDx.τ).loc Cert.LossDx.main_arg1)
      ∧ r.2.mem ((c.tc : Thread Cert.LossDx.nD Cert.LossDx.τ).loc Cert.LossDx.main_arg2) = m ((c.tc : Thread Cert.LossDx.nD Cert.LossDx.τ).loc Cert.LossDx.main_arg2)
      ∧ r.2.mem ((c.tc : Thread Cert.LossDx.nD Cert.LossDx.τ).loc Cert.LossDx.main_arg3) = m ((c.tc : Thread Cert.LossDx.nD Cert.LossDx.τ).loc Cert.LossDx.main_arg3)
      ∧ r.2.mem ((c.tc : Thread Cert.LossDx.nD Cert.LossDx.τ).loc Cert.LossDx.main_arg4) = m ((c.tc : Thread Cert.LossDx.nD Cert.LossDx.τ).loc Cert.LossDx.main_arg4)
      ∧ r.2.mem ((c.tc : Thread Cert.LossDx.nD Cert.LossDx.τ).loc Cert.LossDx.main_arg5) = m ((c.tc : Thread Cert.LossDx.nD Cert.LossDx.τ).loc Cert.LossDx.main_arg5))
      ∧ r.2.sem = fun _ => 0)

def quiescent_LossDxIdeal [hLossDxIdeal : Cert.LossDxIdeal.Facts] : Prop :=
  ∀ (m : (ℓ : Loc Cert.LossDxIdeal.nD Cert.LossDxIdeal.τ Cert.LossDxIdeal.sig) → Buf (Elt Ideal) ℓ) (g : Dev Cert.LossDxIdeal.nD → PrngReg), Pre_LossDxIdeal m →
    θ_run (Cert.LossDxIdeal.defs (F := Ideal)) (onTc (τ := Cert.LossDxIdeal.τ) (Cert.LossDxIdeal.main (F := Ideal))) ⟨m, fun _ => 0, g⟩ (fun r => (∀ c : Dev Cert.LossDxIdeal.nD,
      r.2.mem ((c.tc : Thread Cert.LossDxIdeal.nD Cert.LossDxIdeal.τ).loc Cert.LossDxIdeal.main_arg0) = m ((c.tc : Thread Cert.LossDxIdeal.nD Cert.LossDxIdeal.τ).loc Cert.LossDxIdeal.main_arg0)
      ∧ r.2.mem ((c.tc : Thread Cert.LossDxIdeal.nD Cert.LossDxIdeal.τ).loc Cert.LossDxIdeal.main_arg1) = m ((c.tc : Thread Cert.LossDxIdeal.nD Cert.LossDxIdeal.τ).loc Cert.LossDxIdeal.main_arg1)
      ∧ r.2.mem ((c.tc : Thread Cert.LossDxIdeal.nD Cert.LossDxIdeal.τ).loc Cert.LossDxIdeal.main_arg2) = m ((c.tc : Thread Cert.LossDxIdeal.nD Cert.LossDxIdeal.τ).loc Cert.LossDxIdeal.main_arg2)
      ∧ r.2.mem ((c.tc : Thread Cert.LossDxIdeal.nD Cert.LossDxIdeal.τ).loc Cert.LossDxIdeal.main_arg3) = m ((c.tc : Thread Cert.LossDxIdeal.nD Cert.LossDxIdeal.τ).loc Cert.LossDxIdeal.main_arg3)
      ∧ r.2.mem ((c.tc : Thread Cert.LossDxIdeal.nD Cert.LossDxIdeal.τ).loc Cert.LossDxIdeal.main_arg4) = m ((c.tc : Thread Cert.LossDxIdeal.nD Cert.LossDxIdeal.τ).loc Cert.LossDxIdeal.main_arg4)
      ∧ r.2.mem ((c.tc : Thread Cert.LossDxIdeal.nD Cert.LossDxIdeal.τ).loc Cert.LossDxIdeal.main_arg5) = m ((c.tc : Thread Cert.LossDxIdeal.nD Cert.LossDxIdeal.τ).loc Cert.LossDxIdeal.main_arg5))
      ∧ r.2.sem = fun _ => 0)

def quiescent_LossDxIdeal_pre_finite_loss [hLossDxIdeal : Cert.LossDxIdeal.Facts] [hPre_finite_loss : Cert.Pre_finite_loss.Facts] : Prop :=
  ∀ (m : (ℓ : Loc Cert.LossDxIdeal.nD Cert.LossDxIdeal.τ Cert.LossDxIdeal.sig) → Buf (Elt Ideal) ℓ) (g : Dev Cert.LossDxIdeal.nD → PrngReg), Pre_LossDxIdeal_finite_loss m →
    θ_run (Cert.LossDxIdeal.defs (F := Ideal)) (onTc (τ := Cert.LossDxIdeal.τ) (Cert.LossDxIdeal.main (F := Ideal))) ⟨m, fun _ => 0, g⟩ (fun r => (∀ c : Dev Cert.LossDxIdeal.nD,
      r.2.mem ((c.tc : Thread Cert.LossDxIdeal.nD Cert.LossDxIdeal.τ).loc Cert.LossDxIdeal.main_arg0) = m ((c.tc : Thread Cert.LossDxIdeal.nD Cert.LossDxIdeal.τ).loc Cert.LossDxIdeal.main_arg0)
      ∧ r.2.mem ((c.tc : Thread Cert.LossDxIdeal.nD Cert.LossDxIdeal.τ).loc Cert.LossDxIdeal.main_arg1) = m ((c.tc : Thread Cert.LossDxIdeal.nD Cert.LossDxIdeal.τ).loc Cert.LossDxIdeal.main_arg1)
      ∧ r.2.mem ((c.tc : Thread Cert.LossDxIdeal.nD Cert.LossDxIdeal.τ).loc Cert.LossDxIdeal.main_arg2) = m ((c.tc : Thread Cert.LossDxIdeal.nD Cert.LossDxIdeal.τ).loc Cert.LossDxIdeal.main_arg2)
      ∧ r.2.mem ((c.tc : Thread Cert.LossDxIdeal.nD Cert.LossDxIdeal.τ).loc Cert.LossDxIdeal.main_arg3) = m ((c.tc : Thread Cert.LossDxIdeal.nD Cert.LossDxIdeal.τ).loc Cert.LossDxIdeal.main_arg3)
      ∧ r.2.mem ((c.tc : Thread Cert.LossDxIdeal.nD Cert.LossDxIdeal.τ).loc Cert.LossDxIdeal.main_arg4) = m ((c.tc : Thread Cert.LossDxIdeal.nD Cert.LossDxIdeal.τ).loc Cert.LossDxIdeal.main_arg4)
      ∧ r.2.mem ((c.tc : Thread Cert.LossDxIdeal.nD Cert.LossDxIdeal.τ).loc Cert.LossDxIdeal.main_arg5) = m ((c.tc : Thread Cert.LossDxIdeal.nD Cert.LossDxIdeal.τ).loc Cert.LossDxIdeal.main_arg5))
      ∧ r.2.sem = fun _ => 0)

def quiescent_LossDxReferenceIdeal [hLossDxReferenceIdeal : Cert.LossDxReferenceIdeal.Facts] : Prop :=
  ∀ (m : (ℓ : Loc Cert.LossDxReferenceIdeal.nD Cert.LossDxReferenceIdeal.τ Cert.LossDxReferenceIdeal.sig) → Buf (Elt Ideal) ℓ) (g : Dev Cert.LossDxReferenceIdeal.nD → PrngReg), Pre_LossDxReferenceIdeal m →
    θ_run (Cert.LossDxReferenceIdeal.defs (F := Ideal)) (onTc (τ := Cert.LossDxReferenceIdeal.τ) (Cert.LossDxReferenceIdeal.main (F := Ideal))) ⟨m, fun _ => 0, g⟩ (fun r => (∀ c : Dev Cert.LossDxReferenceIdeal.nD,
      r.2.mem ((c.tc : Thread Cert.LossDxReferenceIdeal.nD Cert.LossDxReferenceIdeal.τ).loc Cert.LossDxReferenceIdeal.main_arg0) = m ((c.tc : Thread Cert.LossDxReferenceIdeal.nD Cert.LossDxReferenceIdeal.τ).loc Cert.LossDxReferenceIdeal.main_arg0)
      ∧ r.2.mem ((c.tc : Thread Cert.LossDxReferenceIdeal.nD Cert.LossDxReferenceIdeal.τ).loc Cert.LossDxReferenceIdeal.main_arg1) = m ((c.tc : Thread Cert.LossDxReferenceIdeal.nD Cert.LossDxReferenceIdeal.τ).loc Cert.LossDxReferenceIdeal.main_arg1)
      ∧ r.2.mem ((c.tc : Thread Cert.LossDxReferenceIdeal.nD Cert.LossDxReferenceIdeal.τ).loc Cert.LossDxReferenceIdeal.main_arg2) = m ((c.tc : Thread Cert.LossDxReferenceIdeal.nD Cert.LossDxReferenceIdeal.τ).loc Cert.LossDxReferenceIdeal.main_arg2)
      ∧ r.2.mem ((c.tc : Thread Cert.LossDxReferenceIdeal.nD Cert.LossDxReferenceIdeal.τ).loc Cert.LossDxReferenceIdeal.main_arg3) = m ((c.tc : Thread Cert.LossDxReferenceIdeal.nD Cert.LossDxReferenceIdeal.τ).loc Cert.LossDxReferenceIdeal.main_arg3)
      ∧ r.2.mem ((c.tc : Thread Cert.LossDxReferenceIdeal.nD Cert.LossDxReferenceIdeal.τ).loc Cert.LossDxReferenceIdeal.main_arg4) = m ((c.tc : Thread Cert.LossDxReferenceIdeal.nD Cert.LossDxReferenceIdeal.τ).loc Cert.LossDxReferenceIdeal.main_arg4)
      ∧ r.2.mem ((c.tc : Thread Cert.LossDxReferenceIdeal.nD Cert.LossDxReferenceIdeal.τ).loc Cert.LossDxReferenceIdeal.main_arg5) = m ((c.tc : Thread Cert.LossDxReferenceIdeal.nD Cert.LossDxReferenceIdeal.τ).loc Cert.LossDxReferenceIdeal.main_arg5))
      ∧ r.2.sem = fun _ => 0)

def quiescent_LossDxReferenceIdeal_pre_finite_loss [hLossDxReferenceIdeal : Cert.LossDxReferenceIdeal.Facts] [hPre_finite_loss : Cert.Pre_finite_loss.Facts] : Prop :=
  ∀ (m : (ℓ : Loc Cert.LossDxReferenceIdeal.nD Cert.LossDxReferenceIdeal.τ Cert.LossDxReferenceIdeal.sig) → Buf (Elt Ideal) ℓ) (g : Dev Cert.LossDxReferenceIdeal.nD → PrngReg), Pre_LossDxReferenceIdeal_finite_loss m →
    θ_run (Cert.LossDxReferenceIdeal.defs (F := Ideal)) (onTc (τ := Cert.LossDxReferenceIdeal.τ) (Cert.LossDxReferenceIdeal.main (F := Ideal))) ⟨m, fun _ => 0, g⟩ (fun r => (∀ c : Dev Cert.LossDxReferenceIdeal.nD,
      r.2.mem ((c.tc : Thread Cert.LossDxReferenceIdeal.nD Cert.LossDxReferenceIdeal.τ).loc Cert.LossDxReferenceIdeal.main_arg0) = m ((c.tc : Thread Cert.LossDxReferenceIdeal.nD Cert.LossDxReferenceIdeal.τ).loc Cert.LossDxReferenceIdeal.main_arg0)
      ∧ r.2.mem ((c.tc : Thread Cert.LossDxReferenceIdeal.nD Cert.LossDxReferenceIdeal.τ).loc Cert.LossDxReferenceIdeal.main_arg1) = m ((c.tc : Thread Cert.LossDxReferenceIdeal.nD Cert.LossDxReferenceIdeal.τ).loc Cert.LossDxReferenceIdeal.main_arg1)
      ∧ r.2.mem ((c.tc : Thread Cert.LossDxReferenceIdeal.nD Cert.LossDxReferenceIdeal.τ).loc Cert.LossDxReferenceIdeal.main_arg2) = m ((c.tc : Thread Cert.LossDxReferenceIdeal.nD Cert.LossDxReferenceIdeal.τ).loc Cert.LossDxReferenceIdeal.main_arg2)
      ∧ r.2.mem ((c.tc : Thread Cert.LossDxReferenceIdeal.nD Cert.LossDxReferenceIdeal.τ).loc Cert.LossDxReferenceIdeal.main_arg3) = m ((c.tc : Thread Cert.LossDxReferenceIdeal.nD Cert.LossDxReferenceIdeal.τ).loc Cert.LossDxReferenceIdeal.main_arg3)
      ∧ r.2.mem ((c.tc : Thread Cert.LossDxReferenceIdeal.nD Cert.LossDxReferenceIdeal.τ).loc Cert.LossDxReferenceIdeal.main_arg4) = m ((c.tc : Thread Cert.LossDxReferenceIdeal.nD Cert.LossDxReferenceIdeal.τ).loc Cert.LossDxReferenceIdeal.main_arg4)
      ∧ r.2.mem ((c.tc : Thread Cert.LossDxReferenceIdeal.nD Cert.LossDxReferenceIdeal.τ).loc Cert.LossDxReferenceIdeal.main_arg5) = m ((c.tc : Thread Cert.LossDxReferenceIdeal.nD Cert.LossDxReferenceIdeal.τ).loc Cert.LossDxReferenceIdeal.main_arg5))
      ∧ r.2.sem = fun _ => 0)

def quiescent_FirstNormFwd [hFirstNormFwd : Cert.FirstNormFwd.Facts] : Prop :=
  ∀ (m : (ℓ : Loc Cert.FirstNormFwd.nD Cert.FirstNormFwd.τ Cert.FirstNormFwd.sig) → Buf (Elt Bits) ℓ) (g : Dev Cert.FirstNormFwd.nD → PrngReg), Pre_FirstNormFwd m →
    θ_run (Cert.FirstNormFwd.defs (F := Bits)) (onTc (τ := Cert.FirstNormFwd.τ) (Cert.FirstNormFwd.main (F := Bits))) ⟨m, fun _ => 0, g⟩ (fun r => (∀ c : Dev Cert.FirstNormFwd.nD,
      r.2.mem ((c.tc : Thread Cert.FirstNormFwd.nD Cert.FirstNormFwd.τ).loc Cert.FirstNormFwd.main_arg0) = m ((c.tc : Thread Cert.FirstNormFwd.nD Cert.FirstNormFwd.τ).loc Cert.FirstNormFwd.main_arg0)
      ∧ r.2.mem ((c.tc : Thread Cert.FirstNormFwd.nD Cert.FirstNormFwd.τ).loc Cert.FirstNormFwd.main_arg1) = m ((c.tc : Thread Cert.FirstNormFwd.nD Cert.FirstNormFwd.τ).loc Cert.FirstNormFwd.main_arg1))
      ∧ r.2.sem = fun _ => 0)

def quiescent_FirstNormFwdIdeal [hFirstNormFwdIdeal : Cert.FirstNormFwdIdeal.Facts] : Prop :=
  ∀ (m : (ℓ : Loc Cert.FirstNormFwdIdeal.nD Cert.FirstNormFwdIdeal.τ Cert.FirstNormFwdIdeal.sig) → Buf (Elt Ideal) ℓ) (g : Dev Cert.FirstNormFwdIdeal.nD → PrngReg), Pre_FirstNormFwdIdeal m →
    θ_run (Cert.FirstNormFwdIdeal.defs (F := Ideal)) (onTc (τ := Cert.FirstNormFwdIdeal.τ) (Cert.FirstNormFwdIdeal.main (F := Ideal))) ⟨m, fun _ => 0, g⟩ (fun r => (∀ c : Dev Cert.FirstNormFwdIdeal.nD,
      r.2.mem ((c.tc : Thread Cert.FirstNormFwdIdeal.nD Cert.FirstNormFwdIdeal.τ).loc Cert.FirstNormFwdIdeal.main_arg0) = m ((c.tc : Thread Cert.FirstNormFwdIdeal.nD Cert.FirstNormFwdIdeal.τ).loc Cert.FirstNormFwdIdeal.main_arg0)
      ∧ r.2.mem ((c.tc : Thread Cert.FirstNormFwdIdeal.nD Cert.FirstNormFwdIdeal.τ).loc Cert.FirstNormFwdIdeal.main_arg1) = m ((c.tc : Thread Cert.FirstNormFwdIdeal.nD Cert.FirstNormFwdIdeal.τ).loc Cert.FirstNormFwdIdeal.main_arg1))
      ∧ r.2.sem = fun _ => 0)

def quiescent_FirstNormFwdReferenceIdeal [hFirstNormFwdReferenceIdeal : Cert.FirstNormFwdReferenceIdeal.Facts] : Prop :=
  ∀ (m : (ℓ : Loc Cert.FirstNormFwdReferenceIdeal.nD Cert.FirstNormFwdReferenceIdeal.τ Cert.FirstNormFwdReferenceIdeal.sig) → Buf (Elt Ideal) ℓ) (g : Dev Cert.FirstNormFwdReferenceIdeal.nD → PrngReg), Pre_FirstNormFwdReferenceIdeal m →
    θ_run (Cert.FirstNormFwdReferenceIdeal.defs (F := Ideal)) (onTc (τ := Cert.FirstNormFwdReferenceIdeal.τ) (Cert.FirstNormFwdReferenceIdeal.main (F := Ideal))) ⟨m, fun _ => 0, g⟩ (fun r => (∀ c : Dev Cert.FirstNormFwdReferenceIdeal.nD,
      r.2.mem ((c.tc : Thread Cert.FirstNormFwdReferenceIdeal.nD Cert.FirstNormFwdReferenceIdeal.τ).loc Cert.FirstNormFwdReferenceIdeal.main_arg0) = m ((c.tc : Thread Cert.FirstNormFwdReferenceIdeal.nD Cert.FirstNormFwdReferenceIdeal.τ).loc Cert.FirstNormFwdReferenceIdeal.main_arg0)
      ∧ r.2.mem ((c.tc : Thread Cert.FirstNormFwdReferenceIdeal.nD Cert.FirstNormFwdReferenceIdeal.τ).loc Cert.FirstNormFwdReferenceIdeal.main_arg1) = m ((c.tc : Thread Cert.FirstNormFwdReferenceIdeal.nD Cert.FirstNormFwdReferenceIdeal.τ).loc Cert.FirstNormFwdReferenceIdeal.main_arg1))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5))
      ∧ r.2.sem = fun _ => 0)

def quiescent_EvenOutReferenceIdeal [hEvenOutReferenceIdeal : Cert.EvenOutReferenceIdeal.Facts] : Prop :=
  ∀ (m : (ℓ : Loc Cert.EvenOutReferenceIdeal.nD Cert.EvenOutReferenceIdeal.τ Cert.EvenOutReferenceIdeal.sig) → Buf (Elt Ideal) ℓ) (g : Dev Cert.EvenOutReferenceIdeal.nD → PrngReg), Pre_EvenOutReferenceIdeal m →
    θ_run (Cert.EvenOutReferenceIdeal.defs (F := Ideal)) (onTc (τ := Cert.EvenOutReferenceIdeal.τ) (Cert.EvenOutReferenceIdeal.main (F := Ideal))) ⟨m, fun _ => 0, g⟩ (fun r => (∀ c : Dev Cert.EvenOutReferenceIdeal.nD,
      r.2.mem ((c.tc : Thread Cert.EvenOutReferenceIdeal.nD Cert.EvenOutReferenceIdeal.τ).loc Cert.EvenOutReferenceIdeal.main_arg0) = m ((c.tc : Thread Cert.EvenOutReferenceIdeal.nD Cert.EvenOutReferenceIdeal.τ).loc Cert.EvenOutReferenceIdeal.main_arg0)
      ∧ r.2.mem ((c.tc : Thread Cert.EvenOutReferenceIdeal.nD Cert.EvenOutReferenceIdeal.τ).loc Cert.EvenOutReferenceIdeal.main_arg1) = m ((c.tc : Thread Cert.EvenOutReferenceIdeal.nD Cert.EvenOutReferenceIdeal.τ).loc Cert.EvenOutReferenceIdeal.main_arg1)
      ∧ r.2.mem ((c.tc : Thread Cert.EvenOutReferenceIdeal.nD Cert.EvenOutReferenceIdeal.τ).loc Cert.EvenOutReferenceIdeal.main_arg2) = m ((c.tc : Thread Cert.EvenOutReferenceIdeal.nD Cert.EvenOutReferenceIdeal.τ).loc Cert.EvenOutReferenceIdeal.main_arg2)
      ∧ r.2.mem ((c.tc : Thread Cert.EvenOutReferenceIdeal.nD Cert.EvenOutReferenceIdeal.τ).loc Cert.EvenOutReferenceIdeal.main_arg3) = m ((c.tc : Thread Cert.EvenOutReferenceIdeal.nD Cert.EvenOutReferenceIdeal.τ).loc Cert.EvenOutReferenceIdeal.main_arg3)
      ∧ r.2.mem ((c.tc : Thread Cert.EvenOutReferenceIdeal.nD Cert.EvenOutReferenceIdeal.τ).loc Cert.EvenOutReferenceIdeal.main_arg4) = m ((c.tc : Thread Cert.EvenOutReferenceIdeal.nD Cert.EvenOutReferenceIdeal.τ).loc Cert.EvenOutReferenceIdeal.main_arg4)
      ∧ r.2.mem ((c.tc : Thread Cert.EvenOutReferenceIdeal.nD Cert.EvenOutReferenceIdeal.τ).loc Cert.EvenOutReferenceIdeal.main_arg5) = m ((c.tc : Thread Cert.EvenOutReferenceIdeal.nD Cert.EvenOutReferenceIdeal.τ).loc Cert.EvenOutReferenceIdeal.main_arg5))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdIdeal_pre_finite_pool [hPoolFwdIdeal : Cert.PoolFwdIdeal.Facts] [hPre_finite_pool : Cert.Pre_finite_pool.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_finite_pool m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdReferenceIdeal [hPoolFwdReferenceIdeal : Cert.PoolFwdReferenceIdeal.Facts] : Prop :=
  ∀ (m : (ℓ : Loc Cert.PoolFwdReferenceIdeal.nD Cert.PoolFwdReferenceIdeal.τ Cert.PoolFwdReferenceIdeal.sig) → Buf (Elt Ideal) ℓ) (g : Dev Cert.PoolFwdReferenceIdeal.nD → PrngReg), Pre_PoolFwdReferenceIdeal m →
    θ_run (Cert.PoolFwdReferenceIdeal.defs (F := Ideal)) (onTc (τ := Cert.PoolFwdReferenceIdeal.τ) (Cert.PoolFwdReferenceIdeal.main (F := Ideal))) ⟨m, fun _ => 0, g⟩ (fun r => (∀ c : Dev Cert.PoolFwdReferenceIdeal.nD,
      r.2.mem ((c.tc : Thread Cert.PoolFwdReferenceIdeal.nD Cert.PoolFwdReferenceIdeal.τ).loc Cert.PoolFwdReferenceIdeal.main_arg0) = m ((c.tc : Thread Cert.PoolFwdReferenceIdeal.nD Cert.PoolFwdReferenceIdeal.τ).loc Cert.PoolFwdReferenceIdeal.main_arg0)
      ∧ r.2.mem ((c.tc : Thread Cert.PoolFwdReferenceIdeal.nD Cert.PoolFwdReferenceIdeal.τ).loc Cert.PoolFwdReferenceIdeal.main_arg1) = m ((c.tc : Thread Cert.PoolFwdReferenceIdeal.nD Cert.PoolFwdReferenceIdeal.τ).loc Cert.PoolFwdReferenceIdeal.main_arg1)
      ∧ r.2.mem ((c.tc : Thread Cert.PoolFwdReferenceIdeal.nD Cert.PoolFwdReferenceIdeal.τ).loc Cert.PoolFwdReferenceIdeal.main_arg2) = m ((c.tc : Thread Cert.PoolFwdReferenceIdeal.nD Cert.PoolFwdReferenceIdeal.τ).loc Cert.PoolFwdReferenceIdeal.main_arg2))
      ∧ r.2.sem = fun _ => 0)

def quiescent_PoolFwdReferenceIdeal_pre_finite_pool [hPoolFwdReferenceIdeal : Cert.PoolFwdReferenceIdeal.Facts] [hPre_finite_pool : Cert.Pre_finite_pool.Facts] : Prop :=
  ∀ (m : (ℓ : Loc Cert.PoolFwdReferenceIdeal.nD Cert.PoolFwdReferenceIdeal.τ Cert.PoolFwdReferenceIdeal.sig) → Buf (Elt Ideal) ℓ) (g : Dev Cert.PoolFwdReferenceIdeal.nD → PrngReg), Pre_PoolFwdReferenceIdeal_finite_pool m →
    θ_run (Cert.PoolFwdReferenceIdeal.defs (F := Ideal)) (onTc (τ := Cert.PoolFwdReferenceIdeal.τ) (Cert.PoolFwdReferenceIdeal.main (F := Ideal))) ⟨m, fun _ => 0, g⟩ (fun r => (∀ c : Dev Cert.PoolFwdReferenceIdeal.nD,
      r.2.mem ((c.tc : Thread Cert.PoolFwdReferenceIdeal.nD Cert.PoolFwdReferenceIdeal.τ).loc Cert.PoolFwdReferenceIdeal.main_arg0) = m ((c.tc : Thread Cert.PoolFwdReferenceIdeal.nD Cert.PoolFwdReferenceIdeal.τ).loc Cert.PoolFwdReferenceIdeal.main_arg0)
      ∧ r.2.mem ((c.tc : Thread Cert.PoolFwdReferenceIdeal.nD Cert.PoolFwdReferenceIdeal.τ).loc Cert.PoolFwdReferenceIdeal.main_arg1) = m ((c.tc : Thread Cert.PoolFwdReferenceIdeal.nD Cert.PoolFwdReferenceIdeal.τ).loc Cert.PoolFwdReferenceIdeal.main_arg1)
      ∧ r.2.mem ((c.tc : Thread Cert.PoolFwdReferenceIdeal.nD Cert.PoolFwdReferenceIdeal.τ).loc Cert.PoolFwdReferenceIdeal.main_arg2) = m ((c.tc : Thread Cert.PoolFwdReferenceIdeal.nD Cert.PoolFwdReferenceIdeal.τ).loc Cert.PoolFwdReferenceIdeal.main_arg2))
      ∧ r.2.sem = fun _ => 0)

def quiescent_AdamOddIn [hAdamOddIn : Cert.AdamOddIn.Facts] : Prop :=
  ∀ (m : (ℓ : Loc Cert.AdamOddIn.nD Cert.AdamOddIn.τ Cert.AdamOddIn.sig) → Buf (Elt Bits) ℓ) (g : Dev Cert.AdamOddIn.nD → PrngReg), Pre_AdamOddIn m →
    θ_run (Cert.AdamOddIn.defs (F := Bits)) (onTc (τ := Cert.AdamOddIn.τ) (Cert.AdamOddIn.main (F := Bits))) ⟨m, fun _ => 0, g⟩ (fun r => (∀ c : Dev Cert.AdamOddIn.nD,
      r.2.mem ((c.tc : Thread Cert.AdamOddIn.nD Cert.AdamOddIn.τ).loc Cert.AdamOddIn.main_arg0) = m ((c.tc : Thread Cert.AdamOddIn.nD Cert.AdamOddIn.τ).loc Cert.AdamOddIn.main_arg0)
      ∧ r.2.mem ((c.tc : Thread Cert.AdamOddIn.nD Cert.AdamOddIn.τ).loc Cert.AdamOddIn.main_arg1) = m ((c.tc : Thread Cert.AdamOddIn.nD Cert.AdamOddIn.τ).loc Cert.AdamOddIn.main_arg1)
      ∧ r.2.mem ((c.tc : Thread Cert.AdamOddIn.nD Cert.AdamOddIn.τ).loc Cert.AdamOddIn.main_arg2) = m ((c.tc : Thread Cert.AdamOddIn.nD Cert.AdamOddIn.τ).loc Cert.AdamOddIn.main_arg2)
      ∧ r.2.mem ((c.tc : Thread Cert.AdamOddIn.nD Cert.AdamOddIn.τ).loc Cert.AdamOddIn.main_arg3) = m ((c.tc : Thread Cert.AdamOddIn.nD Cert.AdamOddIn.τ).loc Cert.AdamOddIn.main_arg3)
      ∧ r.2.mem ((c.tc : Thread Cert.AdamOddIn.nD Cert.AdamOddIn.τ).loc Cert.AdamOddIn.main_arg4) = m ((c.tc : Thread Cert.AdamOddIn.nD Cert.AdamOddIn.τ).loc Cert.AdamOddIn.main_arg4))
      ∧ r.2.sem = fun _ => 0)

def quiescent_AdamOddInIdeal [hAdamOddInIdeal : Cert.AdamOddInIdeal.Facts] : Prop :=
  ∀ (m : (ℓ : Loc Cert.AdamOddInIdeal.nD Cert.AdamOddInIdeal.τ Cert.AdamOddInIdeal.sig) → Buf (Elt Ideal) ℓ) (g : Dev Cert.AdamOddInIdeal.nD → PrngReg), Pre_AdamOddInIdeal m →
    θ_run (Cert.AdamOddInIdeal.defs (F := Ideal)) (onTc (τ := Cert.AdamOddInIdeal.τ) (Cert.AdamOddInIdeal.main (F := Ideal))) ⟨m, fun _ => 0, g⟩ (fun r => (∀ c : Dev Cert.AdamOddInIdeal.nD,
      r.2.mem ((c.tc : Thread Cert.AdamOddInIdeal.nD Cert.AdamOddInIdeal.τ).loc Cert.AdamOddInIdeal.main_arg0) = m ((c.tc : Thread Cert.AdamOddInIdeal.nD Cert.AdamOddInIdeal.τ).loc Cert.AdamOddInIdeal.main_arg0)
      ∧ r.2.mem ((c.tc : Thread Cert.AdamOddInIdeal.nD Cert.AdamOddInIdeal.τ).loc Cert.AdamOddInIdeal.main_arg1) = m ((c.tc : Thread Cert.AdamOddInIdeal.nD Cert.AdamOddInIdeal.τ).loc Cert.AdamOddInIdeal.main_arg1)
      ∧ r.2.mem ((c.tc : Thread Cert.AdamOddInIdeal.nD Cert.AdamOddInIdeal.τ).loc Cert.AdamOddInIdeal.main_arg2) = m ((c.tc : Thread Cert.AdamOddInIdeal.nD Cert.AdamOddInIdeal.τ).loc Cert.AdamOddInIdeal.main_arg2)
      ∧ r.2.mem ((c.tc : Thread Cert.AdamOddInIdeal.nD Cert.AdamOddInIdeal.τ).loc Cert.AdamOddInIdeal.main_arg3) = m ((c.tc : Thread Cert.AdamOddInIdeal.nD Cert.AdamOddInIdeal.τ).loc Cert.AdamOddInIdeal.main_arg3)
      ∧ r.2.mem ((c.tc : Thread Cert.AdamOddInIdeal.nD Cert.AdamOddInIdeal.τ).loc Cert.AdamOddInIdeal.main_arg4) = m ((c.tc : Thread Cert.AdamOddInIdeal.nD Cert.AdamOddInIdeal.τ).loc Cert.AdamOddInIdeal.main_arg4))
      ∧ r.2.sem = fun _ => 0)

def quiescent_AdamOddInReferenceIdeal [hAdamOddInReferenceIdeal : Cert.AdamOddInReferenceIdeal.Facts] : Prop :=
  ∀ (m : (ℓ : Loc Cert.AdamOddInReferenceIdeal.nD Cert.AdamOddInReferenceIdeal.τ Cert.AdamOddInReferenceIdeal.sig) → Buf (Elt Ideal) ℓ) (g : Dev Cert.AdamOddInReferenceIdeal.nD → PrngReg), Pre_AdamOddInReferenceIdeal m →
    θ_run (Cert.AdamOddInReferenceIdeal.defs (F := Ideal)) (onTc (τ := Cert.AdamOddInReferenceIdeal.τ) (Cert.AdamOddInReferenceIdeal.main (F := Ideal))) ⟨m, fun _ => 0, g⟩ (fun r => (∀ c : Dev Cert.AdamOddInReferenceIdeal.nD,
      r.2.mem ((c.tc : Thread Cert.AdamOddInReferenceIdeal.nD Cert.AdamOddInReferenceIdeal.τ).loc Cert.AdamOddInReferenceIdeal.main_arg0) = m ((c.tc : Thread Cert.AdamOddInReferenceIdeal.nD Cert.AdamOddInReferenceIdeal.τ).loc Cert.AdamOddInReferenceIdeal.main_arg0)
      ∧ r.2.mem ((c.tc : Thread Cert.AdamOddInReferenceIdeal.nD Cert.AdamOddInReferenceIdeal.τ).loc Cert.AdamOddInReferenceIdeal.main_arg1) = m ((c.tc : Thread Cert.AdamOddInReferenceIdeal.nD Cert.AdamOddInReferenceIdeal.τ).loc Cert.AdamOddInReferenceIdeal.main_arg1)
      ∧ r.2.mem ((c.tc : Thread Cert.AdamOddInReferenceIdeal.nD Cert.AdamOddInReferenceIdeal.τ).loc Cert.AdamOddInReferenceIdeal.main_arg2) = m ((c.tc : Thread Cert.AdamOddInReferenceIdeal.nD Cert.AdamOddInReferenceIdeal.τ).loc Cert.AdamOddInReferenceIdeal.main_arg2)
      ∧ r.2.mem ((c.tc : Thread Cert.AdamOddInReferenceIdeal.nD Cert.AdamOddInReferenceIdeal.τ).loc Cert.AdamOddInReferenceIdeal.main_arg3) = m ((c.tc : Thread Cert.AdamOddInReferenceIdeal.nD Cert.AdamOddInReferenceIdeal.τ).loc Cert.AdamOddInReferenceIdeal.main_arg3)
      ∧ r.2.mem ((c.tc : Thread Cert.AdamOddInReferenceIdeal.nD Cert.AdamOddInReferenceIdeal.τ).loc Cert.AdamOddInReferenceIdeal.main_arg4) = m ((c.tc : Thread Cert.AdamOddInReferenceIdeal.nD Cert.AdamOddInReferenceIdeal.τ).loc Cert.AdamOddInReferenceIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3)
      ∧ r.2.mem ((c.tc : Thread Cert.AdamOutReferenceIdeal.nD Cert.AdamOutReferenceIdeal.τ).loc Cert.AdamOutReferenceIdeal.main_arg4) = m ((c.tc : Thread Cert.AdamOutReferenceIdeal.nD Cert.AdamOutReferenceIdeal.τ).loc Cert.AdamOutReferenceIdeal.main_arg4))
      ∧ r.2.sem = fun _ => 0)

def quiescent_AdamEvenIn [hAdamEvenIn : Cert.AdamEvenIn.Facts] : Prop :=
  ∀ (m : (ℓ : Loc Cert.AdamEvenIn.nD Cert.AdamEvenIn.τ Cert.AdamEvenIn.sig) → Buf (Elt Bits) ℓ) (g : Dev Cert.AdamEvenIn.nD → PrngReg), Pre_AdamEvenIn m →
    θ_run (Cert.AdamEvenIn.defs (F := Bits)) (onTc (τ := Cert.AdamEvenIn.τ) (Cert.AdamEvenIn.main (F := Bits))) ⟨m, fun _ => 0, g⟩ (fun r => (∀ c : Dev Cert.AdamEvenIn.nD,
      r.2.mem ((c.tc : Thread Cert.AdamEvenIn.nD Cert.AdamEvenIn.τ).loc Cert.AdamEvenIn.main_arg0) = m ((c.tc : Thread Cert.AdamEvenIn.nD Cert.AdamEvenIn.τ).loc Cert.AdamEvenIn.main_arg0)
      ∧ r.2.mem ((c.tc : Thread Cert.AdamEvenIn.nD Cert.AdamEvenIn.τ).loc Cert.AdamEvenIn.main_arg1) = m ((c.tc : Thread Cert.AdamEvenIn.nD Cert.AdamEvenIn.τ).loc Cert.AdamEvenIn.main_arg1)
      ∧ r.2.mem ((c.tc : Thread Cert.AdamEvenIn.nD Cert.AdamEvenIn.τ).loc Cert.AdamEvenIn.main_arg2) = m ((c.tc : Thread Cert.AdamEvenIn.nD Cert.AdamEvenIn.τ).loc Cert.AdamEvenIn.main_arg2)
      ∧ r.2.mem ((c.tc : Thread Cert.AdamEvenIn.nD Cert.AdamEvenIn.τ).loc Cert.AdamEvenIn.main_arg3) = m ((c.tc : Thread Cert.AdamEvenIn.nD Cert.AdamEvenIn.τ).loc Cert.AdamEvenIn.main_arg3)
      ∧ r.2.mem ((c.tc : Thread Cert.AdamEvenIn.nD Cert.AdamEvenIn.τ).loc Cert.AdamEvenIn.main_arg4) = m ((c.tc : Thread Cert.AdamEvenIn.nD Cert.AdamEvenIn.τ).loc Cert.AdamEvenIn.main_arg4)
      ∧ r.2.mem ((c.tc : Thread Cert.AdamEvenIn.nD Cert.AdamEvenIn.τ).loc Cert.AdamEvenIn.main_arg5) = m ((c.tc : Thread Cert.AdamEvenIn.nD Cert.AdamEvenIn.τ).loc Cert.AdamEvenIn.main_arg5))
      ∧ r.2.sem = fun _ => 0)

def quiescent_AdamEvenInIdeal [hAdamEvenInIdeal : Cert.AdamEvenInIdeal.Facts] : Prop :=
  ∀ (m : (ℓ : Loc Cert.AdamEvenInIdeal.nD Cert.AdamEvenInIdeal.τ Cert.AdamEvenInIdeal.sig) → Buf (Elt Ideal) ℓ) (g : Dev Cert.AdamEvenInIdeal.nD → PrngReg), Pre_AdamEvenInIdeal m →
    θ_run (Cert.AdamEvenInIdeal.defs (F := Ideal)) (onTc (τ := Cert.AdamEvenInIdeal.τ) (Cert.AdamEvenInIdeal.main (F := Ideal))) ⟨m, fun _ => 0, g⟩ (fun r => (∀ c : Dev Cert.AdamEvenInIdeal.nD,
      r.2.mem ((c.tc : Thread Cert.AdamEvenInIdeal.nD Cert.AdamEvenInIdeal.τ).loc Cert.AdamEvenInIdeal.main_arg0) = m ((c.tc : Thread Cert.AdamEvenInIdeal.nD Cert.AdamEvenInIdeal.τ).loc Cert.AdamEvenInIdeal.main_arg0)
      ∧ r.2.mem ((c.tc : Thread Cert.AdamEvenInIdeal.nD Cert.AdamEvenInIdeal.τ).loc Cert.AdamEvenInIdeal.main_arg1) = m ((c.tc : Thread Cert.AdamEvenInIdeal.nD Cert.AdamEvenInIdeal.τ).loc Cert.AdamEvenInIdeal.main_arg1)
      ∧ r.2.mem ((c.tc : Thread Cert.AdamEvenInIdeal.nD Cert.AdamEvenInIdeal.τ).loc Cert.AdamEvenInIdeal.main_arg2) = m ((c.tc : Thread Cert.AdamEvenInIdeal.nD Cert.AdamEvenInIdeal.τ).loc Cert.AdamEvenInIdeal.main_arg2)
      ∧ r.2.mem ((c.tc : Thread Cert.AdamEvenInIdeal.nD Cert.AdamEvenInIdeal.τ).loc Cert.AdamEvenInIdeal.main_arg3) = m ((c.tc : Thread Cert.AdamEvenInIdeal.nD Cert.AdamEvenInIdeal.τ).loc Cert.AdamEvenInIdeal.main_arg3)
      ∧ r.2.mem ((c.tc : Thread Cert.AdamEvenInIdeal.nD Cert.AdamEvenInIdeal.τ).loc Cert.AdamEvenInIdeal.main_arg4) = m ((c.tc : Thread Cert.AdamEvenInIdeal.nD Cert.AdamEvenInIdeal.τ).loc Cert.AdamEvenInIdeal.main_arg4)
      ∧ r.2.mem ((c.tc : Thread Cert.AdamEvenInIdeal.nD Cert.AdamEvenInIdeal.τ).loc Cert.AdamEvenInIdeal.main_arg5) = m ((c.tc : Thread Cert.AdamEvenInIdeal.nD Cert.AdamEvenInIdeal.τ).loc Cert.AdamEvenInIdeal.main_arg5))
      ∧ r.2.sem = fun _ => 0)

def quiescent_AdamEvenInReferenceIdeal [hAdamEvenInReferenceIdeal : Cert.AdamEvenInReferenceIdeal.Facts] : Prop :=
  ∀ (m : (ℓ : Loc Cert.AdamEvenInReferenceIdeal.nD Cert.AdamEvenInReferenceIdeal.τ Cert.AdamEvenInReferenceIdeal.sig) → Buf (Elt Ideal) ℓ) (g : Dev Cert.AdamEvenInReferenceIdeal.nD → PrngReg), Pre_AdamEvenInReferenceIdeal m →
    θ_run (Cert.AdamEvenInReferenceIdeal.defs (F := Ideal)) (onTc (τ := Cert.AdamEvenInReferenceIdeal.τ) (Cert.AdamEvenInReferenceIdeal.main (F := Ideal))) ⟨m, fun _ => 0, g⟩ (fun r => (∀ c : Dev Cert.AdamEvenInReferenceIdeal.nD,
      r.2.mem ((c.tc : Thread Cert.AdamEvenInReferenceIdeal.nD Cert.AdamEvenInReferenceIdeal.τ).loc Cert.AdamEvenInReferenceIdeal.main_arg0) = m ((c.tc : Thread Cert.AdamEvenInReferenceIdeal.nD Cert.AdamEvenInReferenceIdeal.τ).loc Cert.AdamEvenInReferenceIdeal.main_arg0)
      ∧ r.2.mem ((c.tc : Thread Cert.AdamEvenInReferenceIdeal.nD Cert.AdamEvenInReferenceIdeal.τ).loc Cert.AdamEvenInReferenceIdeal.main_arg1) = m ((c.tc : Thread Cert.AdamEvenInReferenceIdeal.nD Cert.AdamEvenInReferenceIdeal.τ).loc Cert.AdamEvenInReferenceIdeal.main_arg1)
      ∧ r.2.mem ((c.tc : Thread Cert.AdamEvenInReferenceIdeal.nD Cert.AdamEvenInReferenceIdeal.τ).loc Cert.AdamEvenInReferenceIdeal.main_arg2) = m ((c.tc : Thread Cert.AdamEvenInReferenceIdeal.nD Cert.AdamEvenInReferenceIdeal.τ).loc Cert.AdamEvenInReferenceIdeal.main_arg2)
      ∧ r.2.mem ((c.tc : Thread Cert.AdamEvenInReferenceIdeal.nD Cert.AdamEvenInReferenceIdeal.τ).loc Cert.AdamEvenInReferenceIdeal.main_arg3) = m ((c.tc : Thread Cert.AdamEvenInReferenceIdeal.nD Cert.AdamEvenInReferenceIdeal.τ).loc Cert.AdamEvenInReferenceIdeal.main_arg3)
      ∧ r.2.mem ((c.tc : Thread Cert.AdamEvenInReferenceIdeal.nD Cert.AdamEvenInReferenceIdeal.τ).loc Cert.AdamEvenInReferenceIdeal.main_arg4) = m ((c.tc : Thread Cert.AdamEvenInReferenceIdeal.nD Cert.AdamEvenInReferenceIdeal.τ).loc Cert.AdamEvenInReferenceIdeal.main_arg4)
      ∧ r.2.mem ((c.tc : Thread Cert.AdamEvenInReferenceIdeal.nD Cert.AdamEvenInReferenceIdeal.τ).loc Cert.AdamEvenInReferenceIdeal.main_arg5) = m ((c.tc : Thread Cert.AdamEvenInReferenceIdeal.nD Cert.AdamEvenInReferenceIdeal.τ).loc Cert.AdamEvenInReferenceIdeal.main_arg5))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0)
      ∧ r.2.mem ((c.tc : Thread Cert.SumSmall.nD Cert.SumSmall.τ).loc Cert.SumSmall.main_arg1) = m ((c.tc : Thread Cert.SumSmall.nD Cert.SumSmall.τ).loc Cert.SumSmall.main_arg1))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
      ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1))
      ∧ r.2.sem = fun _ => 0)

def quiescent_SumSmallReferenceIdeal [hSumSmallReferenceIdeal : Cert.SumSmallReferenceIdeal.Facts] : Prop :=
  ∀ (m : (ℓ : Loc Cert.SumSmallReferenceIdeal.nD Cert.SumSmallReferenceIdeal.τ Cert.SumSmallReferenceIdeal.sig) → Buf (Elt Ideal) ℓ) (g : Dev Cert.SumSmallReferenceIdeal.nD → PrngReg), Pre_SumSmallReferenceIdeal m →
    θ_run (Cert.SumSmallReferenceIdeal.defs (F := Ideal)) (onTc (τ := Cert.SumSmallReferenceIdeal.τ) (Cert.SumSmallReferenceIdeal.main (F := Ideal))) ⟨m, fun _ => 0, g⟩ (fun r => (∀ c : Dev Cert.SumSmallReferenceIdeal.nD,
      r.2.mem ((c.tc : Thread Cert.SumSmallReferenceIdeal.nD Cert.SumSmallReferenceIdeal.τ).loc Cert.SumSmallReferenceIdeal.main_arg0) = m ((c.tc : Thread Cert.SumSmallReferenceIdeal.nD Cert.SumSmallReferenceIdeal.τ).loc Cert.SumSmallReferenceIdeal.main_arg0)
      ∧ r.2.mem ((c.tc : Thread Cert.SumSmallReferenceIdeal.nD Cert.SumSmallReferenceIdeal.τ).loc Cert.SumSmallReferenceIdeal.main_arg1) = m ((c.tc : Thread Cert.SumSmallReferenceIdeal.nD Cert.SumSmallReferenceIdeal.τ).loc Cert.SumSmallReferenceIdeal.main_arg1))
      ∧ r.2.sem = fun _ => 0)

def quiescent_JoinColumns [hJoinColumns : Cert.JoinColumns.Facts] : Prop :=
  ∀ (m : (ℓ : Loc Cert.JoinColumns.nD Cert.JoinColumns.τ Cert.JoinColumns.sig) → Buf (Elt Bits) ℓ) (g : Dev Cert.JoinColumns.nD → PrngReg), Pre_JoinColumns m →
    θ_run (Cert.JoinColumns.defs (F := Bits)) (onTc (τ := Cert.JoinColumns.τ) (Cert.JoinColumns.main (F := Bits))) ⟨m, fun _ => 0, g⟩ (fun r => (∀ c : Dev Cert.JoinColumns.nD,
      r.2.mem ((c.tc : Thread Cert.JoinColumns.nD Cert.JoinColumns.τ).loc Cert.JoinColumns.main_arg0) = m ((c.tc : Thread Cert.JoinColumns.nD Cert.JoinColumns.τ).loc Cert.JoinColumns.main_arg0)
      ∧ r.2.mem ((c.tc : Thread Cert.JoinColumns.nD Cert.JoinColumns.τ).loc Cert.JoinColumns.main_arg1) = m ((c.tc : Thread Cert.JoinColumns.nD Cert.JoinColumns.τ).loc Cert.JoinColumns.main_arg1)
      ∧ r.2.mem ((c.tc : Thread Cert.JoinColumns.nD Cert.JoinColumns.τ).loc Cert.JoinColumns.main_arg2) = m ((c.tc : Thread Cert.JoinColumns.nD Cert.JoinColumns.τ).loc Cert.JoinColumns.main_arg2)
      ∧ r.2.mem ((c.tc : Thread Cert.JoinColumns.nD Cert.JoinColumns.τ).loc Cert.JoinColumns.main_arg3) = m ((c.tc : Thread Cert.JoinColumns.nD Cert.JoinColumns.τ).loc Cert.JoinColumns.main_arg3)
      ∧ r.2.mem ((c.tc : Thread Cert.JoinColumns.nD Cert.JoinColumns.τ).loc Cert.JoinColumns.main_arg4) = m ((c.tc : Thread Cert.JoinColumns.nD Cert.JoinColumns.τ).loc Cert.JoinColumns.main_arg4)
      ∧ r.2.mem ((c.tc : Thread Cert.JoinColumns.nD Cert.JoinColumns.τ).loc Cert.JoinColumns.main_arg5) = m ((c.tc : Thread Cert.JoinColumns.nD Cert.JoinColumns.τ).loc Cert.JoinColumns.main_arg5))
      ∧ r.2.sem = fun _ => 0)

def quiescent_JoinColumnsIdeal [hJoinColumnsIdeal : Cert.JoinColumnsIdeal.Facts] : Prop :=
  ∀ (m : (ℓ : Loc Cert.JoinColumnsIdeal.nD Cert.JoinColumnsIdeal.τ Cert.JoinColumnsIdeal.sig) → Buf (Elt Ideal) ℓ) (g : Dev Cert.JoinColumnsIdeal.nD → PrngReg), Pre_JoinColumnsIdeal m →
    θ_run (Cert.JoinColumnsIdeal.defs (F := Ideal)) (onTc (τ := Cert.JoinColumnsIdeal.τ) (Cert.JoinColumnsIdeal.main (F := Ideal))) ⟨m, fun _ => 0, g⟩ (fun r => (∀ c : Dev Cert.JoinColumnsIdeal.nD,
      r.2.mem ((c.tc : Thread Cert.JoinColumnsIdeal.nD Cert.JoinColumnsIdeal.τ).loc Cert.JoinColumnsIdeal.main_arg0) = m ((c.tc : Thread Cert.JoinColumnsIdeal.nD Cert.JoinColumnsIdeal.τ).loc Cert.JoinColumnsIdeal.main_arg0)
      ∧ r.2.mem ((c.tc : Thread Cert.JoinColumnsIdeal.nD Cert.JoinColumnsIdeal.τ).loc Cert.JoinColumnsIdeal.main_arg1) = m ((c.tc : Thread Cert.JoinColumnsIdeal.nD Cert.JoinColumnsIdeal.τ).loc Cert.JoinColumnsIdeal.main_arg1)
      ∧ r.2.mem ((c.tc : Thread Cert.JoinColumnsIdeal.nD Cert.JoinColumnsIdeal.τ).loc Cert.JoinColumnsIdeal.main_arg2) = m ((c.tc : Thread Cert.JoinColumnsIdeal.nD Cert.JoinColumnsIdeal.τ).loc Cert.JoinColumnsIdeal.main_arg2)
      ∧ r.2.mem ((c.tc : Thread Cert.JoinColumnsIdeal.nD Cert.JoinColumnsIdeal.τ).loc Cert.JoinColumnsIdeal.main_arg3) = m ((c.tc : Thread Cert.JoinColumnsIdeal.nD Cert.JoinColumnsIdeal.τ).loc Cert.JoinColumnsIdeal.main_arg3)
      ∧ r.2.mem ((c.tc : Thread Cert.JoinColumnsIdeal.nD Cert.JoinColumnsIdeal.τ).loc Cert.JoinColumnsIdeal.main_arg4) = m ((c.tc : Thread Cert.JoinColumnsIdeal.nD Cert.JoinColumnsIdeal.τ).loc Cert.JoinColumnsIdeal.main_arg4)
      ∧ r.2.mem ((c.tc : Thread Cert.JoinColumnsIdeal.nD Cert.JoinColumnsIdeal.τ).loc Cert.JoinColumnsIdeal.main_arg5) = m ((c.tc : Thread Cert.JoinColumnsIdeal.nD Cert.JoinColumnsIdeal.τ).loc Cert.JoinColumnsIdeal.main_arg5))
      ∧ r.2.sem = fun _ => 0)

def quiescent_JoinColumnsReferenceIdeal [hJoinColumnsReferenceIdeal : Cert.JoinColumnsReferenceIdeal.Facts] : Prop :=
  ∀ (m : (ℓ : Loc Cert.JoinColumnsReferenceIdeal.nD Cert.JoinColumnsReferenceIdeal.τ Cert.JoinColumnsReferenceIdeal.sig) → Buf (Elt Ideal) ℓ) (g : Dev Cert.JoinColumnsReferenceIdeal.nD → PrngReg), Pre_JoinColumnsReferenceIdeal m →
    θ_run (Cert.JoinColumnsReferenceIdeal.defs (F := Ideal)) (onTc (τ := Cert.JoinColumnsReferenceIdeal.τ) (Cert.JoinColumnsReferenceIdeal.main (F := Ideal))) ⟨m, fun _ => 0, g⟩ (fun r => (∀ c : Dev Cert.JoinColumnsReferenceIdeal.nD,
      r.2.mem ((c.tc : Thread Cert.JoinColumnsReferenceIdeal.nD Cert.JoinColumnsReferenceIdeal.τ).loc Cert.JoinColumnsReferenceIdeal.main_arg0) = m ((c.tc : Thread Cert.JoinColumnsReferenceIdeal.nD Cert.JoinColumnsReferenceIdeal.τ).loc Cert.JoinColumnsReferenceIdeal.main_arg0)
      ∧ r.2.mem ((c.tc : Thread Cert.JoinColumnsReferenceIdeal.nD Cert.JoinColumnsReferenceIdeal.τ).loc Cert.JoinColumnsReferenceIdeal.main_arg1) = m ((c.tc : Thread Cert.JoinColumnsReferenceIdeal.nD Cert.JoinColumnsReferenceIdeal.τ).loc Cert.JoinColumnsReferenceIdeal.main_arg1)
      ∧ r.2.mem ((c.tc : Thread Cert.JoinColumnsReferenceIdeal.nD Cert.JoinColumnsReferenceIdeal.τ).loc Cert.JoinColumnsReferenceIdeal.main_arg2) = m ((c.tc : Thread Cert.JoinColumnsReferenceIdeal.nD Cert.JoinColumnsReferenceIdeal.τ).loc Cert.JoinColumnsReferenceIdeal.main_arg2)
      ∧ r.2.mem ((c.tc : Thread Cert.JoinColumnsReferenceIdeal.nD Cert.JoinColumnsReferenceIdeal.τ).loc Cert.JoinColumnsReferenceIdeal.main_arg3) = m ((c.tc : Thread Cert.JoinColumnsReferenceIdeal.nD Cert.JoinColumnsReferenceIdeal.τ).loc Cert.JoinColumnsReferenceIdeal.main_arg3)
      ∧ r.2.mem ((c.tc : Thread Cert.JoinColumnsReferenceIdeal.nD Cert.JoinColumnsReferenceIdeal.τ).loc Cert.JoinColumnsReferenceIdeal.main_arg4) = m ((c.tc : Thread Cert.JoinColumnsReferenceIdeal.nD Cert.JoinColumnsReferenceIdeal.τ).loc Cert.JoinColumnsReferenceIdeal.main_arg4)
      ∧ r.2.mem ((c.tc : Thread Cert.JoinColumnsReferenceIdeal.nD Cert.JoinColumnsReferenceIdeal.τ).loc Cert.JoinColumnsReferenceIdeal.main_arg5) = m ((c.tc : Thread Cert.JoinColumnsReferenceIdeal.nD Cert.JoinColumnsReferenceIdeal.τ).loc Cert.JoinColumnsReferenceIdeal.main_arg5))
      ∧ r.2.sem = fun _ => 0)

def quiescent_SumFirstGain [hSumFirstGain : Cert.SumFirstGain.Facts] : Prop :=
  ∀ (m : (ℓ : Loc Cert.SumFirstGain.nD Cert.SumFirstGain.τ Cert.SumFirstGain.sig) → Buf (Elt Bits) ℓ) (g : Dev Cert.SumFirstGain.nD → PrngReg), Pre_SumFirstGain m →
    θ_run (Cert.SumFirstGain.defs (F := Bits)) (onTc (τ := Cert.SumFirstGain.τ) (Cert.SumFirstGain.main (F := Bits))) ⟨m, fun _ => 0, g⟩ (fun r => (∀ c : Dev Cert.SumFirstGain.nD,
      r.2.mem ((c.tc : Thread Cert.SumFirstGain.nD Cert.SumFirstGain.τ).loc Cert.SumFirstGain.main_arg0) = m ((c.tc : Thread Cert.SumFirstGain.nD Cert.SumFirstGain.τ).loc Cert.SumFirstGain.main_arg0)
      ∧ r.2.mem ((c.tc : Thread Cert.SumFirstGain.nD Cert.SumFirstGain.τ).loc Cert.SumFirstGain.main_arg1) = m ((c.tc : Thread Cert.SumFirstGain.nD Cert.SumFirstGain.τ).loc Cert.SumFirstGain.main_arg1))
      ∧ r.2.sem = fun _ => 0)

def quiescent_SumFirstGainIdeal [hSumFirstGainIdeal : Cert.SumFirstGainIdeal.Facts] : Prop :=
  ∀ (m : (ℓ : Loc Cert.SumFirstGainIdeal.nD Cert.SumFirstGainIdeal.τ Cert.SumFirstGainIdeal.sig) → Buf (Elt Ideal) ℓ) (g : Dev Cert.SumFirstGainIdeal.nD → PrngReg), Pre_SumFirstGainIdeal m →
    θ_run (Cert.SumFirstGainIdeal.defs (F := Ideal)) (onTc (τ := Cert.SumFirstGainIdeal.τ) (Cert.SumFirstGainIdeal.main (F := Ideal))) ⟨m, fun _ => 0, g⟩ (fun r => (∀ c : Dev Cert.SumFirstGainIdeal.nD,
      r.2.mem ((c.tc : Thread Cert.SumFirstGainIdeal.nD Cert.SumFirstGainIdeal.τ).loc Cert.SumFirstGainIdeal.main_arg0) = m ((c.tc : Thread Cert.SumFirstGainIdeal.nD Cert.SumFirstGainIdeal.τ).loc Cert.SumFirstGainIdeal.main_arg0)
      ∧ r.2.mem ((c.tc : Thread Cert.SumFirstGainIdeal.nD Cert.SumFirstGainIdeal.τ).loc Cert.SumFirstGainIdeal.main_arg1) = m ((c.tc : Thread Cert.SumFirstGainIdeal.nD Cert.SumFirstGainIdeal.τ).loc Cert.SumFirstGainIdeal.main_arg1))
      ∧ r.2.sem = fun _ => 0)

def quiescent_SumFirstGainReferenceIdeal [hSumFirstGainReferenceIdeal : Cert.SumFirstGainReferenceIdeal.Facts] : Prop :=
  ∀ (m : (ℓ : Loc Cert.SumFirstGainReferenceIdeal.nD Cert.SumFirstGainReferenceIdeal.τ Cert.SumFirstGainReferenceIdeal.sig) → Buf (Elt Ideal) ℓ) (g : Dev Cert.SumFirstGainReferenceIdeal.nD → PrngReg), Pre_SumFirstGainReferenceIdeal m →
    θ_run (Cert.SumFirstGainReferenceIdeal.defs (F := Ideal)) (onTc (τ := Cert.SumFirstGainReferenceIdeal.τ) (Cert.SumFirstGainReferenceIdeal.main (F := Ideal))) ⟨m, fun _ => 0, g⟩ (fun r => (∀ c : Dev Cert.SumFirstGainReferenceIdeal.nD,
      r.2.mem ((c.tc : Thread Cert.SumFirstGainReferenceIdeal.nD Cert.SumFirstGainReferenceIdeal.τ).loc Cert.SumFirstGainReferenceIdeal.main_arg0) = m ((c.tc : Thread Cert.SumFirstGainReferenceIdeal.nD Cert.SumFirstGainReferenceIdeal.τ).loc Cert.SumFirstGainReferenceIdeal.main_arg0)
      ∧ r.2.mem ((c.tc : Thread Cert.SumFirstGainReferenceIdeal.nD Cert.SumFirstGainReferenceIdeal.τ).loc Cert.SumFirstGainReferenceIdeal.main_arg1) = m ((c.tc : Thread Cert.SumFirstGainReferenceIdeal.nD Cert.SumFirstGainReferenceIdeal.τ).loc Cert.SumFirstGainReferenceIdeal.main_arg1))
      ∧ r.2.sem = fun _ => 0)

def quiescent_CastOut [hCastOut : Cert.CastOut.Facts] : Prop :=
  ∀ (m : (ℓ : Loc Cert.CastOut.nD Cert.CastOut.τ Cert.CastOut.sig) → Buf (Elt Bits) ℓ) (g : Dev Cert.CastOut.nD → PrngReg), Pre_CastOut m →
    θ_run (Cert.CastOut.defs (F := Bits)) (onTc (τ := Cert.CastOut.τ) (Cert.CastOut.main (F := Bits))) ⟨m, fun _ => 0, g⟩ (fun r => (∀ c : Dev Cert.CastOut.nD,
      r.2.mem ((c.tc : Thread Cert.CastOut.nD Cert.CastOut.τ).loc Cert.CastOut.main_arg0) = m ((c.tc : Thread Cert.CastOut.nD Cert.CastOut.τ).loc Cert.CastOut.main_arg0))
      ∧ r.2.sem = fun _ => 0)

def quiescent_CastOutIdeal [hCastOutIdeal : Cert.CastOutIdeal.Facts] : Prop :=
  ∀ (m : (ℓ : Loc Cert.CastOutIdeal.nD Cert.CastOutIdeal.τ Cert.CastOutIdeal.sig) → Buf (Elt Ideal) ℓ) (g : Dev Cert.CastOutIdeal.nD → PrngReg), Pre_CastOutIdeal m →
    θ_run (Cert.CastOutIdeal.defs (F := Ideal)) (onTc (τ := Cert.CastOutIdeal.τ) (Cert.CastOutIdeal.main (F := Ideal))) ⟨m, fun _ => 0, g⟩ (fun r => (∀ c : Dev Cert.CastOutIdeal.nD,
      r.2.mem ((c.tc : Thread Cert.CastOutIdeal.nD Cert.CastOutIdeal.τ).loc Cert.CastOutIdeal.main_arg0) = m ((c.tc : Thread Cert.CastOutIdeal.nD Cert.CastOutIdeal.τ).loc Cert.CastOutIdeal.main_arg0))
      ∧ r.2.sem = fun _ => 0)

def quiescent_CastOutReferenceIdeal [hCastOutReferenceIdeal : Cert.CastOutReferenceIdeal.Facts] : Prop :=
  ∀ (m : (ℓ : Loc Cert.CastOutReferenceIdeal.nD Cert.CastOutReferenceIdeal.τ Cert.CastOutReferenceIdeal.sig) → Buf (Elt Ideal) ℓ) (g : Dev Cert.CastOutReferenceIdeal.nD → PrngReg), Pre_CastOutReferenceIdeal m →
    θ_run (Cert.CastOutReferenceIdeal.defs (F := Ideal)) (onTc (τ := Cert.CastOutReferenceIdeal.τ) (Cert.CastOutReferenceIdeal.main (F := Ideal))) ⟨m, fun _ => 0, g⟩ (fun r => (∀ c : Dev Cert.CastOutReferenceIdeal.nD,
      r.2.mem ((c.tc : Thread Cert.CastOutReferenceIdeal.nD Cert.CastOutReferenceIdeal.τ).loc Cert.CastOutReferenceIdeal.main_arg0) = m ((c.tc : Thread Cert.CastOutReferenceIdeal.nD Cert.CastOutReferenceIdeal.τ).loc Cert.CastOutReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_v185) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v186) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_EvenInDx_EvenInDxIdeal : Prop :=
  True

def algebraic_EvenInDxIdeal_EvenInDxReferenceIdeal [hEvenInDxIdeal : Cert.EvenInDxIdeal.Facts] [hEvenInDxReferenceIdeal : Cert.EvenInDxReferenceIdeal.Facts] : Prop :=
  ∀ (m : (ℓ : Loc Cert.EvenInDxIdeal.nD Cert.EvenInDxIdeal.τ Cert.EvenInDxIdeal.sig) → Buf (Elt Ideal) ℓ) (g : Dev Cert.EvenInDxIdeal.nD → PrngReg)
    (m' : (ℓ : Loc Cert.EvenInDxReferenceIdeal.nD Cert.EvenInDxReferenceIdeal.τ Cert.EvenInDxReferenceIdeal.sig) → Buf (Elt Ideal) ℓ) (g' : Dev Cert.EvenInDxReferenceIdeal.nD → PrngReg), Pre_EvenInDxIdeal m →
    (∀ c : Dev Cert.EvenInDxIdeal.nD,
      m' ((c.tc : Thread Cert.EvenInDxReferenceIdeal.nD Cert.EvenInDxReferenceIdeal.τ).loc Cert.EvenInDxReferenceIdeal.main_arg0) = m ((c.tc : Thread Cert.EvenInDxIdeal.nD Cert.EvenInDxIdeal.τ).loc Cert.EvenInDxIdeal.main_arg0)
      ∧ m' ((c.tc : Thread Cert.EvenInDxReferenceIdeal.nD Cert.EvenInDxReferenceIdeal.τ).loc Cert.EvenInDxReferenceIdeal.main_arg1) = m ((c.tc : Thread Cert.EvenInDxIdeal.nD Cert.EvenInDxIdeal.τ).loc Cert.EvenInDxIdeal.main_arg1)
      ∧ m' ((c.tc : Thread Cert.EvenInDxReferenceIdeal.nD Cert.EvenInDxReferenceIdeal.τ).loc Cert.EvenInDxReferenceIdeal.main_arg2) = m ((c.tc : Thread Cert.EvenInDxIdeal.nD Cert.EvenInDxIdeal.τ).loc Cert.EvenInDxIdeal.main_arg2)) →
    ∃ (v0 : (c : Dev Cert.EvenInDxIdeal.nD) → Buf (Elt Ideal) ((c.tc : Thread Cert.EvenInDxIdeal.nD Cert.EvenInDxIdeal.τ).loc Cert.EvenInDxIdeal.main_v7)),
      θ_run (Cert.EvenInDxIdeal.defs (F := Ideal)) (onTc (τ := Cert.EvenInDxIdeal.τ) (Cert.EvenInDxIdeal.main (F := Ideal))) ⟨m, fun _ => 0, g⟩ (fun r => ∀ c : Dev Cert.EvenInDxIdeal.nD,
          r.2.mem ((c.tc : Thread Cert.EvenInDxIdeal.nD Cert.EvenInDxIdeal.τ).loc Cert.EvenInDxIdeal.main_v7) = v0 c
          ∧ r.2.mem ((c.tc : Thread Cert.EvenInDxIdeal.nD Cert.EvenInDxIdeal.τ).loc Cert.EvenInDxIdeal.main_arg0) = m ((c.tc : Thread Cert.EvenInDxIdeal.nD Cert.EvenInDxIdeal.τ).loc Cert.EvenInDxIdeal.main_arg0)
          ∧ r.2.mem ((c.tc : Thread Cert.EvenInDxIdeal.nD Cert.EvenInDxIdeal.τ).loc Cert.EvenInDxIdeal.main_arg1) = m ((c.tc : Thread Cert.EvenInDxIdeal.nD Cert.EvenInDxIdeal.τ).loc Cert.EvenInDxIdeal.main_arg1)
          ∧ r.2.mem ((c.tc : Thread Cert.EvenInDxIdeal.nD Cert.EvenInDxIdeal.τ).loc Cert.EvenInDxIdeal.main_arg2) = m ((c.tc : Thread Cert.EvenInDxIdeal.nD Cert.EvenInDxIdeal.τ).loc Cert.EvenInDxIdeal.main_arg2))
      ∧ θ_run (Cert.EvenInDxReferenceIdeal.defs (F := Ideal)) (onTc (τ := Cert.EvenInDxReferenceIdeal.τ) (Cert.EvenInDxReferenceIdeal.main (F := Ideal))) ⟨m', fun _ => 0, g'⟩ (fun r => ∀ c : Dev Cert.EvenInDxReferenceIdeal.nD,
          r.2.mem ((c.tc : Thread Cert.EvenInDxReferenceIdeal.nD Cert.EvenInDxReferenceIdeal.τ).loc Cert.EvenInDxReferenceIdeal.main_v3) = v0 c
          ∧ r.2.mem ((c.tc : Thread Cert.EvenInDxReferenceIdeal.nD Cert.EvenInDxReferenceIdeal.τ).loc Cert.EvenInDxReferenceIdeal.main_arg0) = m' ((c.tc : Thread Cert.EvenInDxReferenceIdeal.nD Cert.EvenInDxReferenceIdeal.τ).loc Cert.EvenInDxReferenceIdeal.main_arg0)
          ∧ r.2.mem ((c.tc : Thread Cert.EvenInDxReferenceIdeal.nD Cert.EvenInDxReferenceIdeal.τ).loc Cert.EvenInDxReferenceIdeal.main_arg1) = m' ((c.tc : Thread Cert.EvenInDxReferenceIdeal.nD Cert.EvenInDxReferenceIdeal.τ).loc Cert.EvenInDxReferenceIdeal.main_arg1)
          ∧ r.2.mem ((c.tc : Thread Cert.EvenInDxReferenceIdeal.nD Cert.EvenInDxReferenceIdeal.τ).loc Cert.EvenInDxReferenceIdeal.main_arg2) = m' ((c.tc : Thread Cert.EvenInDxReferenceIdeal.nD Cert.EvenInDxReferenceIdeal.τ).loc Cert.EvenInDxReferenceIdeal.main_arg2))

def preserves_OddInDx_OddInDxIdeal : Prop :=
  True

def algebraic_OddInDxIdeal_OddInDxReferenceIdeal [hOddInDxIdeal : Cert.OddInDxIdeal.Facts] [hOddInDxReferenceIdeal : Cert.OddInDxReferenceIdeal.Facts] : Prop :=
  ∀ (m : (ℓ : Loc Cert.OddInDxIdeal.nD Cert.OddInDxIdeal.τ Cert.OddInDxIdeal.sig) → Buf (Elt Ideal) ℓ) (g : Dev Cert.OddInDxIdeal.nD → PrngReg)
    (m' : (ℓ : Loc Cert.OddInDxReferenceIdeal.nD Cert.OddInDxReferenceIdeal.τ Cert.OddInDxReferenceIdeal.sig) → Buf (Elt Ideal) ℓ) (g' : Dev Cert.OddInDxReferenceIdeal.nD → PrngReg), Pre_OddInDxIdeal m →
    (∀ c : Dev Cert.OddInDxIdeal.nD,
      m' ((c.tc : Thread Cert.OddInDxReferenceIdeal.nD Cert.OddInDxReferenceIdeal.τ).loc Cert.OddInDxReferenceIdeal.main_arg0) = m ((c.tc : Thread Cert.OddInDxIdeal.nD Cert.OddInDxIdeal.τ).loc Cert.OddInDxIdeal.main_arg0)
      ∧ m' ((c.tc : Thread Cert.OddInDxReferenceIdeal.nD Cert.OddInDxReferenceIdeal.τ).loc Cert.OddInDxReferenceIdeal.main_arg1) = m ((c.tc : Thread Cert.OddInDxIdeal.nD Cert.OddInDxIdeal.τ).loc Cert.OddInDxIdeal.main_arg1)
      ∧ m' ((c.tc : Thread Cert.OddInDxReferenceIdeal.nD Cert.OddInDxReferenceIdeal.τ).loc Cert.OddInDxReferenceIdeal.main_arg2) = m ((c.tc : Thread Cert.OddInDxIdeal.nD Cert.OddInDxIdeal.τ).loc Cert.OddInDxIdeal.main_arg2)) →
    ∃ (v0 : (c : Dev Cert.OddInDxIdeal.nD) → Buf (Elt Ideal) ((c.tc : Thread Cert.OddInDxIdeal.nD Cert.OddInDxIdeal.τ).loc Cert.OddInDxIdeal.main_v3)),
      θ_run (Cert.OddInDxIdeal.defs (F := Ideal)) (onTc (τ := Cert.OddInDxIdeal.τ) (Cert.OddInDxIdeal.main (F := Ideal))) ⟨m, fun _ => 0, g⟩ (fun r => ∀ c : Dev Cert.OddInDxIdeal.nD,
          r.2.mem ((c.tc : Thread Cert.OddInDxIdeal.nD Cert.OddInDxIdeal.τ).loc Cert.OddInDxIdeal.main_v3) = v0 c
          ∧ r.2.mem ((c.tc : Thread Cert.OddInDxIdeal.nD Cert.OddInDxIdeal.τ).loc Cert.OddInDxIdeal.main_arg0) = m ((c.tc : Thread Cert.OddInDxIdeal.nD Cert.OddInDxIdeal.τ).loc Cert.OddInDxIdeal.main_arg0)
          ∧ r.2.mem ((c.tc : Thread Cert.OddInDxIdeal.nD Cert.OddInDxIdeal.τ).loc Cert.OddInDxIdeal.main_arg1) = m ((c.tc : Thread Cert.OddInDxIdeal.nD Cert.OddInDxIdeal.τ).loc Cert.OddInDxIdeal.main_arg1)
          ∧ r.2.mem ((c.tc : Thread Cert.OddInDxIdeal.nD Cert.OddInDxIdeal.τ).loc Cert.OddInDxIdeal.main_arg2) = m ((c.tc : Thread Cert.OddInDxIdeal.nD Cert.OddInDxIdeal.τ).loc Cert.OddInDxIdeal.main_arg2))
      ∧ θ_run (Cert.OddInDxReferenceIdeal.defs (F := Ideal)) (onTc (τ := Cert.OddInDxReferenceIdeal.τ) (Cert.OddInDxReferenceIdeal.main (F := Ideal))) ⟨m', fun _ => 0, g'⟩ (fun r => ∀ c : Dev Cert.OddInDxReferenceIdeal.nD,
          r.2.mem ((c.tc : Thread Cert.OddInDxReferenceIdeal.nD Cert.OddInDxReferenceIdeal.τ).loc Cert.OddInDxReferenceIdeal.main_v3) = v0 c
          ∧ r.2.mem ((c.tc : Thread Cert.OddInDxReferenceIdeal.nD Cert.OddInDxReferenceIdeal.τ).loc Cert.OddInDxReferenceIdeal.main_arg0) = m' ((c.tc : Thread Cert.OddInDxReferenceIdeal.nD Cert.OddInDxReferenceIdeal.τ).loc Cert.OddInDxReferenceIdeal.main_arg0)
          ∧ r.2.mem ((c.tc : Thread Cert.OddInDxReferenceIdeal.nD Cert.OddInDxReferenceIdeal.τ).loc Cert.OddInDxReferenceIdeal.main_arg1) = m' ((c.tc : Thread Cert.OddInDxReferenceIdeal.nD Cert.OddInDxReferenceIdeal.τ).loc Cert.OddInDxReferenceIdeal.main_arg1)
          ∧ r.2.mem ((c.tc : Thread Cert.OddInDxReferenceIdeal.nD Cert.OddInDxReferenceIdeal.τ).loc Cert.OddInDxReferenceIdeal.main_arg2) = m' ((c.tc : Thread Cert.OddInDxReferenceIdeal.nD Cert.OddInDxReferenceIdeal.τ).loc Cert.OddInDxReferenceIdeal.main_arg2))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)
      ∧ m' ((c.tc : Thread Cert.OutDxReferenceIdeal.nD Cert.OutDxReferenceIdeal.τ).loc Cert.OutDxReferenceIdeal.main_arg2) = m ((c.tc : Thread Cert.OutDxIdeal.nD Cert.OutDxIdeal.τ).loc Cert.OutDxIdeal.main_arg2)) →
    ∃ (v0 : (c : Dev Cert.OutDxIdeal.nD) → Buf (Elt Ideal) ((c.tc : Thread Cert.OutDxIdeal.nD Cert.OutDxIdeal.τ).loc Cert.OutDxIdeal.main_v1)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v1) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v3) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1)
          ∧ r.2.mem ((c.tc : Thread Cert.OutDxReferenceIdeal.nD Cert.OutDxReferenceIdeal.τ).loc Cert.OutDxReferenceIdeal.main_arg2) = m' ((c.tc : Thread Cert.OutDxReferenceIdeal.nD Cert.OutDxReferenceIdeal.τ).loc Cert.OutDxReferenceIdeal.main_arg2))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v6) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_EvenInDw_EvenInDwIdeal : Prop :=
  True

def algebraic_EvenInDwIdeal_EvenInDwReferenceIdeal [hEvenInDwIdeal : Cert.EvenInDwIdeal.Facts] [hEvenInDwReferenceIdeal : Cert.EvenInDwReferenceIdeal.Facts] : Prop :=
  ∀ (m : (ℓ : Loc Cert.EvenInDwIdeal.nD Cert.EvenInDwIdeal.τ Cert.EvenInDwIdeal.sig) → Buf (Elt Ideal) ℓ) (g : Dev Cert.EvenInDwIdeal.nD → PrngReg)
    (m' : (ℓ : Loc Cert.EvenInDwReferenceIdeal.nD Cert.EvenInDwReferenceIdeal.τ Cert.EvenInDwReferenceIdeal.sig) → Buf (Elt Ideal) ℓ) (g' : Dev Cert.EvenInDwReferenceIdeal.nD → PrngReg), Pre_EvenInDwIdeal m →
    (∀ c : Dev Cert.EvenInDwIdeal.nD,
      m' ((c.tc : Thread Cert.EvenInDwReferenceIdeal.nD Cert.EvenInDwReferenceIdeal.τ).loc Cert.EvenInDwReferenceIdeal.main_arg0) = m ((c.tc : Thread Cert.EvenInDwIdeal.nD Cert.EvenInDwIdeal.τ).loc Cert.EvenInDwIdeal.main_arg0)
      ∧ m' ((c.tc : Thread Cert.EvenInDwReferenceIdeal.nD Cert.EvenInDwReferenceIdeal.τ).loc Cert.EvenInDwReferenceIdeal.main_arg1) = m ((c.tc : Thread Cert.EvenInDwIdeal.nD Cert.EvenInDwIdeal.τ).loc Cert.EvenInDwIdeal.main_arg1)
      ∧ m' ((c.tc : Thread Cert.EvenInDwReferenceIdeal.nD Cert.EvenInDwReferenceIdeal.τ).loc Cert.EvenInDwReferenceIdeal.main_arg2) = m ((c.tc : Thread Cert.EvenInDwIdeal.nD Cert.EvenInDwIdeal.τ).loc Cert.EvenInDwIdeal.main_arg2)
      ∧ m' ((c.tc : Thread Cert.EvenInDwReferenceIdeal.nD Cert.EvenInDwReferenceIdeal.τ).loc Cert.EvenInDwReferenceIdeal.main_arg3) = m ((c.tc : Thread Cert.EvenInDwIdeal.nD Cert.EvenInDwIdeal.τ).loc Cert.EvenInDwIdeal.main_arg3)
      ∧ m' ((c.tc : Thread Cert.EvenInDwReferenceIdeal.nD Cert.EvenInDwReferenceIdeal.τ).loc Cert.EvenInDwReferenceIdeal.main_arg4) = m ((c.tc : Thread Cert.EvenInDwIdeal.nD Cert.EvenInDwIdeal.τ).loc Cert.EvenInDwIdeal.main_arg4)) →
    ∃ (v0 : (c : Dev Cert.EvenInDwIdeal.nD) → Buf (Elt Ideal) ((c.tc : Thread Cert.EvenInDwIdeal.nD Cert.EvenInDwIdeal.τ).loc Cert.EvenInDwIdeal.main_v0)),
      θ_run (Cert.EvenInDwIdeal.defs (F := Ideal)) (onTc (τ := Cert.EvenInDwIdeal.τ) (Cert.EvenInDwIdeal.main (F := Ideal))) ⟨m, fun _ => 0, g⟩ (fun r => ∀ c : Dev Cert.EvenInDwIdeal.nD,
          r.2.mem ((c.tc : Thread Cert.EvenInDwIdeal.nD Cert.EvenInDwIdeal.τ).loc Cert.EvenInDwIdeal.main_v0) = v0 c
          ∧ r.2.mem ((c.tc : Thread Cert.EvenInDwIdeal.nD Cert.EvenInDwIdeal.τ).loc Cert.EvenInDwIdeal.main_arg0) = m ((c.tc : Thread Cert.EvenInDwIdeal.nD Cert.EvenInDwIdeal.τ).loc Cert.EvenInDwIdeal.main_arg0)
          ∧ r.2.mem ((c.tc : Thread Cert.EvenInDwIdeal.nD Cert.EvenInDwIdeal.τ).loc Cert.EvenInDwIdeal.main_arg1) = m ((c.tc : Thread Cert.EvenInDwIdeal.nD Cert.EvenInDwIdeal.τ).loc Cert.EvenInDwIdeal.main_arg1)
          ∧ r.2.mem ((c.tc : Thread Cert.EvenInDwIdeal.nD Cert.EvenInDwIdeal.τ).loc Cert.EvenInDwIdeal.main_arg2) = m ((c.tc : Thread Cert.EvenInDwIdeal.nD Cert.EvenInDwIdeal.τ).loc Cert.EvenInDwIdeal.main_arg2)
          ∧ r.2.mem ((c.tc : Thread Cert.EvenInDwIdeal.nD Cert.EvenInDwIdeal.τ).loc Cert.EvenInDwIdeal.main_arg3) = m ((c.tc : Thread Cert.EvenInDwIdeal.nD Cert.EvenInDwIdeal.τ).loc Cert.EvenInDwIdeal.main_arg3)
          ∧ r.2.mem ((c.tc : Thread Cert.EvenInDwIdeal.nD Cert.EvenInDwIdeal.τ).loc Cert.EvenInDwIdeal.main_arg4) = m ((c.tc : Thread Cert.EvenInDwIdeal.nD Cert.EvenInDwIdeal.τ).loc Cert.EvenInDwIdeal.main_arg4))
      ∧ θ_run (Cert.EvenInDwReferenceIdeal.defs (F := Ideal)) (onTc (τ := Cert.EvenInDwReferenceIdeal.τ) (Cert.EvenInDwReferenceIdeal.main (F := Ideal))) ⟨m', fun _ => 0, g'⟩ (fun r => ∀ c : Dev Cert.EvenInDwReferenceIdeal.nD,
          r.2.mem ((c.tc : Thread Cert.EvenInDwReferenceIdeal.nD Cert.EvenInDwReferenceIdeal.τ).loc Cert.EvenInDwReferenceIdeal.main_v18) = v0 c
          ∧ r.2.mem ((c.tc : Thread Cert.EvenInDwReferenceIdeal.nD Cert.EvenInDwReferenceIdeal.τ).loc Cert.EvenInDwReferenceIdeal.main_arg0) = m' ((c.tc : Thread Cert.EvenInDwReferenceIdeal.nD Cert.EvenInDwReferenceIdeal.τ).loc Cert.EvenInDwReferenceIdeal.main_arg0)
          ∧ r.2.mem ((c.tc : Thread Cert.EvenInDwReferenceIdeal.nD Cert.EvenInDwReferenceIdeal.τ).loc Cert.EvenInDwReferenceIdeal.main_arg1) = m' ((c.tc : Thread Cert.EvenInDwReferenceIdeal.nD Cert.EvenInDwReferenceIdeal.τ).loc Cert.EvenInDwReferenceIdeal.main_arg1)
          ∧ r.2.mem ((c.tc : Thread Cert.EvenInDwReferenceIdeal.nD Cert.EvenInDwReferenceIdeal.τ).loc Cert.EvenInDwReferenceIdeal.main_arg2) = m' ((c.tc : Thread Cert.EvenInDwReferenceIdeal.nD Cert.EvenInDwReferenceIdeal.τ).loc Cert.EvenInDwReferenceIdeal.main_arg2)
          ∧ r.2.mem ((c.tc : Thread Cert.EvenInDwReferenceIdeal.nD Cert.EvenInDwReferenceIdeal.τ).loc Cert.EvenInDwReferenceIdeal.main_arg3) = m' ((c.tc : Thread Cert.EvenInDwReferenceIdeal.nD Cert.EvenInDwReferenceIdeal.τ).loc Cert.EvenInDwReferenceIdeal.main_arg3)
          ∧ r.2.mem ((c.tc : Thread Cert.EvenInDwReferenceIdeal.nD Cert.EvenInDwReferenceIdeal.τ).loc Cert.EvenInDwReferenceIdeal.main_arg4) = m' ((c.tc : Thread Cert.EvenInDwReferenceIdeal.nD Cert.EvenInDwReferenceIdeal.τ).loc Cert.EvenInDwReferenceIdeal.main_arg4))

def preserves_OddIn_OddInIdeal : Prop :=
  True

def algebraic_OddInIdeal_OddInReferenceIdeal [hOddInIdeal : Cert.OddInIdeal.Facts] [hOddInReferenceIdeal : Cert.OddInReferenceIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInReferenceIdeal.nD Cert.OddInReferenceIdeal.τ Cert.OddInReferenceIdeal.sig) → Buf (Elt Ideal) ℓ) (g' : Dev Cert.OddInReferenceIdeal.nD → PrngReg), Pre_OddInIdeal m →
    (∀ c : Dev Cert.OddInIdeal.nD,
      m' ((c.tc : Thread Cert.OddInReferenceIdeal.nD Cert.OddInReferenceIdeal.τ).loc Cert.OddInReferenceIdeal.main_arg0) = m ((c.tc : Thread Cert.OddInIdeal.nD Cert.OddInIdeal.τ).loc Cert.OddInIdeal.main_arg0)
      ∧ m' ((c.tc : Thread Cert.OddInReferenceIdeal.nD Cert.OddInReferenceIdeal.τ).loc Cert.OddInReferenceIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v3)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v3) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInReferenceIdeal.defs (F := Ideal)) (onTc (τ := Cert.OddInReferenceIdeal.τ) (Cert.OddInReferenceIdeal.main (F := Ideal))) ⟨m', fun _ => 0, g'⟩ (fun r => ∀ c : Dev Cert.OddInReferenceIdeal.nD,
          r.2.mem ((c.tc : Thread Cert.OddInReferenceIdeal.nD Cert.OddInReferenceIdeal.τ).loc Cert.OddInReferenceIdeal.main_v1) = v0 c
          ∧ r.2.mem ((c.tc : Thread Cert.OddInReferenceIdeal.nD Cert.OddInReferenceIdeal.τ).loc Cert.OddInReferenceIdeal.main_arg0) = m' ((c.tc : Thread Cert.OddInReferenceIdeal.nD Cert.OddInReferenceIdeal.τ).loc Cert.OddInReferenceIdeal.main_arg0)
          ∧ r.2.mem ((c.tc : Thread Cert.OddInReferenceIdeal.nD Cert.OddInReferenceIdeal.τ).loc Cert.OddInReferenceIdeal.main_arg1) = m' ((c.tc : Thread Cert.OddInReferenceIdeal.nD Cert.OddInReferenceIdeal.τ).loc Cert.OddInReferenceIdeal.main_arg1))

def preserves_OddInDw_OddInDwIdeal : Prop :=
  True

def algebraic_OddInDwIdeal_OddInDwReferenceIdeal [hOddInDwIdeal : Cert.OddInDwIdeal.Facts] [hOddInDwReferenceIdeal : Cert.OddInDwReferenceIdeal.Facts] : Prop :=
  ∀ (m : (ℓ : Loc Cert.OddInDwIdeal.nD Cert.OddInDwIdeal.τ Cert.OddInDwIdeal.sig) → Buf (Elt Ideal) ℓ) (g : Dev Cert.OddInDwIdeal.nD → PrngReg)
    (m' : (ℓ : Loc Cert.OddInDwReferenceIdeal.nD Cert.OddInDwReferenceIdeal.τ Cert.OddInDwReferenceIdeal.sig) → Buf (Elt Ideal) ℓ) (g' : Dev Cert.OddInDwReferenceIdeal.nD → PrngReg), Pre_OddInDwIdeal m →
    (∀ c : Dev Cert.OddInDwIdeal.nD,
      m' ((c.tc : Thread Cert.OddInDwReferenceIdeal.nD Cert.OddInDwReferenceIdeal.τ).loc Cert.OddInDwReferenceIdeal.main_arg0) = m ((c.tc : Thread Cert.OddInDwIdeal.nD Cert.OddInDwIdeal.τ).loc Cert.OddInDwIdeal.main_arg0)
      ∧ m' ((c.tc : Thread Cert.OddInDwReferenceIdeal.nD Cert.OddInDwReferenceIdeal.τ).loc Cert.OddInDwReferenceIdeal.main_arg1) = m ((c.tc : Thread Cert.OddInDwIdeal.nD Cert.OddInDwIdeal.τ).loc Cert.OddInDwIdeal.main_arg1)
      ∧ m' ((c.tc : Thread Cert.OddInDwReferenceIdeal.nD Cert.OddInDwReferenceIdeal.τ).loc Cert.OddInDwReferenceIdeal.main_arg2) = m ((c.tc : Thread Cert.OddInDwIdeal.nD Cert.OddInDwIdeal.τ).loc Cert.OddInDwIdeal.main_arg2)
      ∧ m' ((c.tc : Thread Cert.OddInDwReferenceIdeal.nD Cert.OddInDwReferenceIdeal.τ).loc Cert.OddInDwReferenceIdeal.main_arg3) = m ((c.tc : Thread Cert.OddInDwIdeal.nD Cert.OddInDwIdeal.τ).loc Cert.OddInDwIdeal.main_arg3)
      ∧ m' ((c.tc : Thread Cert.OddInDwReferenceIdeal.nD Cert.OddInDwReferenceIdeal.τ).loc Cert.OddInDwReferenceIdeal.main_arg4) = m ((c.tc : Thread Cert.OddInDwIdeal.nD Cert.OddInDwIdeal.τ).loc Cert.OddInDwIdeal.main_arg4)) →
    ∃ (v0 : (c : Dev Cert.OddInDwIdeal.nD) → Buf (Elt Ideal) ((c.tc : Thread Cert.OddInDwIdeal.nD Cert.OddInDwIdeal.τ).loc Cert.OddInDwIdeal.main_v1)),
      θ_run (Cert.OddInDwIdeal.defs (F := Ideal)) (onTc (τ := Cert.OddInDwIdeal.τ) (Cert.OddInDwIdeal.main (F := Ideal))) ⟨m, fun _ => 0, g⟩ (fun r => ∀ c : Dev Cert.OddInDwIdeal.nD,
          r.2.mem ((c.tc : Thread Cert.OddInDwIdeal.nD Cert.OddInDwIdeal.τ).loc Cert.OddInDwIdeal.main_v1) = v0 c
          ∧ r.2.mem ((c.tc : Thread Cert.OddInDwIdeal.nD Cert.OddInDwIdeal.τ).loc Cert.OddInDwIdeal.main_arg0) = m ((c.tc : Thread Cert.OddInDwIdeal.nD Cert.OddInDwIdeal.τ).loc Cert.OddInDwIdeal.main_arg0)
          ∧ r.2.mem ((c.tc : Thread Cert.OddInDwIdeal.nD Cert.OddInDwIdeal.τ).loc Cert.OddInDwIdeal.main_arg1) = m ((c.tc : Thread Cert.OddInDwIdeal.nD Cert.OddInDwIdeal.τ).loc Cert.OddInDwIdeal.main_arg1)
          ∧ r.2.mem ((c.tc : Thread Cert.OddInDwIdeal.nD Cert.OddInDwIdeal.τ).loc Cert.OddInDwIdeal.main_arg2) = m ((c.tc : Thread Cert.OddInDwIdeal.nD Cert.OddInDwIdeal.τ).loc Cert.OddInDwIdeal.main_arg2)
          ∧ r.2.mem ((c.tc : Thread Cert.OddInDwIdeal.nD Cert.OddInDwIdeal.τ).loc Cert.OddInDwIdeal.main_arg3) = m ((c.tc : Thread Cert.OddInDwIdeal.nD Cert.OddInDwIdeal.τ).loc Cert.OddInDwIdeal.main_arg3)
          ∧ r.2.mem ((c.tc : Thread Cert.OddInDwIdeal.nD Cert.OddInDwIdeal.τ).loc Cert.OddInDwIdeal.main_arg4) = m ((c.tc : Thread Cert.OddInDwIdeal.nD Cert.OddInDwIdeal.τ).loc Cert.OddInDwIdeal.main_arg4))
      ∧ θ_run (Cert.OddInDwReferenceIdeal.defs (F := Ideal)) (onTc (τ := Cert.OddInDwReferenceIdeal.τ) (Cert.OddInDwReferenceIdeal.main (F := Ideal))) ⟨m', fun _ => 0, g'⟩ (fun r => ∀ c : Dev Cert.OddInDwReferenceIdeal.nD,
          r.2.mem ((c.tc : Thread Cert.OddInDwReferenceIdeal.nD Cert.OddInDwReferenceIdeal.τ).loc Cert.OddInDwReferenceIdeal.main_v16) = v0 c
          ∧ r.2.mem ((c.tc : Thread Cert.OddInDwReferenceIdeal.nD Cert.OddInDwReferenceIdeal.τ).loc Cert.OddInDwReferenceIdeal.main_arg0) = m' ((c.tc : Thread Cert.OddInDwReferenceIdeal.nD Cert.OddInDwReferenceIdeal.τ).loc Cert.OddInDwReferenceIdeal.main_arg0)
          ∧ r.2.mem ((c.tc : Thread Cert.OddInDwReferenceIdeal.nD Cert.OddInDwReferenceIdeal.τ).loc Cert.OddInDwReferenceIdeal.main_arg1) = m' ((c.tc : Thread Cert.OddInDwReferenceIdeal.nD Cert.OddInDwReferenceIdeal.τ).loc Cert.OddInDwReferenceIdeal.main_arg1)
          ∧ r.2.mem ((c.tc : Thread Cert.OddInDwReferenceIdeal.nD Cert.OddInDwReferenceIdeal.τ).loc Cert.OddInDwReferenceIdeal.main_arg2) = m' ((c.tc : Thread Cert.OddInDwReferenceIdeal.nD Cert.OddInDwReferenceIdeal.τ).loc Cert.OddInDwReferenceIdeal.main_arg2)
          ∧ r.2.mem ((c.tc : Thread Cert.OddInDwReferenceIdeal.nD Cert.OddInDwReferenceIdeal.τ).loc Cert.OddInDwReferenceIdeal.main_arg3) = m' ((c.tc : Thread Cert.OddInDwReferenceIdeal.nD Cert.OddInDwReferenceIdeal.τ).loc Cert.OddInDwReferenceIdeal.main_arg3)
          ∧ r.2.mem ((c.tc : Thread Cert.OddInDwReferenceIdeal.nD Cert.OddInDwReferenceIdeal.τ).loc Cert.OddInDwReferenceIdeal.main_arg4) = m' ((c.tc : Thread Cert.OddInDwReferenceIdeal.nD Cert.OddInDwReferenceIdeal.τ).loc Cert.OddInDwReferenceIdeal.main_arg4))

def preserves_EvenInDwFirst_EvenInDwFirstIdeal : Prop :=
  True

def algebraic_EvenInDwFirstIdeal_EvenInDwFirstReferenceIdeal [hEvenInDwFirstIdeal : Cert.EvenInDwFirstIdeal.Facts] [hEvenInDwFirstReferenceIdeal : Cert.EvenInDwFirstReferenceIdeal.Facts] : Prop :=
  ∀ (m : (ℓ : Loc Cert.EvenInDwFirstIdeal.nD Cert.EvenInDwFirstIdeal.τ Cert.EvenInDwFirstIdeal.sig) → Buf (Elt Ideal) ℓ) (g : Dev Cert.EvenInDwFirstIdeal.nD → PrngReg)
    (m' : (ℓ : Loc Cert.EvenInDwFirstReferenceIdeal.nD Cert.EvenInDwFirstReferenceIdeal.τ Cert.EvenInDwFirstReferenceIdeal.sig) → Buf (Elt Ideal) ℓ) (g' : Dev Cert.EvenInDwFirstReferenceIdeal.nD → PrngReg), Pre_EvenInDwFirstIdeal m →
    (∀ c : Dev Cert.EvenInDwFirstIdeal.nD,
      m' ((c.tc : Thread Cert.EvenInDwFirstReferenceIdeal.nD Cert.EvenInDwFirstReferenceIdeal.τ).loc Cert.EvenInDwFirstReferenceIdeal.main_arg0) = m ((c.tc : Thread Cert.EvenInDwFirstIdeal.nD Cert.EvenInDwFirstIdeal.τ).loc Cert.EvenInDwFirstIdeal.main_arg0)
      ∧ m' ((c.tc : Thread Cert.EvenInDwFirstReferenceIdeal.nD Cert.EvenInDwFirstReferenceIdeal.τ).loc Cert.EvenInDwFirstReferenceIdeal.main_arg1) = m ((c.tc : Thread Cert.EvenInDwFirstIdeal.nD Cert.EvenInDwFirstIdeal.τ).loc Cert.EvenInDwFirstIdeal.main_arg1)
      ∧ m' ((c.tc : Thread Cert.EvenInDwFirstReferenceIdeal.nD Cert.EvenInDwFirstReferenceIdeal.τ).loc Cert.EvenInDwFirstReferenceIdeal.main_arg2) = m ((c.tc : Thread Cert.EvenInDwFirstIdeal.nD Cert.EvenInDwFirstIdeal.τ).loc Cert.EvenInDwFirstIdeal.main_arg2)
      ∧ m' ((c.tc : Thread Cert.EvenInDwFirstReferenceIdeal.nD Cert.EvenInDwFirstReferenceIdeal.τ).loc Cert.EvenInDwFirstReferenceIdeal.main_arg3) = m ((c.tc : Thread Cert.EvenInDwFirstIdeal.nD Cert.EvenInDwFirstIdeal.τ).loc Cert.EvenInDwFirstIdeal.main_arg3)
      ∧ m' ((c.tc : Thread Cert.EvenInDwFirstReferenceIdeal.nD Cert.EvenInDwFirstReferenceIdeal.τ).loc Cert.EvenInDwFirstReferenceIdeal.main_arg4) = m ((c.tc : Thread Cert.EvenInDwFirstIdeal.nD Cert.EvenInDwFirstIdeal.τ).loc Cert.EvenInDwFirstIdeal.main_arg4)) →
    ∃ (v0 : (c : Dev Cert.EvenInDwFirstIdeal.nD) → Buf (Elt Ideal) ((c.tc : Thread Cert.EvenInDwFirstIdeal.nD Cert.EvenInDwFirstIdeal.τ).loc Cert.EvenInDwFirstIdeal.main_v1)),
      θ_run (Cert.EvenInDwFirstIdeal.defs (F := Ideal)) (onTc (τ := Cert.EvenInDwFirstIdeal.τ) (Cert.EvenInDwFirstIdeal.main (F := Ideal))) ⟨m, fun _ => 0, g⟩ (fun r => ∀ c : Dev Cert.EvenInDwFirstIdeal.nD,
          r.2.mem ((c.tc : Thread Cert.EvenInDwFirstIdeal.nD Cert.EvenInDwFirstIdeal.τ).loc Cert.EvenInDwFirstIdeal.main_v1) = v0 c
          ∧ r.2.mem ((c.tc : Thread Cert.EvenInDwFirstIdeal.nD Cert.EvenInDwFirstIdeal.τ).loc Cert.EvenInDwFirstIdeal.main_arg0) = m ((c.tc : Thread Cert.EvenInDwFirstIdeal.nD Cert.EvenInDwFirstIdeal.τ).loc Cert.EvenInDwFirstIdeal.main_arg0)
          ∧ r.2.mem ((c.tc : Thread Cert.EvenInDwFirstIdeal.nD Cert.EvenInDwFirstIdeal.τ).loc Cert.EvenInDwFirstIdeal.main_arg1) = m ((c.tc : Thread Cert.EvenInDwFirstIdeal.nD Cert.EvenInDwFirstIdeal.τ).loc Cert.EvenInDwFirstIdeal.main_arg1)
          ∧ r.2.mem ((c.tc : Thread Cert.EvenInDwFirstIdeal.nD Cert.EvenInDwFirstIdeal.τ).loc Cert.EvenInDwFirstIdeal.main_arg2) = m ((c.tc : Thread Cert.EvenInDwFirstIdeal.nD Cert.EvenInDwFirstIdeal.τ).loc Cert.EvenInDwFirstIdeal.main_arg2)
          ∧ r.2.mem ((c.tc : Thread Cert.EvenInDwFirstIdeal.nD Cert.EvenInDwFirstIdeal.τ).loc Cert.EvenInDwFirstIdeal.main_arg3) = m ((c.tc : Thread Cert.EvenInDwFirstIdeal.nD Cert.EvenInDwFirstIdeal.τ).loc Cert.EvenInDwFirstIdeal.main_arg3)
          ∧ r.2.mem ((c.tc : Thread Cert.EvenInDwFirstIdeal.nD Cert.EvenInDwFirstIdeal.τ).loc Cert.EvenInDwFirstIdeal.main_arg4) = m ((c.tc : Thread Cert.EvenInDwFirstIdeal.nD Cert.EvenInDwFirstIdeal.τ).loc Cert.EvenInDwFirstIdeal.main_arg4))
      ∧ θ_run (Cert.EvenInDwFirstReferenceIdeal.defs (F := Ideal)) (onTc (τ := Cert.EvenInDwFirstReferenceIdeal.τ) (Cert.EvenInDwFirstReferenceIdeal.main (F := Ideal))) ⟨m', fun _ => 0, g'⟩ (fun r => ∀ c : Dev Cert.EvenInDwFirstReferenceIdeal.nD,
          r.2.mem ((c.tc : Thread Cert.EvenInDwFirstReferenceIdeal.nD Cert.EvenInDwFirstReferenceIdeal.τ).loc Cert.EvenInDwFirstReferenceIdeal.main_v18) = v0 c
          ∧ r.2.mem ((c.tc : Thread Cert.EvenInDwFirstReferenceIdeal.nD Cert.EvenInDwFirstReferenceIdeal.τ).loc Cert.EvenInDwFirstReferenceIdeal.main_arg0) = m' ((c.tc : Thread Cert.EvenInDwFirstReferenceIdeal.nD Cert.EvenInDwFirstReferenceIdeal.τ).loc Cert.EvenInDwFirstReferenceIdeal.main_arg0)
          ∧ r.2.mem ((c.tc : Thread Cert.EvenInDwFirstReferenceIdeal.nD Cert.EvenInDwFirstReferenceIdeal.τ).loc Cert.EvenInDwFirstReferenceIdeal.main_arg1) = m' ((c.tc : Thread Cert.EvenInDwFirstReferenceIdeal.nD Cert.EvenInDwFirstReferenceIdeal.τ).loc Cert.EvenInDwFirstReferenceIdeal.main_arg1)
          ∧ r.2.mem ((c.tc : Thread Cert.EvenInDwFirstReferenceIdeal.nD Cert.EvenInDwFirstReferenceIdeal.τ).loc Cert.EvenInDwFirstReferenceIdeal.main_arg2) = m' ((c.tc : Thread Cert.EvenInDwFirstReferenceIdeal.nD Cert.EvenInDwFirstReferenceIdeal.τ).loc Cert.EvenInDwFirstReferenceIdeal.main_arg2)
          ∧ r.2.mem ((c.tc : Thread Cert.EvenInDwFirstReferenceIdeal.nD Cert.EvenInDwFirstReferenceIdeal.τ).loc Cert.EvenInDwFirstReferenceIdeal.main_arg3) = m' ((c.tc : Thread Cert.EvenInDwFirstReferenceIdeal.nD Cert.EvenInDwFirstReferenceIdeal.τ).loc Cert.EvenInDwFirstReferenceIdeal.main_arg3)
          ∧ r.2.mem ((c.tc : Thread Cert.EvenInDwFirstReferenceIdeal.nD Cert.EvenInDwFirstReferenceIdeal.τ).loc Cert.EvenInDwFirstReferenceIdeal.main_arg4) = m' ((c.tc : Thread Cert.EvenInDwFirstReferenceIdeal.nD Cert.EvenInDwFirstReferenceIdeal.τ).loc Cert.EvenInDwFirstReferenceIdeal.main_arg4))

def preserves_EvenIn_EvenInIdeal : Prop :=
  True

def algebraic_EvenInIdeal_EvenInReferenceIdeal [hEvenInIdeal : Cert.EvenInIdeal.Facts] [hEvenInReferenceIdeal : Cert.EvenInReferenceIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInReferenceIdeal.nD Cert.EvenInReferenceIdeal.τ Cert.EvenInReferenceIdeal.sig) → Buf (Elt Ideal) ℓ) (g' : Dev Cert.EvenInReferenceIdeal.nD → PrngReg), Pre_EvenInIdeal m →
    (∀ c : Dev Cert.EvenInIdeal.nD,
      m' ((c.tc : Thread Cert.EvenInReferenceIdeal.nD Cert.EvenInReferenceIdeal.τ).loc Cert.EvenInReferenceIdeal.main_arg0) = m ((c.tc : Thread Cert.EvenInIdeal.nD Cert.EvenInIdeal.τ).loc Cert.EvenInIdeal.main_arg0)
      ∧ m' ((c.tc : Thread Cert.EvenInReferenceIdeal.nD Cert.EvenInReferenceIdeal.τ).loc Cert.EvenInReferenceIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v8)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v8) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInReferenceIdeal.defs (F := Ideal)) (onTc (τ := Cert.EvenInReferenceIdeal.τ) (Cert.EvenInReferenceIdeal.main (F := Ideal))) ⟨m', fun _ => 0, g'⟩ (fun r => ∀ c : Dev Cert.EvenInReferenceIdeal.nD,
          r.2.mem ((c.tc : Thread Cert.EvenInReferenceIdeal.nD Cert.EvenInReferenceIdeal.τ).loc Cert.EvenInReferenceIdeal.main_v1) = v0 c
          ∧ r.2.mem ((c.tc : Thread Cert.EvenInReferenceIdeal.nD Cert.EvenInReferenceIdeal.τ).loc Cert.EvenInReferenceIdeal.main_arg0) = m' ((c.tc : Thread Cert.EvenInReferenceIdeal.nD Cert.EvenInReferenceIdeal.τ).loc Cert.EvenInReferenceIdeal.main_arg0)
          ∧ r.2.mem ((c.tc : Thread Cert.EvenInReferenceIdeal.nD Cert.EvenInReferenceIdeal.τ).loc Cert.EvenInReferenceIdeal.main_arg1) = m' ((c.tc : Thread Cert.EvenInReferenceIdeal.nD Cert.EvenInReferenceIdeal.τ).loc Cert.EvenInReferenceIdeal.main_arg1))

def preserves_FirstNorm_FirstNormIdeal : Prop :=
  True

def algebraic_FirstNormIdeal_FirstNormReferenceIdeal_pre_finite_first_norm [hFirstNormIdeal : Cert.FirstNormIdeal.Facts] [hFirstNormReferenceIdeal : Cert.FirstNormReferenceIdeal.Facts] [hPre_finite_first_norm : Cert.Pre_finite_first_norm.Facts] : Prop :=
  ∀ (m : (ℓ : Loc Cert.FirstNormIdeal.nD Cert.FirstNormIdeal.τ Cert.FirstNormIdeal.sig) → Buf (Elt Ideal) ℓ) (g : Dev Cert.FirstNormIdeal.nD → PrngReg)
    (m' : (ℓ : Loc Cert.FirstNormReferenceIdeal.nD Cert.FirstNormReferenceIdeal.τ Cert.FirstNormReferenceIdeal.sig) → Buf (Elt Ideal) ℓ) (g' : Dev Cert.FirstNormReferenceIdeal.nD → PrngReg), Pre_FirstNormIdeal_finite_first_norm m →
    (∀ c : Dev Cert.FirstNormIdeal.nD,
      m' ((c.tc : Thread Cert.FirstNormReferenceIdeal.nD Cert.FirstNormReferenceIdeal.τ).loc Cert.FirstNormReferenceIdeal.main_arg0) = m ((c.tc : Thread Cert.FirstNormIdeal.nD Cert.FirstNormIdeal.τ).loc Cert.FirstNormIdeal.main_arg0)
      ∧ m' ((c.tc : Thread Cert.FirstNormReferenceIdeal.nD Cert.FirstNormReferenceIdeal.τ).loc Cert.FirstNormReferenceIdeal.main_arg1) = m ((c.tc : Thread Cert.FirstNormIdeal.nD Cert.FirstNormIdeal.τ).loc Cert.FirstNormIdeal.main_arg1)
      ∧ m' ((c.tc : Thread Cert.FirstNormReferenceIdeal.nD Cert.FirstNormReferenceIdeal.τ).loc Cert.FirstNormReferenceIdeal.main_arg2) = m ((c.tc : Thread Cert.FirstNormIdeal.nD Cert.FirstNormIdeal.τ).loc Cert.FirstNormIdeal.main_arg2)
      ∧ m' ((c.tc : Thread Cert.FirstNormReferenceIdeal.nD Cert.FirstNormReferenceIdeal.τ).loc Cert.FirstNormReferenceIdeal.main_arg3) = m ((c.tc : Thread Cert.FirstNormIdeal.nD Cert.FirstNormIdeal.τ).loc Cert.FirstNormIdeal.main_arg3)) →
    ∃ (v0 : (c : Dev Cert.FirstNormIdeal.nD) → Buf (Elt Ideal) ((c.tc : Thread Cert.FirstNormIdeal.nD Cert.FirstNormIdeal.τ).loc Cert.FirstNormIdeal.main_v1_0)) (v1 : (c : Dev Cert.FirstNormIdeal.nD) → Buf (Elt Ideal) ((c.tc : Thread Cert.FirstNormIdeal.nD Cert.FirstNormIdeal.τ).loc Cert.FirstNormIdeal.main_v1_1)),
      θ_run (Cert.FirstNormIdeal.defs (F := Ideal)) (onTc (τ := Cert.FirstNormIdeal.τ) (Cert.FirstNormIdeal.main (F := Ideal))) ⟨m, fun _ => 0, g⟩ (fun r => ∀ c : Dev Cert.FirstNormIdeal.nD,
          r.2.mem ((c.tc : Thread Cert.FirstNormIdeal.nD Cert.FirstNormIdeal.τ).loc Cert.FirstNormIdeal.main_v1_0) = v0 c
          ∧ r.2.mem ((c.tc : Thread Cert.FirstNormIdeal.nD Cert.FirstNormIdeal.τ).loc Cert.FirstNormIdeal.main_v1_1) = v1 c
          ∧ r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
          ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1)
          ∧ r.2.mem ((c.tc : Thread Cert.FirstNormIdeal.nD Cert.FirstNormIdeal.τ).loc Cert.FirstNormIdeal.main_arg2) = m ((c.tc : Thread Cert.FirstNormIdeal.nD Cert.FirstNormIdeal.τ).loc Cert.FirstNormIdeal.main_arg2)
          ∧ r.2.mem ((c.tc : Thread Cert.FirstNormIdeal.nD Cert.FirstNormIdeal.τ).loc Cert.FirstNormIdeal.main_arg3) = m ((c.tc : Thread Cert.FirstNormIdeal.nD Cert.FirstNormIdeal.τ).loc Cert.FirstNormIdeal.main_arg3))
      ∧ θ_run (Cert.FirstNormReferenceIdeal.defs (F := Ideal)) (onTc (τ := Cert.FirstNormReferenceIdeal.τ) (Cert.FirstNormReferenceIdeal.main (F := Ideal))) ⟨m', fun _ => 0, g'⟩ (fun r => ∀ c : Dev Cert.FirstNormReferenceIdeal.nD,
          r.2.mem ((c.tc : Thread Cert.FirstNormReferenceIdeal.nD Cert.FirstNormReferenceIdeal.τ).loc Cert.FirstNormReferenceIdeal.main_v36) = v0 c
          ∧ r.2.mem ((c.tc : Thread Cert.FirstNormReferenceIdeal.nD Cert.FirstNormReferenceIdeal.τ).loc Cert.FirstNormReferenceIdeal.main_v37) = v1 c
          ∧ r.2.mem ((c.tc : Thread Cert.FirstNormReferenceIdeal.nD Cert.FirstNormReferenceIdeal.τ).loc Cert.FirstNormReferenceIdeal.main_arg0) = m' ((c.tc : Thread Cert.FirstNormReferenceIdeal.nD Cert.FirstNormReferenceIdeal.τ).loc Cert.FirstNormReferenceIdeal.main_arg0)
          ∧ r.2.mem ((c.tc : Thread Cert.FirstNormReferenceIdeal.nD Cert.FirstNormReferenceIdeal.τ).loc Cert.FirstNormReferenceIdeal.main_arg1) = m' ((c.tc : Thread Cert.FirstNormReferenceIdeal.nD Cert.FirstNormReferenceIdeal.τ).loc Cert.FirstNormReferenceIdeal.main_arg1)
          ∧ r.2.mem ((c.tc : Thread Cert.FirstNormReferenceIdeal.nD Cert.FirstNormReferenceIdeal.τ).loc Cert.FirstNormReferenceIdeal.main_arg2) = m' ((c.tc : Thread Cert.FirstNormReferenceIdeal.nD Cert.FirstNormReferenceIdeal.τ).loc Cert.FirstNormReferenceIdeal.main_arg2)
          ∧ r.2.mem ((c.tc : Thread Cert.FirstNormReferenceIdeal.nD Cert.FirstNormReferenceIdeal.τ).loc Cert.FirstNormReferenceIdeal.main_arg3) = m' ((c.tc : Thread Cert.FirstNormReferenceIdeal.nD Cert.FirstNormReferenceIdeal.τ).loc Cert.FirstNormReferenceIdeal.main_arg3))

def preserves_MidNorms_MidNormsIdeal : Prop :=
  True

def algebraic_MidNormsIdeal_MidNormsReferenceIdeal_pre_finite_mid_norms [hMidNormsIdeal : Cert.MidNormsIdeal.Facts] [hMidNormsReferenceIdeal : Cert.MidNormsReferenceIdeal.Facts] [hPre_finite_mid_norms : Cert.Pre_finite_mid_norms.Facts] : Prop :=
  ∀ (m : (ℓ : Loc Cert.MidNormsIdeal.nD Cert.MidNormsIdeal.τ Cert.MidNormsIdeal.sig) → Buf (Elt Ideal) ℓ) (g : Dev Cert.MidNormsIdeal.nD → PrngReg)
    (m' : (ℓ : Loc Cert.MidNormsReferenceIdeal.nD Cert.MidNormsReferenceIdeal.τ Cert.MidNormsReferenceIdeal.sig) → Buf (Elt Ideal) ℓ) (g' : Dev Cert.MidNormsReferenceIdeal.nD → PrngReg), Pre_MidNormsIdeal_finite_mid_norms m →
    (∀ c : Dev Cert.MidNormsIdeal.nD,
      m' ((c.tc : Thread Cert.MidNormsReferenceIdeal.nD Cert.MidNormsReferenceIdeal.τ).loc Cert.MidNormsReferenceIdeal.main_arg0) = m ((c.tc : Thread Cert.MidNormsIdeal.nD Cert.MidNormsIdeal.τ).loc Cert.MidNormsIdeal.main_arg0)
      ∧ m' ((c.tc : Thread Cert.MidNormsReferenceIdeal.nD Cert.MidNormsReferenceIdeal.τ).loc Cert.MidNormsReferenceIdeal.main_arg1) = m ((c.tc : Thread Cert.MidNormsIdeal.nD Cert.MidNormsIdeal.τ).loc Cert.MidNormsIdeal.main_arg1)
      ∧ m' ((c.tc : Thread Cert.MidNormsReferenceIdeal.nD Cert.MidNormsReferenceIdeal.τ).loc Cert.MidNormsReferenceIdeal.main_arg2) = m ((c.tc : Thread Cert.MidNormsIdeal.nD Cert.MidNormsIdeal.τ).loc Cert.MidNormsIdeal.main_arg2)
      ∧ m' ((c.tc : Thread Cert.MidNormsReferenceIdeal.nD Cert.MidNormsReferenceIdeal.τ).loc Cert.MidNormsReferenceIdeal.main_arg3) = m ((c.tc : Thread Cert.MidNormsIdeal.nD Cert.MidNormsIdeal.τ).loc Cert.MidNormsIdeal.main_arg3)
      ∧ m' ((c.tc : Thread Cert.MidNormsReferenceIdeal.nD Cert.MidNormsReferenceIdeal.τ).loc Cert.MidNormsReferenceIdeal.main_arg4) = m ((c.tc : Thread Cert.MidNormsIdeal.nD Cert.MidNormsIdeal.τ).loc Cert.MidNormsIdeal.main_arg4)
      ∧ m' ((c.tc : Thread Cert.MidNormsReferenceIdeal.nD Cert.MidNormsReferenceIdeal.τ).loc Cert.MidNormsReferenceIdeal.main_arg5) = m ((c.tc : Thread Cert.MidNormsIdeal.nD Cert.MidNormsIdeal.τ).loc Cert.MidNormsIdeal.main_arg5)) →
    ∃ (v0 : (c : Dev Cert.MidNormsIdeal.nD) → Buf (Elt Ideal) ((c.tc : Thread Cert.MidNormsIdeal.nD Cert.MidNormsIdeal.τ).loc Cert.MidNormsIdeal.main_v2_0)) (v1 : (c : Dev Cert.MidNormsIdeal.nD) → Buf (Elt Ideal) ((c.tc : Thread Cert.MidNormsIdeal.nD Cert.MidNormsIdeal.τ).loc Cert.MidNormsIdeal.main_v2_1)) (v2 : (c : Dev Cert.MidNormsIdeal.nD) → Buf (Elt Ideal) ((c.tc : Thread Cert.MidNormsIdeal.nD Cert.MidNormsIdeal.τ).loc Cert.MidNormsIdeal.main_v2_2)) (v3 : (c : Dev Cert.MidNormsIdeal.nD) → Buf (Elt Ideal) ((c.tc : Thread Cert.MidNormsIdeal.nD Cert.MidNormsIdeal.τ).loc Cert.MidNormsIdeal.main_v2_3)),
      θ_run (Cert.MidNormsIdeal.defs (F := Ideal)) (onTc (τ := Cert.MidNormsIdeal.τ) (Cert.MidNormsIdeal.main (F := Ideal))) ⟨m, fun _ => 0, g⟩ (fun r => ∀ c : Dev Cert.MidNormsIdeal.nD,
          r.2.mem ((c.tc : Thread Cert.MidNormsIdeal.nD Cert.MidNormsIdeal.τ).loc Cert.MidNormsIdeal.main_v2_0) = v0 c
          ∧ r.2.mem ((c.tc : Thread Cert.MidNormsIdeal.nD Cert.MidNormsIdeal.τ).loc Cert.MidNormsIdeal.main_v2_1) = v1 c
          ∧ r.2.mem ((c.tc : Thread Cert.MidNormsIdeal.nD Cert.MidNormsIdeal.τ).loc Cert.MidNormsIdeal.main_v2_2) = v2 c
          ∧ r.2.mem ((c.tc : Thread Cert.MidNormsIdeal.nD Cert.MidNormsIdeal.τ).loc Cert.MidNormsIdeal.main_v2_3) = v3 c
          ∧ r.2.mem ((c.tc : Thread Cert.MidNormsIdeal.nD Cert.MidNormsIdeal.τ).loc Cert.MidNormsIdeal.main_arg0) = m ((c.tc : Thread Cert.MidNormsIdeal.nD Cert.MidNormsIdeal.τ).loc Cert.MidNormsIdeal.main_arg0)
          ∧ r.2.mem ((c.tc : Thread Cert.MidNormsIdeal.nD Cert.MidNormsIdeal.τ).loc Cert.MidNormsIdeal.main_arg1) = m ((c.tc : Thread Cert.MidNormsIdeal.nD Cert.MidNormsIdeal.τ).loc Cert.MidNormsIdeal.main_arg1)
          ∧ r.2.mem ((c.tc : Thread Cert.MidNormsIdeal.nD Cert.MidNormsIdeal.τ).loc Cert.MidNormsIdeal.main_arg2) = m ((c.tc : Thread Cert.MidNormsIdeal.nD Cert.MidNormsIdeal.τ).loc Cert.MidNormsIdeal.main_arg2)
          ∧ r.2.mem ((c.tc : Thread Cert.MidNormsIdeal.nD Cert.MidNormsIdeal.τ).loc Cert.MidNormsIdeal.main_arg3) = m ((c.tc : Thread Cert.MidNormsIdeal.nD Cert.MidNormsIdeal.τ).loc Cert.MidNormsIdeal.main_arg3)
          ∧ r.2.mem ((c.tc : Thread Cert.MidNormsIdeal.nD Cert.MidNormsIdeal.τ).loc Cert.MidNormsIdeal.main_arg4) = m ((c.tc : Thread Cert.MidNormsIdeal.nD Cert.MidNormsIdeal.τ).loc Cert.MidNormsIdeal.main_arg4)
          ∧ r.2.mem ((c.tc : Thread Cert.MidNormsIdeal.nD Cert.MidNormsIdeal.τ).loc Cert.MidNormsIdeal.main_arg5) = m ((c.tc : Thread Cert.MidNormsIdeal.nD Cert.MidNormsIdeal.τ).loc Cert.MidNormsIdeal.main_arg5))
      ∧ θ_run (Cert.MidNormsReferenceIdeal.defs (F := Ideal)) (onTc (τ := Cert.MidNormsReferenceIdeal.τ) (Cert.MidNormsReferenceIdeal.main (F := Ideal))) ⟨m', fun _ => 0, g'⟩ (fun r => ∀ c : Dev Cert.MidNormsReferenceIdeal.nD,
          r.2.mem ((c.tc : Thread Cert.MidNormsReferenceIdeal.nD Cert.MidNormsReferenceIdeal.τ).loc Cert.MidNormsReferenceIdeal.main_v36) = v0 c
          ∧ r.2.mem ((c.tc : Thread Cert.MidNormsReferenceIdeal.nD Cert.MidNormsReferenceIdeal.τ).loc Cert.MidNormsReferenceIdeal.main_v73) = v1 c
          ∧ r.2.mem ((c.tc : Thread Cert.MidNormsReferenceIdeal.nD Cert.MidNormsReferenceIdeal.τ).loc Cert.MidNormsReferenceIdeal.main_v74) = v2 c
          ∧ r.2.mem ((c.tc : Thread Cert.MidNormsReferenceIdeal.nD Cert.MidNormsReferenceIdeal.τ).loc Cert.MidNormsReferenceIdeal.main_v75) = v3 c
          ∧ r.2.mem ((c.tc : Thread Cert.MidNormsReferenceIdeal.nD Cert.MidNormsReferenceIdeal.τ).loc Cert.MidNormsReferenceIdeal.main_arg0) = m' ((c.tc : Thread Cert.MidNormsReferenceIdeal.nD Cert.MidNormsReferenceIdeal.τ).loc Cert.MidNormsReferenceIdeal.main_arg0)
          ∧ r.2.mem ((c.tc : Thread Cert.MidNormsReferenceIdeal.nD Cert.MidNormsReferenceIdeal.τ).loc Cert.MidNormsReferenceIdeal.main_arg1) = m' ((c.tc : Thread Cert.MidNormsReferenceIdeal.nD Cert.MidNormsReferenceIdeal.τ).loc Cert.MidNormsReferenceIdeal.main_arg1)
          ∧ r.2.mem ((c.tc : Thread Cert.MidNormsReferenceIdeal.nD Cert.MidNormsReferenceIdeal.τ).loc Cert.MidNormsReferenceIdeal.main_arg2) = m' ((c.tc : Thread Cert.MidNormsReferenceIdeal.nD Cert.MidNormsReferenceIdeal.τ).loc Cert.MidNormsReferenceIdeal.main_arg2)
          ∧ r.2.mem ((c.tc : Thread Cert.MidNormsReferenceIdeal.nD Cert.MidNormsReferenceIdeal.τ).loc Cert.MidNormsReferenceIdeal.main_arg3) = m' ((c.tc : Thread Cert.MidNormsReferenceIdeal.nD Cert.MidNormsReferenceIdeal.τ).loc Cert.MidNormsReferenceIdeal.main_arg3)
          ∧ r.2.mem ((c.tc : Thread Cert.MidNormsReferenceIdeal.nD Cert.MidNormsReferenceIdeal.τ).loc Cert.MidNormsReferenceIdeal.main_arg4) = m' ((c.tc : Thread Cert.MidNormsReferenceIdeal.nD Cert.MidNormsReferenceIdeal.τ).loc Cert.MidNormsReferenceIdeal.main_arg4)
          ∧ r.2.mem ((c.tc : Thread Cert.MidNormsReferenceIdeal.nD Cert.MidNormsReferenceIdeal.τ).loc Cert.MidNormsReferenceIdeal.main_arg5) = m' ((c.tc : Thread Cert.MidNormsReferenceIdeal.nD Cert.MidNormsReferenceIdeal.τ).loc Cert.MidNormsReferenceIdeal.main_arg5))

def preserves_LossDx_LossDxIdeal : Prop :=
  True

def algebraic_LossDxIdeal_LossDxReferenceIdeal_pre_finite_loss [hLossDxIdeal : Cert.LossDxIdeal.Facts] [hLossDxReferenceIdeal : Cert.LossDxReferenceIdeal.Facts] [hPre_finite_loss : Cert.Pre_finite_loss.Facts] : Prop :=
  ∀ (m : (ℓ : Loc Cert.LossDxIdeal.nD Cert.LossDxIdeal.τ Cert.LossDxIdeal.sig) → Buf (Elt Ideal) ℓ) (g : Dev Cert.LossDxIdeal.nD → PrngReg)
    (m' : (ℓ : Loc Cert.LossDxReferenceIdeal.nD Cert.LossDxReferenceIdeal.τ Cert.LossDxReferenceIdeal.sig) → Buf (Elt Ideal) ℓ) (g' : Dev Cert.LossDxReferenceIdeal.nD → PrngReg), Pre_LossDxIdeal_finite_loss m →
    (∀ c : Dev Cert.LossDxIdeal.nD,
      m' ((c.tc : Thread Cert.LossDxReferenceIdeal.nD Cert.LossDxReferenceIdeal.τ).loc Cert.LossDxReferenceIdeal.main_arg0) = m ((c.tc : Thread Cert.LossDxIdeal.nD Cert.LossDxIdeal.τ).loc Cert.LossDxIdeal.main_arg0)
      ∧ m' ((c.tc : Thread Cert.LossDxReferenceIdeal.nD Cert.LossDxReferenceIdeal.τ).loc Cert.LossDxReferenceIdeal.main_arg1) = m ((c.tc : Thread Cert.LossDxIdeal.nD Cert.LossDxIdeal.τ).loc Cert.LossDxIdeal.main_arg1)
      ∧ m' ((c.tc : Thread Cert.LossDxReferenceIdeal.nD Cert.LossDxReferenceIdeal.τ).loc Cert.LossDxReferenceIdeal.main_arg2) = m ((c.tc : Thread Cert.LossDxIdeal.nD Cert.LossDxIdeal.τ).loc Cert.LossDxIdeal.main_arg2)
      ∧ m' ((c.tc : Thread Cert.LossDxReferenceIdeal.nD Cert.LossDxReferenceIdeal.τ).loc Cert.LossDxReferenceIdeal.main_arg3) = m ((c.tc : Thread Cert.LossDxIdeal.nD Cert.LossDxIdeal.τ).loc Cert.LossDxIdeal.main_arg3)
      ∧ m' ((c.tc : Thread Cert.LossDxReferenceIdeal.nD Cert.LossDxReferenceIdeal.τ).loc Cert.LossDxReferenceIdeal.main_arg4) = m ((c.tc : Thread Cert.LossDxIdeal.nD Cert.LossDxIdeal.τ).loc Cert.LossDxIdeal.main_arg4)
      ∧ m' ((c.tc : Thread Cert.LossDxReferenceIdeal.nD Cert.LossDxReferenceIdeal.τ).loc Cert.LossDxReferenceIdeal.main_arg5) = m ((c.tc : Thread Cert.LossDxIdeal.nD Cert.LossDxIdeal.τ).loc Cert.LossDxIdeal.main_arg5)) →
    ∃ (v0 : (c : Dev Cert.LossDxIdeal.nD) → Buf (Elt Ideal) ((c.tc : Thread Cert.LossDxIdeal.nD Cert.LossDxIdeal.τ).loc Cert.LossDxIdeal.main_v2_0)) (v1 : (c : Dev Cert.LossDxIdeal.nD) → Buf (Elt Ideal) ((c.tc : Thread Cert.LossDxIdeal.nD Cert.LossDxIdeal.τ).loc Cert.LossDxIdeal.main_v2_1)) (v2 : (c : Dev Cert.LossDxIdeal.nD) → Buf (Elt Ideal) ((c.tc : Thread Cert.LossDxIdeal.nD Cert.LossDxIdeal.τ).loc Cert.LossDxIdeal.main_v2_2)) (v3 : (c : Dev Cert.LossDxIdeal.nD) → Buf (Elt Ideal) ((c.tc : Thread Cert.LossDxIdeal.nD Cert.LossDxIdeal.τ).loc Cert.LossDxIdeal.main_v2_3)),
      θ_run (Cert.LossDxIdeal.defs (F := Ideal)) (onTc (τ := Cert.LossDxIdeal.τ) (Cert.LossDxIdeal.main (F := Ideal))) ⟨m, fun _ => 0, g⟩ (fun r => ∀ c : Dev Cert.LossDxIdeal.nD,
          r.2.mem ((c.tc : Thread Cert.LossDxIdeal.nD Cert.LossDxIdeal.τ).loc Cert.LossDxIdeal.main_v2_0) = v0 c
          ∧ r.2.mem ((c.tc : Thread Cert.LossDxIdeal.nD Cert.LossDxIdeal.τ).loc Cert.LossDxIdeal.main_v2_1) = v1 c
          ∧ r.2.mem ((c.tc : Thread Cert.LossDxIdeal.nD Cert.LossDxIdeal.τ).loc Cert.LossDxIdeal.main_v2_2) = v2 c
          ∧ r.2.mem ((c.tc : Thread Cert.LossDxIdeal.nD Cert.LossDxIdeal.τ).loc Cert.LossDxIdeal.main_v2_3) = v3 c
          ∧ r.2.mem ((c.tc : Thread Cert.LossDxIdeal.nD Cert.LossDxIdeal.τ).loc Cert.LossDxIdeal.main_arg0) = m ((c.tc : Thread Cert.LossDxIdeal.nD Cert.LossDxIdeal.τ).loc Cert.LossDxIdeal.main_arg0)
          ∧ r.2.mem ((c.tc : Thread Cert.LossDxIdeal.nD Cert.LossDxIdeal.τ).loc Cert.LossDxIdeal.main_arg1) = m ((c.tc : Thread Cert.LossDxIdeal.nD Cert.LossDxIdeal.τ).loc Cert.LossDxIdeal.main_arg1)
          ∧ r.2.mem ((c.tc : Thread Cert.LossDxIdeal.nD Cert.LossDxIdeal.τ).loc Cert.LossDxIdeal.main_arg2) = m ((c.tc : Thread Cert.LossDxIdeal.nD Cert.LossDxIdeal.τ).loc Cert.LossDxIdeal.main_arg2)
          ∧ r.2.mem ((c.tc : Thread Cert.LossDxIdeal.nD Cert.LossDxIdeal.τ).loc Cert.LossDxIdeal.main_arg3) = m ((c.tc : Thread Cert.LossDxIdeal.nD Cert.LossDxIdeal.τ).loc Cert.LossDxIdeal.main_arg3)
          ∧ r.2.mem ((c.tc : Thread Cert.LossDxIdeal.nD Cert.LossDxIdeal.τ).loc Cert.LossDxIdeal.main_arg4) = m ((c.tc : Thread Cert.LossDxIdeal.nD Cert.LossDxIdeal.τ).loc Cert.LossDxIdeal.main_arg4)
          ∧ r.2.mem ((c.tc : Thread Cert.LossDxIdeal.nD Cert.LossDxIdeal.τ).loc Cert.LossDxIdeal.main_arg5) = m ((c.tc : Thread Cert.LossDxIdeal.nD Cert.LossDxIdeal.τ).loc Cert.LossDxIdeal.main_arg5))
      ∧ θ_run (Cert.LossDxReferenceIdeal.defs (F := Ideal)) (onTc (τ := Cert.LossDxReferenceIdeal.τ) (Cert.LossDxReferenceIdeal.main (F := Ideal))) ⟨m', fun _ => 0, g'⟩ (fun r => ∀ c : Dev Cert.LossDxReferenceIdeal.nD,
          r.2.mem ((c.tc : Thread Cert.LossDxReferenceIdeal.nD Cert.LossDxReferenceIdeal.τ).loc Cert.LossDxReferenceIdeal.main_v54) = v0 c
          ∧ r.2.mem ((c.tc : Thread Cert.LossDxReferenceIdeal.nD Cert.LossDxReferenceIdeal.τ).loc Cert.LossDxReferenceIdeal.main_v33) = v1 c
          ∧ r.2.mem ((c.tc : Thread Cert.LossDxReferenceIdeal.nD Cert.LossDxReferenceIdeal.τ).loc Cert.LossDxReferenceIdeal.main_v55) = v2 c
          ∧ r.2.mem ((c.tc : Thread Cert.LossDxReferenceIdeal.nD Cert.LossDxReferenceIdeal.τ).loc Cert.LossDxReferenceIdeal.main_v56) = v3 c
          ∧ r.2.mem ((c.tc : Thread Cert.LossDxReferenceIdeal.nD Cert.LossDxReferenceIdeal.τ).loc Cert.LossDxReferenceIdeal.main_arg0) = m' ((c.tc : Thread Cert.LossDxReferenceIdeal.nD Cert.LossDxReferenceIdeal.τ).loc Cert.LossDxReferenceIdeal.main_arg0)
          ∧ r.2.mem ((c.tc : Thread Cert.LossDxReferenceIdeal.nD Cert.LossDxReferenceIdeal.τ).loc Cert.LossDxReferenceIdeal.main_arg1) = m' ((c.tc : Thread Cert.LossDxReferenceIdeal.nD Cert.LossDxReferenceIdeal.τ).loc Cert.LossDxReferenceIdeal.main_arg1)
          ∧ r.2.mem ((c.tc : Thread Cert.LossDxReferenceIdeal.nD Cert.LossDxReferenceIdeal.τ).loc Cert.LossDxReferenceIdeal.main_arg2) = m' ((c.tc : Thread Cert.LossDxReferenceIdeal.nD Cert.LossDxReferenceIdeal.τ).loc Cert.LossDxReferenceIdeal.main_arg2)
          ∧ r.2.mem ((c.tc : Thread Cert.LossDxReferenceIdeal.nD Cert.LossDxReferenceIdeal.τ).loc Cert.LossDxReferenceIdeal.main_arg3) = m' ((c.tc : Thread Cert.LossDxReferenceIdeal.nD Cert.LossDxReferenceIdeal.τ).loc Cert.LossDxReferenceIdeal.main_arg3)
          ∧ r.2.mem ((c.tc : Thread Cert.LossDxReferenceIdeal.nD Cert.LossDxReferenceIdeal.τ).loc Cert.LossDxReferenceIdeal.main_arg4) = m' ((c.tc : Thread Cert.LossDxReferenceIdeal.nD Cert.LossDxReferenceIdeal.τ).loc Cert.LossDxReferenceIdeal.main_arg4)
          ∧ r.2.mem ((c.tc : Thread Cert.LossDxReferenceIdeal.nD Cert.LossDxReferenceIdeal.τ).loc Cert.LossDxReferenceIdeal.main_arg5) = m' ((c.tc : Thread Cert.LossDxReferenceIdeal.nD Cert.LossDxReferenceIdeal.τ).loc Cert.LossDxReferenceIdeal.main_arg5))

def preserves_FirstNormFwd_FirstNormFwdIdeal : Prop :=
  True

def algebraic_FirstNormFwdIdeal_FirstNormFwdReferenceIdeal [hFirstNormFwdIdeal : Cert.FirstNormFwdIdeal.Facts] [hFirstNormFwdReferenceIdeal : Cert.FirstNormFwdReferenceIdeal.Facts] : Prop :=
  ∀ (m : (ℓ : Loc Cert.FirstNormFwdIdeal.nD Cert.FirstNormFwdIdeal.τ Cert.FirstNormFwdIdeal.sig) → Buf (Elt Ideal) ℓ) (g : Dev Cert.FirstNormFwdIdeal.nD → PrngReg)
    (m' : (ℓ : Loc Cert.FirstNormFwdReferenceIdeal.nD Cert.FirstNormFwdReferenceIdeal.τ Cert.FirstNormFwdReferenceIdeal.sig) → Buf (Elt Ideal) ℓ) (g' : Dev Cert.FirstNormFwdReferenceIdeal.nD → PrngReg), Pre_FirstNormFwdIdeal m →
    (∀ c : Dev Cert.FirstNormFwdIdeal.nD,
      m' ((c.tc : Thread Cert.FirstNormFwdReferenceIdeal.nD Cert.FirstNormFwdReferenceIdeal.τ).loc Cert.FirstNormFwdReferenceIdeal.main_arg0) = m ((c.tc : Thread Cert.FirstNormFwdIdeal.nD Cert.FirstNormFwdIdeal.τ).loc Cert.FirstNormFwdIdeal.main_arg0)
      ∧ m' ((c.tc : Thread Cert.FirstNormFwdReferenceIdeal.nD Cert.FirstNormFwdReferenceIdeal.τ).loc Cert.FirstNormFwdReferenceIdeal.main_arg1) = m ((c.tc : Thread Cert.FirstNormFwdIdeal.nD Cert.FirstNormFwdIdeal.τ).loc Cert.FirstNormFwdIdeal.main_arg1)) →
    ∃ (v0 : (c : Dev Cert.FirstNormFwdIdeal.nD) → Buf (Elt Ideal) ((c.tc : Thread Cert.FirstNormFwdIdeal.nD Cert.FirstNormFwdIdeal.τ).loc Cert.FirstNormFwdIdeal.main_v1_0)) (v1 : (c : Dev Cert.FirstNormFwdIdeal.nD) → Buf (Elt Ideal) ((c.tc : Thread Cert.FirstNormFwdIdeal.nD Cert.FirstNormFwdIdeal.τ).loc Cert.FirstNormFwdIdeal.main_v1_1)),
      θ_run (Cert.FirstNormFwdIdeal.defs (F := Ideal)) (onTc (τ := Cert.FirstNormFwdIdeal.τ) (Cert.FirstNormFwdIdeal.main (F := Ideal))) ⟨m, fun _ => 0, g⟩ (fun r => ∀ c : Dev Cert.FirstNormFwdIdeal.nD,
          r.2.mem ((c.tc : Thread Cert.FirstNormFwdIdeal.nD Cert.FirstNormFwdIdeal.τ).loc Cert.FirstNormFwdIdeal.main_v1_0) = v0 c
          ∧ r.2.mem ((c.tc : Thread Cert.FirstNormFwdIdeal.nD Cert.FirstNormFwdIdeal.τ).loc Cert.FirstNormFwdIdeal.main_v1_1) = v1 c
          ∧ r.2.mem ((c.tc : Thread Cert.FirstNormFwdIdeal.nD Cert.FirstNormFwdIdeal.τ).loc Cert.FirstNormFwdIdeal.main_arg0) = m ((c.tc : Thread Cert.FirstNormFwdIdeal.nD Cert.FirstNormFwdIdeal.τ).loc Cert.FirstNormFwdIdeal.main_arg0)
          ∧ r.2.mem ((c.tc : Thread Cert.FirstNormFwdIdeal.nD Cert.FirstNormFwdIdeal.τ).loc Cert.FirstNormFwdIdeal.main_arg1) = m ((c.tc : Thread Cert.FirstNormFwdIdeal.nD Cert.FirstNormFwdIdeal.τ).loc Cert.FirstNormFwdIdeal.main_arg1))
      ∧ θ_run (Cert.FirstNormFwdReferenceIdeal.defs (F := Ideal)) (onTc (τ := Cert.FirstNormFwdReferenceIdeal.τ) (Cert.FirstNormFwdReferenceIdeal.main (F := Ideal))) ⟨m', fun _ => 0, g'⟩ (fun r => ∀ c : Dev Cert.FirstNormFwdReferenceIdeal.nD,
          r.2.mem ((c.tc : Thread Cert.FirstNormFwdReferenceIdeal.nD Cert.FirstNormFwdReferenceIdeal.τ).loc Cert.FirstNormFwdReferenceIdeal.main_v13) = v0 c
          ∧ r.2.mem ((c.tc : Thread Cert.FirstNormFwdReferenceIdeal.nD Cert.FirstNormFwdReferenceIdeal.τ).loc Cert.FirstNormFwdReferenceIdeal.main_v14) = v1 c
          ∧ r.2.mem ((c.tc : Thread Cert.FirstNormFwdReferenceIdeal.nD Cert.FirstNormFwdReferenceIdeal.τ).loc Cert.FirstNormFwdReferenceIdeal.main_arg0) = m' ((c.tc : Thread Cert.FirstNormFwdReferenceIdeal.nD Cert.FirstNormFwdReferenceIdeal.τ).loc Cert.FirstNormFwdReferenceIdeal.main_arg0)
          ∧ r.2.mem ((c.tc : Thread Cert.FirstNormFwdReferenceIdeal.nD Cert.FirstNormFwdReferenceIdeal.τ).loc Cert.FirstNormFwdReferenceIdeal.main_arg1) = m' ((c.tc : Thread Cert.FirstNormFwdReferenceIdeal.nD Cert.FirstNormFwdReferenceIdeal.τ).loc Cert.FirstNormFwdReferenceIdeal.main_arg1))

def preserves_EvenOut_EvenOutIdeal : Prop :=
  True

def algebraic_EvenOutIdeal_EvenOutReferenceIdeal [hEvenOutIdeal : Cert.EvenOutIdeal.Facts] [hEvenOutReferenceIdeal : Cert.EvenOutReferenceIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutReferenceIdeal.nD Cert.EvenOutReferenceIdeal.τ Cert.EvenOutReferenceIdeal.sig) → Buf (Elt Ideal) ℓ) (g' : Dev Cert.EvenOutReferenceIdeal.nD → PrngReg), Pre_EvenOutIdeal m →
    (∀ c : Dev Cert.EvenOutIdeal.nD,
      m' ((c.tc : Thread Cert.EvenOutReferenceIdeal.nD Cert.EvenOutReferenceIdeal.τ).loc Cert.EvenOutReferenceIdeal.main_arg0) = m ((c.tc : Thread Cert.EvenOutIdeal.nD Cert.EvenOutIdeal.τ).loc Cert.EvenOutIdeal.main_arg0)
      ∧ m' ((c.tc : Thread Cert.EvenOutReferenceIdeal.nD Cert.EvenOutReferenceIdeal.τ).loc Cert.EvenOutReferenceIdeal.main_arg1) = m ((c.tc : Thread Cert.EvenOutIdeal.nD Cert.EvenOutIdeal.τ).loc Cert.EvenOutIdeal.main_arg1)
      ∧ m' ((c.tc : Thread Cert.EvenOutReferenceIdeal.nD Cert.EvenOutReferenceIdeal.τ).loc Cert.EvenOutReferenceIdeal.main_arg2) = m ((c.tc : Thread Cert.EvenOutIdeal.nD Cert.EvenOutIdeal.τ).loc Cert.EvenOutIdeal.main_arg2)
      ∧ m' ((c.tc : Thread Cert.EvenOutReferenceIdeal.nD Cert.EvenOutReferenceIdeal.τ).loc Cert.EvenOutReferenceIdeal.main_arg3) = m ((c.tc : Thread Cert.EvenOutIdeal.nD Cert.EvenOutIdeal.τ).loc Cert.EvenOutIdeal.main_arg3)
      ∧ m' ((c.tc : Thread Cert.EvenOutReferenceIdeal.nD Cert.EvenOutReferenceIdeal.τ).loc Cert.EvenOutReferenceIdeal.main_arg4) = m ((c.tc : Thread Cert.EvenOutIdeal.nD Cert.EvenOutIdeal.τ).loc Cert.EvenOutIdeal.main_arg4)
      ∧ m' ((c.tc : Thread Cert.EvenOutReferenceIdeal.nD Cert.EvenOutReferenceIdeal.τ).loc Cert.EvenOutReferenceIdeal.main_arg5) = m ((c.tc : Thread Cert.EvenOutIdeal.nD Cert.EvenOutIdeal.τ).loc Cert.EvenOutIdeal.main_arg5)) →
    ∃ (v0 : (c : Dev Cert.EvenOutIdeal.nD) → Buf (Elt Ideal) ((c.tc : Thread Cert.EvenOutIdeal.nD Cert.EvenOutIdeal.τ).loc Cert.EvenOutIdeal.main_v3_0)) (v1 : (c : Dev Cert.EvenOutIdeal.nD) → Buf (Elt Ideal) ((c.tc : Thread Cert.EvenOutIdeal.nD Cert.EvenOutIdeal.τ).loc Cert.EvenOutIdeal.main_v3_1)) (v2 : (c : Dev Cert.EvenOutIdeal.nD) → Buf (Elt Ideal) ((c.tc : Thread Cert.EvenOutIdeal.nD Cert.EvenOutIdeal.τ).loc Cert.EvenOutIdeal.main_v3_2)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v3_0) = v0 c
          ∧ r.2.mem ((c.tc : Thread Cert.EvenOutIdeal.nD Cert.EvenOutIdeal.τ).loc Cert.EvenOutIdeal.main_v3_1) = v1 c
          ∧ r.2.mem ((c.tc : Thread Cert.EvenOutIdeal.nD Cert.EvenOutIdeal.τ).loc Cert.EvenOutIdeal.main_v3_2) = v2 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5))
      ∧ θ_run (Cert.EvenOutReferenceIdeal.defs (F := Ideal)) (onTc (τ := Cert.EvenOutReferenceIdeal.τ) (Cert.EvenOutReferenceIdeal.main (F := Ideal))) ⟨m', fun _ => 0, g'⟩ (fun r => ∀ c : Dev Cert.EvenOutReferenceIdeal.nD,
          r.2.mem ((c.tc : Thread Cert.EvenOutReferenceIdeal.nD Cert.EvenOutReferenceIdeal.τ).loc Cert.EvenOutReferenceIdeal.main_v1) = v0 c
          ∧ r.2.mem ((c.tc : Thread Cert.EvenOutReferenceIdeal.nD Cert.EvenOutReferenceIdeal.τ).loc Cert.EvenOutReferenceIdeal.main_v15) = v1 c
          ∧ r.2.mem ((c.tc : Thread Cert.EvenOutReferenceIdeal.nD Cert.EvenOutReferenceIdeal.τ).loc Cert.EvenOutReferenceIdeal.main_v29) = v2 c
          ∧ r.2.mem ((c.tc : Thread Cert.EvenOutReferenceIdeal.nD Cert.EvenOutReferenceIdeal.τ).loc Cert.EvenOutReferenceIdeal.main_arg0) = m' ((c.tc : Thread Cert.EvenOutReferenceIdeal.nD Cert.EvenOutReferenceIdeal.τ).loc Cert.EvenOutReferenceIdeal.main_arg0)
          ∧ r.2.mem ((c.tc : Thread Cert.EvenOutReferenceIdeal.nD Cert.EvenOutReferenceIdeal.τ).loc Cert.EvenOutReferenceIdeal.main_arg1) = m' ((c.tc : Thread Cert.EvenOutReferenceIdeal.nD Cert.EvenOutReferenceIdeal.τ).loc Cert.EvenOutReferenceIdeal.main_arg1)
          ∧ r.2.mem ((c.tc : Thread Cert.EvenOutReferenceIdeal.nD Cert.EvenOutReferenceIdeal.τ).loc Cert.EvenOutReferenceIdeal.main_arg2) = m' ((c.tc : Thread Cert.EvenOutReferenceIdeal.nD Cert.EvenOutReferenceIdeal.τ).loc Cert.EvenOutReferenceIdeal.main_arg2)
          ∧ r.2.mem ((c.tc : Thread Cert.EvenOutReferenceIdeal.nD Cert.EvenOutReferenceIdeal.τ).loc Cert.EvenOutReferenceIdeal.main_arg3) = m' ((c.tc : Thread Cert.EvenOutReferenceIdeal.nD Cert.EvenOutReferenceIdeal.τ).loc Cert.EvenOutReferenceIdeal.main_arg3)
          ∧ r.2.mem ((c.tc : Thread Cert.EvenOutReferenceIdeal.nD Cert.EvenOutReferenceIdeal.τ).loc Cert.EvenOutReferenceIdeal.main_arg4) = m' ((c.tc : Thread Cert.EvenOutReferenceIdeal.nD Cert.EvenOutReferenceIdeal.τ).loc Cert.EvenOutReferenceIdeal.main_arg4)
          ∧ r.2.mem ((c.tc : Thread Cert.EvenOutReferenceIdeal.nD Cert.EvenOutReferenceIdeal.τ).loc Cert.EvenOutReferenceIdeal.main_arg5) = m' ((c.tc : Thread Cert.EvenOutReferenceIdeal.nD Cert.EvenOutReferenceIdeal.τ).loc Cert.EvenOutReferenceIdeal.main_arg5))

def preserves_PoolFwd_PoolFwdIdeal : Prop :=
  True

def algebraic_PoolFwdIdeal_PoolFwdReferenceIdeal_pre_finite_pool [hPoolFwdIdeal : Cert.PoolFwdIdeal.Facts] [hPoolFwdReferenceIdeal : Cert.PoolFwdReferenceIdeal.Facts] [hPre_finite_pool : Cert.Pre_finite_pool.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdReferenceIdeal.nD Cert.PoolFwdReferenceIdeal.τ Cert.PoolFwdReferenceIdeal.sig) → Buf (Elt Ideal) ℓ) (g' : Dev Cert.PoolFwdReferenceIdeal.nD → PrngReg), Pre_PoolFwdIdeal_finite_pool m →
    (∀ c : Dev Cert.PoolFwdIdeal.nD,
      m' ((c.tc : Thread Cert.PoolFwdReferenceIdeal.nD Cert.PoolFwdReferenceIdeal.τ).loc Cert.PoolFwdReferenceIdeal.main_arg0) = m ((c.tc : Thread Cert.PoolFwdIdeal.nD Cert.PoolFwdIdeal.τ).loc Cert.PoolFwdIdeal.main_arg0)
      ∧ m' ((c.tc : Thread Cert.PoolFwdReferenceIdeal.nD Cert.PoolFwdReferenceIdeal.τ).loc Cert.PoolFwdReferenceIdeal.main_arg1) = m ((c.tc : Thread Cert.PoolFwdIdeal.nD Cert.PoolFwdIdeal.τ).loc Cert.PoolFwdIdeal.main_arg1)
      ∧ m' ((c.tc : Thread Cert.PoolFwdReferenceIdeal.nD Cert.PoolFwdReferenceIdeal.τ).loc Cert.PoolFwdReferenceIdeal.main_arg2) = m ((c.tc : Thread Cert.PoolFwdIdeal.nD Cert.PoolFwdIdeal.τ).loc Cert.PoolFwdIdeal.main_arg2)) →
    ∃ (v0 : (c : Dev Cert.PoolFwdIdeal.nD) → Buf (Elt Ideal) ((c.tc : Thread Cert.PoolFwdIdeal.nD Cert.PoolFwdIdeal.τ).loc Cert.PoolFwdIdeal.main_v3)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v3) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ θ_run (Cert.PoolFwdReferenceIdeal.defs (F := Ideal)) (onTc (τ := Cert.PoolFwdReferenceIdeal.τ) (Cert.PoolFwdReferenceIdeal.main (F := Ideal))) ⟨m', fun _ => 0, g'⟩ (fun r => ∀ c : Dev Cert.PoolFwdReferenceIdeal.nD,
          r.2.mem ((c.tc : Thread Cert.PoolFwdReferenceIdeal.nD Cert.PoolFwdReferenceIdeal.τ).loc Cert.PoolFwdReferenceIdeal.main_v92) = v0 c
          ∧ r.2.mem ((c.tc : Thread Cert.PoolFwdReferenceIdeal.nD Cert.PoolFwdReferenceIdeal.τ).loc Cert.PoolFwdReferenceIdeal.main_arg0) = m' ((c.tc : Thread Cert.PoolFwdReferenceIdeal.nD Cert.PoolFwdReferenceIdeal.τ).loc Cert.PoolFwdReferenceIdeal.main_arg0)
          ∧ r.2.mem ((c.tc : Thread Cert.PoolFwdReferenceIdeal.nD Cert.PoolFwdReferenceIdeal.τ).loc Cert.PoolFwdReferenceIdeal.main_arg1) = m' ((c.tc : Thread Cert.PoolFwdReferenceIdeal.nD Cert.PoolFwdReferenceIdeal.τ).loc Cert.PoolFwdReferenceIdeal.main_arg1)
          ∧ r.2.mem ((c.tc : Thread Cert.PoolFwdReferenceIdeal.nD Cert.PoolFwdReferenceIdeal.τ).loc Cert.PoolFwdReferenceIdeal.main_arg2) = m' ((c.tc : Thread Cert.PoolFwdReferenceIdeal.nD Cert.PoolFwdReferenceIdeal.τ).loc Cert.PoolFwdReferenceIdeal.main_arg2))

def preserves_AdamOddIn_AdamOddInIdeal : Prop :=
  True

def algebraic_AdamOddInIdeal_AdamOddInReferenceIdeal [hAdamOddInIdeal : Cert.AdamOddInIdeal.Facts] [hAdamOddInReferenceIdeal : Cert.AdamOddInReferenceIdeal.Facts] : Prop :=
  ∀ (m : (ℓ : Loc Cert.AdamOddInIdeal.nD Cert.AdamOddInIdeal.τ Cert.AdamOddInIdeal.sig) → Buf (Elt Ideal) ℓ) (g : Dev Cert.AdamOddInIdeal.nD → PrngReg)
    (m' : (ℓ : Loc Cert.AdamOddInReferenceIdeal.nD Cert.AdamOddInReferenceIdeal.τ Cert.AdamOddInReferenceIdeal.sig) → Buf (Elt Ideal) ℓ) (g' : Dev Cert.AdamOddInReferenceIdeal.nD → PrngReg), Pre_AdamOddInIdeal m →
    (∀ c : Dev Cert.AdamOddInIdeal.nD,
      m' ((c.tc : Thread Cert.AdamOddInReferenceIdeal.nD Cert.AdamOddInReferenceIdeal.τ).loc Cert.AdamOddInReferenceIdeal.main_arg0) = m ((c.tc : Thread Cert.AdamOddInIdeal.nD Cert.AdamOddInIdeal.τ).loc Cert.AdamOddInIdeal.main_arg0)
      ∧ m' ((c.tc : Thread Cert.AdamOddInReferenceIdeal.nD Cert.AdamOddInReferenceIdeal.τ).loc Cert.AdamOddInReferenceIdeal.main_arg1) = m ((c.tc : Thread Cert.AdamOddInIdeal.nD Cert.AdamOddInIdeal.τ).loc Cert.AdamOddInIdeal.main_arg1)
      ∧ m' ((c.tc : Thread Cert.AdamOddInReferenceIdeal.nD Cert.AdamOddInReferenceIdeal.τ).loc Cert.AdamOddInReferenceIdeal.main_arg2) = m ((c.tc : Thread Cert.AdamOddInIdeal.nD Cert.AdamOddInIdeal.τ).loc Cert.AdamOddInIdeal.main_arg2)
      ∧ m' ((c.tc : Thread Cert.AdamOddInReferenceIdeal.nD Cert.AdamOddInReferenceIdeal.τ).loc Cert.AdamOddInReferenceIdeal.main_arg3) = m ((c.tc : Thread Cert.AdamOddInIdeal.nD Cert.AdamOddInIdeal.τ).loc Cert.AdamOddInIdeal.main_arg3)
      ∧ m' ((c.tc : Thread Cert.AdamOddInReferenceIdeal.nD Cert.AdamOddInReferenceIdeal.τ).loc Cert.AdamOddInReferenceIdeal.main_arg4) = m ((c.tc : Thread Cert.AdamOddInIdeal.nD Cert.AdamOddInIdeal.τ).loc Cert.AdamOddInIdeal.main_arg4)) →
    ∃ (v0 : (c : Dev Cert.AdamOddInIdeal.nD) → Buf (Elt Ideal) ((c.tc : Thread Cert.AdamOddInIdeal.nD Cert.AdamOddInIdeal.τ).loc Cert.AdamOddInIdeal.main_v0_0)) (v1 : (c : Dev Cert.AdamOddInIdeal.nD) → Buf (Elt Ideal) ((c.tc : Thread Cert.AdamOddInIdeal.nD Cert.AdamOddInIdeal.τ).loc Cert.AdamOddInIdeal.main_v0_1)) (v2 : (c : Dev Cert.AdamOddInIdeal.nD) → Buf (Elt Ideal) ((c.tc : Thread Cert.AdamOddInIdeal.nD Cert.AdamOddInIdeal.τ).loc Cert.AdamOddInIdeal.main_v0_2)) (v3 : (c : Dev Cert.AdamOddInIdeal.nD) → Buf (Elt Ideal) ((c.tc : Thread Cert.AdamOddInIdeal.nD Cert.AdamOddInIdeal.τ).loc Cert.AdamOddInIdeal.main_v0_3)),
      θ_run (Cert.AdamOddInIdeal.defs (F := Ideal)) (onTc (τ := Cert.AdamOddInIdeal.τ) (Cert.AdamOddInIdeal.main (F := Ideal))) ⟨m, fun _ => 0, g⟩ (fun r => ∀ c : Dev Cert.AdamOddInIdeal.nD,
          r.2.mem ((c.tc : Thread Cert.AdamOddInIdeal.nD Cert.AdamOddInIdeal.τ).loc Cert.AdamOddInIdeal.main_v0_0) = v0 c
          ∧ r.2.mem ((c.tc : Thread Cert.AdamOddInIdeal.nD Cert.AdamOddInIdeal.τ).loc Cert.AdamOddInIdeal.main_v0_1) = v1 c
          ∧ r.2.mem ((c.tc : Thread Cert.AdamOddInIdeal.nD Cert.AdamOddInIdeal.τ).loc Cert.AdamOddInIdeal.main_v0_2) = v2 c
          ∧ r.2.mem ((c.tc : Thread Cert.AdamOddInIdeal.nD Cert.AdamOddInIdeal.τ).loc Cert.AdamOddInIdeal.main_v0_3) = v3 c
          ∧ r.2.mem ((c.tc : Thread Cert.AdamOddInIdeal.nD Cert.AdamOddInIdeal.τ).loc Cert.AdamOddInIdeal.main_arg0) = m ((c.tc : Thread Cert.AdamOddInIdeal.nD Cert.AdamOddInIdeal.τ).loc Cert.AdamOddInIdeal.main_arg0)
          ∧ r.2.mem ((c.tc : Thread Cert.AdamOddInIdeal.nD Cert.AdamOddInIdeal.τ).loc Cert.AdamOddInIdeal.main_arg1) = m ((c.tc : Thread Cert.AdamOddInIdeal.nD Cert.AdamOddInIdeal.τ).loc Cert.AdamOddInIdeal.main_arg1)
          ∧ r.2.mem ((c.tc : Thread Cert.AdamOddInIdeal.nD Cert.AdamOddInIdeal.τ).loc Cert.AdamOddInIdeal.main_arg2) = m ((c.tc : Thread Cert.AdamOddInIdeal.nD Cert.AdamOddInIdeal.τ).loc Cert.AdamOddInIdeal.main_arg2)
          ∧ r.2.mem ((c.tc : Thread Cert.AdamOddInIdeal.nD Cert.AdamOddInIdeal.τ).loc Cert.AdamOddInIdeal.main_arg3) = m ((c.tc : Thread Cert.AdamOddInIdeal.nD Cert.AdamOddInIdeal.τ).loc Cert.AdamOddInIdeal.main_arg3)
          ∧ r.2.mem ((c.tc : Thread Cert.AdamOddInIdeal.nD Cert.AdamOddInIdeal.τ).loc Cert.AdamOddInIdeal.main_arg4) = m ((c.tc : Thread Cert.AdamOddInIdeal.nD Cert.AdamOddInIdeal.τ).loc Cert.AdamOddInIdeal.main_arg4))
      ∧ θ_run (Cert.AdamOddInReferenceIdeal.defs (F := Ideal)) (onTc (τ := Cert.AdamOddInReferenceIdeal.τ) (Cert.AdamOddInReferenceIdeal.main (F := Ideal))) ⟨m', fun _ => 0, g'⟩ (fun r => ∀ c : Dev Cert.AdamOddInReferenceIdeal.nD,
          r.2.mem ((c.tc : Thread Cert.AdamOddInReferenceIdeal.nD Cert.AdamOddInReferenceIdeal.τ).loc Cert.AdamOddInReferenceIdeal.main_v1) = v0 c
          ∧ r.2.mem ((c.tc : Thread Cert.AdamOddInReferenceIdeal.nD Cert.AdamOddInReferenceIdeal.τ).loc Cert.AdamOddInReferenceIdeal.main_v25) = v1 c
          ∧ r.2.mem ((c.tc : Thread Cert.AdamOddInReferenceIdeal.nD Cert.AdamOddInReferenceIdeal.τ).loc Cert.AdamOddInReferenceIdeal.main_v6) = v2 c
          ∧ r.2.mem ((c.tc : Thread Cert.AdamOddInReferenceIdeal.nD Cert.AdamOddInReferenceIdeal.τ).loc Cert.AdamOddInReferenceIdeal.main_v12) = v3 c
          ∧ r.2.mem ((c.tc : Thread Cert.AdamOddInReferenceIdeal.nD Cert.AdamOddInReferenceIdeal.τ).loc Cert.AdamOddInReferenceIdeal.main_arg0) = m' ((c.tc : Thread Cert.AdamOddInReferenceIdeal.nD Cert.AdamOddInReferenceIdeal.τ).loc Cert.AdamOddInReferenceIdeal.main_arg0)
          ∧ r.2.mem ((c.tc : Thread Cert.AdamOddInReferenceIdeal.nD Cert.AdamOddInReferenceIdeal.τ).loc Cert.AdamOddInReferenceIdeal.main_arg1) = m' ((c.tc : Thread Cert.AdamOddInReferenceIdeal.nD Cert.AdamOddInReferenceIdeal.τ).loc Cert.AdamOddInReferenceIdeal.main_arg1)
          ∧ r.2.mem ((c.tc : Thread Cert.AdamOddInReferenceIdeal.nD Cert.AdamOddInReferenceIdeal.τ).loc Cert.AdamOddInReferenceIdeal.main_arg2) = m' ((c.tc : Thread Cert.AdamOddInReferenceIdeal.nD Cert.AdamOddInReferenceIdeal.τ).loc Cert.AdamOddInReferenceIdeal.main_arg2)
          ∧ r.2.mem ((c.tc : Thread Cert.AdamOddInReferenceIdeal.nD Cert.AdamOddInReferenceIdeal.τ).loc Cert.AdamOddInReferenceIdeal.main_arg3) = m' ((c.tc : Thread Cert.AdamOddInReferenceIdeal.nD Cert.AdamOddInReferenceIdeal.τ).loc Cert.AdamOddInReferenceIdeal.main_arg3)
          ∧ r.2.mem ((c.tc : Thread Cert.AdamOddInReferenceIdeal.nD Cert.AdamOddInReferenceIdeal.τ).loc Cert.AdamOddInReferenceIdeal.main_arg4) = m' ((c.tc : Thread Cert.AdamOddInReferenceIdeal.nD Cert.AdamOddInReferenceIdeal.τ).loc Cert.AdamOddInReferenceIdeal.main_arg4))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)
      ∧ m' ((c.tc : Thread Cert.AdamOutReferenceIdeal.nD Cert.AdamOutReferenceIdeal.τ).loc Cert.AdamOutReferenceIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v1) = v0 c
          ∧ r.2.mem ((c.tc : Thread Cert.AdamOutReferenceIdeal.nD Cert.AdamOutReferenceIdeal.τ).loc Cert.AdamOutReferenceIdeal.main_v25) = v1 c
          ∧ r.2.mem ((c.tc : Thread Cert.AdamOutReferenceIdeal.nD Cert.AdamOutReferenceIdeal.τ).loc Cert.AdamOutReferenceIdeal.main_v6) = v2 c
          ∧ r.2.mem ((c.tc : Thread Cert.AdamOutReferenceIdeal.nD Cert.AdamOutReferenceIdeal.τ).loc Cert.AdamOutReferenceIdeal.main_v12) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3)
          ∧ r.2.mem ((c.tc : Thread Cert.AdamOutReferenceIdeal.nD Cert.AdamOutReferenceIdeal.τ).loc Cert.AdamOutReferenceIdeal.main_arg4) = m' ((c.tc : Thread Cert.AdamOutReferenceIdeal.nD Cert.AdamOutReferenceIdeal.τ).loc Cert.AdamOutReferenceIdeal.main_arg4))

def preserves_AdamEvenIn_AdamEvenInIdeal : Prop :=
  True

def algebraic_AdamEvenInIdeal_AdamEvenInReferenceIdeal [hAdamEvenInIdeal : Cert.AdamEvenInIdeal.Facts] [hAdamEvenInReferenceIdeal : Cert.AdamEvenInReferenceIdeal.Facts] : Prop :=
  ∀ (m : (ℓ : Loc Cert.AdamEvenInIdeal.nD Cert.AdamEvenInIdeal.τ Cert.AdamEvenInIdeal.sig) → Buf (Elt Ideal) ℓ) (g : Dev Cert.AdamEvenInIdeal.nD → PrngReg)
    (m' : (ℓ : Loc Cert.AdamEvenInReferenceIdeal.nD Cert.AdamEvenInReferenceIdeal.τ Cert.AdamEvenInReferenceIdeal.sig) → Buf (Elt Ideal) ℓ) (g' : Dev Cert.AdamEvenInReferenceIdeal.nD → PrngReg), Pre_AdamEvenInIdeal m →
    (∀ c : Dev Cert.AdamEvenInIdeal.nD,
      m' ((c.tc : Thread Cert.AdamEvenInReferenceIdeal.nD Cert.AdamEvenInReferenceIdeal.τ).loc Cert.AdamEvenInReferenceIdeal.main_arg0) = m ((c.tc : Thread Cert.AdamEvenInIdeal.nD Cert.AdamEvenInIdeal.τ).loc Cert.AdamEvenInIdeal.main_arg0)
      ∧ m' ((c.tc : Thread Cert.AdamEvenInReferenceIdeal.nD Cert.AdamEvenInReferenceIdeal.τ).loc Cert.AdamEvenInReferenceIdeal.main_arg1) = m ((c.tc : Thread Cert.AdamEvenInIdeal.nD Cert.AdamEvenInIdeal.τ).loc Cert.AdamEvenInIdeal.main_arg1)
      ∧ m' ((c.tc : Thread Cert.AdamEvenInReferenceIdeal.nD Cert.AdamEvenInReferenceIdeal.τ).loc Cert.AdamEvenInReferenceIdeal.main_arg2) = m ((c.tc : Thread Cert.AdamEvenInIdeal.nD Cert.AdamEvenInIdeal.τ).loc Cert.AdamEvenInIdeal.main_arg2)
      ∧ m' ((c.tc : Thread Cert.AdamEvenInReferenceIdeal.nD Cert.AdamEvenInReferenceIdeal.τ).loc Cert.AdamEvenInReferenceIdeal.main_arg3) = m ((c.tc : Thread Cert.AdamEvenInIdeal.nD Cert.AdamEvenInIdeal.τ).loc Cert.AdamEvenInIdeal.main_arg3)
      ∧ m' ((c.tc : Thread Cert.AdamEvenInReferenceIdeal.nD Cert.AdamEvenInReferenceIdeal.τ).loc Cert.AdamEvenInReferenceIdeal.main_arg4) = m ((c.tc : Thread Cert.AdamEvenInIdeal.nD Cert.AdamEvenInIdeal.τ).loc Cert.AdamEvenInIdeal.main_arg4)
      ∧ m' ((c.tc : Thread Cert.AdamEvenInReferenceIdeal.nD Cert.AdamEvenInReferenceIdeal.τ).loc Cert.AdamEvenInReferenceIdeal.main_arg5) = m ((c.tc : Thread Cert.AdamEvenInIdeal.nD Cert.AdamEvenInIdeal.τ).loc Cert.AdamEvenInIdeal.main_arg5)) →
    ∃ (v0 : (c : Dev Cert.AdamEvenInIdeal.nD) → Buf (Elt Ideal) ((c.tc : Thread Cert.AdamEvenInIdeal.nD Cert.AdamEvenInIdeal.τ).loc Cert.AdamEvenInIdeal.main_v1_0)) (v1 : (c : Dev Cert.AdamEvenInIdeal.nD) → Buf (Elt Ideal) ((c.tc : Thread Cert.AdamEvenInIdeal.nD Cert.AdamEvenInIdeal.τ).loc Cert.AdamEvenInIdeal.main_v1_1)) (v2 : (c : Dev Cert.AdamEvenInIdeal.nD) → Buf (Elt Ideal) ((c.tc : Thread Cert.AdamEvenInIdeal.nD Cert.AdamEvenInIdeal.τ).loc Cert.AdamEvenInIdeal.main_v1_2)) (v3 : (c : Dev Cert.AdamEvenInIdeal.nD) → Buf (Elt Ideal) ((c.tc : Thread Cert.AdamEvenInIdeal.nD Cert.AdamEvenInIdeal.τ).loc Cert.AdamEvenInIdeal.main_v1_3)),
      θ_run (Cert.AdamEvenInIdeal.defs (F := Ideal)) (onTc (τ := Cert.AdamEvenInIdeal.τ) (Cert.AdamEvenInIdeal.main (F := Ideal))) ⟨m, fun _ => 0, g⟩ (fun r => ∀ c : Dev Cert.AdamEvenInIdeal.nD,
          r.2.mem ((c.tc : Thread Cert.AdamEvenInIdeal.nD Cert.AdamEvenInIdeal.τ).loc Cert.AdamEvenInIdeal.main_v1_0) = v0 c
          ∧ r.2.mem ((c.tc : Thread Cert.AdamEvenInIdeal.nD Cert.AdamEvenInIdeal.τ).loc Cert.AdamEvenInIdeal.main_v1_1) = v1 c
          ∧ r.2.mem ((c.tc : Thread Cert.AdamEvenInIdeal.nD Cert.AdamEvenInIdeal.τ).loc Cert.AdamEvenInIdeal.main_v1_2) = v2 c
          ∧ r.2.mem ((c.tc : Thread Cert.AdamEvenInIdeal.nD Cert.AdamEvenInIdeal.τ).loc Cert.AdamEvenInIdeal.main_v1_3) = v3 c
          ∧ r.2.mem ((c.tc : Thread Cert.AdamEvenInIdeal.nD Cert.AdamEvenInIdeal.τ).loc Cert.AdamEvenInIdeal.main_arg0) = m ((c.tc : Thread Cert.AdamEvenInIdeal.nD Cert.AdamEvenInIdeal.τ).loc Cert.AdamEvenInIdeal.main_arg0)
          ∧ r.2.mem ((c.tc : Thread Cert.AdamEvenInIdeal.nD Cert.AdamEvenInIdeal.τ).loc Cert.AdamEvenInIdeal.main_arg1) = m ((c.tc : Thread Cert.AdamEvenInIdeal.nD Cert.AdamEvenInIdeal.τ).loc Cert.AdamEvenInIdeal.main_arg1)
          ∧ r.2.mem ((c.tc : Thread Cert.AdamEvenInIdeal.nD Cert.AdamEvenInIdeal.τ).loc Cert.AdamEvenInIdeal.main_arg2) = m ((c.tc : Thread Cert.AdamEvenInIdeal.nD Cert.AdamEvenInIdeal.τ).loc Cert.AdamEvenInIdeal.main_arg2)
          ∧ r.2.mem ((c.tc : Thread Cert.AdamEvenInIdeal.nD Cert.AdamEvenInIdeal.τ).loc Cert.AdamEvenInIdeal.main_arg3) = m ((c.tc : Thread Cert.AdamEvenInIdeal.nD Cert.AdamEvenInIdeal.τ).loc Cert.AdamEvenInIdeal.main_arg3)
          ∧ r.2.mem ((c.tc : Thread Cert.AdamEvenInIdeal.nD Cert.AdamEvenInIdeal.τ).loc Cert.AdamEvenInIdeal.main_arg4) = m ((c.tc : Thread Cert.AdamEvenInIdeal.nD Cert.AdamEvenInIdeal.τ).loc Cert.AdamEvenInIdeal.main_arg4)
          ∧ r.2.mem ((c.tc : Thread Cert.AdamEvenInIdeal.nD Cert.AdamEvenInIdeal.τ).loc Cert.AdamEvenInIdeal.main_arg5) = m ((c.tc : Thread Cert.AdamEvenInIdeal.nD Cert.AdamEvenInIdeal.τ).loc Cert.AdamEvenInIdeal.main_arg5))
      ∧ θ_run (Cert.AdamEvenInReferenceIdeal.defs (F := Ideal)) (onTc (τ := Cert.AdamEvenInReferenceIdeal.τ) (Cert.AdamEvenInReferenceIdeal.main (F := Ideal))) ⟨m', fun _ => 0, g'⟩ (fun r => ∀ c : Dev Cert.AdamEvenInReferenceIdeal.nD,
          r.2.mem ((c.tc : Thread Cert.AdamEvenInReferenceIdeal.nD Cert.AdamEvenInReferenceIdeal.τ).loc Cert.AdamEvenInReferenceIdeal.main_v2) = v0 c
          ∧ r.2.mem ((c.tc : Thread Cert.AdamEvenInReferenceIdeal.nD Cert.AdamEvenInReferenceIdeal.τ).loc Cert.AdamEvenInReferenceIdeal.main_v26) = v1 c
          ∧ r.2.mem ((c.tc : Thread Cert.AdamEvenInReferenceIdeal.nD Cert.AdamEvenInReferenceIdeal.τ).loc Cert.AdamEvenInReferenceIdeal.main_v7) = v2 c
          ∧ r.2.mem ((c.tc : Thread Cert.AdamEvenInReferenceIdeal.nD Cert.AdamEvenInReferenceIdeal.τ).loc Cert.AdamEvenInReferenceIdeal.main_v13) = v3 c
          ∧ r.2.mem ((c.tc : Thread Cert.AdamEvenInReferenceIdeal.nD Cert.AdamEvenInReferenceIdeal.τ).loc Cert.AdamEvenInReferenceIdeal.main_arg0) = m' ((c.tc : Thread Cert.AdamEvenInReferenceIdeal.nD Cert.AdamEvenInReferenceIdeal.τ).loc Cert.AdamEvenInReferenceIdeal.main_arg0)
          ∧ r.2.mem ((c.tc : Thread Cert.AdamEvenInReferenceIdeal.nD Cert.AdamEvenInReferenceIdeal.τ).loc Cert.AdamEvenInReferenceIdeal.main_arg1) = m' ((c.tc : Thread Cert.AdamEvenInReferenceIdeal.nD Cert.AdamEvenInReferenceIdeal.τ).loc Cert.AdamEvenInReferenceIdeal.main_arg1)
          ∧ r.2.mem ((c.tc : Thread Cert.AdamEvenInReferenceIdeal.nD Cert.AdamEvenInReferenceIdeal.τ).loc Cert.AdamEvenInReferenceIdeal.main_arg2) = m' ((c.tc : Thread Cert.AdamEvenInReferenceIdeal.nD Cert.AdamEvenInReferenceIdeal.τ).loc Cert.AdamEvenInReferenceIdeal.main_arg2)
          ∧ r.2.mem ((c.tc : Thread Cert.AdamEvenInReferenceIdeal.nD Cert.AdamEvenInReferenceIdeal.τ).loc Cert.AdamEvenInReferenceIdeal.main_arg3) = m' ((c.tc : Thread Cert.AdamEvenInReferenceIdeal.nD Cert.AdamEvenInReferenceIdeal.τ).loc Cert.AdamEvenInReferenceIdeal.main_arg3)
          ∧ r.2.mem ((c.tc : Thread Cert.AdamEvenInReferenceIdeal.nD Cert.AdamEvenInReferenceIdeal.τ).loc Cert.AdamEvenInReferenceIdeal.main_arg4) = m' ((c.tc : Thread Cert.AdamEvenInReferenceIdeal.nD Cert.AdamEvenInReferenceIdeal.τ).loc Cert.AdamEvenInReferenceIdeal.main_arg4)
          ∧ r.2.mem ((c.tc : Thread Cert.AdamEvenInReferenceIdeal.nD Cert.AdamEvenInReferenceIdeal.τ).loc Cert.AdamEvenInReferenceIdeal.main_arg5) = m' ((c.tc : Thread Cert.AdamEvenInReferenceIdeal.nD Cert.AdamEvenInReferenceIdeal.τ).loc Cert.AdamEvenInReferenceIdeal.main_arg5))

def preserves_SumSmall_SumSmallIdeal : Prop :=
  True

def algebraic_SumSmallIdeal_SumSmallReferenceIdeal [hSumSmallIdeal : Cert.SumSmallIdeal.Facts] [hSumSmallReferenceIdeal : Cert.SumSmallReferenceIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallReferenceIdeal.nD Cert.SumSmallReferenceIdeal.τ Cert.SumSmallReferenceIdeal.sig) → Buf (Elt Ideal) ℓ) (g' : Dev Cert.SumSmallReferenceIdeal.nD → PrngReg), Pre_SumSmallIdeal m →
    (∀ c : Dev Cert.SumSmallIdeal.nD,
      m' ((c.tc : Thread Cert.SumSmallReferenceIdeal.nD Cert.SumSmallReferenceIdeal.τ).loc Cert.SumSmallReferenceIdeal.main_arg0) = m ((c.tc : Thread Cert.SumSmallIdeal.nD Cert.SumSmallIdeal.τ).loc Cert.SumSmallIdeal.main_arg0)
      ∧ m' ((c.tc : Thread Cert.SumSmallReferenceIdeal.nD Cert.SumSmallReferenceIdeal.τ).loc Cert.SumSmallReferenceIdeal.main_arg1) = m ((c.tc : Thread Cert.SumSmallIdeal.nD Cert.SumSmallIdeal.τ).loc Cert.SumSmallIdeal.main_arg1)) →
    ∃ (v0 : (c : Dev Cert.SumSmallIdeal.nD) → Buf (Elt Ideal) ((c.tc : Thread Cert.SumSmallIdeal.nD Cert.SumSmallIdeal.τ).loc Cert.SumSmallIdeal.main_v0_0)) (v1 : (c : Dev Cert.SumSmallIdeal.nD) → Buf (Elt Ideal) ((c.tc : Thread Cert.SumSmallIdeal.nD Cert.SumSmallIdeal.τ).loc Cert.SumSmallIdeal.main_v0_1)) (v2 : (c : Dev Cert.SumSmallIdeal.nD) → Buf (Elt Ideal) ((c.tc : Thread Cert.SumSmallIdeal.nD Cert.SumSmallIdeal.τ).loc Cert.SumSmallIdeal.main_v0_2)) (v3 : (c : Dev Cert.SumSmallIdeal.nD) → Buf (Elt Ideal) ((c.tc : Thread Cert.SumSmallIdeal.nD Cert.SumSmallIdeal.τ).loc Cert.SumSmallIdeal.main_v0_3)) (v4 : (c : Dev Cert.SumSmallIdeal.nD) → Buf (Elt Ideal) ((c.tc : Thread Cert.SumSmallIdeal.nD Cert.SumSmallIdeal.τ).loc Cert.SumSmallIdeal.main_v0_4)) (v5 : (c : Dev Cert.SumSmallIdeal.nD) → Buf (Elt Ideal) ((c.tc : Thread Cert.SumSmallIdeal.nD Cert.SumSmallIdeal.τ).loc Cert.SumSmallIdeal.main_v0_5)) (v6 : (c : Dev Cert.SumSmallIdeal.nD) → Buf (Elt Ideal) ((c.tc : Thread Cert.SumSmallIdeal.nD Cert.SumSmallIdeal.τ).loc Cert.SumSmallIdeal.main_v0_6)) (v7 : (c : Dev Cert.SumSmallIdeal.nD) → Buf (Elt Ideal) ((c.tc : Thread Cert.SumSmallIdeal.nD Cert.SumSmallIdeal.τ).loc Cert.SumSmallIdeal.main_v0_7)) (v8 : (c : Dev Cert.SumSmallIdeal.nD) → Buf (Elt Ideal) ((c.tc : Thread Cert.SumSmallIdeal.nD Cert.SumSmallIdeal.τ).loc Cert.SumSmallIdeal.main_v0_8)) (v9 : (c : Dev Cert.SumSmallIdeal.nD) → Buf (Elt Ideal) ((c.tc : Thread Cert.SumSmallIdeal.nD Cert.SumSmallIdeal.τ).loc Cert.SumSmallIdeal.main_v0_9)) (v10 : (c : Dev Cert.SumSmallIdeal.nD) → Buf (Elt Ideal) ((c.tc : Thread Cert.SumSmallIdeal.nD Cert.SumSmallIdeal.τ).loc Cert.SumSmallIdeal.main_v0_10)) (v11 : (c : Dev Cert.SumSmallIdeal.nD) → Buf (Elt Ideal) ((c.tc : Thread Cert.SumSmallIdeal.nD Cert.SumSmallIdeal.τ).loc Cert.SumSmallIdeal.main_v0_11)) (v12 : (c : Dev Cert.SumSmallIdeal.nD) → Buf (Elt Ideal) ((c.tc : Thread Cert.SumSmallIdeal.nD Cert.SumSmallIdeal.τ).loc Cert.SumSmallIdeal.main_v0_12)) (v13 : (c : Dev Cert.SumSmallIdeal.nD) → Buf (Elt Ideal) ((c.tc : Thread Cert.SumSmallIdeal.nD Cert.SumSmallIdeal.τ).loc Cert.SumSmallIdeal.main_v0_13)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0_0) = v0 c
          ∧ r.2.mem ((c.tc : Thread Cert.SumSmallIdeal.nD Cert.SumSmallIdeal.τ).loc Cert.SumSmallIdeal.main_v0_1) = v1 c
          ∧ r.2.mem ((c.tc : Thread Cert.SumSmallIdeal.nD Cert.SumSmallIdeal.τ).loc Cert.SumSmallIdeal.main_v0_2) = v2 c
          ∧ r.2.mem ((c.tc : Thread Cert.SumSmallIdeal.nD Cert.SumSmallIdeal.τ).loc Cert.SumSmallIdeal.main_v0_3) = v3 c
          ∧ r.2.mem ((c.tc : Thread Cert.SumSmallIdeal.nD Cert.SumSmallIdeal.τ).loc Cert.SumSmallIdeal.main_v0_4) = v4 c
          ∧ r.2.mem ((c.tc : Thread Cert.SumSmallIdeal.nD Cert.SumSmallIdeal.τ).loc Cert.SumSmallIdeal.main_v0_5) = v5 c
          ∧ r.2.mem ((c.tc : Thread Cert.SumSmallIdeal.nD Cert.SumSmallIdeal.τ).loc Cert.SumSmallIdeal.main_v0_6) = v6 c
          ∧ r.2.mem ((c.tc : Thread Cert.SumSmallIdeal.nD Cert.SumSmallIdeal.τ).loc Cert.SumSmallIdeal.main_v0_7) = v7 c
          ∧ r.2.mem ((c.tc : Thread Cert.SumSmallIdeal.nD Cert.SumSmallIdeal.τ).loc Cert.SumSmallIdeal.main_v0_8) = v8 c
          ∧ r.2.mem ((c.tc : Thread Cert.SumSmallIdeal.nD Cert.SumSmallIdeal.τ).loc Cert.SumSmallIdeal.main_v0_9) = v9 c
          ∧ r.2.mem ((c.tc : Thread Cert.SumSmallIdeal.nD Cert.SumSmallIdeal.τ).loc Cert.SumSmallIdeal.main_v0_10) = v10 c
          ∧ r.2.mem ((c.tc : Thread Cert.SumSmallIdeal.nD Cert.SumSmallIdeal.τ).loc Cert.SumSmallIdeal.main_v0_11) = v11 c
          ∧ r.2.mem ((c.tc : Thread Cert.SumSmallIdeal.nD Cert.SumSmallIdeal.τ).loc Cert.SumSmallIdeal.main_v0_12) = v12 c
          ∧ r.2.mem ((c.tc : Thread Cert.SumSmallIdeal.nD Cert.SumSmallIdeal.τ).loc Cert.SumSmallIdeal.main_v0_13) = v13 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
          ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1))
      ∧ θ_run (Cert.SumSmallReferenceIdeal.defs (F := Ideal)) (onTc (τ := Cert.SumSmallReferenceIdeal.τ) (Cert.SumSmallReferenceIdeal.main (F := Ideal))) ⟨m', fun _ => 0, g'⟩ (fun r => ∀ c : Dev Cert.SumSmallReferenceIdeal.nD,
          r.2.mem ((c.tc : Thread Cert.SumSmallReferenceIdeal.nD Cert.SumSmallReferenceIdeal.τ).loc Cert.SumSmallReferenceIdeal.main_v1) = v0 c
          ∧ r.2.mem ((c.tc : Thread Cert.SumSmallReferenceIdeal.nD Cert.SumSmallReferenceIdeal.τ).loc Cert.SumSmallReferenceIdeal.main_v2) = v1 c
          ∧ r.2.mem ((c.tc : Thread Cert.SumSmallReferenceIdeal.nD Cert.SumSmallReferenceIdeal.τ).loc Cert.SumSmallReferenceIdeal.main_v3) = v2 c
          ∧ r.2.mem ((c.tc : Thread Cert.SumSmallReferenceIdeal.nD Cert.SumSmallReferenceIdeal.τ).loc Cert.SumSmallReferenceIdeal.main_v4) = v3 c
          ∧ r.2.mem ((c.tc : Thread Cert.SumSmallReferenceIdeal.nD Cert.SumSmallReferenceIdeal.τ).loc Cert.SumSmallReferenceIdeal.main_v5) = v4 c
          ∧ r.2.mem ((c.tc : Thread Cert.SumSmallReferenceIdeal.nD Cert.SumSmallReferenceIdeal.τ).loc Cert.SumSmallReferenceIdeal.main_v6) = v5 c
          ∧ r.2.mem ((c.tc : Thread Cert.SumSmallReferenceIdeal.nD Cert.SumSmallReferenceIdeal.τ).loc Cert.SumSmallReferenceIdeal.main_v7) = v6 c
          ∧ r.2.mem ((c.tc : Thread Cert.SumSmallReferenceIdeal.nD Cert.SumSmallReferenceIdeal.τ).loc Cert.SumSmallReferenceIdeal.main_v8) = v7 c
          ∧ r.2.mem ((c.tc : Thread Cert.SumSmallReferenceIdeal.nD Cert.SumSmallReferenceIdeal.τ).loc Cert.SumSmallReferenceIdeal.main_v9) = v8 c
          ∧ r.2.mem ((c.tc : Thread Cert.SumSmallReferenceIdeal.nD Cert.SumSmallReferenceIdeal.τ).loc Cert.SumSmallReferenceIdeal.main_v10) = v9 c
          ∧ r.2.mem ((c.tc : Thread Cert.SumSmallReferenceIdeal.nD Cert.SumSmallReferenceIdeal.τ).loc Cert.SumSmallReferenceIdeal.main_v11) = v10 c
          ∧ r.2.mem ((c.tc : Thread Cert.SumSmallReferenceIdeal.nD Cert.SumSmallReferenceIdeal.τ).loc Cert.SumSmallReferenceIdeal.main_v12) = v11 c
          ∧ r.2.mem ((c.tc : Thread Cert.SumSmallReferenceIdeal.nD Cert.SumSmallReferenceIdeal.τ).loc Cert.SumSmallReferenceIdeal.main_v13) = v12 c
          ∧ r.2.mem ((c.tc : Thread Cert.SumSmallReferenceIdeal.nD Cert.SumSmallReferenceIdeal.τ).loc Cert.SumSmallReferenceIdeal.main_v14) = v13 c
          ∧ r.2.mem ((c.tc : Thread Cert.SumSmallReferenceIdeal.nD Cert.SumSmallReferenceIdeal.τ).loc Cert.SumSmallReferenceIdeal.main_arg0) = m' ((c.tc : Thread Cert.SumSmallReferenceIdeal.nD Cert.SumSmallReferenceIdeal.τ).loc Cert.SumSmallReferenceIdeal.main_arg0)
          ∧ r.2.mem ((c.tc : Thread Cert.SumSmallReferenceIdeal.nD Cert.SumSmallReferenceIdeal.τ).loc Cert.SumSmallReferenceIdeal.main_arg1) = m' ((c.tc : Thread Cert.SumSmallReferenceIdeal.nD Cert.SumSmallReferenceIdeal.τ).loc Cert.SumSmallReferenceIdeal.main_arg1))

def preserves_JoinColumns_JoinColumnsIdeal : Prop :=
  True

def algebraic_JoinColumnsIdeal_JoinColumnsReferenceIdeal [hJoinColumnsIdeal : Cert.JoinColumnsIdeal.Facts] [hJoinColumnsReferenceIdeal : Cert.JoinColumnsReferenceIdeal.Facts] : Prop :=
  ∀ (m : (ℓ : Loc Cert.JoinColumnsIdeal.nD Cert.JoinColumnsIdeal.τ Cert.JoinColumnsIdeal.sig) → Buf (Elt Ideal) ℓ) (g : Dev Cert.JoinColumnsIdeal.nD → PrngReg)
    (m' : (ℓ : Loc Cert.JoinColumnsReferenceIdeal.nD Cert.JoinColumnsReferenceIdeal.τ Cert.JoinColumnsReferenceIdeal.sig) → Buf (Elt Ideal) ℓ) (g' : Dev Cert.JoinColumnsReferenceIdeal.nD → PrngReg), Pre_JoinColumnsIdeal m →
    (∀ c : Dev Cert.JoinColumnsIdeal.nD,
      m' ((c.tc : Thread Cert.JoinColumnsReferenceIdeal.nD Cert.JoinColumnsReferenceIdeal.τ).loc Cert.JoinColumnsReferenceIdeal.main_arg0) = m ((c.tc : Thread Cert.JoinColumnsIdeal.nD Cert.JoinColumnsIdeal.τ).loc Cert.JoinColumnsIdeal.main_arg0)
      ∧ m' ((c.tc : Thread Cert.JoinColumnsReferenceIdeal.nD Cert.JoinColumnsReferenceIdeal.τ).loc Cert.JoinColumnsReferenceIdeal.main_arg1) = m ((c.tc : Thread Cert.JoinColumnsIdeal.nD Cert.JoinColumnsIdeal.τ).loc Cert.JoinColumnsIdeal.main_arg1)
      ∧ m' ((c.tc : Thread Cert.JoinColumnsReferenceIdeal.nD Cert.JoinColumnsReferenceIdeal.τ).loc Cert.JoinColumnsReferenceIdeal.main_arg2) = m ((c.tc : Thread Cert.JoinColumnsIdeal.nD Cert.JoinColumnsIdeal.τ).loc Cert.JoinColumnsIdeal.main_arg2)
      ∧ m' ((c.tc : Thread Cert.JoinColumnsReferenceIdeal.nD Cert.JoinColumnsReferenceIdeal.τ).loc Cert.JoinColumnsReferenceIdeal.main_arg3) = m ((c.tc : Thread Cert.JoinColumnsIdeal.nD Cert.JoinColumnsIdeal.τ).loc Cert.JoinColumnsIdeal.main_arg3)
      ∧ m' ((c.tc : Thread Cert.JoinColumnsReferenceIdeal.nD Cert.JoinColumnsReferenceIdeal.τ).loc Cert.JoinColumnsReferenceIdeal.main_arg4) = m ((c.tc : Thread Cert.JoinColumnsIdeal.nD Cert.JoinColumnsIdeal.τ).loc Cert.JoinColumnsIdeal.main_arg4)
      ∧ m' ((c.tc : Thread Cert.JoinColumnsReferenceIdeal.nD Cert.JoinColumnsReferenceIdeal.τ).loc Cert.JoinColumnsReferenceIdeal.main_arg5) = m ((c.tc : Thread Cert.JoinColumnsIdeal.nD Cert.JoinColumnsIdeal.τ).loc Cert.JoinColumnsIdeal.main_arg5)) →
    ∃ (v0 : (c : Dev Cert.JoinColumnsIdeal.nD) → Buf (Elt Ideal) ((c.tc : Thread Cert.JoinColumnsIdeal.nD Cert.JoinColumnsIdeal.τ).loc Cert.JoinColumnsIdeal.main_v0)),
      θ_run (Cert.JoinColumnsIdeal.defs (F := Ideal)) (onTc (τ := Cert.JoinColumnsIdeal.τ) (Cert.JoinColumnsIdeal.main (F := Ideal))) ⟨m, fun _ => 0, g⟩ (fun r => ∀ c : Dev Cert.JoinColumnsIdeal.nD,
          r.2.mem ((c.tc : Thread Cert.JoinColumnsIdeal.nD Cert.JoinColumnsIdeal.τ).loc Cert.JoinColumnsIdeal.main_v0) = v0 c
          ∧ r.2.mem ((c.tc : Thread Cert.JoinColumnsIdeal.nD Cert.JoinColumnsIdeal.τ).loc Cert.JoinColumnsIdeal.main_arg0) = m ((c.tc : Thread Cert.JoinColumnsIdeal.nD Cert.JoinColumnsIdeal.τ).loc Cert.JoinColumnsIdeal.main_arg0)
          ∧ r.2.mem ((c.tc : Thread Cert.JoinColumnsIdeal.nD Cert.JoinColumnsIdeal.τ).loc Cert.JoinColumnsIdeal.main_arg1) = m ((c.tc : Thread Cert.JoinColumnsIdeal.nD Cert.JoinColumnsIdeal.τ).loc Cert.JoinColumnsIdeal.main_arg1)
          ∧ r.2.mem ((c.tc : Thread Cert.JoinColumnsIdeal.nD Cert.JoinColumnsIdeal.τ).loc Cert.JoinColumnsIdeal.main_arg2) = m ((c.tc : Thread Cert.JoinColumnsIdeal.nD Cert.JoinColumnsIdeal.τ).loc Cert.JoinColumnsIdeal.main_arg2)
          ∧ r.2.mem ((c.tc : Thread Cert.JoinColumnsIdeal.nD Cert.JoinColumnsIdeal.τ).loc Cert.JoinColumnsIdeal.main_arg3) = m ((c.tc : Thread Cert.JoinColumnsIdeal.nD Cert.JoinColumnsIdeal.τ).loc Cert.JoinColumnsIdeal.main_arg3)
          ∧ r.2.mem ((c.tc : Thread Cert.JoinColumnsIdeal.nD Cert.JoinColumnsIdeal.τ).loc Cert.JoinColumnsIdeal.main_arg4) = m ((c.tc : Thread Cert.JoinColumnsIdeal.nD Cert.JoinColumnsIdeal.τ).loc Cert.JoinColumnsIdeal.main_arg4)
          ∧ r.2.mem ((c.tc : Thread Cert.JoinColumnsIdeal.nD Cert.JoinColumnsIdeal.τ).loc Cert.JoinColumnsIdeal.main_arg5) = m ((c.tc : Thread Cert.JoinColumnsIdeal.nD Cert.JoinColumnsIdeal.τ).loc Cert.JoinColumnsIdeal.main_arg5))
      ∧ θ_run (Cert.JoinColumnsReferenceIdeal.defs (F := Ideal)) (onTc (τ := Cert.JoinColumnsReferenceIdeal.τ) (Cert.JoinColumnsReferenceIdeal.main (F := Ideal))) ⟨m', fun _ => 0, g'⟩ (fun r => ∀ c : Dev Cert.JoinColumnsReferenceIdeal.nD,
          r.2.mem ((c.tc : Thread Cert.JoinColumnsReferenceIdeal.nD Cert.JoinColumnsReferenceIdeal.τ).loc Cert.JoinColumnsReferenceIdeal.main_v0) = v0 c
          ∧ r.2.mem ((c.tc : Thread Cert.JoinColumnsReferenceIdeal.nD Cert.JoinColumnsReferenceIdeal.τ).loc Cert.JoinColumnsReferenceIdeal.main_arg0) = m' ((c.tc : Thread Cert.JoinColumnsReferenceIdeal.nD Cert.JoinColumnsReferenceIdeal.τ).loc Cert.JoinColumnsReferenceIdeal.main_arg0)
          ∧ r.2.mem ((c.tc : Thread Cert.JoinColumnsReferenceIdeal.nD Cert.JoinColumnsReferenceIdeal.τ).loc Cert.JoinColumnsReferenceIdeal.main_arg1) = m' ((c.tc : Thread Cert.JoinColumnsReferenceIdeal.nD Cert.JoinColumnsReferenceIdeal.τ).loc Cert.JoinColumnsReferenceIdeal.main_arg1)
          ∧ r.2.mem ((c.tc : Thread Cert.JoinColumnsReferenceIdeal.nD Cert.JoinColumnsReferenceIdeal.τ).loc Cert.JoinColumnsReferenceIdeal.main_arg2) = m' ((c.tc : Thread Cert.JoinColumnsReferenceIdeal.nD Cert.JoinColumnsReferenceIdeal.τ).loc Cert.JoinColumnsReferenceIdeal.main_arg2)
          ∧ r.2.mem ((c.tc : Thread Cert.JoinColumnsReferenceIdeal.nD Cert.JoinColumnsReferenceIdeal.τ).loc Cert.JoinColumnsReferenceIdeal.main_arg3) = m' ((c.tc : Thread Cert.JoinColumnsReferenceIdeal.nD Cert.JoinColumnsReferenceIdeal.τ).loc Cert.JoinColumnsReferenceIdeal.main_arg3)
          ∧ r.2.mem ((c.tc : Thread Cert.JoinColumnsReferenceIdeal.nD Cert.JoinColumnsReferenceIdeal.τ).loc Cert.JoinColumnsReferenceIdeal.main_arg4) = m' ((c.tc : Thread Cert.JoinColumnsReferenceIdeal.nD Cert.JoinColumnsReferenceIdeal.τ).loc Cert.JoinColumnsReferenceIdeal.main_arg4)
          ∧ r.2.mem ((c.tc : Thread Cert.JoinColumnsReferenceIdeal.nD Cert.JoinColumnsReferenceIdeal.τ).loc Cert.JoinColumnsReferenceIdeal.main_arg5) = m' ((c.tc : Thread Cert.JoinColumnsReferenceIdeal.nD Cert.JoinColumnsReferenceIdeal.τ).loc Cert.JoinColumnsReferenceIdeal.main_arg5))

def preserves_SumFirstGain_SumFirstGainIdeal : Prop :=
  True

def algebraic_SumFirstGainIdeal_SumFirstGainReferenceIdeal [hSumFirstGainIdeal : Cert.SumFirstGainIdeal.Facts] [hSumFirstGainReferenceIdeal : Cert.SumFirstGainReferenceIdeal.Facts] : Prop :=
  ∀ (m : (ℓ : Loc Cert.SumFirstGainIdeal.nD Cert.SumFirstGainIdeal.τ Cert.SumFirstGainIdeal.sig) → Buf (Elt Ideal) ℓ) (g : Dev Cert.SumFirstGainIdeal.nD → PrngReg)
    (m' : (ℓ : Loc Cert.SumFirstGainReferenceIdeal.nD Cert.SumFirstGainReferenceIdeal.τ Cert.SumFirstGainReferenceIdeal.sig) → Buf (Elt Ideal) ℓ) (g' : Dev Cert.SumFirstGainReferenceIdeal.nD → PrngReg), Pre_SumFirstGainIdeal m →
    (∀ c : Dev Cert.SumFirstGainIdeal.nD,
      m' ((c.tc : Thread Cert.SumFirstGainReferenceIdeal.nD Cert.SumFirstGainReferenceIdeal.τ).loc Cert.SumFirstGainReferenceIdeal.main_arg0) = m ((c.tc : Thread Cert.SumFirstGainIdeal.nD Cert.SumFirstGainIdeal.τ).loc Cert.SumFirstGainIdeal.main_arg0)
      ∧ m' ((c.tc : Thread Cert.SumFirstGainReferenceIdeal.nD Cert.SumFirstGainReferenceIdeal.τ).loc Cert.SumFirstGainReferenceIdeal.main_arg1) = m ((c.tc : Thread Cert.SumFirstGainIdeal.nD Cert.SumFirstGainIdeal.τ).loc Cert.SumFirstGainIdeal.main_arg1)) →
    ∃ (v0 : (c : Dev Cert.SumFirstGainIdeal.nD) → Buf (Elt Ideal) ((c.tc : Thread Cert.SumFirstGainIdeal.nD Cert.SumFirstGainIdeal.τ).loc Cert.SumFirstGainIdeal.main_v0)),
      θ_run (Cert.SumFirstGainIdeal.defs (F := Ideal)) (onTc (τ := Cert.SumFirstGainIdeal.τ) (Cert.SumFirstGainIdeal.main (F := Ideal))) ⟨m, fun _ => 0, g⟩ (fun r => ∀ c : Dev Cert.SumFirstGainIdeal.nD,
          r.2.mem ((c.tc : Thread Cert.SumFirstGainIdeal.nD Cert.SumFirstGainIdeal.τ).loc Cert.SumFirstGainIdeal.main_v0) = v0 c
          ∧ r.2.mem ((c.tc : Thread Cert.SumFirstGainIdeal.nD Cert.SumFirstGainIdeal.τ).loc Cert.SumFirstGainIdeal.main_arg0) = m ((c.tc : Thread Cert.SumFirstGainIdeal.nD Cert.SumFirstGainIdeal.τ).loc Cert.SumFirstGainIdeal.main_arg0)
          ∧ r.2.mem ((c.tc : Thread Cert.SumFirstGainIdeal.nD Cert.SumFirstGainIdeal.τ).loc Cert.SumFirstGainIdeal.main_arg1) = m ((c.tc : Thread Cert.SumFirstGainIdeal.nD Cert.SumFirstGainIdeal.τ).loc Cert.SumFirstGainIdeal.main_arg1))
      ∧ θ_run (Cert.SumFirstGainReferenceIdeal.defs (F := Ideal)) (onTc (τ := Cert.SumFirstGainReferenceIdeal.τ) (Cert.SumFirstGainReferenceIdeal.main (F := Ideal))) ⟨m', fun _ => 0, g'⟩ (fun r => ∀ c : Dev Cert.SumFirstGainReferenceIdeal.nD,
          r.2.mem ((c.tc : Thread Cert.SumFirstGainReferenceIdeal.nD Cert.SumFirstGainReferenceIdeal.τ).loc Cert.SumFirstGainReferenceIdeal.main_v0) = v0 c
          ∧ r.2.mem ((c.tc : Thread Cert.SumFirstGainReferenceIdeal.nD Cert.SumFirstGainReferenceIdeal.τ).loc Cert.SumFirstGainReferenceIdeal.main_arg0) = m' ((c.tc : Thread Cert.SumFirstGainReferenceIdeal.nD Cert.SumFirstGainReferenceIdeal.τ).loc Cert.SumFirstGainReferenceIdeal.main_arg0)
          ∧ r.2.mem ((c.tc : Thread Cert.SumFirstGainReferenceIdeal.nD Cert.SumFirstGainReferenceIdeal.τ).loc Cert.SumFirstGainReferenceIdeal.main_arg1) = m' ((c.tc : Thread Cert.SumFirstGainReferenceIdeal.nD Cert.SumFirstGainReferenceIdeal.τ).loc Cert.SumFirstGainReferenceIdeal.main_arg1))

def preserves_CastOut_CastOutIdeal : Prop :=
  True

def algebraic_CastOutIdeal_CastOutReferenceIdeal [hCastOutIdeal : Cert.CastOutIdeal.Facts] [hCastOutReferenceIdeal : Cert.CastOutReferenceIdeal.Facts] : Prop :=
  ∀ (m : (ℓ : Loc Cert.CastOutIdeal.nD Cert.CastOutIdeal.τ Cert.CastOutIdeal.sig) → Buf (Elt Ideal) ℓ) (g : Dev Cert.CastOutIdeal.nD → PrngReg)
    (m' : (ℓ : Loc Cert.CastOutReferenceIdeal.nD Cert.CastOutReferenceIdeal.τ Cert.CastOutReferenceIdeal.sig) → Buf (Elt Ideal) ℓ) (g' : Dev Cert.CastOutReferenceIdeal.nD → PrngReg), Pre_CastOutIdeal m →
    (∀ c : Dev Cert.CastOutIdeal.nD,
      m' ((c.tc : Thread Cert.CastOutReferenceIdeal.nD Cert.CastOutReferenceIdeal.τ).loc Cert.CastOutReferenceIdeal.main_arg0) = m ((c.tc : Thread Cert.CastOutIdeal.nD Cert.CastOutIdeal.τ).loc Cert.CastOutIdeal.main_arg0)) →
    ∃ (v0 : (c : Dev Cert.CastOutIdeal.nD) → Buf (Elt Ideal) ((c.tc : Thread Cert.CastOutIdeal.nD Cert.CastOutIdeal.τ).loc Cert.CastOutIdeal.main_v0)),
      θ_run (Cert.CastOutIdeal.defs (F := Ideal)) (onTc (τ := Cert.CastOutIdeal.τ) (Cert.CastOutIdeal.main (F := Ideal))) ⟨m, fun _ => 0, g⟩ (fun r => ∀ c : Dev Cert.CastOutIdeal.nD,
          r.2.mem ((c.tc : Thread Cert.CastOutIdeal.nD Cert.CastOutIdeal.τ).loc Cert.CastOutIdeal.main_v0) = v0 c
          ∧ r.2.mem ((c.tc : Thread Cert.CastOutIdeal.nD Cert.CastOutIdeal.τ).loc Cert.CastOutIdeal.main_arg0) = m ((c.tc : Thread Cert.CastOutIdeal.nD Cert.CastOutIdeal.τ).loc Cert.CastOutIdeal.main_arg0))
      ∧ θ_run (Cert.CastOutReferenceIdeal.defs (F := Ideal)) (onTc (τ := Cert.CastOutReferenceIdeal.τ) (Cert.CastOutReferenceIdeal.main (F := Ideal))) ⟨m', fun _ => 0, g'⟩ (fun r => ∀ c : Dev Cert.CastOutReferenceIdeal.nD,
          r.2.mem ((c.tc : Thread Cert.CastOutReferenceIdeal.nD Cert.CastOutReferenceIdeal.τ).loc Cert.CastOutReferenceIdeal.main_v0) = v0 c
          ∧ r.2.mem ((c.tc : Thread Cert.CastOutReferenceIdeal.nD Cert.CastOutReferenceIdeal.τ).loc Cert.CastOutReferenceIdeal.main_arg0) = m' ((c.tc : Thread Cert.CastOutReferenceIdeal.nD Cert.CastOutReferenceIdeal.τ).loc Cert.CastOutReferenceIdeal.main_arg0))

def Claim : Prop :=
  ∃ (hKernel : Cert.Kernel.Facts) (hKernelIdeal : Cert.KernelIdeal.Facts) (hReferenceIdeal : Cert.ReferenceIdeal.Facts) (hEvenInDx : Cert.EvenInDx.Facts) (hEvenInDxIdeal : Cert.EvenInDxIdeal.Facts) (hEvenInDxReferenceIdeal : Cert.EvenInDxReferenceIdeal.Facts) (hOddInDx : Cert.OddInDx.Facts) (hOddInDxIdeal : Cert.OddInDxIdeal.Facts) (hOddInDxReferenceIdeal : Cert.OddInDxReferenceIdeal.Facts) (hOutDx : Cert.OutDx.Facts) (hOutDxIdeal : Cert.OutDxIdeal.Facts) (hOutDxReferenceIdeal : Cert.OutDxReferenceIdeal.Facts) (hOutDw : Cert.OutDw.Facts) (hOutDwIdeal : Cert.OutDwIdeal.Facts) (hOutDwReferenceIdeal : Cert.OutDwReferenceIdeal.Facts) (hEvenInDw : Cert.EvenInDw.Facts) (hEvenInDwIdeal : Cert.EvenInDwIdeal.Facts) (hEvenInDwReferenceIdeal : Cert.EvenInDwReferenceIdeal.Facts) (hOddIn : Cert.OddIn.Facts) (hOddInIdeal : Cert.OddInIdeal.Facts) (hOddInReferenceIdeal : Cert.OddInReferenceIdeal.Facts) (hOddInDw : Cert.OddInDw.Facts) (hOddInDwIdeal : Cert.OddInDwIdeal.Facts) (hOddInDwReferenceIdeal : Cert.OddInDwReferenceIdeal.Facts) (hEvenInDwFirst : Cert.EvenInDwFirst.Facts) (hEvenInDwFirstIdeal : Cert.EvenInDwFirstIdeal.Facts) (hEvenInDwFirstReferenceIdeal : Cert.EvenInDwFirstReferenceIdeal.Facts) (hEvenIn : Cert.EvenIn.Facts) (hEvenInIdeal : Cert.EvenInIdeal.Facts) (hEvenInReferenceIdeal : Cert.EvenInReferenceIdeal.Facts) (hFirstNorm : Cert.FirstNorm.Facts) (hFirstNormIdeal : Cert.FirstNormIdeal.Facts) (hFirstNormReferenceIdeal : Cert.FirstNormReferenceIdeal.Facts) (hMidNorms : Cert.MidNorms.Facts) (hMidNormsIdeal : Cert.MidNormsIdeal.Facts) (hMidNormsReferenceIdeal : Cert.MidNormsReferenceIdeal.Facts) (hLossDx : Cert.LossDx.Facts) (hLossDxIdeal : Cert.LossDxIdeal.Facts) (hLossDxReferenceIdeal : Cert.LossDxReferenceIdeal.Facts) (hFirstNormFwd : Cert.FirstNormFwd.Facts) (hFirstNormFwdIdeal : Cert.FirstNormFwdIdeal.Facts) (hFirstNormFwdReferenceIdeal : Cert.FirstNormFwdReferenceIdeal.Facts) (hEvenOut : Cert.EvenOut.Facts) (hEvenOutIdeal : Cert.EvenOutIdeal.Facts) (hEvenOutReferenceIdeal : Cert.EvenOutReferenceIdeal.Facts) (hPoolFwd : Cert.PoolFwd.Facts) (hPoolFwdIdeal : Cert.PoolFwdIdeal.Facts) (hPoolFwdReferenceIdeal : Cert.PoolFwdReferenceIdeal.Facts) (hAdamOddIn : Cert.AdamOddIn.Facts) (hAdamOddInIdeal : Cert.AdamOddInIdeal.Facts) (hAdamOddInReferenceIdeal : Cert.AdamOddInReferenceIdeal.Facts) (hAdamOut : Cert.AdamOut.Facts) (hAdamOutIdeal : Cert.AdamOutIdeal.Facts) (hAdamOutReferenceIdeal : Cert.AdamOutReferenceIdeal.Facts) (hAdamEvenIn : Cert.AdamEvenIn.Facts) (hAdamEvenInIdeal : Cert.AdamEvenInIdeal.Facts) (hAdamEvenInReferenceIdeal : Cert.AdamEvenInReferenceIdeal.Facts) (hSumSmall : Cert.SumSmall.Facts) (hSumSmallIdeal : Cert.SumSmallIdeal.Facts) (hSumSmallReferenceIdeal : Cert.SumSmallReferenceIdeal.Facts) (hJoinColumns : Cert.JoinColumns.Facts) (hJoinColumnsIdeal : Cert.JoinColumnsIdeal.Facts) (hJoinColumnsReferenceIdeal : Cert.JoinColumnsReferenceIdeal.Facts) (hSumFirstGain : Cert.SumFirstGain.Facts) (hSumFirstGainIdeal : Cert.SumFirstGainIdeal.Facts) (hSumFirstGainReferenceIdeal : Cert.SumFirstGainReferenceIdeal.Facts) (hCastOut : Cert.CastOut.Facts) (hCastOutIdeal : Cert.CastOutIdeal.Facts) (hCastOutReferenceIdeal : Cert.CastOutReferenceIdeal.Facts) (hPre_finite : Cert.Pre_finite.Facts) (hPre_finite_first_norm : Cert.Pre_finite_first_norm.Facts) (hPre_finite_mid_norms : Cert.Pre_finite_mid_norms.Facts) (hPre_finite_loss : Cert.Pre_finite_loss.Facts) (hPre_finite_pool : Cert.Pre_finite_pool.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_EvenInDx (hEvenInDx := hEvenInDx)
    ∧ quiescent_EvenInDxIdeal (hEvenInDxIdeal := hEvenInDxIdeal)
    ∧ quiescent_EvenInDxReferenceIdeal (hEvenInDxReferenceIdeal := hEvenInDxReferenceIdeal)
    ∧ quiescent_OddInDx (hOddInDx := hOddInDx)
    ∧ quiescent_OddInDxIdeal (hOddInDxIdeal := hOddInDxIdeal)
    ∧ quiescent_OddInDxReferenceIdeal (hOddInDxReferenceIdeal := hOddInDxReferenceIdeal)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_EvenInDw (hEvenInDw := hEvenInDw)
    ∧ quiescent_EvenInDwIdeal (hEvenInDwIdeal := hEvenInDwIdeal)
    ∧ quiescent_EvenInDwReferenceIdeal (hEvenInDwReferenceIdeal := hEvenInDwReferenceIdeal)
    ∧ quiescent_OddIn (hOddIn := hOddIn)
    ∧ quiescent_OddInIdeal (hOddInIdeal := hOddInIdeal)
    ∧ quiescent_OddInReferenceIdeal (hOddInReferenceIdeal := hOddInReferenceIdeal)
    ∧ quiescent_OddInDw (hOddInDw := hOddInDw)
    ∧ quiescent_OddInDwIdeal (hOddInDwIdeal := hOddInDwIdeal)
    ∧ quiescent_OddInDwReferenceIdeal (hOddInDwReferenceIdeal := hOddInDwReferenceIdeal)
    ∧ quiescent_EvenInDwFirst (hEvenInDwFirst := hEvenInDwFirst)
    ∧ quiescent_EvenInDwFirstIdeal (hEvenInDwFirstIdeal := hEvenInDwFirstIdeal)
    ∧ quiescent_EvenInDwFirstReferenceIdeal (hEvenInDwFirstReferenceIdeal := hEvenInDwFirstReferenceIdeal)
    ∧ quiescent_EvenIn (hEvenIn := hEvenIn)
    ∧ quiescent_EvenInIdeal (hEvenInIdeal := hEvenInIdeal)
    ∧ quiescent_EvenInReferenceIdeal (hEvenInReferenceIdeal := hEvenInReferenceIdeal)
    ∧ quiescent_FirstNorm (hFirstNorm := hFirstNorm)
    ∧ quiescent_FirstNormIdeal (hFirstNormIdeal := hFirstNormIdeal)
    ∧ quiescent_FirstNormIdeal_pre_finite_first_norm (hFirstNormIdeal := hFirstNormIdeal) (hPre_finite_first_norm := hPre_finite_first_norm)
    ∧ quiescent_FirstNormReferenceIdeal (hFirstNormReferenceIdeal := hFirstNormReferenceIdeal)
    ∧ quiescent_FirstNormReferenceIdeal_pre_finite_first_norm (hFirstNormReferenceIdeal := hFirstNormReferenceIdeal) (hPre_finite_first_norm := hPre_finite_first_norm)
    ∧ quiescent_MidNorms (hMidNorms := hMidNorms)
    ∧ quiescent_MidNormsIdeal (hMidNormsIdeal := hMidNormsIdeal)
    ∧ quiescent_MidNormsIdeal_pre_finite_mid_norms (hMidNormsIdeal := hMidNormsIdeal) (hPre_finite_mid_norms := hPre_finite_mid_norms)
    ∧ quiescent_MidNormsReferenceIdeal (hMidNormsReferenceIdeal := hMidNormsReferenceIdeal)
    ∧ quiescent_MidNormsReferenceIdeal_pre_finite_mid_norms (hMidNormsReferenceIdeal := hMidNormsReferenceIdeal) (hPre_finite_mid_norms := hPre_finite_mid_norms)
    ∧ quiescent_LossDx (hLossDx := hLossDx)
    ∧ quiescent_LossDxIdeal (hLossDxIdeal := hLossDxIdeal)
    ∧ quiescent_LossDxIdeal_pre_finite_loss (hLossDxIdeal := hLossDxIdeal) (hPre_finite_loss := hPre_finite_loss)
    ∧ quiescent_LossDxReferenceIdeal (hLossDxReferenceIdeal := hLossDxReferenceIdeal)
    ∧ quiescent_LossDxReferenceIdeal_pre_finite_loss (hLossDxReferenceIdeal := hLossDxReferenceIdeal) (hPre_finite_loss := hPre_finite_loss)
    ∧ quiescent_FirstNormFwd (hFirstNormFwd := hFirstNormFwd)
    ∧ quiescent_FirstNormFwdIdeal (hFirstNormFwdIdeal := hFirstNormFwdIdeal)
    ∧ quiescent_FirstNormFwdReferenceIdeal (hFirstNormFwdReferenceIdeal := hFirstNormFwdReferenceIdeal)
    ∧ quiescent_EvenOut (hEvenOut := hEvenOut)
    ∧ quiescent_EvenOutIdeal (hEvenOutIdeal := hEvenOutIdeal)
    ∧ quiescent_EvenOutReferenceIdeal (hEvenOutReferenceIdeal := hEvenOutReferenceIdeal)
    ∧ quiescent_PoolFwd (hPoolFwd := hPoolFwd)
    ∧ quiescent_PoolFwdIdeal (hPoolFwdIdeal := hPoolFwdIdeal)
    ∧ quiescent_PoolFwdIdeal_pre_finite_pool (hPoolFwdIdeal := hPoolFwdIdeal) (hPre_finite_pool := hPre_finite_pool)
    ∧ quiescent_PoolFwdReferenceIdeal (hPoolFwdReferenceIdeal := hPoolFwdReferenceIdeal)
    ∧ quiescent_PoolFwdReferenceIdeal_pre_finite_pool (hPoolFwdReferenceIdeal := hPoolFwdReferenceIdeal) (hPre_finite_pool := hPre_finite_pool)
    ∧ quiescent_AdamOddIn (hAdamOddIn := hAdamOddIn)
    ∧ quiescent_AdamOddInIdeal (hAdamOddInIdeal := hAdamOddInIdeal)
    ∧ quiescent_AdamOddInReferenceIdeal (hAdamOddInReferenceIdeal := hAdamOddInReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamEvenIn (hAdamEvenIn := hAdamEvenIn)
    ∧ quiescent_AdamEvenInIdeal (hAdamEvenInIdeal := hAdamEvenInIdeal)
    ∧ quiescent_AdamEvenInReferenceIdeal (hAdamEvenInReferenceIdeal := hAdamEvenInReferenceIdeal)
    ∧ quiescent_SumSmall (hSumSmall := hSumSmall)
    ∧ quiescent_SumSmallIdeal (hSumSmallIdeal := hSumSmallIdeal)
    ∧ quiescent_SumSmallReferenceIdeal (hSumSmallReferenceIdeal := hSumSmallReferenceIdeal)
    ∧ quiescent_JoinColumns (hJoinColumns := hJoinColumns)
    ∧ quiescent_JoinColumnsIdeal (hJoinColumnsIdeal := hJoinColumnsIdeal)
    ∧ quiescent_JoinColumnsReferenceIdeal (hJoinColumnsReferenceIdeal := hJoinColumnsReferenceIdeal)
    ∧ quiescent_SumFirstGain (hSumFirstGain := hSumFirstGain)
    ∧ quiescent_SumFirstGainIdeal (hSumFirstGainIdeal := hSumFirstGainIdeal)
    ∧ quiescent_SumFirstGainReferenceIdeal (hSumFirstGainReferenceIdeal := hSumFirstGainReferenceIdeal)
    ∧ quiescent_CastOut (hCastOut := hCastOut)
    ∧ quiescent_CastOutIdeal (hCastOutIdeal := hCastOutIdeal)
    ∧ quiescent_CastOutReferenceIdeal (hCastOutReferenceIdeal := hCastOutReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_EvenInDx_EvenInDxIdeal
    ∧ algebraic_EvenInDxIdeal_EvenInDxReferenceIdeal (hEvenInDxIdeal := hEvenInDxIdeal) (hEvenInDxReferenceIdeal := hEvenInDxReferenceIdeal)
    ∧ preserves_OddInDx_OddInDxIdeal
    ∧ algebraic_OddInDxIdeal_OddInDxReferenceIdeal (hOddInDxIdeal := hOddInDxIdeal) (hOddInDxReferenceIdeal := hOddInDxReferenceIdeal)
    ∧ preserves_OutDx_OutDxIdeal
    ∧ algebraic_OutDxIdeal_OutDxReferenceIdeal (hOutDxIdeal := hOutDxIdeal) (hOutDxReferenceIdeal := hOutDxReferenceIdeal)
    ∧ preserves_OutDw_OutDwIdeal
    ∧ algebraic_OutDwIdeal_OutDwReferenceIdeal (hOutDwIdeal := hOutDwIdeal) (hOutDwReferenceIdeal := hOutDwReferenceIdeal)
    ∧ preserves_EvenInDw_EvenInDwIdeal
    ∧ algebraic_EvenInDwIdeal_EvenInDwReferenceIdeal (hEvenInDwIdeal := hEvenInDwIdeal) (hEvenInDwReferenceIdeal := hEvenInDwReferenceIdeal)
    ∧ preserves_OddIn_OddInIdeal
    ∧ algebraic_OddInIdeal_OddInReferenceIdeal (hOddInIdeal := hOddInIdeal) (hOddInReferenceIdeal := hOddInReferenceIdeal)
    ∧ preserves_OddInDw_OddInDwIdeal
    ∧ algebraic_OddInDwIdeal_OddInDwReferenceIdeal (hOddInDwIdeal := hOddInDwIdeal) (hOddInDwReferenceIdeal := hOddInDwReferenceIdeal)
    ∧ preserves_EvenInDwFirst_EvenInDwFirstIdeal
    ∧ algebraic_EvenInDwFirstIdeal_EvenInDwFirstReferenceIdeal (hEvenInDwFirstIdeal := hEvenInDwFirstIdeal) (hEvenInDwFirstReferenceIdeal := hEvenInDwFirstReferenceIdeal)
    ∧ preserves_EvenIn_EvenInIdeal
    ∧ algebraic_EvenInIdeal_EvenInReferenceIdeal (hEvenInIdeal := hEvenInIdeal) (hEvenInReferenceIdeal := hEvenInReferenceIdeal)
    ∧ preserves_FirstNorm_FirstNormIdeal
    ∧ algebraic_FirstNormIdeal_FirstNormReferenceIdeal_pre_finite_first_norm (hFirstNormIdeal := hFirstNormIdeal) (hFirstNormReferenceIdeal := hFirstNormReferenceIdeal) (hPre_finite_first_norm := hPre_finite_first_norm)
    ∧ preserves_MidNorms_MidNormsIdeal
    ∧ algebraic_MidNormsIdeal_MidNormsReferenceIdeal_pre_finite_mid_norms (hMidNormsIdeal := hMidNormsIdeal) (hMidNormsReferenceIdeal := hMidNormsReferenceIdeal) (hPre_finite_mid_norms := hPre_finite_mid_norms)
    ∧ preserves_LossDx_LossDxIdeal
    ∧ algebraic_LossDxIdeal_LossDxReferenceIdeal_pre_finite_loss (hLossDxIdeal := hLossDxIdeal) (hLossDxReferenceIdeal := hLossDxReferenceIdeal) (hPre_finite_loss := hPre_finite_loss)
    ∧ preserves_FirstNormFwd_FirstNormFwdIdeal
    ∧ algebraic_FirstNormFwdIdeal_FirstNormFwdReferenceIdeal (hFirstNormFwdIdeal := hFirstNormFwdIdeal) (hFirstNormFwdReferenceIdeal := hFirstNormFwdReferenceIdeal)
    ∧ preserves_EvenOut_EvenOutIdeal
    ∧ algebraic_EvenOutIdeal_EvenOutReferenceIdeal (hEvenOutIdeal := hEvenOutIdeal) (hEvenOutReferenceIdeal := hEvenOutReferenceIdeal)
    ∧ preserves_PoolFwd_PoolFwdIdeal
    ∧ algebraic_PoolFwdIdeal_PoolFwdReferenceIdeal_pre_finite_pool (hPoolFwdIdeal := hPoolFwdIdeal) (hPoolFwdReferenceIdeal := hPoolFwdReferenceIdeal) (hPre_finite_pool := hPre_finite_pool)
    ∧ preserves_AdamOddIn_AdamOddInIdeal
    ∧ algebraic_AdamOddInIdeal_AdamOddInReferenceIdeal (hAdamOddInIdeal := hAdamOddInIdeal) (hAdamOddInReferenceIdeal := hAdamOddInReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamEvenIn_AdamEvenInIdeal
    ∧ algebraic_AdamEvenInIdeal_AdamEvenInReferenceIdeal (hAdamEvenInIdeal := hAdamEvenInIdeal) (hAdamEvenInReferenceIdeal := hAdamEvenInReferenceIdeal)
    ∧ preserves_SumSmall_SumSmallIdeal
    ∧ algebraic_SumSmallIdeal_SumSmallReferenceIdeal (hSumSmallIdeal := hSumSmallIdeal) (hSumSmallReferenceIdeal := hSumSmallReferenceIdeal)
    ∧ preserves_JoinColumns_JoinColumnsIdeal
    ∧ algebraic_JoinColumnsIdeal_JoinColumnsReferenceIdeal (hJoinColumnsIdeal := hJoinColumnsIdeal) (hJoinColumnsReferenceIdeal := hJoinColumnsReferenceIdeal)
    ∧ preserves_SumFirstGain_SumFirstGainIdeal
    ∧ algebraic_SumFirstGainIdeal_SumFirstGainReferenceIdeal (hSumFirstGainIdeal := hSumFirstGainIdeal) (hSumFirstGainReferenceIdeal := hSumFirstGainReferenceIdeal)
    ∧ preserves_CastOut_CastOutIdeal
    ∧ algebraic_CastOutIdeal_CastOutReferenceIdeal (hCastOutIdeal := hCastOutIdeal) (hCastOutReferenceIdeal := hCastOutReferenceIdeal)
-- ==== Pre_finite.lean ====
abbrev S2048x12288 : Shape := ⟨2, ![2048, 12288]⟩
abbrev S4x256x256 : Shape := ⟨3, ![4, 256, 256]⟩
abbrev S1024 : Shape := ⟨1, ![1024]⟩
abbrev S2048x2048 : Shape := ⟨2, ![2048, 2048]⟩
abbrev S_ : Shape := ⟨0, ![]⟩

class Facts : Prop where
  bcast_S_S2048x12288 : S_.BroadcastsInDim S2048x12288 (![] : Fin 0 → Fin S2048x12288.rank)
  reducesTo_S2048x12288_S_d0_1 : S2048x12288.ReducesTo [0, 1] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_
  bcast_S_S1024 : S_.BroadcastsInDim S1024 (![] : Fin 0 → Fin S1024.rank)
  reducesTo_S1024_S_d0 : S1024.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S2048x12288 .f32) (main_arg1 : FVec F S4x256x256 .f32) (main_arg2 : FVec F S1024 .f32) (main_arg3 : FVec F S2048x2048 .f32) : IVec S_ 1 :=
  let main_v0 : FVec F S2048x12288 .f32 := Host.absf main_arg0
  let main_cst : FVec F S_ .f32 := constant S_ .f32 0x7F800000#32
  let main_v1 : FVec F S2048x12288 .f32 := broadcastInDim S2048x12288 ![] bcast_S_S2048x12288 main_cst
  let main_v2 : IVec S2048x12288 1 := cmpf .olt main_v0 main_v1
  let main_c : IVec S_ 1 := constantI S_ 1 1#1
  let main_v3 : IVec S_ 1 := (fun x v => Host.reduce IntOp.andi x v reducesTo_S2048x12288_S_d0_1 h_S_) main_v2 main_c
  let main_v4 : FVec F S4x256x256 .f32 := Host.absf main_arg1
  let main_cst_0 : FVec F S_ .f32 := constant S_ .f32 0x7F800000#32
  let main_v5 : FVec F S4x256x256 .f32 := broadcastInDim S4x256x256 ![] bcast_S_S4x256x256 main_cst_0
  let main_v6 : IVec S4x256x256 1 := cmpf .olt main_v4 main_v5
  let main_c_1 : IVec S_ 1 := constantI S_ 1 1#1
  let main_v7 : IVec S_ 1 := (fun x v => Host.reduce IntOp.andi x v reducesTo_S4x256x256_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Pre_finite_first_norm.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S2048x2048 .f32) (main_arg1 : FVec F S2048x2048 .f32) (main_arg2 : FVec F S2048x2048 .f32) (main_arg3 : FVec F S2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Pre_finite_loss.lean ====
abbrev S2048x2048 : Shape := ⟨2, ![2048, 2048]⟩
abbrev S2048 : Shape := ⟨1, ![2048]⟩
abbrev S8x128 : Shape := ⟨2, ![8, 128]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v14 : IVec S_ 1) (main_v15 : FVec F S2048x2048 .f32) (main_v16 : FVec F S2048x2048 .f32) : IVec S_ 1 :=
  let main_v17 : IVec S2048x2048 1 := cmpf .olt main_v15 main_v16
  let main_c_5 : IVec S_ 1 := constantI S_ 1 1#1
  let main_v18 : IVec S_ 1 := (fun x v => Host.reduce IntOp.andi x v reducesTo_S2048x2048_S_d0_1 h_S_) main_v17 main_c_5
  let main_v19 : IVec S_ 1 := andi main_v14 main_v18
  let main_v20 : FVec F S2048 .f32 := Host.absf main_arg4
  let main_cst_6 : FVec F S_ .f32 := constant S_ .f32 0x7F800000#32
  let main_v21 : FVec F S2048 .f32 := broadcastInDim S2048 ![] bcast_S_S2048 main_cst_6
  let main_v22 : IVec S2048 1 := cmpf .olt main_v20 main_v21
  let main_c_7 : IVec S_ 1 := constantI S_ 1 1#1
  let main_v23 : IVec S_ 1 := (fun x v => Host.reduce IntOp.andi x v reducesTo_S2048_S_d0 h_S_) main_v22 main_c_7
  let main_v24 : IVec S_ 1 := andi main_v19 main_v23
  main_v24

def fn {F : FTy → Type} [FloatOps F] (main_arg0 : FVec F S2048x2048 .bf16) (main_arg1 : FVec F S2048x2048 .f32) (main_arg2 : FVec F S2048x2048 .f32) (main_arg3 : FVec F S2048x2048 .f32) (main_arg4 : FVec F S2048 .f32) (main_arg5 : FVec F S8x128 .f32) : IVec S_ 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_c : IVec S_ 1 := constantI S_ 1 1#1
  let main_v4 : IVec S_ 1 := (fun x v => Host.reduce IntOp.andi x v reducesTo_S2048x2048_S_d0_1 h_S_) main_v3 main_c
  let main_v5 : FVec F S2048x2048 .f32 := Host.absf main_arg1
  let main_cst_0 : FVec F S_ .f32 := constant S_ .f32 0x7F800000#32
  let main_v6 : FVec F S2048x2048 .f32 := broadcastInDim S2048x2048 ![] bcast_S_S2048x2048 main_cst_0
  let main_v7 : IVec S2048x2048 1 := cmpf .olt main_v5 main_v6
  let main_c_1 : IVec S_ 1 := constantI S_ 1 1#1
  let main_v8 : IVec S_ 1 := (fun x v => Host.reduce IntOp.andi x v reducesTo_S2048x2048_S_d0_1 h_S_) main_v7 main_c_1
  let main_v9 : IVec S_ 1 := andi main_v4 main_v8
  let main_v10 : FVec F S2048x2048 .f32 := Host.absf main_arg2
  let main_cst_2 : FVec F S_ .f32 := constant S_ .f32 0x7F800000#32
  let main_v11 : FVec F S2048x2048 .f32 := broadcastInDim S2048x2048 ![] bcast_S_S2048x2048 main_cst_2
  let main_v12 : IVec S2048x2048 1 := cmpf .olt main_v10 main_v11
  let main_c_3 : IVec S_ 1 := constantI S_ 1 1#1
  let main_v13 : IVec S_ 1 := (fun x v => Host.reduce IntOp.andi x v reducesTo_S2048x2048_S_d0_1 h_S_) main_v12 main_c_3
  let main_v14 : IVec S_ 1 := andi main_v9 main_v13
  let main_v15 : FVec F S2048x2048 .f32 := Host.absf main_arg3
  let main_cst_4 : FVec F S_ .f32 := constant S_ .f32 0x7F800000#32
  let main_v16 : FVec F S2048x2048 .f32 := broadcastInDim S2048x2048 ![] bcast_S_S2048x2048 main_cst_4
  fn_part1 (F := F) main_arg4 main_v14 main_v15 main_v16
-- ==== Pre_finite_mid_norms.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S2048x2048 .f32) (main_arg1 : FVec F S2048x2048 .f32) (main_arg2 : FVec F S2048x2048 .f32) (main_arg3 : FVec F S2048x2048 .f32) (main_arg4 : FVec F S2048 .f32) (main_arg5 : FVec F S2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_v13 main_v16
-- ==== Pre_finite_pool.lean ====
abbrev S2048x12288 : Shape := ⟨2, ![2048, 12288]⟩
abbrev S4x256x256 : Shape := ⟨3, ![4, 256, 256]⟩
abbrev S1024 : Shape := ⟨1, ![1024]⟩
abbrev S_ : Shape := ⟨0, ![]⟩

class Facts : Prop where
  bcast_S_S2048x12288 : S_.BroadcastsInDim S2048x12288 (![] : Fin 0 → Fin S2048x12288.rank)
  reducesTo_S2048x12288_S_d0_1 : S2048x12288.ReducesTo [0, 1] S_
  h_S_ : 0 < S_.numel

variable [Facts]

def fn {F : FTy → Type} [FloatOps F] (main_arg0 : FVec F S2048x12288 .f32) (main_arg1 : FVec F S4x256x256 .f32) (main_arg2 : FVec F S1024 .f32) : IVec S_ 1 :=
  let main_v0 : FVec F S2048x12288 .f32 := Host.absf main_arg0
  let main_cst : FVec F S_ .f32 := constant S_ .f32 0x7F800000#32
  let main_v1 : FVec F S2048x12288 .f32 := broadcastInDim S2048x12288 ![] bcast_S_S2048x12288 main_cst
  let main_v2 : IVec S2048x12288 1 := cmpf .olt main_v0 main_v1
  let main_c : IVec S_ 1 := constantI S_ 1 1#1
  let main_v3 : IVec S_ 1 := (fun x v => Host.reduce IntOp.andi x v reducesTo_S2048x12288_S_d0_1 h_S_) main_v2 main_c
  main_v3
-- ==== Kernel.lean ====
abbrev S2048x12288 : Shape := ⟨2, ![2048, 12288]⟩
abbrev S4x256x256 : Shape := ⟨3, ![4, 256, 256]⟩
abbrev S1024 : Shape := ⟨1, ![1024]⟩
abbrev S2048x2048 : Shape := ⟨2, ![2048, 2048]⟩
abbrev S1x1024 : Shape := ⟨2, ![1, 1024]⟩
abbrev S2048x1024 : Shape := ⟨2, ![2048, 1024]⟩
abbrev S2048x256 : Shape := ⟨2, ![2048, 256]⟩
abbrev S1x256x256 : Shape := ⟨3, ![1, 256, 256]⟩
abbrev S1x256 : Shape := ⟨2, ![1, 256]⟩
abbrev S256x256 : Shape := ⟨2, ![256, 256]⟩
abbrev S256 : Shape := ⟨1, ![256]⟩

abbrev nBuf : Space → Nat
  | .hbm => 10
  | .vmem => 18
  | .smem => 0
  | _ => 0

abbrev bufTy : (tb : Table) → Fin (tcTables nBuf tb) → BufTy
  | .hbm, ⟨0, _⟩ => ⟨S2048x12288, .f32⟩
  | .hbm, ⟨1, _⟩ => ⟨S4x256x256, .f32⟩
  | .hbm, ⟨2, _⟩ => ⟨S1024, .f32⟩
  | .hbm, ⟨3, _⟩ => ⟨S2048x2048, .f32⟩
  | .hbm, ⟨4, _⟩ => ⟨S4x256x256, .bf16⟩
  | .hbm, ⟨5, _⟩ => ⟨S1x1024, .f32⟩
  | .hbm, ⟨6, _⟩ => ⟨S2048x1024, .bf16⟩
  | .hbm, ⟨7, _⟩ => ⟨S2048x1024, .bf16⟩
  | .hbm, ⟨8, _⟩ => ⟨S4x256x256, .f32⟩
  | .hbm, ⟨9, _⟩ => ⟨S1x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S1x256x256, .bf16⟩
  | .local _ .vmem, ⟨7, _⟩ => ⟨S1x256x256, .bf16⟩
  | .local _ .vmem, ⟨8, _⟩ => ⟨S1x256, .f32⟩
  | .local _ .vmem, ⟨9, _⟩ => ⟨S1x256, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S1x256x256, .f32⟩
  | .local _ .vmem, ⟨15, _⟩ => ⟨S1x256x256, .f32⟩
  | .local _ .vmem, ⟨16, _⟩ => ⟨S1x256, .f32⟩
  | .local _ .vmem, ⟨17, _⟩ => ⟨S1x256, .f32⟩
  | _, _ => ⟨S2048x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2048x12288 : Shape := ⟨2, ![2048, 12288]⟩
abbrev S4x256x256 : Shape := ⟨3, ![4, 256, 256]⟩
abbrev S1024 : Shape := ⟨1, ![1024]⟩
abbrev S2048x2048 : Shape := ⟨2, ![2048, 2048]⟩
abbrev S2048x1024 : Shape := ⟨2, ![2048, 1024]⟩
abbrev S2048x4x256 : Shape := ⟨3, ![2048, 4, 256]⟩
abbrev S_ : Shape := ⟨0, ![]⟩
abbrev S1x4x256 : Shape := ⟨3, ![1, 4, 256]⟩
abbrev S2049x4x256 : Shape := ⟨3, ![2049, 4, 256]⟩
abbrev S2048 : Shape := ⟨1, ![2048]⟩
abbrev S2048x1x256 : Shape := ⟨3, ![2048, 1, 256]⟩
abbrev S2048x256 : Shape := ⟨2, ![2048, 256]⟩
abbrev S1x256 : Shape := ⟨2, ![1, 256]⟩
abbrev S2047x1x256 : Shape := ⟨3, ![2047, 1, 256]⟩
abbrev S2047x256 : Shape := ⟨2, ![2047, 256]⟩
abbrev S2048x1 : Shape := ⟨2, ![2048, 1]⟩
abbrev S3x256 : Shape := ⟨2, ![3, 256]⟩
abbrev S2045x1x256 : Shape := ⟨3, ![2045, 1, 256]⟩
abbrev S2045x256 : Shape := ⟨2, ![2045, 256]⟩
abbrev S7x256 : Shape := ⟨2, ![7, 256]⟩
abbrev S2041x1x256 : Shape := ⟨3, ![2041, 1, 256]⟩
abbrev S2041x256 : Shape := ⟨2, ![2041, 256]⟩
abbrev S15x256 : Shape := ⟨2, ![15, 256]⟩
abbrev S2033x1x256 : Shape := ⟨3, ![2033, 1, 256]⟩
abbrev S2033x256 : Shape := ⟨2, ![2033, 256]⟩
abbrev S4x256x2048 : Shape := ⟨3, ![4, 256, 2048]⟩
abbrev S1x1024 : Shape := ⟨2, ![1, 1024]⟩
abbrev S4x2048x256 : Shape := ⟨3, ![4, 2048, 256]⟩

abbrev nBuf : Space → Nat
  | .hbm => 242
  | .vmem => 0
  | .smem => 0
  | _ => 0

abbrev hbmTy0_0 (i : Nat) : BufTy := match i % 128 with
  | 0 => ⟨S2048x12288, .f32⟩
  | 1 => ⟨S4x256x256, .f32⟩
  | 2 => ⟨S1024, .f32⟩
  | 3 => ⟨S2048x2048, .f32⟩
  | 4 => ⟨S2048x1024, .f32⟩
  | 5 => ⟨S2048x1024, .f32⟩
  | 6 => ⟨S2048x4x256, .f32⟩
  | 7 => ⟨S_, .f32⟩
  | 8 => ⟨S1x4x256, .f32⟩
  | 9 => ⟨S_, .f32⟩
  | 10 => ⟨S_, .f32⟩
  | 11 => ⟨S2048x4x256, .f32⟩
  | 12 => ⟨S2049x4x256, .f32⟩
  | 13 => ⟨S_, .f32⟩
  | 14 => ⟨S1x4x256, .f32⟩
  | 15 => ⟨S2048, .i32⟩
  | 16 => ⟨S2048x1x256, .f32⟩
  | 17 => ⟨S2048x256, .f32⟩
  | 18 => ⟨S_, .f32⟩
  | 19 => ⟨S1x256, .f32⟩
  | 20 => ⟨S2047x1x256, .f32⟩
  | 21 => ⟨S2047x256, .f32⟩
  | 22 => ⟨S2048x256, .f32⟩
  | 23 => ⟨S_, .f32⟩
  | 24 => ⟨S1x256, .f32⟩
  | 25 => ⟨S_, .i32⟩
  | 26 => ⟨S2048, .i32⟩
  | 27 => ⟨S2048, .i32⟩
  | 28 => ⟨S_, .i32⟩
  | 29 => ⟨S2048, .i32⟩
  | 30 => ⟨S2048, .i32⟩
  | 31 => ⟨S2048, .f32⟩
  | 32 => ⟨S2048x1, .f32⟩
  | 33 => ⟨S2048x256, .f32⟩
  | 34 => ⟨S2048x256, .f32⟩
  | 35 => ⟨S2048x256, .f32⟩
  | 36 => ⟨S2048x1x256, .f32⟩
  | 37 => ⟨S2048x256, .f32⟩
  | 38 => ⟨S2048x256, .f32⟩
  | 39 => ⟨S2048x1x256, .f32⟩
  | 40 => ⟨S2048x256, .f32⟩
  | 41 => ⟨S_, .f32⟩
  | 42 => ⟨S3x256, .f32⟩
  | 43 => ⟨S2045x1x256, .f32⟩
  | 44 => ⟨S2045x256, .f32⟩
  | 45 => ⟨S2048x256, .f32⟩
  | 46 => ⟨S_, .f32⟩
  | 47 => ⟨S3x256, .f32⟩
  | 48 => ⟨S_, .i32⟩
  | 49 => ⟨S2048, .i32⟩
  | 50 => ⟨S2048, .i32⟩
  | 51 => ⟨S_, .i32⟩
  | 52 => ⟨S2048, .i32⟩
  | 53 => ⟨S2048, .i32⟩
  | 54 => ⟨S2048, .f32⟩
  | 55 => ⟨S2048x1, .f32⟩
  | 56 => ⟨S2048x256, .f32⟩
  | 57 => ⟨S2048x256, .f32⟩
  | 58 => ⟨S2048x256, .f32⟩
  | 59 => ⟨S2048x1x256, .f32⟩
  | 60 => ⟨S2048x256, .f32⟩
  | 61 => ⟨S2048x256, .f32⟩
  | 62 => ⟨S2048x1x256, .f32⟩
  | 63 => ⟨S2048x256, .f32⟩
  | 64 => ⟨S_, .f32⟩
  | 65 => ⟨S7x256, .f32⟩
  | 66 => ⟨S2041x1x256, .f32⟩
  | 67 => ⟨S2041x256, .f32⟩
  | 68 => ⟨S2048x256, .f32⟩
  | 69 => ⟨S_, .f32⟩
  | 70 => ⟨S7x256, .f32⟩
  | 71 => ⟨S_, .i32⟩
  | 72 => ⟨S2048, .i32⟩
  | 73 => ⟨S2048, .i32⟩
  | 74 => ⟨S_, .i32⟩
  | 75 => ⟨S2048, .i32⟩
  | 76 => ⟨S2048, .i32⟩
  | 77 => ⟨S2048, .f32⟩
  | 78 => ⟨S2048x1, .f32⟩
  | 79 => ⟨S2048x256, .f32⟩
  | 80 => ⟨S2048x256, .f32⟩
  | 81 => ⟨S2048x256, .f32⟩
  | 82 => ⟨S2048x1x256, .f32⟩
  | 83 => ⟨S2048x256, .f32⟩
  | 84 => ⟨S2048x256, .f32⟩
  | 85 => ⟨S2048x1x256, .f32⟩
  | 86 => ⟨S2048x256, .f32⟩
  | 87 => ⟨S_, .f32⟩
  | 88 => ⟨S15x256, .f32⟩
  | 89 => ⟨S2033x1x256, .f32⟩
  | 90 => ⟨S2033x256, .f32⟩
  | 91 => ⟨S2048x256, .f32⟩
  | 92 => ⟨S_, .f32⟩
  | 93 => ⟨S15x256, .f32⟩
  | 94 => ⟨S_, .i32⟩
  | 95 => ⟨S2048, .i32⟩
  | 96 => ⟨S2048, .i32⟩
  | 97 => ⟨S_, .i32⟩
  | 98 => ⟨S2048, .i32⟩
  | 99 => ⟨S2048, .i32⟩
  | 100 => ⟨S2048, .f32⟩
  | 101 => ⟨S2048x1, .f32⟩
  | 102 => ⟨S2048x256, .f32⟩
  | 103 => ⟨S2048x256, .f32⟩
  | 104 => ⟨S2048x256, .f32⟩
  | 105 => ⟨S2048x1x256, .f32⟩
  | 106 => ⟨S2048x256, .f32⟩
  | 107 => ⟨S2048x256, .f32⟩
  | 108 => ⟨S2048x1x256, .f32⟩
  | 109 => ⟨S2048x1x256, .f32⟩
  | 110 => ⟨S2048x1x256, .f32⟩
  | 111 => ⟨S2048x1x256, .f32⟩
  | 112 => ⟨S2048x4x256, .f32⟩
  | 113 => ⟨S4x256x2048, .f32⟩
  | 114 => ⟨S2048x4x256, .f32⟩
  | 115 => ⟨S2048x1024, .f32⟩
  | 116 => ⟨S1x1024, .f32⟩
  | 117 => ⟨S2048x1024, .f32⟩
  | 118 => ⟨S2048x1024, .f32⟩
  | 119 => ⟨S2048x1024, .f32⟩
  | 120 => ⟨S2048x1024, .f32⟩
  | 121 => ⟨S_, .f32⟩
  | 122 => ⟨S2048x1024, .f32⟩
  | 123 => ⟨S2048x1024, .f32⟩
  | 124 => ⟨S_, .f32⟩
  | 125 => ⟨S2048x1024, .f32⟩
  | 126 => ⟨S2048x1024, .f32⟩
  | 127 => ⟨S_, .f32⟩
  | _ => ⟨S2048x12288, .f32⟩

abbrev hbmTy0_1 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S2048x1024, .f32⟩
  | 5 => ⟨S2048x1024, .f32⟩
  | 6 => ⟨S2048x1024, .f32⟩
  | 7 => ⟨S2048x1024, .f32⟩
  | 8 => ⟨S2048x1024, .f32⟩
  | 9 => ⟨S2048x1024, .f32⟩
  | 10 => ⟨S2048x1024, .f32⟩
  | 11 => ⟨S2048x1024, .f32⟩
  | 12 => ⟨S2048x1024, .f32⟩
  | 13 => ⟨S_, .f32⟩
  | 14 => ⟨S1024, .f32⟩
  | 15 => ⟨S1x1024, .f32⟩
  | 16 => ⟨S2048x1024, .f32⟩
  | 17 => ⟨S2048x1024, .f32⟩
  | 18 => ⟨S_, .f32⟩
  | 19 => ⟨S1024, .f32⟩
  | 20 => ⟨S2048x4x256, .f32⟩
  | 21 => ⟨S4x256x2048, .f32⟩
  | 22 => ⟨S4x2048x256, .f32⟩
  | 23 => ⟨S2048x4x256, .f32⟩
  | 24 => ⟨S4x256x256, .f32⟩
  | 25 => ⟨S4x256x256, .f32⟩
  | 26 => ⟨S2048x1x256, .f32⟩
  | 27 => ⟨S2048x256, .f32⟩
  | 28 => ⟨S2048x1x256, .f32⟩
  | 29 => ⟨S2048x256, .f32⟩
  | 30 => ⟨S2048x1x256, .f32⟩
  | 31 => ⟨S2048x256, .f32⟩
  | 32 => ⟨S2048x1x256, .f32⟩
  | 33 => ⟨S2048x256, .f32⟩
  | 34 => ⟨S2048x256, .f32⟩
  | 35 => ⟨S2048x1x256, .f32⟩
  | 36 => ⟨S_, .f32⟩
  | 37 => ⟨S2048x4x256, .f32⟩
  | 38 => ⟨S2048x256, .f32⟩
  | 39 => ⟨S2048x256, .f32⟩
  | 40 => ⟨S2048x256, .f32⟩
  | 41 => ⟨S15x256, .f32⟩
  | 42 => ⟨S2033x256, .f32⟩
  | 43 => ⟨S2033x1x256, .f32⟩
  | 44 => ⟨S_, .f32⟩
  | 45 => ⟨S2049x4x256, .f32⟩
  | 46 => ⟨S2048x1x256, .f32⟩
  | 47 => ⟨S_, .f32⟩
  | 48 => ⟨S2049x4x256, .f32⟩
  | 49 => ⟨S2049x4x256, .f32⟩
  | 50 => ⟨S2048x256, .f32⟩
  | 51 => ⟨S2048x1x256, .f32⟩
  | 52 => ⟨S_, .f32⟩
  | 53 => ⟨S2048x4x256, .f32⟩
  | 54 => ⟨S2048x4x256, .f32⟩
  | 55 => ⟨S2048x256, .f32⟩
  | 56 => ⟨S2048x256, .f32⟩
  | 57 => ⟨S2048x256, .f32⟩
  | 58 => ⟨S7x256, .f32⟩
  | 59 => ⟨S2041x256, .f32⟩
  | 60 => ⟨S2041x1x256, .f32⟩
  | 61 => ⟨S_, .f32⟩
  | 62 => ⟨S2049x4x256, .f32⟩
  | 63 => ⟨S2049x4x256, .f32⟩
  | 64 => ⟨S2048x1x256, .f32⟩
  | 65 => ⟨S_, .f32⟩
  | 66 => ⟨S2049x4x256, .f32⟩
  | 67 => ⟨S2049x4x256, .f32⟩
  | 68 => ⟨S2048x256, .f32⟩
  | 69 => ⟨S2048x1x256, .f32⟩
  | 70 => ⟨S_, .f32⟩
  | 71 => ⟨S2048x4x256, .f32⟩
  | 72 => ⟨S2048x4x256, .f32⟩
  | 73 => ⟨S2048x256, .f32⟩
  | 74 => ⟨S2048x256, .f32⟩
  | 75 => ⟨S2048x256, .f32⟩
  | 76 => ⟨S3x256, .f32⟩
  | 77 => ⟨S2045x256, .f32⟩
  | 78 => ⟨S2045x1x256, .f32⟩
  | 79 => ⟨S_, .f32⟩
  | 80 => ⟨S2049x4x256, .f32⟩
  | 81 => ⟨S2049x4x256, .f32⟩
  | 82 => ⟨S2048x1x256, .f32⟩
  | 83 => ⟨S_, .f32⟩
  | 84 => ⟨S2049x4x256, .f32⟩
  | 85 => ⟨S2049x4x256, .f32⟩
  | 86 => ⟨S2048x256, .f32⟩
  | 87 => ⟨S2048x1x256, .f32⟩
  | 88 => ⟨S_, .f32⟩
  | 89 => ⟨S2048x4x256, .f32⟩
  | 90 => ⟨S2048x4x256, .f32⟩
  | 91 => ⟨S2048x256, .f32⟩
  | 92 => ⟨S2048x256, .f32⟩
  | 93 => ⟨S2048x256, .f32⟩
  | 94 => ⟨S1x256, .f32⟩
  | 95 => ⟨S2047x256, .f32⟩
  | 96 => ⟨S2047x1x256, .f32⟩
  | 97 => ⟨S_, .f32⟩
  | 98 => ⟨S2049x4x256, .f32⟩
  | 99 => ⟨S2049x4x256, .f32⟩
  | 100 => ⟨S2048x1x256, .f32⟩
  | 101 => ⟨S_, .f32⟩
  | 102 => ⟨S2049x4x256, .f32⟩
  | 103 => ⟨S2049x4x256, .f32⟩
  | 104 => ⟨S1x4x256, .f32⟩
  | 105 => ⟨S2048x4x256, .f32⟩
  | 106 => ⟨S_, .f32⟩
  | 107 => ⟨S_, .f32⟩
  | 108 => ⟨S2048x4x256, .f32⟩
  | 109 => ⟨S2048x4x256, .f32⟩
  | 110 => ⟨S2048x1024, .f32⟩
  | 111 => ⟨S2048x1024, .bf16⟩
  | 112 => ⟨S2048x1024, .bf16⟩
  | 113 => ⟨S1x1024, .f32⟩
  | _ => ⟨S2048x12288, .f32⟩

abbrev hbmTy (i : Nat) : BufTy := match i / 128 with
  | 0 => hbmTy0_0 i
  | 1 => hbmTy0_1 i
  | _ => ⟨S2048x12288, .f32⟩

abbrev bufTy : (tb : Table) → Fin (tcTables nBuf tb) → BufTy
  | .hbm, ⟨i, _⟩ => hbmTy i
  | _, _ => ⟨S2048x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_c_10 : Ref sig .tc := ⟨.hbm, 71, rfl⟩
abbrev main_v53 : Ref sig .tc := ⟨.hbm, 72, rfl⟩
abbrev main_v54 : Ref sig .tc := ⟨.hbm, 73, rfl⟩
abbrev main_c_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_12 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_13 : Ref sig .tc := ⟨.hbm, 92, rfl⟩
abbrev main_v71 : Ref sig .tc := ⟨.hbm, 93, rfl⟩
abbrev main_c_14 : Ref sig .tc := ⟨.hbm, 94, rfl⟩
abbrev main_v72 : Ref sig .tc := ⟨.hbm, 95, rfl⟩
abbrev main_v73 : Ref sig .tc := ⟨.hbm, 96, rfl⟩
abbrev main_c_15 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_call1_v0 : Ref sig .tc := ⟨.hbm, 119, rfl⟩
abbrev main_call1_v1 : Ref sig .tc := ⟨.hbm, 120, rfl⟩
abbrev main_call1_cst : Ref sig .tc := ⟨.hbm, 121, rfl⟩
abbrev main_call1_v2 : Ref sig .tc := ⟨.hbm, 122, rfl⟩
abbrev main_call1_v3 : Ref sig .tc := ⟨.hbm, 123, rfl⟩
abbrev main_call1_cst_0 : Ref sig .tc := ⟨.hbm, 124, rfl⟩
abbrev main_call1_v4 : Ref sig .tc := ⟨.hbm, 125, rfl⟩
abbrev main_v95_2 : Ref sig .tc := ⟨.hbm, 126, rfl⟩
abbrev main_call1_cst_1 : Ref sig .tc := ⟨.hbm, 127, rfl⟩
abbrev main_call1_v6 : Ref sig .tc := ⟨.hbm, 128, rfl⟩
abbrev main_call1_v7 : Ref sig .tc := ⟨.hbm, 129, rfl⟩
abbrev main_v95_1 : Ref sig .tc := ⟨.hbm, 130, rfl⟩
abbrev main_v95_0 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_call2_v0 : Ref sig .tc := ⟨.hbm, 136, rfl⟩
abbrev main_call2_v1 : Ref sig .tc := ⟨.hbm, 137, rfl⟩
abbrev main_call2_v2 : Ref sig .tc := ⟨.hbm, 138, rfl⟩
abbrev main_v100 : Ref sig .tc := ⟨.hbm, 139, rfl⟩
abbrev main_v101 : Ref sig .tc := ⟨.hbm, 140, rfl⟩
abbrev main_cst_16 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_17 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_18 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_cst_19 : Ref sig .tc := ⟨.hbm, 172, rfl⟩
abbrev main_v130 : Ref sig .tc := ⟨.hbm, 173, rfl⟩
abbrev main_v131 : Ref sig .tc := ⟨.hbm, 174, rfl⟩
abbrev main_cst_20 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_cst_21 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_cst_22 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_cst_23 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_cst_24 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_cst_25 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_cst_26 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_cst_27 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_cst_28 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_cst_29 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_call3_call0_cst : Ref sig .tc := ⟨.hbm, 234, rfl⟩
abbrev main_call3_call0_v0 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩

abbrev nD : Nat := 1
abbrev τ : Topo := Topo.v7x

variable {F : FTy → Type} [FloatOps F]
-- ==== EvenInDx.lean ====
abbrev S2048x12288 : Shape := ⟨2, ![2048, 12288]⟩
abbrev S8x128 : Shape := ⟨2, ![8, 128]⟩
abbrev S2048x8x2x768 : Shape := ⟨4, ![2048, 8, 2, 768]⟩
abbrev S8x2x2048x768 : Shape := ⟨4, ![8, 2, 2048, 768]⟩
abbrev S8x1x2048x768 : Shape := ⟨4, ![8, 1, 2048, 768]⟩
abbrev S8x2048x768 : Shape := ⟨3, ![8, 2048, 768]⟩
abbrev S2048x2048 : Shape := ⟨2, ![2048, 2048]⟩
abbrev S2048x768 : Shape := ⟨2, ![2048, 768]⟩
abbrev S1x1024x768 : Shape := ⟨3, ![1, 1024, 768]⟩
abbrev S2048x1024 : Shape := ⟨2, ![2048, 1024]⟩
abbrev S1024x768 : Shape := ⟨2, ![1024, 768]⟩

abbrev nBuf : Space → Nat
  | .hbm => 11
  | .vmem => 9
  | .smem => 0
  | _ => 0

abbrev bufTy : (tb : Table) → Fin (tcTables nBuf tb) → BufTy
  | .hbm, ⟨0, _⟩ => ⟨S2048x12288, .bf16⟩
  | .hbm, ⟨1, _⟩ => ⟨S2048x12288, .f32⟩
  | .hbm, ⟨2, _⟩ => ⟨S8x128, .f32⟩
  | .hbm, ⟨3, _⟩ => ⟨S2048x12288, .bf16⟩
  | .hbm, ⟨4, _⟩ => ⟨S2048x8x2x768, .bf16⟩
  | .hbm, ⟨5, _⟩ => ⟨S8x2x2048x768, .bf16⟩
  | .hbm, ⟨6, _⟩ => ⟨S8x1x2048x768, .bf16⟩
  | .hbm, ⟨7, _⟩ => ⟨S8x2048x768, .bf16⟩
  | .hbm, ⟨8, _⟩ => ⟨S8x1x2048x768, .bf16⟩
  | .hbm, ⟨9, _⟩ => ⟨S8x2048x768, .bf16⟩
  | .hbm, ⟨10, _⟩ => ⟨S2048x2048, .f32⟩
  | .local _ .vmem, ⟨0, _⟩ => ⟨S2048x768, .bf16⟩
  | .local _ .vmem, ⟨1, _⟩ => ⟨S2048x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S2048x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 16], ![false, false, false]⟩

def k0_cond4 (i : grid0.Coords) : BitVec 1 :=
  let arg2 : BitVec 32 := BitVec.ofNat 32 (i 2).val
  let c15_i32 : BitVec 32 := 15#32
  let v29 : BitVec 1 := Scalar.cmpi .eq arg2 c15_i32
  let v30 : BitVec 32 := Scalar.extui v29
  let c0_i32_15 : BitVec 32 := 0#32
  let v31 : BitVec 1 := Scalar.cmpi .ne v30 c0_i32_15
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== EvenInDxReferenceIdeal.lean ====
abbrev S2048x12288 : Shape := ⟨2, ![2048, 12288]⟩
abbrev S8x128 : Shape := ⟨2, ![8, 128]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x12288, .bf16⟩
  | .hbm, ⟨1, _⟩ => ⟨S2048x12288, .f32⟩
  | .hbm, ⟨2, _⟩ => ⟨S8x128, .f32⟩
  | .hbm, ⟨3, _⟩ => ⟨S_, .f32⟩
  | .hbm, ⟨4, _⟩ => ⟨S2048x2048, .f32⟩
  | .hbm, ⟨5, _⟩ => ⟨S2048x12288, .f32⟩
  | .hbm, ⟨6, _⟩ => ⟨S2048x12288, .f32⟩
  | .hbm, ⟨7, _⟩ => ⟨S2048x2048, .f32⟩
  | _, _ => ⟨S2048x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== OddInDx.lean ====
abbrev S2048x6144 : Shape := ⟨2, ![2048, 6144]⟩
abbrev S4x2048x768 : Shape := ⟨3, ![4, 2048, 768]⟩
abbrev S2048x8x768 : Shape := ⟨3, ![2048, 8, 768]⟩
abbrev S8x2048x768 : Shape := ⟨3, ![8, 2048, 768]⟩
abbrev S2048x2048 : Shape := ⟨2, ![2048, 2048]⟩
abbrev S2048x768 : Shape := ⟨2, ![2048, 768]⟩
abbrev S1x1024x768 : Shape := ⟨3, ![1, 1024, 768]⟩
abbrev S2048x1024 : Shape := ⟨2, ![2048, 1024]⟩
abbrev S1024x768 : Shape := ⟨2, ![1024, 768]⟩

abbrev nBuf : Space → Nat
  | .hbm => 7
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S2048x6144, .f32⟩
  | .hbm, ⟨2, _⟩ => ⟨S4x2048x768, .bf16⟩
  | .hbm, ⟨3, _⟩ => ⟨S2048x6144, .bf16⟩
  | .hbm, ⟨4, _⟩ => ⟨S2048x8x768, .bf16⟩
  | .hbm, ⟨5, _⟩ => ⟨S8x2048x768, .bf16⟩
  | .hbm, ⟨6, _⟩ => ⟨S2048x2048, .f32⟩
  | .local _ .vmem, ⟨0, _⟩ => ⟨S2048x768, .bf16⟩
  | .local _ .vmem, ⟨1, _⟩ => ⟨S2048x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInDxReferenceIdeal.lean ====
abbrev S2048x6144 : Shape := ⟨2, ![2048, 6144]⟩
abbrev S4x2048x768 : Shape := ⟨3, ![4, 2048, 768]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x6144, .f32⟩
  | .hbm, ⟨2, _⟩ => ⟨S4x2048x768, .bf16⟩
  | .hbm, ⟨3, _⟩ => ⟨S_, .f32⟩
  | .hbm, ⟨4, _⟩ => ⟨S2048x2048, .f32⟩
  | .hbm, ⟨5, _⟩ => ⟨S2048x6144, .f32⟩
  | .hbm, ⟨6, _⟩ => ⟨S2048x6144, .f32⟩
  | .hbm, ⟨7, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== OutDx.lean ====
abbrev S2048x2048 : Shape := ⟨2, ![2048, 2048]⟩
abbrev S8x256x2048 : Shape := ⟨3, ![8, 256, 2048]⟩
abbrev S512x2048 : Shape := ⟨2, ![512, 2048]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S8x256x2048, .bf16⟩
  | .hbm, ⟨3, _⟩ => ⟨S2048x2048, .bf16⟩
  | .hbm, ⟨4, _⟩ => ⟨S2048x2048, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S2048x2048 : Shape := ⟨2, ![2048, 2048]⟩
abbrev S8x256x2048 : Shape := ⟨3, ![8, 256, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S8x256x2048, .bf16⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== OutDw.lean ====
abbrev S2048x2048 : Shape := ⟨2, ![2048, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== EvenInDw.lean ====
abbrev S2048x2048 : Shape := ⟨2, ![2048, 2048]⟩
abbrev S2048x12288 : Shape := ⟨2, ![2048, 12288]⟩
abbrev S2048x3072 : Shape := ⟨2, ![2048, 3072]⟩
abbrev S4x2048x768 : Shape := ⟨3, ![4, 2048, 768]⟩
abbrev S2048x768 : Shape := ⟨2, ![2048, 768]⟩
abbrev S1x2048x768 : Shape := ⟨3, ![1, 2048, 768]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x12288, .bf16⟩
  | .hbm, ⟨2, _⟩ => ⟨S2048x2048, .bf16⟩
  | .hbm, ⟨3, _⟩ => ⟨S2048x3072, .bf16⟩
  | .hbm, ⟨4, _⟩ => ⟨S4x2048x768, .bf16⟩
  | .hbm, ⟨5, _⟩ => ⟨S4x2048x768, .bf16⟩
  | .local _ .vmem, ⟨0, _⟩ => ⟨S2048x2048, .bf16⟩
  | .local _ .vmem, ⟨1, _⟩ => ⟨S2048x768, .bf16⟩
  | .local _ .vmem, ⟨2, _⟩ => ⟨S2048x768, .bf16⟩
  | .local _ .vmem, ⟨3, _⟩ => ⟨S2048x2048, .bf16⟩
  | .local _ .vmem, ⟨4, _⟩ => ⟨S2048x768, .bf16⟩
  | .local _ .vmem, ⟨5, _⟩ => ⟨S2048x768, .bf16⟩
  | .local _ .vmem, ⟨6, _⟩ => ⟨S1x2048x768, .bf16⟩
  | .local _ .vmem, ⟨7, _⟩ => ⟨S1x2048x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c0_i32_5 : BitVec 32 := 0#32
  let v18 : BitVec 32 := Scalar.addi v17 c0_i32_5
  let c2_i32_6 : BitVec 32 := 2#32
  let v19 : BitVec 32 := Scalar.muli v18 c2_i32_6
  let c1_i32_7 : BitVec 32 := 1#32
  let v20 : BitVec 32 := Scalar.addi v19 c1_i32_7
  let c1_i32_8 : BitVec 32 := 1#32
  let v21 : BitVec 32 := Scalar.muli v20 c1_i32_8
  let c1_i32_9 : BitVec 32 := 1#32
  let c0_i32_10 : BitVec 32 := 0#32
  let v22 : BitVec 1 := Scalar.cmpi .eq c1_i32_9 c0_i32_10
  let c1_i32_11 : BitVec 32 := 1#32
  let v23 : BitVec 32 := Scalar.select v22 c1_i32_11 c1_i32_9
  let v24 : BitVec 32 := Scalar.remsi arg1 v23
  let c0_i32_12 : BitVec 32 := 0#32
  let v25 : BitVec 1 := Scalar.cmpi .ne v24 c0_i32_12
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c0_i32_15 : BitVec 32 := 0#32
  let c0_i32_16 : BitVec 32 := 0#32
  ![c0_i32_15.toNat, v32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x2048x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]
-- ==== EvenInDwReferenceIdeal.lean ====
abbrev S2048x2048 : Shape := ⟨2, ![2048, 2048]⟩
abbrev S2048x12288 : Shape := ⟨2, ![2048, 12288]⟩
abbrev S2048x3072 : Shape := ⟨2, ![2048, 3072]⟩
abbrev S4x2048x768 : Shape := ⟨3, ![4, 2048, 768]⟩
abbrev S2048x4x2x2x768 : Shape := ⟨5, ![2048, 4, 2, 2, 768]⟩
abbrev S2048x4x1x1x768 : Shape := ⟨5, ![2048, 4, 1, 1, 768]⟩
abbrev S2048x4x768 : Shape := ⟨3, ![2048, 4, 768]⟩
abbrev S_ : Shape := ⟨0, ![]⟩
abbrev S4x768x2048 : Shape := ⟨3, ![4, 768, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x12288, .bf16⟩
  | .hbm, ⟨2, _⟩ => ⟨S2048x2048, .bf16⟩
  | .hbm, ⟨3, _⟩ => ⟨S2048x3072, .bf16⟩
  | .hbm, ⟨4, _⟩ => ⟨S4x2048x768, .bf16⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x12288, .f32⟩
  | .hbm, ⟨10, _⟩ => ⟨S2048x4x2x2x768, .f32⟩
  | .hbm, ⟨11, _⟩ => ⟨S2048x4x1x1x768, .f32⟩
  | .hbm, ⟨12, _⟩ => ⟨S2048x4x768, .f32⟩
  | .hbm, ⟨13, _⟩ => ⟨S2048x3072, .f32⟩
  | .hbm, ⟨14, _⟩ => ⟨S2048x4x768, .f32⟩
  | .hbm, ⟨15, _⟩ => ⟨S_, .f32⟩
  | .hbm, ⟨16, _⟩ => ⟨S4x2048x768, .f32⟩
  | .hbm, ⟨17, _⟩ => ⟨S2048x4x768, .f32⟩
  | .hbm, ⟨18, _⟩ => ⟨S2048x4x768, .f32⟩
  | .hbm, ⟨19, _⟩ => ⟨S4x768x2048, .f32⟩
  | .hbm, ⟨20, _⟩ => ⟨S4x2048x768, .f32⟩
  | .hbm, ⟨21, _⟩ => ⟨S4x768x2048, .f32⟩
  | .hbm, ⟨22, _⟩ => ⟨S4x2048x768, .f32⟩
  | .hbm, ⟨23, _⟩ => ⟨S4x2048x768, .f32⟩
  | .hbm, ⟨24, _⟩ => ⟨S4x2048x768, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== OddIn.lean ====
abbrev S2048x2048 : Shape := ⟨2, ![2048, 2048]⟩
abbrev S2048x6144 : Shape := ⟨2, ![2048, 6144]⟩
abbrev S2048x8x768 : Shape := ⟨3, ![2048, 8, 768]⟩
abbrev S8x2048x768 : Shape := ⟨3, ![8, 2048, 768]⟩
abbrev S1x2048x768 : Shape := ⟨3, ![1, 2048, 768]⟩
abbrev S2048x768 : Shape := ⟨2, ![2048, 768]⟩

abbrev nBuf : Space → Nat
  | .hbm => 6
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .f32⟩
  | .hbm, ⟨2, _⟩ => ⟨S2048x6144, .bf16⟩
  | .hbm, ⟨3, _⟩ => ⟨S2048x8x768, .bf16⟩
  | .hbm, ⟨4, _⟩ => ⟨S8x2048x768, .bf16⟩
  | .hbm, ⟨5, _⟩ => ⟨S2048x6144, .f32⟩
  | .local _ .vmem, ⟨0, _⟩ => ⟨S2048x2048, .bf16⟩
  | .local _ .vmem, ⟨1, _⟩ => ⟨S1x2048x768, .bf16⟩
  | .local _ .vmem, ⟨2, _⟩ => ⟨S1x2048x768, .bf16⟩
  | .local _ .vmem, ⟨3, _⟩ => ⟨S2048x768, .f32⟩
  | .local _ .vmem, ⟨4, _⟩ => ⟨S2048x768, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInReferenceIdeal.lean ====
abbrev S2048x2048 : Shape := ⟨2, ![2048, 2048]⟩
abbrev S2048x6144 : Shape := ⟨2, ![2048, 6144]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .f32⟩
  | .hbm, ⟨2, _⟩ => ⟨S2048x2048, .f32⟩
  | .hbm, ⟨3, _⟩ => ⟨S2048x6144, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OddInDw.lean ====
abbrev S2048x2048 : Shape := ⟨2, ![2048, 2048]⟩
abbrev S2048x6144 : Shape := ⟨2, ![2048, 6144]⟩
abbrev S2048x3072 : Shape := ⟨2, ![2048, 3072]⟩
abbrev S8x128 : Shape := ⟨2, ![8, 128]⟩
abbrev S4x2048x768 : Shape := ⟨3, ![4, 2048, 768]⟩
abbrev S2048x768 : Shape := ⟨2, ![2048, 768]⟩
abbrev S1x2048x768 : Shape := ⟨3, ![1, 2048, 768]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x2048, .bf16⟩
  | .hbm, ⟨3, _⟩ => ⟨S2048x3072, .bf16⟩
  | .hbm, ⟨4, _⟩ => ⟨S8x128, .f32⟩
  | .hbm, ⟨5, _⟩ => ⟨S4x2048x768, .f32⟩
  | .hbm, ⟨6, _⟩ => ⟨S4x2048x768, .bf16⟩
  | .local _ .vmem, ⟨0, _⟩ => ⟨S2048x2048, .bf16⟩
  | .local _ .vmem, ⟨1, _⟩ => ⟨S2048x768, .bf16⟩
  | .local _ .vmem, ⟨2, _⟩ => ⟨S2048x768, .bf16⟩
  | .local _ .vmem, ⟨3, _⟩ => ⟨S1x2048x768, .f32⟩
  | .local _ .vmem, ⟨4, _⟩ => ⟨S1x2048x768, .f32⟩
  | .local _ .vmem, ⟨5, _⟩ => ⟨S2048x2048, .bf16⟩
  | .local _ .vmem, ⟨6, _⟩ => ⟨S2048x768, .bf16⟩
  | .local _ .vmem, ⟨7, _⟩ => ⟨S2048x768, .bf16⟩
  | .local _ .vmem, ⟨8, _⟩ => ⟨S1x2048x768, .f32⟩
  | .local _ .vmem, ⟨9, _⟩ => ⟨S1x2048x768, .f32⟩
  | .local _ .vmem, ⟨10, _⟩ => ⟨S1x2048x768, .bf16⟩
  | .local _ .vmem, ⟨11, _⟩ => ⟨S1x2048x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c0_i32_5 : BitVec 32 := 0#32
  let v18 : BitVec 32 := Scalar.addi v17 c0_i32_5
  let c1_i32_6 : BitVec 32 := 1#32
  let v19 : BitVec 32 := Scalar.muli v18 c1_i32_6
  let c0_i32_7 : BitVec 32 := 0#32
  let v20 : BitVec 32 := Scalar.addi v19 c0_i32_7
  let c1_i32_8 : BitVec 32 := 1#32
  let v21 : BitVec 32 := Scalar.muli v20 c1_i32_8
  let c1_i32_9 : BitVec 32 := 1#32
  let c0_i32_10 : BitVec 32 := 0#32
  let v22 : BitVec 1 := Scalar.cmpi .eq c1_i32_9 c0_i32_10
  let c1_i32_11 : BitVec 32 := 1#32
  let v23 : BitVec 32 := Scalar.select v22 c1_i32_11 c1_i32_9
  let v24 : BitVec 32 := Scalar.remsi arg1 v23
  let c0_i32_12 : BitVec 32 := 0#32
  let v25 : BitVec 1 := Scalar.cmpi .ne v24 c0_i32_12
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c0_i32_15 : BitVec 32 := 0#32
  let c0_i32_16 : BitVec 32 := 0#32
  ![c0_i32_15.toNat, v32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 2 → Memref sig .tc .vmem S2048x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S1x2048x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1x2048x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]
-- ==== OddInDwReferenceIdeal.lean ====
abbrev S2048x2048 : Shape := ⟨2, ![2048, 2048]⟩
abbrev S2048x6144 : Shape := ⟨2, ![2048, 6144]⟩
abbrev S2048x3072 : Shape := ⟨2, ![2048, 3072]⟩
abbrev S8x128 : Shape := ⟨2, ![8, 128]⟩
abbrev S2048x4x2x768 : Shape := ⟨4, ![2048, 4, 2, 768]⟩
abbrev S2048x4x1x768 : Shape := ⟨4, ![2048, 4, 1, 768]⟩
abbrev S2048x4x768 : Shape := ⟨3, ![2048, 4, 768]⟩
abbrev S_ : Shape := ⟨0, ![]⟩
abbrev S4x2048x768 : Shape := ⟨3, ![4, 2048, 768]⟩
abbrev S4x768x2048 : Shape := ⟨3, ![4, 768, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x2048, .bf16⟩
  | .hbm, ⟨3, _⟩ => ⟨S2048x3072, .bf16⟩
  | .hbm, ⟨4, _⟩ => ⟨S8x128, .f32⟩
  | .hbm, ⟨5, _⟩ => ⟨S2048x2048, .f32⟩
  | .hbm, ⟨6, _⟩ => ⟨S2048x2048, .f32⟩
  | .hbm, ⟨7, _⟩ => ⟨S2048x6144, .f32⟩
  | .hbm, ⟨8, _⟩ => ⟨S2048x4x2x768, .f32⟩
  | .hbm, ⟨9, _⟩ => ⟨S2048x4x1x768, .f32⟩
  | .hbm, ⟨10, _⟩ => ⟨S2048x4x768, .f32⟩
  | .hbm, ⟨11, _⟩ => ⟨S2048x3072, .f32⟩
  | .hbm, ⟨12, _⟩ => ⟨S2048x4x768, .f32⟩
  | .hbm, ⟨13, _⟩ => ⟨S_, .f32⟩
  | .hbm, ⟨14, _⟩ => ⟨S4x2048x768, .f32⟩
  | .hbm, ⟨15, _⟩ => ⟨S2048x4x768, .f32⟩
  | .hbm, ⟨16, _⟩ => ⟨S2048x4x768, .f32⟩
  | .hbm, ⟨17, _⟩ => ⟨S4x768x2048, .f32⟩
  | .hbm, ⟨18, _⟩ => ⟨S4x2048x768, .f32⟩
  | .hbm, ⟨19, _⟩ => ⟨S4x768x2048, .f32⟩
  | .hbm, ⟨20, _⟩ => ⟨S4x2048x768, .f32⟩
  | .hbm, ⟨21, _⟩ => ⟨S4x2048x768, .f32⟩
  | .hbm, ⟨22, _⟩ => ⟨S4x2048x768, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== EvenInDwFirst.lean ====
abbrev S2048x2048 : Shape := ⟨2, ![2048, 2048]⟩
abbrev S2048x12288 : Shape := ⟨2, ![2048, 12288]⟩
abbrev S2048x3072 : Shape := ⟨2, ![2048, 3072]⟩
abbrev S8x128 : Shape := ⟨2, ![8, 128]⟩
abbrev S4x2048x768 : Shape := ⟨3, ![4, 2048, 768]⟩
abbrev S2048x768 : Shape := ⟨2, ![2048, 768]⟩
abbrev S1x2048x768 : Shape := ⟨3, ![1, 2048, 768]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S2048x12288, .bf16⟩
  | .hbm, ⟨2, _⟩ => ⟨S2048x2048, .bf16⟩
  | .hbm, ⟨3, _⟩ => ⟨S2048x3072, .bf16⟩
  | .hbm, ⟨4, _⟩ => ⟨S8x128, .f32⟩
  | .hbm, ⟨5, _⟩ => ⟨S4x2048x768, .f32⟩
  | .hbm, ⟨6, _⟩ => ⟨S4x2048x768, .bf16⟩
  | .local _ .vmem, ⟨0, _⟩ => ⟨S2048x2048, .bf16⟩
  | .local _ .vmem, ⟨1, _⟩ => ⟨S2048x768, .bf16⟩
  | .local _ .vmem, ⟨2, _⟩ => ⟨S2048x768, .bf16⟩
  | .local _ .vmem, ⟨3, _⟩ => ⟨S1x2048x768, .f32⟩
  | .local _ .vmem, ⟨4, _⟩ => ⟨S1x2048x768, .f32⟩
  | .local _ .vmem, ⟨5, _⟩ => ⟨S2048x2048, .bf16⟩
  | .local _ .vmem, ⟨6, _⟩ => ⟨S2048x768, .bf16⟩
  | .local _ .vmem, ⟨7, _⟩ => ⟨S2048x768, .bf16⟩
  | .local _ .vmem, ⟨8, _⟩ => ⟨S1x2048x768, .f32⟩
  | .local _ .vmem, ⟨9, _⟩ => ⟨S1x2048x768, .f32⟩
  | .local _ .vmem, ⟨10, _⟩ => ⟨S1x2048x768, .bf16⟩
  | .local _ .vmem, ⟨11, _⟩ => ⟨S1x2048x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c0_i32_5 : BitVec 32 := 0#32
  let v18 : BitVec 32 := Scalar.addi v17 c0_i32_5
  let c2_i32_6 : BitVec 32 := 2#32
  let v19 : BitVec 32 := Scalar.muli v18 c2_i32_6
  let c0_i32_7 : BitVec 32 := 0#32
  let v20 : BitVec 32 := Scalar.addi v19 c0_i32_7
  let c1_i32_8 : BitVec 32 := 1#32
  let v21 : BitVec 32 := Scalar.muli v20 c1_i32_8
  let c1_i32_9 : BitVec 32 := 1#32
  let c0_i32_10 : BitVec 32 := 0#32
  let v22 : BitVec 1 := Scalar.cmpi .eq c1_i32_9 c0_i32_10
  let c1_i32_11 : BitVec 32 := 1#32
  let v23 : BitVec 32 := Scalar.select v22 c1_i32_11 c1_i32_9
  let v24 : BitVec 32 := Scalar.remsi arg1 v23
  let c0_i32_12 : BitVec 32 := 0#32
  let v25 : BitVec 1 := Scalar.cmpi .ne v24 c0_i32_12
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c0_i32_15 : BitVec 32 := 0#32
  let c0_i32_16 : BitVec 32 := 0#32
  ![c0_i32_15.toNat, v32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 2 → Memref sig .tc .vmem S2048x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S1x2048x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1x2048x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]
-- ==== EvenInDwFirstReferenceIdeal.lean ====
abbrev S2048x2048 : Shape := ⟨2, ![2048, 2048]⟩
abbrev S2048x12288 : Shape := ⟨2, ![2048, 12288]⟩
abbrev S2048x3072 : Shape := ⟨2, ![2048, 3072]⟩
abbrev S8x128 : Shape := ⟨2, ![8, 128]⟩
abbrev S2048x4x2x2x768 : Shape := ⟨5, ![2048, 4, 2, 2, 768]⟩
abbrev S2048x4x1x1x768 : Shape := ⟨5, ![2048, 4, 1, 1, 768]⟩
abbrev S2048x4x768 : Shape := ⟨3, ![2048, 4, 768]⟩
abbrev S_ : Shape := ⟨0, ![]⟩
abbrev S4x2048x768 : Shape := ⟨3, ![4, 2048, 768]⟩
abbrev S4x768x2048 : Shape := ⟨3, ![4, 768, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x12288, .bf16⟩
  | .hbm, ⟨2, _⟩ => ⟨S2048x2048, .bf16⟩
  | .hbm, ⟨3, _⟩ => ⟨S2048x3072, .bf16⟩
  | .hbm, ⟨4, _⟩ => ⟨S8x128, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x12288, .f32⟩
  | .hbm, ⟨10, _⟩ => ⟨S2048x4x2x2x768, .f32⟩
  | .hbm, ⟨11, _⟩ => ⟨S2048x4x1x1x768, .f32⟩
  | .hbm, ⟨12, _⟩ => ⟨S2048x4x768, .f32⟩
  | .hbm, ⟨13, _⟩ => ⟨S2048x3072, .f32⟩
  | .hbm, ⟨14, _⟩ => ⟨S2048x4x768, .f32⟩
  | .hbm, ⟨15, _⟩ => ⟨S_, .f32⟩
  | .hbm, ⟨16, _⟩ => ⟨S4x2048x768, .f32⟩
  | .hbm, ⟨17, _⟩ => ⟨S2048x4x768, .f32⟩
  | .hbm, ⟨18, _⟩ => ⟨S2048x4x768, .f32⟩
  | .hbm, ⟨19, _⟩ => ⟨S4x768x2048, .f32⟩
  | .hbm, ⟨20, _⟩ => ⟨S4x2048x768, .f32⟩
  | .hbm, ⟨21, _⟩ => ⟨S4x768x2048, .f32⟩
  | .hbm, ⟨22, _⟩ => ⟨S4x2048x768, .f32⟩
  | .hbm, ⟨23, _⟩ => ⟨S4x2048x768, .f32⟩
  | .hbm, ⟨24, _⟩ => ⟨S4x2048x768, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== EvenIn.lean ====
abbrev S2048x2048 : Shape := ⟨2, ![2048, 2048]⟩
abbrev S2048x12288 : Shape := ⟨2, ![2048, 12288]⟩
abbrev S2048x8x2x768 : Shape := ⟨4, ![2048, 8, 2, 768]⟩
abbrev S8x2x2048x768 : Shape := ⟨4, ![8, 2, 2048, 768]⟩
abbrev S8x1x2048x768 : Shape := ⟨4, ![8, 1, 2048, 768]⟩
abbrev S8x2048x768 : Shape := ⟨3, ![8, 2048, 768]⟩
abbrev S1x2048x768 : Shape := ⟨3, ![1, 2048, 768]⟩
abbrev S2048x768 : Shape := ⟨2, ![2048, 768]⟩

abbrev nBuf : Space → Nat
  | .hbm => 11
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S2048x12288, .f32⟩
  | .hbm, ⟨2, _⟩ => ⟨S2048x12288, .bf16⟩
  | .hbm, ⟨3, _⟩ => ⟨S2048x8x2x768, .bf16⟩
  | .hbm, ⟨4, _⟩ => ⟨S8x2x2048x768, .bf16⟩
  | .hbm, ⟨5, _⟩ => ⟨S8x1x2048x768, .bf16⟩
  | .hbm, ⟨6, _⟩ => ⟨S8x2048x768, .bf16⟩
  | .hbm, ⟨7, _⟩ => ⟨S8x1x2048x768, .bf16⟩
  | .hbm, ⟨8, _⟩ => ⟨S8x2048x768, .bf16⟩
  | .hbm, ⟨9, _⟩ => ⟨S2048x12288, .f32⟩
  | .hbm, ⟨10, _⟩ => ⟨S2048x12288, .f32⟩
  | .local _ .vmem, ⟨0, _⟩ => ⟨S2048x2048, .bf16⟩
  | .local _ .vmem, ⟨1, _⟩ => ⟨S1x2048x768, .bf16⟩
  | .local _ .vmem, ⟨2, _⟩ => ⟨S1x2048x768, .bf16⟩
  | .local _ .vmem, ⟨3, _⟩ => ⟨S2048x768, .f32⟩
  | .local _ .vmem, ⟨4, _⟩ => ⟨S2048x768, .f32⟩
  | .local _ .vmem, ⟨5, _⟩ => ⟨S2048x2048, .bf16⟩
  | .local _ .vmem, ⟨6, _⟩ => ⟨S1x2048x768, .bf16⟩
  | .local _ .vmem, ⟨7, _⟩ => ⟨S1x2048x768, .bf16⟩
  | .local _ .vmem, ⟨8, _⟩ => ⟨S2048x768, .f32⟩
  | .local _ .vmem, ⟨9, _⟩ => ⟨S2048x768, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![c0_i32_0.toNat, v1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x2048x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== EvenInReferenceIdeal.lean ====
abbrev S2048x2048 : Shape := ⟨2, ![2048, 2048]⟩
abbrev S2048x12288 : Shape := ⟨2, ![2048, 12288]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x12288, .f32⟩
  | .hbm, ⟨2, _⟩ => ⟨S2048x2048, .f32⟩
  | .hbm, ⟨3, _⟩ => ⟨S2048x12288, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FirstNorm.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S1x2048, .f32⟩
  | .hbm, ⟨5, _⟩ => ⟨S2048x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FirstNormReferenceIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== MidNorms.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S2048x2048, .f32⟩
  | .hbm, ⟨9, _⟩ => ⟨S2048x2048, .bf16⟩
  | .hbm, ⟨10, _⟩ => ⟨S1x2048, .f32⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def k0_cond3 (i : grid0.Coords) : BitVec 1 :=
  let arg0 : BitVec 32 := BitVec.ofNat 32 (i 0).val
  let c0_i32_23 : BitVec 32 := 0#32
  let v52 : BitVec 1 := Scalar.cmpi .eq arg0 c0_i32_23
  let v53 : BitVec 32 := Scalar.extui v52
  let c0_i32_24 : BitVec 32 := 0#32
  let v54 : BitVec 1 := Scalar.cmpi .ne v53 c0_i32_24
  v54

def k0_cond4 (i : grid0.Coords) : BitVec 1 :=
  let arg0 : BitVec 32 := BitVec.ofNat 32 (i 0).val
  let c0_i32_25 : BitVec 32 := 0#32
  let v55 : BitVec 1 := Scalar.cmpi .sgt arg0 c0_i32_25
  let v56 : BitVec 32 := Scalar.extui v55
  let c0_i32_26 : BitVec 32 := 0#32
  let v57 : BitVec 1 := Scalar.cmpi .ne v56 c0_i32_26
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MidNormsReferenceIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 100
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S1x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S2048x2048, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S2048x2048, .f32⟩
  | .hbm, ⟨68, _⟩ => ⟨S2048x2048, .f32⟩
  | .hbm, ⟨69, _⟩ => ⟨S1x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S_, .f32⟩
  | .hbm, ⟨74, _⟩ => ⟨S2048, .f32⟩
  | .hbm, ⟨75, _⟩ => ⟨S1x2048, .f32⟩
  | .hbm, ⟨76, _⟩ => ⟨S2048x2048, .f32⟩
  | .hbm, ⟨77, _⟩ => ⟨S2048x2048, .f32⟩
  | .hbm, ⟨78, _⟩ => ⟨S_, .f32⟩
  | .hbm, ⟨79, _⟩ => ⟨S2048, .f32⟩
  | .hbm, ⟨80, _⟩ => ⟨S2048x2048, .f32⟩
  | .hbm, ⟨81, _⟩ => ⟨S_, .f32⟩
  | .hbm, ⟨82, _⟩ => ⟨S2048, .f32⟩
  | .hbm, ⟨83, _⟩ => ⟨S2048x1, .f32⟩
  | .hbm, ⟨84, _⟩ => ⟨S2048x2048, .f32⟩
  | .hbm, ⟨85, _⟩ => ⟨S2048x2048, .f32⟩
  | .hbm, ⟨86, _⟩ => ⟨S2048x1, .f32⟩
  | .hbm, ⟨87, _⟩ => ⟨S_, .f32⟩
  | .hbm, ⟨88, _⟩ => ⟨S2048x1, .f32⟩
  | .hbm, ⟨89, _⟩ => ⟨S2048x1, .f32⟩
  | .hbm, ⟨90, _⟩ => ⟨S_, .f32⟩
  | .hbm, ⟨91, _⟩ => ⟨S2048, .f32⟩
  | .hbm, ⟨92, _⟩ => ⟨S2048x2048, .f32⟩
  | .hbm, ⟨93, _⟩ => ⟨S2048x2048, .f32⟩
  | .hbm, ⟨94, _⟩ => ⟨S2048x2048, .f32⟩
  | .hbm, ⟨95, _⟩ => ⟨S2048x2048, .f32⟩
  | .hbm, ⟨96, _⟩ => ⟨S2048x2048, .f32⟩
  | .hbm, ⟨97, _⟩ => ⟨S2048x2048, .bf16⟩
  | .hbm, ⟨98, _⟩ => ⟨S1x2048, .f32⟩
  | .hbm, ⟨99, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_13 : Ref sig .tc := ⟨.hbm, 78, rfl⟩
abbrev main_v58 : Ref sig .tc := ⟨.hbm, 79, rfl⟩
abbrev main_v59 : Ref sig .tc := ⟨.hbm, 80, rfl⟩
abbrev main_cst_14 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_15 : Ref sig .tc := ⟨.hbm, 87, rfl⟩
abbrev main_v65 : Ref sig .tc := ⟨.hbm, 88, rfl⟩
abbrev main_v66 : Ref sig .tc := ⟨.hbm, 89, rfl⟩
abbrev main_cst_16 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== LossDx.lean ====
abbrev S2048x2048 : Shape := ⟨2, ![2048, 2048]⟩
abbrev S2048 : Shape := ⟨1, ![2048]⟩
abbrev S8x128 : Shape := ⟨2, ![8, 128]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S128 : Shape := ⟨1, ![128]⟩

abbrev nBuf : Space → Nat
  | .hbm => 12
  | .vmem => 14
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S8x128, .f32⟩
  | .hbm, ⟨6, _⟩ => ⟨S2048x2048, .bf16⟩
  | .hbm, ⟨7, _⟩ => ⟨S1x2048, .f32⟩
  | .hbm, ⟨8, _⟩ => ⟨S1x128, .f32⟩
  | .hbm, ⟨9, _⟩ => ⟨S2048x2048, .f32⟩
  | .hbm, ⟨10, _⟩ => ⟨S2048x2048, .bf16⟩
  | .hbm, ⟨11, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x128, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def k0_cond3 (i : grid0.Coords) : BitVec 1 :=
  let arg0 : BitVec 32 := BitVec.ofNat 32 (i 0).val
  let c0_i32_23 : BitVec 32 := 0#32
  let v45 : BitVec 1 := Scalar.cmpi .eq arg0 c0_i32_23
  let v46 : BitVec 32 := Scalar.extui v45
  let c0_i32_24 : BitVec 32 := 0#32
  let v47 : BitVec 1 := Scalar.cmpi .ne v46 c0_i32_24
  v47

def k0_cond4 (i : grid0.Coords) : BitVec 1 :=
  let arg0 : BitVec 32 := BitVec.ofNat 32 (i 0).val
  let c0_i32_25 : BitVec 32 := 0#32
  let v48 : BitVec 1 := Scalar.cmpi .sgt arg0 c0_i32_25
  let v49 : BitVec 32 := Scalar.extui v48
  let c0_i32_26 : BitVec 32 := 0#32
  let v50 : BitVec 1 := Scalar.cmpi .ne v49 c0_i32_26
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossDxReferenceIdeal.lean ====
abbrev S2048x2048 : Shape := ⟨2, ![2048, 2048]⟩
abbrev S2048 : Shape := ⟨1, ![2048]⟩
abbrev S8x128 : Shape := ⟨2, ![8, 128]⟩
abbrev S_ : Shape := ⟨0, ![]⟩
abbrev S2048x1 : Shape := ⟨2, ![2048, 1]⟩
abbrev S1x2048 : Shape := ⟨2, ![1, 2048]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S8x128, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S1x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S_, .f32⟩
  | .hbm, ⟨37, _⟩ => ⟨S2048, .f32⟩
  | .hbm, ⟨38, _⟩ => ⟨S2048, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S2048x2048, .f32⟩
  | .hbm, ⟨57, _⟩ => ⟨S2048x2048, .f32⟩
  | .hbm, ⟨58, _⟩ => ⟨S_, .f32⟩
  | .hbm, ⟨59, _⟩ => ⟨S2048, .f32⟩
  | .hbm, ⟨60, _⟩ => ⟨S2048x2048, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x2048, .f32⟩
  | .hbm, ⟨65, _⟩ => ⟨S2048x2048, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S2048x2048, .f32⟩
  | .hbm, ⟨77, _⟩ => ⟨S1x128, .f32⟩
  | .hbm, ⟨78, _⟩ => ⟨S2048x2048, .bf16⟩
  | .hbm, ⟨79, _⟩ => ⟨S1x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_cst_8 : Ref sig .tc := ⟨.hbm, 43, rfl⟩
abbrev main_cst_9 : Ref sig .tc := ⟨.hbm, 44, rfl⟩
abbrev main_v28 : Ref sig .tc := ⟨.hbm, 45, rfl⟩
abbrev main_v29 : Ref sig .tc := ⟨.hbm, 46, rfl⟩
abbrev main_cst_10 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_11 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_cst_13 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_14 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== FirstNormFwd.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S2048x256, .bf16⟩
  | .local _ .vmem, ⟨6, _⟩ => ⟨S2048x256, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FirstNormFwdReferenceIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== EvenOut.lean ====
abbrev S2048x2048 : Shape := ⟨2, ![2048, 2048]⟩
abbrev S2048 : Shape := ⟨1, ![2048]⟩
abbrev S8x128 : Shape := ⟨2, ![8, 128]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S8x128, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EvenOutReferenceIdeal.lean ====
abbrev S2048x2048 : Shape := ⟨2, ![2048, 2048]⟩
abbrev S2048 : Shape := ⟨1, ![2048]⟩
abbrev S8x128 : Shape := ⟨2, ![8, 128]⟩
abbrev S_ : Shape := ⟨0, ![]⟩
abbrev S2048x1 : Shape := ⟨2, ![2048, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S8x128, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S1x2048, .f32⟩
  | .hbm, ⟨39, _⟩ => ⟨S2048x2048, .f32⟩
  | .hbm, ⟨40, _⟩ => ⟨S2048x2048, .f32⟩
  | .hbm, ⟨41, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== PoolFwd.lean ====
abbrev S2048x12288 : Shape := ⟨2, ![2048, 12288]⟩
abbrev S4x256x256 : Shape := ⟨3, ![4, 256, 256]⟩
abbrev S1024 : Shape := ⟨1, ![1024]⟩
abbrev S1x1024 : Shape := ⟨2, ![1, 1024]⟩
abbrev S2048x2048 : Shape := ⟨2, ![2048, 2048]⟩
abbrev S2048x256 : Shape := ⟨2, ![2048, 256]⟩
abbrev S1x256x256 : Shape := ⟨3, ![1, 256, 256]⟩
abbrev S1x256 : Shape := ⟨2, ![1, 256]⟩
abbrev S256x256 : Shape := ⟨2, ![256, 256]⟩
abbrev S2048x1024 : Shape := ⟨2, ![2048, 1024]⟩

abbrev nBuf : Space → Nat
  | .hbm => 7
  | .vmem => 10
  | .smem => 0
  | _ => 0

abbrev bufTy : (tb : Table) → Fin (tcTables nBuf tb) → BufTy
  | .hbm, ⟨0, _⟩ => ⟨S2048x12288, .f32⟩
  | .hbm, ⟨1, _⟩ => ⟨S4x256x256, .f32⟩
  | .hbm, ⟨2, _⟩ => ⟨S1024, .f32⟩
  | .hbm, ⟨3, _⟩ => ⟨S4x256x256, .bf16⟩
  | .hbm, ⟨4, _⟩ => ⟨S1x1024, .f32⟩
  | .hbm, ⟨5, _⟩ => ⟨S2048x2048, .bf16⟩
  | .hbm, ⟨6, _⟩ => ⟨S2048x1024, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1x256x256, .bf16⟩
  | .local _ .vmem, ⟨5, _⟩ => ⟨S1x256x256, .bf16⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | _, _ => ⟨S2048x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolFwdReferenceIdeal.lean ====
abbrev S2048x12288 : Shape := ⟨2, ![2048, 12288]⟩
abbrev S4x256x256 : Shape := ⟨3, ![4, 256, 256]⟩
abbrev S1024 : Shape := ⟨1, ![1024]⟩
abbrev S2048x1024 : Shape := ⟨2, ![2048, 1024]⟩
abbrev S2048x4x256 : Shape := ⟨3, ![2048, 4, 256]⟩
abbrev S_ : Shape := ⟨0, ![]⟩
abbrev S1x4x256 : Shape := ⟨3, ![1, 4, 256]⟩
abbrev S2049x4x256 : Shape := ⟨3, ![2049, 4, 256]⟩
abbrev S2048 : Shape := ⟨1, ![2048]⟩
abbrev S2048x1x256 : Shape := ⟨3, ![2048, 1, 256]⟩
abbrev S2048x256 : Shape := ⟨2, ![2048, 256]⟩
abbrev S1x256 : Shape := ⟨2, ![1, 256]⟩
abbrev S2047x1x256 : Shape := ⟨3, ![2047, 1, 256]⟩
abbrev S2047x256 : Shape := ⟨2, ![2047, 256]⟩
abbrev S2048x1 : Shape := ⟨2, ![2048, 1]⟩
abbrev S3x256 : Shape := ⟨2, ![3, 256]⟩
abbrev S2045x1x256 : Shape := ⟨3, ![2045, 1, 256]⟩
abbrev S2045x256 : Shape := ⟨2, ![2045, 256]⟩
abbrev S7x256 : Shape := ⟨2, ![7, 256]⟩
abbrev S2041x1x256 : Shape := ⟨3, ![2041, 1, 256]⟩
abbrev S2041x256 : Shape := ⟨2, ![2041, 256]⟩
abbrev S15x256 : Shape := ⟨2, ![15, 256]⟩
abbrev S2033x1x256 : Shape := ⟨3, ![2033, 1, 256]⟩
abbrev S2033x256 : Shape := ⟨2, ![2033, 256]⟩
abbrev S4x256x2048 : Shape := ⟨3, ![4, 256, 2048]⟩
abbrev S1x1024 : Shape := ⟨2, ![1, 1024]⟩

abbrev nBuf : Space → Nat
  | .hbm => 119
  | .vmem => 0
  | .smem => 0
  | _ => 0

abbrev bufTy : (tb : Table) → Fin (tcTables nBuf tb) → BufTy
  | .hbm, ⟨0, _⟩ => ⟨S2048x12288, .f32⟩
  | .hbm, ⟨1, _⟩ => ⟨S4x256x256, .f32⟩
  | .hbm, ⟨2, _⟩ => ⟨S1024, .f32⟩
  | .hbm, ⟨3, _⟩ => ⟨S2048x1024, .f32⟩
  | .hbm, ⟨4, _⟩ => ⟨S2048x1024, .f32⟩
  | .hbm, ⟨5, _⟩ => ⟨S2048x4x256, .f32⟩
  | .hbm, ⟨6, _⟩ => ⟨S_, .f32⟩
  | .hbm, ⟨7, _⟩ => ⟨S1x4x256, .f32⟩
  | .hbm, ⟨8, _⟩ => ⟨S_, .f32⟩
  | .hbm, ⟨9, _⟩ => ⟨S_, .f32⟩
  | .hbm, ⟨10, _⟩ => ⟨S2048x4x256, .f32⟩
  | .hbm, ⟨11, _⟩ => ⟨S2049x4x256, .f32⟩
  | .hbm, ⟨12, _⟩ => ⟨S2048, .i32⟩
  | .hbm, ⟨13, _⟩ => ⟨S2048x1x256, .f32⟩
  | .hbm, ⟨14, _⟩ => ⟨S2048x256, .f32⟩
  | .hbm, ⟨15, _⟩ => ⟨S_, .f32⟩
  | .hbm, ⟨16, _⟩ => ⟨S1x256, .f32⟩
  | .hbm, ⟨17, _⟩ => ⟨S2047x1x256, .f32⟩
  | .hbm, ⟨18, _⟩ => ⟨S2047x256, .f32⟩
  | .hbm, ⟨19, _⟩ => ⟨S2048x256, .f32⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .f32⟩
  | .hbm, ⟨27, _⟩ => ⟨S2048x1, .f32⟩
  | .hbm, ⟨28, _⟩ => ⟨S2048x256, .f32⟩
  | .hbm, ⟨29, _⟩ => ⟨S2048x256, .f32⟩
  | .hbm, ⟨30, _⟩ => ⟨S2048x256, .f32⟩
  | .hbm, ⟨31, _⟩ => ⟨S2048x1x256, .f32⟩
  | .hbm, ⟨32, _⟩ => ⟨S2048x256, .f32⟩
  | .hbm, ⟨33, _⟩ => ⟨S2048x256, .f32⟩
  | .hbm, ⟨34, _⟩ => ⟨S2048x1x256, .f32⟩
  | .hbm, ⟨35, _⟩ => ⟨S2048x256, .f32⟩
  | .hbm, ⟨36, _⟩ => ⟨S_, .f32⟩
  | .hbm, ⟨37, _⟩ => ⟨S3x256, .f32⟩
  | .hbm, ⟨38, _⟩ => ⟨S2045x1x256, .f32⟩
  | .hbm, ⟨39, _⟩ => ⟨S2045x256, .f32⟩
  | .hbm, ⟨40, _⟩ => ⟨S2048x256, .f32⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S2048, .f32⟩
  | .hbm, ⟨48, _⟩ => ⟨S2048x1, .f32⟩
  | .hbm, ⟨49, _⟩ => ⟨S2048x256, .f32⟩
  | .hbm, ⟨50, _⟩ => ⟨S2048x256, .f32⟩
  | .hbm, ⟨51, _⟩ => ⟨S2048x256, .f32⟩
  | .hbm, ⟨52, _⟩ => ⟨S2048x1x256, .f32⟩
  | .hbm, ⟨53, _⟩ => ⟨S2048x256, .f32⟩
  | .hbm, ⟨54, _⟩ => ⟨S2048x256, .f32⟩
  | .hbm, ⟨55, _⟩ => ⟨S2048x1x256, .f32⟩
  | .hbm, ⟨56, _⟩ => ⟨S2048x256, .f32⟩
  | .hbm, ⟨57, _⟩ => ⟨S_, .f32⟩
  | .hbm, ⟨58, _⟩ => ⟨S7x256, .f32⟩
  | .hbm, ⟨59, _⟩ => ⟨S2041x1x256, .f32⟩
  | .hbm, ⟨60, _⟩ => ⟨S2041x256, .f32⟩
  | .hbm, ⟨61, _⟩ => ⟨S2048x256, .f32⟩
  | .hbm, ⟨62, _⟩ => ⟨S_, .i32⟩
  | .hbm, ⟨63, _⟩ => ⟨S2048, .i32⟩
  | .hbm, ⟨64, _⟩ => ⟨S2048, .i32⟩
  | .hbm, ⟨65, _⟩ => ⟨S_, .i32⟩
  | .hbm, ⟨66, _⟩ => ⟨S2048, .i32⟩
  | .hbm, ⟨67, _⟩ => ⟨S2048, .i32⟩
  | .hbm, ⟨68, _⟩ => ⟨S2048, .f32⟩
  | .hbm, ⟨69, _⟩ => ⟨S2048x1, .f32⟩
  | .hbm, ⟨70, _⟩ => ⟨S2048x256, .f32⟩
  | .hbm, ⟨71, _⟩ => ⟨S2048x256, .f32⟩
  | .hbm, ⟨72, _⟩ => ⟨S2048x256, .f32⟩
  | .hbm, ⟨73, _⟩ => ⟨S2048x1x256, .f32⟩
  | .hbm, ⟨74, _⟩ => ⟨S2048x256, .f32⟩
  | .hbm, ⟨75, _⟩ => ⟨S2048x256, .f32⟩
  | .hbm, ⟨76, _⟩ => ⟨S2048x1x256, .f32⟩
  | .hbm, ⟨77, _⟩ => ⟨S2048x256, .f32⟩
  | .hbm, ⟨78, _⟩ => ⟨S_, .f32⟩
  | .hbm, ⟨79, _⟩ => ⟨S15x256, .f32⟩
  | .hbm, ⟨80, _⟩ => ⟨S2033x1x256, .f32⟩
  | .hbm, ⟨81, _⟩ => ⟨S2033x256, .f32⟩
  | .hbm, ⟨82, _⟩ => ⟨S2048x256, .f32⟩
  | .hbm, ⟨83, _⟩ => ⟨S_, .i32⟩
  | .hbm, ⟨84, _⟩ => ⟨S2048, .i32⟩
  | .hbm, ⟨85, _⟩ => ⟨S2048, .i32⟩
  | .hbm, ⟨86, _⟩ => ⟨S_, .i32⟩
  | .hbm, ⟨87, _⟩ => ⟨S2048, .i32⟩
  | .hbm, ⟨88, _⟩ => ⟨S2048, .i32⟩
  | .hbm, ⟨89, _⟩ => ⟨S2048, .f32⟩
  | .hbm, ⟨90, _⟩ => ⟨S2048x1, .f32⟩
  | .hbm, ⟨91, _⟩ => ⟨S2048x256, .f32⟩
  | .hbm, ⟨92, _⟩ => ⟨S2048x256, .f32⟩
  | .hbm, ⟨93, _⟩ => ⟨S2048x256, .f32⟩
  | .hbm, ⟨94, _⟩ => ⟨S2048x1x256, .f32⟩
  | .hbm, ⟨95, _⟩ => ⟨S2048x256, .f32⟩
  | .hbm, ⟨96, _⟩ => ⟨S2048x256, .f32⟩
  | .hbm, ⟨97, _⟩ => ⟨S2048x1x256, .f32⟩
  | .hbm, ⟨98, _⟩ => ⟨S2048x1x256, .f32⟩
  | .hbm, ⟨99, _⟩ => ⟨S2048x1x256, .f32⟩
  | .hbm, ⟨100, _⟩ => ⟨S2048x1x256, .f32⟩
  | .hbm, ⟨101, _⟩ => ⟨S2048x4x256, .f32⟩
  | .hbm, ⟨102, _⟩ => ⟨S4x256x2048, .f32⟩
  | .hbm, ⟨103, _⟩ => ⟨S2048x4x256, .f32⟩
  | .hbm, ⟨104, _⟩ => ⟨S2048x1024, .f32⟩
  | .hbm, ⟨105, _⟩ => ⟨S1x1024, .f32⟩
  | .hbm, ⟨106, _⟩ => ⟨S2048x1024, .f32⟩
  | .hbm, ⟨107, _⟩ => ⟨S2048x1024, .f32⟩
  | .hbm, ⟨108, _⟩ => ⟨S2048x1024, .f32⟩
  | .hbm, ⟨109, _⟩ => ⟨S2048x1024, .f32⟩
  | .hbm, ⟨110, _⟩ => ⟨S_, .f32⟩
  | .hbm, ⟨111, _⟩ => ⟨S2048x1024, .f32⟩
  | .hbm, ⟨112, _⟩ => ⟨S2048x1024, .f32⟩
  | .hbm, ⟨113, _⟩ => ⟨S_, .f32⟩
  | .hbm, ⟨114, _⟩ => ⟨S2048x1024, .f32⟩
  | .hbm, ⟨115, _⟩ => ⟨S2048x1024, .f32⟩
  | .hbm, ⟨116, _⟩ => ⟨S2048x1024, .f32⟩
  | .hbm, ⟨117, _⟩ => ⟨S2048x1024, .f32⟩
  | .hbm, ⟨118, _⟩ => ⟨S2048x1024, .bf16⟩
  | _, _ => ⟨S2048x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_call0_call0_cst : Ref sig .tc := ⟨.hbm, 8, rfl⟩
abbrev main_call0_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_3 : Ref sig .tc := ⟨.hbm, 41, rfl⟩
abbrev main_v31 : Ref sig .tc := ⟨.hbm, 42, rfl⟩
abbrev main_v32 : Ref sig .tc := ⟨.hbm, 43, rfl⟩
abbrev main_c_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_6 : Ref sig .tc := ⟨.hbm, 62, rfl⟩
abbrev main_v49 : Ref sig .tc := ⟨.hbm, 63, rfl⟩
abbrev main_v50 : Ref sig .tc := ⟨.hbm, 64, rfl⟩
abbrev main_c_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_8 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_c_9 : Ref sig .tc := ⟨.hbm, 83, rfl⟩
abbrev main_v67 : Ref sig .tc := ⟨.hbm, 84, rfl⟩
abbrev main_v68 : Ref sig .tc := ⟨.hbm, 85, rfl⟩
abbrev main_c_10 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_call1_v0 : Ref sig .tc := ⟨.hbm, 108, rfl⟩
abbrev main_call1_v1 : Ref sig .tc := ⟨.hbm, 109, rfl⟩
abbrev main_call1_cst : Ref sig .tc := ⟨.hbm, 110, rfl⟩
abbrev main_call1_v2 : Ref sig .tc := ⟨.hbm, 111, rfl⟩
abbrev main_call1_v3 : Ref sig .tc := ⟨.hbm, 112, rfl⟩
abbrev main_call1_cst_0 : Ref sig .tc := ⟨.hbm, 113, rfl⟩
abbrev main_call1_v4 : Ref sig .tc := ⟨.hbm, 114, rfl⟩
abbrev main_call1_v5 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩

abbrev nD : Nat := 1
abbrev τ : Topo := Topo.v7x

variable {F : FTy → Type} [FloatOps F]
-- ==== AdamOddIn.lean ====
abbrev S4x2048x768 : Shape := ⟨3, ![4, 2048, 768]⟩
abbrev S2048x768 : Shape := ⟨2, ![2048, 768]⟩
abbrev S4x128x768 : Shape := ⟨3, ![4, 128, 768]⟩
abbrev S128x768 : Shape := ⟨2, ![128, 768]⟩
abbrev S1x128x768 : Shape := ⟨3, ![1, 128, 768]⟩

abbrev nBuf : Space → Nat
  | .hbm => 9
  | .vmem => 16
  | .smem => 0
  | _ => 0

abbrev bufTy : (tb : Table) → Fin (tcTables nBuf tb) → BufTy
  | .hbm, ⟨0, _⟩ => ⟨S4x2048x768, .bf16⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S4x2048x768, .bf16⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .local _ .vmem, ⟨0, _⟩ => ⟨S4x128x768, .bf16⟩
  | .local _ .vmem, ⟨1, _⟩ => ⟨S4x128x768, .bf16⟩
  | .local _ .vmem, ⟨2, _⟩ => ⟨S128x768, .f32⟩
  | .local _ .vmem, ⟨3, _⟩ => ⟨S128x768, .f32⟩
  | .local _ .vmem, ⟨4, _⟩ => ⟨S128x768, .f32⟩
  | .local _ .vmem, ⟨5, _⟩ => ⟨S128x768, .f32⟩
  | .local _ .vmem, ⟨6, _⟩ => ⟨S128x768, .f32⟩
  | .local _ .vmem, ⟨7, _⟩ => ⟨S128x768, .f32⟩
  | .local _ .vmem, ⟨8, _⟩ => ⟨S128x768, .f32⟩
  | .local _ .vmem, ⟨9, _⟩ => ⟨S128x768, .f32⟩
  | .local _ .vmem, ⟨10, _⟩ => ⟨S128x768, .f32⟩
  | .local _ .vmem, ⟨11, _⟩ => ⟨S128x768, .f32⟩
  | .local _ .vmem, ⟨12, _⟩ => ⟨S128x768, .f32⟩
  | .local _ .vmem, ⟨13, _⟩ => ⟨S128x768, .f32⟩
  | .local _ .vmem, ⟨14, _⟩ => ⟨S128x768, .f32⟩
  | .local _ .vmem, ⟨15, _⟩ => ⟨S128x768, .f32⟩
  | _, _ => ⟨S4x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOddInReferenceIdeal.lean ====
abbrev S4x2048x768 : Shape := ⟨3, ![4, 2048, 768]⟩
abbrev S2048x768 : Shape := ⟨2, ![2048, 768]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x768, .bf16⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S4x2048x768, .bf16⟩
  | .hbm, ⟨5, _⟩ => ⟨S4x2048x768, .f32⟩
  | .hbm, ⟨6, _⟩ => ⟨S_, .f32⟩
  | .hbm, ⟨7, _⟩ => ⟨S2048x768, .f32⟩
  | .hbm, ⟨8, _⟩ => ⟨S_, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S2048x768, .f32⟩
  | .hbm, ⟨23, _⟩ => ⟨S_, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | .hbm, ⟨37, _⟩ => ⟨S2048x768, .f32⟩
  | .hbm, ⟨38, _⟩ => ⟨S_, .f32⟩
  | .hbm, ⟨39, _⟩ => ⟨S2048x768, .f32⟩
  | .hbm, ⟨40, _⟩ => ⟨S2048x768, .f32⟩
  | _, _ => ⟨S4x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== AdamOut.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 9
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutReferenceIdeal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S8x256x2048, .f32⟩
  | .hbm, ⟨6, _⟩ => ⟨S_, .f32⟩
  | .hbm, ⟨7, _⟩ => ⟨S256x2048, .f32⟩
  | .hbm, ⟨8, _⟩ => ⟨S_, .f32⟩
  | .hbm, ⟨9, _⟩ => ⟨S256x2048, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S256x2048, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S256x2048, .f32⟩
  | .hbm, ⟨40, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== AdamEvenIn.lean ====
abbrev S4x2048x768 : Shape := ⟨3, ![4, 2048, 768]⟩
abbrev S2048x1536 : Shape := ⟨2, ![2048, 1536]⟩
abbrev S2048x2048 : Shape := ⟨2, ![2048, 2048]⟩
abbrev S4x128x768 : Shape := ⟨3, ![4, 128, 768]⟩
abbrev S128x768 : Shape := ⟨2, ![128, 768]⟩
abbrev S1x128x768 : Shape := ⟨3, ![1, 128, 768]⟩

abbrev nBuf : Space → Nat
  | .hbm => 14
  | .vmem => 32
  | .smem => 0
  | _ => 0

abbrev bufTy : (tb : Table) → Fin (tcTables nBuf tb) → BufTy
  | .hbm, ⟨0, _⟩ => ⟨S4x2048x768, .bf16⟩
  | .hbm, ⟨1, _⟩ => ⟨S4x2048x768, .bf16⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x2048, .f32⟩
  | .hbm, ⟨6, _⟩ => ⟨S2048x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S2048x1536, .f32⟩
  | .hbm, ⟨12, _⟩ => ⟨S2048x1536, .f32⟩
  | .hbm, ⟨13, _⟩ => ⟨S2048x1536, .f32⟩
  | .local _ .vmem, ⟨0, _⟩ => ⟨S4x128x768, .bf16⟩
  | .local _ .vmem, ⟨1, _⟩ => ⟨S4x128x768, .bf16⟩
  | .local _ .vmem, ⟨2, _⟩ => ⟨S128x768, .f32⟩
  | .local _ .vmem, ⟨3, _⟩ => ⟨S128x768, .f32⟩
  | .local _ .vmem, ⟨4, _⟩ => ⟨S128x768, .f32⟩
  | .local _ .vmem, ⟨5, _⟩ => ⟨S128x768, .f32⟩
  | .local _ .vmem, ⟨6, _⟩ => ⟨S128x768, .f32⟩
  | .local _ .vmem, ⟨7, _⟩ => ⟨S128x768, .f32⟩
  | .local _ .vmem, ⟨8, _⟩ => ⟨S128x768, .f32⟩
  | .local _ .vmem, ⟨9, _⟩ => ⟨S128x768, .f32⟩
  | .local _ .vmem, ⟨10, _⟩ => ⟨S128x768, .f32⟩
  | .local _ .vmem, ⟨11, _⟩ => ⟨S128x768, .f32⟩
  | .local _ .vmem, ⟨12, _⟩ => ⟨S128x768, .f32⟩
  | .local _ .vmem, ⟨13, _⟩ => ⟨S128x768, .f32⟩
  | .local _ .vmem, ⟨14, _⟩ => ⟨S128x768, .f32⟩
  | .local _ .vmem, ⟨15, _⟩ => ⟨S128x768, .f32⟩
  | .local _ .vmem, ⟨16, _⟩ => ⟨S4x128x768, .bf16⟩
  | .local _ .vmem, ⟨17, _⟩ => ⟨S4x128x768, .bf16⟩
  | .local _ .vmem, ⟨18, _⟩ => ⟨S128x768, .f32⟩
  | .local _ .vmem, ⟨19, _⟩ => ⟨S128x768, .f32⟩
  | .local _ .vmem, ⟨20, _⟩ => ⟨S128x768, .f32⟩
  | .local _ .vmem, ⟨21, _⟩ => ⟨S128x768, .f32⟩
  | .local _ .vmem, ⟨22, _⟩ => ⟨S128x768, .f32⟩
  | .local _ .vmem, ⟨23, _⟩ => ⟨S128x768, .f32⟩
  | .local _ .vmem, ⟨24, _⟩ => ⟨S128x768, .f32⟩
  | .local _ .vmem, ⟨25, _⟩ => ⟨S128x768, .f32⟩
  | .local _ .vmem, ⟨26, _⟩ => ⟨S128x768, .f32⟩
  | .local _ .vmem, ⟨27, _⟩ => ⟨S128x768, .f32⟩
  | .local _ .vmem, ⟨28, _⟩ => ⟨S128x768, .f32⟩
  | .local _ .vmem, ⟨29, _⟩ => ⟨S128x768, .f32⟩
  | .local _ .vmem, ⟨30, _⟩ => ⟨S128x768, .f32⟩
  | .local _ .vmem, ⟨31, _⟩ => ⟨S128x768, .f32⟩
  | _, _ => ⟨S4x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_2 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_3 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_8 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_9 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_10 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_11 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage1_0 : Fin 2 → Memref sig .tc .vmem S4x128x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== AdamEvenInReferenceIdeal.lean ====
abbrev S4x2048x768 : Shape := ⟨3, ![4, 2048, 768]⟩
abbrev S2048x1536 : Shape := ⟨2, ![2048, 1536]⟩
abbrev S2048x2048 : Shape := ⟨2, ![2048, 2048]⟩
abbrev S4x2048x1536 : Shape := ⟨3, ![4, 2048, 1536]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x768, .bf16⟩
  | .hbm, ⟨1, _⟩ => ⟨S4x2048x768, .bf16⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x2048, .f32⟩
  | .hbm, ⟨6, _⟩ => ⟨S4x2048x1536, .bf16⟩
  | .hbm, ⟨7, _⟩ => ⟨S4x2048x1536, .f32⟩
  | .hbm, ⟨8, _⟩ => ⟨S_, .f32⟩
  | .hbm, ⟨9, _⟩ => ⟨S2048x1536, .f32⟩
  | .hbm, ⟨10, _⟩ => ⟨S_, .f32⟩
  | .hbm, ⟨11, _⟩ => ⟨S2048x1536, .f32⟩
  | .hbm, ⟨12, _⟩ => ⟨S2048x1536, .f32⟩
  | .hbm, ⟨13, _⟩ => ⟨S_, .f32⟩
  | .hbm, ⟨14, _⟩ => ⟨S2048x1536, .f32⟩
  | .hbm, ⟨15, _⟩ => ⟨S2048x1536, .f32⟩
  | .hbm, ⟨16, _⟩ => ⟨S2048x1536, .f32⟩
  | .hbm, ⟨17, _⟩ => ⟨S_, .f32⟩
  | .hbm, ⟨18, _⟩ => ⟨S2048x1536, .f32⟩
  | .hbm, ⟨19, _⟩ => ⟨S2048x1536, .f32⟩
  | .hbm, ⟨20, _⟩ => ⟨S2048x1536, .f32⟩
  | .hbm, ⟨21, _⟩ => ⟨S_, .f32⟩
  | .hbm, ⟨22, _⟩ => ⟨S2048x1536, .f32⟩
  | .hbm, ⟨23, _⟩ => ⟨S2048x1536, .f32⟩
  | .hbm, ⟨24, _⟩ => ⟨S2048x1536, .f32⟩
  | .hbm, ⟨25, _⟩ => ⟨S_, .f32⟩
  | .hbm, ⟨26, _⟩ => ⟨S2048x1536, .f32⟩
  | .hbm, ⟨27, _⟩ => ⟨S2048x1536, .f32⟩
  | .hbm, ⟨28, _⟩ => ⟨S_, .f32⟩
  | .hbm, ⟨29, _⟩ => ⟨S2048x1536, .f32⟩
  | .hbm, ⟨30, _⟩ => ⟨S2048x1536, .f32⟩
  | .hbm, ⟨31, _⟩ => ⟨S2048x1536, .f32⟩
  | .hbm, ⟨32, _⟩ => ⟨S_, .f32⟩
  | .hbm, ⟨33, _⟩ => ⟨S2048x1536, .f32⟩
  | .hbm, ⟨34, _⟩ => ⟨S2048x1536, .f32⟩
  | .hbm, ⟨35, _⟩ => ⟨S2048x1536, .f32⟩
  | .hbm, ⟨36, _⟩ => ⟨S_, .f32⟩
  | .hbm, ⟨37, _⟩ => ⟨S2048x1536, .f32⟩
  | .hbm, ⟨38, _⟩ => ⟨S2048x1536, .f32⟩
  | .hbm, ⟨39, _⟩ => ⟨S2048x1536, .f32⟩
  | .hbm, ⟨40, _⟩ => ⟨S_, .f32⟩
  | .hbm, ⟨41, _⟩ => ⟨S2048x1536, .f32⟩
  | .hbm, ⟨42, _⟩ => ⟨S2048x1536, .f32⟩
  | _, _ => ⟨S4x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== SumSmall.lean ====
abbrev S8x3072x128 : Shape := ⟨3, ![8, 3072, 128]⟩
abbrev S256x2048 : Shape := ⟨2, ![256, 2048]⟩
abbrev S2048x128 : Shape := ⟨2, ![2048, 128]⟩
abbrev S8x128 : Shape := ⟨2, ![8, 128]⟩
abbrev S16x128 : Shape := ⟨2, ![16, 128]⟩
abbrev S512x128 : Shape := ⟨2, ![512, 128]⟩
abbrev S248x128 : Shape := ⟨2, ![248, 128]⟩
abbrev S4x128 : Shape := ⟨2, ![4, 128]⟩
abbrev S1x2048x128 : Shape := ⟨3, ![1, 2048, 128]⟩
abbrev S1x8x128 : Shape := ⟨3, ![1, 8, 128]⟩
abbrev S1x16x128 : Shape := ⟨3, ![1, 16, 128]⟩
abbrev S1x512x128 : Shape := ⟨3, ![1, 512, 128]⟩
abbrev S1x248x128 : Shape := ⟨3, ![1, 248, 128]⟩
abbrev S1x4x128 : Shape := ⟨3, ![1, 4, 128]⟩

abbrev nBuf : Space → Nat
  | .hbm => 16
  | .vmem => 15
  | .smem => 0
  | _ => 0

abbrev bufTy : (tb : Table) → Fin (tcTables nBuf tb) → BufTy
  | .hbm, ⟨0, _⟩ => ⟨S8x3072x128, .f32⟩
  | .hbm, ⟨1, _⟩ => ⟨S256x2048, .f32⟩
  | .hbm, ⟨2, _⟩ => ⟨S2048x128, .f32⟩
  | .hbm, ⟨3, _⟩ => ⟨S8x128, .f32⟩
  | .hbm, ⟨4, _⟩ => ⟨S16x128, .f32⟩
  | .hbm, ⟨5, _⟩ => ⟨S16x128, .f32⟩
  | .hbm, ⟨6, _⟩ => ⟨S8x128, .f32⟩
  | .hbm, ⟨7, _⟩ => ⟨S8x128, .f32⟩
  | .hbm, ⟨8, _⟩ => ⟨S512x128, .f32⟩
  | .hbm, ⟨9, _⟩ => ⟨S248x128, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S16x128, .f32⟩
  | .hbm, ⟨14, _⟩ => ⟨S8x128, .f32⟩
  | .hbm, ⟨15, _⟩ => ⟨S4x128, .f32⟩
  | .local _ .vmem, ⟨0, _⟩ => ⟨S8x3072x128, .f32⟩
  | .local _ .vmem, ⟨1, _⟩ => ⟨S2048x128, .f32⟩
  | .local _ .vmem, ⟨2, _⟩ => ⟨S8x128, .f32⟩
  | .local _ .vmem, ⟨3, _⟩ => ⟨S16x128, .f32⟩
  | .local _ .vmem, ⟨4, _⟩ => ⟨S16x128, .f32⟩
  | .local _ .vmem, ⟨5, _⟩ => ⟨S8x128, .f32⟩
  | .local _ .vmem, ⟨6, _⟩ => ⟨S8x128, .f32⟩
  | .local _ .vmem, ⟨7, _⟩ => ⟨S512x128, .f32⟩
  | .local _ .vmem, ⟨8, _⟩ => ⟨S248x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S16x128, .f32⟩
  | .local _ .vmem, ⟨13, _⟩ => ⟨S8x128, .f32⟩
  | .local _ .vmem, ⟨14, _⟩ => ⟨S4x128, .f32⟩
  | _, _ => ⟨S8x3072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev main_v0_6 : Ref sig .tc := ⟨.hbm, 8, rfl⟩
abbrev main_v0_7 : Ref sig .tc := ⟨.hbm, 9, rfl⟩
abbrev main_v0_8 : Ref sig .tc := ⟨.hbm, 10, rfl⟩
abbrev main_v0_9 : Ref sig .tc := ⟨.hbm, 11, rfl⟩
abbrev main_v0_10 : Ref sig .tc := ⟨.hbm, 12, rfl⟩
abbrev main_v0_11 : Ref sig .tc := ⟨.hbm, 13, rfl⟩
abbrev main_v0_12 : Ref sig .tc := ⟨.hbm, 14, rfl⟩
abbrev main_v0_13 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x3072x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S248x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== SumSmallReferenceIdeal.lean ====
abbrev S8x3072x128 : Shape := ⟨3, ![8, 3072, 128]⟩
abbrev S256x2048 : Shape := ⟨2, ![256, 2048]⟩
abbrev S_ : Shape := ⟨0, ![]⟩
abbrev S3072x128 : Shape := ⟨2, ![3072, 128]⟩
abbrev S2048x128 : Shape := ⟨2, ![2048, 128]⟩
abbrev S8x128 : Shape := ⟨2, ![8, 128]⟩
abbrev S16x128 : Shape := ⟨2, ![16, 128]⟩
abbrev S512x128 : Shape := ⟨2, ![512, 128]⟩
abbrev S248x128 : Shape := ⟨2, ![248, 128]⟩
abbrev S4x128 : Shape := ⟨2, ![4, 128]⟩

abbrev nBuf : Space → Nat
  | .hbm => 18
  | .vmem => 0
  | .smem => 0
  | _ => 0

abbrev bufTy : (tb : Table) → Fin (tcTables nBuf tb) → BufTy
  | .hbm, ⟨0, _⟩ => ⟨S8x3072x128, .f32⟩
  | .hbm, ⟨1, _⟩ => ⟨S256x2048, .f32⟩
  | .hbm, ⟨2, _⟩ => ⟨S_, .f32⟩
  | .hbm, ⟨3, _⟩ => ⟨S3072x128, .f32⟩
  | .hbm, ⟨4, _⟩ => ⟨S2048x128, .f32⟩
  | .hbm, ⟨5, _⟩ => ⟨S8x128, .f32⟩
  | .hbm, ⟨6, _⟩ => ⟨S16x128, .f32⟩
  | .hbm, ⟨7, _⟩ => ⟨S16x128, .f32⟩
  | .hbm, ⟨8, _⟩ => ⟨S8x128, .f32⟩
  | .hbm, ⟨9, _⟩ => ⟨S8x128, .f32⟩
  | .hbm, ⟨10, _⟩ => ⟨S512x128, .f32⟩
  | .hbm, ⟨11, _⟩ => ⟨S248x128, .f32⟩
  | .hbm, ⟨12, _⟩ => ⟨S8x128, .f32⟩
  | .hbm, ⟨13, _⟩ => ⟨S8x128, .f32⟩
  | .hbm, ⟨14, _⟩ => ⟨S8x128, .f32⟩
  | .hbm, ⟨15, _⟩ => ⟨S16x128, .f32⟩
  | .hbm, ⟨16, _⟩ => ⟨S8x128, .f32⟩
  | .hbm, ⟨17, _⟩ => ⟨S4x128, .f32⟩
  | _, _ => ⟨S8x3072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== JoinColumns.lean ====
abbrev S2048x1024 : Shape := ⟨2, ![2048, 1024]⟩
abbrev S2048x3072 : Shape := ⟨2, ![2048, 3072]⟩
abbrev S2048x12288 : Shape := ⟨2, ![2048, 12288]⟩
abbrev S256x1024 : Shape := ⟨2, ![256, 1024]⟩
abbrev S256x3072 : Shape := ⟨2, ![256, 3072]⟩
abbrev S256x12288 : Shape := ⟨2, ![256, 12288]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x3072, .bf16⟩
  | .hbm, ⟨3, _⟩ => ⟨S2048x3072, .bf16⟩
  | .hbm, ⟨4, _⟩ => ⟨S2048x3072, .bf16⟩
  | .hbm, ⟨5, _⟩ => ⟨S2048x1024, .bf16⟩
  | .hbm, ⟨6, _⟩ => ⟨S2048x12288, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x3072, .bf16⟩
  | .local _ .vmem, ⟨5, _⟩ => ⟨S256x3072, .bf16⟩
  | .local _ .vmem, ⟨6, _⟩ => ⟨S256x3072, .bf16⟩
  | .local _ .vmem, ⟨7, _⟩ => ⟨S256x3072, .bf16⟩
  | .local _ .vmem, ⟨8, _⟩ => ⟨S256x3072, .bf16⟩
  | .local _ .vmem, ⟨9, _⟩ => ⟨S256x3072, .bf16⟩
  | .local _ .vmem, ⟨10, _⟩ => ⟨S256x1024, .bf16⟩
  | .local _ .vmem, ⟨11, _⟩ => ⟨S256x1024, .bf16⟩
  | .local _ .vmem, ⟨12, _⟩ => ⟨S256x12288, .bf16⟩
  | .local _ .vmem, ⟨13, _⟩ => ⟨S256x12288, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x12288 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== JoinColumnsReferenceIdeal.lean ====
abbrev S2048x1024 : Shape := ⟨2, ![2048, 1024]⟩
abbrev S2048x3072 : Shape := ⟨2, ![2048, 3072]⟩
abbrev S2048x12288 : Shape := ⟨2, ![2048, 12288]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x3072, .bf16⟩
  | .hbm, ⟨3, _⟩ => ⟨S2048x3072, .bf16⟩
  | .hbm, ⟨4, _⟩ => ⟨S2048x3072, .bf16⟩
  | .hbm, ⟨5, _⟩ => ⟨S2048x1024, .bf16⟩
  | .hbm, ⟨6, _⟩ => ⟨S2048x12288, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩

abbrev nD : Nat := 1
abbrev τ : Topo := Topo.v7x

variable {F : FTy → Type} [FloatOps F]
-- ==== SumFirstGain.lean ====
abbrev S8x16x128 : Shape := ⟨3, ![8, 16, 128]⟩
abbrev S2048x1536 : Shape := ⟨2, ![2048, 1536]⟩
abbrev S16x128 : Shape := ⟨2, ![16, 128]⟩
abbrev S1x16x128 : Shape := ⟨3, ![1, 16, 128]⟩

abbrev nBuf : Space → Nat
  | .hbm => 3
  | .vmem => 2
  | .smem => 0
  | _ => 0

abbrev bufTy : (tb : Table) → Fin (tcTables nBuf tb) → BufTy
  | .hbm, ⟨0, _⟩ => ⟨S8x16x128, .f32⟩
  | .hbm, ⟨1, _⟩ => ⟨S2048x1536, .f32⟩
  | .hbm, ⟨2, _⟩ => ⟨S16x128, .f32⟩
  | .local _ .vmem, ⟨0, _⟩ => ⟨S8x16x128, .f32⟩
  | .local _ .vmem, ⟨1, _⟩ => ⟨S16x128, .f32⟩
  | _, _ => ⟨S8x16x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumFirstGainReferenceIdeal.lean ====
abbrev S8x16x128 : Shape := ⟨3, ![8, 16, 128]⟩
abbrev S2048x1536 : Shape := ⟨2, ![2048, 1536]⟩
abbrev S_ : Shape := ⟨0, ![]⟩
abbrev S16x128 : Shape := ⟨2, ![16, 128]⟩

abbrev nBuf : Space → Nat
  | .hbm => 4
  | .vmem => 0
  | .smem => 0
  | _ => 0

abbrev bufTy : (tb : Table) → Fin (tcTables nBuf tb) → BufTy
  | .hbm, ⟨0, _⟩ => ⟨S8x16x128, .f32⟩
  | .hbm, ⟨1, _⟩ => ⟨S2048x1536, .f32⟩
  | .hbm, ⟨2, _⟩ => ⟨S_, .f32⟩
  | .hbm, ⟨3, _⟩ => ⟨S16x128, .f32⟩
  | _, _ => ⟨S8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== CastOut.lean ====
abbrev S256x2048 : Shape := ⟨2, ![256, 2048]⟩

abbrev nBuf : Space → Nat
  | .hbm => 2
  | .vmem => 2
  | .smem => 0
  | _ => 0

abbrev bufTy : (tb : Table) → Fin (tcTables nBuf tb) → BufTy
  | .hbm, ⟨0, _⟩ => ⟨S256x2048, .f32⟩
  | .hbm, ⟨1, _⟩ => ⟨S256x2048, .bf16⟩
  | .local _ .vmem, ⟨0, _⟩ => ⟨S256x2048, .f32⟩
  | .local _ .vmem, ⟨1, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== CastOutReferenceIdeal.lean ====
abbrev S256x2048 : Shape := ⟨2, ![256, 2048]⟩

abbrev nBuf : Space → Nat
  | .hbm => 2
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Window.lean ====
/- Sums over windows of a real sequence.

   `past w f t` is the sum of the last `w` entries of `f` up to `t` (entries before the start count as zero), `ahead w f t` the sum of
   the `w` entries from `t` on (entries from `2048` on count as zero). Both are doubled by adding a shifted copy, which is how the
   kernel computes them, and both are a difference of two running sums, which is how the reference does. -/
module

public import Mathlib.Data.Real.Basic
public import Mathlib.Algebra.BigOperators.Intervals
public import Mathlib.Tactic.Ring
public import Mathlib.Analysis.SpecialFunctions.Exp
public import Mathlib.Tactic.Linarith

@[expose] public section

noncomputable section

namespace Cert.Proof

open Finset

/-- The sum of the `w` entries of `f` that end at `t`. -/
def past (w : ℕ) (f : ℕ → ℝ) (t : ℕ) : ℝ := ∑ j ∈ range w, if j ≤ t then f (t - j) else 0

/-- The sum of the `w` entries of `f` that begin at `t`, those below `2048` only. -/
def ahead (w : ℕ) (f : ℕ → ℝ) (t : ℕ) : ℝ := ∑ j ∈ range w, if t + j < 2048 then f (t + j) else 0

theorem past_one (f : ℕ → ℝ) (t : ℕ) : past 1 f t = f t := by simp [past]

theorem ahead_one (f : ℕ → ℝ) (t : ℕ) (h : t < 2048) : ahead 1 f t = f t := by simp [ahead, h]

/-- A window of twice the width is the window and the one `k` entries before it. -/
theorem past_double (k : ℕ) (f : ℕ → ℝ) (t : ℕ) :
    past k f t + (if k ≤ t then past k f (t - k) else 0) = past (k + k) f t := by
  unfold past
  rw [sum_range_add]
  congr 1
  split
  · next h =>
    refine sum_congr rfl fun j _ => ?_
    by_cases hj : j ≤ t - k
    · rw [if_pos hj, if_pos (by omega), Nat.sub_sub]
    · rw [if_neg hj, if_neg (by omega)]
  · next h =>
    exact (sum_eq_zero fun j _ => if_neg (by omega)).symm

theorem ahead_double (k : ℕ) (f : ℕ → ℝ) (t : ℕ) :
    ahead k f t + (if t + k < 2048 then ahead k f (t + k) else 0) = ahead (k + k) f t := by
  unfold ahead
  rw [sum_range_add]
  congr 1
  split
  · next h =>
    refine sum_congr rfl fun j _ => ?_
    rw [Nat.add_assoc]
  · next h =>
    exact (sum_eq_zero fun j _ => if_neg (by omega)).symm

/-- A window's sum is a difference of two running sums. -/
theorem past_eq_sub (w : ℕ) (f : ℕ → ℝ) (t : ℕ) :
    past w f t = ∑ i ∈ range (t + 1), f i - ∑ i ∈ range (t + 1 - w), f i := by
  induction w with
  | zero => simp [past]
  | succ w ih =>
    have e : past (w + 1) f t = past w f t + if w ≤ t then f (t - w) else 0 := sum_range_succ _ _
    rw [e, ih]
    by_cases h : w ≤ t
    · have e1 : t + 1 - w = (t - w) + 1 := by omega
      rw [if_pos h, e1, sum_range_succ (fun i => f i) (t - w), show t + 1 - (w + 1) = t - w by omega]
      linarith
    · rw [if_neg h, show t + 1 - w = 0 by omega, show t + 1 - (w + 1) = 0 by omega]
      linarith

/-- The same for the window that looks ahead: the sum of what is left from `t` on, less what is left from `t + w` on. -/
theorem ahead_eq_sub (w : ℕ) (f : ℕ → ℝ) (t : ℕ) :
    ahead w f t = ∑ i ∈ range (2048 - t), f (t + i) - ∑ i ∈ range (2048 - (t + w)), f (t + w + i) := by
  induction w with
  | zero => simp [ahead]
  | succ w ih =>
    have e : ahead (w + 1) f t = ahead w f t + if t + w < 2048 then f (t + w) else 0 := sum_range_succ _ _
    rw [e, ih]
    by_cases h : t + w < 2048
    · have e1 : 2048 - (t + w) = (2048 - (t + (w + 1))) + 1 := by omega
      have e2 : ∑ i ∈ range (2048 - (t + (w + 1))), f (t + w + (i + 1)) = ∑ i ∈ range (2048 - (t + (w + 1))), f (t + (w + 1) + i) :=
        sum_congr rfl fun i _ => by rw [show t + w + (i + 1) = t + (w + 1) + i by omega]
      rw [if_pos h, e1, sum_range_succ' (fun i => f (t + w + i)), e2, Nat.add_zero (t + w)]
      linarith
    · rw [if_neg h, show 2048 - (t + w) = 0 by omega, show 2048 - (t + (w + 1)) = 0 by omega]
      simp

end Cert.Proof

end
-- ==== Proof.Reals.lean ====
/- Arrays whose every element is a real number, and what the printed operations make of them.

   `Real2 x f`: the matrix `x` of extended reals holds the real `f r c` at row `r`, column `c`; `Real3` the same for three axes.
   Each lemma says that an operation takes such arrays to such an array, and which real function the result holds. -/
module

public import proofs.«01_k».proof.Proof.Window
public import Idealize.ShloMosaic.Lib.ValueIdx
public import Idealize.ShloMosaic.Lib.Pointwise
public import Idealize.ShloMosaic.Lib.WordCmp
public import Idealize.ShloMosaic.Lib.IdealHost
public import Idealize.ShloMosaic.PureOps.Ideal.Laws

@[expose] public section

noncomputable section

namespace Cert.Proof

open Idealize.ShloMosaic Idealize.ShloMosaic.ValueIdx Finset

/-- A sum of reals is the same sum of extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [sum_insert ha, sum_insert ha, EReal.coe_add, ih]

/-- A sum over `Fin n` of reals that depend on the number alone. -/
theorem sum_fin_coe (n : ℕ) (f : ℕ → ℝ) (g : Fin n → EReal) (h : ∀ k, g k = ((f k.val : ℝ) : EReal)) :
    ∑ k, g k = ((∑ k ∈ range n, f k : ℝ) : EReal) := by
  rw [← Fin.sum_univ_eq_sum_range f n, coe_sum]
  exact sum_congr rfl fun k _ => h k

/-- The matrix `x` holds the real `f r c` at `(r, c)`. -/
def Real2 {n0 n1 : ℕ} (x : (⟨2, ![n0, n1]⟩ : Shape).Idx → EReal) (f : ℕ → ℕ → ℝ) : Prop :=
  ∀ i, x i = ((f (i 0).val (i 1).val : ℝ) : EReal)

/-- The array `x` of three axes holds the real `f a b c` at `(a, b, c)`. -/
def Real3 {n0 n1 n2 : ℕ} (x : (⟨3, ![n0, n1, n2]⟩ : Shape).Idx → EReal) (f : ℕ → ℕ → ℕ → ℝ) : Prop :=
  ∀ i, x i = ((f (i 0).val (i 1).val (i 2).val : ℝ) : EReal)

/-- The row `x` holds the real `f k` at `k`. -/
def Real1 {n : ℕ} (x : (⟨1, ![n]⟩ : Shape).Idx → EReal) (f : ℕ → ℝ) : Prop := ∀ i, x i = ((f (i 0).val : ℝ) : EReal)

/-- Only the reals at the matrix's own rows and columns matter. -/
theorem Real2.congr {n0 n1 : ℕ} {x : (⟨2, ![n0, n1]⟩ : Shape).Idx → EReal} {f g : ℕ → ℕ → ℝ} (hx : Real2 x f)
    (h : ∀ r c, r < n0 → c < n1 → f r c = g r c) : Real2 x g := fun i => by
  rw [hx i, h _ _ (idx2_lt0 i) (idx2_lt1 i)]

section Two

variable {n0 n1 : ℕ} {φ : FTy} {x y : FVec Ideal ⟨2, ![n0, n1]⟩ φ} {f g : ℕ → ℕ → ℝ}

theorem Real2.addf (hx : Real2 x f) (hy : Real2 y g) : Real2 (addf x y) (fun r c => f r c + g r c) := fun i => by
  rw [addf_apply, hx i, hy i, EReal.coe_add]

theorem Real2.subf (hx : Real2 x f) (hy : Real2 y g) : Real2 (subf x y) (fun r c => f r c - g r c) := fun i => by
  rw [subf_apply, hx i, hy i, EReal.coe_sub]

theorem Real2.mulf (hx : Real2 x f) (hy : Real2 y g) : Real2 (mulf x y) (fun r c => f r c * g r c) := fun i => by
  rw [mulf_apply, hx i, hy i, EReal.coe_mul]

theorem Real2.divf (hx : Real2 x f) (hy : Real2 y g) (h : ∀ r c, r < n0 → c < n1 → g r c ≠ 0) :
    Real2 (divf x y) (fun r c => f r c / g r c) := fun i => by
  rw [divf_apply, hx i, hy i, Ideal.div_coe (h _ _ (idx2_lt0 i) (idx2_lt1 i)), ← EReal.coe_mul, mul_one_div]

theorem Real2.exp (hx : Real2 x f) : Real2 (exp x) (fun r c => Real.exp (f r c)) := fun i => by
  show Ideal.exp (x i) = _
  rw [hx i, Ideal.exp_coe]

theorem Real2.truncf {ψ : FTy} (hx : Real2 x f) (h : ψ.bits < φ.bits) : Real2 (truncf ψ x h) f := hx

theorem real2_zero : Real2 (broadcast ⟨2, ![n0, n1]⟩ (Scalar.ofBits (F := Ideal) .f32 0x00000000#32)) (fun _ _ => 0) := fun i => by
  show Ideal.ofBits .f32 0x00000000#32 = _
  rw [Ideal.ofBits_zero_f32, EReal.coe_zero]

theorem real2_one : Real2 (broadcast ⟨2, ![n0, n1]⟩ (Scalar.ofBits (F := Ideal) .f32 0x3F800000#32)) (fun _ _ => 1) := fun i => by
  show Ideal.ofBits .f32 0x3F800000#32 = _
  rw [Ideal.ofBits_one_f32, EReal.coe_one]

/-- A choice between two matrices by one scalar comparison of words. -/
theorem Real2.pick (a b : ℕ) (ha : a < 2 ^ 31) (hb : b < 2 ^ 31) (hx : Real2 x f) (hy : Real2 y g) :
    Real2 (Scalar.select (Scalar.cmpi .sgt (BitVec.ofNat 32 a) (BitVec.ofNat 32 b)) x y) (if b < a then f else g) := by
  have e : Scalar.cmpi .sgt (BitVec.ofNat 32 a) (BitVec.ofNat 32 b) = BitVec.ofBool (decide (b < a)) :=
    WordCmp.cmpi_sgt_ofNat (w := 32) ha hb
  rw [e]
  by_cases h : b < a
  · rw [if_pos h, decide_eq_true h]; exact hx
  · rw [if_neg h, decide_eq_false h]; exact hy

end Two

section Shift

variable {n1 : ℕ} {x : FVec Ideal ⟨2, ![2048, n1]⟩ .f32} {f : ℕ → ℕ → ℝ}

/-- The rows moved down by `k`, zeros above: a rotation whose wrapped rows are masked off. -/
theorem Real2.down (k : ℕ) (hk : k < 2048) (hx : Real2 x f) (hi : (⟨2, ![2048, n1]⟩ : Shape).Iotas .tc 32 [0])
    (hr : (⟨2, ![2048, n1]⟩ : Shape).Rotates 0 none) :
    Real2 (select (cmpi .sge (iota .tc ⟨2, ![2048, n1]⟩ 32 [0] hi) (broadcast _ (BitVec.ofNat 32 k)))
        (dynamicRotate 0 (BitVec.ofNat 32 k) none x hr) (broadcast _ (Scalar.ofBits (F := Ideal) .f32 0x00000000#32)))
      (fun t c => if k ≤ t then f (t - k) c else 0) := fun i => by
  have ht := idx2_lt0 i
  have e : cmpi .sge (iota .tc ⟨2, ![2048, n1]⟩ 32 [0] hi) (broadcast _ (BitVec.ofNat 32 k)) i = BitVec.ofBool (decide (k ≤ (i 0).val)) := by
    show IntOp.cmpi .sge (BitVec.ofNat 32 (0 * 2048 + (i 0).val)) (BitVec.ofNat 32 k) = _
    rw [Nat.zero_mul, Nat.zero_add]
    exact WordCmp.cmpi_sge_ofNat (w := 32) (by omega) (by omega)
  rw [select_apply, e]
  beta_reduce
  by_cases h : k ≤ (i 0).val
  · rw [decide_eq_true h, if_pos h]
    show dynamicRotate 0 (BitVec.ofNat 32 k) none x hr i = _
    rw [Pointwise.dynamicRotate_apply, hx]
    have e0 : ((i 0).val + 2048 - k % 2048) % 2048 = (i 0).val - k := by omega
    have e1 : ((i 0).val + 2048 - (BitVec.ofNat 32 k).toNat % 2048) % 2048 = (i 0).val - k := by
      rw [BitVec.toNat_ofNat, Nat.mod_eq_of_lt (show k < 2 ^ 32 by omega), e0]
    exact congrArg (fun n => ((f n (i 1).val : ℝ) : EReal)) e1
  · rw [decide_eq_false h, if_neg h]
    exact real2_zero i

/-- The rows moved up by `k`, zeros below. -/
theorem Real2.up (k : ℕ) (hk : 0 < k) (hk' : k < 2048) (hx : Real2 x f) (hi : (⟨2, ![2048, n1]⟩ : Shape).Iotas .tc 32 [0])
    (hr : (⟨2, ![2048, n1]⟩ : Shape).Rotates 0 none) :
    Real2 (select (cmpi .slt (iota .tc ⟨2, ![2048, n1]⟩ 32 [0] hi) (broadcast _ (BitVec.ofNat 32 (2048 - k))))
        (dynamicRotate 0 (BitVec.ofNat 32 (2048 - k)) none x hr) (broadcast _ (Scalar.ofBits (F := Ideal) .f32 0x00000000#32)))
      (fun t c => if t + k < 2048 then f (t + k) c else 0) := fun i => by
  have ht := idx2_lt0 i
  have e : cmpi .slt (iota .tc ⟨2, ![2048, n1]⟩ 32 [0] hi) (broadcast _ (BitVec.ofNat 32 (2048 - k))) i = BitVec.ofBool (decide ((i 0).val < 2048 - k)) := by
    show IntOp.cmpi .slt (BitVec.ofNat 32 (0 * 2048 + (i 0).val)) (BitVec.ofNat 32 (2048 - k)) = _
    rw [Nat.zero_mul, Nat.zero_add]
    exact WordCmp.cmpi_slt_ofNat (w := 32) (by omega) (by omega)
  rw [select_apply, e]
  beta_reduce
  by_cases h : (i 0).val + k < 2048
  · rw [decide_eq_true (show (i 0).val < 2048 - k by omega), if_pos h]
    show dynamicRotate 0 (BitVec.ofNat 32 (2048 - k)) none x hr i = _
    rw [Pointwise.dynamicRotate_apply, hx]
    have e1 : ((i 0).val + 2048 - (BitVec.ofNat 32 (2048 - k)).toNat % 2048) % 2048 = (i 0).val + k := by
      rw [BitVec.toNat_ofNat, Nat.mod_eq_of_lt (show 2048 - k < 2 ^ 32 by omega)]
      omega
    exact congrArg (fun n => ((f n (i 1).val : ℝ) : EReal)) e1
  · rw [decide_eq_false (show ¬(i 0).val < 2048 - k by omega), if_neg h]
    exact real2_zero i

/-- One doubling of the window that looks back, taken where the window wanted is wider than `k`. -/
theorem Real2.growPast {a : ℕ → ℕ → ℝ} (k W : ℕ) {q : BitVec 32} (hq : q = BitVec.ofNat 32 W) (hk : k < 2048) (hW : W < 2 ^ 31) (hkW : k < W → k + k ≤ W)
    (hx : Real2 x (fun t c => past (min k W) (fun t => a t c) t)) (hi : (⟨2, ![2048, n1]⟩ : Shape).Iotas .tc 32 [0])
    (hr : (⟨2, ![2048, n1]⟩ : Shape).Rotates 0 none) :
    Real2 (Scalar.select (Scalar.cmpi .sgt q (BitVec.ofNat 32 k))
        (Idealize.ShloMosaic.addf x (select (cmpi .sge (iota .tc ⟨2, ![2048, n1]⟩ 32 [0] hi) (broadcast _ (BitVec.ofNat 32 k)))
          (dynamicRotate 0 (BitVec.ofNat 32 k) none x hr) (broadcast _ (Scalar.ofBits (F := Ideal) .f32 0x00000000#32)))) x)
      (fun t c => past (min (k + k) W) (fun t => a t c) t) := by
  subst hq
  refine Real2.congr (Real2.pick W k hW (by omega) (hx.addf (hx.down k hk hi hr)) hx) fun r c _ _ => ?_
  by_cases h : k < W
  · rw [if_pos h, min_eq_left (hkW h), min_eq_left h.le]
    exact past_double k (fun t => a t c) r
  · rw [if_neg h, min_eq_right (by omega), min_eq_right (by omega)]

/-- One doubling of the window that looks ahead. -/
theorem Real2.growAhead {a : ℕ → ℕ → ℝ} (k W : ℕ) (hk : 0 < k) (hk' : k < 2048) {q : BitVec 32} (hq : q = BitVec.ofNat 32 W) (hW : W < 2 ^ 31) (hkW : k < W → k + k ≤ W)
    (hx : Real2 x (fun t c => ahead (min k W) (fun t => a t c) t)) (hi : (⟨2, ![2048, n1]⟩ : Shape).Iotas .tc 32 [0])
    (hr : (⟨2, ![2048, n1]⟩ : Shape).Rotates 0 none) :
    Real2 (Scalar.select (Scalar.cmpi .sgt q (BitVec.ofNat 32 k))
        (Idealize.ShloMosaic.addf x (select (cmpi .slt (iota .tc ⟨2, ![2048, n1]⟩ 32 [0] hi) (broadcast _ (BitVec.ofNat 32 (2048 - k))))
          (dynamicRotate 0 (BitVec.ofNat 32 (2048 - k)) none x hr) (broadcast _ (Scalar.ofBits (F := Ideal) .f32 0x00000000#32)))) x)
      (fun t c => ahead (min (k + k) W) (fun t => a t c) t) := by
  subst hq
  refine Real2.congr (Real2.pick W k hW (by omega) (hx.addf (hx.up k hk hk' hi hr)) hx) fun r c _ _ => ?_
  by_cases h : k < W
  · rw [if_pos h, min_eq_left (hkW h), min_eq_left h.le]
    exact ahead_double k (fun t => a t c) r
  · rw [if_neg h, min_eq_right (by omega), min_eq_right (by omega)]

/-- The number of entries a window of width `w` holds at row `t`, as a real. -/
def cnt (w t : ℕ) : ℝ := ((min (t + 1) w : ℕ) : ℝ)

theorem cnt_ne (w t : ℕ) (hw : 0 < w) : cnt w t ≠ 0 := by
  unfold cnt
  exact_mod_cast (by omega : min (t + 1) w ≠ 0)

/-- A signed minimum of two small numbers as words, read back as an integer. -/
theorem minsi_ofNat (a b : ℕ) (ha : a < 2 ^ 31) (hb : b < 2 ^ 31) :
    (IntOp.minsi (BitVec.ofNat 32 a) (BitVec.ofNat 32 b)).toInt = ((min a b : ℕ) : ℤ) := by
  have ta : (BitVec.ofNat 32 a).toInt = a := by
    rw [BitVec.toInt_eq_toNat_of_lt (by rw [BitVec.toNat_ofNat]; omega), BitVec.toNat_ofNat]; omega
  have tb : (BitVec.ofNat 32 b).toInt = b := by
    rw [BitVec.toInt_eq_toNat_of_lt (by rw [BitVec.toNat_ofNat]; omega), BitVec.toNat_ofNat]; omega
  unfold IntOp.minsi
  rw [BitVec.slt, ta, tb]
  by_cases h : (a : ℤ) < b
  · rw [decide_eq_true h, if_pos rfl, ta, min_eq_left (by omega)]
  · rw [decide_eq_false h, if_neg (by decide), tb, min_eq_right (by omega)]

/-- The kernel's own count of the entries. -/
theorem real2_cnt (w : ℕ) {q : BitVec 32} (hq : q = BitVec.ofNat 32 w) (hw : w < 2 ^ 31) (hi : (⟨2, ![2048, n1]⟩ : Shape).Iotas .tc 32 [0]) :
    Real2 (sitofp (F := Ideal) .f32 (minsi (addi (iota .tc ⟨2, ![2048, n1]⟩ 32 [0] hi) (broadcast _ 1#32)) (broadcast _ q)))
      (fun t _ => cnt w t) := fun i => by
  subst hq
  have ht := idx2_lt0 i
  show (((IntOp.minsi (BitVec.ofNat 32 (0 * 2048 + (i 0).val) + 1#32) (BitVec.ofNat 32 w)).toInt : ℝ) : EReal) = _
  rw [Nat.zero_mul, Nat.zero_add, show (1#32 : BitVec 32) = BitVec.ofNat 32 1 from rfl, ← BitVec.ofNat_add, minsi_ofNat _ _ (by omega) hw]
  rfl

end Shift

end Cert.Proof

end
-- ==== Proof.Pooling.lean ====
/- The gradient of the gated causal pooling mixer for one group of 256 channels, over the reals.

   `a` is the group's input, `x` its gate before SiLU, `y` the gradient of the group's output, `w` the group's square weight, `s` its
   scale, `W` its window. The mixer pools each channel over the last `W` steps, takes the input away, multiplies by `w`, scales and
   gates; the definitions below are the gradients of those steps, written out. -/
module

public import proofs.«01_k».proof.Proof.Reals

@[expose] public section

noncomputable section

namespace Cert.Proof

open Finset

/-- The logistic function. -/
def sg (x : ℝ) : ℝ := 1 / (1 + Real.exp (-x))

/-- The derivative of SiLU. -/
def dsilu (x : ℝ) : ℝ := sg x * (1 + x * (1 - sg x))

variable (W : ℕ) (a x y w : ℕ → ℕ → ℝ) (s : ℕ → ℝ)

/-- The window's mean less the input. -/
def pooled (t c : ℕ) : ℝ := past W (fun t => a t c) t / cnt W t - a t c

/-- The pooled channels mixed by the weight. -/
def mixed (t k : ℕ) : ℝ := ∑ c ∈ range 256, pooled W a t c * w c k

/-- The output's gradient through the gate. -/
def dgated (t k : ℕ) : ℝ := y t k * (x t k * sg (x t k))

/-- The gate's gradient. -/
def dgate (t k : ℕ) : ℝ := y t k * (mixed W a w t k * s k) * dsilu (x t k)

/-- The scale's gradient. -/
def dscale (k : ℕ) : ℝ := ∑ t ∈ range 2048, dgated x y t k * mixed W a w t k

/-- The gradient of the mixed channels. -/
def dmixed (t k : ℕ) : ℝ := dgated x y t k * s k

/-- The weight's gradient. -/
def dweight (c k : ℕ) : ℝ := ∑ t ∈ range 2048, pooled W a t c * dmixed x y s t k

/-- The gradient of the pooled channels. -/
def dpooled (t c : ℕ) : ℝ := ∑ k ∈ range 256, dmixed x y s t k * w c k

/-- The input's gradient. -/
def dinput (t c : ℕ) : ℝ := ahead W (fun t => dpooled x y w s t c / cnt W t) t - dpooled x y w s t c

section Whole

/- The whole arrays: `z` holds the inputs in columns 0 to 1023 and the gates in columns 1024 to 2047, `wt` one weight per group, `sc`
   the scales, `yt` the outputs' gradients in columns 0 to 1023. Group `g` has columns `256 g` to `256 g + 255` of each. -/
/-- Group `g`'s window. -/
def window (g : ℕ) : ℕ := 2 * 2 ^ g

variable (z : ℕ → ℕ → ℝ) (wt : ℕ → ℕ → ℕ → ℝ) (sc : ℕ → ℝ) (yt : ℕ → ℕ → ℝ) (g : ℕ)

/-- Block `g` of 256 columns of a matrix. -/
def cols (z : ℕ → ℕ → ℝ) (g : ℕ) (t c : ℕ) : ℝ := z t (g * 256 + c)

/-- Group `g`'s part of a row. -/
def part (sc : ℕ → ℝ) (g : ℕ) (k : ℕ) : ℝ := sc (g * 256 + k)

/-- Group `g`'s gradient of the input. -/
def groupInput : ℕ → ℕ → ℝ := dinput (window g) (cols z (4 + g)) (cols yt g) (wt g) (part sc g)

/-- Group `g`'s gradient of the gate. -/
def groupGate : ℕ → ℕ → ℝ := dgate (window g) (cols z g) (cols z (4 + g)) (cols yt g) (wt g) (part sc g)

/-- Group `g`'s gradient of the weight. -/
def groupWeight : ℕ → ℕ → ℝ := dweight (window g) (cols z g) (cols z (4 + g)) (cols yt g) (part sc g)

/-- Group `g`'s gradient of the scale. -/
def groupScale : ℕ → ℝ := dscale (window g) (cols z g) (cols z (4 + g)) (cols yt g) (wt g)

end Whole

theorem one_add_exp_ne (x : ℝ) : 1 + Real.exp (-x) ≠ 0 := (add_pos one_pos (Real.exp_pos _)).ne'

end Cert.Proof

end
-- ==== Proof.Block.lean ====
/- What one grid point of the kernel computes: the gradients of one group, at the group's window. -/
module

public import proofs.«01_k».proof.Proof.Pooling
public import proofs.«01_k».proof.Proof.Gen.KernelIdeal.Value

@[expose] public section

noncomputable section

namespace Cert.Proof.Block

open Cert.KernelIdeal Cert.KernelIdeal.Gen Idealize.ShloMosaic Idealize.ShloMosaic.ValueIdx Finset Cert.Proof

/-- The window of the group at grid point `i`. -/
def width (i : grid0.Coords) : ℕ := 2 * 2 ^ (i 0).val

theorem width_cases (i : grid0.Coords) : width i = 2 ∨ width i = 4 ∨ width i = 8 ∨ width i = 16 := by
  have h : (i 0).val < 4 := (i 0).isLt
  unfold width
  have : (i 0).val = 0 ∨ (i 0).val = 1 ∨ (i 0).val = 2 ∨ (i 0).val = 3 := by omega
  rcases this with h | h | h | h <;> rw [h] <;> simp

theorem width_word (i : grid0.Coords) : Scalar.shli 2#32 (BitVec.ofNat 32 (i 0).val) = BitVec.ofNat 32 (width i) := by
  have h : (i 0).val < 4 := (i 0).isLt
  unfold width
  have : (i 0).val = 0 ∨ (i 0).val = 1 ∨ (i 0).val = 2 ∨ (i 0).val = 3 := by omega
  rcases this with h | h | h | h <;> rw [h] <;> rfl

section Products

variable {φ ψ : FTy} {f g : ℕ → ℕ → ℝ}

/-- The product of a [2048, 256] and a [256, 256] matrix. -/
theorem product (x : FVec Ideal S2048x256 φ) (y : FVec Ideal S256x256 ψ) (hx : Real2 x f) (hy : Real2 y g) :
    Real2 (matmul dot_S2048x256_S256x256_S2048x256_1_0_0_1_n_n none x y (constant (F := Ideal) S2048x256 .f32 0x00000000#32))
      (fun r c => ∑ k ∈ range 256, f r k * g k c) := fun i => by
  pointwise
  exact sum_fin_coe 256 _ _ fun k => (congrArg₂ (· * ·) (hx _) (hy _)).trans (EReal.coe_mul _ _).symm

/-- The product of a [2048, 256] matrix and the transpose of a [256, 256] one. -/
theorem product_transposed (x : FVec Ideal S2048x256 φ) (y : FVec Ideal S256x256 ψ) (hx : Real2 x f) (hy : Real2 y g) :
    Real2 (matmul dot_S2048x256_S256x256_S2048x256_1_1_0_0_n_n none x y (constant (F := Ideal) S2048x256 .f32 0x00000000#32))
      (fun r c => ∑ k ∈ range 256, f r k * g c k) := fun i => by
  pointwise
  exact sum_fin_coe 256 _ _ fun k => (congrArg₂ (· * ·) (hx _) (hy _)).trans (EReal.coe_mul _ _).symm

/-- The product of the transpose of a [2048, 256] matrix and another. -/
theorem transposed_product (x : FVec Ideal S2048x256 φ) (y : FVec Ideal S2048x256 ψ) (hx : Real2 x f) (hy : Real2 y g) :
    Real2 (matmul dot_S2048x256_S2048x256_S256x256_0_0_1_1_n_n none x y (constant (F := Ideal) S256x256 .f32 0x00000000#32))
      (fun r c => ∑ k ∈ range 2048, f k r * g k c) := fun i => by
  pointwise
  exact sum_fin_coe 2048 _ _ fun k => (congrArg₂ (· * ·) (hx _) (hy _)).trans (EReal.coe_mul _ _).symm

end Products

variable {i : grid0.Coords} {a x y w : ℕ → ℕ → ℝ} {s : ℕ → ℝ}
  {va : Vec Ideal S2048x256 .f32} {vx : Vec Ideal S2048x256 .f32} {vy : Vec Ideal S2048x256 .f32} {vw : Vec Ideal S1x256x256 .bf16}
  {vs : Vec Ideal S1x256 .f32}

theorem cnt_real : Real2 (k0_pay2 (F := Ideal) i) (fun t _ => cnt (width i) t) := by
  unfold k0_pay2
  exact real2_cnt _ (width_word i) (by rcases width_cases i with h | h | h | h <;> rw [h] <;> norm_num) _

theorem sum8 (ha : Real2 va a) : Real2 (k0_pay3 (F := Ideal) i va) (fun t c => past (min 8 (width i)) (fun t => a t c) t) := by
  unfold k0_pay3
  have hw := width_cases i
  have h1 : Real2 va (fun t c => past (min 1 (width i)) (fun t => a t c) t) := ha.congr fun r c _ _ => by
    rw [min_eq_left (by omega), past_one]
  exact ((h1.growPast 1 (width i) (width_word i) (by norm_num) (by omega) (by omega) _ _).growPast 2 (width i) (width_word i) (by norm_num) (by omega) (by omega) _ _).growPast
    4 (width i) (width_word i) (by norm_num) (by omega) (by omega) _ _

/-- The sum over the whole window. -/
theorem sum16 (ha : Real2 va a) :
    Real2 (Scalar.select (Scalar.cmpi .sgt (Scalar.shli 2#32 (BitVec.ofNat 32 (i 0).val)) 8#32) (k0_pay4 (F := Ideal) i va) (k0_pay3 (F := Ideal) i va))
      (fun t c => past (width i) (fun t => a t c) t) := by
  unfold k0_pay4
  have hw := width_cases i
  refine ((sum8 ha).growPast 8 (width i) (width_word i) (by norm_num) (by omega) (by omega) _ _).congr fun r c _ _ => ?_
  rw [min_eq_right (by omega)]

/-- The pooled channels the kernel keeps. -/
theorem pooled_real (ha : Real2 va a) :
    Real2 (k0_pay5 va (k0_pay2 (F := Ideal) i) (k0_pay3 (F := Ideal) i va)
        (Scalar.cmpi .sgt (Scalar.shli 2#32 (BitVec.ofNat 32 (i 0).val)) 8#32) (k0_pay4 (F := Ideal) i va))
      (pooled (width i) a) := by
  unfold k0_pay5
  exact (((sum16 ha).divf cnt_real fun r c _ _ => cnt_ne _ _ (by unfold width; positivity)).subf ha).truncf _

theorem weight_real (hw : Real3 vw (fun _ => w)) : Real2 (k0_pay6 (F := Ideal) vw) w := fun i => by
  unfold k0_pay6
  pointwise
  exact hw _

theorem mixed_real (ha : Real2 va a) (hw : Real3 vw (fun _ => w)) :
    Real2 (k0_pay7 va (k0_pay2 (F := Ideal) i) (k0_pay3 (F := Ideal) i va)
        (Scalar.cmpi .sgt (Scalar.shli 2#32 (BitVec.ofNat 32 (i 0).val)) 8#32) (k0_pay4 (F := Ideal) i va) vw)
      (mixed (width i) a w) := by
  unfold k0_pay7
  exact product _ _ (pooled_real ha) (weight_real hw)

theorem sg_real (hx : Real2 vx x) : Real2 (k0_pay8 (F := Ideal) vx) (fun t k => sg (x t k)) := by
  unfold k0_pay8
  refine (real2_one.divf (real2_one.addf (real2_zero.subf hx).exp) fun r c _ _ => ?_).congr fun r c _ _ => ?_
  · rw [zero_sub]; exact one_add_exp_ne _
  · rw [zero_sub]; rfl

theorem scale_real (hs : Real2 vs (fun _ => s)) : Real2 (broadcastTo S2048x256 (k0_pay9 (F := Ideal) vs) broadcasts_S1x256_S2048x256) (fun _ => s) := fun i => by
  unfold k0_pay9
  pointwise
  exact hs _

theorem dgate_real (ha : Real2 va a) (hx : Real2 vx x) (hy : Real2 vy y) (hw : Real3 vw (fun _ => w)) (hs : Real2 vs (fun _ => s)) :
    Real2 (k0_pay10 va (k0_pay2 (F := Ideal) i) (k0_pay3 (F := Ideal) i va)
        (Scalar.cmpi .sgt (Scalar.shli 2#32 (BitVec.ofNat 32 (i 0).val)) 8#32) (k0_pay4 (F := Ideal) i va) vw vx vy vs)
      (dgate (width i) a x y w s) := by
  unfold k0_pay10
  exact ((hy.mulf ((mixed_real ha hw).mulf (scale_real hs))).mulf
    ((sg_real hx).mulf (real2_one.addf (hx.mulf (real2_one.subf (sg_real hx)))))).truncf _

theorem dgated_real (hx : Real2 vx x) (hy : Real2 vy y) : Real2 (k0_pay11 (F := Ideal) vx vy) (dgated x y) := by
  unfold k0_pay11
  exact hy.mulf (hx.mulf (sg_real hx))

theorem dscale_real (ha : Real2 va a) (hx : Real2 vx x) (hy : Real2 vy y) (hw : Real3 vw (fun _ => w)) :
    Real2 (k0_pay12 va (k0_pay2 (F := Ideal) i) (k0_pay3 (F := Ideal) i va)
        (Scalar.cmpi .sgt (Scalar.shli 2#32 (BitVec.ofNat 32 (i 0).val)) 8#32) (k0_pay4 (F := Ideal) i va) vw vx vy)
      (fun _ => dscale (width i) a x y w) := fun j => by
  unfold k0_pay12
  have h := (dgated_real hx hy).mulf (mixed_real (i := i) ha hw)
  revert h
  generalize Idealize.ShloMosaic.mulf (k0_pay11 (F := Ideal) vx vy) _ = z
  intro h
  pointwise
  exact sum_fin_coe 2048 (fun t => dgated x y t (j 1).val * mixed (width i) a w t (j 1).val) _ fun t => h _

theorem dmixed_real (hx : Real2 vx x) (hy : Real2 vy y) (hs : Real2 vs (fun _ => s)) : Real2 (k0_pay13 (F := Ideal) vx vy vs) (dmixed x y s) := by
  unfold k0_pay13
  exact (dgated_real hx hy).mulf (scale_real hs)

theorem dweight_real {v : FVec Ideal S2048x256 .bf16} {d : FVec Ideal S2048x256 .f32} (hv : Real2 v (pooled (width i) a)) (hd : Real2 d (dmixed x y s)) :
    Real3 (k0_pay15 (F := Ideal) v d) (fun _ => dweight (width i) a x y s) := fun j => by
  unfold k0_pay15 k0_pay14
  have h := transposed_product _ _ hv (hd.truncf (ψ := .bf16) bitsLt_bf16_f32)
  revert h
  generalize matmul (F := Ideal) dot_S2048x256_S2048x256_S256x256_0_0_1_1_n_n none _ _ _ = z
  intro h
  pointwise
  exact h _

theorem dpooled_real {v : FVec Ideal S256x256 .bf16} {d : FVec Ideal S2048x256 .f32} (hv : Real2 v w) (hd : Real2 d (dmixed x y s)) :
    Real2 (k0_pay16 (F := Ideal) v d) (dpooled x y w s) := by
  unfold k0_pay16 k0_pay14
  exact product_transposed _ _ (hd.truncf _) hv

theorem ahead8 {v : FVec Ideal S256x256 .bf16} {d : FVec Ideal S2048x256 .f32} (hv : Real2 v w) (hd : Real2 d (dmixed x y s)) :
    Real2 (k0_pay17 (F := Ideal) (Scalar.shli 2#32 (BitVec.ofNat 32 (i 0).val)) v d)
      (fun t c => ahead (min 8 (width i)) (fun t => dpooled x y w s t c / cnt (width i) t) t) := by
  unfold k0_pay17
  have hw := width_cases i
  have h0 := (dpooled_real hv hd).divf (real2_cnt (width i) (width_word i) (by omega) iota_S2048x256_d0_w32) fun r c _ _ => cnt_ne _ r (by omega)
  have h1 := h0.congr (g := fun t c => ahead (min 1 (width i)) (fun t => dpooled x y w s t c / cnt (width i) t) t) fun r c hr _ => by
    rw [min_eq_left (by omega), ahead_one _ _ hr]
  exact ((h1.growAhead 1 (width i) (by norm_num) (by norm_num) (width_word i) (by omega) (by omega) _ _).growAhead 2 (width i) (by norm_num) (by norm_num) (width_word i)
    (by omega) (by omega) _ _).growAhead 4 (width i) (by norm_num) (by norm_num) (width_word i) (by omega) (by omega) _ _

theorem dinput_real {v : FVec Ideal S256x256 .bf16} {d : FVec Ideal S2048x256 .f32} (hv : Real2 v w) (hd : Real2 d (dmixed x y s)) :
    Real2 (k0_pay1 (Scalar.shli 2#32 (BitVec.ofNat 32 (i 0).val)) (k0_pay16 (F := Ideal) v d)
        (k0_pay17 (F := Ideal) (Scalar.shli 2#32 (BitVec.ofNat 32 (i 0).val)) v d) k0_pay18 2040#32)
      (dinput (width i) x y w s) := by
  have h := ahead8 (i := i) hv hd
  revert h
  generalize k0_pay17 (F := Ideal) _ v d = z
  intro h
  unfold k0_pay1 k0_pay18
  have hw := width_cases i
  refine (((h.growAhead 8 (width i) (by norm_num) (by norm_num) (width_word i) (by omega) (by omega) _ _).congr fun r c _ _ => ?_).subf (dpooled_real hv hd)).truncf _
  rw [min_eq_right (by omega)]

end Cert.Proof.Block

end
-- ==== Proof.Array.lean ====
/- The kernel's four result arrays: each holds, column by column, the gradients of the group the column belongs to. -/
module

public import proofs.«01_k».proof.Proof.Block
public import Idealize.ShloMosaic.Lib.Pipeline.ValueKit
public import Idealize.ShloMosaic.Lib.Claim

@[expose] public section

noncomputable section

namespace Cert.Proof.Block

open Cert.KernelIdeal Cert.KernelIdeal.Gen Idealize.ShloMosaic Idealize.ShloMosaic.TcCoe Idealize.ShloMosaic.ValueIdx Finset Cert.Proof
open Idealize.ShloMosaic.Pipeline (Dat)

theorem index0 : ∀ t, win0_0.index t = ![0, (grid0.coords t 0).val] := by decide +kernel
theorem index1 : ∀ t, win0_1.index t = ![0, 4 + (grid0.coords t 0).val] := by decide +kernel
theorem index2 : ∀ t, win0_2.index t = ![0, (grid0.coords t 0).val] := by decide +kernel
theorem index3 : ∀ t, win0_3.index t = ![(grid0.coords t 0).val, 0, 0] := by decide +kernel
theorem index4 : ∀ t, win0_4.index t = ![0, (grid0.coords t 0).val] := by decide +kernel
theorem index5 : ∀ t, win0_5.index t = ![0, (grid0.coords t 0).val] := by decide +kernel
theorem index6 : ∀ t, win0_6.index t = ![0, (grid0.coords t 0).val] := by decide +kernel
theorem index7 : ∀ t, win0_7.index t = ![(grid0.coords t 0).val, 0, 0] := by decide +kernel
theorem index8 : ∀ t, win0_8.index t = ![0, (grid0.coords t 0).val] := by decide +kernel

section Outputs

variable (i : grid0.Coords) {a x y w : ℕ → ℕ → ℝ} {s : ℕ → ℝ}
  {va : Vec Ideal S2048x256 .f32} {vx : Vec Ideal S2048x256 .f32} {vy : Vec Ideal S2048x256 .f32} {vw : Vec Ideal S1x256x256 .bf16}
  {vs : Vec Ideal S1x256 .f32}

theorem zero2 : (![0, 0] : Fin S2048x256.rank → ℕ) = fun _ => 0 := by decide

theorem zero1 : (![0, 0] : Fin S1x256.rank → ℕ) = fun _ => 0 := by decide

theorem zero3 : (![0, 0, 0] : Fin S1x256x256.rank → ℕ) = fun _ => 0 := by decide

theorem out5_real (_ha : Real2 va a) (hx : Real2 vx x) (hy : Real2 vy y) (hw : Real3 vw (fun _ => w)) (hs : Real2 vs (fun _ => s)) :
    Real2 (out0_5 i va vx vy vw vs) (dinput (width i) x y w s) := by
  unfold_out out0_5
  simp only [View.canon_unit_zero (S := S2048x256) zero2, View.ld_unit_zero (S := S1x256x256) zero3, View.ld_unit_zero (S := S2048x256) zero2, View.ld_unit_zero (S := S1x256) zero1]
  exact dinput_real (weight_real hw) (dmixed_real hx hy hs)

theorem out6_real (ha : Real2 va a) (hx : Real2 vx x) (hy : Real2 vy y) (hw : Real3 vw (fun _ => w)) (hs : Real2 vs (fun _ => s)) :
    Real2 (out0_6 i va vx vy vw vs) (dgate (width i) a x y w s) := by
  unfold_out out0_6
  simp only [View.canon_unit_zero (S := S2048x256) zero2, View.ld_unit_zero (S := S1x256x256) zero3, View.ld_unit_zero (S := S2048x256) zero2, View.ld_unit_zero (S := S1x256) zero1]
  exact dgate_real ha hx hy hw hs

theorem out7_real (ha : Real2 va a) (hx : Real2 vx x) (hy : Real2 vy y) (_hw : Real3 vw (fun _ => w)) (hs : Real2 vs (fun _ => s)) :
    Real3 (out0_7 i va vx vy vw vs) (fun _ => dweight (width i) a x y s) := by
  unfold_out out0_7
  simp only [View.canon_unit_zero (S := S1x256x256) zero3, View.ld_unit_zero (S := S2048x256) zero2, View.ld_unit_zero (S := S1x256) zero1]
  exact dweight_real (pooled_real ha) (dmixed_real hx hy hs)

theorem out8_real (ha : Real2 va a) (hx : Real2 vx x) (hy : Real2 vy y) (hw : Real3 vw (fun _ => w)) (_hs : Real2 vs (fun _ => s)) :
    Real2 (out0_8 i va vx vy vw vs) (fun _ => dscale (width i) a x y w) := by
  unfold_out out0_8
  simp only [View.canon_unit_zero (S := S1x256) zero1, View.ld_unit_zero (S := S2048x256) zero2, View.ld_unit_zero (S := S1x256x256) zero3]
  exact dscale_real ha hx hy hw

end Outputs

section

variable (m : (ℓ : Loc nD τ sig) → Buf (Elt Ideal) ℓ) (c : Dev nD)

/-- The reals the arguments hold. -/
structure Held (z : ℕ → ℕ → ℝ) (wt : ℕ → ℕ → ℕ → ℝ) (sc : ℕ → ℝ) (yt : ℕ → ℕ → ℝ) : Prop where
  z : Real2 (n0 := 2048) (n1 := 12288) (m ((c : Thread nD τ).loc main_arg0)) z
  wt : Real3 (n0 := 4) (n1 := 256) (n2 := 256) (m ((c : Thread nD τ).loc main_arg1)) wt
  sc : Real1 (n := 1024) (m ((c : Thread nD τ).loc main_arg2)) sc
  yt : Real2 (n0 := 2048) (n1 := 2048) (m ((c : Thread nD τ).loc main_arg3)) yt

variable {m c} {z : ℕ → ℕ → ℝ} {wt : ℕ → ℕ → ℕ → ℝ} {sc : ℕ → ℝ} {yt : ℕ → ℕ → ℝ}

theorem block0 (h : Held m c z wt sc yt) (t : Fin cfg0.N) :
    Real2 (n0 := 2048) (n1 := 256) (iblk m c 0 t) (cols z (grid0.coords t 0).val) := fun i => by
  blk_simp [iblk, index0]
  entry_read
  rw [h.z]
  blk_simp [index0, cols]

theorem block1 (h : Held m c z wt sc yt) (t : Fin cfg0.N) :
    Real2 (n0 := 2048) (n1 := 256) (iblk m c 1 t) (cols z (4 + (grid0.coords t 0).val)) := fun i => by
  blk_simp [iblk, index1]
  entry_read
  rw [h.z]
  blk_simp [index1, cols]

theorem block2 (h : Held m c z wt sc yt) (t : Fin cfg0.N) :
    Real2 (n0 := 2048) (n1 := 256) (iblk m c 2 t) (cols yt (grid0.coords t 0).val) := fun i => by
  blk_simp [iblk, index2]
  entry_read
  rw [h.yt]
  blk_simp [index2, cols]

theorem block3 (h : Held m c z wt sc yt) (t : Fin cfg0.N) :
    Real3 (n0 := 1) (n1 := 256) (n2 := 256) (iblk m c 3 t) (fun _ => wt (grid0.coords t 0).val) := fun i => by
  have h0 : (i 0).val < 1 := (i 0).isLt
  blk_simp [iblk, index3]
  entry_read
  pointwise
  refine (h.wt _).trans ?_
  blk_simp [index3]

theorem block4 (h : Held m c z wt sc yt) (t : Fin cfg0.N) :
    Real2 (n0 := 1) (n1 := 256) (iblk m c 4 t) (fun _ => part sc (grid0.coords t 0).val) := fun i => by
  blk_simp [iblk, index4]
  entry_read
  pointwise
  refine (h.sc _).trans ?_
  blk_simp [index4, part]

theorem array5 (h : Held m c z wt sc yt) :
    (dats m 0 c).arrAt 5 cfg0.N = fun i => ((groupInput z wt sc yt ((i 1).val / 256) (i 0).val ((i 1).val % 256) : ℝ) : EReal) := by
  refine (dats m 0 c).arrAt_eq_of_covers 5 _ (by decide +kernel) fun t hf y => ?_
  blk_simp
  rw [after0_5]
  refine (out5_real (grid0.coords t) (block0 h t) (block1 h t) (block2 h t) (block3 h t) (block4 h t) _).trans ?_
  have h1 : (y 1).val < 256 := (y 1).isLt
  blk_simp [index5]
  rw [show ((grid0.coords t 0).val * 256 + (y 1).val) / 256 = (grid0.coords t 0).val by omega,
    show ((grid0.coords t 0).val * 256 + (y 1).val) % 256 = (y 1).val by omega]
  rfl

theorem array6 (h : Held m c z wt sc yt) :
    (dats m 0 c).arrAt 6 cfg0.N = fun i => ((groupGate z wt sc yt ((i 1).val / 256) (i 0).val ((i 1).val % 256) : ℝ) : EReal) := by
  refine (dats m 0 c).arrAt_eq_of_covers 6 _ (by decide +kernel) fun t hf y => ?_
  blk_simp
  rw [after0_6]
  refine (out6_real (grid0.coords t) (block0 h t) (block1 h t) (block2 h t) (block3 h t) (block4 h t) _).trans ?_
  have h1 : (y 1).val < 256 := (y 1).isLt
  blk_simp [index6]
  rw [show ((grid0.coords t 0).val * 256 + (y 1).val) / 256 = (grid0.coords t 0).val by omega,
    show ((grid0.coords t 0).val * 256 + (y 1).val) % 256 = (y 1).val by omega]
  rfl

theorem array7 (h : Held m c z wt sc yt) :
    (dats m 0 c).arrAt 7 cfg0.N = fun i => ((groupWeight z sc yt (i 0).val (i 1).val (i 2).val : ℝ) : EReal) := by
  refine (dats m 0 c).arrAt_eq_of_covers 7 _ (by decide +kernel) fun t hf y => ?_
  blk_simp
  rw [after0_7]
  refine (out7_real (grid0.coords t) (block0 h t) (block1 h t) (block2 h t) (block3 h t) (block4 h t) _).trans ?_
  have h1 : (y 0).val < 1 := (y 0).isLt
  blk_simp [index7]
  rfl

theorem array8 (h : Held m c z wt sc yt) :
    (dats m 0 c).arrAt 8 cfg0.N = fun i => ((groupScale z wt yt ((i 1).val / 256) ((i 1).val % 256) : ℝ) : EReal) := by
  refine (dats m 0 c).arrAt_eq_of_covers 8 _ (by decide +kernel) fun t hf y => ?_
  blk_simp
  rw [after0_8]
  refine (out8_real (grid0.coords t) (block0 h t) (block1 h t) (block2 h t) (block3 h t) (block4 h t) _).trans ?_
  have h1 : (y 1).val < 256 := (y 1).isLt
  blk_simp [index8]
  rw [show ((grid0.coords t 0).val * 256 + (y 1).val) / 256 = (grid0.coords t 0).val by omega,
    show ((grid0.coords t 0).val * 256 + (y 1).val) % 256 = (y 1).val by omega]
  rfl

end

end Cert.Proof.Block

end
-- ==== Proof.Entries.lean ====
/- Arrays of extended reals read by number: the matrix `x` has the entry `f r c` at row `r` and column `c`.

   Every array has such a function, so nothing is assumed of the entries; it lets a block of an array, a reshaped array and
   a sum over an axis be compared by arithmetic on the numbers alone. -/
module

public import Idealize.ShloMosaic.Lib.ValueIdx
public import Idealize.ShloMosaic.Lib.Pointwise
public import Idealize.ShloMosaic.Lib.IdealHost
public import Idealize.ShloMosaic.PureOps.Ideal.Laws

@[expose] public section

noncomputable section

namespace Cert.Proof

open Idealize.ShloMosaic Idealize.ShloMosaic.ValueIdx Finset

/-- The matrix `x` has the entry `f r c` at `(r, c)`. -/
def Has2 {n0 n1 : ℕ} (x : (⟨2, ![n0, n1]⟩ : Shape).Idx → EReal) (f : ℕ → ℕ → EReal) : Prop :=
  ∀ i, x i = f (i 0).val (i 1).val

/-- The array `x` of three axes has the entry `f a b c` at `(a, b, c)`. -/
def Has3 {n0 n1 n2 : ℕ} (x : (⟨3, ![n0, n1, n2]⟩ : Shape).Idx → EReal) (f : ℕ → ℕ → ℕ → EReal) : Prop :=
  ∀ i, x i = f (i 0).val (i 1).val (i 2).val

/-- Every matrix has its entries. -/
theorem Has2.exists {n0 n1 : ℕ} (x : (⟨2, ![n0, n1]⟩ : Shape).Idx → EReal) : ∃ f, Has2 x f := by
  classical
  refine ⟨fun a b => if p : a < n0 ∧ b < n1 then x (ValueIdx.ix2 (n0 := n0) (n1 := n1) ⟨a, p.1⟩ ⟨b, p.2⟩) else 0, fun i => ?_⟩
  have e : i = ValueIdx.ix2 (n0 := n0) (n1 := n1) ⟨(i 0).val, (i 0).isLt⟩ ⟨(i 1).val, (i 1).isLt⟩ := by
    funext k; fin_cases k <;> rfl
  have p : (i 0).val < n0 ∧ (i 1).val < n1 := ⟨(i 0).isLt, (i 1).isLt⟩
  simp only [p, and_self, dif_pos]
  rw [← e]

/-- A sum over `Fin n` of values that depend on the number alone. -/
theorem sum_fin_eq (n : ℕ) (f : ℕ → EReal) (g : Fin n → EReal) (h : ∀ k, g k = f k.val) : ∑ k, g k = ∑ k ∈ range n, f k := by
  rw [← Fin.sum_univ_eq_sum_range f n]
  exact sum_congr rfl fun k _ => h k

/-- A sum over `Fin n` of products of entries, term by term over the numbers below `n`. -/
theorem sum_fin_mul (n : ℕ) (f g : ℕ → EReal) (a b : Fin n → EReal) (ha : ∀ k, a k = f k.val) (hb : ∀ k, b k = g k.val) :
    ∑ k, a k * b k = ∑ k ∈ range n, f k * g k :=
  sum_fin_eq n (fun k => f k * g k) _ fun k => congrArg₂ (· * ·) (ha k) (hb k)

end Cert.Proof

end
-- ==== Proof.Norm.lean ====
/- The root-mean-square norm of one row of 2048 entries, and its derivative in the two forms in which the programs compute it. -/
module

public import proofs.«01_k».proof.Proof.Entries
public import proofs.«01_k».proof.Proof.Reals

@[expose] public section

noncomputable section

namespace Cert.Proof

open Idealize.ShloMosaic Idealize.ShloMosaic.ValueIdx Finset

/-- The row `x` has the entry `f k` at `k`. -/
def Has1 {n : ℕ} (x : (⟨1, ![n]⟩ : Shape).Idx → EReal) (f : ℕ → EReal) : Prop := ∀ i, x i = f (i 0).val

/-- Every row has its entries. -/
theorem Has1.exists {n : ℕ} (x : (⟨1, ![n]⟩ : Shape).Idx → EReal) : ∃ f, Has1 x f := by
  classical
  refine ⟨fun a => if p : a < n then x (ValueIdx.ix1 (n := n) ⟨a, p⟩) else 0, fun i => ?_⟩
  have e : i = ValueIdx.ix1 (n := n) ⟨(i 0).val, (i 0).isLt⟩ := by funext k; fin_cases k; rfl
  simp only [show (i 0).val < n from (i 0).isLt, dif_pos]
  rw [← e]

namespace Norm

/-- The number of entries of a row, and the small number added to the mean of the squares, as the programs write them. -/
def len : EReal := Ideal.ofBits .f32 0x45000000#32
def small : EReal := Ideal.ofBits .f32 0x358637BD#32

/-- The second as a real. -/
def eps : ℝ := 8796093 / 8796093022208

theorem len_eq : len = ((2048 : ℝ) : EReal) := by
  simp [len, Ideal.ofBits, Ideal.ieee]
  rw [← EReal.coe_mul]
  norm_num

theorem small_eq : small = ((eps : ℝ) : EReal) := by
  simp [small, eps, Ideal.ofBits, Ideal.ieee]
  rw [← EReal.coe_mul]
  norm_num

theorem eps_pos : 0 < eps := by norm_num [eps]

/-- What a row is scaled by: the inverse root of the mean of its squares. -/
def scale (x : ℕ → EReal) : EReal := Ideal.rsqrt (Ideal.div (∑ k ∈ range 2048, x k * x k) len + small)

/-- The kernel's form of the norm's derivative: `n` is the gradient of the normed row, `g` the gain. -/
def bwd (n x g : ℕ → EReal) (c : ℕ) : EReal :=
  scale x * (n c * g c - x c * scale x * Ideal.div (∑ k ∈ range 2048, n k * g k * (x k * scale x)) len)

/-- The factor of the row in the derivative's form that differentiates each operation by itself. -/
def factor (n x g : ℕ → EReal) : EReal :=
  Ideal.div ((∑ k ∈ range 2048, x k * (n k * g k)) * (Ideal.ofBits .f32 0xBF000000#32
    * Ideal.div (scale x) (Ideal.div (∑ k ∈ range 2048, x k * x k) len + small))) len

/-- The quotient of two reals, the second not zero. -/
theorem div_real (a b : ℝ) (h : b ≠ 0) : Ideal.div (a : EReal) (b : EReal) = ((a / b : ℝ) : EReal) := by
  rw [Ideal.div_coe h, ← EReal.coe_mul, mul_one_div]

/-- A sum of real products. -/
theorem sum_real (f : ℕ → ℝ) : ∑ k ∈ range 2048, (f k : EReal) = ((∑ k ∈ range 2048, f k : ℝ) : EReal) := (coe_sum _ _).symm

section Real

variable (n x g : ℕ → ℝ)

/-- The mean of the squares with the small number, and the scale, as reals. -/
def power : ℝ := (∑ k ∈ range 2048, x k * x k) / 2048 + eps
def inv : ℝ := (Real.sqrt (power x))⁻¹

theorem power_pos : 0 < power x :=
  add_pos_of_nonneg_of_pos (div_nonneg (sum_nonneg fun k _ => mul_self_nonneg _) (by norm_num)) eps_pos

theorem inv_sq : inv x * inv x = 1 / power x := by
  unfold inv
  rw [← mul_inv, Real.mul_self_sqrt (power_pos x).le, one_div]

theorem power_real : Ideal.div (∑ k ∈ range 2048, (x k : EReal) * (x k : EReal)) len + small = ((power x : ℝ) : EReal) := by
  simp only [← EReal.coe_mul]
  rw [sum_real fun k => x k * x k, len_eq, small_eq, div_real _ _ (by norm_num), ← EReal.coe_add]
  rfl

theorem scale_real : scale (fun k => (x k : EReal)) = ((inv x : ℝ) : EReal) := by
  unfold scale
  rw [power_real, Ideal.rsqrt_coe, if_neg (power_pos x).le.not_gt, if_neg (power_pos x).ne']
  rfl

/-- The derivative over the reals. -/
def grad (c : ℕ) : ℝ := inv x * (n c * g c - x c * inv x * ((∑ k ∈ range 2048, n k * g k * (x k * inv x)) / 2048))

theorem bwd_real (c : ℕ) : bwd (fun k => (n k : EReal)) (fun k => (x k : EReal)) (fun k => (g k : EReal)) c = ((grad n x g c : ℝ) : EReal) := by
  unfold bwd grad
  simp only [scale_real, ← EReal.coe_mul]
  rw [sum_real fun k => n k * g k * (x k * inv x), len_eq, div_real _ _ (by norm_num), ← EReal.coe_mul, ← EReal.coe_sub, ← EReal.coe_mul]

theorem half : Ideal.ofBits .f32 0xBF000000#32 = ((-(1 / 2) : ℝ) : EReal) := by
  simp [Ideal.ofBits, Ideal.ieee]
  rw [← EReal.coe_mul]
  norm_num

theorem factor_real : factor (fun k => (n k : EReal)) (fun k => (x k : EReal)) (fun k => (g k : EReal))
    = (((∑ k ∈ range 2048, x k * (n k * g k)) * (-(1 / 2) * (inv x / power x)) / 2048 : ℝ) : EReal) := by
  unfold factor
  rw [power_real, scale_real, half, len_eq, div_real _ _ (power_pos x).ne']
  simp only [← EReal.coe_mul]
  rw [sum_real fun k => x k * (n k * g k), ← EReal.coe_mul, div_real _ _ (by norm_num)]

/-- Over the reals the two forms are equal. -/
theorem forms (c : ℕ) :
    (n c : EReal) * (g c : EReal) * scale (fun k => (x k : EReal))
        + (x c : EReal) * factor (fun k => (n k : EReal)) (fun k => (x k : EReal)) (fun k => (g k : EReal))
        + factor (fun k => (n k : EReal)) (fun k => (x k : EReal)) (fun k => (g k : EReal)) * (x c : EReal)
      = bwd (fun k => (n k : EReal)) (fun k => (x k : EReal)) (fun k => (g k : EReal)) c := by
  rw [bwd_real, factor_real, scale_real]
  simp only [← EReal.coe_mul, ← EReal.coe_add]
  congr 1
  unfold grad
  have hp := (power_pos x).ne'
  have e : ∑ k ∈ range 2048, n k * g k * (x k * inv x) = (∑ k ∈ range 2048, x k * (n k * g k)) * inv x := by
    rw [sum_mul]; exact sum_congr rfl fun k _ => by ring
  have i3 : inv x / power x = inv x * (inv x * inv x) := by rw [inv_sq]; ring
  rw [e, i3]
  ring

end Real

end Norm

end Cert.Proof

end
-- ==== Proof.RefNorm.lean ====
/- The norm's derivative as the reference computes it: each operation differentiated by itself. -/
module

public import proofs.«01_k».proof.Proof.Norm
public import proofs.«01_k».proof.Proof.Gen.FirstNormReferenceIdeal.Read

@[expose] public section

noncomputable section

namespace Cert.Proof.RefNorm

open Cert.FirstNormReferenceIdeal Cert.FirstNormReferenceIdeal.Read Idealize.ShloMosaic Idealize.ShloMosaic.ValueIdx Finset Norm

variable {n x : ℕ → ℕ → EReal} {g : ℕ → EReal} {x1 x2 : S2048x2048.Idx → EReal} {x3 : S2048.Idx → EReal}

/-- A sum over one entry, as the reference's sums over an axis of length one. -/
theorem sum_one (f : Fin 1 → EReal) : Ideal.ofBits .f32 0x00000000#32 + ∑ k, f k = f 0 := by
  rw [Ideal.ofBits_zero_f32, zero_add, Fin.sum_univ_one]

/-- The mean of a row's squares with the small number. -/
theorem power (hx : Has2 (n0 := 2048) (n1 := 2048) x2 x) (i : S2048x1.Idx) :
    val_main_v6 (F := Ideal) x2 i = Ideal.div (∑ k ∈ range 2048, x (i 0).val k * x (i 0).val k) len + small := by
  rw [val_main_v6_apply, val_main_v4_apply, val_main_v2_apply, val_main_v1_apply]
  show Ideal.div (Ideal.ofBits .f32 0x00000000#32 + ∑ k, _) len + small = _
  rw [Ideal.ofBits_zero_f32, zero_add]
  exact congrArg (fun s => Ideal.div s len + small) (sum_fin_mul 2048 (x (i 0).val) (x (i 0).val) _ _ (fun k => hx _) (fun k => hx _))

/-- The scale of a row. -/
theorem scale_row (hx : Has2 (n0 := 2048) (n1 := 2048) x2 x) (i : S2048x1.Idx) :
    val_main_v7 (F := Ideal) x2 i = scale (x (i 0).val) := by
  rw [val_main_v7_apply, power hx]
  rfl

/-- The row scaled. -/
theorem scaled (hx : Has2 (n0 := 2048) (n1 := 2048) x2 x) :
    Has2 (n0 := 2048) (n1 := 2048) (val_main_v12 (F := Ideal) x2) fun r c => x r c * scale (x r) := fun i => by
  rw [val_main_v12_apply, val_main_v11_apply, scale_row hx, hx]
  rfl

/-- The normed rows: scaled, times the gain. -/
theorem normed (hx : Has2 (n0 := 2048) (n1 := 2048) x2 x) (hg : Has1 (n := 2048) x3 g) :
    Has2 (n0 := 2048) (n1 := 2048) (val_main_v15 (F := Ideal) x2 x3) fun r c => x r c * scale (x r) * g c := fun i => by
  rw [val_main_v15_apply, val_main_v14_apply, val_main_v13_apply, scaled hx, hg]
  rfl

/-- The gradient by the gain: a sum over all rows. -/
theorem gain (hn : Has2 (n0 := 2048) (n1 := 2048) x1 n) (hx : Has2 (n0 := 2048) (n1 := 2048) x2 x) (i : S1x2048.Idx) :
    val_main_v37 (F := Ideal) x1 x2 i = ∑ r ∈ range 2048, n r (i 1).val * (x r (i 1).val * scale (x r)) := by
  rw [val_main_v37_apply, val_main_v21_apply, val_main_cst_4_apply]
  refine (sum_one _).trans ?_
  rw [val_main_v18_apply, val_main_v17_apply]
  show Ideal.ofBits .f32 0x00000000#32 + ∑ k, _ = _
  rw [Ideal.ofBits_zero_f32, zero_add]
  refine sum_fin_eq 2048 (fun r => n r (i 1).val * (x r (i 1).val * scale (x r))) _ fun k => ?_
  rw [val_main_v16_apply, scaled hx, hn]
  have e : 0 * 2048 + ((i 0).val * 2048 + (i 1).val) = (i 1).val := by have : (i 0).val < 1 := (i 0).isLt; omega
  show x k.val (0 * 2048 + ((i 0).val * 2048 + (i 1).val)) * scale (x k.val) * n k.val (0 * 2048 + ((i 0).val * 2048 + (i 1).val)) = _
  rw [e, mul_comm]

/-- The gradient of the normed row by its gain's factor. -/
theorem times_gain (hn : Has2 (n0 := 2048) (n1 := 2048) x1 n) (hg : Has1 (n := 2048) x3 g) :
    Has2 (n0 := 2048) (n1 := 2048) (val_main_v20 (F := Ideal) x1 x3) fun r c => n r c * g c := fun i => by
  rw [val_main_v20_apply, val_main_v19_apply, val_main_v13_apply, hn, hg]
  rfl

/-- The factor of the row. -/
theorem factor_row (hn : Has2 (n0 := 2048) (n1 := 2048) x1 n) (hx : Has2 (n0 := 2048) (n1 := 2048) x2 x) (hg : Has1 (n := 2048) x3 g)
    (i : S2048x2048.Idx) : val_main_v32 (F := Ideal) x1 x2 x3 i = factor (n (i 0).val) (x (i 0).val) g := by
  rw [val_main_v32_apply, val_main_v31_apply, val_main_cst_7_apply]
  refine (sum_one _).trans ?_
  rw [val_main_v30_apply, val_main_v28_apply, val_main_v24_apply, val_main_v23_apply, val_main_v10_apply, val_main_v8_apply,
    scale_row hx, power hx]
  show Ideal.div ((Ideal.ofBits .f32 0x00000000#32 + ∑ k, _) * (Ideal.ofBits .f32 0xBF000000#32 * Ideal.div _ _)) len = _
  rw [Ideal.ofBits_zero_f32, zero_add]
  refine congrArg (fun s => Ideal.div (s * _) len) (sum_fin_eq 2048 (fun k => x (i 0).val k * (n (i 0).val k * g k)) _ fun k => ?_)
  rw [val_main_v22_apply, times_gain hn hg, hx]
  show x ((i 0).val * 1 + 0) k.val * (n ((i 0).val * 1 + 0) k.val * g k.val) = _
  rw [Nat.mul_one, Nat.add_zero]

/-- The three summands of the derivative, in the order in which the reference adds them. -/
theorem parts (hn : Has2 (n0 := 2048) (n1 := 2048) x1 n) (hx : Has2 (n0 := 2048) (n1 := 2048) x2 x) (hg : Has1 (n := 2048) x3 g)
    (i : S2048x2048.Idx) :
    val_main_v26 (F := Ideal) x1 x2 x3 i = n (i 0).val (i 1).val * g (i 1).val * scale (x (i 0).val)
    ∧ val_main_v33 (F := Ideal) x1 x2 x3 i = x (i 0).val (i 1).val * factor (n (i 0).val) (x (i 0).val) g
    ∧ val_main_v35 (F := Ideal) x1 x2 x3 i = factor (n (i 0).val) (x (i 0).val) g * x (i 0).val (i 1).val := by
  refine ⟨?_, ?_, ?_⟩
  · rw [val_main_v26_apply, val_main_v25_apply, times_gain hn hg, scale_row hx]
    rfl
  · rw [val_main_v33_apply, factor_row hn hx hg, hx]
    rfl
  · rw [val_main_v35_apply, factor_row hn hx hg, hx]
    rfl

section Real

variable {a b : ℕ → ℕ → ℝ} {p : ℕ → ℝ}

/-- Over the reals the sum of the three parts is the derivative in the kernel's form. -/
theorem gradient (hn : Real2 (n0 := 2048) (n1 := 2048) x1 a) (hx : Real2 (n0 := 2048) (n1 := 2048) x2 b) (hg : Real1 (n := 2048) x3 p) :
    Real2 (n0 := 2048) (n1 := 2048)
      (addf (F := Ideal) (φ := .f32) (addf (F := Ideal) (φ := .f32) (val_main_v26 (F := Ideal) x1 x2 x3) (val_main_v33 (F := Ideal) x1 x2 x3))
        (val_main_v35 (F := Ideal) x1 x2 x3)) fun r c => grad (a r) (b r) p c := fun i => by
  obtain ⟨h1, h2, h3⟩ := parts (n := fun r c => (a r c : EReal)) (x := fun r c => (b r c : EReal)) (g := fun c => (p c : EReal)) hn hx hg i
  rw [addf_apply, addf_apply, h1, h2, h3]
  exact (forms (a (i 0).val) (b (i 0).val) p (i 1).val).trans (bwd_real _ _ _ _)

/-- The same with a gradient that reaches the row past the norm. -/
theorem gradient_add {x0 : S2048x2048.Idx → EReal} {d : ℕ → ℕ → ℝ} (hd : Real2 (n0 := 2048) (n1 := 2048) x0 d)
    (hn : Real2 (n0 := 2048) (n1 := 2048) x1 a) (hx : Real2 (n0 := 2048) (n1 := 2048) x2 b) (hg : Real1 (n := 2048) x3 p) :
    Real2 (n0 := 2048) (n1 := 2048) (val_main_v36 (F := Ideal) x0 x1 x2 x3) fun r c => d r c + grad (a r) (b r) p c := fun i => by
  have e : val_main_v36 (F := Ideal) x0 x1 x2 x3 i = (x0 i : EReal) + addf (F := Ideal) (φ := .f32) (addf (F := Ideal) (φ := .f32)
      (val_main_v26 (F := Ideal) x1 x2 x3) (val_main_v33 (F := Ideal) x1 x2 x3)) (val_main_v35 (F := Ideal) x1 x2 x3) i := by
    show ((x0 i : EReal) + val_main_v26 (F := Ideal) x1 x2 x3 i + val_main_v33 (F := Ideal) x1 x2 x3 i) + val_main_v35 (F := Ideal) x1 x2 x3 i
      = (x0 i : EReal) + ((val_main_v26 (F := Ideal) x1 x2 x3 i + val_main_v33 (F := Ideal) x1 x2 x3 i) + val_main_v35 (F := Ideal) x1 x2 x3 i)
    rw [add_assoc, add_assoc, add_assoc]
  rw [e, gradient hn hx hg i, hd i, EReal.coe_add]

end Real

end Cert.Proof.RefNorm

end
-- ==== Proof.Finite.lean ====
/- What the precondition says of the arguments: every entry is a real number. -/
module

public import proofs.«01_k».proof.Proof.Array
public import proofs.«01_k».proof.Pre_finite
public import Idealize.ShloMosaic.Lib.ReduceAll

@[expose] public section

noncomputable section

namespace Cert.Proof

open Idealize.ShloMosaic Idealize.ShloMosaic.TcCoe

/-- The shape relations of the precondition's own operations hold. -/
theorem finite_facts : Cert.Pre_finite.Facts where
  bcast_S_S2048x12288 := by decide
  reducesTo_S2048x12288_S_d0_1 := by decide
  h_S_ := by decide
  bcast_S_S4x256x256 := by decide
  reducesTo_S4x256x256_S_d0_1_2 := by decide
  bcast_S_S1024 := by decide
  reducesTo_S1024_S_d0 := by decide
  bcast_S_S2048x2048 := by decide
  reducesTo_S2048x2048_S_d0_1 := by decide

/-- An extended real whose absolute value is below the infinity is a real. -/
theorem real_of_abs (x : Ideal .f32)
    (h : FloatOps.cmpf .olt (FloatOps.hostAbsf x) (FloatOps.ofBits (F := Ideal) .f32 0x7F800000#32) = 1#1) :
    (x : EReal) = ((EReal.toReal x : ℝ) : EReal) := by
  have top : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [top] at h'
  have lt : max (x : EReal) (-(x : EReal)) < ⊤ := by
    by_contra n
    simp [Ideal.cmp, n] at h'
  have up := (max_lt_iff.mp lt).1
  have down := (max_lt_iff.mp lt).2
  refine (EReal.coe_toReal up.ne ?_).symm
  intro e
  rw [e] at down
  simp at down

/-- An array whose entries all pass the test, as the conjunction over the array tells, holds reals. -/
theorem real_of_all {s t u : Shape} {axes : List (Fin s.rank)} [Subsingleton t.Idx] (x : FVec Ideal s .f32) (b : FVec Ideal s .f32)
    (hb : ∀ i, b i = FloatOps.ofBits (F := Ideal) .f32 0x7F800000#32) (init : u.Idx → BitVec 1) (h : s.ReducesTo axes t)
    (hu : 0 < u.numel) (j : t.Idx) (e : Host.reduce IntOp.andi (cmpf .olt (Host.absf x) b) init h hu j = 1#1) (i : s.Idx) :
    (x i : EReal) = ((EReal.toReal (x i) : ℝ) : EReal) := by
  have one := Host.reduce_andi_all _ init h hu j e i
  refine real_of_abs (x i) ?_
  rw [← hb i]
  exact one

/-- Both conjuncts of a conjunction that is one are one. -/
theorem both_one {a b : BitVec 1} (h : IntOp.andi a b = 1#1) : a = 1#1 ∧ b = 1#1 := by
  revert a b; decide

/-- A row of reals is given by a function of the position. -/
theorem Real1.exists {n : ℕ} (x : (⟨1, ![n]⟩ : Shape).Idx → EReal) (h : ∀ i, x i = ((x i).toReal : EReal)) : ∃ f, Real1 x f := by
  classical
  refine ⟨fun a => if p : a < n then (x (ValueIdx.ix1 (n := n) ⟨a, p⟩)).toReal else 0, fun i => ?_⟩
  have e : i = ValueIdx.ix1 (n := n) ⟨(i 0).val, (i 0).isLt⟩ := by funext k; fin_cases k; rfl
  simp only [show (i 0).val < n from (i 0).isLt, dif_pos]
  rw [← e]
  exact h i

/-- A matrix of reals is given by a function of the row and the column. -/
theorem Real2.exists {n0 n1 : ℕ} (x : (⟨2, ![n0, n1]⟩ : Shape).Idx → EReal) (h : ∀ i, x i = ((x i).toReal : EReal)) :
    ∃ f, Real2 x f := by
  classical
  refine ⟨fun a b => if p : a < n0 ∧ b < n1 then (x (ValueIdx.ix2 (n0 := n0) (n1 := n1) ⟨a, p.1⟩ ⟨b, p.2⟩)).toReal else 0, fun i => ?_⟩
  have e : i = ValueIdx.ix2 (n0 := n0) (n1 := n1) ⟨(i 0).val, (i 0).isLt⟩ ⟨(i 1).val, (i 1).isLt⟩ := by
    funext k; fin_cases k <;> rfl
  have p : (i 0).val < n0 ∧ (i 1).val < n1 := ⟨(i 0).isLt, (i 1).isLt⟩
  simp only [p, and_self, dif_pos]
  rw [← e]
  exact h i

/-- An array of three axes of reals is given by a function of the three positions. -/
theorem Real3.exists {n0 n1 n2 : ℕ} (x : (⟨3, ![n0, n1, n2]⟩ : Shape).Idx → EReal) (h : ∀ i, x i = ((x i).toReal : EReal)) :
    ∃ f, Real3 x f := by
  classical
  refine ⟨fun a b c => if p : a < n0 ∧ b < n1 ∧ c < n2 then
    (x (ValueIdx.ix3 (n0 := n0) (n1 := n1) (n2 := n2) ⟨a, p.1⟩ ⟨b, p.2.1⟩ ⟨c, p.2.2⟩)).toReal else 0, fun i => ?_⟩
  have e : i = ValueIdx.ix3 (n0 := n0) (n1 := n1) (n2 := n2) ⟨(i 0).val, (i 0).isLt⟩ ⟨(i 1).val, (i 1).isLt⟩ ⟨(i 2).val, (i 2).isLt⟩ := by
    funext k; fin_cases k <;> rfl
  have p : (i 0).val < n0 ∧ (i 1).val < n1 ∧ (i 2).val < n2 := ⟨(i 0).isLt, (i 1).isLt, (i 2).isLt⟩
  simp only [p, and_self, dif_pos]
  rw [← e]
  exact h i

instance : Subsingleton Cert.Pre_finite.S_.Idx := ⟨fun a b => funext fun k => k.elim0⟩

/-- Where the precondition holds, each of the four arguments holds reals. -/
theorem reals_of_finite [Cert.Pre_finite.Facts] (x0 : FVec Ideal Cert.Pre_finite.S2048x12288 .f32)
    (x1 : FVec Ideal Cert.Pre_finite.S4x256x256 .f32) (x2 : FVec Ideal Cert.Pre_finite.S1024 .f32)
    (x3 : FVec Ideal Cert.Pre_finite.S2048x2048 .f32) (h : Cert.Pre_finite.fn (F := Ideal) x0 x1 x2 x3 = fun _ => 1#1) :
    ∃ z wt sc yt, Real2 (n0 := 2048) (n1 := 12288) x0 z ∧ Real3 (n0 := 4) (n1 := 256) (n2 := 256) x1 wt ∧ Real1 (n := 1024) x2 sc
      ∧ Real2 (n0 := 2048) (n1 := 2048) x3 yt := by
  have all := congrFun h (fun k => k.elim0)
  obtain ⟨h012, h3⟩ := both_one all
  obtain ⟨h01, h2⟩ := both_one h012
  obtain ⟨h0, h1⟩ := both_one h01
  obtain ⟨z, hz⟩ := Real2.exists (n0 := 2048) (n1 := 12288) x0 (real_of_all x0 _ (fun _ => rfl) _ _ _ _ h0)
  obtain ⟨wt, hwt⟩ := Real3.exists (n0 := 4) (n1 := 256) (n2 := 256) x1 (real_of_all x1 _ (fun _ => rfl) _ _ _ _ h1)
  obtain ⟨sc, hsc⟩ := Real1.exists (n := 1024) x2 (real_of_all x2 _ (fun _ => rfl) _ _ _ _ h2)
  obtain ⟨yt, hyt⟩ := Real2.exists (n0 := 2048) (n1 := 2048) x3 (real_of_all x3 _ (fun _ => rfl) _ _ _ _ h3)
  exact ⟨z, wt, sc, yt, hz, hwt, hsc, hyt⟩

end Cert.Proof

end
-- ==== Proof.FirstNorm.lean ====
/- The derivative of the first norm: each grid point takes 256 rows and adds their part to the gradient of the gain. -/
module

public import proofs.«01_k».proof.Proof.RefNorm
public import proofs.«01_k».proof.Proof.Finite
public import proofs.«01_k».proof.Pre_finite_first_norm
public import proofs.«01_k».proof.Defs
public import proofs.«01_k».proof.Proof.Gen.FirstNormReferenceIdeal.Run
public import proofs.«01_k».proof.Proof.Gen.FirstNormIdeal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.FirstNorm

open Cert.FirstNormIdeal Cert.FirstNormIdeal.Gen Idealize.ShloMosaic Idealize.ShloMosaic.TcCoe Idealize.ShloMosaic.ValueIdx Finset
open Idealize.SL.Sem Norm

section Block

variable {n x : ℕ → ℕ → EReal} {g : ℕ → EReal} {v w : FVec Ideal S256x2048 .f32} {u : FVec Ideal S1x2048 .f32}

/-- The scale of each row of a block. -/
theorem scale_block (hx : Has2 (n0 := 256) (n1 := 2048) v x) (i : S256x1.Idx) :
    k0_pay1 (F := Ideal) v i = scale (x (i 0).val) := by
  unfold k0_pay1
  pointwise
  exact congrArg (fun s => Ideal.rsqrt (Ideal.div s len + small)) (sum_fin_mul 2048 (x (i 0).val) (x (i 0).val) _ _ (fun k => hx _) (fun k => hx _))

/-- The rows scaled. -/
theorem scaled_block (hx : Has2 (n0 := 256) (n1 := 2048) v x) :
    Has2 (n0 := 256) (n1 := 2048) (k0_pay2 (F := Ideal) v) fun r c => x r c * scale (x r) := fun i => by
  unfold k0_pay2
  pointwise
  rw [scale_block hx, hx i]
  rfl

/-- The rows scaled and multiplied by the gain. -/
def normed (v : FVec Ideal S256x2048 .f32) (u : FVec Ideal S1x2048 .f32) : FVec Ideal S256x2048 .f32 :=
  mulf (k0_pay2 v) (broadcastTo S256x2048 (shapeCast S1x2048 u shapeCasts_S1x2048_S1x2048) broadcasts_S1x2048_S256x2048)

theorem normed_has (hx : Has2 (n0 := 256) (n1 := 2048) v x) (hg : Has2 (n0 := 1) (n1 := 2048) u fun _ => g) :
    Has2 (n0 := 256) (n1 := 2048) (normed v u) fun r c => x r c * scale (x r) * g c := fun i => by
  unfold normed
  pointwise
  exact congrArg₂ (· * ·) (scaled_block hx i) (hg _)

/-- The block's part of the gradient by the gain. -/
theorem gain_block (hx : Has2 (n0 := 256) (n1 := 2048) v x) (hn : Has2 (n0 := 256) (n1 := 2048) w n) (i : S1x2048.Idx) :
    k0_pay3 (F := Ideal) v w i = ∑ r ∈ range 256, n r (i 1).val * (x r (i 1).val * scale (x r)) := by
  unfold k0_pay3
  pointwise
  exact sum_fin_mul 256 (fun r => n r (i 1).val) (fun r => x r (i 1).val * scale (x r)) _ _ (fun k => hn _) (fun k => scaled_block hx _)

/-- The block's part, added to what the points before left. -/
theorem gain_step {old : FVec Ideal S1x2048 .f32} (hx : Has2 (n0 := 256) (n1 := 2048) v x) (hn : Has2 (n0 := 256) (n1 := 2048) w n) (i : S1x2048.Idx) :
    k0_pay4 (F := Ideal) v w old i = old i + ∑ r ∈ range 256, n r (i 1).val * (x r (i 1).val * scale (x r)) := by
  unfold k0_pay4
  pointwise
  rw [gain_block hx hn]

/-- The parts of the eight blocks add up to the sum over all rows. -/
theorem gain_total (f : ℕ → EReal) (p : ℕ) (hp : p = 0) :
    (0 : EReal) + ∑ k ∈ range (7 + 1), ∑ r ∈ range 256, f ((p * 8 + k) * 256 + r) = ∑ r ∈ range 2048, f r := by
  rw [zero_add, hp]
  simp only [Nat.zero_mul, Nat.zero_add]
  exact sum_range_range_mul_add (7 + 1) 256 f

/-- The derivative of a block of rows, as the kernel writes it. -/
def block (v w : FVec Ideal S256x2048 .f32) (u : FVec Ideal S1x2048 .f32) : FVec Ideal S256x2048 .f32 :=
  let t := mulf w (broadcastTo S256x2048 (shapeCast S1x2048 u shapeCasts_S1x2048_S1x2048) broadcasts_S1x2048_S256x2048)
  let s := multiReduction .add [1] S256 (mulf t (k0_pay2 v)) 0x00000000#32 reduces_S256x2048_S256 (.inl rfl) rfl
  let q := divf (shapeCast S256x1 s shapeCasts_S256_S256x1) (broadcast S256x1 (Scalar.ofBits .f32 0x45000000#32))
  mulf (broadcastTo S256x2048 (k0_pay1 v) broadcasts_S256x1_S256x2048)
    (subf t (mulf (k0_pay2 v) (broadcastTo S256x2048 q broadcasts_S256x1_S256x2048)))

theorem block_has (hx : Has2 (n0 := 256) (n1 := 2048) v x) (hn : Has2 (n0 := 256) (n1 := 2048) w n)
    (hg : Has2 (n0 := 1) (n1 := 2048) u fun _ => g) :
    Has2 (n0 := 256) (n1 := 2048) (block v w u) fun r c => bwd (n r) (x r) g c := fun i => by
  unfold block
  pointwise
  rw [scale_block hx, scaled_block hx i, hn i]
  refine congrArg₂ (fun a s => scale (x (i 0).val) * (n (i 0).val (i 1).val * a - x (i 0).val (i 1).val * scale (x (i 0).val) * Ideal.div s len))
    (hg _) ?_
  refine sum_fin_eq 2048 (fun k => n (i 0).val k * g k * (x (i 0).val k * scale (x (i 0).val))) _ fun k => ?_
  exact congrArg₂ (· * ·) (congrArg₂ (· * ·) (hn _) (hg _)) (scaled_block hx _)

theorem pay5_eq (d : FVec Ideal S256x2048 .f32) : k0_pay5 (F := Ideal) v w d u = addf d (block v w u) := rfl

end Block

theorem index0 : ∀ t, win0_0.index t = ![t.val, 0] := by decide +kernel
theorem index1 : ∀ t, win0_1.index t = ![t.val, 0] := by decide +kernel
theorem index2 : ∀ t, win0_2.index t = ![t.val, 0] := by decide +kernel
theorem index3 : ∀ t, win0_3.index t = ![0, 0] := by decide +kernel
theorem index4 : ∀ t, win0_4.index t = ![t.val, 0] := by decide +kernel
theorem index5 : ∀ t, win0_5.index t = ![0, 0] := by decide +kernel

variable {d n x : ℕ → ℕ → EReal} {g : ℕ → EReal} {m : (ℓ : Loc nD τ sig) → Buf (Elt Ideal) ℓ} {c : Dev nD}

theorem block_d (h : Has2 (n0 := 2048) (n1 := 2048) (m ((c : Thread nD τ).loc main_arg0)) d) (t : Fin cfg0.N) :
    Has2 (n0 := 256) (n1 := 2048) (iblk m c 0 t) fun r => d (t.val * 256 + r) := fun j => by
  blk_simp [iblk, index0]
  entry_read
  rw [h]
  blk_simp [index0]

theorem block_n (h : Has2 (n0 := 2048) (n1 := 2048) (m ((c : Thread nD τ).loc main_arg1)) n) (t : Fin cfg0.N) :
    Has2 (n0 := 256) (n1 := 2048) (iblk m c 1 t) fun r => n (t.val * 256 + r) := fun j => by
  blk_simp [iblk, index1]
  entry_read
  rw [h]
  blk_simp [index1]

theorem block_x (h : Has2 (n0 := 2048) (n1 := 2048) (m ((c : Thread nD τ).loc main_arg2)) x) (t : Fin cfg0.N) :
    Has2 (n0 := 256) (n1 := 2048) (iblk m c 2 t) fun r => x (t.val * 256 + r) := fun j => by
  blk_simp [iblk, index2]
  entry_read
  rw [h]
  blk_simp [index2]

theorem block_g (h : Has1 (n := 2048) (m ((c : Thread nD τ).loc main_arg3)) g) (t : Fin cfg0.N) :
    Has2 (n0 := 1) (n1 := 2048) (iblk m c 3 t) fun _ => g := fun j => by
  blk_simp [iblk, index3]
  entry_read
  pointwise
  refine (h _).trans ?_
  blk_simp [index3]

section Kernel

variable (hd : Has2 (n0 := 2048) (n1 := 2048) (m ((c : Thread nD τ).loc main_arg0)) d)
  (hn : Has2 (n0 := 2048) (n1 := 2048) (m ((c : Thread nD τ).loc main_arg1)) n)
  (hx : Has2 (n0 := 2048) (n1 := 2048) (m ((c : Thread nD τ).loc main_arg2)) x)
  (hg : Has1 (n := 2048) (m ((c : Thread nD τ).loc main_arg3)) g)

include hd hn hx hg in
/-- The kernel's gradient of the norm's argument. -/
theorem kernel_x : (dats m 0 c).arrAt 4 cfg0.N = fun i => d (i 0).val (i 1).val + bwd (n (i 0).val) (x (i 0).val) g (i 1).val := by
  refine (dats m 0 c).arrAt_eq_of_covers 4 _ (by decide +kernel) fun t hf i => ?_
  have pay : (outsAt0 m c t.val t.isLt).1 i = d (t.val * 256 + (i 0).val) (i 1).val + bwd (n (t.val * 256 + (i 0).val)) (x (t.val * 256 + (i 0).val)) g (i 1).val := by
    by_cases h : t.val % 8 = 0
    · rw [outsAt0_A m c t h (by have : t.val < 8 := t.isLt; omega)]
      frame_out
      rw [pay5_eq, addf_apply, block_has (block_x hx t) (block_n hn t) (block_g hg t) i, block_d hd t i]
    · rw [outsAt0_B m c t h (by omega)]
      frame_out
      rw [pay5_eq, addf_apply, block_has (block_x hx t) (block_n hn t) (block_g hg t) i, block_d hd t i]
  blk_simp
  rw [after0_4, pay]
  blk_simp [index4]

include hn hx in
/-- The kernel's gradient of the gain. -/
theorem kernel_g : (dats m 0 c).arrAt 5 cfg0.N = fun i => ∑ r ∈ range 2048, n r (i 1).val * (x r (i 1).val * scale (x r)) := by
  refine (dats m 0 c).arrAt_eq_of_covers 5 _ (by decide +kernel) fun t hf i => ?_
  have h7 : t.val % 8 = 7 := (flush0_5 t).mp hf
  have ht : t.val < 8 := t.isLt
  blk_simp
  rw [after0_5]
  refine (Pipeline.eq_sum_of_reset_step_apply_divmod (fun n h => (outsAt0 m c n h).2) 8 (fun _ => (0 : EReal))
    (fun p s i => ∑ r ∈ range 256, n ((p * 8 + s) * 256 + r) (i 1).val * (x ((p * 8 + s) * 256 + r) (i 1).val * scale (x ((p * 8 + s) * 256 + r))))
    (fun t h j => ?_) (fun t h j => ?_) t i).trans ?_
  · rw [outsAt0_A m c t h (by have : t.val < 8 := t.isLt; omega)]
    frame_out
    rw [gain_block (block_x hx t) (block_n hn t) j, zero_add]
    simp only [show t.val / 8 * 8 + t.val % 8 = t.val by omega]
  · rw [outsAt0_B m c t h (by omega)]
    frame_out
    rw [gain_step (block_x hx t) (block_n hn t)]
    simp only [show t.val / 8 * 8 + t.val % 8 = t.val by omega]
  · rw [h7]
    refine (gain_total (fun r => n r (i 1).val * (x r (i 1).val * scale (x r))) _ (by omega)).trans ?_
    blk_simp [index5]

end Kernel

/-- The shape relations of the precondition's own operations hold. -/
theorem finite_facts : Cert.Pre_finite_first_norm.Facts where
  bcast_S_S2048x2048 := by decide
  reducesTo_S2048x2048_S_d0_1 := by decide
  h_S_ := by decide
  bcast_S_S2048 := by decide
  reducesTo_S2048_S_d0 := by decide

instance : Subsingleton Cert.Pre_finite_first_norm.S_.Idx := ⟨fun a b => funext fun k => k.elim0⟩

/-- Where the precondition holds, each argument holds reals. -/
theorem reals [Cert.Pre_finite_first_norm.Facts] (x0 x1 x2 : FVec Ideal S2048x2048 .f32) (x3 : FVec Ideal S2048 .f32)
    (h : Cert.Pre_finite_first_norm.fn (F := Ideal) x0 x1 x2 x3 = fun _ => 1#1) :
    ∃ d n x g, Real2 (n0 := 2048) (n1 := 2048) x0 d ∧ Real2 (n0 := 2048) (n1 := 2048) x1 n ∧ Real2 (n0 := 2048) (n1 := 2048) x2 x
      ∧ Real1 (n := 2048) x3 g := by
  have all := congrFun h (fun k => k.elim0)
  obtain ⟨h012, h3⟩ := both_one all
  obtain ⟨h01, h2⟩ := both_one h012
  obtain ⟨h0, h1⟩ := both_one h01
  obtain ⟨d, hd⟩ := Real2.exists (n0 := 2048) (n1 := 2048) x0 (real_of_all x0 _ (fun _ => rfl) _ _ _ _ h0)
  obtain ⟨n, hn⟩ := Real2.exists (n0 := 2048) (n1 := 2048) x1 (real_of_all x1 _ (fun _ => rfl) _ _ _ _ h1)
  obtain ⟨x, hx⟩ := Real2.exists (n0 := 2048) (n1 := 2048) x2 (real_of_all x2 _ (fun _ => rfl) _ _ _ _ h2)
  obtain ⟨g, hg⟩ := Real1.exists (n := 2048) x3 (real_of_all x3 _ (fun _ => rfl) _ _ _ _ h3)
  exact ⟨d, n, x, g, hd, hn, hx, hg⟩

theorem frame_reference : Cert.quiescent_FirstNormReferenceIdeal := fun m g _ =>
  (θ_run (Cert.FirstNormReferenceIdeal.defs (F := Ideal)) _ _).mono (fun r h => ⟨fun c => (h c).2.2,
      Idealize.ShloMosaic.sem_eq_zero_of_no_sems (by decide) r.2⟩)
    (Cert.FirstNormReferenceIdeal.Value.run (F := Ideal) m g)

/-- On finite arguments the two programs end with the same two gradients: of the norm's argument and of its gain. -/
theorem same : Cert.algebraic_FirstNormIdeal_FirstNormReferenceIdeal_pre_finite_first_norm (hPre_finite_first_norm := finite_facts) := by
  intro m g m' g' pre same
  refine ⟨fun c => (dats m 0 c).arrAt 4 cfg0.N, fun c => (dats m 0 c).arrAt 5 cfg0.N, Cert.FirstNormIdeal.Value.run_blocks m g, ?_⟩
  refine (θ_run (Cert.FirstNormReferenceIdeal.defs (F := Ideal)) _ _).mono (fun r h c => ?_) (Cert.FirstNormReferenceIdeal.Value.run (F := Ideal) m' g')
  obtain ⟨d, n, x, p, hd, hn, hx, hp⟩ := @reals finite_facts _ _ _ _ (pre c)
  obtain ⟨h0, h1, kept⟩ := h c
  obtain ⟨e0, e1, e2, e3⟩ := same c
  refine ⟨?_, ?_, kept⟩
  · refine (h0.trans (Cert.FirstNormReferenceIdeal.Read.val_main_v36_eq _ _ _ _)).trans ?_
    rw [e0, e1, e2, e3]
    refine (funext (RefNorm.gradient_add hd hn hx hp)).trans ?_
    refine Eq.trans (funext fun i => ?_) (kernel_x (d := fun r c => (d r c : EReal)) (n := fun r c => (n r c : EReal)) (x := fun r c => (x r c : EReal))
      (g := fun c => (p c : EReal)) hd hn hx hp).symm
    rw [bwd_real, EReal.coe_add]
  · refine (h1.trans (Cert.FirstNormReferenceIdeal.Read.val_main_v37_eq _ _)).trans ?_
    rw [e1, e2]
    exact (funext (RefNorm.gain (n := fun r c => (n r c : EReal)) (x := fun r c => (x r c : EReal)) hn hx)).trans
      (kernel_g (n := fun r c => (n r c : EReal)) (x := fun r c => (x r c : EReal)) hn hx).symm

end Cert.Proof.FirstNorm

end
-- ==== Proof.EvenOut.lean ====
/- The output product of the even layer with the norm after it, the sum with the layer's input, and the next layer's norm. -/
module

public import proofs.«01_k».proof.Proof.FirstNorm
public import proofs.«01_k».proof.Proof.Gen.EvenOutIdeal.Value
public import proofs.«01_k».proof.Proof.Gen.EvenOutReferenceIdeal.Run
public import proofs.«01_k».proof.Proof.Gen.EvenOutReferenceIdeal.Read

@[expose] public section

set_option maxRecDepth 16384

noncomputable section

namespace Cert.Proof.EvenOut

open Cert.EvenOutIdeal Cert.EvenOutIdeal.Gen Idealize.ShloMosaic Idealize.ShloMosaic.TcCoe Idealize.ShloMosaic.ValueIdx Finset
open Idealize.SL.Sem Norm

section Block

variable {y w x : ℕ → ℕ → EReal} {p q : ℕ → EReal} {v : FVec Ideal S256x2048 .bf16} {b : FVec Ideal S2048x2048 .bf16}
  {a : FVec Ideal S256x2048 .f32} {u z : FVec Ideal S1x2048 .f32}

theorem pay3_eq : k0_pay3 (F := Ideal) v b a u = addf a (FirstNorm.normed (k0_pay2 v b) u) := rfl
theorem pay4_eq : k0_pay4 (F := Ideal) v b a u z = FirstNorm.normed (k0_pay3 v b a u) z := rfl

/-- A row of the product. -/
def prod (y w : ℕ → ℕ → EReal) (r c : ℕ) : EReal := ∑ k ∈ range 2048, y r k * w k c

/-- The next layer's input: this layer's input and the normed product. -/
def next (y w x : ℕ → ℕ → EReal) (p : ℕ → EReal) (r c : ℕ) : EReal := x r c + prod y w r c * scale (prod y w r) * p c

theorem product (hy : Has2 (n0 := 256) (n1 := 2048) v y) (hw : Has2 (n0 := 2048) (n1 := 2048) b w) :
    Has2 (n0 := 256) (n1 := 2048) (k0_pay2 (F := Ideal) v b) (prod y w) := fun i => by
  unfold k0_pay2
  pointwise
  exact sum_fin_mul 2048 (y (i 0).val) (fun k => w k (i 1).val) _ _ (fun k => hy _) (fun k => hw _)

theorem summed (hy : Has2 (n0 := 256) (n1 := 2048) v y) (hw : Has2 (n0 := 2048) (n1 := 2048) b w) (hx : Has2 (n0 := 256) (n1 := 2048) a x)
    (hp : Has2 (n0 := 1) (n1 := 2048) u fun _ => p) : Has2 (n0 := 256) (n1 := 2048) (k0_pay3 (F := Ideal) v b a u) (next y w x p) := fun i => by
  rw [pay3_eq, addf_apply, hx, FirstNorm.normed_has (product hy hw) hp i]
  rfl

end Block

theorem index0 : ∀ t, win0_0.index t = ![t.val, 0] := by decide +kernel
theorem index1 : ∀ t, win0_1.index t = ![0, 0] := by decide +kernel
theorem index2 : ∀ t, win0_2.index t = ![t.val, 0] := by decide +kernel
theorem index3 : ∀ t, win0_3.index t = ![0, 0] := by decide +kernel
theorem index4 : ∀ t, win0_4.index t = ![0, 0] := by decide +kernel
theorem index5 : ∀ t, win0_5.index t = ![t.val, 0] := by decide +kernel
theorem index6 : ∀ t, win0_6.index t = ![t.val, 0] := by decide +kernel
theorem index7 : ∀ t, win0_7.index t = ![t.val, 0] := by decide +kernel

/-- What the arguments hold. -/
structure Args (a0 a1 a2 : S2048x2048.Idx → EReal) (a3 a4 : S2048.Idx → EReal) (y w x : ℕ → ℕ → EReal) (p q : ℕ → EReal) : Prop where
  hy : Has2 (n0 := 2048) (n1 := 2048) a0 y
  hw : Has2 (n0 := 2048) (n1 := 2048) a1 w
  hx : Has2 (n0 := 2048) (n1 := 2048) a2 x
  hp : Has1 (n := 2048) a3 p
  hq : Has1 (n := 2048) a4 q

variable {y w x : ℕ → ℕ → EReal} {p q : ℕ → EReal} {m : (ℓ : Loc nD τ sig) → Buf (Elt Ideal) ℓ} {c : Dev nD}

section Kernel

variable (h : Args (m ((c : Thread nD τ).loc main_arg0)) (m ((c : Thread nD τ).loc main_arg1)) (m ((c : Thread nD τ).loc main_arg2))
  (m ((c : Thread nD τ).loc main_arg3)) (m ((c : Thread nD τ).loc main_arg4)) y w x p q)

include h

theorem block_y (t : Fin cfg0.N) : Has2 (n0 := 256) (n1 := 2048) (iblk m c 0 t) fun r => y (t.val * 256 + r) := fun j => by
  blk_simp [iblk, index0]
  entry_read
  rw [h.hy]
  blk_simp [index0]

theorem block_w (t : Fin cfg0.N) : Has2 (n0 := 2048) (n1 := 2048) (iblk m c 1 t) w := fun j => by
  blk_simp [iblk, index1]
  entry_read
  refine (h.hw _).trans ?_
  blk_simp [index1]

theorem block_x (t : Fin cfg0.N) : Has2 (n0 := 256) (n1 := 2048) (iblk m c 2 t) fun r => x (t.val * 256 + r) := fun j => by
  blk_simp [iblk, index2]
  entry_read
  rw [h.hx]
  blk_simp [index2]

theorem block_p (t : Fin cfg0.N) : Has2 (n0 := 1) (n1 := 2048) (iblk m c 3 t) fun _ => p := fun j => by
  blk_simp [iblk, index3]
  entry_read
  pointwise
  refine (h.hp _).trans ?_
  blk_simp [index3]

theorem block_q (t : Fin cfg0.N) : Has2 (n0 := 1) (n1 := 2048) (iblk m c 4 t) fun _ => q := fun j => by
  blk_simp [iblk, index4]
  entry_read
  pointwise
  refine (h.hq _).trans ?_
  blk_simp [index4]

/-- The product. -/
theorem kernel_product : (dats m 0 c).arrAt 5 cfg0.N = fun i => prod y w (i 0).val (i 1).val := by
  refine (dats m 0 c).arrAt_eq_of_covers 5 _ (by decide +kernel) fun t hf i => ?_
  blk_simp
  rw [after0_5]
  unfold outsAt0
  frame_out
  refine (product (block_y h t) (block_w h t) i).trans ?_
  unfold prod
  blk_simp [index5]

/-- The next layer's input. -/
theorem kernel_next : (dats m 0 c).arrAt 6 cfg0.N = fun i => next y w x p (i 0).val (i 1).val := by
  refine (dats m 0 c).arrAt_eq_of_covers 6 _ (by decide +kernel) fun t hf i => ?_
  blk_simp
  rw [after0_6]
  unfold outsAt0
  frame_out
  refine (summed (block_y h t) (block_w h t) (block_x h t) (block_p h t) i).trans ?_
  show next y w x p (t.val * 256 + (i 0).val) (i 1).val = _
  blk_simp [index6]

/-- The next layer's input, normed. -/
theorem kernel_normed : (dats m 0 c).arrAt 7 cfg0.N
    = fun i => next y w x p (i 0).val (i 1).val * scale (next y w x p (i 0).val) * q (i 1).val := by
  refine (dats m 0 c).arrAt_eq_of_covers 7 _ (by decide +kernel) fun t hf i => ?_
  blk_simp
  rw [after0_7]
  unfold outsAt0
  frame_out
  unfold k0_pay1
  rw [pay4_eq]
  refine (FirstNorm.normed_has (summed (block_y h t) (block_w h t) (block_x h t) (block_p h t)) (block_q h t) i).trans ?_
  show next y w x p (t.val * 256 + (i 0).val) (i 1).val * scale (next y w x p (t.val * 256 + (i 0).val)) * q (i 1).val = _
  blk_simp [index7]

end Kernel

section Reference

open Cert.EvenOutReferenceIdeal.Read

variable {a0 a1 a2 : S2048x2048.Idx → EReal} {a3 a4 : S2048.Idx → EReal} (h : Args a0 a1 a2 a3 a4 y w x p q)

include h

theorem reference_product : Has2 (n0 := 2048) (n1 := 2048) (val_main_v1 (F := Ideal) a0 a1) (prod y w) := fun i => by
  rw [val_main_v1_apply]
  exact sum_fin_mul 2048 (y (i 0).val) (fun k => w k (i 1).val) _ _ (fun k => h.hy _) (fun k => h.hw _)

theorem reference_next : Has2 (n0 := 2048) (n1 := 2048) (val_main_v15 (F := Ideal) a0 a1 a2 a3) (next y w x p) := fun i => by
  have e : val_main_v14 (F := Ideal) a0 a1 a3 i = _ :=
    RefNorm.normed (x2 := val_main_v1 (F := Ideal) a0 a1) (x3 := a3) (reference_product h) h.hp i
  rw [val_main_v15_apply, e, h.hx]
  rfl

theorem reference_normed : Has2 (n0 := 2048) (n1 := 2048) (val_main_v29 (F := Ideal) a0 a1 a2 a3 a4)
    fun r c => next y w x p r c * scale (next y w x p r) * q c :=
  RefNorm.normed (x2 := val_main_v15 (F := Ideal) a0 a1 a2 a3) (x3 := a4) (reference_next h) h.hq

end Reference

theorem frame_reference : Cert.quiescent_EvenOutReferenceIdeal := fun m g _ =>
  (θ_run (Cert.EvenOutReferenceIdeal.defs (F := Ideal)) _ _).mono (fun r h => ⟨fun c => (h c).2.2.2,
      Idealize.ShloMosaic.sem_eq_zero_of_no_sems (by decide) r.2⟩)
    (Cert.EvenOutReferenceIdeal.Value.run (F := Ideal) m g)

/-- The two programs end with the same product, the same next input and the same normed next input. -/
theorem same : Cert.algebraic_EvenOutIdeal_EvenOutReferenceIdeal := by
  intro m g m' g' _ same
  refine ⟨fun c => (dats m 0 c).arrAt 5 cfg0.N, fun c => (dats m 0 c).arrAt 6 cfg0.N, fun c => (dats m 0 c).arrAt 7 cfg0.N,
    Cert.EvenOutIdeal.Value.run_blocks m g, ?_⟩
  refine (θ_run (Cert.EvenOutReferenceIdeal.defs (F := Ideal)) _ _).mono (fun r h c => ?_) (Cert.EvenOutReferenceIdeal.Value.run (F := Ideal) m' g')
  obtain ⟨y, hy⟩ := Has2.exists (n0 := 2048) (n1 := 2048) (m ((c : Thread nD τ).loc main_arg0))
  obtain ⟨w, hw⟩ := Has2.exists (n0 := 2048) (n1 := 2048) (m ((c : Thread nD τ).loc main_arg1))
  obtain ⟨x, hx⟩ := Has2.exists (n0 := 2048) (n1 := 2048) (m ((c : Thread nD τ).loc main_arg2))
  obtain ⟨p, hp⟩ := Has1.exists (n := 2048) (m ((c : Thread nD τ).loc main_arg3))
  obtain ⟨q, hq⟩ := Has1.exists (n := 2048) (m ((c : Thread nD τ).loc main_arg4))
  have held := Args.mk hy hw hx hp hq
  obtain ⟨h0, h1, h2, kept⟩ := h c
  obtain ⟨e0, e1, e2, e3, e4, -⟩ := same c
  refine ⟨?_, ?_, ?_, kept⟩
  · refine (h0.trans (Cert.EvenOutReferenceIdeal.Read.val_main_v1_eq _ _)).trans ?_
    rw [e0, e1]
    exact (funext (reference_product held)).trans (kernel_product held).symm
  · refine (h1.trans (Cert.EvenOutReferenceIdeal.Read.val_main_v15_eq _ _ _ _)).trans ?_
    rw [e0, e1, e2, e3]
    exact (funext (reference_next held)).trans (kernel_next held).symm
  · refine (h2.trans (Cert.EvenOutReferenceIdeal.Read.val_main_v29_eq _ _)).trans ?_
    rw [e0, e1, e2, e3, e4]
    exact (funext (reference_normed held)).trans (kernel_normed held).symm

end Cert.Proof.EvenOut

end
-- ==== Proof.CastOut.lean ====
/- The cast of an output product's weights: the identity over the reals. -/
module

public import proofs.«01_k».proof.Proof.EvenOut
public import proofs.«01_k».proof.Proof.Gen.CastOutIdeal.Value
public import proofs.«01_k».proof.Proof.Gen.CastOutReferenceIdeal.Run
public import proofs.«01_k».proof.Proof.Gen.CastOutReferenceIdeal.Read

@[expose] public section

set_option maxRecDepth 16384

noncomputable section

namespace Cert.Proof.CastOut

open Cert.CastOutIdeal Cert.CastOutIdeal.Gen Idealize.ShloMosaic Idealize.ShloMosaic.TcCoe Idealize.ShloMosaic.ValueIdx
open Idealize.SL.Sem

variable {w : ℕ → ℕ → EReal} {m : (ℓ : Loc nD τ sig) → Buf (Elt Ideal) ℓ} {c : Dev nD}

theorem index0 : ∀ t, win0_0.index t = ![t.val, 0] := by decide +kernel
theorem index1 : ∀ t, win0_1.index t = ![t.val, 0] := by decide +kernel

section Kernel

variable (hw : Has2 (n0 := 256) (n1 := 2048) (m ((c : Thread nD τ).loc main_arg0)) w)

include hw

theorem kernel : (dats m 0 c).arrAt 1 cfg0.N = fun i => w (i 0).val (i 1).val := by
  refine (dats m 0 c).arrAt_eq_of_covers 1 _ (by decide +kernel) fun t hf i => ?_
  blk_simp
  rw [after0_1]
  frame_out
  unfold k0_pay1
  pointwise
  blk_simp [iblk, index0]
  entry_read
  rw [hw]
  blk_simp [index0, index1]

end Kernel

theorem frame_reference : Cert.quiescent_CastOutReferenceIdeal := fun m g _ =>
  (θ_run (Cert.CastOutReferenceIdeal.defs (F := Ideal)) _ _).mono (fun r h => ⟨fun c => (h c).2,
      Idealize.ShloMosaic.sem_eq_zero_of_no_sems (by decide) r.2⟩)
    (Cert.CastOutReferenceIdeal.Value.run (F := Ideal) m g)

/-- The two programs end with the same weights. -/
theorem same : Cert.algebraic_CastOutIdeal_CastOutReferenceIdeal := by
  intro m g m' g' _ same
  refine ⟨fun c => (dats m 0 c).arrAt 1 cfg0.N, Cert.CastOutIdeal.Value.run_blocks m g, ?_⟩
  refine (θ_run (Cert.CastOutReferenceIdeal.defs (F := Ideal)) _ _).mono (fun r h c => ?_)
    (Cert.CastOutReferenceIdeal.Value.run (F := Ideal) m' g')
  obtain ⟨w, hw⟩ := Has2.exists (n0 := 256) (n1 := 2048) (m ((c : Thread nD τ).loc main_arg0))
  obtain ⟨h0, kept⟩ := h c
  have e0 := same c
  refine ⟨?_, kept⟩
  refine (h0.trans (Cert.CastOutReferenceIdeal.Read.val_main_v0_eq _)).trans ?_
  rw [e0]
  exact (funext fun i => (Cert.CastOutReferenceIdeal.Read.val_main_v0_apply _ i).trans (hw i)).trans (kernel hw).symm

end Cert.Proof.CastOut

end
-- ==== Proof.Adam.lean ====
/- The optimiser's step on one weight, and the sum of a gradient's parts. -/
module

public import proofs.«01_k».proof.Proof.EvenOut

@[expose] public section

noncomputable section

namespace Cert.Proof.Adam

open Idealize.ShloMosaic Finset

/-- The running mean of the gradients. -/
def mean (m g : EReal) : EReal := Ideal.ofBits .f32 0x3F666666#32 * m + Ideal.ofBits .f32 0x3DCCCCCD#32 * g

/-- The running mean of their squares. -/
def square (v g : EReal) : EReal := Ideal.ofBits .f32 0x3F7FBE77#32 * v + Ideal.ofBits .f32 0x3A83126F#32 * (g * g)

/-- The change of the weight. -/
def delta (w m v g : EReal) : EReal :=
  Ideal.ofBits .f32 0xBA83126F#32 * (Ideal.div (Ideal.div (mean m g) (Ideal.ofBits .f32 0x3F26BD02#32))
    (Ideal.sqrt (Ideal.div (square v g) (Ideal.ofBits .f32 0x3C231ACC#32)) + Ideal.ofBits .f32 0x322BCC77#32) + Ideal.ofBits .f32 0x3C23D70A#32 * w)

/-- The sum of a gradient's parts, from the first on. -/
def total (n : ℕ) (p : ℕ → ℕ → ℕ → EReal) (r c : ℕ) : EReal := ∑ k ∈ range n, p k r c

theorem has3_exists {n0 n1 n2 : ℕ} (x : (⟨3, ![n0, n1, n2]⟩ : Shape).Idx → EReal) : ∃ f, Has3 x f := by
  classical
  refine ⟨fun a b d => if p : a < n0 ∧ b < n1 ∧ d < n2 then
    x (ValueIdx.ix3 (n0 := n0) (n1 := n1) (n2 := n2) ⟨a, p.1⟩ ⟨b, p.2.1⟩ ⟨d, p.2.2⟩) else 0, fun i => ?_⟩
  have e : i = ValueIdx.ix3 (n0 := n0) (n1 := n1) (n2 := n2) ⟨(i 0).val, (i 0).isLt⟩ ⟨(i 1).val, (i 1).isLt⟩ ⟨(i 2).val, (i 2).isLt⟩ := by
    funext k; fin_cases k <;> rfl
  have p : (i 0).val < n0 ∧ (i 1).val < n1 ∧ (i 2).val < n2 := ⟨(i 0).isLt, (i 1).isLt, (i 2).isLt⟩
  simp only [p, and_self, dif_pos]
  rw [← e]

end Cert.Proof.Adam

end
-- ==== Proof.SumFirstGain.lean ====
/- The sum of the devices' parts of the gradient of the first norm's gain. -/
module

public import proofs.«01_k».proof.Proof.Adam
public import proofs.«01_k».proof.Proof.Gen.SumFirstGainIdeal.Value
public import proofs.«01_k».proof.Proof.Gen.SumFirstGainReferenceIdeal.Run
public import proofs.«01_k».proof.Proof.Gen.SumFirstGainReferenceIdeal.Read

@[expose] public section

set_option maxRecDepth 16384

noncomputable section

namespace Cert.Proof.SumFirstGain

open Cert.SumFirstGainIdeal Cert.SumFirstGainIdeal.Gen Idealize.ShloMosaic Idealize.ShloMosaic.TcCoe Idealize.ShloMosaic.ValueIdx Finset
open Idealize.SL.Sem Adam

variable {x : ℕ → ℕ → ℕ → EReal} {m : (ℓ : Loc nD τ sig) → Buf (Elt Ideal) ℓ} {c : Dev nD}

theorem index0 : ∀ t, win0_0.index t = ![0, 0, 0] := by decide +kernel
theorem index1 : ∀ t, win0_1.index t = ![0, 0] := by decide +kernel

section Kernel

variable (hx : Has3 (n0 := 8) (n1 := 16) (n2 := 128) (m ((c : Thread nD τ).loc main_arg0)) x)

include hx

theorem block (t : Fin cfg0.N) : Has3 (n0 := 8) (n1 := 16) (n2 := 128) (iblk m c 0 t) x := fun j => by
  blk_simp [iblk, index0]
  entry_read
  refine (hx _).trans ?_
  blk_simp [index0]

/-- The eight parts are added from the first on. -/
theorem kernel : (dats m 0 c).arrAt 1 cfg0.N = fun i => total 8 x (i 0).val (i 1).val := by
  refine (dats m 0 c).arrAt_eq_of_covers 1 _ (by decide +kernel) fun t hf i => ?_
  blk_simp
  rw [after0_1]
  unfold outsAt0
  frame_out
  unfold k0_pay1
  pointwise
  simp only [block hx t _, total, sum_range_succ, sum_range_zero, zero_add]
  blk_simp [index1]
  rfl

end Kernel

theorem frame_reference : Cert.quiescent_SumFirstGainReferenceIdeal := fun m g _ =>
  (θ_run (Cert.SumFirstGainReferenceIdeal.defs (F := Ideal)) _ _).mono (fun r h => ⟨fun c => (h c).2,
      Idealize.ShloMosaic.sem_eq_zero_of_no_sems (by decide) r.2⟩)
    (Cert.SumFirstGainReferenceIdeal.Value.run (F := Ideal) m g)

theorem reference {x0 : S8x16x128.Idx → EReal} (hx : Has3 (n0 := 8) (n1 := 16) (n2 := 128) x0 x) :
    Has2 (n0 := 16) (n1 := 128) (Cert.SumFirstGainReferenceIdeal.Read.val_main_v0 (F := Ideal) x0) (total 8 x) := fun i => by
  rw [Cert.SumFirstGainReferenceIdeal.Read.val_main_v0_apply, Cert.SumFirstGainReferenceIdeal.Read.val_main_cst_apply, Ideal.ofBits_def,
    Ideal.ofBits_zero_f32, zero_add]
  exact sum_fin_eq 8 (fun d => x d (i 0).val (i 1).val) _ fun d => hx _

/-- The two programs end with the same sum. -/
theorem same : Cert.algebraic_SumFirstGainIdeal_SumFirstGainReferenceIdeal := by
  intro m g m' g' _ same
  refine ⟨fun c => (dats m 0 c).arrAt 1 cfg0.N, Cert.SumFirstGainIdeal.Value.run_blocks m g, ?_⟩
  refine (θ_run (Cert.SumFirstGainReferenceIdeal.defs (F := Ideal)) _ _).mono (fun r h c => ?_)
    (Cert.SumFirstGainReferenceIdeal.Value.run (F := Ideal) m' g')
  obtain ⟨x, hx⟩ := has3_exists (n0 := 8) (n1 := 16) (n2 := 128) (m ((c : Thread nD τ).loc main_arg0))
  obtain ⟨h0, kept⟩ := h c
  obtain ⟨e0, -⟩ := same c
  refine ⟨?_, kept⟩
  refine (h0.trans (Cert.SumFirstGainReferenceIdeal.Read.val_main_v0_eq _)).trans ?_
  rw [e0]
  exact (funext (reference hx)).trans (kernel hx).symm

end Cert.Proof.SumFirstGain

end
-- ==== Proof.JoinColumns.lean ====
/- The joining of the columns of the gradient of the even layer's in-product. -/
module

public import proofs.«01_k».proof.Proof.EvenOut
public import proofs.«01_k».proof.Proof.Gen.JoinColumnsIdeal.Value
public import proofs.«01_k».proof.Proof.Gen.JoinColumnsReferenceIdeal.Run
public import proofs.«01_k».proof.Proof.Gen.JoinColumnsReferenceIdeal.Read

@[expose] public section

set_option maxRecDepth 16384

noncomputable section

namespace Cert.Proof.JoinColumns

open Cert.JoinColumnsIdeal Cert.JoinColumnsIdeal.Gen Idealize.ShloMosaic Idealize.ShloMosaic.TcCoe Idealize.ShloMosaic.ValueIdx
open Idealize.SL.Sem

variable {a b d e f g : ℕ → ℕ → EReal} {m : (ℓ : Loc nD τ sig) → Buf (Elt Ideal) ℓ} {c : Dev nD}

/-- The six matrices side by side: two of 1024 columns, three of 3072, one of 1024. -/
def joined (a b d e f g : ℕ → ℕ → EReal) (r k : ℕ) : EReal :=
  if k < 1024 then a r k else if k < 2048 then b r (k - 1024) else if k < 5120 then d r (k - 2048)
  else if k < 8192 then e r (k - 5120) else if k < 11264 then f r (k - 8192) else g r (k - 11264)

theorem index0 : ∀ t, win0_0.index t = ![t.val, 0] := by decide +kernel
theorem index1 : ∀ t, win0_1.index t = ![t.val, 0] := by decide +kernel
theorem index2 : ∀ t, win0_2.index t = ![t.val, 0] := by decide +kernel
theorem index3 : ∀ t, win0_3.index t = ![t.val, 0] := by decide +kernel
theorem index4 : ∀ t, win0_4.index t = ![t.val, 0] := by decide +kernel
theorem index5 : ∀ t, win0_5.index t = ![t.val, 0] := by decide +kernel
theorem index6 : ∀ t, win0_6.index t = ![t.val, 0] := by decide +kernel

section Kernel

variable (ha : Has2 (n0 := 2048) (n1 := 1024) (m ((c : Thread nD τ).loc main_arg0)) a)
  (hb : Has2 (n0 := 2048) (n1 := 1024) (m ((c : Thread nD τ).loc main_arg1)) b)
  (hd : Has2 (n0 := 2048) (n1 := 3072) (m ((c : Thread nD τ).loc main_arg2)) d)
  (he : Has2 (n0 := 2048) (n1 := 3072) (m ((c : Thread nD τ).loc main_arg3)) e)
  (hf : Has2 (n0 := 2048) (n1 := 3072) (m ((c : Thread nD τ).loc main_arg4)) f)
  (hg : Has2 (n0 := 2048) (n1 := 1024) (m ((c : Thread nD τ).loc main_arg5)) g)

include ha hb hd he hf hg

/-- Each matrix is stored over its own columns. -/
theorem kernel : (dats m 0 c).arrAt 6 cfg0.N = fun i => joined a b d e f g (i 0).val (i 1).val := by
  refine (dats m 0 c).arrAt_eq_of_covers 6 _ (by decide +kernel) fun t _ i => ?_
  blk_simp
  rw [after0_6]
  unfold outsAt0
  frame_out
  canon_tiles x h using View.cover_of_tiledBy _ ![256, 1024] (by sl_kernel_rfl) _
  all_goals
    blk_simp [iblk, index0, index1, index2, index3, index4, index5, index6]
    entry_read
    first | rw [ha] | rw [hb] | rw [hd] | rw [he] | rw [hf] | rw [hg]
    first
      | have bound : (x 1).val < 1024 := x1_lt
      | have bound : (x 1).val < 3072 := x1_lt
    blk_simp [index0, index1, index2, index3, index4, index5]
    rw [h0, h1, joined]
    (repeat' split) <;> first | omega | rw [Nat.add_sub_cancel_left] | rfl

end Kernel

theorem frame_reference : Cert.quiescent_JoinColumnsReferenceIdeal := fun m g _ =>
  (θ_run (Cert.JoinColumnsReferenceIdeal.defs (F := Ideal)) _ _).mono (fun r h => ⟨fun c => (h c).2,
      Idealize.ShloMosaic.sem_eq_zero_of_no_sems (by decide) r.2⟩)
    (Cert.JoinColumnsReferenceIdeal.Value.run (F := Ideal) m g)

theorem reference {x0 x1 x5 : S2048x1024.Idx → EReal} {x2 x3 x4 : S2048x3072.Idx → EReal}
    (ha : Has2 (n0 := 2048) (n1 := 1024) x0 a) (hb : Has2 (n0 := 2048) (n1 := 1024) x1 b)
    (hd : Has2 (n0 := 2048) (n1 := 3072) x2 d) (he : Has2 (n0 := 2048) (n1 := 3072) x3 e)
    (hf : Has2 (n0 := 2048) (n1 := 3072) x4 f) (hg : Has2 (n0 := 2048) (n1 := 1024) x5 g) :
    Has2 (n0 := 2048) (n1 := 12288)
      (Cert.JoinColumnsReferenceIdeal.Read.val_main_v0 (F := Ideal) x0 x1 x2 x3 x4 x5) (joined a b d e f g) := fun i => by
  unfold Cert.JoinColumnsReferenceIdeal.Read.val_main_v0 joined
  pointwise
  simp only [Nat.sub_sub, Nat.reduceAdd]
  (repeat' split) <;> first | omega | exact ha _ | exact hb _ | exact hd _ | exact he _ | exact hf _ | exact hg _

/-- The two programs end with the same columns. -/
theorem same : Cert.algebraic_JoinColumnsIdeal_JoinColumnsReferenceIdeal := by
  intro m g m' g' _ same
  refine ⟨fun c => (dats m 0 c).arrAt 6 cfg0.N, Cert.JoinColumnsIdeal.Value.run_blocks m g, ?_⟩
  refine (θ_run (Cert.JoinColumnsReferenceIdeal.defs (F := Ideal)) _ _).mono (fun r h c => ?_)
    (Cert.JoinColumnsReferenceIdeal.Value.run (F := Ideal) m' g')
  obtain ⟨a, ha⟩ := Has2.exists (n0 := 2048) (n1 := 1024) (m ((c : Thread nD τ).loc main_arg0))
  obtain ⟨b, hb⟩ := Has2.exists (n0 := 2048) (n1 := 1024) (m ((c : Thread nD τ).loc main_arg1))
  obtain ⟨d, hd⟩ := Has2.exists (n0 := 2048) (n1 := 3072) (m ((c : Thread nD τ).loc main_arg2))
  obtain ⟨e, he⟩ := Has2.exists (n0 := 2048) (n1 := 3072) (m ((c : Thread nD τ).loc main_arg3))
  obtain ⟨f, hf⟩ := Has2.exists (n0 := 2048) (n1 := 3072) (m ((c : Thread nD τ).loc main_arg4))
  obtain ⟨g, hg⟩ := Has2.exists (n0 := 2048) (n1 := 1024) (m ((c : Thread nD τ).loc main_arg5))
  obtain ⟨h0, kept⟩ := h c
  obtain ⟨e0, e1, e2, e3, e4, e5⟩ := same c
  refine ⟨?_, kept⟩
  refine (h0.trans (Cert.JoinColumnsReferenceIdeal.Read.val_main_v0_eq _ _ _ _ _ _)).trans ?_
  rw [e0, e1, e2, e3, e4, e5]
  exact (funext (reference ha hb hd he hf hg)).trans (kernel ha hb hd he hf hg).symm

end Cert.Proof.JoinColumns

end
-- ==== Proof.SumSmall.lean ====
/- The sums of the devices' parts: each result is the sum over the eight devices of a range of rows. -/
module

public import proofs.«01_k».proof.Proof.Adam
public import proofs.«01_k».proof.Proof.Gen.SumSmallIdeal.Value
public import proofs.«01_k».proof.Proof.Gen.SumSmallReferenceIdeal.Run
public import proofs.«01_k».proof.Proof.Gen.SumSmallReferenceIdeal.Read

@[expose] public section

set_option maxRecDepth 16384

noncomputable section

namespace Cert.Proof.SumSmall

open Cert.SumSmallIdeal Cert.SumSmallIdeal.Gen Idealize.ShloMosaic Idealize.ShloMosaic.TcCoe Idealize.ShloMosaic.ValueIdx Finset
open Idealize.SL.Sem

variable {x : ℕ → ℕ → ℕ → EReal} {m : (ℓ : Loc nD τ sig) → Buf (Elt Ideal) ℓ} {c : Dev nD}

/-- The sum of the eight parts, over the rows from `o` on. -/
def sums (x : ℕ → ℕ → ℕ → EReal) (o r l : ℕ) : EReal := ∑ d ∈ range 8, x d (o + r) l

section Block

variable {y : Vec Ideal S8x3072x128 .f32} {n o : ℕ}

/-- That the `n` rows from `o` on of part `d` are in the array. -/
abbrev Fits (n o d : ℕ) : Prop := ∀ a : Fin 3, (![d, o, 0] : Fin 3 → ℕ) a + (![1, n, 128] : Fin 3 → ℕ) a ≤ S8x3072x128.size a

/-- The `n` rows from `o` on of part `d`. -/
abbrev rows (y : Vec Ideal S8x3072x128 .f32) (n o d : ℕ) (b : Fits n o d) (hc : (⟨3, ![1, n, 128]⟩ : Shape).ShapeCasts ⟨2, ![n, 128]⟩) :
    FVec Ideal ⟨2, ![n, 128]⟩ .f32 :=
  shapeCast ⟨2, ![n, 128]⟩ (View.ld y (Rect.unit (s := S8x3072x128) ![d, o, 0] ![1, n, 128] b)) hc

theorem rows_has (h : Has3 (n0 := 8) (n1 := 3072) (n2 := 128) y x) (d : ℕ) (b : Fits n o d)
    (hc : (⟨3, ![1, n, 128]⟩ : Shape).ShapeCasts ⟨2, ![n, 128]⟩) : Has2 (n0 := n) (n1 := 128) (rows y n o d b hc) fun r l => x d (o + r) l := fun j => by
  unfold rows
  rw [shapeCast_apply _ hc j (Idealize.ShloMosaic.ix3 (n0 := 1) (n1 := n) (n2 := 128) 0 (j 0) (j 1)) (by
    rw [Shape.rowMajor_val_three, Shape.rowMajor_val_two]
    show (0 * n + (j 0).val) * 128 + (j 1).val = (j 0).val * 128 + (j 1).val
    rw [Nat.zero_mul, Nat.zero_add])]
  refine (h _).trans ?_
  show x (d + 1 * 0) (o + 1 * (j 0).val) (0 + 1 * (j 1).val) = _
  simp

/-- The eight parts' rows added up. -/
theorem added (h : Has3 (n0 := 8) (n1 := 3072) (n2 := 128) y x) (hc : (⟨3, ![1, n, 128]⟩ : Shape).ShapeCasts ⟨2, ![n, 128]⟩)
    (b0 : Fits n o 0) (b1 : Fits n o 1) (b2 : Fits n o 2) (b3 : Fits n o 3) (b4 : Fits n o 4) (b5 : Fits n o 5) (b6 : Fits n o 6) (b7 : Fits n o 7) :
    Has2 (n0 := n) (n1 := 128) (addf (addf (addf (addf (addf (addf (addf (rows y n o 0 b0 hc) (rows y n o 1 b1 hc)) (rows y n o 2 b2 hc))
      (rows y n o 3 b3 hc)) (rows y n o 4 b4 hc)) (rows y n o 5 b5 hc)) (rows y n o 6 b6 hc)) (rows y n o 7 b7 hc)) (sums x o) := fun j => by
  show rows y n o 0 b0 hc j + rows y n o 1 b1 hc j + rows y n o 2 b2 hc j + rows y n o 3 b3 hc j + rows y n o 4 b4 hc j + rows y n o 5 b5 hc j
    + rows y n o 6 b6 hc j + rows y n o 7 b7 hc j = _
  unfold sums
  simp only [sum_range_succ, sum_range_zero, zero_add, rows_has h _ _ hc j]

end Block

theorem index0 : ∀ t, win0_0.index t = ![0, 0, 0] := by decide +kernel
theorem index1 : ∀ t, win0_1.index t = ![0, 0] := by decide +kernel
theorem index2 : ∀ t, win0_2.index t = ![0, 0] := by decide +kernel
theorem index3 : ∀ t, win0_3.index t = ![0, 0] := by decide +kernel
theorem index4 : ∀ t, win0_4.index t = ![0, 0] := by decide +kernel
theorem index5 : ∀ t, win0_5.index t = ![0, 0] := by decide +kernel
theorem index6 : ∀ t, win0_6.index t = ![0, 0] := by decide +kernel
theorem index7 : ∀ t, win0_7.index t = ![0, 0] := by decide +kernel
theorem index8 : ∀ t, win0_8.index t = ![0, 0] := by decide +kernel
theorem index9 : ∀ t, win0_9.index t = ![0, 0] := by decide +kernel
theorem index10 : ∀ t, win0_10.index t = ![0, 0] := by decide +kernel
theorem index11 : ∀ t, win0_11.index t = ![0, 0] := by decide +kernel
theorem index12 : ∀ t, win0_12.index t = ![0, 0] := by decide +kernel
theorem index13 : ∀ t, win0_13.index t = ![0, 0] := by decide +kernel
theorem index14 : ∀ t, win0_14.index t = ![0, 0] := by decide +kernel

section Kernel

variable (hx : Has3 (n0 := 8) (n1 := 3072) (n2 := 128) (m ((c : Thread nD τ).loc main_arg0)) x)

include hx

theorem block (t : Fin cfg0.N) : Has3 (n0 := 8) (n1 := 3072) (n2 := 128) (iblk m c 0 t) x := fun j => by
  blk_simp [iblk, index0]
  entry_read
  refine (hx _).trans ?_
  blk_simp [index0]

set_option maxHeartbeats 1600000 in
/-- What each result holds. -/
theorem kernel :
    (dats m 0 c).arrAt 1 cfg0.N = (fun i => sums x 0 (i 0).val (i 1).val)
    ∧ (dats m 0 c).arrAt 2 cfg0.N = (fun i => sums x 2048 (i 0).val (i 1).val)
    ∧ (dats m 0 c).arrAt 3 cfg0.N = (fun i => sums x 2056 (i 0).val (i 1).val)
    ∧ (dats m 0 c).arrAt 4 cfg0.N = (fun i => sums x 2072 (i 0).val (i 1).val)
    ∧ (dats m 0 c).arrAt 5 cfg0.N = (fun i => sums x 2088 (i 0).val (i 1).val)
    ∧ (dats m 0 c).arrAt 6 cfg0.N = (fun i => sums x 2096 (i 0).val (i 1).val)
    ∧ (dats m 0 c).arrAt 7 cfg0.N = (fun i => sums x 2104 (i 0).val (i 1).val)
    ∧ (dats m 0 c).arrAt 8 cfg0.N = (fun i => sums x 2616 (i 0).val (i 1).val)
    ∧ (dats m 0 c).arrAt 9 cfg0.N = (fun i => sums x 2864 (i 0).val (i 1).val)
    ∧ (dats m 0 c).arrAt 10 cfg0.N = (fun i => sums x 2872 (i 0).val (i 1).val)
    ∧ (dats m 0 c).arrAt 11 cfg0.N = (fun i => sums x 2880 (i 0).val (i 1).val)
    ∧ (dats m 0 c).arrAt 12 cfg0.N = (fun i => sums x 2888 (i 0).val (i 1).val)
    ∧ (dats m 0 c).arrAt 13 cfg0.N = (fun i => sums x 2904 (i 0).val (i 1).val)
    ∧ (dats m 0 c).arrAt 14 cfg0.N = (fun i => sums x 2912 (i 0).val (i 1).val) := by
  refine ⟨?_, ?_, ?_, ?_, ?_, ?_, ?_, ?_, ?_, ?_, ?_, ?_, ?_, ?_⟩
  all_goals
    refine (dats m 0 c).arrAt_eq_of_covers _ _ (by decide +kernel) fun t hf i => ?_
    blk_simp
    simp only [after0_1, after0_2, after0_3, after0_4, after0_5, after0_6, after0_7, after0_8, after0_9, after0_10, after0_11, after0_12, after0_13,
      after0_14]
    unfold outsAt0
    frame_out
    refine (added (block hx t) _ _ _ _ _ _ _ _ _ i).trans ?_
    blk_simp [index1, index2, index3, index4, index5, index6, index7, index8, index9, index10, index11, index12, index13, index14]

end Kernel

section Reference

open Cert.SumSmallReferenceIdeal.Read

variable {x0 : S8x3072x128.Idx → EReal} (hx : Has3 (n0 := 8) (n1 := 3072) (n2 := 128) x0 x)

include hx

theorem reference_total : Has2 (n0 := 3072) (n1 := 128) (val_main_v0 (F := Ideal) x0) (sums x 0) := fun i => by
  rw [val_main_v0_apply, val_main_cst_apply, Ideal.ofBits_def, Ideal.ofBits_zero_f32, zero_add]
  unfold sums
  rw [zero_add]
  exact sum_fin_eq 8 (fun d => x d (i 0).val (i 1).val) _ fun d => hx _

/-- A slice of the sums from row `o` on. -/
theorem slice {n o : ℕ} (hs : (⟨2, ![3072, 128]⟩ : Shape).Slices ![o, 0] ⟨2, ![n, 128]⟩) :
    extractStridedSlice ⟨2, ![n, 128]⟩ ![o, 0] (val_main_v0 (F := Ideal) x0) hs = fun i => sums x o (i 0).val (i 1).val := funext fun i => by
  refine (reference_total hx _).trans ?_
  show sums x 0 (o + (i 0).val) (0 + (i 1).val) = _
  unfold sums
  simp only [zero_add]

end Reference

theorem frame_reference : Cert.quiescent_SumSmallReferenceIdeal := fun m g _ =>
  (θ_run (Cert.SumSmallReferenceIdeal.defs (F := Ideal)) _ _).mono (fun r h => ⟨fun c => (h c).2.2.2.2.2.2.2.2.2.2.2.2.2.2,
      Idealize.ShloMosaic.sem_eq_zero_of_no_sems (by decide) r.2⟩)
    (Cert.SumSmallReferenceIdeal.Value.run (F := Ideal) m g)

theorem same : Cert.algebraic_SumSmallIdeal_SumSmallReferenceIdeal := by
  intro m g m' g' _ same
  refine ⟨fun c => (dats m 0 c).arrAt 1 cfg0.N, fun c => (dats m 0 c).arrAt 2 cfg0.N, fun c => (dats m 0 c).arrAt 3 cfg0.N,
    fun c => (dats m 0 c).arrAt 4 cfg0.N, fun c => (dats m 0 c).arrAt 5 cfg0.N, fun c => (dats m 0 c).arrAt 6 cfg0.N,
    fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N, fun c => (dats m 0 c).arrAt 12 cfg0.N,
    fun c => (dats m 0 c).arrAt 13 cfg0.N, fun c => (dats m 0 c).arrAt 14 cfg0.N, Cert.SumSmallIdeal.Value.run_blocks m g, ?_⟩
  refine (θ_run (Cert.SumSmallReferenceIdeal.defs (F := Ideal)) _ _).mono (fun r h c => ?_) (Cert.SumSmallReferenceIdeal.Value.run (F := Ideal) m' g')
  obtain ⟨x, hx⟩ := Adam.has3_exists (n0 := 8) (n1 := 3072) (n2 := 128) (m ((c : Thread nD τ).loc main_arg0))
  obtain ⟨k1, k2, k3, k4, k5, k6, k7, k8, k9, k10, k11, k12, k13, k14⟩ := kernel hx
  obtain ⟨h1, h2, h3, h4, h5, h6, h7, h8, h9, h10, h11, h12, h13, h14, kept⟩ := h c
  obtain ⟨e0, -⟩ := same c
  have hx' : Has3 (n0 := 8) (n1 := 3072) (n2 := 128) (m' ((c.tc : Thread _ _).loc Cert.SumSmallReferenceIdeal.main_arg0)) x := by
    rw [e0]
    exact hx
  exact ⟨h1.trans ((slice hx' _).trans k1.symm), h2.trans ((slice hx' _).trans k2.symm), h3.trans ((slice hx' _).trans k3.symm),
    h4.trans ((slice hx' _).trans k4.symm), h5.trans ((slice hx' _).trans k5.symm), h6.trans ((slice hx' _).trans k6.symm),
    h7.trans ((slice hx' _).trans k7.symm), h8.trans ((slice hx' _).trans k8.symm), h9.trans ((slice hx' _).trans k9.symm),
    h10.trans ((slice hx' _).trans k10.symm), h11.trans ((slice hx' _).trans k11.symm), h12.trans ((slice hx' _).trans k12.symm),
    h13.trans ((slice hx' _).trans k13.symm), h14.trans ((slice hx' _).trans k14.symm), kept⟩

end Cert.Proof.SumSmall

end
-- ==== Proof.Calls.lean ====
/- A program of several calls, one after another: what every array holds when it has run. -/
module

public import Idealize.ShloMosaic.Lib.Pipeline.Kit
public import Idealize.ShloMosaic.Lib.Pipeline.Regions
public import Idealize.ShloMosaic.Lib.Pipeline.RegionsLoop
public import Idealize.ShloMosaic.Lib.Pipeline.FrameSuffix
public import Idealize.ShloMosaic.Lib.Pipeline.FrameBody

@[expose] public section

noncomputable section

namespace Cert.Proof.Calls

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {Λ₀ : Labels} {P : Type} [Fintype P] [DecidableEq P]

/-- The resources a thread's assertions speak of. -/
abbrev Res (nD : Nat) (τ : Topo) (sig : RefSig) (Val : EltTy → Type) : Type := MT nD τ sig Unit Val ℕ (UR sig nD τ) ℕ

/-- What a thread holds between two calls besides its arrays: its generator register, and no debt. -/
abbrev rest (c : Dev nD) : sProp (Res nD τ sig Val) :=
  iprop((∃ r, prngReg c r) ∗ ∃ W, owes (c : Thread nD τ) (0 : CellTallies nD τ sig Unit) W)

/-- A program that is a chain of segments, entered with every array as launched and left with the arrays at `W`, ends with
    every array of the machine's memory at `W`. -/
theorem run [∀ e, Nonempty (Val e)] (pcs : P → PCfg sig Λ₀ Val) (a : (p : P) → (pcs p).Adm)
    (data : (p : P) → (c : Dev nD) → Dat τ Val Unit ℕ (UR sig nD τ) ℕ (pin pcs a p) c)
    (inj : Function.Injective (cellOf (nD := nD) (τ := τ) (pin pcs a))) (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => (pcs p).Adm) .tc) PUnit)
    (segs : List (Seg pcs a data () defs₀ 𝒱₀ (fun _ => ∅) fun _ _ => 0))
    (hmain : ∀ c, main c = Seg.run segs) (once : (Seg.pipes segs).Nodup) (W : Dev nD → Valuation τ sig Val)
    (hch : Seg.Chains (fun c => iprop(StableHlo.held (c : Thread nD τ) (ucRefs τ sig) (fun b => m (c, b)) ∗ rest c)) segs
      fun c => iprop((StableHlo.held (c : Thread nD τ) (ucRefs τ sig) (W c) ∗ ∃ r, prngReg c r)
        ∗ ∃ W, owes (c : Thread nD τ) (0 : CellTallies nD τ sig Unit) W)) :
    θ_run (Pipeline.defs pcs defs₀) (onTc main) ⟨m, fun _ => 0, g⟩ fun r => ∀ c : Dev nD, ∀ b ∈ ucRefs τ sig, r.2.mem (c, b) = W c b :=
  θ_run_regions_kit_sems pcs a data () inj emb₁ defs₀ 𝒱₀ _ _ m g main segs (fun c Q => by rw [hmain c]) once
    (O₀ := 0) (hL := fun _ _ => rfl) (G := fun _ => iprop(emp)) (u₀ := initOf (cells (pin pcs a) inj) (launchToks (pin pcs a) inj))
    (hu₀ := by
      iintro H
      imodintro
      isplitl [H]
      · iapply (show (ownU (initOf (cells (pin pcs a) inj) (launchToks (pin pcs a) inj)) : sProp (Res nD τ sig Val))
            ⊢ BI.own (emb₁ (initOf (cells (pin pcs a) inj) (launchToks (pin pcs a) inj))) from .rfl)
        iexact H
      iapply (show (BI.emp : sProp (Res nD τ sig Val)) ⊢ bigSep Finset.univ (fun _ : Dev nD => (BI.emp : sProp (Res nD τ sig Val))) from by rw [BI.bigSep_emp_const])
      iempintro)
    (T₀ := _) (Tₙ := _) (hch := hch)
    (hinit := by
      refine initEach _ _ fun c => ?_
      rw [show unscopedBufs c (fun b => m ((c : Thread nD τ).loc b)) = StableHlo.held (c : Thread nD τ) (ucRefs τ sig) (fun b => m (c, b))
        from unscopedBufs_held c fun b => m (c, b)]
      iintro ⟨⟨H, -, HO, -, Hp, -⟩, -⟩
      imodintro
      isplitl [H]
      · iexact H
      isplitl [Hp]
      · iexists _
        iexact Hp
      iexists ∅
      iexact HO)
    (QY := fun c s => ∀ b ∈ ucRefs τ sig, s.mem (c, b) = W c b)
    (hfin := fun c s' => by
      iintro ⟨⟨H, -⟩, HSI⟩
      unfold StableHlo.held
      imodintro
      iapply (pointsTo_read_all (ucRefs τ sig) (fun b => (c, b)) (W c) s')
      isplitl [H] <;> iassumption)
    (hQ := fun _ h _ => h)

end Cert.Proof.Calls

end
-- ==== Proof.AdamOddIn.lean ====
/- The optimiser of the odd layer's input weights: the sum of the gradient's four parts, and the step. -/
module

public import proofs.«01_k».proof.Proof.Adam
public import proofs.«01_k».proof.Proof.Gen.AdamOddInIdeal.Value
public import proofs.«01_k».proof.Proof.Gen.AdamOddInReferenceIdeal.Run
public import proofs.«01_k».proof.Proof.Gen.AdamOddInReferenceIdeal.Read

@[expose] public section

set_option maxRecDepth 16384

noncomputable section

namespace Cert.Proof.AdamOddIn

open Cert.AdamOddInIdeal Cert.AdamOddInIdeal.Gen Idealize.ShloMosaic Idealize.ShloMosaic.TcCoe Idealize.ShloMosaic.ValueIdx Finset
open Idealize.SL.Sem Adam

section Block

variable {v0 v3 v7 v11 : FVec Ideal S1x128x768 .bf16}

theorem mean_eq (u : FVec Ideal S128x768 .f32) (i : S128x768.Idx) :
    k0_pay3 (F := Ideal) v0 v3 v7 v11 u i = mean (u i) (k0_pay2 (F := Ideal) v0 v3 v7 v11 i) := rfl

theorem square_eq (u : FVec Ideal S128x768 .f32) (i : S128x768.Idx) :
    k0_pay4 (F := Ideal) v0 v3 v7 v11 u i = square (u i) (k0_pay2 (F := Ideal) v0 v3 v7 v11 i) := rfl

theorem delta_eq (w u v : FVec Ideal S128x768 .f32) (i : S128x768.Idx) :
    k0_pay1 (F := Ideal) w (k0_pay4 v0 v3 v7 v11 v) (k0_pay5 v0 v3 v7 v11 u) (FloatOps.ofBits FTy.f32 0x3C231ACC#32) i
      = delta (w i) (u i) (v i) (k0_pay2 (F := Ideal) v0 v3 v7 v11 i) := rfl

/-- The four parts are added from the first on. -/
theorem parts {x : Vec Ideal S4x128x768 .bf16} {p : ℕ → ℕ → ℕ → EReal} (hx : Has3 (n0 := 4) (n1 := 128) (n2 := 768) x p) :
    Has2 (n0 := 128) (n1 := 768) (k0_pay2 (F := Ideal)
      (View.ld x (Rect.unit ![0, 0, 0] ![1, 128, 768] inb_S4x128x768_S1x128x768_0_0_0))
      (View.ld x (Rect.unit ![1, 0, 0] ![1, 128, 768] inb_S4x128x768_S1x128x768_1_0_0))
      (View.ld x (Rect.unit ![2, 0, 0] ![1, 128, 768] inb_S4x128x768_S1x128x768_2_0_0))
      (View.ld x (Rect.unit ![3, 0, 0] ![1, 128, 768] inb_S4x128x768_S1x128x768_3_0_0))) (total 4 p) := fun i => by
  unfold k0_pay2
  pointwise
  rw [hx, hx, hx, hx]
  simp only [total, sum_range_succ, sum_range_zero, zero_add]
  rfl

end Block

theorem index0 : ∀ t, win0_0.index t = ![0, t.val, 0] := by decide +kernel
theorem index1 : ∀ t, win0_1.index t = ![t.val, 0] := by decide +kernel
theorem index2 : ∀ t, win0_2.index t = ![t.val, 0] := by decide +kernel
theorem index3 : ∀ t, win0_3.index t = ![t.val, 0] := by decide +kernel
theorem index4 : ∀ t, win0_4.index t = ![t.val, 0] := by decide +kernel
theorem index5 : ∀ t, win0_5.index t = ![t.val, 0] := by decide +kernel
theorem index6 : ∀ t, win0_6.index t = ![t.val, 0] := by decide +kernel
theorem index7 : ∀ t, win0_7.index t = ![t.val, 0] := by decide +kernel

/-- What the arguments hold: the gradient's parts, the weights, and the two running means. -/
structure Args (a0 : S4x2048x768.Idx → EReal) (a1 a2 a3 : S2048x768.Idx → EReal) (p : ℕ → ℕ → ℕ → EReal) (w u v : ℕ → ℕ → EReal) : Prop where
  hp : Has3 (n0 := 4) (n1 := 2048) (n2 := 768) a0 p
  hw : Has2 (n0 := 2048) (n1 := 768) a1 w
  hu : Has2 (n0 := 2048) (n1 := 768) a2 u
  hv : Has2 (n0 := 2048) (n1 := 768) a3 v

variable {p : ℕ → ℕ → ℕ → EReal} {w u v : ℕ → ℕ → EReal} {m : (ℓ : Loc nD τ sig) → Buf (Elt Ideal) ℓ} {c : Dev nD}

section Kernel

variable (h : Args (m ((c : Thread nD τ).loc main_arg0)) (m ((c : Thread nD τ).loc main_arg1)) (m ((c : Thread nD τ).loc main_arg2))
  (m ((c : Thread nD τ).loc main_arg3)) p w u v)

include h

theorem block_p (t : Fin cfg0.N) : Has3 (n0 := 4) (n1 := 128) (n2 := 768) (iblk m c 0 t) fun k r => p k (t.val * 128 + r) := fun j => by
  blk_simp [iblk, index0]
  entry_read
  refine (h.hp _).trans ?_
  blk_simp [index0]

theorem block_w (t : Fin cfg0.N) : Has2 (n0 := 128) (n1 := 768) (iblk m c 1 t) fun r => w (t.val * 128 + r) := fun j => by
  blk_simp [iblk, index1]
  entry_read
  rw [h.hw]
  blk_simp [index1]

theorem block_u (t : Fin cfg0.N) : Has2 (n0 := 128) (n1 := 768) (iblk m c 2 t) fun r => u (t.val * 128 + r) := fun j => by
  blk_simp [iblk, index2]
  entry_read
  rw [h.hu]
  blk_simp [index2]

theorem block_v (t : Fin cfg0.N) : Has2 (n0 := 128) (n1 := 768) (iblk m c 3 t) fun r => v (t.val * 128 + r) := fun j => by
  blk_simp [iblk, index3]
  entry_read
  rw [h.hv]
  blk_simp [index3]

/-- The gradient. -/
theorem kernel_grad : (dats m 0 c).arrAt 4 cfg0.N = fun i => total 4 p (i 0).val (i 1).val := by
  refine (dats m 0 c).arrAt_eq_of_covers 4 _ (by decide +kernel) fun t hf i => ?_
  blk_simp
  rw [after0_4]
  unfold outsAt0
  frame_out
  refine (parts (block_p h t) i).trans ?_
  blk_simp [index4]
  rfl

/-- The change of the weights. -/
theorem kernel_delta : (dats m 0 c).arrAt 5 cfg0.N
    = fun i => delta (w (i 0).val (i 1).val) (u (i 0).val (i 1).val) (v (i 0).val (i 1).val) (total 4 p (i 0).val (i 1).val) := by
  refine (dats m 0 c).arrAt_eq_of_covers 5 _ (by decide +kernel) fun t hf i => ?_
  blk_simp
  rw [after0_5]
  unfold outsAt0
  frame_out
  rw [delta_eq, parts (block_p h t) i, block_w h t i, block_u h t i, block_v h t i]
  blk_simp [index5]
  rfl

/-- The running mean of the gradients. -/
theorem kernel_mean : (dats m 0 c).arrAt 6 cfg0.N
    = fun i => mean (u (i 0).val (i 1).val) (total 4 p (i 0).val (i 1).val) := by
  refine (dats m 0 c).arrAt_eq_of_covers 6 _ (by decide +kernel) fun t hf i => ?_
  blk_simp
  rw [after0_6]
  unfold outsAt0
  frame_out
  rw [mean_eq, parts (block_p h t) i, block_u h t i]
  blk_simp [index6]
  rfl

/-- The running mean of their squares. -/
theorem kernel_square : (dats m 0 c).arrAt 7 cfg0.N
    = fun i => square (v (i 0).val (i 1).val) (total 4 p (i 0).val (i 1).val) := by
  refine (dats m 0 c).arrAt_eq_of_covers 7 _ (by decide +kernel) fun t hf i => ?_
  blk_simp
  rw [after0_7]
  unfold outsAt0
  frame_out
  rw [square_eq, parts (block_p h t) i, block_v h t i]
  blk_simp [index7]
  rfl

end Kernel

section Reference

open Cert.AdamOddInReferenceIdeal.Read

variable {a0 : S4x2048x768.Idx → EReal} {a1 a2 a3 : S2048x768.Idx → EReal} (h : Args a0 a1 a2 a3 p w u v)

include h

theorem reference_grad (i : S2048x768.Idx) : val_main_v1 (F := Ideal) a0 i = total 4 p (i 0).val (i 1).val := by
  rw [val_main_v1_apply]
  refine Eq.trans (b := Ideal.ofBits .f32 0x00000000#32 + ∑ k : Fin 4, a0 (idx_main_v1 i k)) rfl ?_
  rw [Ideal.ofBits_zero_f32, zero_add]
  exact sum_fin_eq 4 (fun k => p k (i 0).val (i 1).val) _ fun k => h.hp _

theorem reference_mean (i : S2048x768.Idx) : val_main_v6 (F := Ideal) a0 a2 i
    = mean (u (i 0).val (i 1).val) (total 4 p (i 0).val (i 1).val) := by
  rw [← h.hu, ← reference_grad h]
  rfl

theorem reference_square (i : S2048x768.Idx) : val_main_v12 (F := Ideal) a0 a3 i
    = square (v (i 0).val (i 1).val) (total 4 p (i 0).val (i 1).val) := by
  rw [← h.hv, ← reference_grad h]
  rfl

theorem reference_delta (i : S2048x768.Idx) : val_main_v25 (F := Ideal) a0 a1 a2 a3 i
    = delta (w (i 0).val (i 1).val) (u (i 0).val (i 1).val) (v (i 0).val (i 1).val) (total 4 p (i 0).val (i 1).val) := by
  rw [← h.hw, ← h.hu, ← h.hv, ← reference_grad h]
  rfl

end Reference

theorem frame_reference : Cert.quiescent_AdamOddInReferenceIdeal := fun m g _ =>
  (θ_run (Cert.AdamOddInReferenceIdeal.defs (F := Ideal)) _ _).mono (fun r h => ⟨fun c => (h c).2.2.2.2,
      Idealize.ShloMosaic.sem_eq_zero_of_no_sems (by decide) r.2⟩)
    (Cert.AdamOddInReferenceIdeal.Value.run (F := Ideal) m g)

/-- The two programs end with the same gradient, the same change of the weights and the same running means. -/
theorem same : Cert.algebraic_AdamOddInIdeal_AdamOddInReferenceIdeal := by
  intro m g m' g' _ same
  refine ⟨fun c => (dats m 0 c).arrAt 4 cfg0.N, fun c => (dats m 0 c).arrAt 5 cfg0.N, fun c => (dats m 0 c).arrAt 6 cfg0.N,
    fun c => (dats m 0 c).arrAt 7 cfg0.N, Cert.AdamOddInIdeal.Value.run_blocks m g, ?_⟩
  refine (θ_run (Cert.AdamOddInReferenceIdeal.defs (F := Ideal)) _ _).mono (fun r h c => ?_)
    (Cert.AdamOddInReferenceIdeal.Value.run (F := Ideal) m' g')
  obtain ⟨_, hp⟩ := has3_exists (n0 := 4) (n1 := 2048) (n2 := 768) (m ((c : Thread nD τ).loc main_arg0))
  obtain ⟨_, hw⟩ := Has2.exists (n0 := 2048) (n1 := 768) (m ((c : Thread nD τ).loc main_arg1))
  obtain ⟨_, hu⟩ := Has2.exists (n0 := 2048) (n1 := 768) (m ((c : Thread nD τ).loc main_arg2))
  obtain ⟨_, hv⟩ := Has2.exists (n0 := 2048) (n1 := 768) (m ((c : Thread nD τ).loc main_arg3))
  have held := Args.mk hp hw hu hv
  obtain ⟨h0, h1, h2, h3, kept⟩ := h c
  obtain ⟨e0, e1, e2, e3, -⟩ := same c
  refine ⟨?_, ?_, ?_, ?_, kept⟩
  · refine (h0.trans (Cert.AdamOddInReferenceIdeal.Read.val_main_v1_eq _)).trans ?_
    rw [e0]
    exact (funext (reference_grad held)).trans (kernel_grad held).symm
  · refine (h1.trans (Cert.AdamOddInReferenceIdeal.Read.val_main_v25_eq _ _ _ _)).trans ?_
    rw [e0, e1, e2, e3]
    exact (funext (reference_delta held)).trans (kernel_delta held).symm
  · refine (h2.trans (Cert.AdamOddInReferenceIdeal.Read.val_main_v6_eq _ _)).trans ?_
    rw [e0, e2]
    exact (funext (reference_mean held)).trans (kernel_mean held).symm
  · refine (h3.trans (Cert.AdamOddInReferenceIdeal.Read.val_main_v12_eq _ _)).trans ?_
    rw [e0, e3]
    exact (funext (reference_square held)).trans (kernel_square held).symm

end Cert.Proof.AdamOddIn

end
-- ==== Proof.AdamEvenIn.lean ====
/- The optimiser of the even layer's input weights, in two calls that each take the gradient's parts of half of the columns. -/
module

public import proofs.«01_k».proof.Proof.Calls
public import proofs.«01_k».proof.Proof.AdamOddIn
public import proofs.«01_k».proof.Proof.Gen.AdamEvenInIdeal.Frame
public import proofs.«01_k».proof.Proof.Gen.AdamEvenInReferenceIdeal.Run
public import proofs.«01_k».proof.Proof.Gen.AdamEvenInReferenceIdeal.Read

@[expose] public section

set_option maxRecDepth 16384

noncomputable section

namespace Cert.Proof.AdamEvenIn

open Cert.AdamEvenInIdeal Cert.AdamEvenInIdeal.Gen Idealize.ShloMosaic Idealize.ShloMosaic.TcCoe Idealize.ShloMosaic.ValueIdx Finset
open Idealize.SL.Sem Adam

/-! The windows of the parts go down their rows; the others go down the rows of one half of the columns. -/

theorem rows0 : ∀ t, win0_0.index t = ![0, t.val, 0] := by decide +kernel
theorem rows1 : ∀ t, win1_0.index t = ![0, t.val, 0] := by decide +kernel
theorem left : ∀ t, win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by
  decide +kernel
theorem right : ∀ t, win1_1.index t = ![t.val, 1] ∧ win1_2.index t = ![t.val, 1] ∧ win1_3.index t = ![t.val, 1]
    ∧ win1_4.index t = ![t.val, 1] ∧ win1_5.index t = ![t.val, 1] ∧ win1_6.index t = ![t.val, 1] ∧ win1_7.index t = ![t.val, 1] := by
  decide +kernel

/-! Both calls take the odd layer's step. -/

theorem step0 : k0_pay1 (F := Ideal) = Cert.AdamOddInIdeal.Gen.k0_pay1 ∧ k0_pay2 (F := Ideal) = Cert.AdamOddInIdeal.Gen.k0_pay2
    ∧ k0_pay3 (F := Ideal) = Cert.AdamOddInIdeal.Gen.k0_pay3 ∧ k0_pay4 (F := Ideal) = Cert.AdamOddInIdeal.Gen.k0_pay4
    ∧ k0_pay5 (F := Ideal) = Cert.AdamOddInIdeal.Gen.k0_pay5 := ⟨rfl, rfl, rfl, rfl, rfl⟩
theorem step1 : k1_pay1 (F := Ideal) = Cert.AdamOddInIdeal.Gen.k0_pay1 ∧ k1_pay2 (F := Ideal) = Cert.AdamOddInIdeal.Gen.k0_pay2
    ∧ k1_pay3 (F := Ideal) = Cert.AdamOddInIdeal.Gen.k0_pay3 ∧ k1_pay4 (F := Ideal) = Cert.AdamOddInIdeal.Gen.k0_pay4
    ∧ k1_pay5 (F := Ideal) = Cert.AdamOddInIdeal.Gen.k0_pay5 := ⟨rfl, rfl, rfl, rfl, rfl⟩

/-- What the arguments hold: the gradient's parts, by halves of the columns, the weights, and the two running means. -/
structure Args (a0 a1 : S4x2048x768.Idx → EReal) (a2 a3 a4 : S2048x1536.Idx → EReal) (p : ℕ → ℕ → ℕ → EReal) (w u v : ℕ → ℕ → EReal) : Prop where
  hp : Has3 (n0 := 4) (n1 := 2048) (n2 := 768) a0 p
  hq : Has3 (n0 := 4) (n1 := 2048) (n2 := 768) a1 fun k r n => p k r (768 + n)
  hw : Has2 (n0 := 2048) (n1 := 1536) a2 w
  hu : Has2 (n0 := 2048) (n1 := 1536) a3 u
  hv : Has2 (n0 := 2048) (n1 := 1536) a4 v

/-- The results. -/
def grad (p : ℕ → ℕ → ℕ → EReal) (i : S2048x1536.Idx) : EReal := total 4 p (i 0).val (i 1).val
def change (p : ℕ → ℕ → ℕ → EReal) (w u v : ℕ → ℕ → EReal) (i : S2048x1536.Idx) : EReal :=
  delta (w (i 0).val (i 1).val) (u (i 0).val (i 1).val) (v (i 0).val (i 1).val) (grad p i)
def means (p : ℕ → ℕ → ℕ → EReal) (u : ℕ → ℕ → EReal) (i : S2048x1536.Idx) : EReal := mean (u (i 0).val (i 1).val) (grad p i)
def squares (p : ℕ → ℕ → ℕ → EReal) (v : ℕ → ℕ → EReal) (i : S2048x1536.Idx) : EReal := square (v (i 0).val (i 1).val) (grad p i)

variable {p : ℕ → ℕ → ℕ → EReal} {w u v : ℕ → ℕ → EReal} {m : (ℓ : Loc nD τ sig) → Buf (Elt Ideal) ℓ} {c : Dev nD} {g : Dev nD → PrngReg}

section Calls

variable (V : (c : Dev nD) → (b : Ref sig .tc) → Buf (Elt Ideal) ((c : Thread nD τ).loc b))
  (h : Args (V c main_arg0) (V c main_arg1) (V c main_arg2) (V c main_arg3) (V c main_arg4) p w u v)

include h

theorem block_p (t : Fin cfg0.N) : Has3 (n0 := 4) (n1 := 128) (n2 := 768) (iblk0 V c 0 t) fun k r => p k (t.val * 128 + r) := fun j => by
  blk_simp [iblk0, rows0]
  refine (h.hp _).trans ?_
  blk_simp [rows0]

theorem block_w (t : Fin cfg0.N) : Has2 (n0 := 128) (n1 := 768) (iblk0 V c 1 t) fun r => w (t.val * 128 + r) := fun j => by
  blk_simp [iblk0, (left t).1]
  refine (h.hw _).trans ?_
  blk_simp [(left t).1]

theorem block_u (t : Fin cfg0.N) : Has2 (n0 := 128) (n1 := 768) (iblk0 V c 2 t) fun r => u (t.val * 128 + r) := fun j => by
  blk_simp [iblk0, (left t).2.1]
  refine (h.hu _).trans ?_
  blk_simp [(left t).2.1]

theorem block_v (t : Fin cfg0.N) : Has2 (n0 := 128) (n1 := 768) (iblk0 V c 3 t) fun r => v (t.val * 128 + r) := fun j => by
  blk_simp [iblk0, (left t).2.2.1]
  refine (h.hv _).trans ?_
  blk_simp [(left t).2.2.1]

/-- The first call fills the left half of each result. -/
theorem first (i : S2048x1536.Idx) (half : (i 1).val / 768 = 0) : (dat0 V c).arrAt 4 cfg0.N i = grad p i
    ∧ (dat0 V c).arrAt 5 cfg0.N i = change p w u v i ∧ (dat0 V c).arrAt 6 cfg0.N i = means p u i
    ∧ (dat0 V c).arrAt 7 cfg0.N i = squares p v i := by
  refine ⟨?_, ?_, ?_, ?_⟩
  · refine ((dat0 V c).arrAt_apply_of_coversWhere 4 (grad p) (P := fun i : S2048x1536.Idx => (i 1).val / 768 = 0)
      (fun β => β (1 : Fin 2) = 0) (by decide +kernel) (fun t hf i => ?_) (fun j => ?_) i).trans (if_pos half)
    · blk_simp
      rw [after0_4]
      unfold outsAt0
      frame_out
      refine (AdamOddIn.parts (block_p V h t) i).trans ?_
      unfold grad
      blk_simp [(left t).2.2.2.1]
      rfl
    · blk_simp [Pipeline.Window.cell_apply]
  · refine ((dat0 V c).arrAt_apply_of_coversWhere 5 (change p w u v) (P := fun i : S2048x1536.Idx => (i 1).val / 768 = 0)
      (fun β => β (1 : Fin 2) = 0) (by decide +kernel) (fun t hf i => ?_) (fun j => ?_) i).trans (if_pos half)
    · blk_simp
      rw [after0_5]
      unfold outsAt0
      frame_out
      rw [step0.1, step0.2.2.2.1, step0.2.2.2.2]
      refine (AdamOddIn.delta_eq _ _ _ i).trans ?_
      rw [AdamOddIn.parts (block_p V h t) i, block_w V h t i, block_u V h t i, block_v V h t i]
      unfold change grad
      blk_simp [(left t).2.2.2.2.1]
      rfl
    · blk_simp [Pipeline.Window.cell_apply]
  · refine ((dat0 V c).arrAt_apply_of_coversWhere 6 (means p u) (P := fun i : S2048x1536.Idx => (i 1).val / 768 = 0)
      (fun β => β (1 : Fin 2) = 0) (by decide +kernel) (fun t hf i => ?_) (fun j => ?_) i).trans (if_pos half)
    · blk_simp
      rw [after0_6]
      unfold outsAt0
      frame_out
      rw [step0.2.2.1]
      refine (AdamOddIn.mean_eq _ i).trans ?_
      rw [AdamOddIn.parts (block_p V h t) i, block_u V h t i]
      unfold means grad
      blk_simp [(left t).2.2.2.2.2.1]
      rfl
    · blk_simp [Pipeline.Window.cell_apply]
  · refine ((dat0 V c).arrAt_apply_of_coversWhere 7 (squares p v) (P := fun i : S2048x1536.Idx => (i 1).val / 768 = 0)
      (fun β => β (1 : Fin 2) = 0) (by decide +kernel) (fun t hf i => ?_) (fun j => ?_) i).trans (if_pos half)
    · blk_simp
      rw [after0_7]
      unfold outsAt0
      frame_out
      rw [step0.2.2.2.1]
      refine (AdamOddIn.square_eq _ i).trans ?_
      rw [AdamOddIn.parts (block_p V h t) i, block_v V h t i]
      unfold squares grad
      blk_simp [(left t).2.2.2.2.2.2]
      rfl
    · blk_simp [Pipeline.Window.cell_apply]

theorem block_q (t : Fin cfg1.N) : Has3 (n0 := 4) (n1 := 128) (n2 := 768) (iblk1 V c 0 t) fun k r n => p k (t.val * 128 + r) (768 + n) :=
    fun j => by
  blk_simp [iblk1, rows1]
  refine (h.hq _).trans ?_
  blk_simp [rows1]

theorem block_w' (t : Fin cfg1.N) : Has2 (n0 := 128) (n1 := 768) (iblk1 V c 1 t) fun r n => w (t.val * 128 + r) (768 + n) := fun j => by
  blk_simp [iblk1, (right t).1]
  refine (h.hw _).trans ?_
  blk_simp [(right t).1]

theorem block_u' (t : Fin cfg1.N) : Has2 (n0 := 128) (n1 := 768) (iblk1 V c 2 t) fun r n => u (t.val * 128 + r) (768 + n) := fun j => by
  blk_simp [iblk1, (right t).2.1]
  refine (h.hu _).trans ?_
  blk_simp [(right t).2.1]

theorem block_v' (t : Fin cfg1.N) : Has2 (n0 := 128) (n1 := 768) (iblk1 V c 3 t) fun r n => v (t.val * 128 + r) (768 + n) := fun j => by
  blk_simp [iblk1, (right t).2.2.1]
  refine (h.hv _).trans ?_
  blk_simp [(right t).2.2.1]

/-- The second call fills the right halves, and keeps the left ones. -/
theorem second_grad (old : ∀ i : S2048x1536.Idx, (i 1).val / 768 = 0 → V c main_v1_0 i = grad p i) :
    (dat1 V c).arrAt 4 cfg1.N = grad p := by
  refine (dat1 V c).arrAt_eq_of_coversWhere_of_agree 4 _ (fun β => β (1 : Fin 2) = 1) (by decide +kernel) (fun t hf i => ?_)
    (fun j hj => ?_)
  · blk_simp
    rw [after1_4]
    unfold outsAt1
    frame_out
    refine (AdamOddIn.parts (block_q V h t) i).trans ?_
    unfold grad
    blk_simp [(right t).2.2.2.1]
    rfl
  · have j1 : (j 1).val < 1536 := (j 1).isLt
    blk_simp [Pipeline.Window.cell_apply] at hj
    rw [A_eq1]
    exact old _ (by blk_simp; omega)

theorem second_change (old : ∀ i : S2048x1536.Idx, (i 1).val / 768 = 0 → V c main_v1_1 i = change p w u v i) :
    (dat1 V c).arrAt 5 cfg1.N = change p w u v := by
  refine (dat1 V c).arrAt_eq_of_coversWhere_of_agree 5 _ (fun β => β (1 : Fin 2) = 1) (by decide +kernel) (fun t hf i => ?_)
    (fun j hj => ?_)
  · blk_simp
    rw [after1_5]
    unfold outsAt1
    frame_out
    rw [step1.1, step1.2.2.2.1, step1.2.2.2.2]
    refine (AdamOddIn.delta_eq _ _ _ i).trans ?_
    rw [AdamOddIn.parts (block_q V h t) i, block_w' V h t i, block_u' V h t i, block_v' V h t i]
    unfold change grad
    blk_simp [(right t).2.2.2.2.1]
    rfl
  · have j1 : (j 1).val < 1536 := (j 1).isLt
    blk_simp [Pipeline.Window.cell_apply] at hj
    rw [A_eq1]
    exact old _ (by blk_simp; omega)

theorem second_means (old : ∀ i : S2048x1536.Idx, (i 1).val / 768 = 0 → V c main_v1_2 i = means p u i) :
    (dat1 V c).arrAt 6 cfg1.N = means p u := by
  refine (dat1 V c).arrAt_eq_of_coversWhere_of_agree 6 _ (fun β => β (1 : Fin 2) = 1) (by decide +kernel) (fun t hf i => ?_)
    (fun j hj => ?_)
  · blk_simp
    rw [after1_6]
    unfold outsAt1
    frame_out
    rw [step1.2.2.1]
    refine (AdamOddIn.mean_eq _ i).trans ?_
    rw [AdamOddIn.parts (block_q V h t) i, block_u' V h t i]
    unfold means grad
    blk_simp [(right t).2.2.2.2.2.1]
    rfl
  · have j1 : (j 1).val < 1536 := (j 1).isLt
    blk_simp [Pipeline.Window.cell_apply] at hj
    rw [A_eq1]
    exact old _ (by blk_simp; omega)

theorem second_squares (old : ∀ i : S2048x1536.Idx, (i 1).val / 768 = 0 → V c main_v1_3 i = squares p v i) :
    (dat1 V c).arrAt 7 cfg1.N = squares p v := by
  refine (dat1 V c).arrAt_eq_of_coversWhere_of_agree 7 _ (fun β => β (1 : Fin 2) = 1) (by decide +kernel) (fun t hf i => ?_)
    (fun j hj => ?_)
  · blk_simp
    rw [after1_7]
    unfold outsAt1
    frame_out
    rw [step1.2.2.2.1]
    refine (AdamOddIn.square_eq _ i).trans ?_
    rw [AdamOddIn.parts (block_q V h t) i, block_v' V h t i]
    unfold squares grad
    blk_simp [(right t).2.2.2.2.2.2]
    rfl
  · have j1 : (j 1).val < 1536 := (j 1).isLt
    blk_simp [Pipeline.Window.cell_apply] at hj
    rw [A_eq1]
    exact old _ (by blk_simp; omega)

end Calls

section Kernel

variable (h : Args (m ((c : Thread nD τ).loc main_arg0)) (m ((c : Thread nD τ).loc main_arg1)) (m ((c : Thread nD τ).loc main_arg2))
  (m ((c : Thread nD τ).loc main_arg3)) (m ((c : Thread nD τ).loc main_arg4)) p w u v)

include h

/-- What the results' arrays hold after the two calls. -/
theorem kernel : W3 m g c (Proc.devRef .tc main_v1_0) = grad p ∧ W3 m g c (Proc.devRef .tc main_v1_1) = change p w u v
    ∧ W3 m g c (Proc.devRef .tc main_v1_2) = means p u ∧ W3 m g c (Proc.devRef .tc main_v1_3) = squares p v := by
  have h0 : Args (V0 m g c main_arg0) (V0 m g c main_arg1) (V0 m g c main_arg2) (V0 m g c main_arg3) (V0 m g c main_arg4) p w u v := h
  have e (a) (ha : a ∈ argRefs) : V2 m g c a = m ((c : Thread nD τ).loc a) := W2_args m g c a ha
  have h2 : Args (V2 m g c main_arg0) (V2 m g c main_arg1) (V2 m g c main_arg2) (V2 m g c main_arg3) (V2 m g c main_arg4) p w u v := by
    rw [e main_arg0 (by decide), e main_arg1 (by decide), e main_arg2 (by decide), e main_arg3 (by decide), e main_arg4 (by decide)]
    exact h
  refine ⟨(W3_arr m g c 4).trans (second_grad _ h2 fun i half => ?_), (W3_arr m g c 5).trans (second_change _ h2 fun i half => ?_),
    (W3_arr m g c 6).trans (second_means _ h2 fun i half => ?_), (W3_arr m g c 7).trans (second_squares _ h2 fun i half => ?_)⟩
  · refine (congrFun (?_ : W2 m g c (Proc.devRef .tc main_v1_0) = W1 m g c (Proc.devRef .tc main_v0_0)) i).trans
      ((congrFun (W1_arr m g c 4) i).trans (first _ h0 i half).1)
    show StableHlo.after hostOps1 (W1 m g c) (Proc.devRef .tc main_v1_0) = _
    entry_read
    rfl
  · refine (congrFun (?_ : W2 m g c (Proc.devRef .tc main_v1_1) = W1 m g c (Proc.devRef .tc main_v0_1)) i).trans
      ((congrFun (W1_arr m g c 5) i).trans (first _ h0 i half).2.1)
    show StableHlo.after hostOps1 (W1 m g c) (Proc.devRef .tc main_v1_1) = _
    entry_read
    rfl
  · refine (congrFun (?_ : W2 m g c (Proc.devRef .tc main_v1_2) = W1 m g c (Proc.devRef .tc main_v0_2)) i).trans
      ((congrFun (W1_arr m g c 6) i).trans (first _ h0 i half).2.2.1)
    show StableHlo.after hostOps1 (W1 m g c) (Proc.devRef .tc main_v1_2) = _
    entry_read
    rfl
  · refine (congrFun (?_ : W2 m g c (Proc.devRef .tc main_v1_3) = W1 m g c (Proc.devRef .tc main_v0_3)) i).trans
      ((congrFun (W1_arr m g c 7) i).trans (first _ h0 i half).2.2.2)
    show StableHlo.after hostOps1 (W1 m g c) (Proc.devRef .tc main_v1_3) = _
    entry_read
    rfl

end Kernel

variable (g)

/-- The two calls run, and leave the arguments. -/
theorem run (m : (ℓ : Loc nD τ sig) → Buf (Elt Ideal) ℓ) : θ_run defs (onTc (τ := τ) (main (F := Ideal))) ⟨m, fun _ => 0, g⟩ fun r =>
    ∀ c : Dev nD, ∀ b ∈ Pipeline.ucRefs τ sig, r.2.mem (c, b) = W3 m g c b :=
  Calls.run _ adm (pdats m g) cellOf_inj defs₀ 𝒱₀ m g main (segs m g) (main_run m g)
    (by simp only [segs, Pipeline.Seg.pipes_host, Pipeline.Seg.pipes_region, Pipeline.Seg.pipes_nil]; decide)
    _ ⟨fun _ => .rfl, fun _ => .rfl, fun _ => .rfl, fun _ => .rfl⟩

section Reference

open Cert.AdamEvenInReferenceIdeal.Read

variable {a0 a1 : S4x2048x768.Idx → EReal} {a2 a3 a4 : S2048x1536.Idx → EReal} (h : Args a0 a1 a2 a3 a4 p w u v)

include h

/-- The reference lays the parts of the two halves side by side. -/
theorem reference_parts : Has3 (n0 := 4) (n1 := 2048) (n2 := 1536) (val_main_v0 (F := Ideal) a0 a1) p := fun i => by
  unfold val_main_v0
  pointwise
  split
  · exact h.hp _
  · next right =>
    refine (h.hq _).trans (congrArg (p _ _) ?_)
    show 768 + ((i 2).val - 768) = (i 2).val
    omega

theorem reference_grad (i : S2048x1536.Idx) : val_main_v2 (F := Ideal) a0 a1 i = grad p i := by
  rw [val_main_v2_apply]
  refine Eq.trans (b := Ideal.ofBits .f32 0x00000000#32 + ∑ k : Fin 4, val_main_v0 (F := Ideal) a0 a1 (idx_main_v2 i k)) rfl ?_
  rw [Ideal.ofBits_zero_f32, zero_add]
  exact sum_fin_eq 4 (fun k => p k (i 0).val (i 1).val) _ fun k => reference_parts h _

theorem reference_means (i : S2048x1536.Idx) : val_main_v7 (F := Ideal) a0 a1 a3 i = means p u i := by
  rw [means, ← h.hu, ← reference_grad h]
  rfl

theorem reference_squares (i : S2048x1536.Idx) : val_main_v13 (F := Ideal) a0 a1 a4 i = squares p v i := by
  rw [squares, ← h.hv, ← reference_grad h]
  rfl

theorem reference_change (i : S2048x1536.Idx) : val_main_v26 (F := Ideal) a0 a1 a2 a3 a4 i = change p w u v i := by
  rw [change, ← h.hw, ← h.hu, ← h.hv, ← reference_grad h]
  rfl

end Reference

theorem frame_reference : Cert.quiescent_AdamEvenInReferenceIdeal := fun m g _ =>
  (θ_run (Cert.AdamEvenInReferenceIdeal.defs (F := Ideal)) _ _).mono (fun r h => ⟨fun c => (h c).2.2.2.2,
      Idealize.ShloMosaic.sem_eq_zero_of_no_sems (by decide) r.2⟩)
    (Cert.AdamEvenInReferenceIdeal.Value.run (F := Ideal) m g)

/-- The halves of the parts are halves of whole parts. -/
theorem args_exist (a0 a1 : S4x2048x768.Idx → EReal) (a2 a3 a4 : S2048x1536.Idx → EReal) : ∃ p w u v, Args a0 a1 a2 a3 a4 p w u v := by
  obtain ⟨p, hp⟩ := has3_exists (n0 := 4) (n1 := 2048) (n2 := 768) a0
  obtain ⟨q, hq⟩ := has3_exists (n0 := 4) (n1 := 2048) (n2 := 768) a1
  obtain ⟨w, hw⟩ := Has2.exists (n0 := 2048) (n1 := 1536) a2
  obtain ⟨u, hu⟩ := Has2.exists (n0 := 2048) (n1 := 1536) a3
  obtain ⟨v, hv⟩ := Has2.exists (n0 := 2048) (n1 := 1536) a4
  refine ⟨fun k r n => if n < 768 then p k r n else q k r (n - 768), w, u, v, fun i => ?_, fun i => ?_, hw, hu, hv⟩
  · have i2 : (i 2).val < 768 := (i 2).isLt
    rw [hp i, if_pos i2]
  · show a1 i = if 768 + (i 2).val < 768 then _ else q (i 0).val (i 1).val (768 + (i 2).val - 768)
    rw [hq i, if_neg (by omega), Nat.add_sub_cancel_left]

/-- The two programs end with the same gradient, the same change of the weights and the same running means. -/
theorem same : Cert.algebraic_AdamEvenInIdeal_AdamEvenInReferenceIdeal := by
  intro m g m' g' _ same
  refine ⟨fun c => W3 m g c (Proc.devRef .tc main_v1_0), fun c => W3 m g c (Proc.devRef .tc main_v1_1),
    fun c => W3 m g c (Proc.devRef .tc main_v1_2), fun c => W3 m g c (Proc.devRef .tc main_v1_3),
    (θ_run defs _ _).mono (fun r h c => ?_) (run g m), ?_⟩
  · exact ⟨h c _ (mem_uc main_v1_0 (by decide)), h c _ (mem_uc main_v1_1 (by decide)), h c _ (mem_uc main_v1_2 (by decide)),
      h c _ (mem_uc main_v1_3 (by decide)), (h c _ (mem_uc main_arg0 (by decide))).trans (W3_main_arg0 m g c),
      (h c _ (mem_uc main_arg1 (by decide))).trans (W3_main_arg1 m g c), (h c _ (mem_uc main_arg2 (by decide))).trans (W3_main_arg2 m g c),
      (h c _ (mem_uc main_arg3 (by decide))).trans (W3_main_arg3 m g c), (h c _ (mem_uc main_arg4 (by decide))).trans (W3_main_arg4 m g c),
      (h c _ (mem_uc main_arg5 (by decide))).trans (W3_main_arg5 m g c)⟩
  refine (θ_run (Cert.AdamEvenInReferenceIdeal.defs (F := Ideal)) _ _).mono (fun r h c => ?_)
    (Cert.AdamEvenInReferenceIdeal.Value.run (F := Ideal) m' g')
  obtain ⟨p, w, u, v, held⟩ := args_exist (m ((c : Thread nD τ).loc main_arg0)) (m ((c : Thread nD τ).loc main_arg1))
    (m ((c : Thread nD τ).loc main_arg2)) (m ((c : Thread nD τ).loc main_arg3)) (m ((c : Thread nD τ).loc main_arg4))
  obtain ⟨h0, h1, h2, h3, kept⟩ := h c
  obtain ⟨e0, e1, e2, e3, e4, -⟩ := same c
  obtain ⟨k0, k1, k2, k3⟩ := kernel (g := g) held
  refine ⟨?_, ?_, ?_, ?_, kept⟩
  · refine (h0.trans (Cert.AdamEvenInReferenceIdeal.Read.val_main_v2_eq _ _)).trans ?_
    rw [e0, e1]
    exact (funext (reference_grad held)).trans k0.symm
  · refine (h1.trans (Cert.AdamEvenInReferenceIdeal.Read.val_main_v26_eq _ _ _ _ _)).trans ?_
    rw [e0, e1, e2, e3, e4]
    exact (funext (reference_change held)).trans k1.symm
  · refine (h2.trans (Cert.AdamEvenInReferenceIdeal.Read.val_main_v7_eq _ _ _)).trans ?_
    rw [e0, e1, e3]
    exact (funext (reference_means held)).trans k2.symm
  · refine (h3.trans (Cert.AdamEvenInReferenceIdeal.Read.val_main_v13_eq _ _ _)).trans ?_
    rw [e0, e1, e4]
    exact (funext (reference_squares held)).trans k3.symm

end Cert.Proof.AdamEvenIn

end
-- ==== Proof.AdamOut.lean ====
/- The optimiser of a layer's output weights: the sum of the gradient's eight parts, and the step. -/
module

public import proofs.«01_k».proof.Proof.Adam
public import proofs.«01_k».proof.Proof.Gen.AdamOutIdeal.Value
public import proofs.«01_k».proof.Proof.Gen.AdamOutReferenceIdeal.Run
public import proofs.«01_k».proof.Proof.Gen.AdamOutReferenceIdeal.Read

@[expose] public section

set_option maxRecDepth 16384

noncomputable section

namespace Cert.Proof.AdamOut

open Cert.AdamOutIdeal Cert.AdamOutIdeal.Gen Idealize.ShloMosaic Idealize.ShloMosaic.TcCoe Idealize.ShloMosaic.ValueIdx Finset
open Idealize.SL.Sem Adam

section Block

theorem mean_eq (g u : FVec Ideal S128x2048 .f32) (i : S128x2048.Idx) : k0_pay1 (F := Ideal) g u i = mean (u i) (g i) := rfl

theorem square_eq (g v : FVec Ideal S128x2048 .f32) (i : S128x2048.Idx) : k0_pay2 (F := Ideal) g v i = square (v i) (g i) := rfl

theorem delta_eq (g w u v : FVec Ideal S128x2048 .f32) (i : S128x2048.Idx) :
    k0_pay3 (F := Ideal) g w u v i = delta (w i) (u i) (v i) (g i) := rfl

/-- The eight parts are added from the first on. -/
theorem parts {x : Vec Ideal S8x128x2048 .bf16} {p : ℕ → ℕ → ℕ → EReal} (hx : Has3 (n0 := 8) (n1 := 128) (n2 := 2048) x p) :
    Has2 (n0 := 128) (n1 := 2048) (k0_pay4 (F := Ideal)
      (View.ld x (Rect.unit ![0, 0, 0] ![1, 128, 2048] inb_S8x128x2048_S1x128x2048_0_0_0))
      (View.ld x (Rect.unit ![1, 0, 0] ![1, 128, 2048] inb_S8x128x2048_S1x128x2048_1_0_0))
      (View.ld x (Rect.unit ![2, 0, 0] ![1, 128, 2048] inb_S8x128x2048_S1x128x2048_2_0_0))
      (View.ld x (Rect.unit ![3, 0, 0] ![1, 128, 2048] inb_S8x128x2048_S1x128x2048_3_0_0))
      (View.ld x (Rect.unit ![4, 0, 0] ![1, 128, 2048] inb_S8x128x2048_S1x128x2048_4_0_0))
      (View.ld x (Rect.unit ![5, 0, 0] ![1, 128, 2048] inb_S8x128x2048_S1x128x2048_5_0_0))
      (View.ld x (Rect.unit ![6, 0, 0] ![1, 128, 2048] inb_S8x128x2048_S1x128x2048_6_0_0))
      (View.ld x (Rect.unit ![7, 0, 0] ![1, 128, 2048] inb_S8x128x2048_S1x128x2048_7_0_0))) (total 8 p) := fun i => by
  unfold k0_pay4
  pointwise
  simp only [hx _, total, sum_range_succ, sum_range_zero, zero_add]
  rfl

end Block

theorem index0 : ∀ t, win0_0.index t = ![0, t.val, 0] := by decide +kernel
theorem index1 : ∀ t, win0_1.index t = ![t.val, 0] := by decide +kernel
theorem index2 : ∀ t, win0_2.index t = ![t.val, 0] := by decide +kernel
theorem index3 : ∀ t, win0_3.index t = ![t.val, 0] := by decide +kernel
theorem index4 : ∀ t, win0_4.index t = ![t.val, 0] := by decide +kernel
theorem index5 : ∀ t, win0_5.index t = ![t.val, 0] := by decide +kernel
theorem index6 : ∀ t, win0_6.index t = ![t.val, 0] := by decide +kernel
theorem index7 : ∀ t, win0_7.index t = ![t.val, 0] := by decide +kernel

/-- What the arguments hold: the gradient's parts, the weights, and the two running means. -/
structure Args (a0 : S8x256x2048.Idx → EReal) (a1 a2 a3 : S256x2048.Idx → EReal) (p : ℕ → ℕ → ℕ → EReal) (w u v : ℕ → ℕ → EReal) : Prop where
  hp : Has3 (n0 := 8) (n1 := 256) (n2 := 2048) a0 p
  hw : Has2 (n0 := 256) (n1 := 2048) a1 w
  hu : Has2 (n0 := 256) (n1 := 2048) a2 u
  hv : Has2 (n0 := 256) (n1 := 2048) a3 v

variable {p : ℕ → ℕ → ℕ → EReal} {w u v : ℕ → ℕ → EReal} {m : (ℓ : Loc nD τ sig) → Buf (Elt Ideal) ℓ} {c : Dev nD}

section Kernel

variable (h : Args (m ((c : Thread nD τ).loc main_arg0)) (m ((c : Thread nD τ).loc main_arg1)) (m ((c : Thread nD τ).loc main_arg2))
  (m ((c : Thread nD τ).loc main_arg3)) p w u v)

include h

theorem block_p (t : Fin cfg0.N) : Has3 (n0 := 8) (n1 := 128) (n2 := 2048) (iblk m c 0 t) fun k r => p k (t.val * 128 + r) := fun j => by
  blk_simp [iblk, index0]
  entry_read
  refine (h.hp _).trans ?_
  blk_simp [index0]

theorem block_w (t : Fin cfg0.N) : Has2 (n0 := 128) (n1 := 2048) (iblk m c 1 t) fun r => w (t.val * 128 + r) := fun j => by
  blk_simp [iblk, index1]
  entry_read
  rw [h.hw]
  blk_simp [index1]

theorem block_u (t : Fin cfg0.N) : Has2 (n0 := 128) (n1 := 2048) (iblk m c 2 t) fun r => u (t.val * 128 + r) := fun j => by
  blk_simp [iblk, index2]
  entry_read
  rw [h.hu]
  blk_simp [index2]

theorem block_v (t : Fin cfg0.N) : Has2 (n0 := 128) (n1 := 2048) (iblk m c 3 t) fun r => v (t.val * 128 + r) := fun j => by
  blk_simp [iblk, index3]
  entry_read
  rw [h.hv]
  blk_simp [index3]

/-- The gradient. -/
theorem kernel_grad : (dats m 0 c).arrAt 4 cfg0.N = fun i => total 8 p (i 0).val (i 1).val := by
  refine (dats m 0 c).arrAt_eq_of_covers 4 _ (by decide +kernel) fun t hf i => ?_
  blk_simp
  rw [after0_4]
  unfold outsAt0
  frame_out
  refine (parts (block_p h t) i).trans ?_
  blk_simp [index4]
  rfl

/-- The change of the weights. -/
theorem kernel_delta : (dats m 0 c).arrAt 5 cfg0.N
    = fun i => delta (w (i 0).val (i 1).val) (u (i 0).val (i 1).val) (v (i 0).val (i 1).val) (total 8 p (i 0).val (i 1).val) := by
  refine (dats m 0 c).arrAt_eq_of_covers 5 _ (by decide +kernel) fun t hf i => ?_
  blk_simp
  rw [after0_5]
  unfold outsAt0
  frame_out
  rw [delta_eq, parts (block_p h t) i, block_w h t i, block_u h t i, block_v h t i]
  blk_simp [index5]
  rfl

/-- The running mean of the gradients. -/
theorem kernel_mean : (dats m 0 c).arrAt 6 cfg0.N
    = fun i => mean (u (i 0).val (i 1).val) (total 8 p (i 0).val (i 1).val) := by
  refine (dats m 0 c).arrAt_eq_of_covers 6 _ (by decide +kernel) fun t hf i => ?_
  blk_simp
  rw [after0_6]
  unfold outsAt0
  frame_out
  rw [mean_eq, parts (block_p h t) i, block_u h t i]
  blk_simp [index6]
  rfl

/-- The running mean of their squares. -/
theorem kernel_square : (dats m 0 c).arrAt 7 cfg0.N
    = fun i => square (v (i 0).val (i 1).val) (total 8 p (i 0).val (i 1).val) := by
  refine (dats m 0 c).arrAt_eq_of_covers 7 _ (by decide +kernel) fun t hf i => ?_
  blk_simp
  rw [after0_7]
  unfold outsAt0
  frame_out
  rw [square_eq, parts (block_p h t) i, block_v h t i]
  blk_simp [index7]
  rfl

end Kernel

section Reference

open Cert.AdamOutReferenceIdeal.Read

variable {a0 : S8x256x2048.Idx → EReal} {a1 a2 a3 : S256x2048.Idx → EReal} (h : Args a0 a1 a2 a3 p w u v)

include h

theorem reference_grad (i : S256x2048.Idx) : val_main_v1 (F := Ideal) a0 i = total 8 p (i 0).val (i 1).val := by
  rw [val_main_v1_apply]
  refine Eq.trans (b := Ideal.ofBits .f32 0x00000000#32 + ∑ k : Fin 8, a0 (idx_main_v1 i k)) rfl ?_
  rw [Ideal.ofBits_zero_f32, zero_add]
  exact sum_fin_eq 8 (fun k => p k (i 0).val (i 1).val) _ fun k => h.hp _

theorem reference_mean (i : S256x2048.Idx) : val_main_v6 (F := Ideal) a0 a2 i
    = mean (u (i 0).val (i 1).val) (total 8 p (i 0).val (i 1).val) := by
  rw [← h.hu, ← reference_grad h]
  rfl

theorem reference_square (i : S256x2048.Idx) : val_main_v12 (F := Ideal) a0 a3 i
    = square (v (i 0).val (i 1).val) (total 8 p (i 0).val (i 1).val) := by
  rw [← h.hv, ← reference_grad h]
  rfl

theorem reference_delta (i : S256x2048.Idx) : val_main_v25 (F := Ideal) a0 a1 a2 a3 i
    = delta (w (i 0).val (i 1).val) (u (i 0).val (i 1).val) (v (i 0).val (i 1).val) (total 8 p (i 0).val (i 1).val) := by
  rw [← h.hw, ← h.hu, ← h.hv, ← reference_grad h]
  rfl

end Reference

theorem frame_reference : Cert.quiescent_AdamOutReferenceIdeal := fun m g _ =>
  (θ_run (Cert.AdamOutReferenceIdeal.defs (F := Ideal)) _ _).mono (fun r h => ⟨fun c => (h c).2.2.2.2,
      Idealize.ShloMosaic.sem_eq_zero_of_no_sems (by decide) r.2⟩)
    (Cert.AdamOutReferenceIdeal.Value.run (F := Ideal) m g)

/-- The two programs end with the same gradient, the same change of the weights and the same running means. -/
theorem same : Cert.algebraic_AdamOutIdeal_AdamOutReferenceIdeal := by
  intro m g m' g' _ same
  refine ⟨fun c => (dats m 0 c).arrAt 4 cfg0.N, fun c => (dats m 0 c).arrAt 5 cfg0.N, fun c => (dats m 0 c).arrAt 6 cfg0.N,
    fun c => (dats m 0 c).arrAt 7 cfg0.N, Cert.AdamOutIdeal.Value.run_blocks m g, ?_⟩
  refine (θ_run (Cert.AdamOutReferenceIdeal.defs (F := Ideal)) _ _).mono (fun r h c => ?_)
    (Cert.AdamOutReferenceIdeal.Value.run (F := Ideal) m' g')
  obtain ⟨_, hp⟩ := has3_exists (n0 := 8) (n1 := 256) (n2 := 2048) (m ((c : Thread nD τ).loc main_arg0))
  obtain ⟨_, hw⟩ := Has2.exists (n0 := 256) (n1 := 2048) (m ((c : Thread nD τ).loc main_arg1))
  obtain ⟨_, hu⟩ := Has2.exists (n0 := 256) (n1 := 2048) (m ((c : Thread nD τ).loc main_arg2))
  obtain ⟨_, hv⟩ := Has2.exists (n0 := 256) (n1 := 2048) (m ((c : Thread nD τ).loc main_arg3))
  have held := Args.mk hp hw hu hv
  obtain ⟨h0, h1, h2, h3, kept⟩ := h c
  obtain ⟨e0, e1, e2, e3, -⟩ := same c
  refine ⟨?_, ?_, ?_, ?_, kept⟩
  · refine (h0.trans (Cert.AdamOutReferenceIdeal.Read.val_main_v1_eq _)).trans ?_
    rw [e0]
    exact (funext (reference_grad held)).trans (kernel_grad held).symm
  · refine (h1.trans (Cert.AdamOutReferenceIdeal.Read.val_main_v25_eq _ _ _ _)).trans ?_
    rw [e0, e1, e2, e3]
    exact (funext (reference_delta held)).trans (kernel_delta held).symm
  · refine (h2.trans (Cert.AdamOutReferenceIdeal.Read.val_main_v6_eq _ _)).trans ?_
    rw [e0, e2]
    exact (funext (reference_mean held)).trans (kernel_mean held).symm
  · refine (h3.trans (Cert.AdamOutReferenceIdeal.Read.val_main_v12_eq _ _)).trans ?_
    rw [e0, e3]
    exact (funext (reference_square held)).trans (kernel_square held).symm

end Cert.Proof.AdamOut

end
-- ==== Proof.HostOps.lean ====
/- The host's operations on arrays of reals: slices, reshapes, concatenations, paddings, and the elementwise ones. -/
module

public import proofs.«01_k».proof.Proof.Pooling
public import Idealize.ShloMosaic.Lib.KernelVsHost

@[expose] public section

noncomputable section

namespace Cert.Proof

open Idealize.ShloMosaic
open Idealize.ShloMosaic.ValueIdx hiding ix1 ix2 ix3

section Elementwise

variable {n0 n1 n2 : ℕ}

theorem Real3.addf {x y : FVec Ideal ⟨3, ![n0, n1, n2]⟩ .f32} {f g : ℕ → ℕ → ℕ → ℝ} (hx : Real3 x f) (hy : Real3 y g) :
    Real3 (addf x y) (fun a b c => f a b c + g a b c) := fun i =>
  (congrArg₂ (· + ·) (hx i) (hy i)).trans (EReal.coe_add _ _).symm

variable {x y : FVec Ideal ⟨2, ![n0, n1]⟩ .f32} {f g : ℕ → ℕ → ℝ}

theorem Real2.neg (hx : Real2 x f) : Real2 (Host.negf x) (fun r c => -f r c) := fun i =>
  (congrArg (fun e : EReal => -e) (hx i)).trans (EReal.coe_neg _).symm

theorem Real2.expHost (hx : Real2 x f) : Real2 (Host.exp x) (fun r c => Real.exp (f r c)) := fun i =>
  (congrArg (fun e : EReal => Ideal.exp e) (hx i)).trans (Ideal.exp_coe _)

theorem Real2.divHost (hx : Real2 x f) (hy : Real2 y g) (h : ∀ r c, r < n0 → c < n1 → g r c ≠ 0) :
    Real2 (Host.divf x y) (fun r c => f r c / g r c) := fun i => by
  show Ideal.div (x i) (y i) = _
  rw [hx i, hy i, Ideal.div_coe (h _ _ (i 0).isLt (i 1).isLt), ← EReal.coe_mul, mul_one_div]

theorem Real3.congr {x : (⟨3, ![n0, n1, n2]⟩ : Shape).Idx → EReal} {f g : ℕ → ℕ → ℕ → ℝ} (hx : Real3 x f)
    (h : ∀ a b c, a < n0 → b < n1 → c < n2 → f a b c = g a b c) : Real3 x g := fun i =>
  (hx i).trans (congrArg _ (h _ _ _ (i 0).isLt (i 1).isLt (i 2).isLt))

end Elementwise

section Layout

variable {n0 n1 n2 : ℕ}

/-- One column block of some rows of a three-axis array, its middle axis dropped. -/
theorem Real3.slab {x : (⟨3, ![n0, n1, n2]⟩ : Shape).Idx → EReal} {f : ℕ → ℕ → ℕ → ℝ} (hx : Real3 x f) (o g n : ℕ)
    (hs : (⟨3, ![n0, n1, n2]⟩ : Shape).Slices ![o, g, 0] ⟨3, ![n, 1, n2]⟩) (hc : (⟨3, ![n, 1, n2]⟩ : Shape).ShapeCasts ⟨2, ![n, n2]⟩) :
    Real2 (shapeCast ⟨2, ![n, n2]⟩ (extractStridedSlice ⟨3, ![n, 1, n2]⟩ ![o, g, 0] x hs) hc) (fun t c => f (o + t) g c) := fun j => by
  rw [shapeCast_apply _ hc j (ix3 (n0 := n) (n1 := 1) (n2 := n2) (j 0) 0 (j 1)) (by
    rw [Shape.rowMajor_val_three, Shape.rowMajor_val_two]
    show ((j 0).val * 1 + 0) * n2 + (j 1).val = (j 0).val * n2 + (j 1).val
    rw [Nat.mul_one, Nat.add_zero])]
  refine (hx _).trans ?_
  show ((f (o + (j 0).val) (g + 0) (0 + (j 1).val) : ℝ) : EReal) = _
  rw [Nat.add_zero, Nat.zero_add]

theorem Real3.rows {x : (⟨3, ![n0, n1, n2]⟩ : Shape).Idx → EReal} {f : ℕ → ℕ → ℕ → ℝ} (hx : Real3 x f) (o n : ℕ)
    (hs : (⟨3, ![n0, n1, n2]⟩ : Shape).Slices ![o, 0, 0] ⟨3, ![n, n1, n2]⟩) :
    Real3 (extractStridedSlice ⟨3, ![n, n1, n2]⟩ ![o, 0, 0] x hs) (fun t g c => f (o + t) g c) := fun j => by
  refine (hx _).trans ?_
  show ((f (o + (j 0).val) (0 + (j 1).val) (0 + (j 2).val) : ℝ) : EReal) = _
  rw [Nat.zero_add, Nat.zero_add]

theorem Real2.slice {x : (⟨2, ![n0, n1]⟩ : Shape).Idx → EReal} {f : ℕ → ℕ → ℝ} (hx : Real2 x f) (o p n m : ℕ)
    (hs : (⟨2, ![n0, n1]⟩ : Shape).Slices ![o, p] ⟨2, ![n, m]⟩) :
    Real2 (extractStridedSlice ⟨2, ![n, m]⟩ ![o, p] x hs) (fun t c => f (o + t) (p + c)) := fun _ => hx _

/-- Rows put below rows. -/
theorem Real2.stack {p m : ℕ} {x : (⟨2, ![p, n1]⟩ : Shape).Idx → EReal} {y : (⟨2, ![m, n1]⟩ : Shape).Idx → EReal} {f g : ℕ → ℕ → ℝ}
    (hx : Real2 x f) (hy : Real2 y g) (hn : p + m = n0)
    (h : Shape.Concatenates [⟨2, ![p, n1]⟩, ⟨2, ![m, n1]⟩] ⟨2, ![n0, n1]⟩ 0) :
    Real2 (concatenate ⟨2, ![n0, n1]⟩ 0 [⟨⟨2, ![p, n1]⟩, x⟩, ⟨⟨2, ![m, n1]⟩, y⟩] h) (fun t c => if t < p then f t c else g (t - p) c) := fun j => by
  have h0 := idx2_lt0 j
  by_cases ht : (j 0).val < p
  · rw [concatenate_pair_apply_left 0 x y h j rfl (ix2 (n0 := p) (n1 := n1) ⟨(j 0).val, ht⟩ (j 1)) (fun b => match b with
      | ⟨0, _⟩ => rfl
      | ⟨1, _⟩ => rfl), hx]
    exact congrArg _ (if_pos ht).symm
  · rw [concatenate_pair_apply_right 0 x y h j rfl rfl (ix2 (n0 := m) (n1 := n1) ⟨(j 0).val - p, by omega⟩ (j 1)) (fun b hb => match b with
      | ⟨0, _⟩ => absurd rfl hb
      | ⟨1, _⟩ => rfl) (by show (j 0).val - p + p = (j 0).val; omega), hy]
    exact congrArg _ (if_neg ht).symm

theorem Real3.stack {p m : ℕ} {x : (⟨3, ![p, n1, n2]⟩ : Shape).Idx → EReal} {y : (⟨3, ![m, n1, n2]⟩ : Shape).Idx → EReal}
    {f g : ℕ → ℕ → ℕ → ℝ} (hx : Real3 x f) (hy : Real3 y g) (hn : p + m = n0)
    (h : Shape.Concatenates [⟨3, ![p, n1, n2]⟩, ⟨3, ![m, n1, n2]⟩] ⟨3, ![n0, n1, n2]⟩ 0) :
    Real3 (concatenate ⟨3, ![n0, n1, n2]⟩ 0 [⟨⟨3, ![p, n1, n2]⟩, x⟩, ⟨⟨3, ![m, n1, n2]⟩, y⟩] h)
      (fun t a c => if t < p then f t a c else g (t - p) a c) := fun j => by
  have h0 : (j 0).val < n0 := (j 0).isLt
  by_cases ht : (j 0).val < p
  · rw [concatenate_pair_apply_left 0 x y h j rfl (ix3 (n0 := p) (n1 := n1) (n2 := n2) ⟨(j 0).val, ht⟩ (j 1) (j 2)) (fun b => match b with
      | ⟨0, _⟩ => rfl
      | ⟨1, _⟩ => rfl
      | ⟨2, _⟩ => rfl), hx]
    exact congrArg _ (if_pos ht).symm
  · rw [concatenate_pair_apply_right 0 x y h j rfl rfl (ix3 (n0 := m) (n1 := n1) (n2 := n2) ⟨(j 0).val - p, by omega⟩ (j 1) (j 2))
      (fun b hb => match b with
      | ⟨0, _⟩ => absurd rfl hb
      | ⟨1, _⟩ => rfl
      | ⟨2, _⟩ => rfl) (by show (j 0).val - p + p = (j 0).val; omega), hy]
    exact congrArg _ (if_neg ht).symm

/-- A middle axis of one put in. -/
theorem Real2.layer {x : (⟨2, ![n0, n2]⟩ : Shape).Idx → EReal} {f : ℕ → ℕ → ℝ} (hx : Real2 x f) (h0 : n0 ≠ 1) (h2 : n2 ≠ 1)
    (h : (⟨2, ![n0, n2]⟩ : Shape).BroadcastsInDim ⟨3, ![n0, 1, n2]⟩ ![0, 2]) :
    Real3 (broadcastInDim ⟨3, ![n0, 1, n2]⟩ ![0, 2] h x) (fun t _ c => f t c) := fun j => by
  rw [broadcastInDim_apply _ h x j (ix2 (n0 := n0) (n1 := n2) (j 0) (j 2)) (fun a => match a with
    | ⟨0, _⟩ => (if_neg h0).symm
    | ⟨1, _⟩ => (if_neg h2).symm), hx]
  rfl

/-- One column block set into an array of zeros, `l` rows down, in column block `g`. -/
theorem Real3.place {n : ℕ} {x : (⟨3, ![n, 1, n2]⟩ : Shape).Idx → EReal} {f : ℕ → ℕ → ℕ → ℝ} (hx : Real3 x f)
    {v : (⟨0, ![]⟩ : Shape).Idx → EReal} (hv : ∀ i, v i = 0) (l g hi hi' : ℕ)
    (h : (⟨3, ![n, 1, n2]⟩ : Shape).Pads ![l, g, 0] ![hi, hi', 0] ![0, 0, 0] ⟨3, ![n0, n1, n2]⟩) (hu : 0 < (⟨0, ![]⟩ : Shape).numel) :
    Real3 (pad ⟨3, ![n0, n1, n2]⟩ ![l, g, 0] ![hi, hi', 0] ![0, 0, 0] x v h hu)
      (fun t b c => if b = g ∧ l ≤ t ∧ t < l + n then f (t - l) 0 c else 0) := fun j => by
  have h2 : (j 2).val < n2 := (j 2).isLt
  by_cases hb : (j 1).val = g
  · by_cases ht : l ≤ (j 0).val ∧ (j 0).val < l + n
    · rw [pad_apply_of_inside _ _ _ x v h hu j (ix3 (n0 := n) (n1 := 1) (n2 := n2) ⟨(j 0).val - l, by omega⟩ 0 (j 2)) (fun a => match a with
        | ⟨0, _⟩ => (by show (j 0).val = l + ((j 0).val - l) * (0 + 1); omega)
        | ⟨1, _⟩ => (by show (j 1).val = g + 0 * (0 + 1); omega)
        | ⟨2, _⟩ => (by show (j 2).val = 0 + (j 2).val * (0 + 1); omega)), hx]
      exact congrArg _ (if_pos ⟨hb, ht⟩).symm
    · rw [pad_apply_of_not_inside _ _ _ x v h hu j 0 (fun hin => ht ⟨hin.1, by
        have h2 : ((j 0).val - l) / (0 + 1) < n := hin.2.2
        have h1 : l ≤ (j 0).val := hin.1
        rw [Nat.div_one] at h2
        omega⟩), hv]
      exact (congrArg (fun r : ℝ => (r : EReal)) (if_neg fun hh => ht hh.2)).symm
  · rw [pad_apply_of_not_inside _ _ _ x v h hu j 1 (fun hin => hb (by
        have h2 : ((j 1).val - g) / (0 + 1) < 1 := hin.2.2
        have h1 : g ≤ (j 1).val := hin.1
        rw [Nat.div_one] at h2
        omega)), hv]
    exact (congrArg (fun r : ℝ => (r : EReal)) (if_neg fun hh => hb hh.1)).symm

/-- Four column blocks side by side. -/
theorem Real3.four {x0 x1 x2 x3 : (⟨3, ![n0, 1, n2]⟩ : Shape).Idx → EReal} {f : ℕ → ℕ → ℕ → ℝ}
    (h0 : Real3 x0 (fun t _ c => f t 0 c)) (h1 : Real3 x1 (fun t _ c => f t 1 c)) (h2 : Real3 x2 (fun t _ c => f t 2 c))
    (h3 : Real3 x3 (fun t _ c => f t 3 c))
    (h : Shape.Concatenates [⟨3, ![n0, 1, n2]⟩, ⟨3, ![n0, 1, n2]⟩, ⟨3, ![n0, 1, n2]⟩, ⟨3, ![n0, 1, n2]⟩] ⟨3, ![n0, 4, n2]⟩ 1) :
    Real3 (concatenate ⟨3, ![n0, 4, n2]⟩ 1 [⟨⟨3, ![n0, 1, n2]⟩, x0⟩, ⟨⟨3, ![n0, 1, n2]⟩, x1⟩, ⟨⟨3, ![n0, 1, n2]⟩, x2⟩,
      ⟨⟨3, ![n0, 1, n2]⟩, x3⟩] h) f := fun j => by
  have hb : ∀ b : Fin 3, b ≠ 1 → (ix3 (n0 := n0) (n1 := 1) (n2 := n2) (j 0) 0 (j 2) b).val = (j b).val := fun b hb => match b with
    | ⟨0, _⟩ => rfl
    | ⟨1, _⟩ => absurd rfl hb
    | ⟨2, _⟩ => rfl
  have hj : (j 1).val < 4 := (j 1).isLt
  obtain e | e | e | e : (j 1).val = 0 ∨ (j 1).val = 1 ∨ (j 1).val = 2 ∨ (j 1).val = 3 := by omega
  · refine (concatenate_apply_piece 1 [⟨_, x0⟩, ⟨_, x1⟩, ⟨_, x2⟩, ⟨_, x3⟩] h j 0 (by simp) _ x0 rfl rfl 0 rfl (ix3 (n0 := n0) (n1 := 1) (n2 := n2) (j 0) 0 (j 2)) hb (by rw [e]; rfl)).trans ((h0 _).trans ?_)
    rw [e]; rfl
  · refine (concatenate_apply_piece 1 [⟨_, x0⟩, ⟨_, x1⟩, ⟨_, x2⟩, ⟨_, x3⟩] h j 1 (by simp) _ x1 rfl rfl 1 rfl (ix3 (n0 := n0) (n1 := 1) (n2 := n2) (j 0) 0 (j 2)) hb (by rw [e]; rfl)).trans ((h1 _).trans ?_)
    rw [e]; rfl
  · refine (concatenate_apply_piece 1 [⟨_, x0⟩, ⟨_, x1⟩, ⟨_, x2⟩, ⟨_, x3⟩] h j 2 (by simp) _ x2 rfl rfl 2 rfl (ix3 (n0 := n0) (n1 := 1) (n2 := n2) (j 0) 0 (j 2)) hb (by rw [e]; rfl)).trans ((h2 _).trans ?_)
    rw [e]; rfl
  · refine (concatenate_apply_piece 1 [⟨_, x0⟩, ⟨_, x1⟩, ⟨_, x2⟩, ⟨_, x3⟩] h j 3 (by simp) _ x3 rfl rfl 3 rfl (ix3 (n0 := n0) (n1 := 1) (n2 := n2) (j 0) 0 (j 2)) hb (by rw [e]; rfl)).trans ((h3 _).trans ?_)
    rw [e]; rfl

end Layout

/-- The host's own count of the entries, as a column. -/
theorem real2_cntHost (w : ℕ) {q : BitVec 32} (hq : q = BitVec.ofNat 32 w) (hw : w < 2 ^ 31) (a b : (⟨1, ![2048]⟩ : Shape).Idx → BitVec 32)
    (ha : ∀ i, a i = 1#32) (hb : ∀ i, b i = q) (h : (⟨1, ![2048]⟩ : Shape).BroadcastsInDim ⟨2, ![2048, 1]⟩ ![0]) :
    Real2 (broadcastInDim ⟨2, ![2048, 1]⟩ ![0] h (sitofp (F := Ideal) .f32 (minsi (addi (iotaInDim ⟨1, ![2048]⟩ 32 0) a) b))) (fun t _ => cnt w t) :=
  fun j => by
  subst hq
  have ht := idx2_lt0 j
  rw [broadcastInDim_apply _ h _ j (ix1 (n0 := 2048) (j 0)) (fun a => match a with
    | ⟨0, _⟩ => rfl)]
  show (((IntOp.minsi (BitVec.ofNat 32 (j 0).val + a _) (b _)).toInt : ℝ) : EReal) = _
  rw [ha, hb, show (1#32 : BitVec 32) = BitVec.ofNat 32 1 from rfl, ← BitVec.ofNat_add, minsi_ofNat _ _ (by omega) hw]
  rfl

/-- A column repeated along the columns. -/
theorem Real2.spread {n0 n1 : ℕ} {x : (⟨2, ![n0, 1]⟩ : Shape).Idx → EReal} {f : ℕ → ℕ → ℝ} (hx : Real2 x f) (h0 : n0 ≠ 1)
    (h : (⟨2, ![n0, 1]⟩ : Shape).BroadcastsInDim ⟨2, ![n0, n1]⟩ ![0, 1]) :
    Real2 (broadcastInDim ⟨2, ![n0, n1]⟩ ![0, 1] h x) (fun t _ => f t 0) := fun j => by
  rw [broadcastInDim_apply _ h x j (ix2 (n0 := n0) (n1 := 1) (j 0) 0) (fun a => match a with
    | ⟨0, _⟩ => (if_neg h0).symm
    | ⟨1, _⟩ => (if_pos rfl).symm), hx]
  rfl

end Cert.Proof

end
-- ==== Proof.Running.lean ====
/- The host's running sums, forward and backward, of an array of reals. -/
module

public import proofs.«01_k».proof.Proof.Reals

@[expose] public section

noncomputable section

namespace Cert.Proof

open Idealize.ShloMosaic Idealize.ShloMosaic.ValueIdx Finset

/-- A left fold that adds is the starting value and the sum. -/
theorem foldl_add_sum {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

variable {n0 n1 n2 : ℕ} {x : FVec Ideal ⟨3, ![n0, n1, n2]⟩ .f32} {v : FVec Ideal ⟨0, ![]⟩ .f32} {f : ℕ → ℕ → ℕ → ℝ}

/-- A window of n0 rows slid along the rows, padded with zeros by `lo` rows at the front: at row `t` it reads rows `t - lo` to
    `t - lo + 2047`, those there are. -/
theorem Real3.slide (hx : Real3 x f) (hv : ∀ i, v i = 0) (lo hi : ℕ)
    (h : (⟨3, ![n0, n1, n2]⟩ : Shape).ReduceWindows ![n0, 1, 1] ![1, 1, 1] ![lo, 0, 0] ![hi, 0, 0] ⟨3, ![n0, n1, n2]⟩)
    (hu : 0 < (⟨0, ![]⟩ : Shape).numel) :
    Real3 (Host.reduceWindowAdd (F := Ideal) ![n0, 1, 1] ![1, 1, 1] ![lo, 0, 0] ![hi, 0, 0] x v h hu)
      (fun t g c => ∑ n ∈ range n0, if lo ≤ t + n ∧ t + n - lo < n0 then f (t + n - lo) g c else 0) := fun j => by
  have h1 : (j 1).val < n1 := (j 1).isLt
  have h2 : (j 2).val < n2 := (j 2).isLt
  show (List.finRange (⟨3, ![n0, 1, 1]⟩ : Shape).numel).foldl (fun r n => r + _) (v _) = _
  rw [foldl_add_sum, hv, zero_add, ← List.ofFn_eq_map, List.sum_ofFn]
  refine (Finset.sum_congr rfl fun i _ => ?_).trans ((Equiv.sum_comp (⟨3, ![n0, 1, 1]⟩ : Shape).rowMajor.symm fun p : (⟨3, ![n0, 1, 1]⟩ : Shape).Idx =>
    if lo ≤ (j 0).val + (p 0).val ∧ (j 0).val + (p 0).val - lo < n0 then
      ((f ((j 0).val + (p 0).val - lo) (j 1).val (j 2).val : ℝ) : EReal) else 0).trans ?_)
  · have p1 : ((⟨3, ![n0, 1, 1]⟩ : Shape).rowMajor.symm i 1).val = 0 := Nat.lt_one_iff.mp ((⟨3, ![n0, 1, 1]⟩ : Shape).rowMajor.symm i 1).isLt
    have p2 : ((⟨3, ![n0, 1, 1]⟩ : Shape).rowMajor.symm i 2).val = 0 := Nat.lt_one_iff.mp ((⟨3, ![n0, 1, 1]⟩ : Shape).rowMajor.symm i 2).isLt
    have e0 : (j 0).val * 1 + ((⟨3, ![n0, 1, 1]⟩ : Shape).rowMajor.symm i 0).val - lo = (j 0).val + ((⟨3, ![n0, 1, 1]⟩ : Shape).rowMajor.symm i 0).val - lo := by rw [Nat.mul_one]
    have e1 : (j 1).val * 1 + ((⟨3, ![n0, 1, 1]⟩ : Shape).rowMajor.symm i 1).val - 0 = (j 1).val := by omega
    have e2 : (j 2).val * 1 + ((⟨3, ![n0, 1, 1]⟩ : Shape).rowMajor.symm i 2).val - 0 = (j 2).val := by omega
    by_cases hk : lo ≤ (j 0).val + ((⟨3, ![n0, 1, 1]⟩ : Shape).rowMajor.symm i 0).val ∧ (j 0).val + ((⟨3, ![n0, 1, 1]⟩ : Shape).rowMajor.symm i 0).val - lo < n0
    · rw [if_pos hk]
      refine (dif_pos ?_).trans ((hx _).trans ?_)
      · intro a
        match a with
        | ⟨0, _⟩ => exact ⟨hk.1.trans_eq (congrArg (· + _) (Nat.mul_one (j 0).val).symm), e0.trans_lt hk.2⟩
        | ⟨1, _⟩ => exact ⟨Nat.zero_le _, e1.trans_lt h1⟩
        | ⟨2, _⟩ => exact ⟨Nat.zero_le _, e2.trans_lt h2⟩
      · show ((f ((j 0).val * 1 + ((⟨3, ![n0, 1, 1]⟩ : Shape).rowMajor.symm i 0).val - lo) ((j 1).val * 1 + ((⟨3, ![n0, 1, 1]⟩ : Shape).rowMajor.symm i 1).val - 0) ((j 2).val * 1 + ((⟨3, ![n0, 1, 1]⟩ : Shape).rowMajor.symm i 2).val - 0) : ℝ) : EReal) = _
        rw [e0, e1, e2]
    · rw [if_neg hk]
      exact dif_neg fun hin => hk ⟨(Nat.mul_one (j 0).val) ▸ (hin 0).1, e0 ▸ (hin 0).2⟩
  · rw [sum_idx3]
    refine sum_fin_coe n0 _ _ fun k => ?_
    simp only [univ_unique, sum_singleton]
    by_cases hk : lo ≤ (j 0).val + k.val ∧ (j 0).val + k.val - lo < n0
    · exact (if_pos hk).trans (by rw [if_pos hk]; rfl)
    · exact (if_neg hk).trans (by rw [if_neg hk]; rfl)

/-- The sum of the rows up to each row. -/
theorem Real3.running (hx : Real3 x f) (hv : ∀ i, v i = 0)
    (h : (⟨3, ![n0, n1, n2]⟩ : Shape).ReduceWindows ![n0, 1, 1] ![1, 1, 1] ![n0 - 1, 0, 0] ![0, 0, 0] ⟨3, ![n0, n1, n2]⟩)
    (hu : 0 < (⟨0, ![]⟩ : Shape).numel) :
    Real3 (Host.reduceWindowAdd (F := Ideal) ![n0, 1, 1] ![1, 1, 1] ![n0 - 1, 0, 0] ![0, 0, 0] x v h hu)
      (fun t g c => ∑ i ∈ range (t + 1), f i g c) := fun j => by
  have h0 : (j 0).val < n0 := (j 0).isLt
  refine (hx.slide hv (n0 - 1) 0 h hu j).trans (congrArg _ ?_)
  show ∑ n ∈ range n0, (if n0 - 1 ≤ (j 0).val + n ∧ (j 0).val + n - (n0 - 1) < n0 then _ else (0 : ℝ)) = ∑ i ∈ range ((j 0).val + 1), _
  rw [← sum_filter]
  refine sum_bij' (fun n _ => (j 0).val + n - (n0 - 1)) (fun i _ => i + (n0 - 1) - (j 0).val) ?_ ?_ ?_ ?_ fun _ _ => rfl
  · intro n hn
    rw [mem_filter, mem_range] at hn
    rw [mem_range]
    omega
  · intro i hi
    rw [mem_range] at hi
    rw [mem_filter, mem_range]
    omega
  · intro n hn
    rw [mem_filter, mem_range] at hn
    omega
  · intro i hi
    rw [mem_range] at hi
    omega

/-- The sum of the rows from each row on. -/
theorem Real3.runningBack (hx : Real3 x f) (hv : ∀ i, v i = 0) (hi : ℕ)
    (h : (⟨3, ![n0, n1, n2]⟩ : Shape).ReduceWindows ![n0, 1, 1] ![1, 1, 1] ![0, 0, 0] ![hi, 0, 0] ⟨3, ![n0, n1, n2]⟩)
    (hu : 0 < (⟨0, ![]⟩ : Shape).numel) :
    Real3 (Host.reduceWindowAdd (F := Ideal) ![n0, 1, 1] ![1, 1, 1] ![0, 0, 0] ![hi, 0, 0] x v h hu)
      (fun t g c => ∑ i ∈ range (n0 - t), f (t + i) g c) := fun j => by
  have h0 : (j 0).val < n0 := (j 0).isLt
  refine (hx.slide hv 0 hi h hu j).trans (congrArg _ ?_)
  show ∑ n ∈ range n0, (if 0 ≤ (j 0).val + n ∧ (j 0).val + n - 0 < n0 then f ((j 0).val + n - 0) _ _ else (0 : ℝ)) = _
  rw [← sum_filter]
  refine sum_congr ?_ fun _ _ => rfl
  ext n
  rw [mem_filter, mem_range, mem_range]
  omega

end Cert.Proof

end
-- ==== Proof.RefForward.lean ====
/- The reference's forward half: what its nodes hold when the arguments are arrays of reals. -/
module

public import proofs.«01_k».proof.Proof.HostOps
public import proofs.«01_k».proof.Proof.Running
public import proofs.«01_k».proof.Proof.Gen.ReferenceIdeal.Read

@[expose] public section

noncomputable section

namespace Cert.Proof.Ref

open Idealize.ShloMosaic
open Idealize.ShloMosaic.ValueIdx hiding ix1 ix2 ix3
open Cert.ReferenceIdeal Cert.ReferenceIdeal.Read Finset

/-- A column block pooled as the host does it: the running sum at each row less the one `W` rows before, zeros before the first; divided
    by the count; less the input. -/
theorem pooled_host {z : ℕ → ℕ → ℝ} {x2 : FVec Ideal ⟨3, ![2048, 4, 256]⟩ .f32} {x5 : FVec Ideal ⟨3, ![2049, 4, 256]⟩ .f32}
    (h2 : Real3 x2 (fun t g c => z t (g * 256 + c))) (h5 : Real3 x5 (fun t g c => ∑ i ∈ range t, z i (g * 256 + c))) (g W p m : ℕ)
    (hW : p + 1 = W) (hp : p + m = 2048) {zeros : FVec Ideal ⟨2, ![p, 256]⟩ .f32} (hn : Real2 zeros (fun _ _ => 0))
    {cn : FVec Ideal ⟨2, ![2048, 256]⟩ .f32} (hc : Real2 cn (fun t _ => cnt W t))
    (hs1 : (⟨3, ![2049, 4, 256]⟩ : Shape).Slices ![1, g, 0] ⟨3, ![2048, 1, 256]⟩)
    (hs2 : (⟨3, ![2049, 4, 256]⟩ : Shape).Slices ![0, g, 0] ⟨3, ![m, 1, 256]⟩)
    (hs3 : (⟨3, ![2048, 4, 256]⟩ : Shape).Slices ![0, g, 0] ⟨3, ![2048, 1, 256]⟩)
    (hc1 : (⟨3, ![2048, 1, 256]⟩ : Shape).ShapeCasts ⟨2, ![2048, 256]⟩) (hc2 : (⟨3, ![m, 1, 256]⟩ : Shape).ShapeCasts ⟨2, ![m, 256]⟩)
    (hcat : Shape.Concatenates [⟨2, ![p, 256]⟩, ⟨2, ![m, 256]⟩] ⟨2, ![2048, 256]⟩ 0) :
    Real2 (subf (Host.divf (subf (shapeCast ⟨2, ![2048, 256]⟩ (extractStridedSlice ⟨3, ![2048, 1, 256]⟩ ![1, g, 0] x5 hs1) hc1)
        (concatenate ⟨2, ![2048, 256]⟩ 0 [⟨⟨2, ![p, 256]⟩, zeros⟩,
          ⟨⟨2, ![m, 256]⟩, shapeCast ⟨2, ![m, 256]⟩ (extractStridedSlice ⟨3, ![m, 1, 256]⟩ ![0, g, 0] x5 hs2) hc2⟩] hcat)) cn)
      (shapeCast ⟨2, ![2048, 256]⟩ (extractStridedSlice ⟨3, ![2048, 1, 256]⟩ ![0, g, 0] x2 hs3) hc1))
      (fun t c => pooled W (cols z g) t c) := by
  have ha := h5.slab 1 g 2048 hs1 hc1
  have hb := hn.stack (h5.slab 0 g m hs2 hc2) hp hcat
  refine (((ha.subf hb).divHost hc fun t c _ _ => cnt_ne W t (by omega)).subf (h2.slab 0 g 2048 hs3 hc1)).congr fun t c _ _ => ?_
  have e : (if t < p then (0 : ℝ) else ∑ i ∈ range (0 + (t - p)), z i (g * 256 + c)) = ∑ i ∈ range (t + 1 - W), z i (g * 256 + c) := by
    by_cases ht : t < p
    · rw [if_pos ht, show t + 1 - W = 0 from by omega, range_zero, sum_empty]
    · rw [if_neg ht, show 0 + (t - p) = t + 1 - W from by omega]
  show (∑ i ∈ range (1 + t), z i (g * 256 + c) - (if t < p then (0 : ℝ) else ∑ i ∈ range (0 + (t - p)), z i (g * 256 + c))) / cnt W t
    - z (0 + t) (g * 256 + c) = past W (fun t => z t (g * 256 + c)) t / cnt W t - z t (g * 256 + c)
  rw [e, past_eq_sub, Nat.add_comm 1 t, show 0 + t = t from Nat.zero_add t]

variable {x0 : (⟨S2048x12288, .f32⟩ : BufTy).Contents (Elt Ideal)} {z : ℕ → ℕ → ℝ}

/-- The columns that are pooled, in four blocks. -/
theorem n2 (hz : Real2 (n0 := 2048) (n1 := 12288) x0 z) :
    Real3 (n0 := 2048) (n1 := 4) (n2 := 256) (val_main_v2 (F := Ideal) x0) (fun t g c => z t (g * 256 + c)) := fun i => by
  have h1 : (i 1).val < 4 := (i 1).isLt
  have h2 : (i 2).val < 256 := (i 2).isLt
  rw [val_main_v2_apply, val_main_v0_apply, hz]
  show ((z _ _ : ℝ) : EReal) = ((z _ _ : ℝ) : EReal)
  congr 2
  · show (((i 0).val * 4 + (i 1).val) * 256 + (i 2).val) / 1024 = (i 0).val; omega
  · show (((i 0).val * 4 + (i 1).val) * 256 + (i 2).val) % 1024 = (i 1).val * 256 + (i 2).val; omega

/-- The running sums, a row of zeros first. -/
theorem n5 (hz : Real2 (n0 := 2048) (n1 := 12288) x0 z) :
    Real3 (n0 := 2049) (n1 := 4) (n2 := 256) (val_main_v5 (F := Ideal) x0) (fun t g c => ∑ i ∈ range t, z i (g * 256 + c)) := by
  have h3 : Real3 (n0 := 1) (n1 := 4) (n2 := 256) (val_main_v3 (F := Ideal)) (fun _ _ _ => 0) := fun i => by
    rw [val_main_v3_apply]; exact Ideal.ofBits_zero_f32
  have h4 : Real3 (n0 := 2048) (n1 := 4) (n2 := 256) (val_main_v4 (F := Ideal) x0) (fun t g c => ∑ i ∈ range (t + 1), z i (g * 256 + c)) := by
    unfold val_main_v4
    exact (n2 hz).running (fun i => by rw [val_main_call0_call0_v0_apply]; exact Ideal.ofBits_zero_f32) _ _
  unfold val_main_v5
  refine (h3.stack h4 rfl _).congr fun t g c _ _ _ => ?_
  show (if t < 1 then (0 : ℝ) else ∑ i ∈ range (t - 1 + 1), _) = _
  by_cases ht : t < 1
  · rw [if_pos ht, show t = 0 from by omega, range_zero, sum_empty]
  · rw [if_neg ht, Nat.sub_add_cancel (by omega)]

theorem n20 : Real2 (n0 := 2048) (n1 := 1) (val_main_v20 (F := Ideal)) (fun t _ => cnt 2 t) :=
  real2_cntHost 2 rfl (by decide) _ _ (fun i => by rw [val_main_v15_apply]; rfl) (fun i => by rw [val_main_v17_apply]; rfl) _

theorem n39 : Real2 (n0 := 2048) (n1 := 1) (val_main_v39 (F := Ideal)) (fun t _ => cnt 4 t) :=
  real2_cntHost 4 rfl (by decide) _ _ (fun i => by rw [val_main_v34_apply]; rfl) (fun i => by rw [val_main_v36_apply]; rfl) _

theorem n58 : Real2 (n0 := 2048) (n1 := 1) (val_main_v58 (F := Ideal)) (fun t _ => cnt 8 t) :=
  real2_cntHost 8 rfl (by decide) _ _ (fun i => by rw [val_main_v53_apply]; rfl) (fun i => by rw [val_main_v55_apply]; rfl) _

theorem n77 : Real2 (n0 := 2048) (n1 := 1) (val_main_v77 (F := Ideal)) (fun t _ => cnt 16 t) :=
  real2_cntHost 16 rfl (by decide) _ _ (fun i => by rw [val_main_v72_apply]; rfl) (fun i => by rw [val_main_v74_apply]; rfl) _

theorem n26 (hz : Real2 (n0 := 2048) (n1 := 12288) x0 z) :
    Real2 (n0 := 2048) (n1 := 256) (val_main_v26 (F := Ideal) x0) (fun t c => pooled 2 (cols z 0) t c) :=
  pooled_host (n2 hz) (n5 hz) 0 2 1 2047 rfl rfl (fun i => by rw [val_main_v10_apply]; exact Ideal.ofBits_zero_f32)
    (n20.spread (by decide) _) _ _ _ _ _ _

theorem n45 (hz : Real2 (n0 := 2048) (n1 := 12288) x0 z) :
    Real2 (n0 := 2048) (n1 := 256) (val_main_v45 (F := Ideal) x0) (fun t c => pooled 4 (cols z 1) t c) :=
  pooled_host (n2 hz) (n5 hz) 1 4 3 2045 rfl rfl (fun i => by rw [val_main_v29_apply]; exact Ideal.ofBits_zero_f32)
    (n39.spread (by decide) _) _ _ _ _ _ _

theorem n64 (hz : Real2 (n0 := 2048) (n1 := 12288) x0 z) :
    Real2 (n0 := 2048) (n1 := 256) (val_main_v64 (F := Ideal) x0) (fun t c => pooled 8 (cols z 2) t c) :=
  pooled_host (n2 hz) (n5 hz) 2 8 7 2041 rfl rfl (fun i => by rw [val_main_v48_apply]; exact Ideal.ofBits_zero_f32)
    (n58.spread (by decide) _) _ _ _ _ _ _

theorem n83 (hz : Real2 (n0 := 2048) (n1 := 12288) x0 z) :
    Real2 (n0 := 2048) (n1 := 256) (val_main_v83 (F := Ideal) x0) (fun t c => pooled 16 (cols z 3) t c) :=
  pooled_host (n2 hz) (n5 hz) 3 16 15 2033 rfl rfl (fun i => by rw [val_main_v67_apply]; exact Ideal.ofBits_zero_f32)
    (n77.spread (by decide) _) _ _ _ _ _ _

/-- The window of column block `g`, for each of the four. -/
theorem n88 (hz : Real2 (n0 := 2048) (n1 := 12288) x0 z) :
    Real3 (n0 := 2048) (n1 := 4) (n2 := 256) (val_main_v88 (F := Ideal) x0) (fun t g c => pooled (window g) (cols z g) t c) :=
  Real3.four (f := fun t g c => pooled (window g) (cols z g) t c) ((n26 hz).layer (by decide) (by decide) _)
    ((n45 hz).layer (by decide) (by decide) _) ((n64 hz).layer (by decide) (by decide) _) ((n83 hz).layer (by decide) (by decide) _) _

end Cert.Proof.Ref

end
-- ==== Proof.PoolFwd.lean ====
/- The even layer's gated pooling mixer. -/
module

public import proofs.«01_k».proof.Proof.Adam
public import proofs.«01_k».proof.Proof.Block
public import proofs.«01_k».proof.Proof.RefForward
public import proofs.«01_k».proof.Proof.Finite
public import proofs.«01_k».proof.Pre_finite_pool
public import proofs.«01_k».proof.Proof.Gen.PoolFwdIdeal.Frame
public import proofs.«01_k».proof.Proof.Gen.PoolFwdReferenceIdeal.Run
public import proofs.«01_k».proof.Proof.Gen.PoolFwdReferenceIdeal.Read

@[expose] public section

set_option maxRecDepth 16384

noncomputable section

namespace Cert.Proof.PoolFwd

open Cert.PoolFwdIdeal Cert.PoolFwdIdeal.Gen Idealize.ShloMosaic Idealize.ShloMosaic.TcCoe Idealize.ShloMosaic.ValueIdx Finset
open Idealize.SL.Sem

/-- The input times its logistic function. -/
def silu (x : EReal) : EReal := x * Ideal.div (Ideal.ofBits .f32 0x3F800000#32) (Ideal.ofBits .f32 0x3F800000#32 + Ideal.exp (-x))

/-- A group's result at window `W`: its pooled channels mixed by the weight, scaled and gated. -/
def gated (W : ℕ) (a : ℕ → ℕ → ℝ) (x w : ℕ → ℕ → EReal) (s : ℕ → EReal) (t k : ℕ) : EReal :=
  (∑ c ∈ range 256, (pooled W a t c : EReal) * w c k) * s k * silu (x t k)

section Block

variable {i : grid0.Coords} {a : ℕ → ℕ → ℝ} {x w : ℕ → ℕ → EReal} {s : ℕ → EReal}
  {va vx : Vec Ideal S2048x256 .f32} {vw : Vec Ideal S1x256x256 .bf16} {vs : Vec Ideal S1x256 .f32}

/-- The block is made of the pieces the gradient's call computes too. -/
theorem block_eq (j : S2048x256.Idx) :
    k0_pay1 va (k0_pay2 (F := Ideal) i) (k0_pay3 i va) (Scalar.cmpi .sgt (Scalar.shli 2#32 (BitVec.ofNat 32 (i 0).val)) 8#32) (k0_pay4 i va)
        vw vx vs j
      = (Cert.KernelIdeal.Gen.k0_pay7 va (Cert.KernelIdeal.Gen.k0_pay2 (F := Ideal) i) (Cert.KernelIdeal.Gen.k0_pay3 (F := Ideal) i va)
          (Scalar.cmpi .sgt (Scalar.shli 2#32 (BitVec.ofNat 32 (i 0).val)) 8#32) (Cert.KernelIdeal.Gen.k0_pay4 (F := Ideal) i va) vw j : EReal)
        * broadcastTo S2048x256 (Cert.KernelIdeal.Gen.k0_pay9 (F := Ideal) vs) broadcasts_S1x256_S2048x256 j
        * (vx j * Ideal.div (Ideal.ofBits .f32 0x3F800000#32)
          (Ideal.ofBits .f32 0x3F800000#32 + Ideal.exp (Ideal.ofBits .f32 0x00000000#32 - vx j))) := rfl

theorem mixed_has (ha : Real2 va a) (hw : Has3 (n0 := 1) (n1 := 256) (n2 := 256) vw fun _ => w) :
    Has2 (n0 := 2048) (n1 := 256) (Cert.KernelIdeal.Gen.k0_pay7 va (Cert.KernelIdeal.Gen.k0_pay2 (F := Ideal) i)
          (Cert.KernelIdeal.Gen.k0_pay3 (F := Ideal) i va)
          (Scalar.cmpi .sgt (Scalar.shli 2#32 (BitVec.ofNat 32 (i 0).val)) 8#32) (Cert.KernelIdeal.Gen.k0_pay4 (F := Ideal) i va) vw)
      fun t k => ∑ c ∈ range 256, (pooled (Block.width i) a t c : EReal) * w c k := fun j => by
  have h := Block.pooled_real (i := i) ha
  have hw' : Has2 (n0 := 256) (n1 := 256) (Cert.KernelIdeal.Gen.k0_pay6 (F := Ideal) vw) w := fun j => by
    unfold Cert.KernelIdeal.Gen.k0_pay6
    pointwise
    exact hw _
  unfold Cert.KernelIdeal.Gen.k0_pay7
  revert h hw'
  generalize Cert.KernelIdeal.Gen.k0_pay5 (F := Ideal) va _ _ _ _ = p
  generalize Cert.KernelIdeal.Gen.k0_pay6 (F := Ideal) vw = q
  intro h hw'
  pointwise
  exact sum_fin_mul 256 (fun c => (pooled (Block.width i) a (j 0).val c : EReal)) (fun c => w c (j 1).val) _ _ (fun c => h _) (fun c => hw' _)

theorem block_has (ha : Real2 va a) (hx : Has2 (n0 := 2048) (n1 := 256) vx x) (hw : Has3 (n0 := 1) (n1 := 256) (n2 := 256) vw fun _ => w)
    (hs : Has2 (n0 := 1) (n1 := 256) vs fun _ => s) :
    Has2 (n0 := 2048) (n1 := 256) (k0_pay1 va (k0_pay2 (F := Ideal) i) (k0_pay3 i va)
      (Scalar.cmpi .sgt (Scalar.shli 2#32 (BitVec.ofNat 32 (i 0).val)) 8#32) (k0_pay4 i va) vw vx vs) (gated (Block.width i) a x w s) := fun j => by
  have scale : broadcastTo S2048x256 (Cert.KernelIdeal.Gen.k0_pay9 (F := Ideal) vs) broadcasts_S1x256_S2048x256 j = s (j 1).val := by
    unfold Cert.KernelIdeal.Gen.k0_pay9
    pointwise
    exact hs _
  rw [block_eq, mixed_has ha hw, scale, hx j, Ideal.ofBits_zero_f32, zero_sub]
  rfl

end Block

theorem index0 : ∀ t, win0_0.index t = ![0, t.val] := by decide +kernel
theorem index1 : ∀ t, win0_1.index t = ![0, 4 + t.val] := by decide +kernel
theorem index2 : ∀ t, win0_2.index t = ![t.val, 0, 0] := by decide +kernel
theorem index3 : ∀ t, win0_3.index t = ![0, t.val] := by decide +kernel
theorem index4 : ∀ t, win0_4.index t = ![0, t.val] := by decide +kernel
theorem width_eq : ∀ t, Block.width (grid0.coords t) = window t.val := by decide +kernel

/-- The result at row `t` and column `c`: the group of the column at its place in the group. -/
def result (z : ℕ → ℕ → ℝ) (w : ℕ → ℕ → ℕ → EReal) (s : ℕ → EReal) (t c : ℕ) : EReal :=
  gated (window (c / 256)) (cols z (c / 256)) (fun t k => (z t ((4 + c / 256) * 256 + k) : EReal)) (w (c / 256)) (fun k => s (c / 256 * 256 + k)) t
    (c % 256)

variable {z : ℕ → ℕ → ℝ} {w : ℕ → ℕ → ℕ → EReal} {s : ℕ → EReal} {m : (ℓ : Loc nD τ sig) → Buf (Elt Ideal) ℓ} {c : Dev nD}

section Kernel

variable (hz : Real2 (n0 := 2048) (n1 := 12288) (m ((c : Thread nD τ).loc main_arg0)) z)
  (hw : Has3 (n0 := 4) (n1 := 256) (n2 := 256) (m ((c : Thread nD τ).loc main_arg1)) w)
  (hs : Has1 (n := 1024) (m ((c : Thread nD τ).loc main_arg2)) s)

include hz in
theorem block_a (t : Fin cfg0.N) : Real2 (n0 := 2048) (n1 := 256) (iblk m c 0 t) (cols z t.val) := fun j => by
  blk_simp [iblk, index0]
  entry_read
  refine (hz _).trans ?_
  unfold cols
  blk_simp [index0]

include hz in
theorem block_x (t : Fin cfg0.N) : Has2 (n0 := 2048) (n1 := 256) (iblk m c 1 t) fun r k => (z r ((4 + t.val) * 256 + k) : EReal) := fun j => by
  blk_simp [iblk, index1]
  entry_read
  refine (hz _).trans ?_
  blk_simp [index1]

include hw in
theorem block_w (t : Fin cfg0.N) : Has3 (n0 := 1) (n1 := 256) (n2 := 256) (iblk m c 2 t) fun _ => w t.val := fun j => by
  have j0 : (j 0).val < 1 := (j 0).isLt
  blk_simp [iblk, index2]
  entry_read
  refine (hw _).trans ?_
  blk_simp [index2]

include hs in
theorem block_s (t : Fin cfg0.N) : Has2 (n0 := 1) (n1 := 256) (iblk m c 3 t) fun _ k => s (t.val * 256 + k) := fun j => by
  have j0 : (j 0).val < 1 := (j 0).isLt
  blk_simp [iblk, index3]
  show StableHlo.after hostOps0 _ (Proc.devRef .tc main_v1) _ = _
  entry_read
  pointwise
  refine (hs _).trans ?_
  blk_simp [index3]

include hz hw hs

/-- The call fills the left half of its result. -/
theorem call (i : S2048x2048.Idx) (half : (i 1).val / 256 < 4) : (dats m 0 c).arrAt 4 cfg0.N i = result z w s (i 0).val (i 1).val := by
  refine ((dats m 0 c).arrAt_apply_of_coversWhere 4 (fun i : S2048x2048.Idx => result z w s (i 0).val (i 1).val)
    (P := fun i : S2048x2048.Idx => (i 1).val / 256 < 4) (fun β => β (1 : Fin 2) < 4) (by decide +kernel) (fun t hf i => ?_)
    (fun j => ?_) i).trans (if_pos half)
  · blk_simp
    rw [after0_4]
    frame_out
    refine (block_has (i := grid0.coords t) (block_a hz t) (block_x hz t) (block_w hw t) (block_s hs t) i).trans ?_
    have i1 : (i 1).val < 256 := (i 1).isLt
    rw [width_eq]
    unfold result
    blk_simp [index4]
    rw [show (t.val * 256 + (i 1).val) / 256 = t.val from by omega, show (t.val * 256 + (i 1).val) % 256 = (i 1).val from by omega]
  · blk_simp [Pipeline.Window.cell_apply]

/-- What the program's result holds: the left half. -/
theorem kernel : Pipeline.afterTail₀ cfgs (dats m) 0 (V0 m) [hostOps1] c main_v3 = fun i => result z w s (i 0).val (i 1).val := by
  funext i
  have i1 : (i 1).val < 1024 := (i 1).isLt
  unfold Pipeline.afterTail₀
  show StableHlo.after hostOps1 _ (Proc.devRef .tc main_v3) i = _
  entry_read
  pointwise
  refine (congrFun (Pipeline.withArrays_arr_shared spec0 c _ _ (fun u v ne e => ?_) 4) _).trans ?_
  · have input : (cfg0.win u).isOut = false := by
      revert u v
      decide
    exact (dats m 0 c).arrAt_in u input _
  refine (call hz hw hs _ ?_).trans ?_
  · exact (Nat.div_lt_iff_lt_mul (by decide)).2 i1
  · rfl

end Kernel

/-- The program runs, and leaves the arguments. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c : Thread nD τ).loc main_v3) = Pipeline.afterTail₀ cfgs (dats m) 0 (V0 m) [hostOps1] c main_v3
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).2 main_v3 (Pipeline.mem_restRefs_of main_v3 (by decide) (by decide)),
      ((h c).1 1).trans (((dats m 0 c).arrAt_in 1 rfl _).trans (V_main_arg0 m c)),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩) (run_main m g)

section Reference

open Cert.PoolFwdReferenceIdeal.Read

theorem pooled_eq : val_main_v83 (F := Ideal) = Cert.ReferenceIdeal.Read.val_main_v88 (F := Ideal) := rfl

variable {x0 : S2048x12288.Idx → EReal} {x1 : S4x256x256.Idx → EReal} {x2 : S1024.Idx → EReal}
  (hz : Real2 (n0 := 2048) (n1 := 12288) x0 z) (hw : Has3 (n0 := 4) (n1 := 256) (n2 := 256) x1 w) (hs : Has1 (n := 1024) x2 s)

include hz hw in
theorem reference_mixed (i : S2048x1024.Idx) : (val_main_v86 (F := Ideal) x0 x1 i : EReal)
    = ∑ k ∈ range 256, (pooled (window ((i 1).val / 256)) (cols z ((i 1).val / 256)) (i 0).val k : EReal) * w ((i 1).val / 256) k ((i 1).val % 256) := by
  have i0 : (i 0).val < 2048 := (i 0).isLt
  have i1 : (i 1).val < 1024 := (i 1).isLt
  have e0 : ((i 0).val * 1024 + (i 1).val) / 1024 = (i 0).val := by omega
  have e1 : ((i 0).val * 1024 + (i 1).val) / 256 % 4 = (i 1).val / 256 := by omega
  have e2 : ((i 0).val * 1024 + (i 1).val) % 256 = (i 1).val % 256 := by omega
  rw [val_main_v86_apply, val_main_v85_apply, val_main_v84_apply, pooled_eq]
  simp only [mul_comm (x1 _ : EReal)]
  refine sum_fin_mul 256 (fun k => (pooled (window ((i 1).val / 256)) (cols z ((i 1).val / 256)) (i 0).val k : EReal))
    (fun k => w ((i 1).val / 256) k ((i 1).val % 256)) _ _ (fun k => ?_) (fun k => ?_)
  · refine (Ref.n88 hz _).trans ?_
    show ((pooled (window (((i 0).val * 1024 + (i 1).val) / 256 % 4)) (cols z (((i 0).val * 1024 + (i 1).val) / 256 % 4))
      (((i 0).val * 1024 + (i 1).val) / 1024) k.val : ℝ) : EReal) = _
    rw [e0, e1]
  · refine (hw _).trans ?_
    show w (((i 0).val * 1024 + (i 1).val) / 256 % 4) k.val (((i 0).val * 1024 + (i 1).val) % 256) = _
    rw [e1, e2]

include hz in
theorem reference_gate (i : S2048x1024.Idx) : (val_main_v90 (F := Ideal) x0 i : EReal) = silu (z (i 0).val ((4 + (i 1).val / 256) * 256 + (i 1).val % 256)) := by
  have at1 : (val_main_v1 (F := Ideal) x0 i : EReal) = z (i 0).val ((4 + (i 1).val / 256) * 256 + (i 1).val % 256) := by
    rw [val_main_v1_apply, hz]
    have e : (4 + (i 1).val / 256) * 256 + (i 1).val % 256 = 1024 + (i 1).val := by omega
    rw [e]
  rw [← at1]
  rfl

include hz hw hs in
theorem reference (i : S2048x1024.Idx) : (val_main_v92 (F := Ideal) x0 x1 x2 i : EReal) = result z w s (i 0).val (i 1).val := by
  have scale : (val_main_v88 (F := Ideal) x2 i : EReal) = s ((i 1).val / 256 * 256 + (i 1).val % 256) := by
    have e : (i 1).val / 256 * 256 + (i 1).val % 256 = (i 1).val := by omega
    rw [val_main_v88_apply, val_main_v87_apply, e]
    exact hs _
  refine Eq.trans (b := (val_main_v86 (F := Ideal) x0 x1 i : EReal) * val_main_v88 (F := Ideal) x2 i * val_main_v90 (F := Ideal) x0 i) rfl ?_
  rw [reference_mixed hz hw, scale, reference_gate hz]
  rfl

end Reference

theorem finite_facts : Cert.Pre_finite_pool.Facts where
  bcast_S_S2048x12288 := by decide
  reducesTo_S2048x12288_S_d0_1 := by decide
  h_S_ := by decide

instance : Subsingleton Cert.Pre_finite_pool.S_.Idx := ⟨fun a b => funext fun k => k.elim0⟩

/-- Where the precondition holds, the first argument holds reals. -/
theorem reals [Cert.Pre_finite_pool.Facts] (x0 : FVec Ideal S2048x12288 .f32) (x1 : FVec Ideal S4x256x256 .f32) (x2 : FVec Ideal S1024 .f32)
    (h : Cert.Pre_finite_pool.fn (F := Ideal) x0 x1 x2 = fun _ => 1#1) : ∃ z, Real2 (n0 := 2048) (n1 := 12288) x0 z := by
  unfold Cert.Pre_finite_pool.fn at h
  have all := congrFun h (fun k => k.elim0)
  exact Real2.exists (n0 := 2048) (n1 := 12288) x0 (real_of_all x0 _ (fun _ => rfl) _ _ _ _ all)

theorem frame_reference : Cert.quiescent_PoolFwdReferenceIdeal := fun m g _ =>
  (θ_run (Cert.PoolFwdReferenceIdeal.defs (F := Ideal)) _ _).mono (fun r h => ⟨fun c => (h c).2,
      Idealize.ShloMosaic.sem_eq_zero_of_no_sems (by decide) r.2⟩)
    (Cert.PoolFwdReferenceIdeal.Value.run (F := Ideal) m g)

theorem same : Cert.algebraic_PoolFwdIdeal_PoolFwdReferenceIdeal_pre_finite_pool (hPre_finite_pool := finite_facts) := by
  intro m g m' g' pre same
  refine ⟨fun c => Pipeline.afterTail₀ cfgs (dats m) 0 (V0 m) [hostOps1] c main_v3, run m g, ?_⟩
  refine (θ_run (Cert.PoolFwdReferenceIdeal.defs (F := Ideal)) _ _).mono (fun r h c => ?_) (Cert.PoolFwdReferenceIdeal.Value.run (F := Ideal) m' g')
  obtain ⟨z, hz⟩ := @reals finite_facts _ _ _ (pre c)
  obtain ⟨w, hw⟩ := Adam.has3_exists (n0 := 4) (n1 := 256) (n2 := 256) (m ((c : Thread nD τ).loc main_arg1))
  obtain ⟨s, hs⟩ := Has1.exists (n := 1024) (m ((c : Thread nD τ).loc main_arg2))
  obtain ⟨h0, kept⟩ := h c
  obtain ⟨e0, e1, e2⟩ := same c
  refine ⟨(h0.trans (Cert.PoolFwdReferenceIdeal.Read.val_main_v92_eq _ _)).trans ?_, kept⟩
  rw [e0, e1, e2]
  exact (funext (reference hz hw hs)).trans (kernel hz hw hs).symm

end Cert.Proof.PoolFwd

end
-- ==== Proof.FirstNormFwd.lean ====
/- The first norm: the normed rows and their transpose. -/
module

public import proofs.«01_k».proof.Proof.FirstNorm
public import proofs.«01_k».proof.Proof.Gen.FirstNormFwdIdeal.Value
public import proofs.«01_k».proof.Proof.Gen.FirstNormFwdReferenceIdeal.Run
public import proofs.«01_k».proof.Proof.Gen.FirstNormFwdReferenceIdeal.Read

@[expose] public section

set_option maxRecDepth 16384

noncomputable section

namespace Cert.Proof.FirstNormFwd

open Cert.FirstNormFwdIdeal Cert.FirstNormFwdIdeal.Gen Idealize.ShloMosaic Idealize.ShloMosaic.TcCoe Idealize.ShloMosaic.ValueIdx
open Idealize.SL.Sem Norm

theorem pay1_eq (v : FVec Ideal S256x2048 .f32) (u : FVec Ideal S1x2048 .f32) : k0_pay1 (F := Ideal) v u = FirstNorm.normed v u := rfl

theorem index0 : ∀ t, win0_0.index t = ![t.val, 0] := by decide +kernel
theorem index1 : ∀ t, win0_1.index t = ![0, 0] := by decide +kernel
theorem index2 : ∀ t, win0_2.index t = ![t.val, 0] := by decide +kernel
theorem index3 : ∀ t, win0_3.index t = ![0, t.val] := by decide +kernel

variable {x : ℕ → ℕ → EReal} {g : ℕ → EReal} {m : (ℓ : Loc nD τ sig) → Buf (Elt Ideal) ℓ} {c : Dev nD}
variable (hx : Has2 (n0 := 2048) (n1 := 2048) (m ((c : Thread nD τ).loc main_arg0)) x) (hg : Has1 (n := 2048) (m ((c : Thread nD τ).loc main_arg1)) g)

include hx in
theorem block_x (t : Fin cfg0.N) : Has2 (n0 := 256) (n1 := 2048) (iblk m c 0 t) fun r => x (t.val * 256 + r) := fun j => by
  blk_simp [iblk, index0]
  entry_read
  rw [hx]
  blk_simp [index0]

include hg in
theorem block_g (t : Fin cfg0.N) : Has2 (n0 := 1) (n1 := 2048) (iblk m c 1 t) fun _ => g := fun j => by
  blk_simp [iblk, index1]
  entry_read
  pointwise
  refine (hg _).trans ?_
  blk_simp [index1]

include hx hg

/-- The normed rows. -/
theorem kernel : (dats m 0 c).arrAt 2 cfg0.N = fun i => x (i 0).val (i 1).val * scale (x (i 0).val) * g (i 1).val := by
  refine (dats m 0 c).arrAt_eq_of_covers 2 _ (by decide +kernel) fun t hf i => ?_
  blk_simp
  rw [after0_2]
  frame_out
  unfold k0_pay2
  rw [pay1_eq]
  refine (FirstNorm.normed_has (block_x hx t) (block_g hg t) i).trans ?_
  blk_simp [index2]

/-- The normed rows as columns. -/
theorem kernel_transposed : (dats m 0 c).arrAt 3 cfg0.N = fun i => x (i 1).val (i 0).val * scale (x (i 1).val) * g (i 0).val := by
  refine (dats m 0 c).arrAt_eq_of_covers 3 _ (by decide +kernel) fun t hf i => ?_
  blk_simp
  rw [after0_3]
  frame_out
  unfold k0_pay3
  rw [pay1_eq]
  pointwise
  refine (FirstNorm.normed_has (block_x hx t) (block_g hg t) _).trans ?_
  blk_simp [index3]

omit hx hg

theorem frame_reference : Cert.quiescent_FirstNormFwdReferenceIdeal := fun m g _ =>
  (θ_run (Cert.FirstNormFwdReferenceIdeal.defs (F := Ideal)) _ _).mono (fun r h => ⟨fun c => (h c).2.2,
      Idealize.ShloMosaic.sem_eq_zero_of_no_sems (by decide) r.2⟩)
    (Cert.FirstNormFwdReferenceIdeal.Value.run (F := Ideal) m g)

/-- The reference's normed rows. -/
theorem reference {x0 : S2048x2048.Idx → EReal} {x1 : S2048.Idx → EReal} (hx : Has2 (n0 := 2048) (n1 := 2048) x0 x) (hg : Has1 (n := 2048) x1 g) :
    Has2 (n0 := 2048) (n1 := 2048) (Cert.FirstNormFwdReferenceIdeal.Read.val_main_v13 (F := Ideal) x0 x1) fun r c => x r c * scale (x r) * g c :=
  RefNorm.normed (x2 := x0) (x3 := x1) hx hg

/-- The two programs end with the same normed rows and the same transpose of them. -/
theorem same : Cert.algebraic_FirstNormFwdIdeal_FirstNormFwdReferenceIdeal := by
  intro m g m' g' _ same
  refine ⟨fun c => (dats m 0 c).arrAt 2 cfg0.N, fun c => (dats m 0 c).arrAt 3 cfg0.N, Cert.FirstNormFwdIdeal.Value.run_blocks m g, ?_⟩
  refine (θ_run (Cert.FirstNormFwdReferenceIdeal.defs (F := Ideal)) _ _).mono (fun r h c => ?_) (Cert.FirstNormFwdReferenceIdeal.Value.run (F := Ideal) m' g')
  obtain ⟨x, hx⟩ := Has2.exists (n0 := 2048) (n1 := 2048) (m ((c : Thread nD τ).loc main_arg0))
  obtain ⟨p, hp⟩ := Has1.exists (n := 2048) (m ((c : Thread nD τ).loc main_arg1))
  obtain ⟨h0, h1, kept⟩ := h c
  obtain ⟨e0, e1⟩ := same c
  refine ⟨?_, ?_, kept⟩
  · refine (h0.trans (Cert.FirstNormFwdReferenceIdeal.Read.val_main_v13_eq _ _)).trans ?_
    rw [e0, e1]
    exact (funext (reference hx hp)).trans (kernel hx hp).symm
  · refine (h1.trans (Cert.FirstNormFwdReferenceIdeal.Read.val_main_v14_eq _ _)).trans ?_
    rw [e0, e1]
    refine (funext fun i => ?_).trans (kernel_transposed hx hp).symm
    rw [Cert.FirstNormFwdReferenceIdeal.Read.val_main_v14_apply, reference hx hp]

end Cert.Proof.FirstNormFwd

end
-- ==== Proof.LossDx.lean ====
/- The output product of the odd layer, the norm after it, the loss, and the loss's gradients back to the product. -/
module

public import proofs.«01_k».proof.Proof.EvenOut
public import proofs.«01_k».proof.Pre_finite_loss
public import proofs.«01_k».proof.Proof.Gen.LossDxIdeal.Value
public import proofs.«01_k».proof.Proof.Gen.LossDxReferenceIdeal.Run
public import proofs.«01_k».proof.Proof.Gen.LossDxReferenceIdeal.Read
public import Idealize.ShloMosaic.Lib.ValueIdxRank1

@[expose] public section

set_option maxRecDepth 16384

noncomputable section

namespace Cert.Proof.LossDx

open Cert.LossDxIdeal Cert.LossDxIdeal.Gen Idealize.ShloMosaic Idealize.ShloMosaic.TcCoe Idealize.ShloMosaic.ValueIdx Finset
open Idealize.SL.Sem Norm

/-- The kernel's two constants: one over the row length, and half of that. -/
def unit : EReal := Ideal.ofBits .f32 0x3A000000#32
def halfUnit : EReal := Ideal.ofBits .f32 0x39800000#32

theorem unit_eq : unit = ((1 / 2048 : ℝ) : EReal) := by
  simp [unit, Ideal.ofBits, Ideal.ieee]
  rw [← EReal.coe_mul]
  norm_num

theorem halfUnit_eq : halfUnit = ((1 / 4096 : ℝ) : EReal) := by
  simp [halfUnit, Ideal.ofBits, Ideal.ieee]
  rw [← EReal.coe_mul]
  norm_num

/-- The difference between the network's output and the target. -/
def err (y w x z : ℕ → ℕ → EReal) (p : ℕ → EReal) (r c : ℕ) : EReal := EvenOut.next y w x p r c - z r c

section Block

variable {y w x z e : ℕ → ℕ → EReal} {p : ℕ → EReal} {v : FVec Ideal S256x2048 .bf16} {b : FVec Ideal S2048x2048 .bf16}
  {a d f : FVec Ideal S256x2048 .f32} {u : FVec Ideal S1x2048 .f32}

/-- The operations of the product, of the norm and of its derivative are those of the calls before. -/
theorem pay6_eq : k0_pay6 (F := Ideal) v b = Cert.EvenOutIdeal.Gen.k0_pay2 (F := Ideal) v b := rfl
theorem pay10_eq : k0_pay10 (F := Ideal) v b u a d = subf (Cert.EvenOutIdeal.Gen.k0_pay3 (F := Ideal) v b a u) d := rfl
theorem pay3_eq : k0_pay3 (F := Ideal) (k0_pay8 v b) f = Cert.FirstNormIdeal.Gen.k0_pay3 (F := Ideal) (k0_pay6 (F := Ideal) v b) (k0_pay2 (F := Ideal) f) := rfl
theorem pay4_eq {old : FVec Ideal S1x2048 .f32} :
    k0_pay4 (F := Ideal) (k0_pay8 v b) f old = Cert.FirstNormIdeal.Gen.k0_pay4 (F := Ideal) (k0_pay6 (F := Ideal) v b) (k0_pay2 (F := Ideal) f) old := rfl
theorem pay5_eq : k0_pay5 (F := Ideal) (k0_pay7 v b) (k0_pay8 v b) (k0_pay9 u) f
    = truncf .bf16 (FirstNorm.block (k0_pay6 v b) (k0_pay2 f) u) bitsLt_bf16_f32 := rfl

theorem product (hy : Has2 (n0 := 256) (n1 := 2048) v y) (hw : Has2 (n0 := 2048) (n1 := 2048) b w) :
    Has2 (n0 := 256) (n1 := 2048) (k0_pay6 (F := Ideal) v b) (EvenOut.prod y w) := EvenOut.product hy hw

theorem difference (hy : Has2 (n0 := 256) (n1 := 2048) v y) (hw : Has2 (n0 := 2048) (n1 := 2048) b w) (hx : Has2 (n0 := 256) (n1 := 2048) a x)
    (hz : Has2 (n0 := 256) (n1 := 2048) d z) (hp : Has2 (n0 := 1) (n1 := 2048) u fun _ => p) :
    Has2 (n0 := 256) (n1 := 2048) (k0_pay10 (F := Ideal) v b u a d) (err y w x z p) := fun i => by
  rw [pay10_eq, subf_apply, EvenOut.summed hy hw hx hp i, hz]
  rfl

theorem scaled (he : Has2 (n0 := 256) (n1 := 2048) f e) : Has2 (n0 := 256) (n1 := 2048) (k0_pay2 (F := Ideal) f) fun r c => e r c * unit := fun i => by
  unfold k0_pay2
  pointwise
  rw [he]
  rfl

/-- The block's part of the loss. -/
theorem loss_block (he : Has2 (n0 := 256) (n1 := 2048) (k0_pay10 (F := Ideal) v b u a d) e) (i : S1x128.Idx) :
    k0_pay11 (F := Ideal) v b u a d i = (∑ r ∈ range 256, ∑ k ∈ range 2048, e r k * e r k) * halfUnit := by
  unfold k0_pay11
  pointwise
  rw [Fin.sum_univ_one]
  exact congrArg (fun s => s * halfUnit) (sum_fin_eq 256 (fun r => ∑ k ∈ range 2048, e r k * e r k) _ fun r =>
    sum_fin_mul 2048 (e r.val) (e r.val) _ _ (fun k => he _) (fun k => he _))

/-- The block's part of the loss, added to what the points before left. -/
theorem loss_step {old : FVec Ideal S1x128 .f32} (he : Has2 (n0 := 256) (n1 := 2048) (k0_pay10 (F := Ideal) v b u a d) e) (i : S1x128.Idx) :
    k0_pay1 (F := Ideal) (k0_pay11 (F := Ideal) v b u a d) old i = old i + (∑ r ∈ range 256, ∑ k ∈ range 2048, e r k * e r k) * halfUnit := by
  unfold k0_pay1
  pointwise
  rw [loss_block he]

end Block

theorem index0 : ∀ t, win0_0.index t = ![t.val, 0] := by decide +kernel
theorem index1 : ∀ t, win0_1.index t = ![0, 0] := by decide +kernel
theorem index2 : ∀ t, win0_2.index t = ![t.val, 0] := by decide +kernel
theorem index3 : ∀ t, win0_3.index t = ![t.val, 0] := by decide +kernel
theorem index4 : ∀ t, win0_4.index t = ![0, 0] := by decide +kernel
theorem index5 : ∀ t, win0_5.index t = ![0, 0] := by decide +kernel
theorem index6 : ∀ t, win0_6.index t = ![t.val, 0] := by decide +kernel
theorem index7 : ∀ t, win0_7.index t = ![t.val, 0] := by decide +kernel
theorem index8 : ∀ t, win0_8.index t = ![0, 0] := by decide +kernel

/-- What the arguments hold. -/
structure Args (a0 a1 a2 a3 : S2048x2048.Idx → EReal) (a4 : S2048.Idx → EReal) (y w x z : ℕ → ℕ → EReal) (p : ℕ → EReal) : Prop where
  hy : Has2 (n0 := 2048) (n1 := 2048) a0 y
  hw : Has2 (n0 := 2048) (n1 := 2048) a1 w
  hx : Has2 (n0 := 2048) (n1 := 2048) a2 x
  hz : Has2 (n0 := 2048) (n1 := 2048) a3 z
  hp : Has1 (n := 2048) a4 p

variable {y w x z : ℕ → ℕ → EReal} {p : ℕ → EReal} {m : (ℓ : Loc nD τ sig) → Buf (Elt Ideal) ℓ} {c : Dev nD}

section Kernel

variable (h : Args (m ((c : Thread nD τ).loc main_arg0)) (m ((c : Thread nD τ).loc main_arg1)) (m ((c : Thread nD τ).loc main_arg2))
  (m ((c : Thread nD τ).loc main_arg3)) (m ((c : Thread nD τ).loc main_arg4)) y w x z p)

include h

theorem block_y (t : Fin cfg0.N) : Has2 (n0 := 256) (n1 := 2048) (iblk m c 0 t) fun r => y (t.val * 256 + r) := fun j => by
  blk_simp [iblk, index0]
  entry_read
  rw [h.hy]
  blk_simp [index0]

theorem block_w (t : Fin cfg0.N) : Has2 (n0 := 2048) (n1 := 2048) (iblk m c 1 t) w := fun j => by
  blk_simp [iblk, index1]
  entry_read
  refine (h.hw _).trans ?_
  blk_simp [index1]

theorem block_x (t : Fin cfg0.N) : Has2 (n0 := 256) (n1 := 2048) (iblk m c 2 t) fun r => x (t.val * 256 + r) := fun j => by
  blk_simp [iblk, index2]
  entry_read
  rw [h.hx]
  blk_simp [index2]

theorem block_z (t : Fin cfg0.N) : Has2 (n0 := 256) (n1 := 2048) (iblk m c 3 t) fun r => z (t.val * 256 + r) := fun j => by
  blk_simp [iblk, index3]
  entry_read
  rw [h.hz]
  blk_simp [index3]

theorem block_p (t : Fin cfg0.N) : Has2 (n0 := 1) (n1 := 2048) (iblk m c 4 t) fun _ => p := fun j => by
  blk_simp [iblk, index4]
  entry_read
  pointwise
  refine (h.hp _).trans ?_
  blk_simp [index4]

theorem block_err (t : Fin cfg0.N) :
    Has2 (n0 := 256) (n1 := 2048) (k0_pay10 (F := Ideal) (iblk m c 0 t) (iblk m c 1 t) (iblk m c 4 t) (iblk m c 2 t) (iblk m c 3 t))
      fun r => err y w x z p (t.val * 256 + r) :=
  difference (block_y h t) (block_w h t) (block_x h t) (block_z h t) (block_p h t)

theorem block_product (t : Fin cfg0.N) :
    Has2 (n0 := 256) (n1 := 2048) (k0_pay6 (F := Ideal) (iblk m c 0 t) (iblk m c 1 t)) fun r => EvenOut.prod y w (t.val * 256 + r) :=
  product (block_y h t) (block_w h t)

/-- The loss's gradient by the network's output, in the block. -/
theorem block_dx (t : Fin cfg0.N) : Has2 (n0 := 256) (n1 := 2048)
    (k0_pay2 (F := Ideal) (k0_pay10 (F := Ideal) (iblk m c 0 t) (iblk m c 1 t) (iblk m c 4 t) (iblk m c 2 t) (iblk m c 3 t)))
      fun r c => err y w x z p (t.val * 256 + r) c * unit := scaled (block_err h t)

/-- The loss, in each of the 128 columns. -/
theorem kernel_loss : (dats m 0 c).arrAt 5 cfg0.N = fun _ =>
    ∑ s ∈ range 8, (∑ r ∈ range 256, ∑ k ∈ range 2048, err y w x z p (s * 256 + r) k * err y w x z p (s * 256 + r) k) * halfUnit := by
  refine (dats m 0 c).arrAt_eq_of_covers 5 _ (by decide +kernel) fun t hf i => ?_
  have h7 : t.val % 8 = 7 := (flush0_5 t).mp hf
  have ht : t.val < 8 := t.isLt
  blk_simp
  rw [after0_5]
  refine (Pipeline.eq_sum_of_reset_step_apply_divmod (fun n h => (outsAt0 m c n h).1) 8 (fun _ => (0 : EReal))
    (fun q s _ => (∑ r ∈ range 256, ∑ k ∈ range 2048, err y w x z p ((q * 8 + s) * 256 + r) k * err y w x z p ((q * 8 + s) * 256 + r) k) * halfUnit)
    (fun t h0 j => ?_) (fun t h0 j => ?_) t i).trans ?_
  · have ht : t.val < 8 := t.isLt
    rw [outsAt0_A m c t h0 (by omega) h0 (by omega)]
    frame_out
    rw [loss_block (block_err h t), zero_add]
    simp only [show t.val / 8 * 8 + t.val % 8 = t.val by omega]
  · rw [outsAt0_B m c t h0 (by omega) h0 (by omega)]
    frame_out
    rw [loss_step (block_err h t)]
    simp only [show t.val / 8 * 8 + t.val % 8 = t.val by omega]
  · rw [h7, show t.val / 8 = 0 by omega]
    simp only [Nat.zero_mul, Nat.zero_add, zero_add]

/-- The gradient by the network's output. -/
theorem kernel_dx : (dats m 0 c).arrAt 6 cfg0.N = fun i => err y w x z p (i 0).val (i 1).val * unit := by
  refine (dats m 0 c).arrAt_eq_of_covers 6 _ (by decide +kernel) fun t hf i => ?_
  have ht : t.val < 8 := t.isLt
  have pay : (outsAt0 m c t.val t.isLt).2.1 i = err y w x z p (t.val * 256 + (i 0).val) (i 1).val * unit := by
    by_cases h0 : t.val % 8 = 0
    · rw [outsAt0_A m c t h0 (by omega) h0 (by omega)]
      frame_out
      exact block_dx h t i
    · rw [outsAt0_B m c t h0 (by omega) h0 (by omega)]
      frame_out
      exact block_dx h t i
  blk_simp
  rw [after0_6, pay]
  blk_simp [index6]

/-- The gradient by the product. -/
theorem kernel_dy : (dats m 0 c).arrAt 7 cfg0.N
    = fun i => bwd (fun k => err y w x z p (i 0).val k * unit) (EvenOut.prod y w (i 0).val) p (i 1).val := by
  refine (dats m 0 c).arrAt_eq_of_covers 7 _ (by decide +kernel) fun t hf i => ?_
  have ht : t.val < 8 := t.isLt
  have pay : (outsAt0 m c t.val t.isLt).2.2.1 i
      = bwd (fun k => err y w x z p (t.val * 256 + (i 0).val) k * unit) (EvenOut.prod y w (t.val * 256 + (i 0).val)) p (i 1).val := by
    by_cases h0 : t.val % 8 = 0
    · rw [outsAt0_A m c t h0 (by omega) h0 (by omega)]
      frame_out
      rw [pay5_eq]
      exact FirstNorm.block_has (block_product h t) (block_dx h t) (block_p h t) i
    · rw [outsAt0_B m c t h0 (by omega) h0 (by omega)]
      frame_out
      rw [pay5_eq]
      exact FirstNorm.block_has (block_product h t) (block_dx h t) (block_p h t) i
  blk_simp
  rw [after0_7, pay]
  blk_simp [index7]

/-- The gradient by the norm's gain. -/
theorem kernel_gain : (dats m 0 c).arrAt 8 cfg0.N = fun i =>
    ∑ r ∈ range 2048, err y w x z p r (i 1).val * unit * (EvenOut.prod y w r (i 1).val * scale (EvenOut.prod y w r)) := by
  refine (dats m 0 c).arrAt_eq_of_covers 8 _ (by decide +kernel) fun t hf i => ?_
  have h7 : t.val % 8 = 7 := (flush0_8 t).mp hf
  have ht : t.val < 8 := t.isLt
  blk_simp
  rw [after0_8]
  refine (Pipeline.eq_sum_of_reset_step_apply_divmod (fun n h => (outsAt0 m c n h).2.2.2) 8 (fun _ => (0 : EReal))
    (fun q s i => ∑ r ∈ range 256, err y w x z p ((q * 8 + s) * 256 + r) (i 1).val * unit
      * (EvenOut.prod y w ((q * 8 + s) * 256 + r) (i 1).val * scale (EvenOut.prod y w ((q * 8 + s) * 256 + r))))
    (fun t h0 j => ?_) (fun t h0 j => ?_) t i).trans ?_
  · have ht : t.val < 8 := t.isLt
    rw [outsAt0_A m c t h0 (by omega) h0 (by omega)]
    frame_out
    rw [pay3_eq, FirstNorm.gain_block (block_product h t) (block_dx h t) j, zero_add]
    simp only [show t.val / 8 * 8 + t.val % 8 = t.val by omega]
  · rw [outsAt0_B m c t h0 (by omega) h0 (by omega)]
    frame_out
    rw [pay4_eq, FirstNorm.gain_step (block_product h t) (block_dx h t)]
    simp only [show t.val / 8 * 8 + t.val % 8 = t.val by omega]
  · rw [h7]
    refine (FirstNorm.gain_total (fun r => err y w x z p r (i 1).val * unit * (EvenOut.prod y w r (i 1).val * scale (EvenOut.prod y w r))) _
      (by omega)).trans ?_
    blk_simp [index8]

end Kernel

/-- The shape relations of the precondition's own operations hold. -/
theorem finite_facts : Cert.Pre_finite_loss.Facts where
  bcast_S_S2048x2048 := by decide
  reducesTo_S2048x2048_S_d0_1 := by decide
  h_S_ := by decide
  bcast_S_S2048 := by decide
  reducesTo_S2048_S_d0 := by decide
  bitsLt_bf16_f32 := by decide

instance : Subsingleton Cert.Pre_finite_loss.S_.Idx := ⟨fun a b => funext fun k => k.elim0⟩

/-- Where the precondition holds, each argument holds reals. -/
theorem reals [Cert.Pre_finite_loss.Facts] (x0 : FVec Ideal S2048x2048 .bf16) (x1 x2 x3 : FVec Ideal S2048x2048 .f32) (x4 : FVec Ideal S2048 .f32)
    (x5 : FVec Ideal S8x128 .f32) (h : Cert.Pre_finite_loss.fn (F := Ideal) x0 x1 x2 x3 x4 x5 = fun _ => 1#1) :
    ∃ (y w x z : ℕ → ℕ → ℝ) (p : ℕ → ℝ), Args x0 x1 x2 x3 x4 (fun r c => y r c) (fun r c => w r c) (fun r c => x r c) (fun r c => z r c)
      (fun c => p c) := by
  have all := congrFun h (fun k => k.elim0)
  obtain ⟨h0123, h4⟩ := both_one all
  obtain ⟨h012, h3⟩ := both_one h0123
  obtain ⟨h01, h2⟩ := both_one h012
  obtain ⟨h0, h1⟩ := both_one h01
  obtain ⟨y, hy⟩ := Real2.exists (n0 := 2048) (n1 := 2048) x0 (real_of_all (s := S2048x2048) x0 _ (fun _ => rfl) _ _ _ _ h0)
  obtain ⟨w, hw⟩ := Real2.exists (n0 := 2048) (n1 := 2048) x1 (real_of_all x1 _ (fun _ => rfl) _ _ _ _ h1)
  obtain ⟨x, hx⟩ := Real2.exists (n0 := 2048) (n1 := 2048) x2 (real_of_all x2 _ (fun _ => rfl) _ _ _ _ h2)
  obtain ⟨z, hz⟩ := Real2.exists (n0 := 2048) (n1 := 2048) x3 (real_of_all x3 _ (fun _ => rfl) _ _ _ _ h3)
  obtain ⟨p, hp⟩ := Real1.exists (n := 2048) x4 (real_of_all x4 _ (fun _ => rfl) _ _ _ _ h4)
  exact ⟨y, w, x, z, p, ⟨hy, hw, hx, hz, hp⟩⟩

section Real

variable (y w x z : ℕ → ℕ → ℝ) (p : ℕ → ℝ)

/-- The product and the difference over the reals. -/
def prodR (r c : ℕ) : ℝ := ∑ k ∈ range 2048, y r k * w k c
def errR (r c : ℕ) : ℝ := x r c + prodR y w r c * inv (prodR y w r) * p c - z r c

theorem prod_real (r : ℕ) : EvenOut.prod (fun r c => (y r c : EReal)) (fun r c => (w r c : EReal)) r = fun c => ((prodR y w r c : ℝ) : EReal) := by
  funext c
  unfold EvenOut.prod prodR
  simp only [← EReal.coe_mul]
  exact sum_real _

theorem err_real (r c : ℕ) : err (fun r c => (y r c : EReal)) (fun r c => (w r c : EReal)) (fun r c => (x r c : EReal)) (fun r c => (z r c : EReal))
    (fun c => (p c : EReal)) r c = ((errR y w x z p r c : ℝ) : EReal) := by
  unfold err EvenOut.next errR
  rw [prod_real, scale_real, ← EReal.coe_mul, ← EReal.coe_mul, ← EReal.coe_add, ← EReal.coe_sub]

/-- The kernel's loss: per block of rows, half the mean square. -/
theorem loss_real (e : ℕ → ℕ → ℝ) :
    ∑ s ∈ range 8, (∑ r ∈ range 256, ∑ k ∈ range 2048, (e (s * 256 + r) k : EReal) * (e (s * 256 + r) k : EReal)) * halfUnit
      = ((1 / 2 * ∑ r ∈ range 2048, (∑ k ∈ range 2048, e r k * e r k) / 2048 : ℝ) : EReal) := by
  simp only [← EReal.coe_mul, halfUnit_eq, ← coe_sum]
  congr 1
  rw [← sum_range_range_mul_add 8 256 fun r => (∑ k ∈ range 2048, e r k * e r k) / 2048, mul_sum]
  refine sum_congr rfl fun s _ => ?_
  rw [← sum_div]
  ring

end Real

theorem two_eq : Ideal.ofBits .f32 0x40000000#32 = ((2 : ℝ) : EReal) := by
  simp [Ideal.ofBits, Ideal.ieee]
  rw [← EReal.coe_mul]
  norm_num

theorem half_eq : Ideal.ofBits .f32 0x3F000000#32 = ((1 / 2 : ℝ) : EReal) := by
  simp [Ideal.ofBits, Ideal.ieee]
  rw [← EReal.coe_mul]
  norm_num

section Reference

open Cert.LossDxReferenceIdeal.Read

variable {a0 a1 a2 a3 : S2048x2048.Idx → EReal} {a4 : S2048.Idx → EReal} {y w x z : ℕ → ℕ → ℝ} {p : ℕ → ℝ}
  (h : Args a0 a1 a2 a3 a4 (fun r c => y r c) (fun r c => w r c) (fun r c => x r c) (fun r c => z r c) (fun c => p c))

include h

theorem reference_product : Real2 (n0 := 2048) (n1 := 2048) (val_main_v1 (F := Ideal) a0 a1) (prodR y w) := fun i => by
  refine (EvenOut.reference_product (a0 := a0) (a1 := a1) ⟨h.hy, h.hw, h.hx, h.hp, h.hp⟩ i).trans ?_
  rw [prod_real]

theorem reference_err : Real2 (n0 := 2048) (n1 := 2048) (val_main_v19 (F := Ideal) a0 a1 a2 a3 a4) (errR y w x z p) := fun i => by
  have e : val_main_v18 (F := Ideal) a0 a1 a2 a4 i = _ :=
    EvenOut.reference_next (a0 := a0) (a1 := a1) (a2 := a2) (a3 := a4) ⟨h.hy, h.hw, h.hx, h.hp, h.hp⟩ i
  rw [val_main_v19_apply, e, h.hz]
  exact err_real y w x z p _ _

theorem reference_dx : Real2 (n0 := 2048) (n1 := 2048) (val_main_v33 (F := Ideal) a0 a1 a2 a3 a4) fun r c => errR y w x z p r c * (1 / 2048) := fun i => by
  rw [val_main_v33_apply, val_main_v32_apply, val_main_v31_apply, val_main_v29_apply, val_main_v28_apply, val_main_v22_apply, reference_err h]
  show Ideal.div (Ideal.ofBits .f32 0x3F000000#32 * Ideal.ofBits .f32 0x3F800000#32) len * (Ideal.ofBits .f32 0x40000000#32 * _) = _
  rw [two_eq, half_eq, Ideal.ofBits_one_f32, mul_one, len_eq, div_real _ _ (by norm_num), ← EReal.coe_mul, ← EReal.coe_mul]
  congr 1
  ring

/-- The mean square of a row. -/
theorem reference_row : Real1 (n := 2048) (val_main_v25 (F := Ideal) a0 a1 a2 a3 a4)
    fun r => (∑ k ∈ range 2048, errR y w x z p r k * errR y w x z p r k) / 2048 := fun j => by
  have total : ∑ k : Fin 2048, val_main_v20 (F := Ideal) a0 a1 a2 a3 a4 (idx_main_v23 j k)
      = ((∑ k ∈ range 2048, errR y w x z p (j 0).val k * errR y w x z p (j 0).val k : ℝ) : EReal) := by
    refine Eq.trans ?_ (sum_real _)
    refine sum_fin_eq 2048 (fun k => ((errR y w x z p (j 0).val k * errR y w x z p (j 0).val k : ℝ) : EReal)) _ fun k => ?_
    rw [val_main_v20_apply, reference_err h]
    exact (EReal.coe_mul _ _).symm
  rw [val_main_v25_apply, val_main_v23_apply]
  refine Eq.trans (b := Ideal.div (Ideal.ofBits .f32 0x00000000#32
    + ∑ k : Fin 2048, val_main_v20 (F := Ideal) a0 a1 a2 a3 a4 (idx_main_v23 j k)) len) rfl ?_
  rw [total, Ideal.ofBits_zero_f32, zero_add, len_eq, div_real _ _ (by norm_num)]

theorem reference_loss (i : S1x128.Idx) : val_main_v54 (F := Ideal) a0 a1 a2 a3 a4 i
    = ((1 / 2 * ∑ r ∈ range 2048, (∑ k ∈ range 2048, errR y w x z p r k * errR y w x z p r k) / 2048 : ℝ) : EReal) := by
  have total : ∑ j : S2048.Idx, val_main_v25 (F := Ideal) a0 a1 a2 a3 a4 j
      = ((∑ r ∈ range 2048, (∑ k ∈ range 2048, errR y w x z p r k * errR y w x z p r k) / 2048 : ℝ) : EReal) := by
    refine Eq.trans ?_ (sum_real _)
    rw [← Equiv.sum_comp (ValueIdx.idxEquiv1 (n := 2048)).symm]
    exact sum_fin_eq 2048 (fun r => (((∑ k ∈ range 2048, errR y w x z p r k * errR y w x z p r k) / 2048 : ℝ) : EReal)) _
      fun k => reference_row h _
  rw [val_main_v54_apply, val_main_v27_apply, val_main_v26_apply]
  refine Eq.trans (b := Ideal.ofBits .f32 0x3F000000#32 * (Ideal.ofBits .f32 0x00000000#32
    + ∑ j : S2048.Idx, val_main_v25 (F := Ideal) a0 a1 a2 a3 a4 j)) rfl ?_
  rw [total, Ideal.ofBits_zero_f32, zero_add, half_eq, ← EReal.coe_mul]

theorem reference_dy (i : S2048x2048.Idx) : val_main_v55 (F := Ideal) a0 a1 a2 a3 a4 i
    = (grad (fun c => errR y w x z p (i 0).val c * (1 / 2048)) (prodR y w (i 0).val) p (i 1).val : ℝ) :=
  RefNorm.gradient (x1 := val_main_v33 (F := Ideal) a0 a1 a2 a3 a4) (x2 := val_main_v1 (F := Ideal) a0 a1) (x3 := a4) (reference_dx h)
    (reference_product h) h.hp i

theorem reference_gain (i : S1x2048.Idx) : val_main_v56 (F := Ideal) a0 a1 a2 a3 a4 i
    = ∑ r ∈ range 2048, ((errR y w x z p r (i 1).val * (1 / 2048) : ℝ) : EReal) * (prodR y w r (i 1).val * scale fun c => (prodR y w r c : EReal)) :=
  RefNorm.gain (n := fun r c => ((errR y w x z p r c * (1 / 2048) : ℝ) : EReal)) (x := fun r c => (prodR y w r c : EReal))
    (x1 := val_main_v33 (F := Ideal) a0 a1 a2 a3 a4) (x2 := val_main_v1 (F := Ideal) a0 a1) (reference_dx h) (reference_product h) i

end Reference

theorem frame_reference : Cert.quiescent_LossDxReferenceIdeal := fun m g _ =>
  (θ_run (Cert.LossDxReferenceIdeal.defs (F := Ideal)) _ _).mono (fun r h => ⟨fun c => (h c).2.2.2.2,
      Idealize.ShloMosaic.sem_eq_zero_of_no_sems (by decide) r.2⟩)
    (Cert.LossDxReferenceIdeal.Value.run (F := Ideal) m g)

/-- On finite arguments the two programs end with the same loss and the same gradients: by the network's output, by the
    product and by the gain. -/
theorem same : Cert.algebraic_LossDxIdeal_LossDxReferenceIdeal_pre_finite_loss (hPre_finite_loss := finite_facts) := by
  intro m g m' g' pre same
  refine ⟨fun c => (dats m 0 c).arrAt 5 cfg0.N, fun c => (dats m 0 c).arrAt 6 cfg0.N, fun c => (dats m 0 c).arrAt 7 cfg0.N,
    fun c => (dats m 0 c).arrAt 8 cfg0.N, Cert.LossDxIdeal.Value.run_blocks m g, ?_⟩
  refine (θ_run (Cert.LossDxReferenceIdeal.defs (F := Ideal)) _ _).mono (fun r h c => ?_) (Cert.LossDxReferenceIdeal.Value.run (F := Ideal) m' g')
  obtain ⟨y, w, x, z, p, held⟩ := @reals finite_facts _ _ _ _ _ _ (pre c)
  obtain ⟨h0, h1, h2, h3, kept⟩ := h c
  obtain ⟨e0, e1, e2, e3, e4, -⟩ := same c
  refine ⟨?_, ?_, ?_, ?_, kept⟩
  · refine (h0.trans (Cert.LossDxReferenceIdeal.Read.val_main_v54_eq _ _ _ _ _)).trans ?_
    rw [e0, e1, e2, e3, e4]
    refine (funext (reference_loss held)).trans (Eq.trans (funext fun i => ?_) (kernel_loss held).symm)
    simp only [err_real]
    exact (loss_real _).symm
  · refine (h1.trans (Cert.LossDxReferenceIdeal.Read.val_main_v33_eq _ _ _ _ _)).trans ?_
    rw [e0, e1, e2, e3, e4]
    refine (funext (reference_dx held)).trans (Eq.trans (funext fun i => ?_) (kernel_dx held).symm)
    rw [err_real, unit_eq, EReal.coe_mul]
  · refine (h2.trans (Cert.LossDxReferenceIdeal.Read.val_main_v55_eq _ _)).trans ?_
    rw [e0, e1, e2, e3, e4]
    refine (funext (reference_dy held)).trans (Eq.trans (funext fun i => ?_) (kernel_dy held).symm)
    simp only [err_real, unit_eq, ← EReal.coe_mul, prod_real]
    rw [bwd_real]
  · refine (h3.trans (Cert.LossDxReferenceIdeal.Read.val_main_v56_eq _ _ _ _ _)).trans ?_
    rw [e0, e1, e2, e3, e4]
    refine (funext (reference_gain held)).trans (Eq.trans (funext fun i => ?_) (kernel_gain held).symm)
    simp only [err_real, unit_eq, EReal.coe_mul, prod_real]

end Cert.Proof.LossDx

end
-- ==== Proof.MidNorms.lean ====
/- The derivatives of the two norms between the layers: the gradient that the first one gives is what the second one
   differentiates, block of rows by block of rows. -/
module

public import proofs.«01_k».proof.Proof.FirstNorm
public import proofs.«01_k».proof.Pre_finite_mid_norms
public import proofs.«01_k».proof.Proof.Gen.MidNormsIdeal.Value
public import proofs.«01_k».proof.Proof.Gen.MidNormsReferenceIdeal.Run
public import proofs.«01_k».proof.Proof.Gen.MidNormsReferenceIdeal.Read

@[expose] public section

set_option maxRecDepth 16384

noncomputable section

namespace Cert.Proof.MidNorms

open Cert.MidNormsIdeal Cert.MidNormsIdeal.Gen Idealize.ShloMosaic Idealize.ShloMosaic.TcCoe Idealize.ShloMosaic.ValueIdx Finset
open Idealize.SL.Sem Norm

section Same

variable (v w d : FVec Ideal S256x2048 .f32) (u : FVec Ideal S1x2048 .f32)

/-- Both norms are differentiated by the operations of the first norm's call. -/
theorem pay10_eq : k0_pay10 (F := Ideal) v w d u = addf d (FirstNorm.block v w u) := rfl
theorem pay8_eq : k0_pay8 (F := Ideal) v w = Cert.FirstNormIdeal.Gen.k0_pay3 (F := Ideal) v w := rfl
theorem pay9_eq : k0_pay9 (F := Ideal) v w u = Cert.FirstNormIdeal.Gen.k0_pay4 (F := Ideal) v w u := rfl
theorem pay5_eq : k0_pay5 (F := Ideal) w v u = truncf .bf16 (FirstNorm.block v w u) bitsLt_bf16_f32 := rfl
theorem pay3_eq : k0_pay3 (F := Ideal) w v = Cert.FirstNormIdeal.Gen.k0_pay3 (F := Ideal) v w := rfl
theorem pay4_eq : k0_pay4 (F := Ideal) w v u = Cert.FirstNormIdeal.Gen.k0_pay4 (F := Ideal) v w u := rfl

end Same

theorem index0 : ∀ t, win0_0.index t = ![t.val, 0] := by decide +kernel
theorem index1 : ∀ t, win0_1.index t = ![t.val, 0] := by decide +kernel
theorem index2 : ∀ t, win0_2.index t = ![t.val, 0] := by decide +kernel
theorem index3 : ∀ t, win0_3.index t = ![t.val, 0] := by decide +kernel
theorem index4 : ∀ t, win0_4.index t = ![0, 0] := by decide +kernel
theorem index5 : ∀ t, win0_5.index t = ![0, 0] := by decide +kernel
theorem index6 : ∀ t, win0_6.index t = ![t.val, 0] := by decide +kernel
theorem index7 : ∀ t, win0_7.index t = ![t.val, 0] := by decide +kernel
theorem index8 : ∀ t, win0_8.index t = ![0, 0] := by decide +kernel
theorem index9 : ∀ t, win0_9.index t = ![0, 0] := by decide +kernel

/-- What the six arguments hold. -/
structure Args (a0 a1 a2 a3 : S2048x2048.Idx → EReal) (a4 a5 : S2048.Idx → EReal) (d n x y : ℕ → ℕ → EReal) (g p : ℕ → EReal) : Prop where
  hd : Has2 (n0 := 2048) (n1 := 2048) a0 d
  hn : Has2 (n0 := 2048) (n1 := 2048) a1 n
  hx : Has2 (n0 := 2048) (n1 := 2048) a2 x
  hy : Has2 (n0 := 2048) (n1 := 2048) a3 y
  hg : Has1 (n := 2048) a4 g
  hp : Has1 (n := 2048) a5 p

/-- The gradient that the first of the two norms gives. -/
def first (d n x : ℕ → ℕ → EReal) (g : ℕ → EReal) (r c : ℕ) : EReal := d r c + bwd (n r) (x r) g c

variable {d n x y : ℕ → ℕ → EReal} {g p : ℕ → EReal} {m : (ℓ : Loc nD τ sig) → Buf (Elt Ideal) ℓ} {c : Dev nD}

section Blocks

variable (h : Args (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) d n x y g p)

include h

theorem block_d (t : Fin cfg0.N) : Has2 (n0 := 256) (n1 := 2048) (iblk m c 0 t) fun r => d (t.val * 256 + r) := fun j => by
  blk_simp [iblk, index0]
  entry_read
  rw [h.hd]
  blk_simp [index0]

theorem block_n (t : Fin cfg0.N) : Has2 (n0 := 256) (n1 := 2048) (iblk m c 1 t) fun r => n (t.val * 256 + r) := fun j => by
  blk_simp [iblk, index1]
  entry_read
  rw [h.hn]
  blk_simp [index1]

theorem block_x (t : Fin cfg0.N) : Has2 (n0 := 256) (n1 := 2048) (iblk m c 2 t) fun r => x (t.val * 256 + r) := fun j => by
  blk_simp [iblk, index2]
  entry_read
  rw [h.hx]
  blk_simp [index2]

theorem block_y (t : Fin cfg0.N) : Has2 (n0 := 256) (n1 := 2048) (iblk m c 3 t) fun r => y (t.val * 256 + r) := fun j => by
  blk_simp [iblk, index3]
  entry_read
  rw [h.hy]
  blk_simp [index3]

theorem block_g (t : Fin cfg0.N) : Has2 (n0 := 1) (n1 := 2048) (iblk m c 4 t) fun _ => g := fun j => by
  blk_simp [iblk, index4]
  entry_read
  pointwise
  refine (h.hg _).trans ?_
  blk_simp [index4]

theorem block_p (t : Fin cfg0.N) : Has2 (n0 := 1) (n1 := 2048) (iblk m c 5 t) fun _ => p := fun j => by
  blk_simp [iblk, index5]
  entry_read
  pointwise
  refine (h.hp _).trans ?_
  blk_simp [index5]

/-- The first norm's gradient in the block, which is also what the second norm's derivative takes. -/
theorem block_first (t : Fin cfg0.N) :
    Has2 (n0 := 256) (n1 := 2048) (k0_pay10 (F := Ideal) (iblk m c 2 t) (iblk m c 1 t) (iblk m c 0 t) (iblk m c 4 t))
      fun r => first d n x g (t.val * 256 + r) := fun i => by
  rw [pay10_eq, addf_apply, FirstNorm.block_has (block_x h t) (block_n h t) (block_g h t) i, block_d h t i]
  rfl

/-- The first output: the first norm's gradient. -/
theorem kernel_first : (dats m 0 c).arrAt 6 cfg0.N = fun i => first d n x g (i 0).val (i 1).val := by
  refine (dats m 0 c).arrAt_eq_of_covers 6 _ (by decide +kernel) fun t hf i => ?_
  have ht : t.val < 8 := t.isLt
  have pay : (outsAt0 m c t.val t.isLt).1 i = first d n x g (t.val * 256 + (i 0).val) (i 1).val := by
    by_cases h0 : t.val % 8 = 0
    · rw [outsAt0_A m c t h0 (by omega) h0 (by omega)]
      frame_out
      exact block_first h t i
    · rw [outsAt0_B m c t h0 (by omega) h0 (by omega)]
      frame_out
      exact block_first h t i
  blk_simp
  rw [after0_6, pay]
  blk_simp [index6]

/-- The second output: the second norm's gradient. -/
theorem kernel_second : (dats m 0 c).arrAt 7 cfg0.N = fun i => bwd (first d n x g (i 0).val) (y (i 0).val) p (i 1).val := by
  refine (dats m 0 c).arrAt_eq_of_covers 7 _ (by decide +kernel) fun t hf i => ?_
  have ht : t.val < 8 := t.isLt
  have pay : (outsAt0 m c t.val t.isLt).2.1 i = bwd (first d n x g (t.val * 256 + (i 0).val)) (y (t.val * 256 + (i 0).val)) p (i 1).val := by
    by_cases h0 : t.val % 8 = 0
    · rw [outsAt0_A m c t h0 (by omega) h0 (by omega)]
      frame_out
      rw [pay5_eq]
      exact FirstNorm.block_has (block_y h t) (block_first h t) (block_p h t) i
    · rw [outsAt0_B m c t h0 (by omega) h0 (by omega)]
      frame_out
      rw [pay5_eq]
      exact FirstNorm.block_has (block_y h t) (block_first h t) (block_p h t) i
  blk_simp
  rw [after0_7, pay]
  blk_simp [index7]

/-- The third output: the gradient of the first norm's gain. -/
theorem kernel_gain : (dats m 0 c).arrAt 8 cfg0.N = fun i => ∑ r ∈ range 2048, n r (i 1).val * (x r (i 1).val * scale (x r)) := by
  refine (dats m 0 c).arrAt_eq_of_covers 8 _ (by decide +kernel) fun t hf i => ?_
  have h7 : t.val % 8 = 7 := (flush0_8 t).mp hf
  have ht : t.val < 8 := t.isLt
  blk_simp
  rw [after0_8]
  refine (Pipeline.eq_sum_of_reset_step_apply_divmod (fun n h => (outsAt0 m c n h).2.2.1) 8 (fun _ => (0 : EReal))
    (fun q s i => ∑ r ∈ range 256, n ((q * 8 + s) * 256 + r) (i 1).val * (x ((q * 8 + s) * 256 + r) (i 1).val * scale (x ((q * 8 + s) * 256 + r))))
    (fun t h0 j => ?_) (fun t h0 j => ?_) t i).trans ?_
  · have ht : t.val < 8 := t.isLt
    rw [outsAt0_A m c t h0 (by omega) h0 (by omega)]
    frame_out
    rw [pay8_eq, FirstNorm.gain_block (block_x h t) (block_n h t) j, zero_add]
    simp only [show t.val / 8 * 8 + t.val % 8 = t.val by omega]
  · rw [outsAt0_B m c t h0 (by omega) h0 (by omega)]
    frame_out
    rw [pay9_eq, FirstNorm.gain_step (block_x h t) (block_n h t)]
    simp only [show t.val / 8 * 8 + t.val % 8 = t.val by omega]
  · rw [h7]
    refine (FirstNorm.gain_total (fun r => n r (i 1).val * (x r (i 1).val * scale (x r))) _ (by omega)).trans ?_
    blk_simp [index8]

/-- The fourth output: the gradient of the second norm's gain. -/
theorem kernel_gain_second : (dats m 0 c).arrAt 9 cfg0.N
    = fun i => ∑ r ∈ range 2048, first d n x g r (i 1).val * (y r (i 1).val * scale (y r)) := by
  refine (dats m 0 c).arrAt_eq_of_covers 9 _ (by decide +kernel) fun t hf i => ?_
  have h7 : t.val % 8 = 7 := (flush0_9 t).mp hf
  have ht : t.val < 8 := t.isLt
  blk_simp
  rw [after0_9]
  refine (Pipeline.eq_sum_of_reset_step_apply_divmod (fun n h => (outsAt0 m c n h).2.2.2) 8 (fun _ => (0 : EReal))
    (fun q s i => ∑ r ∈ range 256, first d n x g ((q * 8 + s) * 256 + r) (i 1).val * (y ((q * 8 + s) * 256 + r) (i 1).val * scale (y ((q * 8 + s) * 256 + r))))
    (fun t h0 j => ?_) (fun t h0 j => ?_) t i).trans ?_
  · have ht : t.val < 8 := t.isLt
    rw [outsAt0_A m c t h0 (by omega) h0 (by omega)]
    frame_out
    rw [pay3_eq, FirstNorm.gain_block (block_y h t) (block_first h t) j, zero_add]
    simp only [show t.val / 8 * 8 + t.val % 8 = t.val by omega]
  · rw [outsAt0_B m c t h0 (by omega) h0 (by omega)]
    frame_out
    rw [pay4_eq, FirstNorm.gain_step (block_y h t) (block_first h t)]
    simp only [show t.val / 8 * 8 + t.val % 8 = t.val by omega]
  · rw [h7]
    refine (FirstNorm.gain_total (fun r => first d n x g r (i 1).val * (y r (i 1).val * scale (y r))) _ (by omega)).trans ?_
    blk_simp [index9]

end Blocks

/-- The shape relations of the precondition's own operations hold. -/
theorem finite_facts : Cert.Pre_finite_mid_norms.Facts where
  bcast_S_S2048x2048 := by decide
  reducesTo_S2048x2048_S_d0_1 := by decide
  h_S_ := by decide
  bcast_S_S2048 := by decide
  reducesTo_S2048_S_d0 := by decide

instance : Subsingleton Cert.Pre_finite_mid_norms.S_.Idx := ⟨fun a b => funext fun k => k.elim0⟩

/-- Where the precondition holds, each argument holds reals. -/
theorem reals [Cert.Pre_finite_mid_norms.Facts] (x0 x1 x2 x3 : FVec Ideal S2048x2048 .f32) (x4 x5 : FVec Ideal S2048 .f32)
    (h : Cert.Pre_finite_mid_norms.fn (F := Ideal) x0 x1 x2 x3 x4 x5 = fun _ => 1#1) :
    ∃ (d n x y : ℕ → ℕ → ℝ) (g p : ℕ → ℝ), Args x0 x1 x2 x3 x4 x5 (fun r c => d r c) (fun r c => n r c) (fun r c => x r c) (fun r c => y r c)
      (fun c => g c) (fun c => p c) := by
  have all := congrFun h (fun k => k.elim0)
  obtain ⟨h01234, h5⟩ := both_one all
  obtain ⟨h0123, h4⟩ := both_one h01234
  obtain ⟨h012, h3⟩ := both_one h0123
  obtain ⟨h01, h2⟩ := both_one h012
  obtain ⟨h0, h1⟩ := both_one h01
  obtain ⟨d, hd⟩ := Real2.exists (n0 := 2048) (n1 := 2048) x0 (real_of_all x0 _ (fun _ => rfl) _ _ _ _ h0)
  obtain ⟨n, hn⟩ := Real2.exists (n0 := 2048) (n1 := 2048) x1 (real_of_all x1 _ (fun _ => rfl) _ _ _ _ h1)
  obtain ⟨x, hx⟩ := Real2.exists (n0 := 2048) (n1 := 2048) x2 (real_of_all x2 _ (fun _ => rfl) _ _ _ _ h2)
  obtain ⟨y, hy⟩ := Real2.exists (n0 := 2048) (n1 := 2048) x3 (real_of_all x3 _ (fun _ => rfl) _ _ _ _ h3)
  obtain ⟨g, hg⟩ := Real1.exists (n := 2048) x4 (real_of_all x4 _ (fun _ => rfl) _ _ _ _ h4)
  obtain ⟨p, hp⟩ := Real1.exists (n := 2048) x5 (real_of_all x5 _ (fun _ => rfl) _ _ _ _ h5)
  exact ⟨d, n, x, y, g, p, ⟨hd, hn, hx, hy, hg, hp⟩⟩

section Reference

open Cert.MidNormsReferenceIdeal.Read

variable {a0 a1 a2 a3 : S2048x2048.Idx → EReal} {a4 a5 : S2048.Idx → EReal} {e f b z : ℕ → ℕ → ℝ} {q s : ℕ → ℝ}

/-- The first norm's gradient over the reals. -/
theorem first_real (r : ℕ) : first (fun r c => (e r c : EReal)) (fun r c => f r c) (fun r c => b r c) (fun c => q c) r
    = fun c => ((e r c + grad (f r) (b r) q c : ℝ) : EReal) := by
  funext c
  rw [first, bwd_real, EReal.coe_add]

variable (h : Args a0 a1 a2 a3 a4 a5 (fun r c => e r c) (fun r c => f r c) (fun r c => b r c) (fun r c => z r c) (fun c => q c) (fun c => s c))

include h

theorem reference_first : Real2 (n0 := 2048) (n1 := 2048) (val_main_v36 (F := Ideal) a0 a1 a2 a4) fun r c => e r c + grad (f r) (b r) q c :=
  RefNorm.gradient_add (x0 := a0) (x1 := a1) (x2 := a2) (x3 := a4) h.hd h.hn h.hx h.hg

theorem reference_second (i : S2048x2048.Idx) : val_main_v73 (F := Ideal) a0 a1 a2 a3 a4 a5 i
    = (grad (fun c => e (i 0).val c + grad (f (i 0).val) (b (i 0).val) q c) (z (i 0).val) s (i 1).val : ℝ) :=
  RefNorm.gradient (x1 := val_main_v36 (F := Ideal) a0 a1 a2 a4) (x2 := a3) (x3 := a5) (reference_first h) h.hy h.hp i

theorem reference_gain (i : S1x2048.Idx) : val_main_v74 (F := Ideal) a1 a2 i
    = ∑ r ∈ range 2048, (f r (i 1).val : EReal) * (b r (i 1).val * scale fun c => b r c) :=
  RefNorm.gain (n := fun r c => (f r c : EReal)) (x := fun r c => (b r c : EReal)) (x1 := a1) (x2 := a2) h.hn h.hx i

theorem reference_gain_second (i : S1x2048.Idx) : val_main_v75 (F := Ideal) a0 a1 a2 a3 a4 i
    = ∑ r ∈ range 2048, ((e r (i 1).val + grad (f r) (b r) q (i 1).val : ℝ) : EReal) * (z r (i 1).val * scale fun c => z r c) :=
  RefNorm.gain (n := fun r c => ((e r c + grad (f r) (b r) q c : ℝ) : EReal)) (x := fun r c => (z r c : EReal))
    (x1 := val_main_v36 (F := Ideal) a0 a1 a2 a4) (x2 := a3) (reference_first h) h.hy i

end Reference

theorem frame_reference : Cert.quiescent_MidNormsReferenceIdeal := fun m g _ =>
  (θ_run (Cert.MidNormsReferenceIdeal.defs (F := Ideal)) _ _).mono (fun r h => ⟨fun c => (h c).2.2.2.2,
      Idealize.ShloMosaic.sem_eq_zero_of_no_sems (by decide) r.2⟩)
    (Cert.MidNormsReferenceIdeal.Value.run (F := Ideal) m g)

/-- On finite arguments the two programs end with the same four gradients: of both norms' arguments and of both gains. -/
theorem same : Cert.algebraic_MidNormsIdeal_MidNormsReferenceIdeal_pre_finite_mid_norms (hPre_finite_mid_norms := finite_facts) := by
  intro m g m' g' pre same
  refine ⟨fun c => (dats m 0 c).arrAt 6 cfg0.N, fun c => (dats m 0 c).arrAt 7 cfg0.N, fun c => (dats m 0 c).arrAt 8 cfg0.N,
    fun c => (dats m 0 c).arrAt 9 cfg0.N, Cert.MidNormsIdeal.Value.run_blocks m g, ?_⟩
  refine (θ_run (Cert.MidNormsReferenceIdeal.defs (F := Ideal)) _ _).mono (fun r h c => ?_) (Cert.MidNormsReferenceIdeal.Value.run (F := Ideal) m' g')
  obtain ⟨d, n, x, y, q, p, held⟩ := @reals finite_facts _ _ _ _ _ _ (pre c)
  obtain ⟨h0, h1, h2, h3, kept⟩ := h c
  obtain ⟨e0, e1, e2, e3, e4, e5⟩ := same c
  refine ⟨?_, ?_, ?_, ?_, kept⟩
  · refine (h0.trans (Cert.MidNormsReferenceIdeal.Read.val_main_v36_eq _ _ _ _)).trans ?_
    rw [e0, e1, e2, e4]
    refine (funext (reference_first held)).trans (Eq.trans (funext fun i => ?_) (kernel_first held).symm)
    rw [first_real]
  · refine (h1.trans (Cert.MidNormsReferenceIdeal.Read.val_main_v73_eq _ _)).trans ?_
    rw [e0, e1, e2, e3, e4, e5]
    refine (funext (reference_second held)).trans (Eq.trans (funext fun i => ?_) (kernel_second held).symm)
    rw [first_real, bwd_real]
  · refine (h2.trans (Cert.MidNormsReferenceIdeal.Read.val_main_v74_eq _ _)).trans ?_
    rw [e1, e2]
    exact (funext (reference_gain held)).trans (kernel_gain held).symm
  · refine (h3.trans (Cert.MidNormsReferenceIdeal.Read.val_main_v75_eq _ _)).trans ?_
    rw [e0, e1, e2, e3, e4]
    refine (funext (reference_gain_second held)).trans (Eq.trans (funext fun i => ?_) (kernel_gain_second held).symm)
    simp only [first_real]

end Cert.Proof.MidNorms

end
-- ==== Proof.OddIn.lean ====
/- The odd layer's input product: `h` times the weights, a block of 768 columns at a time. -/
module

public import proofs.«01_k».proof.Proof.Entries
public import proofs.«01_k».proof.Defs
public import proofs.«01_k».proof.Proof.Gen.OddInIdeal.Value
public import proofs.«01_k».proof.Proof.Gen.OddInReferenceIdeal.Read
public import Idealize.ShloMosaic.Lib.Pipeline.ValueKit
public import Idealize.ShloMosaic.Lib.Claim

@[expose] public section

set_option maxRecDepth 16384

noncomputable section

namespace Cert.Proof.OddIn

open Cert.OddInIdeal Cert.OddInIdeal.Gen Idealize.ShloMosaic Idealize.ShloMosaic.TcCoe Idealize.ShloMosaic.ValueIdx Finset
open Idealize.SL.Sem

theorem index0 : ∀ t, win0_0.index t = ![0, 0] := by decide +kernel
theorem index1 : ∀ t, win0_1.index t = ![t.val, 0, 0] := by decide +kernel
theorem index2 : ∀ t, win0_2.index t = ![0, t.val] := by decide +kernel

/-- One block: the [2048, 2048] matrix times 768 columns, which stand under a unit axis. -/
theorem product (a : FVec Ideal S2048x2048 .bf16) (b : FVec Ideal S1x2048x768 .bf16) {f g : ℕ → ℕ → EReal}
    (ha : Has2 (n0 := 2048) (n1 := 2048) a f) (hb : Has3 (n0 := 1) (n1 := 2048) (n2 := 768) b fun _ => g) :
    Has2 (n0 := 2048) (n1 := 768) (k0_pay1 (F := Ideal) a b) fun r c => ∑ k ∈ range 2048, f r k * g k c := fun i => by
  unfold k0_pay1
  pointwise
  exact sum_fin_mul 2048 (f (i 0).val) (fun k => g k (i 1).val) _ _ (fun k => ha _) (fun k => hb _)

variable {h w : ℕ → ℕ → EReal} {m : (ℓ : Loc nD τ sig) → Buf (Elt Ideal) ℓ} {c : Dev nD}

/-- The kernel's result has at `(r, n)` the sum over `k` of `h r k * w k n`. -/
theorem kernel (hh : Has2 (n0 := 2048) (n1 := 2048) (m ((c : Thread nD τ).loc main_arg0)) h)
    (hw : Has2 (n0 := 2048) (n1 := 6144) (m ((c : Thread nD τ).loc main_arg1)) w) :
    (dats m 0 c).arrAt 2 cfg0.N = fun i => ∑ k ∈ range 2048, h (i 0).val k * w k (i 1).val := by
  refine (dats m 0 c).arrAt_eq_of_covers 2 _ (by decide +kernel) fun t hf i => ?_
  blk_simp
  rw [after0_2]
  frame_out
  refine (product _ _ (f := h) (g := fun k n => w k (t.val * 768 + n)) (fun j => ?_) (fun j => ?_) _).trans ?_
  · blk_simp [iblk, index0]
    entry_read
    rw [hh]
    blk_simp [index0]
  · have h0 : (j 0).val < 1 := (j 0).isLt
    have h1 : (j 1).val < 2048 := (j 1).isLt
    have h2 : (j 2).val < 768 := (j 2).isLt
    have ht : t.val < 8 := t.isLt
    blk_simp [iblk, index1]
    entry_read
    pointwise
    refine (hw _).trans ?_
    blk_simp [index1]
  · blk_simp [index2]

/-- The reference's result has the same entries. -/
theorem reference {x0 : S2048x2048.Idx → EReal} {x1 : S2048x6144.Idx → EReal} (hh : Has2 (n0 := 2048) (n1 := 2048) x0 h)
    (hw : Has2 (n0 := 2048) (n1 := 6144) x1 w) :
    Cert.OddInReferenceIdeal.Read.val_main_v1 (F := Ideal) x0 x1 = fun i => ∑ k ∈ range 2048, h (i 0).val k * w k (i 1).val := by
  funext i
  rw [Cert.OddInReferenceIdeal.Read.val_main_v1_apply]
  exact sum_fin_mul 2048 (h (i 0).val) (fun k => w k (i 1).val) _ _ (fun k => hh _) (fun k => hw _)

theorem frame_reference : Cert.quiescent_OddInReferenceIdeal := fun m g _ =>
  (θ_run (Cert.OddInReferenceIdeal.defs (F := Ideal)) _ _).mono (fun r h => ⟨fun c => (h c).2,
      Idealize.ShloMosaic.sem_eq_zero_of_no_sems (by decide) r.2⟩)
    (Cert.OddInReferenceIdeal.Value.run (F := Ideal) m g)

/-- The two programs end with the same product. -/
theorem same : Cert.algebraic_OddInIdeal_OddInReferenceIdeal := by
  intro m g m' g' _ same
  refine ⟨fun c => (dats m 0 c).arrAt 2 cfg0.N, Cert.OddInIdeal.Value.run_blocks m g, ?_⟩
  refine (θ_run (Cert.OddInReferenceIdeal.defs (F := Ideal)) _ _).mono (fun r h c => ?_) (Cert.OddInReferenceIdeal.Value.run (F := Ideal) m' g')
  obtain ⟨x, hx⟩ := Has2.exists (n0 := 2048) (n1 := 2048) (m ((c : Thread nD τ).loc main_arg0))
  obtain ⟨w, hw⟩ := Has2.exists (n0 := 2048) (n1 := 6144) (m ((c : Thread nD τ).loc main_arg1))
  refine ⟨(h c).1.trans ((Cert.OddInReferenceIdeal.Read.val_main_v1_eq _ _).trans ?_), (h c).2⟩
  rw [(same c).1, (same c).2]
  exact (reference hx hw).trans (kernel hx hw).symm

end Cert.Proof.OddIn

end
-- ==== Proof.EvenIn.lean ====
/- The even layer's input product, in two calls that each fill every other block of 768 columns of the result. -/
module

public import proofs.«01_k».proof.Proof.Entries
public import proofs.«01_k».proof.Proof.Calls
public import proofs.«01_k».proof.Proof.OddIn
public import proofs.«01_k».proof.Defs
public import proofs.«01_k».proof.Proof.Gen.EvenInIdeal.Frame
public import proofs.«01_k».proof.Proof.Gen.EvenInReferenceIdeal.Read
public import proofs.«01_k».proof.Proof.Gen.EvenInReferenceIdeal.Run
public import Idealize.ShloMosaic.Lib.Pipeline.ValueKit
public import Idealize.ShloMosaic.Lib.Claim

@[expose] public section

set_option maxRecDepth 16384

noncomputable section

namespace Cert.Proof.EvenIn

open Cert.EvenInIdeal Cert.EvenInIdeal.Gen Idealize.ShloMosaic Idealize.ShloMosaic.TcCoe Idealize.ShloMosaic.ValueIdx Finset
open Idealize.SL.Sem

theorem index00 : ∀ t, win0_0.index t = ![0, 0] := by decide +kernel
theorem index01 : ∀ t, win0_1.index t = ![t.val, 0, 0] := by decide +kernel
theorem index02 : ∀ t, win0_2.index t = ![0, 2 * t.val] := by decide +kernel
theorem index10 : ∀ t, win1_0.index t = ![0, 0] := by decide +kernel
theorem index11 : ∀ t, win1_1.index t = ![t.val, 0, 0] := by decide +kernel
theorem index12 : ∀ t, win1_2.index t = ![0, 2 * t.val + 1] := by decide +kernel

/-- Both calls multiply as the odd layer's call does. -/
theorem product_first : k0_pay1 (F := Ideal) = Cert.OddInIdeal.Gen.k0_pay1 := rfl
theorem product_second : k1_pay1 (F := Ideal) = Cert.OddInIdeal.Gen.k0_pay1 := rfl

variable {h w : ℕ → ℕ → EReal} {m : (ℓ : Loc nD τ sig) → Buf (Elt Ideal) ℓ} {c : Dev nD}

/-- The product of `h` and `w`. -/
def result (h w : ℕ → ℕ → EReal) (i : S2048x12288.Idx) : EReal := ∑ k ∈ range 2048, h (i 0).val k * w k (i 1).val

variable (V : (c : Dev nD) → (b : Ref sig .tc) → Buf (Elt Ideal) ((c : Thread nD τ).loc b))

/-- The first call fills the even blocks of columns. -/
theorem first (hh : Has2 (n0 := 2048) (n1 := 2048) (V c main_arg0) h)
    (hw : Has3 (n0 := 8) (n1 := 2048) (n2 := 768) (V c main_v4) fun j k n => w k (2 * j * 768 + n)) (i : S2048x12288.Idx)
    (even : (i 1).val / 768 % 2 = 0) : (dat0 V c).arrAt 2 cfg0.N i = result h w i := by
  refine ((dat0 V c).arrAt_apply_of_coversWhere 2 (result h w) (P := fun i : S2048x12288.Idx => (i 1).val / 768 % 2 = 0)
    (fun β => β (1 : Fin 2) % 2 = 0) (by decide +kernel) (fun t hf i => ?_) (fun j => ?_) i).trans (if_pos even)
  · blk_simp
    rw [after0_2]
    frame_out
    rw [product_first]
    refine (OddIn.product _ _ (f := h) (g := fun k n => w k (2 * t.val * 768 + n)) (fun j => ?_) (fun j => ?_) _).trans ?_
    · blk_simp [iblk0, index00]
      rw [hh]
      blk_simp [index00]
    · have j0 : (j 0).val < 1 := (j 0).isLt
      blk_simp [iblk0, index01]
      rw [hw]
      blk_simp [index01]
    · unfold result
      blk_simp [index02]
  · blk_simp [Pipeline.Window.cell_apply]

/-- The second call fills the odd blocks, and keeps the even ones. -/
theorem second (hh : Has2 (n0 := 2048) (n1 := 2048) (V c main_arg0) h)
    (hw : Has3 (n0 := 8) (n1 := 2048) (n2 := 768) (V c main_v6) fun j k n => w k ((2 * j + 1) * 768 + n))
    (old : ∀ i : S2048x12288.Idx, (i 1).val / 768 % 2 = 0 → V c main_v8 i = result h w i) :
    (dat1 V c).arrAt 2 cfg1.N = result h w := by
  refine (dat1 V c).arrAt_eq_of_coversWhere_of_agree 2 _ (fun β => β (1 : Fin 2) % 2 = 1) (by decide +kernel) (fun t hf i => ?_)
    (fun j hj => ?_)
  · blk_simp
    rw [after1_2]
    unfold outsAt1
    frame_out
    rw [product_second]
    refine (OddIn.product _ _ (f := h) (g := fun k n => w k ((2 * t.val + 1) * 768 + n)) (fun j => ?_) (fun j => ?_) _).trans ?_
    · blk_simp [iblk1, index10]
      rw [hh]
      blk_simp [index10]
    · have j0 : (j 0).val < 1 := (j 0).isLt
      blk_simp [iblk1, index11]
      rw [hw]
      blk_simp [index11]
    · unfold result
      blk_simp [index12]
  · blk_simp [Pipeline.Window.cell_apply] at hj
    rw [A_eq1]
    exact old _ (by blk_simp; omega)

variable (g : Dev nD → PrngReg)

/-- What the result's array holds after the two calls. -/
theorem kernel (hh : Has2 (n0 := 2048) (n1 := 2048) (m ((c : Thread nD τ).loc main_arg0)) h)
    (hw : Has2 (n0 := 2048) (n1 := 12288) (m ((c : Thread nD τ).loc main_arg1)) w) :
    W4 m g c (Proc.devRef .tc main_v8) = result h w :=
  (W4_arr m g c 2).trans <| second (V3 m g) (fun j => (congrFun (W3_args m g c main_arg0 (by decide)) j).trans (hh j))
    (fun j => by
      have h0 : (j 0).val < 8 := (j 0).isLt
      have h1 : (j 1).val < 2048 := (j 1).isLt
      have h2 : (j 2).val < 768 := (j 2).isLt
      refine (congrFun ((W3_of m g c main_v6 (by decide)).trans (W2_of m g c main_v6 (by decide))) j).trans ?_
      show StableHlo.after hostOps0 (W0 m g c) (Proc.devRef .tc main_v6) j = _
      entry_read
      pointwise
      refine (hw _).trans ?_
      blk_simp
      exact congrArg (w _) (by dsimp only; omega))
    (fun i even => by
      refine (congrFun (?_ : W3 m g c (Proc.devRef .tc main_v8) = W2 m g c (Proc.devRef .tc main_v7)) i).trans ?_
      · show StableHlo.after hostOps1 (W2 m g c) (Proc.devRef .tc main_v8) = _
        entry_read
        rfl
      refine (congrFun (W2_arr m g c 2) i).trans (first (V1 m g) (fun j => (congrFun (W1_args m g c main_arg0 (by decide)) j).trans (hh j))
        (fun j => ?_) i even)
      have h0 : (j 0).val < 8 := (j 0).isLt
      have h1 : (j 1).val < 2048 := (j 1).isLt
      have h2 : (j 2).val < 768 := (j 2).isLt
      show StableHlo.after hostOps0 (W0 m g c) (Proc.devRef .tc main_v4) j = _
      entry_read
      pointwise
      refine (hw _).trans ?_
      blk_simp
      exact congrArg (w _) (by dsimp only; omega))

/-- The two calls run, and leave the arguments. -/
theorem run (m : (ℓ : Loc nD τ sig) → Buf (Elt Ideal) ℓ) : θ_run defs (onTc (τ := τ) (main (F := Ideal))) ⟨m, fun _ => 0, g⟩ fun r =>
    ∀ c : Dev nD, ∀ b ∈ Pipeline.ucRefs τ sig, r.2.mem (c, b) = W4 m g c b :=
  Calls.run _ adm (pdats m g) cellOf_inj defs₀ 𝒱₀ m g main (segs m g) (main_run m g)
    (by simp only [segs, Pipeline.Seg.pipes_host, Pipeline.Seg.pipes_region, Pipeline.Seg.pipes_nil]; decide)
    _ ⟨fun _ => .rfl, fun _ => .rfl, fun _ => .rfl, fun _ => .rfl, fun _ => .rfl⟩

/-- The reference's result has the same entries. -/
theorem reference {x0 : S2048x2048.Idx → EReal} {x1 : S2048x12288.Idx → EReal} (hh : Has2 (n0 := 2048) (n1 := 2048) x0 h)
    (hw : Has2 (n0 := 2048) (n1 := 12288) x1 w) : Cert.EvenInReferenceIdeal.Read.val_main_v1 (F := Ideal) x0 x1 = result h w := by
  funext i
  rw [Cert.EvenInReferenceIdeal.Read.val_main_v1_apply]
  exact sum_fin_mul 2048 (h (i 0).val) (fun k => w k (i 1).val) _ _ (fun k => hh _) (fun k => hw _)

theorem frame_reference : Cert.quiescent_EvenInReferenceIdeal := fun m g _ =>
  (θ_run (Cert.EvenInReferenceIdeal.defs (F := Ideal)) _ _).mono (fun r h => ⟨fun c => (h c).2,
      Idealize.ShloMosaic.sem_eq_zero_of_no_sems (by decide) r.2⟩)
    (Cert.EvenInReferenceIdeal.Value.run (F := Ideal) m g)

/-- The two programs end with the same product. -/
theorem same : Cert.algebraic_EvenInIdeal_EvenInReferenceIdeal := by
  intro m g m' g' _ same
  refine ⟨fun c => W4 m g c (Proc.devRef .tc main_v8), (θ_run defs _ _).mono (fun r h c => ?_) (run g m), ?_⟩
  · exact ⟨h c _ (mem_uc main_v8 (by decide)), (h c _ (mem_uc main_arg0 (by decide))).trans (W4_main_arg0 m g c),
      (h c _ (mem_uc main_arg1 (by decide))).trans (W4_main_arg1 m g c)⟩
  refine (θ_run (Cert.EvenInReferenceIdeal.defs (F := Ideal)) _ _).mono (fun r h c => ?_) (Cert.EvenInReferenceIdeal.Value.run (F := Ideal) m' g')
  obtain ⟨_, hh⟩ := Has2.exists (n0 := 2048) (n1 := 2048) (m ((c : Thread nD τ).loc main_arg0))
  obtain ⟨_, hw⟩ := Has2.exists (n0 := 2048) (n1 := 12288) (m ((c : Thread nD τ).loc main_arg1))
  refine ⟨(h c).1.trans ((Cert.EvenInReferenceIdeal.Read.val_main_v1_eq _ _).trans ?_), (h c).2⟩
  rw [(same c).1, (same c).2]
  exact (reference hh hw).trans (kernel g hh hw).symm

end Cert.Proof.EvenIn

end
-- ==== Proof.EvenInDwFirst.lean ====
/- The gradient of the other half of the even layer's input weights, in two calls: the transposed rows of this device, which
   arrive transposed, times its own column blocks of `dz`, then the sibling's times the sibling's, added to the first call's
   result. -/
module

public import proofs.«01_k».proof.Proof.Entries
public import proofs.«01_k».proof.Proof.Calls
public import proofs.«01_k».proof.Defs
public import proofs.«01_k».proof.Proof.Gen.EvenInDwFirstIdeal.Frame
public import proofs.«01_k».proof.Proof.Gen.EvenInDwFirstReferenceIdeal.Read
public import proofs.«01_k».proof.Proof.Gen.EvenInDwFirstReferenceIdeal.Run
public import Idealize.ShloMosaic.Lib.Pipeline.ValueKit
public import Idealize.ShloMosaic.Lib.Claim

@[expose] public section

set_option maxRecDepth 16384

noncomputable section

namespace Cert.Proof.EvenInDwFirst

open Cert.EvenInDwFirstIdeal Cert.EvenInDwFirstIdeal.Gen Idealize.ShloMosaic Idealize.ShloMosaic.TcCoe Idealize.ShloMosaic.ValueIdx Finset
open Idealize.SL.Sem

theorem index00 : ∀ t, win0_0.index t = ![0, 0] := by decide +kernel
theorem index01 : ∀ t, win0_1.index t = ![0, 4 * t.val] := by decide +kernel
theorem index02 : ∀ t, win0_2.index t = ![t.val, 0, 0] := by decide +kernel
theorem index10 : ∀ t, win1_0.index t = ![0, 0] := by decide +kernel
theorem index11 : ∀ t, win1_1.index t = ![0, t.val] := by decide +kernel
theorem index12 : ∀ t, win1_2.index t = ![t.val, 0, 0] := by decide +kernel
theorem index13 : ∀ t, win1_3.index t = ![t.val, 0, 0] := by decide +kernel

/-- A [2048, 2048] matrix times 768 columns, under a unit axis. -/
theorem product (a : FVec Ideal S2048x2048 .bf16) (b : FVec Ideal S2048x768 .bf16) {f g : ℕ → ℕ → EReal}
    (ha : Has2 (n0 := 2048) (n1 := 2048) a f) (hb : Has2 (n0 := 2048) (n1 := 768) b g) :
    Has3 (n0 := 1) (n1 := 2048) (n2 := 768) (k0_pay1 (F := Ideal) a b) fun _ r c => ∑ k ∈ range 2048, f r k * g k c := fun i => by
  unfold k0_pay1
  pointwise
  exact sum_fin_mul 2048 (f (i 1).val) (fun k => g k (i 2).val) _ _ (fun k => ha _) (fun k => hb _)

/-- The same product, added to a block. -/
theorem product_add (p : FVec Ideal S1x2048x768 .f32) (a : FVec Ideal S2048x2048 .bf16) (b : FVec Ideal S2048x768 .bf16)
    {e f g : ℕ → ℕ → EReal} (hp : Has3 (n0 := 1) (n1 := 2048) (n2 := 768) p fun _ => e)
    (ha : Has2 (n0 := 2048) (n1 := 2048) a f) (hb : Has2 (n0 := 2048) (n1 := 768) b g) :
    Has3 (n0 := 1) (n1 := 2048) (n2 := 768) (k1_pay1 (F := Ideal) p a b)
      fun _ r c => e r c + ∑ k ∈ range 2048, f r k * g k c := fun i => by
  unfold k1_pay1
  pointwise
  exact congrArg₂ (· + ·) (hp i)
    (sum_fin_mul 2048 (f (i 1).val) (fun k => g k (i 2).val) _ _ (fun k => ha _) (fun k => hb _))

variable {h h' dz dz' : ℕ → ℕ → EReal} {e : ℕ → ℕ → ℕ → EReal} {m : (ℓ : Loc nD τ sig) → Buf (Elt Ideal) ℓ} {c : Dev nD}

/-- The first call's result at `(j, d, n)`: the own rows' product at column `2 j * 768 + n`. -/
def own (h dz : ℕ → ℕ → EReal) (j d n : ℕ) : EReal := ∑ k ∈ range 2048, h d k * dz k (4 * j * 768 + n)

/-- The gradient at `(j, d, n)`: the first call's result, and the sibling's product at column `j * 768 + n`. -/
def gradient (h h' dz dz' : ℕ → ℕ → EReal) (i : S4x2048x768.Idx) : EReal :=
  own h dz (i 0).val (i 1).val (i 2).val + ∑ k ∈ range 2048, h' (i 1).val k * dz' k ((i 0).val * 768 + (i 2).val)

variable (V : (c : Dev nD) → (b : Ref sig .tc) → Buf (Elt Ideal) ((c : Thread nD τ).loc b))

/-- The first call. -/
theorem first (h0 : Has2 (n0 := 2048) (n1 := 2048) (V c main_arg0) h) (h1 : Has2 (n0 := 2048) (n1 := 12288) (V c main_arg1) dz) :
    (dat0 V c).arrAt 2 cfg0.N = fun i : S4x2048x768.Idx => own h dz (i 0).val (i 1).val (i 2).val := by
  refine (dat0 V c).arrAt_eq_of_covers 2 _ (by decide +kernel) fun t hf i => ?_
  blk_simp
  rw [after0_2]
  unfold outsAt0
  frame_out
  refine (product _ _ (f := h) (g := fun k n => dz k (4 * t.val * 768 + n)) (fun j => ?_) (fun j => ?_) _).trans ?_
  · blk_simp [iblk0, index00]
    rw [h0]
    blk_simp [index00]
  · blk_simp [iblk0, index01]
    rw [h1]
    blk_simp [index01]
  · have i0 : (i 0).val < 1 := (i 0).isLt
    unfold own
    blk_simp [index02]

/-- The second call, over any array `e` in the place of the first call's result. -/
theorem second (h0 : Has2 (n0 := 2048) (n1 := 2048) (V c main_arg2) h) (h1 : Has2 (n0 := 2048) (n1 := 3072) (V c main_arg3) dz)
    (h2 : Has3 (n0 := 4) (n1 := 2048) (n2 := 768) (V c main_v0) e) :
    (dat1 V c).arrAt 3 cfg1.N = fun i : S4x2048x768.Idx =>
      e (i 0).val (i 1).val (i 2).val + ∑ k ∈ range 2048, h (i 1).val k * dz k ((i 0).val * 768 + (i 2).val) := by
  refine (dat1 V c).arrAt_eq_of_covers 3 _ (by decide +kernel) fun t hf i => ?_
  blk_simp
  rw [after1_3]
  frame_out
  refine (product_add _ _ _ (e := e t.val) (f := h) (g := fun k n => dz k (t.val * 768 + n))
    (fun j => ?_) (fun j => ?_) (fun j => ?_) _).trans ?_
  · have j0 : (j 0).val < 1 := (j 0).isLt
    blk_simp [iblk1, index12]
    rw [h2]
    blk_simp [index12]
  · blk_simp [iblk1, index10]
    rw [h0]
    blk_simp [index10]
  · blk_simp [iblk1, index11]
    rw [h1]
    blk_simp [index11]
  · have i0 : (i 0).val < 1 := (i 0).isLt
    blk_simp [index13]

variable (g : Dev nD → PrngReg)

/-- What the result's array holds after the two calls. -/
theorem kernel (h0 : Has2 (n0 := 2048) (n1 := 2048) (m ((c : Thread nD τ).loc main_arg0)) h)
    (h1 : Has2 (n0 := 2048) (n1 := 12288) (m ((c : Thread nD τ).loc main_arg1)) dz)
    (h2 : Has2 (n0 := 2048) (n1 := 2048) (m ((c : Thread nD τ).loc main_arg2)) h')
    (h3 : Has2 (n0 := 2048) (n1 := 3072) (m ((c : Thread nD τ).loc main_arg3)) dz') :
    W2 m g c (Proc.devRef .tc main_v1) = gradient h h' dz dz' :=
  (W2_arr m g c 3).trans <| second (V1 m g) (e := own h dz) (fun j => (congrFun (W1_args m g c main_arg2 (by decide)) j).trans (h2 j))
    (fun j => (congrFun (W1_args m g c main_arg3 (by decide)) j).trans (h3 j))
    (fun j => congrFun ((W1_arr m g c 2).trans (first (V0 m g) h0 h1)) j)

/-- The two calls run, and leave the arguments. -/
theorem run (m : (ℓ : Loc nD τ sig) → Buf (Elt Ideal) ℓ) : θ_run defs (onTc (τ := τ) (main (F := Ideal))) ⟨m, fun _ => 0, g⟩ fun r =>
    ∀ c : Dev nD, ∀ b ∈ Pipeline.ucRefs τ sig, r.2.mem (c, b) = W2 m g c b :=
  Calls.run _ adm (pdats m g) cellOf_inj defs₀ 𝒱₀ m g main (segs m g) (main_run m g)
    (by simp only [segs, Pipeline.Seg.pipes_host, Pipeline.Seg.pipes_region, Pipeline.Seg.pipes_nil]; decide)
    _ ⟨fun _ => .rfl, fun _ => .rfl, fun _ => .rfl⟩

/-- The reference's result has the same entries. -/
theorem reference {x0 x2 : S2048x2048.Idx → EReal} {x1 : S2048x12288.Idx → EReal} {x3 : Cert.EvenInDwFirstReferenceIdeal.S2048x3072.Idx → EReal}
    (h0 : Has2 (n0 := 2048) (n1 := 2048) x0 h) (h1 : Has2 (n0 := 2048) (n1 := 12288) x1 dz)
    (h2 : Has2 (n0 := 2048) (n1 := 2048) x2 h') (h3 : Has2 (n0 := 2048) (n1 := 3072) x3 dz') :
    Cert.EvenInDwFirstReferenceIdeal.Read.val_main_v18 (F := Ideal) x0 x1 x2 x3 = gradient h h' dz dz' := by
  funext i
  have i0 : (i 0).val < 4 := (i 0).isLt
  have i2 : (i 2).val < 768 := (i 2).isLt
  show Cert.EvenInDwFirstReferenceIdeal.Read.val_main_v14 (F := Ideal) x2 x3 i + Cert.EvenInDwFirstReferenceIdeal.Read.val_main_v16 (F := Ideal) x0 x1 i = _
  rw [add_comm, Cert.EvenInDwFirstReferenceIdeal.Read.val_main_v16_apply, Cert.EvenInDwFirstReferenceIdeal.Read.val_main_v14_apply, Cert.EvenInDwFirstReferenceIdeal.Read.val_main_v15_apply, Cert.EvenInDwFirstReferenceIdeal.Read.val_main_v13_apply]
  refine congrArg₂ (· + ·) (sum_fin_eq 2048 (fun k => h (i 1).val k * dz k (4 * (i 0).val * 768 + (i 2).val)) _ fun k => ?_)
    (sum_fin_eq 2048 (fun k => h' (i 1).val k * dz' k ((i 0).val * 768 + (i 2).val)) _ fun k => ?_)
  · refine (mul_comm _ _).trans (congrArg₂ (· * ·) ?_ ?_)
    · rw [Cert.EvenInDwFirstReferenceIdeal.Read.val_main_v1_apply]
      exact h0 _
    · rw [Cert.EvenInDwFirstReferenceIdeal.Read.val_main_v7_apply, Cert.EvenInDwFirstReferenceIdeal.Read.val_main_v6_apply, Cert.EvenInDwFirstReferenceIdeal.Read.val_main_v5_apply]
      refine (h1 _).trans (congrArg₂ dz ?_ ?_)
      · dsimp only
        omega
      · dsimp only
        omega
  · refine (mul_comm _ _).trans (congrArg₂ (· * ·) ?_ ?_)
    · rw [Cert.EvenInDwFirstReferenceIdeal.Read.val_main_v3_apply]
      exact h2 _
    · rw [Cert.EvenInDwFirstReferenceIdeal.Read.val_main_v9_apply]
      refine (h3 _).trans (congrArg₂ dz' ?_ ?_)
      · dsimp only
        omega
      · dsimp only
        omega

theorem frame_reference : Cert.quiescent_EvenInDwFirstReferenceIdeal := fun m g _ =>
  (θ_run (Cert.EvenInDwFirstReferenceIdeal.defs (F := Ideal)) _ _).mono (fun r h => ⟨fun c => (h c).2,
      Idealize.ShloMosaic.sem_eq_zero_of_no_sems (by decide) r.2⟩)
    (Cert.EvenInDwFirstReferenceIdeal.Value.run (F := Ideal) m g)

/-- The two programs end with the same gradient. -/
theorem same : Cert.algebraic_EvenInDwFirstIdeal_EvenInDwFirstReferenceIdeal := by
  intro m g m' g' _ same
  refine ⟨fun c => W2 m g c (Proc.devRef .tc main_v1), (θ_run defs _ _).mono (fun r h c => ?_) (run g m), ?_⟩
  · exact ⟨h c _ (mem_uc main_v1 (by decide)), (h c _ (mem_uc main_arg0 (by decide))).trans (W2_main_arg0 m g c),
      (h c _ (mem_uc main_arg1 (by decide))).trans (W2_main_arg1 m g c), (h c _ (mem_uc main_arg2 (by decide))).trans (W2_main_arg2 m g c),
      (h c _ (mem_uc main_arg3 (by decide))).trans (W2_main_arg3 m g c), (h c _ (mem_uc main_arg4 (by decide))).trans (W2_main_arg4 m g c)⟩
  refine (θ_run (Cert.EvenInDwFirstReferenceIdeal.defs (F := Ideal)) _ _).mono (fun r h c => ?_) (Cert.EvenInDwFirstReferenceIdeal.Value.run (F := Ideal) m' g')
  obtain ⟨_, h0⟩ := Has2.exists (n0 := 2048) (n1 := 2048) (m ((c : Thread nD τ).loc main_arg0))
  obtain ⟨_, h1⟩ := Has2.exists (n0 := 2048) (n1 := 12288) (m ((c : Thread nD τ).loc main_arg1))
  obtain ⟨_, h2⟩ := Has2.exists (n0 := 2048) (n1 := 2048) (m ((c : Thread nD τ).loc main_arg2))
  obtain ⟨_, h3⟩ := Has2.exists (n0 := 2048) (n1 := 3072) (m ((c : Thread nD τ).loc main_arg3))
  refine ⟨(h c).1.trans ((Cert.EvenInDwFirstReferenceIdeal.Read.val_main_v18_eq _ _ _ _).trans ?_), (h c).2⟩
  rw [(same c).1, (same c).2.1, (same c).2.2.1, (same c).2.2.2.1]
  exact (reference h0 h1 h2 h3).trans (kernel g h0 h1 h2 h3).symm

end Cert.Proof.EvenInDwFirst

end
-- ==== Proof.OddInDw.lean ====
/- The gradient of the odd layer's input weights, in two calls: the transposed rows of this device times its own column blocks
   of `dz`, then the sibling's transposed rows times the sibling's, added to the first call's result. -/
module

public import proofs.«01_k».proof.Proof.Entries
public import proofs.«01_k».proof.Proof.Calls
public import proofs.«01_k».proof.Defs
public import proofs.«01_k».proof.Proof.Gen.OddInDwIdeal.Frame
public import proofs.«01_k».proof.Proof.Gen.OddInDwReferenceIdeal.Read
public import proofs.«01_k».proof.Proof.Gen.OddInDwReferenceIdeal.Run
public import Idealize.ShloMosaic.Lib.Pipeline.ValueKit
public import Idealize.ShloMosaic.Lib.Claim

@[expose] public section

set_option maxRecDepth 16384

noncomputable section

namespace Cert.Proof.OddInDw

open Cert.OddInDwIdeal Cert.OddInDwIdeal.Gen Idealize.ShloMosaic Idealize.ShloMosaic.TcCoe Idealize.ShloMosaic.ValueIdx Finset
open Idealize.SL.Sem

theorem index00 : ∀ t, win0_0.index t = ![0, 0] := by decide +kernel
theorem index01 : ∀ t, win0_1.index t = ![0, 2 * t.val] := by decide +kernel
theorem index02 : ∀ t, win0_2.index t = ![t.val, 0, 0] := by decide +kernel
theorem index10 : ∀ t, win1_0.index t = ![0, 0] := by decide +kernel
theorem index11 : ∀ t, win1_1.index t = ![0, t.val] := by decide +kernel
theorem index12 : ∀ t, win1_2.index t = ![t.val, 0, 0] := by decide +kernel
theorem index13 : ∀ t, win1_3.index t = ![t.val, 0, 0] := by decide +kernel

/-- A transposed [2048, 2048] matrix times 768 columns, under a unit axis. -/
theorem product (a : FVec Ideal S2048x2048 .bf16) (b : FVec Ideal S2048x768 .bf16) {f g : ℕ → ℕ → EReal}
    (ha : Has2 (n0 := 2048) (n1 := 2048) a f) (hb : Has2 (n0 := 2048) (n1 := 768) b g) :
    Has3 (n0 := 1) (n1 := 2048) (n2 := 768) (k0_pay1 (F := Ideal) a b) fun _ r c => ∑ k ∈ range 2048, f k r * g k c := fun i => by
  unfold k0_pay1
  pointwise
  exact sum_fin_mul 2048 (fun k => f k (i 1).val) (fun k => g k (i 2).val) _ _ (fun k => ha _) (fun k => hb _)

/-- The same product, added to a block. -/
theorem product_add (p : FVec Ideal S1x2048x768 .f32) (a : FVec Ideal S2048x2048 .bf16) (b : FVec Ideal S2048x768 .bf16)
    {e f g : ℕ → ℕ → EReal} (hp : Has3 (n0 := 1) (n1 := 2048) (n2 := 768) p fun _ => e)
    (ha : Has2 (n0 := 2048) (n1 := 2048) a f) (hb : Has2 (n0 := 2048) (n1 := 768) b g) :
    Has3 (n0 := 1) (n1 := 2048) (n2 := 768) (k1_pay1 (F := Ideal) p a b)
      fun _ r c => e r c + ∑ k ∈ range 2048, f k r * g k c := fun i => by
  unfold k1_pay1
  pointwise
  exact congrArg₂ (· + ·) (hp i)
    (sum_fin_mul 2048 (fun k => f k (i 1).val) (fun k => g k (i 2).val) _ _ (fun k => ha _) (fun k => hb _))

variable {h h' dz dz' : ℕ → ℕ → EReal} {e : ℕ → ℕ → ℕ → EReal} {m : (ℓ : Loc nD τ sig) → Buf (Elt Ideal) ℓ} {c : Dev nD}

/-- The first call's result at `(j, d, n)`: the own rows' product at column `2 j * 768 + n`. -/
def own (h dz : ℕ → ℕ → EReal) (j d n : ℕ) : EReal := ∑ k ∈ range 2048, h k d * dz k (2 * j * 768 + n)

/-- The gradient at `(j, d, n)`: the first call's result, and the sibling's product at column `j * 768 + n`. -/
def gradient (h h' dz dz' : ℕ → ℕ → EReal) (i : S4x2048x768.Idx) : EReal :=
  own h dz (i 0).val (i 1).val (i 2).val + ∑ k ∈ range 2048, h' k (i 1).val * dz' k ((i 0).val * 768 + (i 2).val)

variable (V : (c : Dev nD) → (b : Ref sig .tc) → Buf (Elt Ideal) ((c : Thread nD τ).loc b))

/-- The first call. -/
theorem first (h0 : Has2 (n0 := 2048) (n1 := 2048) (V c main_arg0) h) (h1 : Has2 (n0 := 2048) (n1 := 6144) (V c main_arg1) dz) :
    (dat0 V c).arrAt 2 cfg0.N = fun i : S4x2048x768.Idx => own h dz (i 0).val (i 1).val (i 2).val := by
  refine (dat0 V c).arrAt_eq_of_covers 2 _ (by decide +kernel) fun t hf i => ?_
  blk_simp
  rw [after0_2]
  unfold outsAt0
  frame_out
  refine (product _ _ (f := h) (g := fun k n => dz k (2 * t.val * 768 + n)) (fun j => ?_) (fun j => ?_) _).trans ?_
  · blk_simp [iblk0, index00]
    rw [h0]
    blk_simp [index00]
  · blk_simp [iblk0, index01]
    rw [h1]
    blk_simp [index01]
  · have i0 : (i 0).val < 1 := (i 0).isLt
    unfold own
    blk_simp [index02]

/-- The second call, over any array `e` in the place of the first call's result. -/
theorem second (h0 : Has2 (n0 := 2048) (n1 := 2048) (V c main_arg2) h) (h1 : Has2 (n0 := 2048) (n1 := 3072) (V c main_arg3) dz)
    (h2 : Has3 (n0 := 4) (n1 := 2048) (n2 := 768) (V c main_v0) e) :
    (dat1 V c).arrAt 3 cfg1.N = fun i : S4x2048x768.Idx =>
      e (i 0).val (i 1).val (i 2).val + ∑ k ∈ range 2048, h k (i 1).val * dz k ((i 0).val * 768 + (i 2).val) := by
  refine (dat1 V c).arrAt_eq_of_covers 3 _ (by decide +kernel) fun t hf i => ?_
  blk_simp
  rw [after1_3]
  frame_out
  refine (product_add _ _ _ (e := e t.val) (f := h) (g := fun k n => dz k (t.val * 768 + n))
    (fun j => ?_) (fun j => ?_) (fun j => ?_) _).trans ?_
  · have j0 : (j 0).val < 1 := (j 0).isLt
    blk_simp [iblk1, index12]
    rw [h2]
    blk_simp [index12]
  · blk_simp [iblk1, index10]
    rw [h0]
    blk_simp [index10]
  · blk_simp [iblk1, index11]
    rw [h1]
    blk_simp [index11]
  · have i0 : (i 0).val < 1 := (i 0).isLt
    blk_simp [index13]

variable (g : Dev nD → PrngReg)

/-- What the result's array holds after the two calls. -/
theorem kernel (h0 : Has2 (n0 := 2048) (n1 := 2048) (m ((c : Thread nD τ).loc main_arg0)) h)
    (h1 : Has2 (n0 := 2048) (n1 := 6144) (m ((c : Thread nD τ).loc main_arg1)) dz)
    (h2 : Has2 (n0 := 2048) (n1 := 2048) (m ((c : Thread nD τ).loc main_arg2)) h')
    (h3 : Has2 (n0 := 2048) (n1 := 3072) (m ((c : Thread nD τ).loc main_arg3)) dz') :
    W2 m g c (Proc.devRef .tc main_v1) = gradient h h' dz dz' :=
  (W2_arr m g c 3).trans <| second (V1 m g) (e := own h dz) (fun j => (congrFun (W1_args m g c main_arg2 (by decide)) j).trans (h2 j))
    (fun j => (congrFun (W1_args m g c main_arg3 (by decide)) j).trans (h3 j))
    (fun j => congrFun ((W1_arr m g c 2).trans (first (V0 m g) h0 h1)) j)

/-- The two calls run, and leave the arguments. -/
theorem run (m : (ℓ : Loc nD τ sig) → Buf (Elt Ideal) ℓ) : θ_run defs (onTc (τ := τ) (main (F := Ideal))) ⟨m, fun _ => 0, g⟩ fun r =>
    ∀ c : Dev nD, ∀ b ∈ Pipeline.ucRefs τ sig, r.2.mem (c, b) = W2 m g c b :=
  Calls.run _ adm (pdats m g) cellOf_inj defs₀ 𝒱₀ m g main (segs m g) (main_run m g)
    (by simp only [segs, Pipeline.Seg.pipes_host, Pipeline.Seg.pipes_region, Pipeline.Seg.pipes_nil]; decide)
    _ ⟨fun _ => .rfl, fun _ => .rfl, fun _ => .rfl⟩

/-- The reference's result has the same entries. -/
theorem reference {x0 x2 : S2048x2048.Idx → EReal} {x1 : S2048x6144.Idx → EReal} {x3 : Cert.OddInDwReferenceIdeal.S2048x3072.Idx → EReal}
    (h0 : Has2 (n0 := 2048) (n1 := 2048) x0 h) (h1 : Has2 (n0 := 2048) (n1 := 6144) x1 dz)
    (h2 : Has2 (n0 := 2048) (n1 := 2048) x2 h') (h3 : Has2 (n0 := 2048) (n1 := 3072) x3 dz') :
    Cert.OddInDwReferenceIdeal.Read.val_main_v16 (F := Ideal) x0 x1 x2 x3 = gradient h h' dz dz' := by
  funext i
  have i0 : (i 0).val < 4 := (i 0).isLt
  have i2 : (i 2).val < 768 := (i 2).isLt
  show Cert.OddInDwReferenceIdeal.Read.val_main_v12 (F := Ideal) x2 x3 i + Cert.OddInDwReferenceIdeal.Read.val_main_v14 (F := Ideal) x0 x1 i = _
  rw [add_comm, Cert.OddInDwReferenceIdeal.Read.val_main_v14_apply, Cert.OddInDwReferenceIdeal.Read.val_main_v12_apply,
    Cert.OddInDwReferenceIdeal.Read.val_main_v13_apply, Cert.OddInDwReferenceIdeal.Read.val_main_v11_apply]
  refine congrArg₂ (· + ·) (sum_fin_eq 2048 (fun k => h k (i 1).val * dz k (2 * (i 0).val * 768 + (i 2).val)) _ fun k => ?_)
    (sum_fin_eq 2048 (fun k => h' k (i 1).val * dz' k ((i 0).val * 768 + (i 2).val)) _ fun k => ?_)
  · refine (mul_comm _ _).trans (congrArg₂ (· * ·) (h0 _) ?_)
    rw [Cert.OddInDwReferenceIdeal.Read.val_main_v5_apply, Cert.OddInDwReferenceIdeal.Read.val_main_v4_apply,
      Cert.OddInDwReferenceIdeal.Read.val_main_v3_apply]
    refine (h1 _).trans (congrArg₂ dz ?_ ?_)
    · dsimp only
      omega
    · dsimp only
      omega
  · refine (mul_comm _ _).trans (congrArg₂ (· * ·) (h2 _) ?_)
    rw [Cert.OddInDwReferenceIdeal.Read.val_main_v7_apply]
    refine (h3 _).trans (congrArg₂ dz' ?_ ?_)
    · dsimp only
      omega
    · dsimp only
      omega

theorem frame_reference : Cert.quiescent_OddInDwReferenceIdeal := fun m g _ =>
  (θ_run (Cert.OddInDwReferenceIdeal.defs (F := Ideal)) _ _).mono (fun r h => ⟨fun c => (h c).2,
      Idealize.ShloMosaic.sem_eq_zero_of_no_sems (by decide) r.2⟩)
    (Cert.OddInDwReferenceIdeal.Value.run (F := Ideal) m g)

/-- The two programs end with the same gradient. -/
theorem same : Cert.algebraic_OddInDwIdeal_OddInDwReferenceIdeal := by
  intro m g m' g' _ same
  refine ⟨fun c => W2 m g c (Proc.devRef .tc main_v1), (θ_run defs _ _).mono (fun r h c => ?_) (run g m), ?_⟩
  · exact ⟨h c _ (mem_uc main_v1 (by decide)), (h c _ (mem_uc main_arg0 (by decide))).trans (W2_main_arg0 m g c),
      (h c _ (mem_uc main_arg1 (by decide))).trans (W2_main_arg1 m g c), (h c _ (mem_uc main_arg2 (by decide))).trans (W2_main_arg2 m g c),
      (h c _ (mem_uc main_arg3 (by decide))).trans (W2_main_arg3 m g c), (h c _ (mem_uc main_arg4 (by decide))).trans (W2_main_arg4 m g c)⟩
  refine (θ_run (Cert.OddInDwReferenceIdeal.defs (F := Ideal)) _ _).mono (fun r h c => ?_) (Cert.OddInDwReferenceIdeal.Value.run (F := Ideal) m' g')
  obtain ⟨_, h0⟩ := Has2.exists (n0 := 2048) (n1 := 2048) (m ((c : Thread nD τ).loc main_arg0))
  obtain ⟨_, h1⟩ := Has2.exists (n0 := 2048) (n1 := 6144) (m ((c : Thread nD τ).loc main_arg1))
  obtain ⟨_, h2⟩ := Has2.exists (n0 := 2048) (n1 := 2048) (m ((c : Thread nD τ).loc main_arg2))
  obtain ⟨_, h3⟩ := Has2.exists (n0 := 2048) (n1 := 3072) (m ((c : Thread nD τ).loc main_arg3))
  refine ⟨(h c).1.trans ((Cert.OddInDwReferenceIdeal.Read.val_main_v16_eq _ _ _ _).trans ?_), (h c).2⟩
  rw [(same c).1, (same c).2.1, (same c).2.2.1, (same c).2.2.2.1]
  exact (reference h0 h1 h2 h3).trans (kernel g h0 h1 h2 h3).symm

end Cert.Proof.OddInDw

end
-- ==== Proof.RefBackward.lean ====
/- The reference's gate, scale and weight gradients, and the gradient of the pooled channels. -/
module

public import proofs.«01_k».proof.Proof.RefForward

@[expose] public section

noncomputable section

namespace Cert.Proof.Ref

open Idealize.ShloMosaic
open Idealize.ShloMosaic.ValueIdx hiding ix1 ix2 ix3
open Cert.ReferenceIdeal Cert.ReferenceIdeal.Read Finset

/-- The reference's arguments hold these reals. -/
structure Args (x0 : (⟨S2048x12288, .f32⟩ : BufTy).Contents (Elt Ideal)) (x1 : (⟨S4x256x256, .f32⟩ : BufTy).Contents (Elt Ideal))
    (x2 : (⟨S1024, .f32⟩ : BufTy).Contents (Elt Ideal)) (x3 : (⟨S2048x2048, .f32⟩ : BufTy).Contents (Elt Ideal))
    (z : ℕ → ℕ → ℝ) (wt : ℕ → ℕ → ℕ → ℝ) (sc : ℕ → ℝ) (yt : ℕ → ℕ → ℝ) : Prop where
  z : Real2 (n0 := 2048) (n1 := 12288) x0 z
  wt : Real3 (n0 := 4) (n1 := 256) (n2 := 256) x1 wt
  sc : Real1 (n := 1024) x2 sc
  yt : Real2 (n0 := 2048) (n1 := 2048) x3 yt

variable {x0 : (⟨S2048x12288, .f32⟩ : BufTy).Contents (Elt Ideal)} {x1 : (⟨S4x256x256, .f32⟩ : BufTy).Contents (Elt Ideal)}
  {x2 : (⟨S1024, .f32⟩ : BufTy).Contents (Elt Ideal)} {x3 : (⟨S2048x2048, .f32⟩ : BufTy).Contents (Elt Ideal)}
  {z : ℕ → ℕ → ℝ} {wt : ℕ → ℕ → ℕ → ℝ} {sc : ℕ → ℝ} {yt : ℕ → ℕ → ℝ}

/-- The pooled channels mixed by the weights, at column `n` of the 1024. -/
def mixedAt (z : ℕ → ℕ → ℝ) (wt : ℕ → ℕ → ℕ → ℝ) (t n : ℕ) : ℝ := mixed (window (n / 256)) (cols z (n / 256)) (wt (n / 256)) t (n % 256)

theorem n91 (h : Args x0 x1 x2 x3 z wt sc yt) : Real2 (n0 := 2048) (n1 := 1024) (val_main_v91 (F := Ideal) x0 x1) (mixedAt z wt) := fun i => by
  have h0 : (i 0).val < 2048 := (i 0).isLt
  have h1 : (i 1).val < 1024 := (i 1).isLt
  rw [val_main_v91_apply, val_main_v90_apply, val_main_v89_apply]
  refine sum_fin_coe 256 (fun c => pooled (window ((i 1).val / 256)) (cols z ((i 1).val / 256)) (i 0).val c * wt ((i 1).val / 256) c ((i 1).val % 256))
    _ fun k => ?_
  rw [h.wt, n88 h.z, ← EReal.coe_mul, mul_comm]
  have e0 : ((i 0).val * 1024 + (i 1).val) / 1024 = (i 0).val := by omega
  have e1 : ((i 0).val * 1024 + (i 1).val) / 256 % 4 = (i 1).val / 256 := by omega
  have e2 : ((i 0).val * 1024 + (i 1).val) % 256 = (i 1).val % 256 := by omega
  show ((pooled (window (((i 0).val * 1024 + (i 1).val) / 256 % 4)) (cols z (((i 0).val * 1024 + (i 1).val) / 256 % 4))
    (((i 0).val * 1024 + (i 1).val) / 1024) k.val * wt (((i 0).val * 1024 + (i 1).val) / 256 % 4) k.val (((i 0).val * 1024 + (i 1).val) % 256) : ℝ) : EReal) = _
  rw [e0, e1, e2]

theorem n93 (h : Args x0 x1 x2 x3 z wt sc yt) : Real2 (n0 := 2048) (n1 := 1024) (val_main_v93 (F := Ideal) x2) (fun _ n => sc n) := fun i => by
  rw [val_main_v93_apply, val_main_v92_apply, h.sc]

theorem n104 (h : Args x0 x1 x2 x3 z wt sc yt) : Real2 (n0 := 2048) (n1 := 1024) (val_main_v104 (F := Ideal) x2) (fun _ n => sc n) := fun i => by
  rw [val_main_v104_apply, val_main_v92_apply, h.sc]

theorem n97 (h : Args x0 x1 x2 x3 z wt sc yt) : Real2 (n0 := 2048) (n1 := 1024) (val_main_v97 (F := Ideal) x3) yt := fun i => by
  rw [val_main_v97_apply, h.yt]

theorem n1 (h : Args x0 x1 x2 x3 z wt sc yt) : Real2 (n0 := 2048) (n1 := 1024) (val_main_v1 (F := Ideal) x0) (fun t n => z t (1024 + n)) := fun i => by
  rw [val_main_v1_apply, h.z]

section Gate

/-- The gate's logistic function. -/
theorem n95_2 (h : Args x0 x1 x2 x3 z wt sc yt) : Real2 (n0 := 2048) (n1 := 1024) (val_main_v95_2 (F := Ideal) x0) (fun t n => sg (z t (1024 + n))) := by
  have o2 : Real2 (n0 := 2048) (n1 := 1024) (val_main_call1_v2 (F := Ideal)) (fun _ _ => 1) := fun i => by
    rw [val_main_call1_v2_apply]; exact Ideal.ofBits_one_f32
  have o4 : Real2 (n0 := 2048) (n1 := 1024) (val_main_call1_v4 (F := Ideal)) (fun _ _ => 1) := fun i => by
    rw [val_main_call1_v4_apply]; exact Ideal.ofBits_one_f32
  exact o4.divHost (o2.addf (n1 h).neg.expHost) fun _ _ _ _ => one_add_exp_ne _

theorem n95_1 (h : Args x0 x1 x2 x3 z wt sc yt) : Real2 (n0 := 2048) (n1 := 1024) (val_main_v95_1 (F := Ideal) x0)
    (fun t n => sg (z t (1024 + n)) * (1 - sg (z t (1024 + n)))) := by
  have o6 : Real2 (n0 := 2048) (n1 := 1024) (val_main_call1_v6 (F := Ideal)) (fun _ _ => 1) := fun i => by
    rw [val_main_call1_v6_apply]; exact Ideal.ofBits_one_f32
  exact (n95_2 h).mulf (o6.subf (n95_2 h))

/-- The gate's value. -/
theorem n95_0 (h : Args x0 x1 x2 x3 z wt sc yt) : Real2 (n0 := 2048) (n1 := 1024) (val_main_v95_0 (F := Ideal) x0)
    (fun t n => z t (1024 + n) * sg (z t (1024 + n))) := (n1 h).mulf (n95_2 h)

/-- The output's gradient through the gate. -/
theorem n99 (h : Args x0 x1 x2 x3 z wt sc yt) : Real2 (n0 := 2048) (n1 := 1024) (val_main_v99 (F := Ideal) x0 x3)
    (fun t n => yt t n * (z t (1024 + n) * sg (z t (1024 + n)))) := (n97 h).mulf (n95_0 h)

end Gate

/-- Column `n` is column `n % 256` of its block. -/
theorem col_at (z : ℕ → ℕ → ℝ) (t n : ℕ) : cols z (n / 256) t (n % 256) = z t n := congrArg (z t) (by omega)

theorem gate_at (z : ℕ → ℕ → ℝ) (t n : ℕ) : cols z (4 + n / 256) t (n % 256) = z t (1024 + n) := congrArg (z t) (by omega)

theorem part_at (sc : ℕ → ℝ) (n : ℕ) : part sc (n / 256) (n % 256) = sc n := congrArg sc (by omega)

/-- The gradient of the gate. -/
theorem n185 (h : Args x0 x1 x2 x3 z wt sc yt) : Real2 (n0 := 2048) (n1 := 1024) (val_main_v185 (F := Ideal) x0 x1 x2 x3)
    (fun t n => groupGate z wt sc yt (n / 256) t (n % 256)) := by
  have h98 := Real2.mulf (φ := .f32) (Real2.mulf (φ := .f32) (n91 h) (n93 h)) (n97 h)
  refine (((h98.mulf (n95_2 h)).addf ((Real2.mulf (φ := .f32) (n1 h) h98).mulf (n95_1 h))).truncf (ψ := .bf16) (by decide)).congr fun t n _ _ => ?_
  show _ = cols yt (n / 256) t (n % 256) * (mixedAt z wt t n * part sc (n / 256) (n % 256)) * dsilu (cols z (4 + n / 256) t (n % 256))
  rw [col_at, part_at, gate_at, dsilu]
  ring

/-- The gradient of the scale. -/
theorem n186 (h : Args x0 x1 x2 x3 z wt sc yt) : Real2 (n0 := 1) (n1 := 1024) (val_main_v186 (F := Ideal) x0 x1 x3)
    (fun _ n => groupScale z wt yt (n / 256) (n % 256)) := fun i => by
  have h0 : (i 0).val = 0 := Nat.lt_one_iff.mp (i 0).isLt
  have h101 := Real2.mulf (φ := .f32) (n91 h) (n99 h)
  rw [val_main_v186_apply, val_main_v106_apply]
  rw [Fin.sum_univ_one, val_main_v103_apply, val_main_v102_apply]
  have c16 : ∀ j, (val_main_cst_16 (F := Ideal)) j = 0 := fun _ => Ideal.ofBits_zero_f32
  have c17 : ∀ j, (val_main_cst_17 (F := Ideal)) j = 0 := fun _ => Ideal.ofBits_zero_f32
  rw [c16, c17, zero_add, zero_add]
  refine sum_fin_coe 2048 (fun t => dgated (cols z (4 + (i 1).val / 256)) (cols yt ((i 1).val / 256)) t ((i 1).val % 256)
    * mixedAt z wt t (i 1).val) _ fun k => (h101 _).trans ?_
  have e : 0 * 1024 + ((i 0).val * 1024 + (i 1).val) = (i 1).val := by omega
  show ((mixedAt z wt k.val (0 * 1024 + ((i 0).val * 1024 + (i 1).val)) * (yt k.val (0 * 1024 + ((i 0).val * 1024 + (i 1).val)) *
    (z k.val (1024 + (0 * 1024 + ((i 0).val * 1024 + (i 1).val))) * sg (z k.val (1024 + (0 * 1024 + ((i 0).val * 1024 + (i 1).val)))))) : ℝ) : EReal) = _
  rw [e, dgated, col_at, gate_at, mul_comm]

/-- The gradient of the mixed channels, by group. -/
theorem n108 (h : Args x0 x1 x2 x3 z wt sc yt) : Real3 (n0 := 4) (n1 := 256) (n2 := 2048) (val_main_v108 (F := Ideal) x0 x2 x3)
    (fun g k t => dmixed (cols z (4 + g)) (cols yt g) (part sc g) t k) := fun i => by
  have h0 : (i 0).val < 4 := (i 0).isLt
  have h1 : (i 1).val < 256 := (i 1).isLt
  have h2 : (i 2).val < 2048 := (i 2).isLt
  have h105 : Real2 (n0 := 2048) (n1 := 1024) (val_main_v105 (F := Ideal) x0 x2 x3) _ := (n99 h).mulf (n104 h)
  rw [val_main_v108_apply, val_main_v107_apply, h105]
  have e0 : (((i 2).val * 4 + (i 0).val) * 256 + (i 1).val) / 1024 = (i 2).val := by omega
  have e1 : (((i 2).val * 4 + (i 0).val) * 256 + (i 1).val) % 1024 = (i 0).val * 256 + (i 1).val := by omega
  have e2 : 1024 + ((i 0).val * 256 + (i 1).val) = (4 + (i 0).val) * 256 + (i 1).val := by omega
  show ((yt ((((i 2).val * 4 + (i 0).val) * 256 + (i 1).val) / 1024) ((((i 2).val * 4 + (i 0).val) * 256 + (i 1).val) % 1024) *
    (z ((((i 2).val * 4 + (i 0).val) * 256 + (i 1).val) / 1024) (1024 + (((i 2).val * 4 + (i 0).val) * 256 + (i 1).val) % 1024) *
      sg (z ((((i 2).val * 4 + (i 0).val) * 256 + (i 1).val) / 1024) (1024 + (((i 2).val * 4 + (i 0).val) * 256 + (i 1).val) % 1024))) *
    sc ((((i 2).val * 4 + (i 0).val) * 256 + (i 1).val) % 1024) : ℝ) : EReal) = _
  rw [e0, e1, e2]
  rfl

/-- The gradient of the pooled channels. -/
theorem n110 (h : Args x0 x1 x2 x3 z wt sc yt) : Real3 (n0 := 2048) (n1 := 4) (n2 := 256) (val_main_v110 (F := Ideal) x0 x1 x2 x3)
    (fun t g c => dpooled (cols z (4 + g)) (cols yt g) (wt g) (part sc g) t c) := fun i => by
  rw [val_main_v110_apply, val_main_v109_apply]
  refine sum_fin_coe 256 (fun k => dmixed (cols z (4 + (i 1).val)) (cols yt (i 1).val) (part sc (i 1).val) (i 0).val k * wt (i 1).val (i 2).val k)
    _ fun k => ?_
  rw [n108 h, h.wt, ← EReal.coe_mul]

/-- The gradient of the weight. -/
theorem n112 (h : Args x0 x1 x2 x3 z wt sc yt) : Real3 (n0 := 4) (n1 := 256) (n2 := 256) (val_main_v112 (F := Ideal) x0 x2 x3)
    (fun g c k => groupWeight z sc yt g c k) := fun i => by
  rw [val_main_v112_apply, val_main_v111_apply]
  refine sum_fin_coe 2048 (fun t => pooled (window (i 0).val) (cols z (i 0).val) t (i 1).val
    * dmixed (cols z (4 + (i 0).val)) (cols yt (i 0).val) (part sc (i 0).val) t (i 2).val) _ fun k => ?_
  rw [n108 h, n88 h.z, ← EReal.coe_mul, mul_comm]

end Cert.Proof.Ref

end
-- ==== Proof.RefInput.lean ====
/- The reference's gradient of the input. -/
module

public import proofs.«01_k».proof.Proof.RefBackward

@[expose] public section

noncomputable section

namespace Cert.Proof.Ref

open Idealize.ShloMosaic
open Idealize.ShloMosaic.ValueIdx hiding ix1 ix2 ix3
open Cert.ReferenceIdeal Cert.ReferenceIdeal.Read Finset

/-! ## One column block

`D t g c` is the gradient of the pooled channel `c` of block `g` at row `t`. -/

section Block

variable {D : ℕ → ℕ → ℕ → ℝ} {x : FVec Ideal ⟨3, ![2048, 4, 256]⟩ .f32} {v : FVec Ideal ⟨0, ![]⟩ .f32}

/-- The block's own part, with its sign changed, among zeros. -/
theorem own_host (hx : Real3 x D) (hv : ∀ i, v i = 0) (g hi : ℕ)
    (hs : (⟨3, ![2048, 4, 256]⟩ : Shape).Slices ![0, g, 0] ⟨3, ![2048, 1, 256]⟩) (hc : (⟨3, ![2048, 1, 256]⟩ : Shape).ShapeCasts ⟨2, ![2048, 256]⟩)
    (hb : (⟨2, ![2048, 256]⟩ : Shape).BroadcastsInDim ⟨3, ![2048, 1, 256]⟩ ![0, 2])
    (h : (⟨3, ![2048, 1, 256]⟩ : Shape).Pads ![0, g, 0] ![0, hi, 0] ![0, 0, 0] ⟨3, ![2048, 4, 256]⟩) (hu : 0 < (⟨0, ![]⟩ : Shape).numel) :
    Real3 (pad ⟨3, ![2048, 4, 256]⟩ ![0, g, 0] ![0, hi, 0] ![0, 0, 0] (broadcastInDim ⟨3, ![2048, 1, 256]⟩ ![0, 2] hb
        (Host.negf (shapeCast ⟨2, ![2048, 256]⟩ (extractStridedSlice ⟨3, ![2048, 1, 256]⟩ ![0, g, 0] x hs) hc))) v h hu)
      (fun t b c => if b = g then -D t b c else 0) := by
  refine (((hx.slab 0 g 2048 hs hc).neg.layer (by decide) (by decide) hb).place hv 0 g 0 hi h hu).congr fun t b c ht _ _ => ?_
  by_cases e : b = g
  · rw [if_pos e, if_pos ⟨e, by omega, by omega⟩, e, Nat.sub_zero, Nat.zero_add]
  · rw [if_neg e, if_neg fun hh => e hh.1]

variable {cn : FVec Ideal ⟨2, ![2048, 256]⟩ .f32}

/-- The block's part divided by the count, one row down, among zeros. -/
theorem front_host (hx : Real3 x D) (hv : ∀ i, v i = 0) (g hi W : ℕ) (hW : 0 < W) (hn : Real2 cn (fun t _ => cnt W t))
    (hs : (⟨3, ![2048, 4, 256]⟩ : Shape).Slices ![0, g, 0] ⟨3, ![2048, 1, 256]⟩) (hc : (⟨3, ![2048, 1, 256]⟩ : Shape).ShapeCasts ⟨2, ![2048, 256]⟩)
    (hb : (⟨2, ![2048, 256]⟩ : Shape).BroadcastsInDim ⟨3, ![2048, 1, 256]⟩ ![0, 2])
    (h : (⟨3, ![2048, 1, 256]⟩ : Shape).Pads ![1, g, 0] ![0, hi, 0] ![0, 0, 0] ⟨3, ![2049, 4, 256]⟩) (hu : 0 < (⟨0, ![]⟩ : Shape).numel) :
    Real3 (pad ⟨3, ![2049, 4, 256]⟩ ![1, g, 0] ![0, hi, 0] ![0, 0, 0] (broadcastInDim ⟨3, ![2048, 1, 256]⟩ ![0, 2] hb
        (Host.divf (shapeCast ⟨2, ![2048, 256]⟩ (extractStridedSlice ⟨3, ![2048, 1, 256]⟩ ![0, g, 0] x hs) hc) cn)) v h hu)
      (fun t b c => if b = g ∧ 1 ≤ t then D (t - 1) b c / cnt W (t - 1) else 0) := by
  refine ((((hx.slab 0 g 2048 hs hc).divHost hn fun t _ _ _ => cnt_ne W t hW).layer (by decide) (by decide) hb).place hv 1 g 0 hi h hu).congr
    fun t b c ht _ _ => ?_
  by_cases e : b = g ∧ 1 ≤ t
  · rw [if_pos e, if_pos ⟨e.1, e.2, by omega⟩, e.1, Nat.zero_add]
  · rw [if_neg e, if_neg fun hh => e ⟨hh.1, hh.2.1⟩]

/-- The same with its sign changed, `p` rows up from row `p`, among zeros. -/
theorem back_host (hx : Real3 x D) (hv : ∀ i, v i = 0) (g hi hr W p n : ℕ) (hp : p + 1 = W) (hpn : p + n = 2048) (h1 : n ≠ 1)
    (hn : Real2 cn (fun t _ => cnt W t))
    (hs : (⟨3, ![2048, 4, 256]⟩ : Shape).Slices ![0, g, 0] ⟨3, ![2048, 1, 256]⟩) (hc : (⟨3, ![2048, 1, 256]⟩ : Shape).ShapeCasts ⟨2, ![2048, 256]⟩)
    (hs' : (⟨2, ![2048, 256]⟩ : Shape).Slices ![p, 0] ⟨2, ![n, 256]⟩)
    (hb : (⟨2, ![n, 256]⟩ : Shape).BroadcastsInDim ⟨3, ![n, 1, 256]⟩ ![0, 2])
    (h : (⟨3, ![n, 1, 256]⟩ : Shape).Pads ![0, g, 0] ![hr, hi, 0] ![0, 0, 0] ⟨3, ![2049, 4, 256]⟩) (hu : 0 < (⟨0, ![]⟩ : Shape).numel) :
    Real3 (pad ⟨3, ![2049, 4, 256]⟩ ![0, g, 0] ![hr, hi, 0] ![0, 0, 0] (broadcastInDim ⟨3, ![n, 1, 256]⟩ ![0, 2] hb
        (extractStridedSlice ⟨2, ![n, 256]⟩ ![p, 0] (Host.negf (Host.divf
          (shapeCast ⟨2, ![2048, 256]⟩ (extractStridedSlice ⟨3, ![2048, 1, 256]⟩ ![0, g, 0] x hs) hc) cn)) hs')) v h hu)
      (fun t b c => if b = g ∧ t < 2049 - W then -(D (p + t) b c / cnt W (p + t)) else 0) := by
  refine (((((hx.slab 0 g 2048 hs hc).divHost hn fun t _ _ _ => cnt_ne W t (by omega)).neg.slice p 0 n 256 hs').layer h1 (by decide)
    hb).place hv 0 g hr hi h hu).congr fun t b c ht _ _ => ?_
  by_cases e : b = g ∧ t < 2049 - W
  · rw [if_pos e, if_pos ⟨e.1, by omega, by omega⟩, e.1, Nat.sub_zero, Nat.zero_add, Nat.zero_add]
  · rw [if_neg e, if_neg fun hh => e ⟨hh.1, by omega⟩]

end Block

/-- Summing from row `t` on what the two shifted copies leave gives the sum of the next `W` entries. -/
theorem sum_back (W t : ℕ) (hW : 0 < W) (q : ℕ → ℝ) :
    ∑ i ∈ range (2048 - t), (q (t + i) - if 1 + (t + i) < 2049 - W then q (t + W + i) else 0) = ahead W q t := by
  rw [sum_sub_distrib, ahead_eq_sub, ← sum_filter]
  congr 1
  refine sum_congr ?_ fun _ _ => rfl
  ext i
  rw [mem_filter, mem_range, mem_range]
  omega

variable {x0 : (⟨S2048x12288, .f32⟩ : BufTy).Contents (Elt Ideal)} {x1 : (⟨S4x256x256, .f32⟩ : BufTy).Contents (Elt Ideal)}
  {x2 : (⟨S1024, .f32⟩ : BufTy).Contents (Elt Ideal)} {x3 : (⟨S2048x2048, .f32⟩ : BufTy).Contents (Elt Ideal)}
  {z : ℕ → ℕ → ℝ} {wt : ℕ → ℕ → ℕ → ℝ} {sc : ℕ → ℝ} {yt : ℕ → ℕ → ℝ}

/-- The gradient of the pooled channels as a function of row, block and channel. -/
abbrev dp (z : ℕ → ℕ → ℝ) (wt : ℕ → ℕ → ℕ → ℝ) (sc : ℕ → ℝ) (yt : ℕ → ℕ → ℝ) (t g c : ℕ) : ℝ :=
  dpooled (cols z (4 + g)) (cols yt g) (wt g) (part sc g) t c

/-- The four blocks' own parts. -/
theorem n167 (h : Args x0 x1 x2 x3 z wt sc yt) : Real3 (n0 := 2048) (n1 := 4) (n2 := 256) (val_main_v167 (F := Ideal) x0 x1 x2 x3)
    (fun t g c => -dp z wt sc yt t g c) := by
  have h3 : Real3 (n0 := 2048) (n1 := 4) (n2 := 256) (val_main_v123 (F := Ideal) x0 x1 x2 x3) _ :=
    own_host (n110 h) (fun _ => Ideal.ofBits_zero_f32) 3 0 _ _ _ _ _
  have h2 : Real3 (n0 := 2048) (n1 := 4) (n2 := 256) (val_main_v136 (F := Ideal) x0 x1 x2 x3) _ :=
    own_host (n110 h) (fun _ => Ideal.ofBits_zero_f32) 2 1 _ _ _ _ _
  have h1 : Real3 (n0 := 2048) (n1 := 4) (n2 := 256) (val_main_v151 (F := Ideal) x0 x1 x2 x3) _ :=
    own_host (n110 h) (fun _ => Ideal.ofBits_zero_f32) 1 2 _ _ _ _ _
  have h0 : Real3 (n0 := 2048) (n1 := 4) (n2 := 256) (val_main_v166 (F := Ideal) x0 x1 x2 x3) _ :=
    own_host (n110 h) (fun _ => Ideal.ofBits_zero_f32) 0 3 _ _ _ _ _
  refine (((h3.addf h2).addf h1).addf h0).congr fun t g c _ hg _ => ?_
  obtain e | e | e | e : g = 0 ∨ g = 1 ∨ g = 2 ∨ g = 3 := by omega
  all_goals subst e; simp

/-- The eight shifted parts. -/
theorem n178 (h : Args x0 x1 x2 x3 z wt sc yt) : Real3 (n0 := 2049) (n1 := 4) (n2 := 256) (val_main_v178 (F := Ideal) x0 x1 x2 x3)
    (fun t g c => (if 1 ≤ t then dp z wt sc yt (t - 1) g c / cnt (window g) (t - 1) else 0)
      - if t < 2049 - window g then dp z wt sc yt (window g - 1 + t) g c / cnt (window g) (window g - 1 + t) else 0) := by
  have b3 : Real3 (n0 := 2049) (n1 := 4) (n2 := 256) (val_main_v130 (F := Ideal) x0 x1 x2 x3) _ :=
    back_host (n110 h) (fun _ => Ideal.ofBits_zero_f32) 3 0 16 16 15 2033 rfl rfl (by decide) (n77.spread (by decide) _) _ _ _ _ _ _
  have f3 : Real3 (n0 := 2049) (n1 := 4) (n2 := 256) (val_main_v132 (F := Ideal) x0 x1 x2 x3) _ :=
    front_host (n110 h) (fun _ => Ideal.ofBits_zero_f32) 3 0 16 (by decide) (n77.spread (by decide) _) _ _ _ _ _
  have b2 : Real3 (n0 := 2049) (n1 := 4) (n2 := 256) (val_main_v144 (F := Ideal) x0 x1 x2 x3) _ :=
    back_host (n110 h) (fun _ => Ideal.ofBits_zero_f32) 2 1 8 8 7 2041 rfl rfl (by decide) (n58.spread (by decide) _) _ _ _ _ _ _
  have f2 : Real3 (n0 := 2049) (n1 := 4) (n2 := 256) (val_main_v147 (F := Ideal) x0 x1 x2 x3) _ :=
    front_host (n110 h) (fun _ => Ideal.ofBits_zero_f32) 2 1 8 (by decide) (n58.spread (by decide) _) _ _ _ _ _
  have b1 : Real3 (n0 := 2049) (n1 := 4) (n2 := 256) (val_main_v159 (F := Ideal) x0 x1 x2 x3) _ :=
    back_host (n110 h) (fun _ => Ideal.ofBits_zero_f32) 1 2 4 4 3 2045 rfl rfl (by decide) (n39.spread (by decide) _) _ _ _ _ _ _
  have f1 : Real3 (n0 := 2049) (n1 := 4) (n2 := 256) (val_main_v162 (F := Ideal) x0 x1 x2 x3) _ :=
    front_host (n110 h) (fun _ => Ideal.ofBits_zero_f32) 1 2 4 (by decide) (n39.spread (by decide) _) _ _ _ _ _
  have b0 : Real3 (n0 := 2049) (n1 := 4) (n2 := 256) (val_main_v174 (F := Ideal) x0 x1 x2 x3) _ :=
    back_host (n110 h) (fun _ => Ideal.ofBits_zero_f32) 0 3 2 2 1 2047 rfl rfl (by decide) (n20.spread (by decide) _) _ _ _ _ _ _
  have f0 : Real3 (n0 := 2049) (n1 := 4) (n2 := 256) (val_main_v177 (F := Ideal) x0 x1 x2 x3) _ :=
    front_host (n110 h) (fun _ => Ideal.ofBits_zero_f32) 0 3 2 (by decide) (n20.spread (by decide) _) _ _ _ _ _
  refine (((((((b3.addf f3).addf b2).addf f2).addf b1).addf f1).addf b0).addf f0).congr fun t g c _ hg _ => ?_
  obtain e | e | e | e : g = 0 ∨ g = 1 ∨ g = 2 ∨ g = 3 := by omega
  all_goals
    subst e
    by_cases ht : 1 ≤ t
    all_goals
      simp [window, ht, sub_eq_add_neg, add_comm]
      split_ifs <;> simp

/-- The gradient of the input. -/
theorem n184 (h : Args x0 x1 x2 x3 z wt sc yt) : Real2 (n0 := 2048) (n1 := 1024) (val_main_v184 (F := Ideal) x0 x1 x2 x3)
    (fun t n => groupInput z wt sc yt (n / 256) t (n % 256)) := fun i => by
  have h0 : (i 0).val < 2048 := (i 0).isLt
  have h1 : (i 1).val < 1024 := (i 1).isLt
  have h181 : Real3 (n0 := 2048) (n1 := 4) (n2 := 256) (val_main_v181 (F := Ideal) x0 x1 x2 x3) _ :=
    ((n178 h).rows 1 2048 _).runningBack (fun i => by rw [val_main_call3_call0_v0_apply]; exact Ideal.ofBits_zero_f32) 2047 _ _
  have h182 : Real3 (n0 := 2048) (n1 := 4) (n2 := 256) (val_main_v182 (F := Ideal) x0 x1 x2 x3)
      (fun t g c => groupInput z wt sc yt g t c) := by
    refine ((n167 h).addf h181).congr fun t g c _ _ _ => ?_
    have hW : 0 < window g := Nat.mul_pos (by decide) (Nat.pow_pos (by decide))
    show -dp z wt sc yt t g c + _ = ahead (window g) (fun t => dp z wt sc yt t g c / cnt (window g) t) t - dp z wt sc yt t g c
    rw [← sum_back _ _ hW, neg_add_eq_sub]
    refine congrArg (· - _) (sum_congr rfl fun i _ => ?_)
    show (if 1 ≤ 1 + (t + i) then _ else (0 : ℝ)) - _ = _
    rw [if_pos (by omega), show 1 + (t + i) - 1 = t + i from by omega, show window g - 1 + (1 + (t + i)) = t + window g + i from by omega]
  rw [show val_main_v184 (F := Ideal) x0 x1 x2 x3 i = val_main_v183 (F := Ideal) x0 x1 x2 x3 i from rfl, val_main_v183_apply, h182]
  have e0 : ((i 0).val * 1024 + (i 1).val) / 1024 = (i 0).val := by omega
  have e1 : ((i 0).val * 1024 + (i 1).val) / 256 % 4 = (i 1).val / 256 := by omega
  have e2 : ((i 0).val * 1024 + (i 1).val) % 256 = (i 1).val % 256 := by omega
  show ((groupInput z wt sc yt (((i 0).val * 1024 + (i 1).val) / 256 % 4) (((i 0).val * 1024 + (i 1).val) / 1024)
    (((i 0).val * 1024 + (i 1).val) % 256) : ℝ) : EReal) = _
  rw [e0, e1, e2]

end Cert.Proof.Ref

end
-- ==== Proof.OddInDx.lean ====
/- The gradient of the odd layer's input product by its left factor: `dz` times the transpose of the weights, summed over
   eight blocks of 768 columns. -/
module

public import proofs.«01_k».proof.Proof.Entries
public import proofs.«01_k».proof.Defs
public import proofs.«01_k».proof.Proof.Gen.OddInDxIdeal.Value
public import proofs.«01_k».proof.Proof.Gen.OddInDxReferenceIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.OddInDx

open Cert.OddInDxIdeal Cert.OddInDxIdeal.Gen Idealize.ShloMosaic Idealize.ShloMosaic.TcCoe Idealize.ShloMosaic.ValueIdx Finset
open Idealize.SL.Sem

theorem index0 : ∀ t, win0_0.index t = ![0, t.val % 8] := by decide +kernel
theorem index1 : ∀ t, win0_1.index t = ![t.val % 8, t.val / 8, 0] := by decide +kernel
theorem index2 : ∀ t, win0_2.index t = ![0, t.val / 8] := by decide +kernel

/-- The accumulator is reset to zero. -/
theorem zero (i : S2048x1024.Idx) : k0_pay1 (F := Ideal) i = (0 : EReal) := by
  unfold k0_pay1
  pointwise

/-- One step of the sum: the accumulator plus a [2048, 768] matrix times the transpose of 1024 rows under a unit axis. -/
theorem step (s : FVec Ideal S2048x1024 .f32) (a : FVec Ideal S2048x768 .bf16) (b : FVec Ideal S1x1024x768 .bf16) {f g : ℕ → ℕ → EReal}
    (ha : Has2 (n0 := 2048) (n1 := 768) a f) (hb : Has3 (n0 := 1) (n1 := 1024) (n2 := 768) b fun _ => g) (i : S2048x1024.Idx) :
    k0_pay2 (F := Ideal) s a b i = s i + ∑ k ∈ range 768, f (i 0).val k * g (i 1).val k := by
  unfold k0_pay2
  pointwise
  exact congrArg (s i + ·) (sum_fin_mul 768 (f (i 0).val) (g (i 1).val) _ _ (fun k => ha _) (fun k => hb _))

variable {dz w : ℕ → ℕ → EReal} {m : (ℓ : Loc nD τ sig) → Buf (Elt Ideal) ℓ} {c : Dev nD}

/-- The block of `dz` at grid point `t`. -/
theorem block_dz (hd : Has2 (n0 := 2048) (n1 := 6144) (m ((c : Thread nD τ).loc main_arg0)) dz) (t : Fin cfg0.N) :
    Has2 (n0 := 2048) (n1 := 768) (iblk m c 0 t) fun r k => dz r (t.val % 8 * 768 + k) := fun j => by
  blk_simp [iblk, index0]
  entry_read
  rw [hd]
  blk_simp [index0]

/-- The block of the weights at grid point `t`. -/
theorem block_w (hw : Has2 (n0 := 2048) (n1 := 6144) (m ((c : Thread nD τ).loc main_arg1)) w) (t : Fin cfg0.N) :
    Has3 (n0 := 1) (n1 := 1024) (n2 := 768) (iblk m c 1 t) fun _ n k => w (t.val / 8 * 1024 + n) (t.val % 8 * 768 + k) := fun j => by
  have h0 : (j 0).val < 1 := (j 0).isLt
  have h1 : (j 1).val < 1024 := (j 1).isLt
  have h2 : (j 2).val < 768 := (j 2).isLt
  have ht : t.val < 16 := t.isLt
  blk_simp [iblk, index1]
  entry_read
  pointwise
  refine (hw _).trans ?_
  blk_simp [index1]

/-- The kernel's result has at `(r, n)` the sum over the columns `k` of `dz r k * w n k`. -/
theorem kernel (hd : Has2 (n0 := 2048) (n1 := 6144) (m ((c : Thread nD τ).loc main_arg0)) dz)
    (hw : Has2 (n0 := 2048) (n1 := 6144) (m ((c : Thread nD τ).loc main_arg1)) w) :
    (dats m 0 c).arrAt 2 cfg0.N = fun i => ∑ k ∈ range 6144, dz (i 0).val k * w (i 1).val k := by
  refine (dats m 0 c).arrAt_eq_of_covers 2 _ (by decide +kernel) fun t hf i => ?_
  have h7 : t.val % 8 = 7 := (flush0_2 t).mp hf
  have out : (outsAt0 m c t.val t.isLt).1 = (outsAt0 m c t.val t.isLt).2 := by
    rw [outsAt0_C m c t (by omega) h7]
    frame_out
  blk_simp
  rw [after0_2, out]
  refine (Pipeline.eq_sum_of_reset_step_apply_divmod (fun n h => (outsAt0 m c n h).2) 8 (fun _ => (0 : EReal))
    (fun p s i => ∑ k ∈ range 768, dz (i 0).val (s * 768 + k) * w (p * 1024 + (i 1).val) (s * 768 + k))
    (fun t h j => ?_) (fun t h j => ?_) t i).trans ?_
  · rw [outsAt0_A m c t h (by omega)]
    frame_out
    exact (step _ _ _ (block_dz hd t) (block_w hw t) j).trans (congrArg (· + _) (zero j))
  · by_cases h' : t.val % 8 = 7
    · rw [outsAt0_C m c t h h']
      frame_out
      simp only [read_unread_whole]
      exact step _ _ _ (block_dz hd t) (block_w hw t) j
    · rw [outsAt0_B m c t h h']
      frame_out
      simp only [read_unread_whole]
      exact step _ _ _ (block_dz hd t) (block_w hw t) j
  · rw [h7, zero_add, sum_range_range_mul_add 8 768 fun k => dz (i 0).val k * w (t.val / 8 * 1024 + (i 1).val) k]
    blk_simp [index2]

/-- The reference's result has the same entries. -/
theorem reference {x0 x1 : S2048x6144.Idx → EReal} (hd : Has2 (n0 := 2048) (n1 := 6144) x0 dz) (hw : Has2 (n0 := 2048) (n1 := 6144) x1 w) :
    Cert.OddInDxReferenceIdeal.Read.val_main_v3 (F := Ideal) x0 x1 = fun i => ∑ k ∈ range 6144, dz (i 0).val k * w (i 1).val k := by
  funext i
  rw [Cert.OddInDxReferenceIdeal.Read.val_main_v3_apply]
  exact sum_fin_mul 6144 (dz (i 0).val) (w (i 1).val) _ _ (fun k => hd _) (fun k => hw _)

theorem frame_reference : Cert.quiescent_OddInDxReferenceIdeal := fun m g _ =>
  (θ_run (Cert.OddInDxReferenceIdeal.defs (F := Ideal)) _ _).mono (fun r h => ⟨fun c => (h c).2,
      Idealize.ShloMosaic.sem_eq_zero_of_no_sems (by decide) r.2⟩)
    (Cert.OddInDxReferenceIdeal.Value.run (F := Ideal) m g)

/-- The two programs end with the same gradient. -/
theorem same : Cert.algebraic_OddInDxIdeal_OddInDxReferenceIdeal := by
  intro m g m' g' _ same
  refine ⟨fun c => (dats m 0 c).arrAt 2 cfg0.N, Cert.OddInDxIdeal.Value.run_blocks m g, ?_⟩
  refine (θ_run (Cert.OddInDxReferenceIdeal.defs (F := Ideal)) _ _).mono (fun r h c => ?_) (Cert.OddInDxReferenceIdeal.Value.run (F := Ideal) m' g')
  obtain ⟨dz, hd⟩ := Has2.exists (n0 := 2048) (n1 := 6144) (m ((c : Thread nD τ).loc main_arg0))
  obtain ⟨w, hw⟩ := Has2.exists (n0 := 2048) (n1 := 6144) (m ((c : Thread nD τ).loc main_arg1))
  refine ⟨(h c).1.trans ((Cert.OddInDxReferenceIdeal.Read.val_main_v3_eq _ _).trans ?_), (h c).2⟩
  rw [(same c).1, (same c).2.1]
  exact (reference hd hw).trans (kernel hd hw).symm

end Cert.Proof.OddInDx

end
-- ==== Proof.EvenInDx.lean ====
/- The gradient of the even layer's input product by its left factor: `dz` times the transpose of the weights, summed over
   sixteen blocks of 768 columns, the even and the odd ones from two arrays. -/
module

public import proofs.«01_k».proof.Proof.Entries
public import proofs.«01_k».proof.Defs
public import proofs.«01_k».proof.Proof.Gen.EvenInDxIdeal.Value
public import proofs.«01_k».proof.Proof.Gen.EvenInDxReferenceIdeal.Read
public import proofs.«01_k».proof.Proof.OddInDx
public import Idealize.ShloMosaic.Lib.Pipeline.ValueKit
public import Idealize.ShloMosaic.Lib.Claim

@[expose] public section

set_option maxRecDepth 16384

noncomputable section

namespace Cert.Proof.EvenInDx

open Cert.EvenInDxIdeal Cert.EvenInDxIdeal.Gen Idealize.ShloMosaic Idealize.ShloMosaic.TcCoe Idealize.ShloMosaic.ValueIdx Finset
open Idealize.SL.Sem

theorem index0 : ∀ t, win0_0.index t = ![0, t.val % 16] := by decide +kernel
theorem index1 : ∀ t, t.val % 2 = 0 → win0_1.index t = ![t.val % 16 / 2, t.val / 16, 0] := by decide +kernel
theorem index2 : ∀ t, t.val % 2 = 1 → win0_2.index t = ![t.val % 16 / 2, t.val / 16, 0] := by decide +kernel
theorem index3 : ∀ t, win0_3.index t = ![0, t.val / 16] := by decide +kernel

/-- Both steps of this kernel, the one at an even and the one at an odd column block, are the odd layer's step. -/
theorem step_even : k0_pay2 (F := Ideal) = Cert.OddInDxIdeal.Gen.k0_pay2 := rfl
theorem step_odd : k0_pay3 (F := Ideal) = Cert.OddInDxIdeal.Gen.k0_pay2 := rfl
theorem zero_eq : k0_pay1 (F := Ideal) = Cert.OddInDxIdeal.Gen.k0_pay1 := rfl

variable {dz w : ℕ → ℕ → EReal} {m : (ℓ : Loc nD τ sig) → Buf (Elt Ideal) ℓ} {c : Dev nD}

/-- The block of `dz` at grid point `t`. -/
theorem block_dz (hd : Has2 (n0 := 2048) (n1 := 12288) (m ((c : Thread nD τ).loc main_arg0)) dz) (t : Fin cfg0.N) :
    Has2 (n0 := 2048) (n1 := 768) (iblk m c 0 t) fun r k => dz r (t.val % 16 * 768 + k) := fun j => by
  blk_simp [iblk, index0]
  entry_read
  rw [hd]
  blk_simp [index0]

/-- The block of the weights' even column blocks at an even grid point. -/
theorem block_lo (hw : Has2 (n0 := 2048) (n1 := 12288) (m ((c : Thread nD τ).loc main_arg1)) w) (t : Fin cfg0.N) (h : t.val % 2 = 0) :
    Has3 (n0 := 1) (n1 := 1024) (n2 := 768) (iblk m c 1 t) fun _ n k => w (t.val / 16 * 1024 + n) (t.val % 16 * 768 + k) := fun j => by
  have h0 : (j 0).val < 1 := (j 0).isLt
  have h1 : (j 1).val < 1024 := (j 1).isLt
  have h2 : (j 2).val < 768 := (j 2).isLt
  have ht : t.val < 32 := t.isLt
  have e := index1 t h
  blk_simp [iblk, e]
  entry_read
  pointwise
  refine (hw _).trans ?_
  blk_simp [e]
  exact congrArg (w _) (by dsimp only; omega)

/-- The block of the weights' odd column blocks at an odd grid point. -/
theorem block_hi (hw : Has2 (n0 := 2048) (n1 := 12288) (m ((c : Thread nD τ).loc main_arg1)) w) (t : Fin cfg0.N) (h : t.val % 2 = 1) :
    Has3 (n0 := 1) (n1 := 1024) (n2 := 768) (iblk m c 2 t) fun _ n k => w (t.val / 16 * 1024 + n) (t.val % 16 * 768 + k) := fun j => by
  have h0 : (j 0).val < 1 := (j 0).isLt
  have h1 : (j 1).val < 1024 := (j 1).isLt
  have h2 : (j 2).val < 768 := (j 2).isLt
  have ht : t.val < 32 := t.isLt
  have e := index2 t h
  blk_simp [iblk, e]
  entry_read
  pointwise
  refine (hw _).trans ?_
  blk_simp [e]
  exact congrArg (w _) (by dsimp only; omega)

/-- The kernel's result has at `(r, n)` the sum over the columns `k` of `dz r k * w n k`. -/
theorem kernel (hd : Has2 (n0 := 2048) (n1 := 12288) (m ((c : Thread nD τ).loc main_arg0)) dz)
    (hw : Has2 (n0 := 2048) (n1 := 12288) (m ((c : Thread nD τ).loc main_arg1)) w) :
    (dats m 0 c).arrAt 3 cfg0.N = fun i => ∑ k ∈ range 12288, dz (i 0).val k * w (i 1).val k := by
  refine (dats m 0 c).arrAt_eq_of_covers 3 _ (by decide +kernel) fun t hf i => ?_
  have h15 : t.val % 16 = 15 := (flush0_3 t).mp hf
  have out : (outsAt0 m c t.val t.isLt).1 = (outsAt0 m c t.val t.isLt).2 := by
    rw [outsAt0_D m c t (by omega) (by omega) (by omega) h15]
    frame_out
  blk_simp
  rw [after0_3, out]
  refine (Pipeline.eq_sum_of_reset_step_apply_divmod (fun n h => (outsAt0 m c n h).2) 16 (fun _ => (0 : EReal))
    (fun p s i => ∑ k ∈ range 768, dz (i 0).val (s * 768 + k) * w (p * 1024 + (i 1).val) (s * 768 + k))
    (fun t h j => ?_) (fun t h j => ?_) t i).trans ?_
  · rw [outsAt0_A m c t h (by omega) (by omega) (by omega)]
    frame_out
    rw [step_even, zero_eq]
    exact (OddInDx.step _ _ _ (block_dz hd t) (block_lo hw t (by omega)) j).trans (congrArg (· + _) (OddInDx.zero j))
  · by_cases h2 : t.val % 2 = 0
    · rw [outsAt0_C m c t h h2 (by omega) (by omega)]
      frame_out
      simp only [read_unread_whole, step_even]
      exact OddInDx.step _ _ _ (block_dz hd t) (block_lo hw t h2) j
    · have h2' : t.val % 2 = 1 := by omega
      by_cases h' : t.val % 16 = 15
      · rw [outsAt0_D m c t h h2 h2' h']
        frame_out
        simp only [read_unread_whole, step_odd]
        exact OddInDx.step _ _ _ (block_dz hd t) (block_hi hw t h2') j
      · rw [outsAt0_B m c t h h2 h2' h']
        frame_out
        simp only [read_unread_whole, step_odd]
        exact OddInDx.step _ _ _ (block_dz hd t) (block_hi hw t h2') j
  · rw [h15, zero_add, sum_range_range_mul_add 16 768 fun k => dz (i 0).val k * w (t.val / 16 * 1024 + (i 1).val) k]
    blk_simp [index3]

/-- The reference's result has the same entries. -/
theorem reference {x0 x1 : S2048x12288.Idx → EReal} (hd : Has2 (n0 := 2048) (n1 := 12288) x0 dz) (hw : Has2 (n0 := 2048) (n1 := 12288) x1 w) :
    Cert.EvenInDxReferenceIdeal.Read.val_main_v3 (F := Ideal) x0 x1 = fun i => ∑ k ∈ range 12288, dz (i 0).val k * w (i 1).val k := by
  funext i
  rw [Cert.EvenInDxReferenceIdeal.Read.val_main_v3_apply]
  exact sum_fin_mul 12288 (dz (i 0).val) (w (i 1).val) _ _ (fun k => hd _) (fun k => hw _)

theorem frame_reference : Cert.quiescent_EvenInDxReferenceIdeal := fun m g _ =>
  (θ_run (Cert.EvenInDxReferenceIdeal.defs (F := Ideal)) _ _).mono (fun r h => ⟨fun c => (h c).2,
      Idealize.ShloMosaic.sem_eq_zero_of_no_sems (by decide) r.2⟩)
    (Cert.EvenInDxReferenceIdeal.Value.run (F := Ideal) m g)

/-- The two programs end with the same gradient. -/
theorem same : Cert.algebraic_EvenInDxIdeal_EvenInDxReferenceIdeal := by
  intro m g m' g' _ same
  refine ⟨fun c => (dats m 0 c).arrAt 3 cfg0.N, Cert.EvenInDxIdeal.Value.run_blocks m g, ?_⟩
  refine (θ_run (Cert.EvenInDxReferenceIdeal.defs (F := Ideal)) _ _).mono (fun r h c => ?_) (Cert.EvenInDxReferenceIdeal.Value.run (F := Ideal) m' g')
  obtain ⟨dz, hd⟩ := Has2.exists (n0 := 2048) (n1 := 12288) (m ((c : Thread nD τ).loc main_arg0))
  obtain ⟨w, hw⟩ := Has2.exists (n0 := 2048) (n1 := 12288) (m ((c : Thread nD τ).loc main_arg1))
  refine ⟨(h c).1.trans ((Cert.EvenInDxReferenceIdeal.Read.val_main_v3_eq _ _).trans ?_), (h c).2⟩
  rw [(same c).1, (same c).2.1]
  exact (reference hd hw).trans (kernel hd hw).symm

end Cert.Proof.EvenInDx

end
-- ==== Proof.OutDx.lean ====
/- The gradient of an output product's left factor: `dy` times the transpose of the weights. -/
module

public import proofs.«01_k».proof.Proof.Entries
public import proofs.«01_k».proof.Defs
public import proofs.«01_k».proof.Proof.Gen.OutDxIdeal.Value
public import proofs.«01_k».proof.Proof.Gen.OutDxReferenceIdeal.Read
public import Idealize.ShloMosaic.Lib.Pipeline.ValueKit
public import Idealize.ShloMosaic.Lib.Claim

@[expose] public section

set_option maxRecDepth 16384

noncomputable section

namespace Cert.Proof.OutDx

open Cert.OutDxIdeal Cert.OutDxIdeal.Gen Idealize.ShloMosaic Idealize.ShloMosaic.TcCoe Idealize.ShloMosaic.ValueIdx Finset
open Idealize.SL.Sem

theorem index0 : ∀ t, win0_0.index t = ![0, 0] := by decide +kernel
theorem index1 : ∀ t, win0_1.index t = ![t.val, 0] := by decide +kernel
theorem index2 : ∀ t, win0_2.index t = ![0, t.val] := by decide +kernel

/-- One block: the [2048, 2048] matrix times the transpose of 512 rows. -/
theorem product (a : FVec Ideal S2048x2048 .bf16) (b : FVec Ideal S512x2048 .bf16) {f g : ℕ → ℕ → EReal}
    (ha : Has2 (n0 := 2048) (n1 := 2048) a f) (hb : Has2 (n0 := 512) (n1 := 2048) b g) :
    Has2 (n0 := 2048) (n1 := 512) (k0_pay1 (F := Ideal) a b) fun r c => ∑ k ∈ range 2048, f r k * g c k := fun i => by
  unfold k0_pay1
  pointwise
  exact sum_fin_mul 2048 (f (i 0).val) (g (i 1).val) _ _ (fun k => ha _) (fun k => hb _)

variable {dy w : ℕ → ℕ → EReal} {m : (ℓ : Loc nD τ sig) → Buf (Elt Ideal) ℓ} {c : Dev nD}

/-- The kernel's result has at `(r, n)` the sum over the columns `k` of `dy r k * w n k`. -/
theorem kernel (hd : Has2 (n0 := 2048) (n1 := 2048) (m ((c : Thread nD τ).loc main_arg0)) dy)
    (hw : Has2 (n0 := 2048) (n1 := 2048) (m ((c : Thread nD τ).loc main_arg1)) w) :
    (dats m 0 c).arrAt 2 cfg0.N = fun i => ∑ k ∈ range 2048, dy (i 0).val k * w (i 1).val k := by
  refine (dats m 0 c).arrAt_eq_of_covers 2 _ (by decide +kernel) fun t hf i => ?_
  blk_simp
  rw [after0_2]
  unfold outsAt0
  frame_out
  refine (product _ _ (f := dy) (g := fun n k => w (t.val * 512 + n) k) (fun j => ?_) (fun j => ?_) _).trans ?_
  · blk_simp [iblk, index0]
    entry_read
    rw [hd]
    blk_simp [index0]
  · blk_simp [iblk, index1]
    entry_read
    pointwise
    refine (hw _).trans ?_
    blk_simp [index1]
  · blk_simp [index2]

/-- The reference's result has the same entries. -/
theorem reference {x0 x1 : S2048x2048.Idx → EReal} (hd : Has2 (n0 := 2048) (n1 := 2048) x0 dy) (hw : Has2 (n0 := 2048) (n1 := 2048) x1 w) :
    Cert.OutDxReferenceIdeal.Read.val_main_v3 (F := Ideal) x0 x1 = fun i => ∑ k ∈ range 2048, dy (i 0).val k * w (i 1).val k := by
  funext i
  rw [Cert.OutDxReferenceIdeal.Read.val_main_v3_apply]
  exact sum_fin_mul 2048 (dy (i 0).val) (w (i 1).val) _ _ (fun k => hd _) (fun k => hw _)

theorem frame_reference : Cert.quiescent_OutDxReferenceIdeal := fun m g _ =>
  (θ_run (Cert.OutDxReferenceIdeal.defs (F := Ideal)) _ _).mono (fun r h => ⟨fun c => (h c).2,
      Idealize.ShloMosaic.sem_eq_zero_of_no_sems (by decide) r.2⟩)
    (Cert.OutDxReferenceIdeal.Value.run (F := Ideal) m g)

/-- The two programs end with the same gradient. -/
theorem same : Cert.algebraic_OutDxIdeal_OutDxReferenceIdeal := by
  intro m g m' g' _ same
  refine ⟨fun c => (dats m 0 c).arrAt 2 cfg0.N, Cert.OutDxIdeal.Value.run_blocks m g, ?_⟩
  refine (θ_run (Cert.OutDxReferenceIdeal.defs (F := Ideal)) _ _).mono (fun r h c => ?_) (Cert.OutDxReferenceIdeal.Value.run (F := Ideal) m' g')
  obtain ⟨dy, hd⟩ := Has2.exists (n0 := 2048) (n1 := 2048) (m ((c : Thread nD τ).loc main_arg0))
  obtain ⟨w, hw⟩ := Has2.exists (n0 := 2048) (n1 := 2048) (m ((c : Thread nD τ).loc main_arg1))
  refine ⟨(h c).1.trans ((Cert.OutDxReferenceIdeal.Read.val_main_v3_eq _ _).trans ?_), (h c).2⟩
  rw [(same c).1, (same c).2.1]
  exact (reference hd hw).trans (kernel hd hw).symm

end Cert.Proof.OutDx

end
-- ==== Proof.OutDw.lean ====
/- The gradient of an output product's weights: `y` transposed, times `dy`. -/
module

public import proofs.«01_k».proof.Proof.Entries
public import proofs.«01_k».proof.Defs
public import proofs.«01_k».proof.Proof.Gen.OutDwIdeal.Value
public import proofs.«01_k».proof.Proof.Gen.OutDwReferenceIdeal.Read
public import Idealize.ShloMosaic.Lib.Pipeline.ValueKit
public import Idealize.ShloMosaic.Lib.Claim

@[expose] public section

set_option maxRecDepth 16384

noncomputable section

namespace Cert.Proof.OutDw

open Cert.OutDwIdeal Cert.OutDwIdeal.Gen Idealize.ShloMosaic Idealize.ShloMosaic.TcCoe Idealize.ShloMosaic.ValueIdx Finset
open Idealize.SL.Sem

theorem index0 : ∀ t, win0_0.index t = ![0, 0] := by decide +kernel
theorem index1 : ∀ t, win0_1.index t = ![0, t.val] := by decide +kernel
theorem index2 : ∀ t, win0_2.index t = ![0, t.val] := by decide +kernel

variable {y dy : ℕ → ℕ → EReal}

/-- One block: the transpose of the [2048, 2048] matrix times 512 columns. -/
theorem product (a : FVec Ideal S2048x2048 .bf16) (b : FVec Ideal S2048x512 .bf16) {f g : ℕ → ℕ → EReal}
    (ha : Has2 (n0 := 2048) (n1 := 2048) a f) (hb : Has2 (n0 := 2048) (n1 := 512) b g) :
    Has2 (n0 := 2048) (n1 := 512) (k0_pay1 (F := Ideal) a b) fun r c => ∑ k ∈ range 2048, f k r * g k c := fun i => by
  unfold k0_pay1
  pointwise
  exact sum_fin_mul 2048 (fun k => f k (i 0).val) (fun k => g k (i 1).val) _ _ (fun k => ha _) (fun k => hb _)

variable {m : (ℓ : Loc nD τ sig) → Buf (Elt Ideal) ℓ} {c : Dev nD}

/-- The kernel's result has at `(r, n)` the sum over the rows `k` of `y k r * dy k n`. -/
theorem kernel (hy : Has2 (n0 := 2048) (n1 := 2048) (m ((c : Thread nD τ).loc main_arg0)) y)
    (hd : Has2 (n0 := 2048) (n1 := 2048) (m ((c : Thread nD τ).loc main_arg1)) dy) :
    (dats m 0 c).arrAt 2 cfg0.N = fun i => ∑ k ∈ range 2048, y k (i 0).val * dy k (i 1).val := by
  refine (dats m 0 c).arrAt_eq_of_covers 2 _ (by decide +kernel) fun t hf i => ?_
  blk_simp
  rw [after0_2]
  frame_out
  refine (product _ _ (f := y) (g := fun k n => dy k (t.val * 512 + n)) (fun j => ?_) (fun j => ?_) _).trans ?_
  · blk_simp [iblk, index0]
    entry_read
    rw [hy]
    blk_simp [index0]
  · blk_simp [iblk, index1]
    entry_read
    rw [hd]
    blk_simp [index1]
  · blk_simp [index2]

/-- The reference's result has the same entries. -/
theorem reference {x0 x1 : S2048x2048.Idx → EReal} (hy : Has2 (n0 := 2048) (n1 := 2048) x0 y) (hd : Has2 (n0 := 2048) (n1 := 2048) x1 dy) :
    Cert.OutDwReferenceIdeal.Read.val_main_v6 (F := Ideal) x0 x1 = fun i => ∑ k ∈ range 2048, y k (i 0).val * dy k (i 1).val := by
  funext i
  show Cert.OutDwReferenceIdeal.Read.val_main_v5 (F := Ideal) x0 x1 i = _
  rw [Cert.OutDwReferenceIdeal.Read.val_main_v5_apply, Cert.OutDwReferenceIdeal.Read.val_main_v4_apply]
  refine sum_fin_eq 2048 (fun k => y k (i 0).val * dy k (i 1).val) _ fun k => ?_
  refine (mul_comm _ _).trans (congrArg₂ (· * ·) (hy _) (hd _))

theorem frame_reference : Cert.quiescent_OutDwReferenceIdeal := fun m g _ =>
  (θ_run (Cert.OutDwReferenceIdeal.defs (F := Ideal)) _ _).mono (fun r h => ⟨fun c => (h c).2,
      Idealize.ShloMosaic.sem_eq_zero_of_no_sems (by decide) r.2⟩)
    (Cert.OutDwReferenceIdeal.Value.run (F := Ideal) m g)

/-- The two programs end with the same weights' gradient. -/
theorem same : Cert.algebraic_OutDwIdeal_OutDwReferenceIdeal := by
  intro m g m' g' _ same
  refine ⟨fun c => (dats m 0 c).arrAt 2 cfg0.N, Cert.OutDwIdeal.Value.run_blocks m g, ?_⟩
  refine (θ_run (Cert.OutDwReferenceIdeal.defs (F := Ideal)) _ _).mono (fun r h c => ?_) (Cert.OutDwReferenceIdeal.Value.run (F := Ideal) m' g')
  obtain ⟨y, hy⟩ := Has2.exists (n0 := 2048) (n1 := 2048) (m ((c : Thread nD τ).loc main_arg0))
  obtain ⟨dy, hd⟩ := Has2.exists (n0 := 2048) (n1 := 2048) (m ((c : Thread nD τ).loc main_arg1))
  refine ⟨(h c).1.trans ((Cert.OutDwReferenceIdeal.Read.val_main_v6_eq _ _).trans ?_), (h c).2⟩
  rw [(same c).1, (same c).2]
  exact (reference hy hd).trans (kernel hy hd).symm

end Cert.Proof.OutDw

end
-- ==== Proof.EvenInDw.lean ====
/- The gradient of one half of the even layer's input weights: the transposed rows of this device times its own column blocks
   of `dz`, plus the sibling's transposed rows times the sibling's. -/
module

public import proofs.«01_k».proof.Proof.Entries
public import proofs.«01_k».proof.Defs
public import proofs.«01_k».proof.Proof.Gen.EvenInDwIdeal.Value
public import proofs.«01_k».proof.Proof.Gen.EvenInDwReferenceIdeal.Read
public import Idealize.ShloMosaic.Lib.Pipeline.ValueKit
public import Idealize.ShloMosaic.Lib.Claim

@[expose] public section

set_option maxRecDepth 16384

noncomputable section

namespace Cert.Proof.EvenInDw

open Cert.EvenInDwIdeal Cert.EvenInDwIdeal.Gen Idealize.ShloMosaic Idealize.ShloMosaic.TcCoe Idealize.ShloMosaic.ValueIdx Finset
open Idealize.SL.Sem

theorem index0 : ∀ t, win0_0.index t = ![0, 0] := by decide +kernel
theorem index1 : ∀ t, win0_1.index t = ![0, 4 * t.val + 1] := by decide +kernel
theorem index2 : ∀ t, win0_2.index t = ![0, 0] := by decide +kernel
theorem index3 : ∀ t, win0_3.index t = ![0, t.val] := by decide +kernel
theorem index4 : ∀ t, win0_4.index t = ![t.val, 0, 0] := by decide +kernel

/-- One block: the sum of two products of a [2048, 2048] matrix and 768 columns, under a unit axis. -/
theorem product (a a' : FVec Ideal S2048x2048 .bf16) (b b' : FVec Ideal S2048x768 .bf16) {f f' g g' : ℕ → ℕ → EReal}
    (ha : Has2 (n0 := 2048) (n1 := 2048) a f) (hb : Has2 (n0 := 2048) (n1 := 768) b g)
    (ha' : Has2 (n0 := 2048) (n1 := 2048) a' f') (hb' : Has2 (n0 := 2048) (n1 := 768) b' g') :
    Has3 (n0 := 1) (n1 := 2048) (n2 := 768) (k0_pay1 (F := Ideal) a b a' b')
      fun _ r c => (∑ k ∈ range 2048, f r k * g k c) + ∑ k ∈ range 2048, f' r k * g' k c := fun i => by
  unfold k0_pay1
  pointwise
  exact congrArg₂ (· + ·) (sum_fin_mul 2048 (f (i 1).val) (fun k => g k (i 2).val) _ _ (fun k => ha _) (fun k => hb _))
    (sum_fin_mul 2048 (f' (i 1).val) (fun k => g' k (i 2).val) _ _ (fun k => ha' _) (fun k => hb' _))

variable {h h' dz dz' : ℕ → ℕ → EReal} {m : (ℓ : Loc nD τ sig) → Buf (Elt Ideal) ℓ} {c : Dev nD}

/-- The gradient at `(j, d, n)`: the own rows' product at column `(4 j + 1) * 768 + n`, and the sibling's at `j * 768 + n`. -/
def gradient (h h' dz dz' : ℕ → ℕ → EReal) (i : S4x2048x768.Idx) : EReal :=
  (∑ k ∈ range 2048, h (i 1).val k * dz k ((4 * (i 0).val + 1) * 768 + (i 2).val))
    + ∑ k ∈ range 2048, h' (i 1).val k * dz' k ((i 0).val * 768 + (i 2).val)

/-- The kernel's result. -/
theorem kernel (h0 : Has2 (n0 := 2048) (n1 := 2048) (m ((c : Thread nD τ).loc main_arg0)) h)
    (h1 : Has2 (n0 := 2048) (n1 := 12288) (m ((c : Thread nD τ).loc main_arg1)) dz)
    (h2 : Has2 (n0 := 2048) (n1 := 2048) (m ((c : Thread nD τ).loc main_arg2)) h')
    (h3 : Has2 (n0 := 2048) (n1 := 3072) (m ((c : Thread nD τ).loc main_arg3)) dz') :
    (dats m 0 c).arrAt 4 cfg0.N = gradient h h' dz dz' := by
  refine (dats m 0 c).arrAt_eq_of_covers 4 _ (by decide +kernel) fun t hf i => ?_
  blk_simp
  rw [after0_4]
  unfold outsAt0
  frame_out
  refine (product _ _ _ _ (f := h) (g := fun k n => dz k ((4 * t.val + 1) * 768 + n)) (f' := h') (g' := fun k n => dz' k (t.val * 768 + n))
    (fun j => ?_) (fun j => ?_) (fun j => ?_) (fun j => ?_) _).trans ?_
  · blk_simp [iblk, index0]
    entry_read
    rw [h0]
    blk_simp [index0]
  · blk_simp [iblk, index1]
    entry_read
    rw [h1]
    blk_simp [index1]
  · blk_simp [iblk, index2]
    entry_read
    rw [h2]
    blk_simp [index2]
  · blk_simp [iblk, index3]
    entry_read
    rw [h3]
    blk_simp [index3]
  · have i0 : (i 0).val < 1 := (i 0).isLt
    unfold gradient
    blk_simp [index4]

/-- The reference's result has the same entries. -/
theorem reference {x0 x2 : S2048x2048.Idx → EReal} {x1 : S2048x12288.Idx → EReal} {x3 : Cert.EvenInDwReferenceIdeal.S2048x3072.Idx → EReal}
    (h0 : Has2 (n0 := 2048) (n1 := 2048) x0 h) (h1 : Has2 (n0 := 2048) (n1 := 12288) x1 dz)
    (h2 : Has2 (n0 := 2048) (n1 := 2048) x2 h') (h3 : Has2 (n0 := 2048) (n1 := 3072) x3 dz') :
    Cert.EvenInDwReferenceIdeal.Read.val_main_v18 (F := Ideal) x0 x1 x2 x3 = gradient h h' dz dz' := by
  funext i
  have i0 : (i 0).val < 4 := (i 0).isLt
  have i2 : (i 2).val < 768 := (i 2).isLt
  show Cert.EvenInDwReferenceIdeal.Read.val_main_v14 (F := Ideal) x2 x3 i + Cert.EvenInDwReferenceIdeal.Read.val_main_v16 (F := Ideal) x0 x1 i = _
  rw [add_comm, Cert.EvenInDwReferenceIdeal.Read.val_main_v16_apply, Cert.EvenInDwReferenceIdeal.Read.val_main_v14_apply,
    Cert.EvenInDwReferenceIdeal.Read.val_main_v15_apply, Cert.EvenInDwReferenceIdeal.Read.val_main_v13_apply]
  refine congrArg₂ (· + ·) (sum_fin_eq 2048 (fun k => h (i 1).val k * dz k ((4 * (i 0).val + 1) * 768 + (i 2).val)) _ fun k => ?_)
    (sum_fin_eq 2048 (fun k => h' (i 1).val k * dz' k ((i 0).val * 768 + (i 2).val)) _ fun k => ?_)
  · refine (mul_comm _ _).trans (congrArg₂ (· * ·) ?_ ?_)
    · rw [Cert.EvenInDwReferenceIdeal.Read.val_main_v1_apply]
      exact h0 _
    · rw [Cert.EvenInDwReferenceIdeal.Read.val_main_v7_apply, Cert.EvenInDwReferenceIdeal.Read.val_main_v6_apply,
        Cert.EvenInDwReferenceIdeal.Read.val_main_v5_apply]
      refine (h1 _).trans (congrArg₂ dz ?_ ?_)
      · dsimp only
        omega
      · dsimp only
        omega
  · refine (mul_comm _ _).trans (congrArg₂ (· * ·) ?_ ?_)
    · rw [Cert.EvenInDwReferenceIdeal.Read.val_main_v3_apply]
      exact h2 _
    · rw [Cert.EvenInDwReferenceIdeal.Read.val_main_v9_apply]
      refine (h3 _).trans (congrArg₂ dz' ?_ ?_)
      · dsimp only
        omega
      · dsimp only
        omega

theorem frame_reference : Cert.quiescent_EvenInDwReferenceIdeal := fun m g _ =>
  (θ_run (Cert.EvenInDwReferenceIdeal.defs (F := Ideal)) _ _).mono (fun r h => ⟨fun c => (h c).2,
      Idealize.ShloMosaic.sem_eq_zero_of_no_sems (by decide) r.2⟩)
    (Cert.EvenInDwReferenceIdeal.Value.run (F := Ideal) m g)

/-- The two programs end with the same gradient. -/
theorem same : Cert.algebraic_EvenInDwIdeal_EvenInDwReferenceIdeal := by
  intro m g m' g' _ same
  refine ⟨fun c => (dats m 0 c).arrAt 4 cfg0.N, Cert.EvenInDwIdeal.Value.run_blocks m g, ?_⟩
  refine (θ_run (Cert.EvenInDwReferenceIdeal.defs (F := Ideal)) _ _).mono (fun r h c => ?_) (Cert.EvenInDwReferenceIdeal.Value.run (F := Ideal) m' g')
  obtain ⟨_, h0⟩ := Has2.exists (n0 := 2048) (n1 := 2048) (m ((c : Thread nD τ).loc main_arg0))
  obtain ⟨_, h1⟩ := Has2.exists (n0 := 2048) (n1 := 12288) (m ((c : Thread nD τ).loc main_arg1))
  obtain ⟨_, h2⟩ := Has2.exists (n0 := 2048) (n1 := 2048) (m ((c : Thread nD τ).loc main_arg2))
  obtain ⟨_, h3⟩ := Has2.exists (n0 := 2048) (n1 := 3072) (m ((c : Thread nD τ).loc main_arg3))
  refine ⟨(h c).1.trans ((Cert.EvenInDwReferenceIdeal.Read.val_main_v18_eq _ _ _ _).trans ?_), (h c).2⟩
  rw [(same c).1, (same c).2.1, (same c).2.2.1, (same c).2.2.2.1]
  exact (reference h0 h1 h2 h3).trans (kernel h0 h1 h2 h3).symm

end Cert.Proof.EvenInDw

end
-- ==== Proof.lean ====
/- The claim about the layers' products, the norms, the loss and the pooling mixer, assembled; and the pooling mixer's gradients. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.EvenInDx
public import proofs.«01_k».proof.Proof.Gen.EvenInDx.Skeleton
public import proofs.«01_k».proof.Proof.Gen.EvenInDx.Launch
public import proofs.«01_k».proof.Proof.Gen.EvenInDx.Points
public import proofs.«01_k».proof.Proof.Gen.EvenInDx.Frame
public import proofs.«01_k».proof.Proof.Gen.EvenInDxIdeal
public import proofs.«01_k».proof.Proof.Gen.EvenInDxIdeal.Skeleton
public import proofs.«01_k».proof.Proof.Gen.EvenInDxIdeal.Launch
public import proofs.«01_k».proof.Proof.Gen.EvenInDxIdeal.Points
public import proofs.«01_k».proof.Proof.Gen.EvenInDxIdeal.Frame
public import proofs.«01_k».proof.Proof.Gen.EvenInDxIdeal.Value
public import proofs.«01_k».proof.Proof.Gen.EvenInDxReferenceIdeal
public import proofs.«01_k».proof.Proof.Gen.EvenInDxReferenceIdeal.Run
public import proofs.«01_k».proof.Proof.Gen.EvenInDxReferenceIdeal.Read
public import proofs.«01_k».proof.Proof.Gen.OddInDx
public import proofs.«01_k».proof.Proof.Gen.OddInDx.Skeleton
public import proofs.«01_k».proof.Proof.Gen.OddInDx.Launch
public import proofs.«01_k».proof.Proof.Gen.OddInDx.Points
public import proofs.«01_k».proof.Proof.Gen.OddInDx.Frame
public import proofs.«01_k».proof.Proof.Gen.OddInDxIdeal
public import proofs.«01_k».proof.Proof.Gen.OddInDxIdeal.Skeleton
public import proofs.«01_k».proof.Proof.Gen.OddInDxIdeal.Launch
public import proofs.«01_k».proof.Proof.Gen.OddInDxIdeal.Points
public import proofs.«01_k».proof.Proof.Gen.OddInDxIdeal.Frame
public import proofs.«01_k».proof.Proof.Gen.OddInDxIdeal.Value
public import proofs.«01_k».proof.Proof.Gen.OddInDxReferenceIdeal
public import proofs.«01_k».proof.Proof.Gen.OddInDxReferenceIdeal.Run
public import proofs.«01_k».proof.Proof.Gen.OddInDxReferenceIdeal.Read
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.OutDxReferenceIdeal
public import proofs.«01_k».proof.Proof.Gen.OutDxReferenceIdeal.Run
public import proofs.«01_k».proof.Proof.Gen.OutDxReferenceIdeal.Read
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwReferenceIdeal
public import proofs.«01_k».proof.Proof.Gen.OutDwReferenceIdeal.Run
public import proofs.«01_k».proof.Proof.Gen.OutDwReferenceIdeal.Read
public import proofs.«01_k».proof.Proof.Gen.EvenInDw
public import proofs.«01_k».proof.Proof.Gen.EvenInDw.Skeleton
public import proofs.«01_k».proof.Proof.Gen.EvenInDw.Launch
public import proofs.«01_k».proof.Proof.Gen.EvenInDw.Points
public import proofs.«01_k».proof.Proof.Gen.EvenInDw.Frame
public import proofs.«01_k».proof.Proof.Gen.EvenInDwIdeal
public import proofs.«01_k».proof.Proof.Gen.EvenInDwIdeal.Skeleton
public import proofs.«01_k».proof.Proof.Gen.EvenInDwIdeal.Launch
public import proofs.«01_k».proof.Proof.Gen.EvenInDwIdeal.Points
public import proofs.«01_k».proof.Proof.Gen.EvenInDwIdeal.Frame
public import proofs.«01_k».proof.Proof.Gen.EvenInDwIdeal.Value
public import proofs.«01_k».proof.Proof.Gen.EvenInDwReferenceIdeal
public import proofs.«01_k».proof.Proof.Gen.EvenInDwReferenceIdeal.Run
public import proofs.«01_k».proof.Proof.Gen.EvenInDwReferenceIdeal.Read
public import proofs.«01_k».proof.Proof.Gen.OddIn
public import proofs.«01_k».proof.Proof.Gen.OddIn.Skeleton
public import proofs.«01_k».proof.Proof.Gen.OddIn.Launch
public import proofs.«01_k».proof.Proof.Gen.OddIn.Points
public import proofs.«01_k».proof.Proof.Gen.OddIn.Frame
public import proofs.«01_k».proof.Proof.Gen.OddInIdeal
public import proofs.«01_k».proof.Proof.Gen.OddInIdeal.Skeleton
public import proofs.«01_k».proof.Proof.Gen.OddInIdeal.Launch
public import proofs.«01_k».proof.Proof.Gen.OddInIdeal.Points
public import proofs.«01_k».proof.Proof.Gen.OddInIdeal.Frame
public import proofs.«01_k».proof.Proof.Gen.OddInIdeal.Value
public import proofs.«01_k».proof.Proof.Gen.OddInReferenceIdeal
public import proofs.«01_k».proof.Proof.Gen.OddInReferenceIdeal.Run
public import proofs.«01_k».proof.Proof.Gen.OddInReferenceIdeal.Read
public import proofs.«01_k».proof.Proof.Gen.OddInDw
public import proofs.«01_k».proof.Proof.Gen.OddInDw.Skeleton
public import proofs.«01_k».proof.Proof.Gen.OddInDw.Launch
public import proofs.«01_k».proof.Proof.Gen.OddInDw.Points
public import proofs.«01_k».proof.Proof.Gen.OddInDw.Frame
public import proofs.«01_k».proof.Proof.Gen.OddInDwIdeal
public import proofs.«01_k».proof.Proof.Gen.OddInDwIdeal.Skeleton
public import proofs.«01_k».proof.Proof.Gen.OddInDwIdeal.Launch
public import proofs.«01_k».proof.Proof.Gen.OddInDwIdeal.Points
public import proofs.«01_k».proof.Proof.Gen.OddInDwIdeal.Frame
public import proofs.«01_k».proof.Proof.Gen.OddInDwReferenceIdeal
public import proofs.«01_k».proof.Proof.Gen.OddInDwReferenceIdeal.Run
public import proofs.«01_k».proof.Proof.Gen.OddInDwReferenceIdeal.Read
public import proofs.«01_k».proof.Proof.Gen.EvenInDwFirst
public import proofs.«01_k».proof.Proof.Gen.EvenInDwFirst.Skeleton
public import proofs.«01_k».proof.Proof.Gen.EvenInDwFirst.Launch
public import proofs.«01_k».proof.Proof.Gen.EvenInDwFirst.Points
public import proofs.«01_k».proof.Proof.Gen.EvenInDwFirst.Frame
public import proofs.«01_k».proof.Proof.Gen.EvenInDwFirstIdeal
public import proofs.«01_k».proof.Proof.Gen.EvenInDwFirstIdeal.Skeleton
public import proofs.«01_k».proof.Proof.Gen.EvenInDwFirstIdeal.Launch
public import proofs.«01_k».proof.Proof.Gen.EvenInDwFirstIdeal.Points
public import proofs.«01_k».proof.Proof.Gen.EvenInDwFirstIdeal.Frame
public import proofs.«01_k».proof.Proof.Gen.EvenInDwFirstReferenceIdeal
public import proofs.«01_k».proof.Proof.Gen.EvenInDwFirstReferenceIdeal.Run
public import proofs.«01_k».proof.Proof.Gen.EvenInDwFirstReferenceIdeal.Read
public import proofs.«01_k».proof.Proof.Gen.EvenIn
public import proofs.«01_k».proof.Proof.Gen.EvenIn.Skeleton
public import proofs.«01_k».proof.Proof.Gen.EvenIn.Launch
public import proofs.«01_k».proof.Proof.Gen.EvenIn.Points
public import proofs.«01_k».proof.Proof.Gen.EvenIn.Frame
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Frame
public import proofs.«01_k».proof.Proof.Gen.EvenInReferenceIdeal
public import proofs.«01_k».proof.Proof.Gen.EvenInReferenceIdeal.Run
public import proofs.«01_k».proof.Proof.Gen.EvenInReferenceIdeal.Read
public import proofs.«01_k».proof.Proof.Gen.FirstNorm
public import proofs.«01_k».proof.Proof.Gen.FirstNorm.Skeleton
public import proofs.«01_k».proof.Proof.Gen.FirstNorm.Launch
public import proofs.«01_k».proof.Proof.Gen.FirstNorm.Points
public import proofs.«01_k».proof.Proof.Gen.FirstNorm.Frame
public import proofs.«01_k».proof.Proof.Gen.FirstNormIdeal
public import proofs.«01_k».proof.Proof.Gen.FirstNormIdeal.Skeleton
public import proofs.«01_k».proof.Proof.Gen.FirstNormIdeal.Launch
public import proofs.«01_k».proof.Proof.Gen.FirstNormIdeal.Points
public import proofs.«01_k».proof.Proof.Gen.FirstNormIdeal.Frame
public import proofs.«01_k».proof.Proof.Gen.FirstNormIdeal.Value
public import proofs.«01_k».proof.Proof.Gen.FirstNormReferenceIdeal
public import proofs.«01_k».proof.Proof.Gen.FirstNormReferenceIdeal.Run
public import proofs.«01_k».proof.Proof.Gen.FirstNormReferenceIdeal.Read
public import proofs.«01_k».proof.Proof.Gen.MidNorms
public import proofs.«01_k».proof.Proof.Gen.MidNorms.Skeleton
public import proofs.«01_k».proof.Proof.Gen.MidNorms.Launch
public import proofs.«01_k».proof.Proof.Gen.MidNorms.Points
public import proofs.«01_k».proof.Proof.Gen.MidNorms.Frame
public import proofs.«01_k».proof.Proof.Gen.MidNormsIdeal
public import proofs.«01_k».proof.Proof.Gen.MidNormsIdeal.Skeleton
public import proofs.«01_k».proof.Proof.Gen.MidNormsIdeal.Launch
public import proofs.«01_k».proof.Proof.Gen.MidNormsIdeal.Points
public import proofs.«01_k».proof.Proof.Gen.MidNormsIdeal.Frame
public import proofs.«01_k».proof.Proof.Gen.MidNormsIdeal.Value
public import proofs.«01_k».proof.Proof.Gen.MidNormsReferenceIdeal
public import proofs.«01_k».proof.Proof.Gen.MidNormsReferenceIdeal.Run
public import proofs.«01_k».proof.Proof.Gen.MidNormsReferenceIdeal.Read
public import proofs.«01_k».proof.Proof.Gen.LossDx
public import proofs.«01_k».proof.Proof.Gen.LossDx.Skeleton
public import proofs.«01_k».proof.Proof.Gen.LossDx.Launch
public import proofs.«01_k».proof.Proof.Gen.LossDx.Points
public import proofs.«01_k».proof.Proof.Gen.LossDx.Frame
public import proofs.«01_k».proof.Proof.Gen.LossDxIdeal
public import proofs.«01_k».proof.Proof.Gen.LossDxIdeal.Skeleton
public import proofs.«01_k».proof.Proof.Gen.LossDxIdeal.Launch
public import proofs.«01_k».proof.Proof.Gen.LossDxIdeal.Points
public import proofs.«01_k».proof.Proof.Gen.LossDxIdeal.Frame
public import proofs.«01_k».proof.Proof.Gen.LossDxIdeal.Value
public import proofs.«01_k».proof.Proof.Gen.LossDxReferenceIdeal
public import proofs.«01_k».proof.Proof.Gen.LossDxReferenceIdeal.Run
public import proofs.«01_k».proof.Proof.Gen.LossDxReferenceIdeal.Read
public import proofs.«01_k».proof.Proof.Gen.FirstNormFwd
public import proofs.«01_k».proof.Proof.Gen.FirstNormFwd.Skeleton
public import proofs.«01_k».proof.Proof.Gen.FirstNormFwd.Launch
public import proofs.«01_k».proof.Proof.Gen.FirstNormFwd.Points
public import proofs.«01_k».proof.Proof.Gen.FirstNormFwd.Frame
public import proofs.«01_k».proof.Proof.Gen.FirstNormFwdIdeal
public import proofs.«01_k».proof.Proof.Gen.FirstNormFwdIdeal.Skeleton
public import proofs.«01_k».proof.Proof.Gen.FirstNormFwdIdeal.Launch
public import proofs.«01_k».proof.Proof.Gen.FirstNormFwdIdeal.Points
public import proofs.«01_k».proof.Proof.Gen.FirstNormFwdIdeal.Frame
public import proofs.«01_k».proof.Proof.Gen.FirstNormFwdIdeal.Value
public import proofs.«01_k».proof.Proof.Gen.FirstNormFwdReferenceIdeal
public import proofs.«01_k».proof.Proof.Gen.FirstNormFwdReferenceIdeal.Run
public import proofs.«01_k».proof.Proof.Gen.FirstNormFwdReferenceIdeal.Read
public import proofs.«01_k».proof.Proof.Gen.EvenOut
public import proofs.«01_k».proof.Proof.Gen.EvenOut.Skeleton
public import proofs.«01_k».proof.Proof.Gen.EvenOut.Launch
public import proofs.«01_k».proof.Proof.Gen.EvenOut.Points
public import proofs.«01_k».proof.Proof.Gen.EvenOut.Frame
public import proofs.«01_k».proof.Proof.Gen.EvenOutIdeal
public import proofs.«01_k».proof.Proof.Gen.EvenOutIdeal.Skeleton
public import proofs.«01_k».proof.Proof.Gen.EvenOutIdeal.Launch
public import proofs.«01_k».proof.Proof.Gen.EvenOutIdeal.Points
public import proofs.«01_k».proof.Proof.Gen.EvenOutIdeal.Frame
public import proofs.«01_k».proof.Proof.Gen.EvenOutIdeal.Value
public import proofs.«01_k».proof.Proof.Gen.EvenOutReferenceIdeal
public import proofs.«01_k».proof.Proof.Gen.EvenOutReferenceIdeal.Run
public import proofs.«01_k».proof.Proof.Gen.EvenOutReferenceIdeal.Read
public import proofs.«01_k».proof.Proof.Gen.PoolFwd
public import proofs.«01_k».proof.Proof.Gen.PoolFwd.Skeleton
public import proofs.«01_k».proof.Proof.Gen.PoolFwd.Launch
public import proofs.«01_k».proof.Proof.Gen.PoolFwd.Points
public import proofs.«01_k».proof.Proof.Gen.PoolFwd.Frame
public import proofs.«01_k».proof.Proof.Gen.PoolFwdIdeal
public import proofs.«01_k».proof.Proof.Gen.PoolFwdIdeal.Skeleton
public import proofs.«01_k».proof.Proof.Gen.PoolFwdIdeal.Launch
public import proofs.«01_k».proof.Proof.Gen.PoolFwdIdeal.Points
public import proofs.«01_k».proof.Proof.Gen.PoolFwdIdeal.Frame
public import proofs.«01_k».proof.Proof.Gen.PoolFwdReferenceIdeal
public import proofs.«01_k».proof.Proof.Gen.PoolFwdReferenceIdeal.Run
public import proofs.«01_k».proof.Proof.Gen.PoolFwdReferenceIdeal.Read
public import proofs.«01_k».proof.Proof.Gen.AdamOddIn
public import proofs.«01_k».proof.Proof.Gen.AdamOddIn.Skeleton
public import proofs.«01_k».proof.Proof.Gen.AdamOddIn.Launch
public import proofs.«01_k».proof.Proof.Gen.AdamOddIn.Points
public import proofs.«01_k».proof.Proof.Gen.AdamOddIn.Frame
public import proofs.«01_k».proof.Proof.Gen.AdamOddInIdeal
public import proofs.«01_k».proof.Proof.Gen.AdamOddInIdeal.Skeleton
public import proofs.«01_k».proof.Proof.Gen.AdamOddInIdeal.Launch
public import proofs.«01_k».proof.Proof.Gen.AdamOddInIdeal.Points
public import proofs.«01_k».proof.Proof.Gen.AdamOddInIdeal.Frame
public import proofs.«01_k».proof.Proof.Gen.AdamOddInIdeal.Value
public import proofs.«01_k».proof.Proof.Gen.AdamOddInReferenceIdeal
public import proofs.«01_k».proof.Proof.Gen.AdamOddInReferenceIdeal.Run
public import proofs.«01_k».proof.Proof.Gen.AdamOddInReferenceIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutReferenceIdeal
public import proofs.«01_k».proof.Proof.Gen.AdamOutReferenceIdeal.Run
public import proofs.«01_k».proof.Proof.Gen.AdamOutReferenceIdeal.Read
public import proofs.«01_k».proof.Proof.Gen.AdamEvenIn
public import proofs.«01_k».proof.Proof.Gen.AdamEvenIn.Skeleton
public import proofs.«01_k».proof.Proof.Gen.AdamEvenIn.Launch
public import proofs.«01_k».proof.Proof.Gen.AdamEvenIn.Points
public import proofs.«01_k».proof.Proof.Gen.AdamEvenIn.Frame
public import proofs.«01_k».proof.Proof.Gen.AdamEvenInIdeal
public import proofs.«01_k».proof.Proof.Gen.AdamEvenInIdeal.Skeleton
public import proofs.«01_k».proof.Proof.Gen.AdamEvenInIdeal.Launch
public import proofs.«01_k».proof.Proof.Gen.AdamEvenInIdeal.Points
public import proofs.«01_k».proof.Proof.Gen.AdamEvenInIdeal.Frame
public import proofs.«01_k».proof.Proof.Gen.AdamEvenInReferenceIdeal
public import proofs.«01_k».proof.Proof.Gen.AdamEvenInReferenceIdeal.Run
public import proofs.«01_k».proof.Proof.Gen.AdamEvenInReferenceIdeal.Read
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallIdeal.Value
public import proofs.«01_k».proof.Proof.Gen.SumSmallReferenceIdeal
public import proofs.«01_k».proof.Proof.Gen.SumSmallReferenceIdeal.Run
public import proofs.«01_k».proof.Proof.Gen.SumSmallReferenceIdeal.Read
public import proofs.«01_k».proof.Proof.Gen.JoinColumns
public import proofs.«01_k».proof.Proof.Gen.JoinColumns.Skeleton
public import proofs.«01_k».proof.Proof.Gen.JoinColumns.Launch
public import proofs.«01_k».proof.Proof.Gen.JoinColumns.Points
public import proofs.«01_k».proof.Proof.Gen.JoinColumns.Frame
public import proofs.«01_k».proof.Proof.Gen.JoinColumnsIdeal
public import proofs.«01_k».proof.Proof.Gen.JoinColumnsIdeal.Skeleton
public import proofs.«01_k».proof.Proof.Gen.JoinColumnsIdeal.Launch
public import proofs.«01_k».proof.Proof.Gen.JoinColumnsIdeal.Points
public import proofs.«01_k».proof.Proof.Gen.JoinColumnsIdeal.Frame
public import proofs.«01_k».proof.Proof.Gen.JoinColumnsIdeal.Value
public import proofs.«01_k».proof.Proof.Gen.JoinColumnsReferenceIdeal
public import proofs.«01_k».proof.Proof.Gen.JoinColumnsReferenceIdeal.Run
public import proofs.«01_k».proof.Proof.Gen.JoinColumnsReferenceIdeal.Read
public import proofs.«01_k».proof.Proof.Gen.SumFirstGain
public import proofs.«01_k».proof.Proof.Gen.SumFirstGain.Skeleton
public import proofs.«01_k».proof.Proof.Gen.SumFirstGain.Launch
public import proofs.«01_k».proof.Proof.Gen.SumFirstGain.Points
public import proofs.«01_k».proof.Proof.Gen.SumFirstGain.Frame
public import proofs.«01_k».proof.Proof.Gen.SumFirstGainIdeal
public import proofs.«01_k».proof.Proof.Gen.SumFirstGainIdeal.Skeleton
public import proofs.«01_k».proof.Proof.Gen.SumFirstGainIdeal.Launch
public import proofs.«01_k».proof.Proof.Gen.SumFirstGainIdeal.Points
public import proofs.«01_k».proof.Proof.Gen.SumFirstGainIdeal.Frame
public import proofs.«01_k».proof.Proof.Gen.SumFirstGainIdeal.Value
public import proofs.«01_k».proof.Proof.Gen.SumFirstGainReferenceIdeal
public import proofs.«01_k».proof.Proof.Gen.SumFirstGainReferenceIdeal.Run
public import proofs.«01_k».proof.Proof.Gen.SumFirstGainReferenceIdeal.Read
public import proofs.«01_k».proof.Proof.Gen.CastOut
public import proofs.«01_k».proof.Proof.Gen.CastOut.Skeleton
public import proofs.«01_k».proof.Proof.Gen.CastOut.Launch
public import proofs.«01_k».proof.Proof.Gen.CastOut.Points
public import proofs.«01_k».proof.Proof.Gen.CastOut.Frame
public import proofs.«01_k».proof.Proof.Gen.CastOutIdeal
public import proofs.«01_k».proof.Proof.Gen.CastOutIdeal.Skeleton
public import proofs.«01_k».proof.Proof.Gen.CastOutIdeal.Launch
public import proofs.«01_k».proof.Proof.Gen.CastOutIdeal.Points
public import proofs.«01_k».proof.Proof.Gen.CastOutIdeal.Frame
public import proofs.«01_k».proof.Proof.Gen.CastOutIdeal.Value
public import proofs.«01_k».proof.Proof.Gen.CastOutReferenceIdeal
public import proofs.«01_k».proof.Proof.Gen.CastOutReferenceIdeal.Run
public import proofs.«01_k».proof.Proof.Gen.CastOutReferenceIdeal.Read
public import proofs.«01_k».proof.Proof.Array
public import proofs.«01_k».proof.Proof.CastOut
public import proofs.«01_k».proof.Proof.SumFirstGain
public import proofs.«01_k».proof.Proof.JoinColumns
public import proofs.«01_k».proof.Proof.SumSmall
public import proofs.«01_k».proof.Proof.AdamEvenIn
public import proofs.«01_k».proof.Proof.AdamOut
public import proofs.«01_k».proof.Proof.AdamOddIn
public import proofs.«01_k».proof.Proof.PoolFwd
public import proofs.«01_k».proof.Proof.EvenOut
public import proofs.«01_k».proof.Proof.FirstNormFwd
public import proofs.«01_k».proof.Proof.LossDx
public import proofs.«01_k».proof.Proof.MidNorms
public import proofs.«01_k».proof.Proof.FirstNorm
public import proofs.«01_k».proof.Proof.EvenIn
public import proofs.«01_k».proof.Proof.EvenInDwFirst
public import proofs.«01_k».proof.Proof.OddInDw
public import proofs.«01_k».proof.Proof.RefInput
public import proofs.«01_k».proof.Proof.Finite
public import proofs.«01_k».proof.Proof.EvenInDx
public import proofs.«01_k».proof.Proof.OddInDx
public import proofs.«01_k».proof.Proof.OutDx
public import proofs.«01_k».proof.Proof.OutDw
public import proofs.«01_k».proof.Proof.EvenInDw
public import proofs.«01_k».proof.Proof.OddIn
public import Idealize.ShloMosaic.Adequacy
public import Idealize.ShloMosaic.Init

@[expose] public section

noncomputable section

namespace Cert.Proof

open Idealize.ShloMosaic Idealize.SL.Sem Idealize.ShloMosaic.TcCoe

/-- The reference runs, leaves its arguments as they were and uses no semaphore. -/
theorem frame_reference : Cert.quiescent_ReferenceIdeal := fun m g _ =>
  (θ_run (Cert.ReferenceIdeal.defs (F := Ideal)) _ _).mono (fun r h => ⟨fun c => (h c).2.2.2.2,
      Idealize.ShloMosaic.sem_eq_zero_of_no_sems (by decide) r.2⟩)
    (Cert.ReferenceIdeal.Value.run (F := Ideal) m g)

/-- On finite arguments the two programs end with the same four gradients: of the mixer's input, of its gate, of its
    weights and of its scale. -/
theorem gradients : Cert.algebraic_KernelIdeal_ReferenceIdeal_pre_finite (hPre_finite := finite_facts) := by
  intro m g m' g' pre same
  have reals := fun c => @reals_of_finite finite_facts _ _ _ _ (pre c)
  choose z wt sc yt hz hwt hsc hyt using reals
  have held := fun c => Block.Held.mk (m := m) (c := c) (hz c) (hwt c) (hsc c) (hyt c)
  have args := fun c => Ref.Args.mk (hz c) (hwt c) (hsc c) (hyt c)
  refine ⟨fun c => (Cert.KernelIdeal.Gen.dats m 0 c).arrAt 5 Cert.KernelIdeal.cfg0.N,
    fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    Cert.KernelIdeal.Value.run_blocks m g, ?_⟩
  refine (θ_run (Cert.ReferenceIdeal.defs (F := Ideal)) _ _).mono (fun r h c => ?_) (Cert.ReferenceIdeal.Value.run (F := Ideal) m' g')
  obtain ⟨h0, h1, h2, h3, kept⟩ := h c
  have e0 := (StableHlo.launchContents_devRef m' c Cert.ReferenceIdeal.main_arg0).trans (same c).1
  have e1 := (StableHlo.launchContents_devRef m' c Cert.ReferenceIdeal.main_arg1).trans (same c).2.1
  have e2 := (StableHlo.launchContents_devRef m' c Cert.ReferenceIdeal.main_arg2).trans (same c).2.2.1
  have e3 := (StableHlo.launchContents_devRef m' c Cert.ReferenceIdeal.main_arg3).trans (same c).2.2.2
  refine ⟨?_, ?_, ?_, ?_, kept⟩
  · refine (h0.trans (Cert.ReferenceIdeal.Read.val_main_v184_eq _)).trans ?_
    rw [e0, e1, e2, e3]
    exact (funext (Ref.n184 (args c))).trans (Block.array5 (held c)).symm
  · refine (h1.trans (Cert.ReferenceIdeal.Read.val_main_v185_eq _)).trans ?_
    rw [e0, e1, e2, e3]
    exact (funext (Ref.n185 (args c))).trans (Block.array6 (held c)).symm
  · refine (h2.trans (Cert.ReferenceIdeal.Read.val_main_v112_eq _)).trans ?_
    rw [e0, e2, e3]
    exact (funext (Ref.n112 (args c))).trans (Block.array7 (held c)).symm
  · refine (h3.trans (Cert.ReferenceIdeal.Read.val_main_v186_eq _)).trans ?_
    rw [e0, e1, e3]
    exact (funext (Ref.n186 (args c))).trans (Block.array8 (held c)).symm

theorem claim : Cert.Claim :=
  ⟨Cert.Kernel.Gen.facts, Cert.KernelIdeal.Gen.facts, Cert.ReferenceIdeal.Gen.facts,
    Cert.EvenInDx.Gen.facts, Cert.EvenInDxIdeal.Gen.facts, Cert.EvenInDxReferenceIdeal.Gen.facts,
    Cert.OddInDx.Gen.facts, Cert.OddInDxIdeal.Gen.facts, Cert.OddInDxReferenceIdeal.Gen.facts,
    Cert.OutDx.Gen.facts, Cert.OutDxIdeal.Gen.facts, Cert.OutDxReferenceIdeal.Gen.facts,
    Cert.OutDw.Gen.facts, Cert.OutDwIdeal.Gen.facts, Cert.OutDwReferenceIdeal.Gen.facts,
    Cert.EvenInDw.Gen.facts, Cert.EvenInDwIdeal.Gen.facts, Cert.EvenInDwReferenceIdeal.Gen.facts,
    Cert.OddIn.Gen.facts, Cert.OddInIdeal.Gen.facts, Cert.OddInReferenceIdeal.Gen.facts,
    Cert.OddInDw.Gen.facts, Cert.OddInDwIdeal.Gen.facts, Cert.OddInDwReferenceIdeal.Gen.facts,
    Cert.EvenInDwFirst.Gen.facts, Cert.EvenInDwFirstIdeal.Gen.facts, Cert.EvenInDwFirstReferenceIdeal.Gen.facts,
    Cert.EvenIn.Gen.facts, Cert.EvenInIdeal.Gen.facts, Cert.EvenInReferenceIdeal.Gen.facts,
    Cert.FirstNorm.Gen.facts, Cert.FirstNormIdeal.Gen.facts, Cert.FirstNormReferenceIdeal.Gen.facts,
    Cert.MidNorms.Gen.facts, Cert.MidNormsIdeal.Gen.facts, Cert.MidNormsReferenceIdeal.Gen.facts,
    Cert.LossDx.Gen.facts, Cert.LossDxIdeal.Gen.facts, Cert.LossDxReferenceIdeal.Gen.facts,
    Cert.FirstNormFwd.Gen.facts, Cert.FirstNormFwdIdeal.Gen.facts, Cert.FirstNormFwdReferenceIdeal.Gen.facts,
    Cert.EvenOut.Gen.facts, Cert.EvenOutIdeal.Gen.facts, Cert.EvenOutReferenceIdeal.Gen.facts,
    Cert.PoolFwd.Gen.facts, Cert.PoolFwdIdeal.Gen.facts, Cert.PoolFwdReferenceIdeal.Gen.facts,
    Cert.AdamOddIn.Gen.facts, Cert.AdamOddInIdeal.Gen.facts, Cert.AdamOddInReferenceIdeal.Gen.facts,
    Cert.AdamOut.Gen.facts, Cert.AdamOutIdeal.Gen.facts, Cert.AdamOutReferenceIdeal.Gen.facts,
    Cert.AdamEvenIn.Gen.facts, Cert.AdamEvenInIdeal.Gen.facts, Cert.AdamEvenInReferenceIdeal.Gen.facts,
    Cert.SumSmall.Gen.facts, Cert.SumSmallIdeal.Gen.facts, Cert.SumSmallReferenceIdeal.Gen.facts,
    Cert.JoinColumns.Gen.facts, Cert.JoinColumnsIdeal.Gen.facts, Cert.JoinColumnsReferenceIdeal.Gen.facts,
    Cert.SumFirstGain.Gen.facts, Cert.SumFirstGainIdeal.Gen.facts, Cert.SumFirstGainReferenceIdeal.Gen.facts,
    Cert.CastOut.Gen.facts, Cert.CastOutIdeal.Gen.facts, Cert.CastOutReferenceIdeal.Gen.facts,
    finite_facts, FirstNorm.finite_facts, MidNorms.finite_facts, LossDx.finite_facts, PoolFwd.finite_facts,
    fun m g _ => Cert.Kernel.Gen.frame m g, fun m g _ => Cert.KernelIdeal.Gen.frame m g, fun m g _ => Cert.KernelIdeal.Gen.frame m g,
    frame_reference, fun m g _ => frame_reference m g trivial,
    fun m g _ => Cert.EvenInDx.Gen.frame m g, fun m g _ => Cert.EvenInDxIdeal.Gen.frame m g, EvenInDx.frame_reference,
    fun m g _ => Cert.OddInDx.Gen.frame m g, fun m g _ => Cert.OddInDxIdeal.Gen.frame m g, OddInDx.frame_reference,
    fun m g _ => Cert.OutDx.Gen.frame m g, fun m g _ => Cert.OutDxIdeal.Gen.frame m g, OutDx.frame_reference,
    fun m g _ => Cert.OutDw.Gen.frame m g, fun m g _ => Cert.OutDwIdeal.Gen.frame m g, OutDw.frame_reference,
    fun m g _ => Cert.EvenInDw.Gen.frame m g, fun m g _ => Cert.EvenInDwIdeal.Gen.frame m g, EvenInDw.frame_reference,
    fun m g _ => Cert.OddIn.Gen.frame m g, fun m g _ => Cert.OddInIdeal.Gen.frame m g, OddIn.frame_reference,
    fun m g _ => Cert.OddInDw.Gen.frame m g, fun m g _ => Cert.OddInDwIdeal.Gen.frame m g, OddInDw.frame_reference,
    fun m g _ => Cert.EvenInDwFirst.Gen.frame m g, fun m g _ => Cert.EvenInDwFirstIdeal.Gen.frame m g, EvenInDwFirst.frame_reference,
    fun m g _ => Cert.EvenIn.Gen.frame m g, fun m g _ => Cert.EvenInIdeal.Gen.frame m g, EvenIn.frame_reference,
    fun m g _ => Cert.FirstNorm.Gen.frame m g, fun m g _ => Cert.FirstNormIdeal.Gen.frame m g, fun m g _ => Cert.FirstNormIdeal.Gen.frame m g,
    FirstNorm.frame_reference, fun m g _ => FirstNorm.frame_reference m g trivial,
    fun m g _ => Cert.MidNorms.Gen.frame m g, fun m g _ => Cert.MidNormsIdeal.Gen.frame m g, fun m g _ => Cert.MidNormsIdeal.Gen.frame m g,
    MidNorms.frame_reference, fun m g _ => MidNorms.frame_reference m g trivial,
    fun m g _ => Cert.LossDx.Gen.frame m g, fun m g _ => Cert.LossDxIdeal.Gen.frame m g, fun m g _ => Cert.LossDxIdeal.Gen.frame m g,
    LossDx.frame_reference, fun m g _ => LossDx.frame_reference m g trivial,
    fun m g _ => Cert.FirstNormFwd.Gen.frame m g, fun m g _ => Cert.FirstNormFwdIdeal.Gen.frame m g, FirstNormFwd.frame_reference,
    fun m g _ => Cert.EvenOut.Gen.frame m g, fun m g _ => Cert.EvenOutIdeal.Gen.frame m g, EvenOut.frame_reference,
    fun m g _ => Cert.PoolFwd.Gen.frame m g, fun m g _ => Cert.PoolFwdIdeal.Gen.frame m g, fun m g _ => Cert.PoolFwdIdeal.Gen.frame m g,
    PoolFwd.frame_reference, fun m g _ => PoolFwd.frame_reference m g trivial,
    fun m g _ => Cert.AdamOddIn.Gen.frame m g, fun m g _ => Cert.AdamOddInIdeal.Gen.frame m g, AdamOddIn.frame_reference,
    fun m g _ => Cert.AdamOut.Gen.frame m g, fun m g _ => Cert.AdamOutIdeal.Gen.frame m g, AdamOut.frame_reference,
    fun m g _ => Cert.AdamEvenIn.Gen.frame m g, fun m g _ => Cert.AdamEvenInIdeal.Gen.frame m g, AdamEvenIn.frame_reference,
    fun m g _ => Cert.SumSmall.Gen.frame m g, fun m g _ => Cert.SumSmallIdeal.Gen.frame m g, SumSmall.frame_reference,
    fun m g _ => Cert.JoinColumns.Gen.frame m g, fun m g _ => Cert.JoinColumnsIdeal.Gen.frame m g, JoinColumns.frame_reference,
    fun m g _ => Cert.SumFirstGain.Gen.frame m g, fun m g _ => Cert.SumFirstGainIdeal.Gen.frame m g, SumFirstGain.frame_reference,
    fun m g _ => Cert.CastOut.Gen.frame m g, fun m g _ => Cert.CastOutIdeal.Gen.frame m g, CastOut.frame_reference,
    trivial, gradients,
    trivial, EvenInDx.same, trivial, OddInDx.same, trivial, OutDx.same, trivial, OutDw.same, trivial, EvenInDw.same,
    trivial, OddIn.same, trivial, OddInDw.same, trivial, EvenInDwFirst.same, trivial, EvenIn.same, trivial, FirstNorm.same,
    trivial, MidNorms.same, trivial, LossDx.same, trivial, FirstNormFwd.same, trivial, EvenOut.same, trivial, PoolFwd.same,
    trivial, AdamOddIn.same, trivial, AdamOut.same, trivial, AdamEvenIn.same, trivial, SumSmall.same, trivial, JoinColumns.same,
    trivial, SumFirstGain.same, trivial, CastOut.same⟩

end Cert.Proof

end
